-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def Pre_Kernel37 (m : (ℓ : Loc Cert.Kernel37.nD Cert.Kernel37.τ Cert.Kernel37.sig) → Buf (Elt Bits) ℓ) : Prop :=
  True

def Pre_Kernel37Ideal (m : (ℓ : Loc Cert.Kernel37Ideal.nD Cert.Kernel37Ideal.τ Cert.Kernel37Ideal.sig) → Buf (Elt Ideal) ℓ) : Prop :=
  True

def Pre_Reference37Ideal (m : (ℓ : Loc Cert.Reference37Ideal.nD Cert.Reference37Ideal.τ Cert.Reference37Ideal.sig) → Buf (Elt Ideal) ℓ) : Prop :=
  True

def Pre_Kernel38 (m : (ℓ : Loc Cert.Kernel38.nD Cert.Kernel38.τ Cert.Kernel38.sig) → Buf (Elt Bits) ℓ) : Prop :=
  True

def Pre_Kernel38Ideal (m : (ℓ : Loc Cert.Kernel38Ideal.nD Cert.Kernel38Ideal.τ Cert.Kernel38Ideal.sig) → Buf (Elt Ideal) ℓ) : Prop :=
  True

def Pre_Reference38Ideal (m : (ℓ : Loc Cert.Reference38Ideal.nD Cert.Reference38Ideal.τ Cert.Reference38Ideal.sig) → Buf (Elt Ideal) ℓ) : Prop :=
  True

def Pre_Kernel39 (m : (ℓ : Loc Cert.Kernel39.nD Cert.Kernel39.τ Cert.Kernel39.sig) → Buf (Elt Bits) ℓ) : Prop :=
  True

def Pre_Kernel39Ideal (m : (ℓ : Loc Cert.Kernel39Ideal.nD Cert.Kernel39Ideal.τ Cert.Kernel39Ideal.sig) → Buf (Elt Ideal) ℓ) : Prop :=
  True

def Pre_Reference39Ideal (m : (ℓ : Loc Cert.Reference39Ideal.nD Cert.Reference39Ideal.τ Cert.Reference39Ideal.sig) → Buf (Elt Ideal) ℓ) : Prop :=
  True

def Pre_Kernel40 (m : (ℓ : Loc Cert.Kernel40.nD Cert.Kernel40.τ Cert.Kernel40.sig) → Buf (Elt Bits) ℓ) : Prop :=
  True

def Pre_Kernel40Ideal (m : (ℓ : Loc Cert.Kernel40Ideal.nD Cert.Kernel40Ideal.τ Cert.Kernel40Ideal.sig) → Buf (Elt Ideal) ℓ) : Prop :=
  True

def Pre_Reference40Ideal (m : (ℓ : Loc Cert.Reference40Ideal.nD Cert.Reference40Ideal.τ Cert.Reference40Ideal.sig) → Buf (Elt Ideal) ℓ) : Prop :=
  True

def Pre_Kernel41 (m : (ℓ : Loc Cert.Kernel41.nD Cert.Kernel41.τ Cert.Kernel41.sig) → Buf (Elt Bits) ℓ) : Prop :=
  True

def Pre_Kernel41Ideal (m : (ℓ : Loc Cert.Kernel41Ideal.nD Cert.Kernel41Ideal.τ Cert.Kernel41Ideal.sig) → Buf (Elt Ideal) ℓ) : Prop :=
  True

def Pre_Reference41Ideal (m : (ℓ : Loc Cert.Reference41Ideal.nD Cert.Reference41Ideal.τ Cert.Reference41Ideal.sig) → Buf (Elt Ideal) ℓ) : Prop :=
  True

def Pre_Kernel42 (m : (ℓ : Loc Cert.Kernel42.nD Cert.Kernel42.τ Cert.Kernel42.sig) → Buf (Elt Bits) ℓ) : Prop :=
  True

def Pre_Kernel42Ideal (m : (ℓ : Loc Cert.Kernel42Ideal.nD Cert.Kernel42Ideal.τ Cert.Kernel42Ideal.sig) → Buf (Elt Ideal) ℓ) : Prop :=
  True

def Pre_Reference42Ideal (m : (ℓ : Loc Cert.Reference42Ideal.nD Cert.Reference42Ideal.τ Cert.Reference42Ideal.sig) → Buf (Elt Ideal) ℓ) : Prop :=
  True

def Pre_Kernel43 (m : (ℓ : Loc Cert.Kernel43.nD Cert.Kernel43.τ Cert.Kernel43.sig) → Buf (Elt Bits) ℓ) : Prop :=
  True

def Pre_Kernel43Ideal (m : (ℓ : Loc Cert.Kernel43Ideal.nD Cert.Kernel43Ideal.τ Cert.Kernel43Ideal.sig) → Buf (Elt Ideal) ℓ) : Prop :=
  True

def Pre_Reference43Ideal (m : (ℓ : Loc Cert.Reference43Ideal.nD Cert.Reference43Ideal.τ Cert.Reference43Ideal.sig) → Buf (Elt Ideal) ℓ) : Prop :=
  True

def Pre_Kernel44 (m : (ℓ : Loc Cert.Kernel44.nD Cert.Kernel44.τ Cert.Kernel44.sig) → Buf (Elt Bits) ℓ) : Prop :=
  True

def Pre_Kernel44Ideal (m : (ℓ : Loc Cert.Kernel44Ideal.nD Cert.Kernel44Ideal.τ Cert.Kernel44Ideal.sig) → Buf (Elt Ideal) ℓ) : Prop :=
  True

def Pre_Reference44Ideal (m : (ℓ : Loc Cert.Reference44Ideal.nD Cert.Reference44Ideal.τ Cert.Reference44Ideal.sig) → Buf (Elt Ideal) ℓ) : Prop :=
  True

def Pre_Kernel45 (m : (ℓ : Loc Cert.Kernel45.nD Cert.Kernel45.τ Cert.Kernel45.sig) → Buf (Elt Bits) ℓ) : Prop :=
  True

def Pre_Kernel45Ideal (m : (ℓ : Loc Cert.Kernel45Ideal.nD Cert.Kernel45Ideal.τ Cert.Kernel45Ideal.sig) → Buf (Elt Ideal) ℓ) : Prop :=
  True

def Pre_Reference45Ideal (m : (ℓ : Loc Cert.Reference45Ideal.nD Cert.Reference45Ideal.τ Cert.Reference45Ideal.sig) → Buf (Elt Ideal) ℓ) : Prop :=
  True

def Pre_Kernel46 (m : (ℓ : Loc Cert.Kernel46.nD Cert.Kernel46.τ Cert.Kernel46.sig) → Buf (Elt Bits) ℓ) : Prop :=
  True

def Pre_Kernel46Ideal (m : (ℓ : Loc Cert.Kernel46Ideal.nD Cert.Kernel46Ideal.τ Cert.Kernel46Ideal.sig) → Buf (Elt Ideal) ℓ) : Prop :=
  True

def Pre_Reference46Ideal (m : (ℓ : Loc Cert.Reference46Ideal.nD Cert.Reference46Ideal.τ Cert.Reference46Ideal.sig) → Buf (Elt Ideal) ℓ) : Prop :=
  True

def Pre_Kernel47 (m : (ℓ : Loc Cert.Kernel47.nD Cert.Kernel47.τ Cert.Kernel47.sig) → Buf (Elt Bits) ℓ) : Prop :=
  True

def Pre_Kernel47Ideal (m : (ℓ : Loc Cert.Kernel47Ideal.nD Cert.Kernel47Ideal.τ Cert.Kernel47Ideal.sig) → Buf (Elt Ideal) ℓ) : Prop :=
  True

def Pre_Reference47Ideal (m : (ℓ : Loc Cert.Reference47Ideal.nD Cert.Reference47Ideal.τ Cert.Reference47Ideal.sig) → Buf (Elt Ideal) ℓ) : Prop :=
  True

def Pre_Kernel48 (m : (ℓ : Loc Cert.Kernel48.nD Cert.Kernel48.τ Cert.Kernel48.sig) → Buf (Elt Bits) ℓ) : Prop :=
  True

def Pre_Kernel48Ideal (m : (ℓ : Loc Cert.Kernel48Ideal.nD Cert.Kernel48Ideal.τ Cert.Kernel48Ideal.sig) → Buf (Elt Ideal) ℓ) : Prop :=
  True

def Pre_Reference48Ideal (m : (ℓ : Loc Cert.Reference48Ideal.nD Cert.Reference48Ideal.τ Cert.Reference48Ideal.sig) → Buf (Elt Ideal) ℓ) : Prop :=
  True

def Pre_Kernel49 (m : (ℓ : Loc Cert.Kernel49.nD Cert.Kernel49.τ Cert.Kernel49.sig) → Buf (Elt Bits) ℓ) : Prop :=
  True

def Pre_Kernel49Ideal (m : (ℓ : Loc Cert.Kernel49Ideal.nD Cert.Kernel49Ideal.τ Cert.Kernel49Ideal.sig) → Buf (Elt Ideal) ℓ) : Prop :=
  True

def Pre_Reference49Ideal (m : (ℓ : Loc Cert.Reference49Ideal.nD Cert.Reference49Ideal.τ Cert.Reference49Ideal.sig) → Buf (Elt Ideal) ℓ) : Prop :=
  True

def Pre_Kernel50 (m : (ℓ : Loc Cert.Kernel50.nD Cert.Kernel50.τ Cert.Kernel50.sig) → Buf (Elt Bits) ℓ) : Prop :=
  True

def Pre_Kernel50Ideal (m : (ℓ : Loc Cert.Kernel50Ideal.nD Cert.Kernel50Ideal.τ Cert.Kernel50Ideal.sig) → Buf (Elt Ideal) ℓ) : Prop :=
  True

def Pre_Reference50Ideal (m : (ℓ : Loc Cert.Reference50Ideal.nD Cert.Reference50Ideal.τ Cert.Reference50Ideal.sig) → Buf (Elt Ideal) ℓ) : Prop :=
  True

def Pre_Kernel51 (m : (ℓ : Loc Cert.Kernel51.nD Cert.Kernel51.τ Cert.Kernel51.sig) → Buf (Elt Bits) ℓ) : Prop :=
  True

def Pre_Kernel51Ideal (m : (ℓ : Loc Cert.Kernel51Ideal.nD Cert.Kernel51Ideal.τ Cert.Kernel51Ideal.sig) → Buf (Elt Ideal) ℓ) : Prop :=
  True

def Pre_Reference51Ideal (m : (ℓ : Loc Cert.Reference51Ideal.nD Cert.Reference51Ideal.τ Cert.Reference51Ideal.sig) → Buf (Elt Ideal) ℓ) : Prop :=
  True

def Pre_Kernel52 (m : (ℓ : Loc Cert.Kernel52.nD Cert.Kernel52.τ Cert.Kernel52.sig) → Buf (Elt Bits) ℓ) : Prop :=
  True

def Pre_Kernel52Ideal (m : (ℓ : Loc Cert.Kernel52Ideal.nD Cert.Kernel52Ideal.τ Cert.Kernel52Ideal.sig) → Buf (Elt Ideal) ℓ) : Prop :=
  True

def Pre_Reference52Ideal (m : (ℓ : Loc Cert.Reference52Ideal.nD Cert.Reference52Ideal.τ Cert.Reference52Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2)
      ∧ r.2.mem ((c.tc : Thread Cert.Kernel34.nD Cert.Kernel34.τ).loc Cert.Kernel34.main_arg3) = m ((c.tc : Thread Cert.Kernel34.nD Cert.Kernel34.τ).loc Cert.Kernel34.main_arg3))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
      ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2)
      ∧ r.2.mem ((c.tc : Thread Cert.Reference34Ideal.nD Cert.Reference34Ideal.τ).loc Cert.Reference34Ideal.main_arg3) = m ((c.tc : Thread Cert.Reference34Ideal.nD Cert.Reference34Ideal.τ).loc Cert.Reference34Ideal.main_arg3))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1)
      ∧ r.2.mem ((c.tc : Thread Cert.Kernel36.nD Cert.Kernel36.τ).loc Cert.Kernel36.main_arg2) = m ((c.tc : Thread Cert.Kernel36.nD Cert.Kernel36.τ).loc Cert.Kernel36.main_arg2)
      ∧ r.2.mem ((c.tc : Thread Cert.Kernel36.nD Cert.Kernel36.τ).loc Cert.Kernel36.main_arg3) = m ((c.tc : Thread Cert.Kernel36.nD Cert.Kernel36.τ).loc Cert.Kernel36.main_arg3))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
      ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
      ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1)
      ∧ r.2.mem ((c.tc : Thread Cert.Reference36Ideal.nD Cert.Reference36Ideal.τ).loc Cert.Reference36Ideal.main_arg2) = m ((c.tc : Thread Cert.Reference36Ideal.nD Cert.Reference36Ideal.τ).loc Cert.Reference36Ideal.main_arg2)
      ∧ r.2.mem ((c.tc : Thread Cert.Reference36Ideal.nD Cert.Reference36Ideal.τ).loc Cert.Reference36Ideal.main_arg3) = m ((c.tc : Thread Cert.Reference36Ideal.nD Cert.Reference36Ideal.τ).loc Cert.Reference36Ideal.main_arg3))
      ∧ r.2.sem = fun _ => 0)

def quiescent_Kernel37 [hKernel37 : Cert.Kernel37.Facts] : Prop :=
  ∀ (m : (ℓ : Loc Cert.Kernel37.nD Cert.Kernel37.τ Cert.Kernel37.sig) → Buf (Elt Bits) ℓ) (g : Dev Cert.Kernel37.nD → PrngReg), Pre_Kernel37 m →
    θ_run (Cert.Kernel37.defs (F := Bits)) (onTc (τ := Cert.Kernel37.τ) (Cert.Kernel37.main (F := Bits))) ⟨m, fun _ => 0, g⟩ (fun r => (∀ c : Dev Cert.Kernel37.nD,
      r.2.mem ((c.tc : Thread Cert.Kernel37.nD Cert.Kernel37.τ).loc Cert.Kernel37.main_arg0) = m ((c.tc : Thread Cert.Kernel37.nD Cert.Kernel37.τ).loc Cert.Kernel37.main_arg0)
      ∧ r.2.mem ((c.tc : Thread Cert.Kernel37.nD Cert.Kernel37.τ).loc Cert.Kernel37.main_arg1) = m ((c.tc : Thread Cert.Kernel37.nD Cert.Kernel37.τ).loc Cert.Kernel37.main_arg1)
      ∧ r.2.mem ((c.tc : Thread Cert.Kernel37.nD Cert.Kernel37.τ).loc Cert.Kernel37.main_arg2) = m ((c.tc : Thread Cert.Kernel37.nD Cert.Kernel37.τ).loc Cert.Kernel37.main_arg2)
      ∧ r.2.mem ((c.tc : Thread Cert.Kernel37.nD Cert.Kernel37.τ).loc Cert.Kernel37.main_arg3) = m ((c.tc : Thread Cert.Kernel37.nD Cert.Kernel37.τ).loc Cert.Kernel37.main_arg3))
      ∧ r.2.sem = fun _ => 0)

def quiescent_Kernel37Ideal [hKernel37Ideal : Cert.Kernel37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
      ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
      ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
      ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3))
      ∧ r.2.sem = fun _ => 0)

def quiescent_Reference37Ideal [hReference37Ideal : Cert.Reference37Ideal.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1)
      ∧ r.2.mem ((c.tc : Thread Cert.Reference37Ideal.nD Cert.Reference37Ideal.τ).loc Cert.Reference37Ideal.main_arg2) = m ((c.tc : Thread Cert.Reference37Ideal.nD Cert.Reference37Ideal.τ).loc Cert.Reference37Ideal.main_arg2)
      ∧ r.2.mem ((c.tc : Thread Cert.Reference37Ideal.nD Cert.Reference37Ideal.τ).loc Cert.Reference37Ideal.main_arg3) = m ((c.tc : Thread Cert.Reference37Ideal.nD Cert.Reference37Ideal.τ).loc Cert.Reference37Ideal.main_arg3))
      ∧ r.2.sem = fun _ => 0)

def quiescent_Kernel38 [hKernel38 : Cert.Kernel38.Facts] : Prop :=
  ∀ (m : (ℓ : Loc Cert.Kernel38.nD Cert.Kernel38.τ Cert.Kernel38.sig) → Buf (Elt Bits) ℓ) (g : Dev Cert.Kernel38.nD → PrngReg), Pre_Kernel38 m →
    θ_run (Cert.Kernel38.defs (F := Bits)) (onTc (τ := Cert.Kernel38.τ) (Cert.Kernel38.main (F := Bits))) ⟨m, fun _ => 0, g⟩ (fun r => (∀ c : Dev Cert.Kernel38.nD,
      r.2.mem ((c.tc : Thread Cert.Kernel38.nD Cert.Kernel38.τ).loc Cert.Kernel38.main_arg0) = m ((c.tc : Thread Cert.Kernel38.nD Cert.Kernel38.τ).loc Cert.Kernel38.main_arg0)
      ∧ r.2.mem ((c.tc : Thread Cert.Kernel38.nD Cert.Kernel38.τ).loc Cert.Kernel38.main_arg1) = m ((c.tc : Thread Cert.Kernel38.nD Cert.Kernel38.τ).loc Cert.Kernel38.main_arg1)
      ∧ r.2.mem ((c.tc : Thread Cert.Kernel38.nD Cert.Kernel38.τ).loc Cert.Kernel38.main_arg2) = m ((c.tc : Thread Cert.Kernel38.nD Cert.Kernel38.τ).loc Cert.Kernel38.main_arg2)
      ∧ r.2.mem ((c.tc : Thread Cert.Kernel38.nD Cert.Kernel38.τ).loc Cert.Kernel38.main_arg3) = m ((c.tc : Thread Cert.Kernel38.nD Cert.Kernel38.τ).loc Cert.Kernel38.main_arg3))
      ∧ r.2.sem = fun _ => 0)

def quiescent_Kernel38Ideal [hKernel38Ideal : Cert.Kernel38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg), Pre_Kernel38Ideal m →
    θ_run (Cert.Kernel38Ideal.defs (F := Ideal)) (onTc (τ := Cert.Kernel38Ideal.τ) (Cert.Kernel38Ideal.main (F := Ideal))) ⟨m, fun _ => 0, g⟩ (fun r => (∀ c : Dev Cert.Kernel38Ideal.nD,
      r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
      ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
      ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2)
      ∧ r.2.mem ((c.tc : Thread Cert.Kernel38Ideal.nD Cert.Kernel38Ideal.τ).loc Cert.Kernel38Ideal.main_arg3) = m ((c.tc : Thread Cert.Kernel38Ideal.nD Cert.Kernel38Ideal.τ).loc Cert.Kernel38Ideal.main_arg3))
      ∧ r.2.sem = fun _ => 0)

def quiescent_Reference38Ideal [hReference38Ideal : Cert.Reference38Ideal.Facts] : Prop :=
  ∀ (m : (ℓ : Loc Cert.Reference38Ideal.nD Cert.Reference38Ideal.τ Cert.Reference38Ideal.sig) → Buf (Elt Ideal) ℓ) (g : Dev Cert.Reference38Ideal.nD → PrngReg), Pre_Reference38Ideal m →
    θ_run (Cert.Reference38Ideal.defs (F := Ideal)) (onTc (τ := Cert.Reference38Ideal.τ) (Cert.Reference38Ideal.main (F := Ideal))) ⟨m, fun _ => 0, g⟩ (fun r => (∀ c : Dev Cert.Reference38Ideal.nD,
      r.2.mem ((c.tc : Thread Cert.Reference38Ideal.nD Cert.Reference38Ideal.τ).loc Cert.Reference38Ideal.main_arg0) = m ((c.tc : Thread Cert.Reference38Ideal.nD Cert.Reference38Ideal.τ).loc Cert.Reference38Ideal.main_arg0)
      ∧ r.2.mem ((c.tc : Thread Cert.Reference38Ideal.nD Cert.Reference38Ideal.τ).loc Cert.Reference38Ideal.main_arg1) = m ((c.tc : Thread Cert.Reference38Ideal.nD Cert.Reference38Ideal.τ).loc Cert.Reference38Ideal.main_arg1)
      ∧ r.2.mem ((c.tc : Thread Cert.Reference38Ideal.nD Cert.Reference38Ideal.τ).loc Cert.Reference38Ideal.main_arg2) = m ((c.tc : Thread Cert.Reference38Ideal.nD Cert.Reference38Ideal.τ).loc Cert.Reference38Ideal.main_arg2)
      ∧ r.2.mem ((c.tc : Thread Cert.Reference38Ideal.nD Cert.Reference38Ideal.τ).loc Cert.Reference38Ideal.main_arg3) = m ((c.tc : Thread Cert.Reference38Ideal.nD Cert.Reference38Ideal.τ).loc Cert.Reference38Ideal.main_arg3))
      ∧ r.2.sem = fun _ => 0)

def quiescent_Kernel39 [hKernel39 : Cert.Kernel39.Facts] : Prop :=
  ∀ (m : (ℓ : Loc Cert.Kernel39.nD Cert.Kernel39.τ Cert.Kernel39.sig) → Buf (Elt Bits) ℓ) (g : Dev Cert.Kernel39.nD → PrngReg), Pre_Kernel39 m →
    θ_run (Cert.Kernel39.defs (F := Bits)) (onTc (τ := Cert.Kernel39.τ) (Cert.Kernel39.main (F := Bits))) ⟨m, fun _ => 0, g⟩ (fun r => (∀ c : Dev Cert.Kernel39.nD,
      r.2.mem ((c.tc : Thread Cert.Kernel39.nD Cert.Kernel39.τ).loc Cert.Kernel39.main_arg0) = m ((c.tc : Thread Cert.Kernel39.nD Cert.Kernel39.τ).loc Cert.Kernel39.main_arg0)
      ∧ r.2.mem ((c.tc : Thread Cert.Kernel39.nD Cert.Kernel39.τ).loc Cert.Kernel39.main_arg1) = m ((c.tc : Thread Cert.Kernel39.nD Cert.Kernel39.τ).loc Cert.Kernel39.main_arg1)
      ∧ r.2.mem ((c.tc : Thread Cert.Kernel39.nD Cert.Kernel39.τ).loc Cert.Kernel39.main_arg2) = m ((c.tc : Thread Cert.Kernel39.nD Cert.Kernel39.τ).loc Cert.Kernel39.main_arg2)
      ∧ r.2.mem ((c.tc : Thread Cert.Kernel39.nD Cert.Kernel39.τ).loc Cert.Kernel39.main_arg3) = m ((c.tc : Thread Cert.Kernel39.nD Cert.Kernel39.τ).loc Cert.Kernel39.main_arg3))
      ∧ r.2.sem = fun _ => 0)

def quiescent_Kernel39Ideal [hKernel39Ideal : Cert.Kernel39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg), Pre_Kernel39Ideal m →
    θ_run (Cert.Kernel39Ideal.defs (F := Ideal)) (onTc (τ := Cert.Kernel39Ideal.τ) (Cert.Kernel39Ideal.main (F := Ideal))) ⟨m, fun _ => 0, g⟩ (fun r => (∀ c : Dev Cert.Kernel39Ideal.nD,
      r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
      ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
      ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2)
      ∧ r.2.mem ((c.tc : Thread Cert.Kernel39Ideal.nD Cert.Kernel39Ideal.τ).loc Cert.Kernel39Ideal.main_arg3) = m ((c.tc : Thread Cert.Kernel39Ideal.nD Cert.Kernel39Ideal.τ).loc Cert.Kernel39Ideal.main_arg3))
      ∧ r.2.sem = fun _ => 0)

def quiescent_Reference39Ideal [hReference39Ideal : Cert.Reference39Ideal.Facts] : Prop :=
  ∀ (m : (ℓ : Loc Cert.Reference39Ideal.nD Cert.Reference39Ideal.τ Cert.Reference39Ideal.sig) → Buf (Elt Ideal) ℓ) (g : Dev Cert.Reference39Ideal.nD → PrngReg), Pre_Reference39Ideal m →
    θ_run (Cert.Reference39Ideal.defs (F := Ideal)) (onTc (τ := Cert.Reference39Ideal.τ) (Cert.Reference39Ideal.main (F := Ideal))) ⟨m, fun _ => 0, g⟩ (fun r => (∀ c : Dev Cert.Reference39Ideal.nD,
      r.2.mem ((c.tc : Thread Cert.Reference39Ideal.nD Cert.Reference39Ideal.τ).loc Cert.Reference39Ideal.main_arg0) = m ((c.tc : Thread Cert.Reference39Ideal.nD Cert.Reference39Ideal.τ).loc Cert.Reference39Ideal.main_arg0)
      ∧ r.2.mem ((c.tc : Thread Cert.Reference39Ideal.nD Cert.Reference39Ideal.τ).loc Cert.Reference39Ideal.main_arg1) = m ((c.tc : Thread Cert.Reference39Ideal.nD Cert.Reference39Ideal.τ).loc Cert.Reference39Ideal.main_arg1)
      ∧ r.2.mem ((c.tc : Thread Cert.Reference39Ideal.nD Cert.Reference39Ideal.τ).loc Cert.Reference39Ideal.main_arg2) = m ((c.tc : Thread Cert.Reference39Ideal.nD Cert.Reference39Ideal.τ).loc Cert.Reference39Ideal.main_arg2)
      ∧ r.2.mem ((c.tc : Thread Cert.Reference39Ideal.nD Cert.Reference39Ideal.τ).loc Cert.Reference39Ideal.main_arg3) = m ((c.tc : Thread Cert.Reference39Ideal.nD Cert.Reference39Ideal.τ).loc Cert.Reference39Ideal.main_arg3))
      ∧ r.2.sem = fun _ => 0)

def quiescent_Kernel40 [hKernel40 : Cert.Kernel40.Facts] : Prop :=
  ∀ (m : (ℓ : Loc Cert.Kernel40.nD Cert.Kernel40.τ Cert.Kernel40.sig) → Buf (Elt Bits) ℓ) (g : Dev Cert.Kernel40.nD → PrngReg), Pre_Kernel40 m →
    θ_run (Cert.Kernel40.defs (F := Bits)) (onTc (τ := Cert.Kernel40.τ) (Cert.Kernel40.main (F := Bits))) ⟨m, fun _ => 0, g⟩ (fun r => (∀ c : Dev Cert.Kernel40.nD,
      r.2.mem ((c.tc : Thread Cert.Kernel40.nD Cert.Kernel40.τ).loc Cert.Kernel40.main_arg0) = m ((c.tc : Thread Cert.Kernel40.nD Cert.Kernel40.τ).loc Cert.Kernel40.main_arg0)
      ∧ r.2.mem ((c.tc : Thread Cert.Kernel40.nD Cert.Kernel40.τ).loc Cert.Kernel40.main_arg1) = m ((c.tc : Thread Cert.Kernel40.nD Cert.Kernel40.τ).loc Cert.Kernel40.main_arg1)
      ∧ r.2.mem ((c.tc : Thread Cert.Kernel40.nD Cert.Kernel40.τ).loc Cert.Kernel40.main_arg2) = m ((c.tc : Thread Cert.Kernel40.nD Cert.Kernel40.τ).loc Cert.Kernel40.main_arg2)
      ∧ r.2.mem ((c.tc : Thread Cert.Kernel40.nD Cert.Kernel40.τ).loc Cert.Kernel40.main_arg3) = m ((c.tc : Thread Cert.Kernel40.nD Cert.Kernel40.τ).loc Cert.Kernel40.main_arg3))
      ∧ r.2.sem = fun _ => 0)

def quiescent_Kernel40Ideal [hKernel40Ideal : Cert.Kernel40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg), Pre_Kernel40Ideal m →
    θ_run (Cert.Kernel40Ideal.defs (F := Ideal)) (onTc (τ := Cert.Kernel40Ideal.τ) (Cert.Kernel40Ideal.main (F := Ideal))) ⟨m, fun _ => 0, g⟩ (fun r => (∀ c : Dev Cert.Kernel40Ideal.nD,
      r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
      ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1)
      ∧ r.2.mem ((c.tc : Thread Cert.Kernel40Ideal.nD Cert.Kernel40Ideal.τ).loc Cert.Kernel40Ideal.main_arg2) = m ((c.tc : Thread Cert.Kernel40Ideal.nD Cert.Kernel40Ideal.τ).loc Cert.Kernel40Ideal.main_arg2)
      ∧ r.2.mem ((c.tc : Thread Cert.Kernel40Ideal.nD Cert.Kernel40Ideal.τ).loc Cert.Kernel40Ideal.main_arg3) = m ((c.tc : Thread Cert.Kernel40Ideal.nD Cert.Kernel40Ideal.τ).loc Cert.Kernel40Ideal.main_arg3))
      ∧ r.2.sem = fun _ => 0)

def quiescent_Reference40Ideal [hReference40Ideal : Cert.Reference40Ideal.Facts] : Prop :=
  ∀ (m : (ℓ : Loc Cert.Reference40Ideal.nD Cert.Reference40Ideal.τ Cert.Reference40Ideal.sig) → Buf (Elt Ideal) ℓ) (g : Dev Cert.Reference40Ideal.nD → PrngReg), Pre_Reference40Ideal m →
    θ_run (Cert.Reference40Ideal.defs (F := Ideal)) (onTc (τ := Cert.Reference40Ideal.τ) (Cert.Reference40Ideal.main (F := Ideal))) ⟨m, fun _ => 0, g⟩ (fun r => (∀ c : Dev Cert.Reference40Ideal.nD,
      r.2.mem ((c.tc : Thread Cert.Reference40Ideal.nD Cert.Reference40Ideal.τ).loc Cert.Reference40Ideal.main_arg0) = m ((c.tc : Thread Cert.Reference40Ideal.nD Cert.Reference40Ideal.τ).loc Cert.Reference40Ideal.main_arg0)
      ∧ r.2.mem ((c.tc : Thread Cert.Reference40Ideal.nD Cert.Reference40Ideal.τ).loc Cert.Reference40Ideal.main_arg1) = m ((c.tc : Thread Cert.Reference40Ideal.nD Cert.Reference40Ideal.τ).loc Cert.Reference40Ideal.main_arg1)
      ∧ r.2.mem ((c.tc : Thread Cert.Reference40Ideal.nD Cert.Reference40Ideal.τ).loc Cert.Reference40Ideal.main_arg2) = m ((c.tc : Thread Cert.Reference40Ideal.nD Cert.Reference40Ideal.τ).loc Cert.Reference40Ideal.main_arg2)
      ∧ r.2.mem ((c.tc : Thread Cert.Reference40Ideal.nD Cert.Reference40Ideal.τ).loc Cert.Reference40Ideal.main_arg3) = m ((c.tc : Thread Cert.Reference40Ideal.nD Cert.Reference40Ideal.τ).loc Cert.Reference40Ideal.main_arg3))
      ∧ r.2.sem = fun _ => 0)

def quiescent_Kernel41 [hKernel41 : Cert.Kernel41.Facts] : Prop :=
  ∀ (m : (ℓ : Loc Cert.Kernel41.nD Cert.Kernel41.τ Cert.Kernel41.sig) → Buf (Elt Bits) ℓ) (g : Dev Cert.Kernel41.nD → PrngReg), Pre_Kernel41 m →
    θ_run (Cert.Kernel41.defs (F := Bits)) (onTc (τ := Cert.Kernel41.τ) (Cert.Kernel41.main (F := Bits))) ⟨m, fun _ => 0, g⟩ (fun r => (∀ c : Dev Cert.Kernel41.nD,
      r.2.mem ((c.tc : Thread Cert.Kernel41.nD Cert.Kernel41.τ).loc Cert.Kernel41.main_arg0) = m ((c.tc : Thread Cert.Kernel41.nD Cert.Kernel41.τ).loc Cert.Kernel41.main_arg0)
      ∧ r.2.mem ((c.tc : Thread Cert.Kernel41.nD Cert.Kernel41.τ).loc Cert.Kernel41.main_arg1) = m ((c.tc : Thread Cert.Kernel41.nD Cert.Kernel41.τ).loc Cert.Kernel41.main_arg1)
      ∧ r.2.mem ((c.tc : Thread Cert.Kernel41.nD Cert.Kernel41.τ).loc Cert.Kernel41.main_arg2) = m ((c.tc : Thread Cert.Kernel41.nD Cert.Kernel41.τ).loc Cert.Kernel41.main_arg2)
      ∧ r.2.mem ((c.tc : Thread Cert.Kernel41.nD Cert.Kernel41.τ).loc Cert.Kernel41.main_arg3) = m ((c.tc : Thread Cert.Kernel41.nD Cert.Kernel41.τ).loc Cert.Kernel41.main_arg3))
      ∧ r.2.sem = fun _ => 0)

def quiescent_Kernel41Ideal [hKernel41Ideal : Cert.Kernel41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg), Pre_Kernel41Ideal m →
    θ_run (Cert.Kernel41Ideal.defs (F := Ideal)) (onTc (τ := Cert.Kernel41Ideal.τ) (Cert.Kernel41Ideal.main (F := Ideal))) ⟨m, fun _ => 0, g⟩ (fun r => (∀ c : Dev Cert.Kernel41Ideal.nD,
      r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
      ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1)
      ∧ r.2.mem ((c.tc : Thread Cert.Kernel41Ideal.nD Cert.Kernel41Ideal.τ).loc Cert.Kernel41Ideal.main_arg2) = m ((c.tc : Thread Cert.Kernel41Ideal.nD Cert.Kernel41Ideal.τ).loc Cert.Kernel41Ideal.main_arg2)
      ∧ r.2.mem ((c.tc : Thread Cert.Kernel41Ideal.nD Cert.Kernel41Ideal.τ).loc Cert.Kernel41Ideal.main_arg3) = m ((c.tc : Thread Cert.Kernel41Ideal.nD Cert.Kernel41Ideal.τ).loc Cert.Kernel41Ideal.main_arg3))
      ∧ r.2.sem = fun _ => 0)

def quiescent_Reference41Ideal [hReference41Ideal : Cert.Reference41Ideal.Facts] : Prop :=
  ∀ (m : (ℓ : Loc Cert.Reference41Ideal.nD Cert.Reference41Ideal.τ Cert.Reference41Ideal.sig) → Buf (Elt Ideal) ℓ) (g : Dev Cert.Reference41Ideal.nD → PrngReg), Pre_Reference41Ideal m →
    θ_run (Cert.Reference41Ideal.defs (F := Ideal)) (onTc (τ := Cert.Reference41Ideal.τ) (Cert.Reference41Ideal.main (F := Ideal))) ⟨m, fun _ => 0, g⟩ (fun r => (∀ c : Dev Cert.Reference41Ideal.nD,
      r.2.mem ((c.tc : Thread Cert.Reference41Ideal.nD Cert.Reference41Ideal.τ).loc Cert.Reference41Ideal.main_arg0) = m ((c.tc : Thread Cert.Reference41Ideal.nD Cert.Reference41Ideal.τ).loc Cert.Reference41Ideal.main_arg0)
      ∧ r.2.mem ((c.tc : Thread Cert.Reference41Ideal.nD Cert.Reference41Ideal.τ).loc Cert.Reference41Ideal.main_arg1) = m ((c.tc : Thread Cert.Reference41Ideal.nD Cert.Reference41Ideal.τ).loc Cert.Reference41Ideal.main_arg1)
      ∧ r.2.mem ((c.tc : Thread Cert.Reference41Ideal.nD Cert.Reference41Ideal.τ).loc Cert.Reference41Ideal.main_arg2) = m ((c.tc : Thread Cert.Reference41Ideal.nD Cert.Reference41Ideal.τ).loc Cert.Reference41Ideal.main_arg2)
      ∧ r.2.mem ((c.tc : Thread Cert.Reference41Ideal.nD Cert.Reference41Ideal.τ).loc Cert.Reference41Ideal.main_arg3) = m ((c.tc : Thread Cert.Reference41Ideal.nD Cert.Reference41Ideal.τ).loc Cert.Reference41Ideal.main_arg3))
      ∧ r.2.sem = fun _ => 0)

def quiescent_Kernel42 [hKernel42 : Cert.Kernel42.Facts] : Prop :=
  ∀ (m : (ℓ : Loc Cert.Kernel42.nD Cert.Kernel42.τ Cert.Kernel42.sig) → Buf (Elt Bits) ℓ) (g : Dev Cert.Kernel42.nD → PrngReg), Pre_Kernel42 m →
    θ_run (Cert.Kernel42.defs (F := Bits)) (onTc (τ := Cert.Kernel42.τ) (Cert.Kernel42.main (F := Bits))) ⟨m, fun _ => 0, g⟩ (fun r => (∀ c : Dev Cert.Kernel42.nD,
      r.2.mem ((c.tc : Thread Cert.Kernel42.nD Cert.Kernel42.τ).loc Cert.Kernel42.main_arg0) = m ((c.tc : Thread Cert.Kernel42.nD Cert.Kernel42.τ).loc Cert.Kernel42.main_arg0)
      ∧ r.2.mem ((c.tc : Thread Cert.Kernel42.nD Cert.Kernel42.τ).loc Cert.Kernel42.main_arg1) = m ((c.tc : Thread Cert.Kernel42.nD Cert.Kernel42.τ).loc Cert.Kernel42.main_arg1)
      ∧ r.2.mem ((c.tc : Thread Cert.Kernel42.nD Cert.Kernel42.τ).loc Cert.Kernel42.main_arg2) = m ((c.tc : Thread Cert.Kernel42.nD Cert.Kernel42.τ).loc Cert.Kernel42.main_arg2)
      ∧ r.2.mem ((c.tc : Thread Cert.Kernel42.nD Cert.Kernel42.τ).loc Cert.Kernel42.main_arg3) = m ((c.tc : Thread Cert.Kernel42.nD Cert.Kernel42.τ).loc Cert.Kernel42.main_arg3))
      ∧ r.2.sem = fun _ => 0)

def quiescent_Kernel42Ideal [hKernel42Ideal : Cert.Kernel42Ideal.Facts] : Prop :=
  ∀ (m : (ℓ : Loc Cert.Kernel42Ideal.nD Cert.Kernel42Ideal.τ Cert.Kernel42Ideal.sig) → Buf (Elt Ideal) ℓ) (g : Dev Cert.Kernel42Ideal.nD → PrngReg), Pre_Kernel42Ideal m →
    θ_run (Cert.Kernel42Ideal.defs (F := Ideal)) (onTc (τ := Cert.Kernel42Ideal.τ) (Cert.Kernel42Ideal.main (F := Ideal))) ⟨m, fun _ => 0, g⟩ (fun r => (∀ c : Dev Cert.Kernel42Ideal.nD,
      r.2.mem ((c.tc : Thread Cert.Kernel42Ideal.nD Cert.Kernel42Ideal.τ).loc Cert.Kernel42Ideal.main_arg0) = m ((c.tc : Thread Cert.Kernel42Ideal.nD Cert.Kernel42Ideal.τ).loc Cert.Kernel42Ideal.main_arg0)
      ∧ r.2.mem ((c.tc : Thread Cert.Kernel42Ideal.nD Cert.Kernel42Ideal.τ).loc Cert.Kernel42Ideal.main_arg1) = m ((c.tc : Thread Cert.Kernel42Ideal.nD Cert.Kernel42Ideal.τ).loc Cert.Kernel42Ideal.main_arg1)
      ∧ r.2.mem ((c.tc : Thread Cert.Kernel42Ideal.nD Cert.Kernel42Ideal.τ).loc Cert.Kernel42Ideal.main_arg2) = m ((c.tc : Thread Cert.Kernel42Ideal.nD Cert.Kernel42Ideal.τ).loc Cert.Kernel42Ideal.main_arg2)
      ∧ r.2.mem ((c.tc : Thread Cert.Kernel42Ideal.nD Cert.Kernel42Ideal.τ).loc Cert.Kernel42Ideal.main_arg3) = m ((c.tc : Thread Cert.Kernel42Ideal.nD Cert.Kernel42Ideal.τ).loc Cert.Kernel42Ideal.main_arg3))
      ∧ r.2.sem = fun _ => 0)

def quiescent_Reference42Ideal [hReference42Ideal : Cert.Reference42Ideal.Facts] : Prop :=
  ∀ (m : (ℓ : Loc Cert.Reference42Ideal.nD Cert.Reference42Ideal.τ Cert.Reference42Ideal.sig) → Buf (Elt Ideal) ℓ) (g : Dev Cert.Reference42Ideal.nD → PrngReg), Pre_Reference42Ideal m →
    θ_run (Cert.Reference42Ideal.defs (F := Ideal)) (onTc (τ := Cert.Reference42Ideal.τ) (Cert.Reference42Ideal.main (F := Ideal))) ⟨m, fun _ => 0, g⟩ (fun r => (∀ c : Dev Cert.Reference42Ideal.nD,
      r.2.mem ((c.tc : Thread Cert.Reference42Ideal.nD Cert.Reference42Ideal.τ).loc Cert.Reference42Ideal.main_arg0) = m ((c.tc : Thread Cert.Reference42Ideal.nD Cert.Reference42Ideal.τ).loc Cert.Reference42Ideal.main_arg0)
      ∧ r.2.mem ((c.tc : Thread Cert.Reference42Ideal.nD Cert.Reference42Ideal.τ).loc Cert.Reference42Ideal.main_arg1) = m ((c.tc : Thread Cert.Reference42Ideal.nD Cert.Reference42Ideal.τ).loc Cert.Reference42Ideal.main_arg1)
      ∧ r.2.mem ((c.tc : Thread Cert.Reference42Ideal.nD Cert.Reference42Ideal.τ).loc Cert.Reference42Ideal.main_arg2) = m ((c.tc : Thread Cert.Reference42Ideal.nD Cert.Reference42Ideal.τ).loc Cert.Reference42Ideal.main_arg2)
      ∧ r.2.mem ((c.tc : Thread Cert.Reference42Ideal.nD Cert.Reference42Ideal.τ).loc Cert.Reference42Ideal.main_arg3) = m ((c.tc : Thread Cert.Reference42Ideal.nD Cert.Reference42Ideal.τ).loc Cert.Reference42Ideal.main_arg3))
      ∧ r.2.sem = fun _ => 0)

def quiescent_Kernel43 [hKernel43 : Cert.Kernel43.Facts] : Prop :=
  ∀ (m : (ℓ : Loc Cert.Kernel43.nD Cert.Kernel43.τ Cert.Kernel43.sig) → Buf (Elt Bits) ℓ) (g : Dev Cert.Kernel43.nD → PrngReg), Pre_Kernel43 m →
    θ_run (Cert.Kernel43.defs (F := Bits)) (onTc (τ := Cert.Kernel43.τ) (Cert.Kernel43.main (F := Bits))) ⟨m, fun _ => 0, g⟩ (fun r => (∀ c : Dev Cert.Kernel43.nD,
      r.2.mem ((c.tc : Thread Cert.Kernel43.nD Cert.Kernel43.τ).loc Cert.Kernel43.main_arg0) = m ((c.tc : Thread Cert.Kernel43.nD Cert.Kernel43.τ).loc Cert.Kernel43.main_arg0)
      ∧ r.2.mem ((c.tc : Thread Cert.Kernel43.nD Cert.Kernel43.τ).loc Cert.Kernel43.main_arg1) = m ((c.tc : Thread Cert.Kernel43.nD Cert.Kernel43.τ).loc Cert.Kernel43.main_arg1)
      ∧ r.2.mem ((c.tc : Thread Cert.Kernel43.nD Cert.Kernel43.τ).loc Cert.Kernel43.main_arg2) = m ((c.tc : Thread Cert.Kernel43.nD Cert.Kernel43.τ).loc Cert.Kernel43.main_arg2))
      ∧ r.2.sem = fun _ => 0)

def quiescent_Kernel43Ideal [hKernel43Ideal : Cert.Kernel43Ideal.Facts] : Prop :=
  ∀ (m : (ℓ : Loc Cert.Kernel43Ideal.nD Cert.Kernel43Ideal.τ Cert.Kernel43Ideal.sig) → Buf (Elt Ideal) ℓ) (g : Dev Cert.Kernel43Ideal.nD → PrngReg), Pre_Kernel43Ideal m →
    θ_run (Cert.Kernel43Ideal.defs (F := Ideal)) (onTc (τ := Cert.Kernel43Ideal.τ) (Cert.Kernel43Ideal.main (F := Ideal))) ⟨m, fun _ => 0, g⟩ (fun r => (∀ c : Dev Cert.Kernel43Ideal.nD,
      r.2.mem ((c.tc : Thread Cert.Kernel43Ideal.nD Cert.Kernel43Ideal.τ).loc Cert.Kernel43Ideal.main_arg0) = m ((c.tc : Thread Cert.Kernel43Ideal.nD Cert.Kernel43Ideal.τ).loc Cert.Kernel43Ideal.main_arg0)
      ∧ r.2.mem ((c.tc : Thread Cert.Kernel43Ideal.nD Cert.Kernel43Ideal.τ).loc Cert.Kernel43Ideal.main_arg1) = m ((c.tc : Thread Cert.Kernel43Ideal.nD Cert.Kernel43Ideal.τ).loc Cert.Kernel43Ideal.main_arg1)
      ∧ r.2.mem ((c.tc : Thread Cert.Kernel43Ideal.nD Cert.Kernel43Ideal.τ).loc Cert.Kernel43Ideal.main_arg2) = m ((c.tc : Thread Cert.Kernel43Ideal.nD Cert.Kernel43Ideal.τ).loc Cert.Kernel43Ideal.main_arg2))
      ∧ r.2.sem = fun _ => 0)

def quiescent_Reference43Ideal [hReference43Ideal : Cert.Reference43Ideal.Facts] : Prop :=
  ∀ (m : (ℓ : Loc Cert.Reference43Ideal.nD Cert.Reference43Ideal.τ Cert.Reference43Ideal.sig) → Buf (Elt Ideal) ℓ) (g : Dev Cert.Reference43Ideal.nD → PrngReg), Pre_Reference43Ideal m →
    θ_run (Cert.Reference43Ideal.defs (F := Ideal)) (onTc (τ := Cert.Reference43Ideal.τ) (Cert.Reference43Ideal.main (F := Ideal))) ⟨m, fun _ => 0, g⟩ (fun r => (∀ c : Dev Cert.Reference43Ideal.nD,
      r.2.mem ((c.tc : Thread Cert.Reference43Ideal.nD Cert.Reference43Ideal.τ).loc Cert.Reference43Ideal.main_arg0) = m ((c.tc : Thread Cert.Reference43Ideal.nD Cert.Reference43Ideal.τ).loc Cert.Reference43Ideal.main_arg0)
      ∧ r.2.mem ((c.tc : Thread Cert.Reference43Ideal.nD Cert.Reference43Ideal.τ).loc Cert.Reference43Ideal.main_arg1) = m ((c.tc : Thread Cert.Reference43Ideal.nD Cert.Reference43Ideal.τ).loc Cert.Reference43Ideal.main_arg1)
      ∧ r.2.mem ((c.tc : Thread Cert.Reference43Ideal.nD Cert.Reference43Ideal.τ).loc Cert.Reference43Ideal.main_arg2) = m ((c.tc : Thread Cert.Reference43Ideal.nD Cert.Reference43Ideal.τ).loc Cert.Reference43Ideal.main_arg2))
      ∧ r.2.sem = fun _ => 0)

def quiescent_Kernel44 [hKernel44 : Cert.Kernel44.Facts] : Prop :=
  ∀ (m : (ℓ : Loc Cert.Kernel44.nD Cert.Kernel44.τ Cert.Kernel44.sig) → Buf (Elt Bits) ℓ) (g : Dev Cert.Kernel44.nD → PrngReg), Pre_Kernel44 m →
    θ_run (Cert.Kernel44.defs (F := Bits)) (onTc (τ := Cert.Kernel44.τ) (Cert.Kernel44.main (F := Bits))) ⟨m, fun _ => 0, g⟩ (fun r => (∀ c : Dev Cert.Kernel44.nD,
      r.2.mem ((c.tc : Thread Cert.Kernel44.nD Cert.Kernel44.τ).loc Cert.Kernel44.main_arg0) = m ((c.tc : Thread Cert.Kernel44.nD Cert.Kernel44.τ).loc Cert.Kernel44.main_arg0))
      ∧ r.2.sem = fun _ => 0)

def quiescent_Kernel44Ideal [hKernel44Ideal : Cert.Kernel44Ideal.Facts] : Prop :=
  ∀ (m : (ℓ : Loc Cert.Kernel44Ideal.nD Cert.Kernel44Ideal.τ Cert.Kernel44Ideal.sig) → Buf (Elt Ideal) ℓ) (g : Dev Cert.Kernel44Ideal.nD → PrngReg), Pre_Kernel44Ideal m →
    θ_run (Cert.Kernel44Ideal.defs (F := Ideal)) (onTc (τ := Cert.Kernel44Ideal.τ) (Cert.Kernel44Ideal.main (F := Ideal))) ⟨m, fun _ => 0, g⟩ (fun r => (∀ c : Dev Cert.Kernel44Ideal.nD,
      r.2.mem ((c.tc : Thread Cert.Kernel44Ideal.nD Cert.Kernel44Ideal.τ).loc Cert.Kernel44Ideal.main_arg0) = m ((c.tc : Thread Cert.Kernel44Ideal.nD Cert.Kernel44Ideal.τ).loc Cert.Kernel44Ideal.main_arg0))
      ∧ r.2.sem = fun _ => 0)

def quiescent_Reference44Ideal [hReference44Ideal : Cert.Reference44Ideal.Facts] : Prop :=
  ∀ (m : (ℓ : Loc Cert.Reference44Ideal.nD Cert.Reference44Ideal.τ Cert.Reference44Ideal.sig) → Buf (Elt Ideal) ℓ) (g : Dev Cert.Reference44Ideal.nD → PrngReg), Pre_Reference44Ideal m →
    θ_run (Cert.Reference44Ideal.defs (F := Ideal)) (onTc (τ := Cert.Reference44Ideal.τ) (Cert.Reference44Ideal.main (F := Ideal))) ⟨m, fun _ => 0, g⟩ (fun r => (∀ c : Dev Cert.Reference44Ideal.nD,
      r.2.mem ((c.tc : Thread Cert.Reference44Ideal.nD Cert.Reference44Ideal.τ).loc Cert.Reference44Ideal.main_arg0) = m ((c.tc : Thread Cert.Reference44Ideal.nD Cert.Reference44Ideal.τ).loc Cert.Reference44Ideal.main_arg0))
      ∧ r.2.sem = fun _ => 0)

def quiescent_Kernel45 [hKernel45 : Cert.Kernel45.Facts] : Prop :=
  ∀ (m : (ℓ : Loc Cert.Kernel45.nD Cert.Kernel45.τ Cert.Kernel45.sig) → Buf (Elt Bits) ℓ) (g : Dev Cert.Kernel45.nD → PrngReg), Pre_Kernel45 m →
    θ_run (Cert.Kernel45.defs (F := Bits)) (onTc (τ := Cert.Kernel45.τ) (Cert.Kernel45.main (F := Bits))) ⟨m, fun _ => 0, g⟩ (fun r => (∀ c : Dev Cert.Kernel45.nD,
      r.2.mem ((c.tc : Thread Cert.Kernel45.nD Cert.Kernel45.τ).loc Cert.Kernel45.main_arg0) = m ((c.tc : Thread Cert.Kernel45.nD Cert.Kernel45.τ).loc Cert.Kernel45.main_arg0))
      ∧ r.2.sem = fun _ => 0)

def quiescent_Kernel45Ideal [hKernel45Ideal : Cert.Kernel45Ideal.Facts] : Prop :=
  ∀ (m : (ℓ : Loc Cert.Kernel45Ideal.nD Cert.Kernel45Ideal.τ Cert.Kernel45Ideal.sig) → Buf (Elt Ideal) ℓ) (g : Dev Cert.Kernel45Ideal.nD → PrngReg), Pre_Kernel45Ideal m →
    θ_run (Cert.Kernel45Ideal.defs (F := Ideal)) (onTc (τ := Cert.Kernel45Ideal.τ) (Cert.Kernel45Ideal.main (F := Ideal))) ⟨m, fun _ => 0, g⟩ (fun r => (∀ c : Dev Cert.Kernel45Ideal.nD,
      r.2.mem ((c.tc : Thread Cert.Kernel45Ideal.nD Cert.Kernel45Ideal.τ).loc Cert.Kernel45Ideal.main_arg0) = m ((c.tc : Thread Cert.Kernel45Ideal.nD Cert.Kernel45Ideal.τ).loc Cert.Kernel45Ideal.main_arg0))
      ∧ r.2.sem = fun _ => 0)

def quiescent_Reference45Ideal [hReference45Ideal : Cert.Reference45Ideal.Facts] : Prop :=
  ∀ (m : (ℓ : Loc Cert.Reference45Ideal.nD Cert.Reference45Ideal.τ Cert.Reference45Ideal.sig) → Buf (Elt Ideal) ℓ) (g : Dev Cert.Reference45Ideal.nD → PrngReg), Pre_Reference45Ideal m →
    θ_run (Cert.Reference45Ideal.defs (F := Ideal)) (onTc (τ := Cert.Reference45Ideal.τ) (Cert.Reference45Ideal.main (F := Ideal))) ⟨m, fun _ => 0, g⟩ (fun r => (∀ c : Dev Cert.Reference45Ideal.nD,
      r.2.mem ((c.tc : Thread Cert.Reference45Ideal.nD Cert.Reference45Ideal.τ).loc Cert.Reference45Ideal.main_arg0) = m ((c.tc : Thread Cert.Reference45Ideal.nD Cert.Reference45Ideal.τ).loc Cert.Reference45Ideal.main_arg0))
      ∧ r.2.sem = fun _ => 0)

def quiescent_Kernel46 [hKernel46 : Cert.Kernel46.Facts] : Prop :=
  ∀ (m : (ℓ : Loc Cert.Kernel46.nD Cert.Kernel46.τ Cert.Kernel46.sig) → Buf (Elt Bits) ℓ) (g : Dev Cert.Kernel46.nD → PrngReg), Pre_Kernel46 m →
    θ_run (Cert.Kernel46.defs (F := Bits)) (onTc (τ := Cert.Kernel46.τ) (Cert.Kernel46.main (F := Bits))) ⟨m, fun _ => 0, g⟩ (fun r => (∀ c : Dev Cert.Kernel46.nD,
      r.2.mem ((c.tc : Thread Cert.Kernel46.nD Cert.Kernel46.τ).loc Cert.Kernel46.main_arg0) = m ((c.tc : Thread Cert.Kernel46.nD Cert.Kernel46.τ).loc Cert.Kernel46.main_arg0)
      ∧ r.2.mem ((c.tc : Thread Cert.Kernel46.nD Cert.Kernel46.τ).loc Cert.Kernel46.main_arg1) = m ((c.tc : Thread Cert.Kernel46.nD Cert.Kernel46.τ).loc Cert.Kernel46.main_arg1))
      ∧ r.2.sem = fun _ => 0)

def quiescent_Kernel46Ideal [hKernel46Ideal : Cert.Kernel46Ideal.Facts] : Prop :=
  ∀ (m : (ℓ : Loc Cert.Kernel46Ideal.nD Cert.Kernel46Ideal.τ Cert.Kernel46Ideal.sig) → Buf (Elt Ideal) ℓ) (g : Dev Cert.Kernel46Ideal.nD → PrngReg), Pre_Kernel46Ideal m →
    θ_run (Cert.Kernel46Ideal.defs (F := Ideal)) (onTc (τ := Cert.Kernel46Ideal.τ) (Cert.Kernel46Ideal.main (F := Ideal))) ⟨m, fun _ => 0, g⟩ (fun r => (∀ c : Dev Cert.Kernel46Ideal.nD,
      r.2.mem ((c.tc : Thread Cert.Kernel46Ideal.nD Cert.Kernel46Ideal.τ).loc Cert.Kernel46Ideal.main_arg0) = m ((c.tc : Thread Cert.Kernel46Ideal.nD Cert.Kernel46Ideal.τ).loc Cert.Kernel46Ideal.main_arg0)
      ∧ r.2.mem ((c.tc : Thread Cert.Kernel46Ideal.nD Cert.Kernel46Ideal.τ).loc Cert.Kernel46Ideal.main_arg1) = m ((c.tc : Thread Cert.Kernel46Ideal.nD Cert.Kernel46Ideal.τ).loc Cert.Kernel46Ideal.main_arg1))
      ∧ r.2.sem = fun _ => 0)

def quiescent_Reference46Ideal [hReference46Ideal : Cert.Reference46Ideal.Facts] : Prop :=
  ∀ (m : (ℓ : Loc Cert.Reference46Ideal.nD Cert.Reference46Ideal.τ Cert.Reference46Ideal.sig) → Buf (Elt Ideal) ℓ) (g : Dev Cert.Reference46Ideal.nD → PrngReg), Pre_Reference46Ideal m →
    θ_run (Cert.Reference46Ideal.defs (F := Ideal)) (onTc (τ := Cert.Reference46Ideal.τ) (Cert.Reference46Ideal.main (F := Ideal))) ⟨m, fun _ => 0, g⟩ (fun r => (∀ c : Dev Cert.Reference46Ideal.nD,
      r.2.mem ((c.tc : Thread Cert.Reference46Ideal.nD Cert.Reference46Ideal.τ).loc Cert.Reference46Ideal.main_arg0) = m ((c.tc : Thread Cert.Reference46Ideal.nD Cert.Reference46Ideal.τ).loc Cert.Reference46Ideal.main_arg0)
      ∧ r.2.mem ((c.tc : Thread Cert.Reference46Ideal.nD Cert.Reference46Ideal.τ).loc Cert.Reference46Ideal.main_arg1) = m ((c.tc : Thread Cert.Reference46Ideal.nD Cert.Reference46Ideal.τ).loc Cert.Reference46Ideal.main_arg1))
      ∧ r.2.sem = fun _ => 0)

def quiescent_Kernel47 [hKernel47 : Cert.Kernel47.Facts] : Prop :=
  ∀ (m : (ℓ : Loc Cert.Kernel47.nD Cert.Kernel47.τ Cert.Kernel47.sig) → Buf (Elt Bits) ℓ) (g : Dev Cert.Kernel47.nD → PrngReg), Pre_Kernel47 m →
    θ_run (Cert.Kernel47.defs (F := Bits)) (onTc (τ := Cert.Kernel47.τ) (Cert.Kernel47.main (F := Bits))) ⟨m, fun _ => 0, g⟩ (fun r => (∀ c : Dev Cert.Kernel47.nD,
      r.2.mem ((c.tc : Thread Cert.Kernel47.nD Cert.Kernel47.τ).loc Cert.Kernel47.main_arg0) = m ((c.tc : Thread Cert.Kernel47.nD Cert.Kernel47.τ).loc Cert.Kernel47.main_arg0)
      ∧ r.2.mem ((c.tc : Thread Cert.Kernel47.nD Cert.Kernel47.τ).loc Cert.Kernel47.main_arg1) = m ((c.tc : Thread Cert.Kernel47.nD Cert.Kernel47.τ).loc Cert.Kernel47.main_arg1)
      ∧ r.2.mem ((c.tc : Thread Cert.Kernel47.nD Cert.Kernel47.τ).loc Cert.Kernel47.main_arg2) = m ((c.tc : Thread Cert.Kernel47.nD Cert.Kernel47.τ).loc Cert.Kernel47.main_arg2)
      ∧ r.2.mem ((c.tc : Thread Cert.Kernel47.nD Cert.Kernel47.τ).loc Cert.Kernel47.main_arg3) = m ((c.tc : Thread Cert.Kernel47.nD Cert.Kernel47.τ).loc Cert.Kernel47.main_arg3))
      ∧ r.2.sem = fun _ => 0)

def quiescent_Kernel47Ideal [hKernel47Ideal : Cert.Kernel47Ideal.Facts] : Prop :=
  ∀ (m : (ℓ : Loc Cert.Kernel47Ideal.nD Cert.Kernel47Ideal.τ Cert.Kernel47Ideal.sig) → Buf (Elt Ideal) ℓ) (g : Dev Cert.Kernel47Ideal.nD → PrngReg), Pre_Kernel47Ideal m →
    θ_run (Cert.Kernel47Ideal.defs (F := Ideal)) (onTc (τ := Cert.Kernel47Ideal.τ) (Cert.Kernel47Ideal.main (F := Ideal))) ⟨m, fun _ => 0, g⟩ (fun r => (∀ c : Dev Cert.Kernel47Ideal.nD,
      r.2.mem ((c.tc : Thread Cert.Kernel47Ideal.nD Cert.Kernel47Ideal.τ).loc Cert.Kernel47Ideal.main_arg0) = m ((c.tc : Thread Cert.Kernel47Ideal.nD Cert.Kernel47Ideal.τ).loc Cert.Kernel47Ideal.main_arg0)
      ∧ r.2.mem ((c.tc : Thread Cert.Kernel47Ideal.nD Cert.Kernel47Ideal.τ).loc Cert.Kernel47Ideal.main_arg1) = m ((c.tc : Thread Cert.Kernel47Ideal.nD Cert.Kernel47Ideal.τ).loc Cert.Kernel47Ideal.main_arg1)
      ∧ r.2.mem ((c.tc : Thread Cert.Kernel47Ideal.nD Cert.Kernel47Ideal.τ).loc Cert.Kernel47Ideal.main_arg2) = m ((c.tc : Thread Cert.Kernel47Ideal.nD Cert.Kernel47Ideal.τ).loc Cert.Kernel47Ideal.main_arg2)
      ∧ r.2.mem ((c.tc : Thread Cert.Kernel47Ideal.nD Cert.Kernel47Ideal.τ).loc Cert.Kernel47Ideal.main_arg3) = m ((c.tc : Thread Cert.Kernel47Ideal.nD Cert.Kernel47Ideal.τ).loc Cert.Kernel47Ideal.main_arg3))
      ∧ r.2.sem = fun _ => 0)

def quiescent_Reference47Ideal [hReference47Ideal : Cert.Reference47Ideal.Facts] : Prop :=
  ∀ (m : (ℓ : Loc Cert.Reference47Ideal.nD Cert.Reference47Ideal.τ Cert.Reference47Ideal.sig) → Buf (Elt Ideal) ℓ) (g : Dev Cert.Reference47Ideal.nD → PrngReg), Pre_Reference47Ideal m →
    θ_run (Cert.Reference47Ideal.defs (F := Ideal)) (onTc (τ := Cert.Reference47Ideal.τ) (Cert.Reference47Ideal.main (F := Ideal))) ⟨m, fun _ => 0, g⟩ (fun r => (∀ c : Dev Cert.Reference47Ideal.nD,
      r.2.mem ((c.tc : Thread Cert.Reference47Ideal.nD Cert.Reference47Ideal.τ).loc Cert.Reference47Ideal.main_arg0) = m ((c.tc : Thread Cert.Reference47Ideal.nD Cert.Reference47Ideal.τ).loc Cert.Reference47Ideal.main_arg0)
      ∧ r.2.mem ((c.tc : Thread Cert.Reference47Ideal.nD Cert.Reference47Ideal.τ).loc Cert.Reference47Ideal.main_arg1) = m ((c.tc : Thread Cert.Reference47Ideal.nD Cert.Reference47Ideal.τ).loc Cert.Reference47Ideal.main_arg1)
      ∧ r.2.mem ((c.tc : Thread Cert.Reference47Ideal.nD Cert.Reference47Ideal.τ).loc Cert.Reference47Ideal.main_arg2) = m ((c.tc : Thread Cert.Reference47Ideal.nD Cert.Reference47Ideal.τ).loc Cert.Reference47Ideal.main_arg2)
      ∧ r.2.mem ((c.tc : Thread Cert.Reference47Ideal.nD Cert.Reference47Ideal.τ).loc Cert.Reference47Ideal.main_arg3) = m ((c.tc : Thread Cert.Reference47Ideal.nD Cert.Reference47Ideal.τ).loc Cert.Reference47Ideal.main_arg3))
      ∧ r.2.sem = fun _ => 0)

def quiescent_Kernel48 [hKernel48 : Cert.Kernel48.Facts] : Prop :=
  ∀ (m : (ℓ : Loc Cert.Kernel48.nD Cert.Kernel48.τ Cert.Kernel48.sig) → Buf (Elt Bits) ℓ) (g : Dev Cert.Kernel48.nD → PrngReg), Pre_Kernel48 m →
    θ_run (Cert.Kernel48.defs (F := Bits)) (onTc (τ := Cert.Kernel48.τ) (Cert.Kernel48.main (F := Bits))) ⟨m, fun _ => 0, g⟩ (fun r => (∀ c : Dev Cert.Kernel48.nD,
      r.2.mem ((c.tc : Thread Cert.Kernel48.nD Cert.Kernel48.τ).loc Cert.Kernel48.main_arg0) = m ((c.tc : Thread Cert.Kernel48.nD Cert.Kernel48.τ).loc Cert.Kernel48.main_arg0)
      ∧ r.2.mem ((c.tc : Thread Cert.Kernel48.nD Cert.Kernel48.τ).loc Cert.Kernel48.main_arg1) = m ((c.tc : Thread Cert.Kernel48.nD Cert.Kernel48.τ).loc Cert.Kernel48.main_arg1)
      ∧ r.2.mem ((c.tc : Thread Cert.Kernel48.nD Cert.Kernel48.τ).loc Cert.Kernel48.main_arg2) = m ((c.tc : Thread Cert.Kernel48.nD Cert.Kernel48.τ).loc Cert.Kernel48.main_arg2)
      ∧ r.2.mem ((c.tc : Thread Cert.Kernel48.nD Cert.Kernel48.τ).loc Cert.Kernel48.main_arg3) = m ((c.tc : Thread Cert.Kernel48.nD Cert.Kernel48.τ).loc Cert.Kernel48.main_arg3)
      ∧ r.2.mem ((c.tc : Thread Cert.Kernel48.nD Cert.Kernel48.τ).loc Cert.Kernel48.main_arg4) = m ((c.tc : Thread Cert.Kernel48.nD Cert.Kernel48.τ).loc Cert.Kernel48.main_arg4)
      ∧ r.2.mem ((c.tc : Thread Cert.Kernel48.nD Cert.Kernel48.τ).loc Cert.Kernel48.main_arg5) = m ((c.tc : Thread Cert.Kernel48.nD Cert.Kernel48.τ).loc Cert.Kernel48.main_arg5))
      ∧ r.2.sem = fun _ => 0)

def quiescent_Kernel48Ideal [hKernel48Ideal : Cert.Kernel48Ideal.Facts] : Prop :=
  ∀ (m : (ℓ : Loc Cert.Kernel48Ideal.nD Cert.Kernel48Ideal.τ Cert.Kernel48Ideal.sig) → Buf (Elt Ideal) ℓ) (g : Dev Cert.Kernel48Ideal.nD → PrngReg), Pre_Kernel48Ideal m →
    θ_run (Cert.Kernel48Ideal.defs (F := Ideal)) (onTc (τ := Cert.Kernel48Ideal.τ) (Cert.Kernel48Ideal.main (F := Ideal))) ⟨m, fun _ => 0, g⟩ (fun r => (∀ c : Dev Cert.Kernel48Ideal.nD,
      r.2.mem ((c.tc : Thread Cert.Kernel48Ideal.nD Cert.Kernel48Ideal.τ).loc Cert.Kernel48Ideal.main_arg0) = m ((c.tc : Thread Cert.Kernel48Ideal.nD Cert.Kernel48Ideal.τ).loc Cert.Kernel48Ideal.main_arg0)
      ∧ r.2.mem ((c.tc : Thread Cert.Kernel48Ideal.nD Cert.Kernel48Ideal.τ).loc Cert.Kernel48Ideal.main_arg1) = m ((c.tc : Thread Cert.Kernel48Ideal.nD Cert.Kernel48Ideal.τ).loc Cert.Kernel48Ideal.main_arg1)
      ∧ r.2.mem ((c.tc : Thread Cert.Kernel48Ideal.nD Cert.Kernel48Ideal.τ).loc Cert.Kernel48Ideal.main_arg2) = m ((c.tc : Thread Cert.Kernel48Ideal.nD Cert.Kernel48Ideal.τ).loc Cert.Kernel48Ideal.main_arg2)
      ∧ r.2.mem ((c.tc : Thread Cert.Kernel48Ideal.nD Cert.Kernel48Ideal.τ).loc Cert.Kernel48Ideal.main_arg3) = m ((c.tc : Thread Cert.Kernel48Ideal.nD Cert.Kernel48Ideal.τ).loc Cert.Kernel48Ideal.main_arg3)
      ∧ r.2.mem ((c.tc : Thread Cert.Kernel48Ideal.nD Cert.Kernel48Ideal.τ).loc Cert.Kernel48Ideal.main_arg4) = m ((c.tc : Thread Cert.Kernel48Ideal.nD Cert.Kernel48Ideal.τ).loc Cert.Kernel48Ideal.main_arg4)
      ∧ r.2.mem ((c.tc : Thread Cert.Kernel48Ideal.nD Cert.Kernel48Ideal.τ).loc Cert.Kernel48Ideal.main_arg5) = m ((c.tc : Thread Cert.Kernel48Ideal.nD Cert.Kernel48Ideal.τ).loc Cert.Kernel48Ideal.main_arg5))
      ∧ r.2.sem = fun _ => 0)

def quiescent_Reference48Ideal [hReference48Ideal : Cert.Reference48Ideal.Facts] : Prop :=
  ∀ (m : (ℓ : Loc Cert.Reference48Ideal.nD Cert.Reference48Ideal.τ Cert.Reference48Ideal.sig) → Buf (Elt Ideal) ℓ) (g : Dev Cert.Reference48Ideal.nD → PrngReg), Pre_Reference48Ideal m →
    θ_run (Cert.Reference48Ideal.defs (F := Ideal)) (onTc (τ := Cert.Reference48Ideal.τ) (Cert.Reference48Ideal.main (F := Ideal))) ⟨m, fun _ => 0, g⟩ (fun r => (∀ c : Dev Cert.Reference48Ideal.nD,
      r.2.mem ((c.tc : Thread Cert.Reference48Ideal.nD Cert.Reference48Ideal.τ).loc Cert.Reference48Ideal.main_arg0) = m ((c.tc : Thread Cert.Reference48Ideal.nD Cert.Reference48Ideal.τ).loc Cert.Reference48Ideal.main_arg0)
      ∧ r.2.mem ((c.tc : Thread Cert.Reference48Ideal.nD Cert.Reference48Ideal.τ).loc Cert.Reference48Ideal.main_arg1) = m ((c.tc : Thread Cert.Reference48Ideal.nD Cert.Reference48Ideal.τ).loc Cert.Reference48Ideal.main_arg1)
      ∧ r.2.mem ((c.tc : Thread Cert.Reference48Ideal.nD Cert.Reference48Ideal.τ).loc Cert.Reference48Ideal.main_arg2) = m ((c.tc : Thread Cert.Reference48Ideal.nD Cert.Reference48Ideal.τ).loc Cert.Reference48Ideal.main_arg2)
      ∧ r.2.mem ((c.tc : Thread Cert.Reference48Ideal.nD Cert.Reference48Ideal.τ).loc Cert.Reference48Ideal.main_arg3) = m ((c.tc : Thread Cert.Reference48Ideal.nD Cert.Reference48Ideal.τ).loc Cert.Reference48Ideal.main_arg3)
      ∧ r.2.mem ((c.tc : Thread Cert.Reference48Ideal.nD Cert.Reference48Ideal.τ).loc Cert.Reference48Ideal.main_arg4) = m ((c.tc : Thread Cert.Reference48Ideal.nD Cert.Reference48Ideal.τ).loc Cert.Reference48Ideal.main_arg4)
      ∧ r.2.mem ((c.tc : Thread Cert.Reference48Ideal.nD Cert.Reference48Ideal.τ).loc Cert.Reference48Ideal.main_arg5) = m ((c.tc : Thread Cert.Reference48Ideal.nD Cert.Reference48Ideal.τ).loc Cert.Reference48Ideal.main_arg5))
      ∧ r.2.sem = fun _ => 0)

def quiescent_Kernel49 [hKernel49 : Cert.Kernel49.Facts] : Prop :=
  ∀ (m : (ℓ : Loc Cert.Kernel49.nD Cert.Kernel49.τ Cert.Kernel49.sig) → Buf (Elt Bits) ℓ) (g : Dev Cert.Kernel49.nD → PrngReg), Pre_Kernel49 m →
    θ_run (Cert.Kernel49.defs (F := Bits)) (onTc (τ := Cert.Kernel49.τ) (Cert.Kernel49.main (F := Bits))) ⟨m, fun _ => 0, g⟩ (fun r => (∀ c : Dev Cert.Kernel49.nD,
      r.2.mem ((c.tc : Thread Cert.Kernel49.nD Cert.Kernel49.τ).loc Cert.Kernel49.main_arg0) = m ((c.tc : Thread Cert.Kernel49.nD Cert.Kernel49.τ).loc Cert.Kernel49.main_arg0)
      ∧ r.2.mem ((c.tc : Thread Cert.Kernel49.nD Cert.Kernel49.τ).loc Cert.Kernel49.main_arg1) = m ((c.tc : Thread Cert.Kernel49.nD Cert.Kernel49.τ).loc Cert.Kernel49.main_arg1)
      ∧ r.2.mem ((c.tc : Thread Cert.Kernel49.nD Cert.Kernel49.τ).loc Cert.Kernel49.main_arg2) = m ((c.tc : Thread Cert.Kernel49.nD Cert.Kernel49.τ).loc Cert.Kernel49.main_arg2))
      ∧ r.2.sem = fun _ => 0)

def quiescent_Kernel49Ideal [hKernel49Ideal : Cert.Kernel49Ideal.Facts] : Prop :=
  ∀ (m : (ℓ : Loc Cert.Kernel49Ideal.nD Cert.Kernel49Ideal.τ Cert.Kernel49Ideal.sig) → Buf (Elt Ideal) ℓ) (g : Dev Cert.Kernel49Ideal.nD → PrngReg), Pre_Kernel49Ideal m →
    θ_run (Cert.Kernel49Ideal.defs (F := Ideal)) (onTc (τ := Cert.Kernel49Ideal.τ) (Cert.Kernel49Ideal.main (F := Ideal))) ⟨m, fun _ => 0, g⟩ (fun r => (∀ c : Dev Cert.Kernel49Ideal.nD,
      r.2.mem ((c.tc : Thread Cert.Kernel49Ideal.nD Cert.Kernel49Ideal.τ).loc Cert.Kernel49Ideal.main_arg0) = m ((c.tc : Thread Cert.Kernel49Ideal.nD Cert.Kernel49Ideal.τ).loc Cert.Kernel49Ideal.main_arg0)
      ∧ r.2.mem ((c.tc : Thread Cert.Kernel49Ideal.nD Cert.Kernel49Ideal.τ).loc Cert.Kernel49Ideal.main_arg1) = m ((c.tc : Thread Cert.Kernel49Ideal.nD Cert.Kernel49Ideal.τ).loc Cert.Kernel49Ideal.main_arg1)
      ∧ r.2.mem ((c.tc : Thread Cert.Kernel49Ideal.nD Cert.Kernel49Ideal.τ).loc Cert.Kernel49Ideal.main_arg2) = m ((c.tc : Thread Cert.Kernel49Ideal.nD Cert.Kernel49Ideal.τ).loc Cert.Kernel49Ideal.main_arg2))
      ∧ r.2.sem = fun _ => 0)

def quiescent_Reference49Ideal [hReference49Ideal : Cert.Reference49Ideal.Facts] : Prop :=
  ∀ (m : (ℓ : Loc Cert.Reference49Ideal.nD Cert.Reference49Ideal.τ Cert.Reference49Ideal.sig) → Buf (Elt Ideal) ℓ) (g : Dev Cert.Reference49Ideal.nD → PrngReg), Pre_Reference49Ideal m →
    θ_run (Cert.Reference49Ideal.defs (F := Ideal)) (onTc (τ := Cert.Reference49Ideal.τ) (Cert.Reference49Ideal.main (F := Ideal))) ⟨m, fun _ => 0, g⟩ (fun r => (∀ c : Dev Cert.Reference49Ideal.nD,
      r.2.mem ((c.tc : Thread Cert.Reference49Ideal.nD Cert.Reference49Ideal.τ).loc Cert.Reference49Ideal.main_arg0) = m ((c.tc : Thread Cert.Reference49Ideal.nD Cert.Reference49Ideal.τ).loc Cert.Reference49Ideal.main_arg0)
      ∧ r.2.mem ((c.tc : Thread Cert.Reference49Ideal.nD Cert.Reference49Ideal.τ).loc Cert.Reference49Ideal.main_arg1) = m ((c.tc : Thread Cert.Reference49Ideal.nD Cert.Reference49Ideal.τ).loc Cert.Reference49Ideal.main_arg1)
      ∧ r.2.mem ((c.tc : Thread Cert.Reference49Ideal.nD Cert.Reference49Ideal.τ).loc Cert.Reference49Ideal.main_arg2) = m ((c.tc : Thread Cert.Reference49Ideal.nD Cert.Reference49Ideal.τ).loc Cert.Reference49Ideal.main_arg2))
      ∧ r.2.sem = fun _ => 0)

def quiescent_Kernel50 [hKernel50 : Cert.Kernel50.Facts] : Prop :=
  ∀ (m : (ℓ : Loc Cert.Kernel50.nD Cert.Kernel50.τ Cert.Kernel50.sig) → Buf (Elt Bits) ℓ) (g : Dev Cert.Kernel50.nD → PrngReg), Pre_Kernel50 m →
    θ_run (Cert.Kernel50.defs (F := Bits)) (onTc (τ := Cert.Kernel50.τ) (Cert.Kernel50.main (F := Bits))) ⟨m, fun _ => 0, g⟩ (fun r => (∀ c : Dev Cert.Kernel50.nD,
      r.2.mem ((c.tc : Thread Cert.Kernel50.nD Cert.Kernel50.τ).loc Cert.Kernel50.main_arg0) = m ((c.tc : Thread Cert.Kernel50.nD Cert.Kernel50.τ).loc Cert.Kernel50.main_arg0)
      ∧ r.2.mem ((c.tc : Thread Cert.Kernel50.nD Cert.Kernel50.τ).loc Cert.Kernel50.main_arg1) = m ((c.tc : Thread Cert.Kernel50.nD Cert.Kernel50.τ).loc Cert.Kernel50.main_arg1)
      ∧ r.2.mem ((c.tc : Thread Cert.Kernel50.nD Cert.Kernel50.τ).loc Cert.Kernel50.main_arg2) = m ((c.tc : Thread Cert.Kernel50.nD Cert.Kernel50.τ).loc Cert.Kernel50.main_arg2))
      ∧ r.2.sem = fun _ => 0)

def quiescent_Kernel50Ideal [hKernel50Ideal : Cert.Kernel50Ideal.Facts] : Prop :=
  ∀ (m : (ℓ : Loc Cert.Kernel50Ideal.nD Cert.Kernel50Ideal.τ Cert.Kernel50Ideal.sig) → Buf (Elt Ideal) ℓ) (g : Dev Cert.Kernel50Ideal.nD → PrngReg), Pre_Kernel50Ideal m →
    θ_run (Cert.Kernel50Ideal.defs (F := Ideal)) (onTc (τ := Cert.Kernel50Ideal.τ) (Cert.Kernel50Ideal.main (F := Ideal))) ⟨m, fun _ => 0, g⟩ (fun r => (∀ c : Dev Cert.Kernel50Ideal.nD,
      r.2.mem ((c.tc : Thread Cert.Kernel50Ideal.nD Cert.Kernel50Ideal.τ).loc Cert.Kernel50Ideal.main_arg0) = m ((c.tc : Thread Cert.Kernel50Ideal.nD Cert.Kernel50Ideal.τ).loc Cert.Kernel50Ideal.main_arg0)
      ∧ r.2.mem ((c.tc : Thread Cert.Kernel50Ideal.nD Cert.Kernel50Ideal.τ).loc Cert.Kernel50Ideal.main_arg1) = m ((c.tc : Thread Cert.Kernel50Ideal.nD Cert.Kernel50Ideal.τ).loc Cert.Kernel50Ideal.main_arg1)
      ∧ r.2.mem ((c.tc : Thread Cert.Kernel50Ideal.nD Cert.Kernel50Ideal.τ).loc Cert.Kernel50Ideal.main_arg2) = m ((c.tc : Thread Cert.Kernel50Ideal.nD Cert.Kernel50Ideal.τ).loc Cert.Kernel50Ideal.main_arg2))
      ∧ r.2.sem = fun _ => 0)

def quiescent_Reference50Ideal [hReference50Ideal : Cert.Reference50Ideal.Facts] : Prop :=
  ∀ (m : (ℓ : Loc Cert.Reference50Ideal.nD Cert.Reference50Ideal.τ Cert.Reference50Ideal.sig) → Buf (Elt Ideal) ℓ) (g : Dev Cert.Reference50Ideal.nD → PrngReg), Pre_Reference50Ideal m →
    θ_run (Cert.Reference50Ideal.defs (F := Ideal)) (onTc (τ := Cert.Reference50Ideal.τ) (Cert.Reference50Ideal.main (F := Ideal))) ⟨m, fun _ => 0, g⟩ (fun r => (∀ c : Dev Cert.Reference50Ideal.nD,
      r.2.mem ((c.tc : Thread Cert.Reference50Ideal.nD Cert.Reference50Ideal.τ).loc Cert.Reference50Ideal.main_arg0) = m ((c.tc : Thread Cert.Reference50Ideal.nD Cert.Reference50Ideal.τ).loc Cert.Reference50Ideal.main_arg0)
      ∧ r.2.mem ((c.tc : Thread Cert.Reference50Ideal.nD Cert.Reference50Ideal.τ).loc Cert.Reference50Ideal.main_arg1) = m ((c.tc : Thread Cert.Reference50Ideal.nD Cert.Reference50Ideal.τ).loc Cert.Reference50Ideal.main_arg1)
      ∧ r.2.mem ((c.tc : Thread Cert.Reference50Ideal.nD Cert.Reference50Ideal.τ).loc Cert.Reference50Ideal.main_arg2) = m ((c.tc : Thread Cert.Reference50Ideal.nD Cert.Reference50Ideal.τ).loc Cert.Reference50Ideal.main_arg2))
      ∧ r.2.sem = fun _ => 0)

def quiescent_Kernel51 [hKernel51 : Cert.Kernel51.Facts] : Prop :=
  ∀ (m : (ℓ : Loc Cert.Kernel51.nD Cert.Kernel51.τ Cert.Kernel51.sig) → Buf (Elt Bits) ℓ) (g : Dev Cert.Kernel51.nD → PrngReg), Pre_Kernel51 m →
    θ_run (Cert.Kernel51.defs (F := Bits)) (onTc (τ := Cert.Kernel51.τ) (Cert.Kernel51.main (F := Bits))) ⟨m, fun _ => 0, g⟩ (fun r => (∀ c : Dev Cert.Kernel51.nD,
      r.2.mem ((c.tc : Thread Cert.Kernel51.nD Cert.Kernel51.τ).loc Cert.Kernel51.main_arg0) = m ((c.tc : Thread Cert.Kernel51.nD Cert.Kernel51.τ).loc Cert.Kernel51.main_arg0)
      ∧ r.2.mem ((c.tc : Thread Cert.Kernel51.nD Cert.Kernel51.τ).loc Cert.Kernel51.main_arg1) = m ((c.tc : Thread Cert.Kernel51.nD Cert.Kernel51.τ).loc Cert.Kernel51.main_arg1)
      ∧ r.2.mem ((c.tc : Thread Cert.Kernel51.nD Cert.Kernel51.τ).loc Cert.Kernel51.main_arg2) = m ((c.tc : Thread Cert.Kernel51.nD Cert.Kernel51.τ).loc Cert.Kernel51.main_arg2)
      ∧ r.2.mem ((c.tc : Thread Cert.Kernel51.nD Cert.Kernel51.τ).loc Cert.Kernel51.main_arg3) = m ((c.tc : Thread Cert.Kernel51.nD Cert.Kernel51.τ).loc Cert.Kernel51.main_arg3))
      ∧ r.2.sem = fun _ => 0)

def quiescent_Kernel51Ideal [hKernel51Ideal : Cert.Kernel51Ideal.Facts] : Prop :=
  ∀ (m : (ℓ : Loc Cert.Kernel51Ideal.nD Cert.Kernel51Ideal.τ Cert.Kernel51Ideal.sig) → Buf (Elt Ideal) ℓ) (g : Dev Cert.Kernel51Ideal.nD → PrngReg), Pre_Kernel51Ideal m →
    θ_run (Cert.Kernel51Ideal.defs (F := Ideal)) (onTc (τ := Cert.Kernel51Ideal.τ) (Cert.Kernel51Ideal.main (F := Ideal))) ⟨m, fun _ => 0, g⟩ (fun r => (∀ c : Dev Cert.Kernel51Ideal.nD,
      r.2.mem ((c.tc : Thread Cert.Kernel51Ideal.nD Cert.Kernel51Ideal.τ).loc Cert.Kernel51Ideal.main_arg0) = m ((c.tc : Thread Cert.Kernel51Ideal.nD Cert.Kernel51Ideal.τ).loc Cert.Kernel51Ideal.main_arg0)
      ∧ r.2.mem ((c.tc : Thread Cert.Kernel51Ideal.nD Cert.Kernel51Ideal.τ).loc Cert.Kernel51Ideal.main_arg1) = m ((c.tc : Thread Cert.Kernel51Ideal.nD Cert.Kernel51Ideal.τ).loc Cert.Kernel51Ideal.main_arg1)
      ∧ r.2.mem ((c.tc : Thread Cert.Kernel51Ideal.nD Cert.Kernel51Ideal.τ).loc Cert.Kernel51Ideal.main_arg2) = m ((c.tc : Thread Cert.Kernel51Ideal.nD Cert.Kernel51Ideal.τ).loc Cert.Kernel51Ideal.main_arg2)
      ∧ r.2.mem ((c.tc : Thread Cert.Kernel51Ideal.nD Cert.Kernel51Ideal.τ).loc Cert.Kernel51Ideal.main_arg3) = m ((c.tc : Thread Cert.Kernel51Ideal.nD Cert.Kernel51Ideal.τ).loc Cert.Kernel51Ideal.main_arg3))
      ∧ r.2.sem = fun _ => 0)

def quiescent_Reference51Ideal [hReference51Ideal : Cert.Reference51Ideal.Facts] : Prop :=
  ∀ (m : (ℓ : Loc Cert.Reference51Ideal.nD Cert.Reference51Ideal.τ Cert.Reference51Ideal.sig) → Buf (Elt Ideal) ℓ) (g : Dev Cert.Reference51Ideal.nD → PrngReg), Pre_Reference51Ideal m →
    θ_run (Cert.Reference51Ideal.defs (F := Ideal)) (onTc (τ := Cert.Reference51Ideal.τ) (Cert.Reference51Ideal.main (F := Ideal))) ⟨m, fun _ => 0, g⟩ (fun r => (∀ c : Dev Cert.Reference51Ideal.nD,
      r.2.mem ((c.tc : Thread Cert.Reference51Ideal.nD Cert.Reference51Ideal.τ).loc Cert.Reference51Ideal.main_arg0) = m ((c.tc : Thread Cert.Reference51Ideal.nD Cert.Reference51Ideal.τ).loc Cert.Reference51Ideal.main_arg0)
      ∧ r.2.mem ((c.tc : Thread Cert.Reference51Ideal.nD Cert.Reference51Ideal.τ).loc Cert.Reference51Ideal.main_arg1) = m ((c.tc : Thread Cert.Reference51Ideal.nD Cert.Reference51Ideal.τ).loc Cert.Reference51Ideal.main_arg1)
      ∧ r.2.mem ((c.tc : Thread Cert.Reference51Ideal.nD Cert.Reference51Ideal.τ).loc Cert.Reference51Ideal.main_arg2) = m ((c.tc : Thread Cert.Reference51Ideal.nD Cert.Reference51Ideal.τ).loc Cert.Reference51Ideal.main_arg2)
      ∧ r.2.mem ((c.tc : Thread Cert.Reference51Ideal.nD Cert.Reference51Ideal.τ).loc Cert.Reference51Ideal.main_arg3) = m ((c.tc : Thread Cert.Reference51Ideal.nD Cert.Reference51Ideal.τ).loc Cert.Reference51Ideal.main_arg3))
      ∧ r.2.sem = fun _ => 0)

def quiescent_Kernel52 [hKernel52 : Cert.Kernel52.Facts] : Prop :=
  ∀ (m : (ℓ : Loc Cert.Kernel52.nD Cert.Kernel52.τ Cert.Kernel52.sig) → Buf (Elt Bits) ℓ) (g : Dev Cert.Kernel52.nD → PrngReg), Pre_Kernel52 m →
    θ_run (Cert.Kernel52.defs (F := Bits)) (onTc (τ := Cert.Kernel52.τ) (Cert.Kernel52.main (F := Bits))) ⟨m, fun _ => 0, g⟩ (fun r => (∀ c : Dev Cert.Kernel52.nD,
      r.2.mem ((c.tc : Thread Cert.Kernel52.nD Cert.Kernel52.τ).loc Cert.Kernel52.main_arg0) = m ((c.tc : Thread Cert.Kernel52.nD Cert.Kernel52.τ).loc Cert.Kernel52.main_arg0)
      ∧ r.2.mem ((c.tc : Thread Cert.Kernel52.nD Cert.Kernel52.τ).loc Cert.Kernel52.main_arg1) = m ((c.tc : Thread Cert.Kernel52.nD Cert.Kernel52.τ).loc Cert.Kernel52.main_arg1))
      ∧ r.2.sem = fun _ => 0)

def quiescent_Kernel52Ideal [hKernel52Ideal : Cert.Kernel52Ideal.Facts] : Prop :=
  ∀ (m : (ℓ : Loc Cert.Kernel52Ideal.nD Cert.Kernel52Ideal.τ Cert.Kernel52Ideal.sig) → Buf (Elt Ideal) ℓ) (g : Dev Cert.Kernel52Ideal.nD → PrngReg), Pre_Kernel52Ideal m →
    θ_run (Cert.Kernel52Ideal.defs (F := Ideal)) (onTc (τ := Cert.Kernel52Ideal.τ) (Cert.Kernel52Ideal.main (F := Ideal))) ⟨m, fun _ => 0, g⟩ (fun r => (∀ c : Dev Cert.Kernel52Ideal.nD,
      r.2.mem ((c.tc : Thread Cert.Kernel52Ideal.nD Cert.Kernel52Ideal.τ).loc Cert.Kernel52Ideal.main_arg0) = m ((c.tc : Thread Cert.Kernel52Ideal.nD Cert.Kernel52Ideal.τ).loc Cert.Kernel52Ideal.main_arg0)
      ∧ r.2.mem ((c.tc : Thread Cert.Kernel52Ideal.nD Cert.Kernel52Ideal.τ).loc Cert.Kernel52Ideal.main_arg1) = m ((c.tc : Thread Cert.Kernel52Ideal.nD Cert.Kernel52Ideal.τ).loc Cert.Kernel52Ideal.main_arg1))
      ∧ r.2.sem = fun _ => 0)

def quiescent_Reference52Ideal [hReference52Ideal : Cert.Reference52Ideal.Facts] : Prop :=
  ∀ (m : (ℓ : Loc Cert.Reference52Ideal.nD Cert.Reference52Ideal.τ Cert.Reference52Ideal.sig) → Buf (Elt Ideal) ℓ) (g : Dev Cert.Reference52Ideal.nD → PrngReg), Pre_Reference52Ideal m →
    θ_run (Cert.Reference52Ideal.defs (F := Ideal)) (onTc (τ := Cert.Reference52Ideal.τ) (Cert.Reference52Ideal.main (F := Ideal))) ⟨m, fun _ => 0, g⟩ (fun r => (∀ c : Dev Cert.Reference52Ideal.nD,
      r.2.mem ((c.tc : Thread Cert.Reference52Ideal.nD Cert.Reference52Ideal.τ).loc Cert.Reference52Ideal.main_arg0) = m ((c.tc : Thread Cert.Reference52Ideal.nD Cert.Reference52Ideal.τ).loc Cert.Reference52Ideal.main_arg0)
      ∧ r.2.mem ((c.tc : Thread Cert.Reference52Ideal.nD Cert.Reference52Ideal.τ).loc Cert.Reference52Ideal.main_arg1) = m ((c.tc : Thread Cert.Reference52Ideal.nD Cert.Reference52Ideal.τ).loc Cert.Reference52Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)) (v4 : (c : Dev Cert.KernelIdeal.nD) → Buf (Elt Ideal) ((c.tc : Thread Cert.KernelIdeal.nD Cert.KernelIdeal.τ).loc Cert.KernelIdeal.main_v1_4)) (v5 : (c : Dev Cert.KernelIdeal.nD) → Buf (Elt Ideal) ((c.tc : Thread Cert.KernelIdeal.nD Cert.KernelIdeal.τ).loc Cert.KernelIdeal.main_v1_5)) (v6 : (c : Dev Cert.KernelIdeal.nD) → Buf (Elt Ideal) ((c.tc : Thread Cert.KernelIdeal.nD Cert.KernelIdeal.τ).loc Cert.KernelIdeal.main_v1_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_v1_4) = v4 c
          ∧ r.2.mem ((c.tc : Thread Cert.KernelIdeal.nD Cert.KernelIdeal.τ).loc Cert.KernelIdeal.main_v1_5) = v5 c
          ∧ r.2.mem ((c.tc : Thread Cert.KernelIdeal.nD Cert.KernelIdeal.τ).loc Cert.KernelIdeal.main_v1_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_v63) = v2 c
          ∧ r.2.mem ((c.tc : Thread Cert.ReferenceIdeal.nD Cert.ReferenceIdeal.τ).loc Cert.ReferenceIdeal.main_v64) = v3 c
          ∧ r.2.mem ((c.tc : Thread Cert.ReferenceIdeal.nD Cert.ReferenceIdeal.τ).loc Cert.ReferenceIdeal.main_v73) = v4 c
          ∧ r.2.mem ((c.tc : Thread Cert.ReferenceIdeal.nD Cert.ReferenceIdeal.τ).loc Cert.ReferenceIdeal.main_v74) = v5 c
          ∧ r.2.mem ((c.tc : Thread Cert.ReferenceIdeal.nD Cert.ReferenceIdeal.τ).loc Cert.ReferenceIdeal.main_v77) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v10) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v15) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v12) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v8) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v13) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v7) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v11) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v6) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v15) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v17) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v15) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v7) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v12) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v6) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v6) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v10) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v15) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v7) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v12) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v8) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v13) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v7) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v11) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v6) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)) →
    ∃ (v0 : (c : Dev Cert.Kernel28Ideal.nD) → Buf (Elt Ideal) ((c.tc : Thread Cert.Kernel28Ideal.nD Cert.Kernel28Ideal.τ).loc Cert.Kernel28Ideal.main_v0)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v5) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)) →
    ∃ (v0 : (c : Dev Cert.Kernel29Ideal.nD) → Buf (Elt Ideal) ((c.tc : Thread Cert.Kernel29Ideal.nD Cert.Kernel29Ideal.τ).loc Cert.Kernel29Ideal.main_v0)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v15) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)) →
    ∃ (v0 : (c : Dev Cert.Kernel30Ideal.nD) → Buf (Elt Ideal) ((c.tc : Thread Cert.Kernel30Ideal.nD Cert.Kernel30Ideal.τ).loc Cert.Kernel30Ideal.main_v0)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v17) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)) →
    ∃ (v0 : (c : Dev Cert.Kernel31Ideal.nD) → Buf (Elt Ideal) ((c.tc : Thread Cert.Kernel31Ideal.nD Cert.Kernel31Ideal.τ).loc Cert.Kernel31Ideal.main_v0)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v15) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)) →
    ∃ (v0 : (c : Dev Cert.Kernel32Ideal.nD) → Buf (Elt Ideal) ((c.tc : Thread Cert.Kernel32Ideal.nD Cert.Kernel32Ideal.τ).loc Cert.Kernel32Ideal.main_v0)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0) = v0 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v7) = v0 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)) →
    ∃ (v0 : (c : Dev Cert.Kernel33Ideal.nD) → Buf (Elt Ideal) ((c.tc : Thread Cert.Kernel33Ideal.nD Cert.Kernel33Ideal.τ).loc Cert.Kernel33Ideal.main_v0)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0) = v0 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v12) = v0 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)
      ∧ m' ((c.tc : Thread Cert.Reference34Ideal.nD Cert.Reference34Ideal.τ).loc Cert.Reference34Ideal.main_arg3) = m ((c.tc : Thread Cert.Kernel34Ideal.nD Cert.Kernel34Ideal.τ).loc Cert.Kernel34Ideal.main_arg3)) →
    ∃ (v0 : (c : Dev Cert.Kernel34Ideal.nD) → Buf (Elt Ideal) ((c.tc : Thread Cert.Kernel34Ideal.nD Cert.Kernel34Ideal.τ).loc Cert.Kernel34Ideal.main_v0)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0) = v0 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
          ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v6) = v0 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2)
          ∧ r.2.mem ((c.tc : Thread Cert.Reference34Ideal.nD Cert.Reference34Ideal.τ).loc Cert.Reference34Ideal.main_arg3) = m' ((c.tc : Thread Cert.Reference34Ideal.nD Cert.Reference34Ideal.τ).loc Cert.Reference34Ideal.main_arg3))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)) →
    ∃ (v0 : (c : Dev Cert.Kernel35Ideal.nD) → Buf (Elt Ideal) ((c.tc : Thread Cert.Kernel35Ideal.nD Cert.Kernel35Ideal.τ).loc Cert.Kernel35Ideal.main_v0)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v0) = v0 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v6) = v0 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)
      ∧ m' ((c.tc : Thread Cert.Reference36Ideal.nD Cert.Reference36Ideal.τ).loc Cert.Reference36Ideal.main_arg2) = m ((c.tc : Thread Cert.Kernel36Ideal.nD Cert.Kernel36Ideal.τ).loc Cert.Kernel36Ideal.main_arg2)
      ∧ m' ((c.tc : Thread Cert.Reference36Ideal.nD Cert.Reference36Ideal.τ).loc Cert.Reference36Ideal.main_arg3) = m ((c.tc : Thread Cert.Kernel36Ideal.nD Cert.Kernel36Ideal.τ).loc Cert.Kernel36Ideal.main_arg3)) →
    ∃ (v0 : (c : Dev Cert.Kernel36Ideal.nD) → Buf (Elt Ideal) ((c.tc : Thread Cert.Kernel36Ideal.nD Cert.Kernel36Ideal.τ).loc Cert.Kernel36Ideal.main_v0_0)) (v1 : (c : Dev Cert.Kernel36Ideal.nD) → Buf (Elt Ideal) ((c.tc : Thread Cert.Kernel36Ideal.nD Cert.Kernel36Ideal.τ).loc Cert.Kernel36Ideal.main_v0_1)) (v2 : (c : Dev Cert.Kernel36Ideal.nD) → Buf (Elt Ideal) ((c.tc : Thread Cert.Kernel36Ideal.nD Cert.Kernel36Ideal.τ).loc Cert.Kernel36Ideal.main_v0_2)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v0_0) = v0 c
          ∧ r.2.mem ((c.tc : Thread Cert.Kernel36Ideal.nD Cert.Kernel36Ideal.τ).loc Cert.Kernel36Ideal.main_v0_1) = v1 c
          ∧ r.2.mem ((c.tc : Thread Cert.Kernel36Ideal.nD Cert.Kernel36Ideal.τ).loc Cert.Kernel36Ideal.main_v0_2) = v2 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
          ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
          ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v23) = v0 c
          ∧ r.2.mem ((c.tc : Thread Cert.Reference36Ideal.nD Cert.Reference36Ideal.τ).loc Cert.Reference36Ideal.main_v4) = v1 c
          ∧ r.2.mem ((c.tc : Thread Cert.Reference36Ideal.nD Cert.Reference36Ideal.τ).loc Cert.Reference36Ideal.main_v10) = v2 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1)
          ∧ r.2.mem ((c.tc : Thread Cert.Reference36Ideal.nD Cert.Reference36Ideal.τ).loc Cert.Reference36Ideal.main_arg2) = m' ((c.tc : Thread Cert.Reference36Ideal.nD Cert.Reference36Ideal.τ).loc Cert.Reference36Ideal.main_arg2)
          ∧ r.2.mem ((c.tc : Thread Cert.Reference36Ideal.nD Cert.Reference36Ideal.τ).loc Cert.Reference36Ideal.main_arg3) = m' ((c.tc : Thread Cert.Reference36Ideal.nD Cert.Reference36Ideal.τ).loc Cert.Reference36Ideal.main_arg3))

def preserves_Kernel37_Kernel37Ideal : Prop :=
  True

def algebraic_Kernel37Ideal_Reference37Ideal [hKernel37Ideal : Cert.Kernel37Ideal.Facts] [hReference37Ideal : Cert.Reference37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg)
    (m' : (ℓ : Loc Cert.Reference37Ideal.nD Cert.Reference37Ideal.τ Cert.Reference37Ideal.sig) → Buf (Elt Ideal) ℓ) (g' : Dev Cert.Reference37Ideal.nD → PrngReg), Pre_Kernel37Ideal m →
    (∀ c : Dev Cert.Kernel37Ideal.nD,
      m' ((c.tc : Thread Cert.Reference37Ideal.nD Cert.Reference37Ideal.τ).loc Cert.Reference37Ideal.main_arg0) = m ((c.tc : Thread Cert.Kernel37Ideal.nD Cert.Kernel37Ideal.τ).loc Cert.Kernel37Ideal.main_arg0)
      ∧ m' ((c.tc : Thread Cert.Reference37Ideal.nD Cert.Reference37Ideal.τ).loc Cert.Reference37Ideal.main_arg1) = m ((c.tc : Thread Cert.Kernel37Ideal.nD Cert.Kernel37Ideal.τ).loc Cert.Kernel37Ideal.main_arg1)
      ∧ m' ((c.tc : Thread Cert.Reference37Ideal.nD Cert.Reference37Ideal.τ).loc Cert.Reference37Ideal.main_arg2) = m ((c.tc : Thread Cert.Kernel37Ideal.nD Cert.Kernel37Ideal.τ).loc Cert.Kernel37Ideal.main_arg2)
      ∧ m' ((c.tc : Thread Cert.Reference37Ideal.nD Cert.Reference37Ideal.τ).loc Cert.Reference37Ideal.main_arg3) = m ((c.tc : Thread Cert.Kernel37Ideal.nD Cert.Kernel37Ideal.τ).loc Cert.Kernel37Ideal.main_arg3)) →
    ∃ (v0 : (c : Dev Cert.Kernel37Ideal.nD) → Buf (Elt Ideal) ((c.tc : Thread Cert.Kernel37Ideal.nD Cert.Kernel37Ideal.τ).loc Cert.Kernel37Ideal.main_v0_0)) (v1 : (c : Dev Cert.Kernel37Ideal.nD) → Buf (Elt Ideal) ((c.tc : Thread Cert.Kernel37Ideal.nD Cert.Kernel37Ideal.τ).loc Cert.Kernel37Ideal.main_v0_1)) (v2 : (c : Dev Cert.Kernel37Ideal.nD) → Buf (Elt Ideal) ((c.tc : Thread Cert.Kernel37Ideal.nD Cert.Kernel37Ideal.τ).loc Cert.Kernel37Ideal.main_v0_2)) (v3 : (c : Dev Cert.Kernel37Ideal.nD) → Buf (Elt Ideal) ((c.tc : Thread Cert.Kernel37Ideal.nD Cert.Kernel37Ideal.τ).loc Cert.Kernel37Ideal.main_v0_3)),
      θ_run (Cert.Kernel37Ideal.defs (F := Ideal)) (onTc (τ := Cert.Kernel37Ideal.τ) (Cert.Kernel37Ideal.main (F := Ideal))) ⟨m, fun _ => 0, g⟩ (fun r => ∀ c : Dev Cert.Kernel37Ideal.nD,
          r.2.mem ((c.tc : Thread Cert.Kernel37Ideal.nD Cert.Kernel37Ideal.τ).loc Cert.Kernel37Ideal.main_v0_0) = v0 c
          ∧ r.2.mem ((c.tc : Thread Cert.Kernel37Ideal.nD Cert.Kernel37Ideal.τ).loc Cert.Kernel37Ideal.main_v0_1) = v1 c
          ∧ r.2.mem ((c.tc : Thread Cert.Kernel37Ideal.nD Cert.Kernel37Ideal.τ).loc Cert.Kernel37Ideal.main_v0_2) = v2 c
          ∧ r.2.mem ((c.tc : Thread Cert.Kernel37Ideal.nD Cert.Kernel37Ideal.τ).loc Cert.Kernel37Ideal.main_v0_3) = v3 c
          ∧ r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
          ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
          ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
          ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3))
      ∧ θ_run (Cert.Reference37Ideal.defs (F := Ideal)) (onTc (τ := Cert.Reference37Ideal.τ) (Cert.Reference37Ideal.main (F := Ideal))) ⟨m', fun _ => 0, g'⟩ (fun r => ∀ c : Dev Cert.Reference37Ideal.nD,
          r.2.mem ((c.tc : Thread Cert.Reference37Ideal.nD Cert.Reference37Ideal.τ).loc Cert.Reference37Ideal.main_v23) = v0 c
          ∧ r.2.mem ((c.tc : Thread Cert.Reference37Ideal.nD Cert.Reference37Ideal.τ).loc Cert.Reference37Ideal.main_v4) = v1 c
          ∧ r.2.mem ((c.tc : Thread Cert.Reference37Ideal.nD Cert.Reference37Ideal.τ).loc Cert.Reference37Ideal.main_v10) = v2 c
          ∧ r.2.mem ((c.tc : Thread Cert.Reference37Ideal.nD Cert.Reference37Ideal.τ).loc Cert.Reference37Ideal.main_arg1) = v3 c
          ∧ r.2.mem ((c.tc : Thread Cert.Reference37Ideal.nD Cert.Reference37Ideal.τ).loc Cert.Reference37Ideal.main_arg0) = m' ((c.tc : Thread Cert.Reference37Ideal.nD Cert.Reference37Ideal.τ).loc Cert.Reference37Ideal.main_arg0)
          ∧ r.2.mem ((c.tc : Thread Cert.Reference37Ideal.nD Cert.Reference37Ideal.τ).loc Cert.Reference37Ideal.main_arg1) = m' ((c.tc : Thread Cert.Reference37Ideal.nD Cert.Reference37Ideal.τ).loc Cert.Reference37Ideal.main_arg1)
          ∧ r.2.mem ((c.tc : Thread Cert.Reference37Ideal.nD Cert.Reference37Ideal.τ).loc Cert.Reference37Ideal.main_arg2) = m' ((c.tc : Thread Cert.Reference37Ideal.nD Cert.Reference37Ideal.τ).loc Cert.Reference37Ideal.main_arg2)
          ∧ r.2.mem ((c.tc : Thread Cert.Reference37Ideal.nD Cert.Reference37Ideal.τ).loc Cert.Reference37Ideal.main_arg3) = m' ((c.tc : Thread Cert.Reference37Ideal.nD Cert.Reference37Ideal.τ).loc Cert.Reference37Ideal.main_arg3))

def preserves_Kernel38_Kernel38Ideal : Prop :=
  True

def algebraic_Kernel38Ideal_Reference38Ideal [hKernel38Ideal : Cert.Kernel38Ideal.Facts] [hReference38Ideal : Cert.Reference38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg)
    (m' : (ℓ : Loc Cert.Reference38Ideal.nD Cert.Reference38Ideal.τ Cert.Reference38Ideal.sig) → Buf (Elt Ideal) ℓ) (g' : Dev Cert.Reference38Ideal.nD → PrngReg), Pre_Kernel38Ideal m →
    (∀ c : Dev Cert.Kernel38Ideal.nD,
      m' ((c.tc : Thread Cert.Reference38Ideal.nD Cert.Reference38Ideal.τ).loc Cert.Reference38Ideal.main_arg0) = m ((c.tc : Thread Cert.Kernel38Ideal.nD Cert.Kernel38Ideal.τ).loc Cert.Kernel38Ideal.main_arg0)
      ∧ m' ((c.tc : Thread Cert.Reference38Ideal.nD Cert.Reference38Ideal.τ).loc Cert.Reference38Ideal.main_arg1) = m ((c.tc : Thread Cert.Kernel38Ideal.nD Cert.Kernel38Ideal.τ).loc Cert.Kernel38Ideal.main_arg1)
      ∧ m' ((c.tc : Thread Cert.Reference38Ideal.nD Cert.Reference38Ideal.τ).loc Cert.Reference38Ideal.main_arg2) = m ((c.tc : Thread Cert.Kernel38Ideal.nD Cert.Kernel38Ideal.τ).loc Cert.Kernel38Ideal.main_arg2)
      ∧ m' ((c.tc : Thread Cert.Reference38Ideal.nD Cert.Reference38Ideal.τ).loc Cert.Reference38Ideal.main_arg3) = m ((c.tc : Thread Cert.Kernel38Ideal.nD Cert.Kernel38Ideal.τ).loc Cert.Kernel38Ideal.main_arg3)) →
    ∃ (v0 : (c : Dev Cert.Kernel38Ideal.nD) → Buf (Elt Ideal) ((c.tc : Thread Cert.Kernel38Ideal.nD Cert.Kernel38Ideal.τ).loc Cert.Kernel38Ideal.main_v0_0)) (v1 : (c : Dev Cert.Kernel38Ideal.nD) → Buf (Elt Ideal) ((c.tc : Thread Cert.Kernel38Ideal.nD Cert.Kernel38Ideal.τ).loc Cert.Kernel38Ideal.main_v0_1)) (v2 : (c : Dev Cert.Kernel38Ideal.nD) → Buf (Elt Ideal) ((c.tc : Thread Cert.Kernel38Ideal.nD Cert.Kernel38Ideal.τ).loc Cert.Kernel38Ideal.main_v0_2)) (v3 : (c : Dev Cert.Kernel38Ideal.nD) → Buf (Elt Ideal) ((c.tc : Thread Cert.Kernel38Ideal.nD Cert.Kernel38Ideal.τ).loc Cert.Kernel38Ideal.main_v0_3)),
      θ_run (Cert.Kernel38Ideal.defs (F := Ideal)) (onTc (τ := Cert.Kernel38Ideal.τ) (Cert.Kernel38Ideal.main (F := Ideal))) ⟨m, fun _ => 0, g⟩ (fun r => ∀ c : Dev Cert.Kernel38Ideal.nD,
          r.2.mem ((c.tc : Thread Cert.Kernel38Ideal.nD Cert.Kernel38Ideal.τ).loc Cert.Kernel38Ideal.main_v0_0) = v0 c
          ∧ r.2.mem ((c.tc : Thread Cert.Kernel38Ideal.nD Cert.Kernel38Ideal.τ).loc Cert.Kernel38Ideal.main_v0_1) = v1 c
          ∧ r.2.mem ((c.tc : Thread Cert.Kernel38Ideal.nD Cert.Kernel38Ideal.τ).loc Cert.Kernel38Ideal.main_v0_2) = v2 c
          ∧ r.2.mem ((c.tc : Thread Cert.Kernel38Ideal.nD Cert.Kernel38Ideal.τ).loc Cert.Kernel38Ideal.main_v0_3) = v3 c
          ∧ r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
          ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
          ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2)
          ∧ r.2.mem ((c.tc : Thread Cert.Kernel38Ideal.nD Cert.Kernel38Ideal.τ).loc Cert.Kernel38Ideal.main_arg3) = m ((c.tc : Thread Cert.Kernel38Ideal.nD Cert.Kernel38Ideal.τ).loc Cert.Kernel38Ideal.main_arg3))
      ∧ θ_run (Cert.Reference38Ideal.defs (F := Ideal)) (onTc (τ := Cert.Reference38Ideal.τ) (Cert.Reference38Ideal.main (F := Ideal))) ⟨m', fun _ => 0, g'⟩ (fun r => ∀ c : Dev Cert.Reference38Ideal.nD,
          r.2.mem ((c.tc : Thread Cert.Reference38Ideal.nD Cert.Reference38Ideal.τ).loc Cert.Reference38Ideal.main_v23) = v0 c
          ∧ r.2.mem ((c.tc : Thread Cert.Reference38Ideal.nD Cert.Reference38Ideal.τ).loc Cert.Reference38Ideal.main_v4) = v1 c
          ∧ r.2.mem ((c.tc : Thread Cert.Reference38Ideal.nD Cert.Reference38Ideal.τ).loc Cert.Reference38Ideal.main_v10) = v2 c
          ∧ r.2.mem ((c.tc : Thread Cert.Reference38Ideal.nD Cert.Reference38Ideal.τ).loc Cert.Reference38Ideal.main_arg1) = v3 c
          ∧ r.2.mem ((c.tc : Thread Cert.Reference38Ideal.nD Cert.Reference38Ideal.τ).loc Cert.Reference38Ideal.main_arg0) = m' ((c.tc : Thread Cert.Reference38Ideal.nD Cert.Reference38Ideal.τ).loc Cert.Reference38Ideal.main_arg0)
          ∧ r.2.mem ((c.tc : Thread Cert.Reference38Ideal.nD Cert.Reference38Ideal.τ).loc Cert.Reference38Ideal.main_arg1) = m' ((c.tc : Thread Cert.Reference38Ideal.nD Cert.Reference38Ideal.τ).loc Cert.Reference38Ideal.main_arg1)
          ∧ r.2.mem ((c.tc : Thread Cert.Reference38Ideal.nD Cert.Reference38Ideal.τ).loc Cert.Reference38Ideal.main_arg2) = m' ((c.tc : Thread Cert.Reference38Ideal.nD Cert.Reference38Ideal.τ).loc Cert.Reference38Ideal.main_arg2)
          ∧ r.2.mem ((c.tc : Thread Cert.Reference38Ideal.nD Cert.Reference38Ideal.τ).loc Cert.Reference38Ideal.main_arg3) = m' ((c.tc : Thread Cert.Reference38Ideal.nD Cert.Reference38Ideal.τ).loc Cert.Reference38Ideal.main_arg3))

def preserves_Kernel39_Kernel39Ideal : Prop :=
  True

def algebraic_Kernel39Ideal_Reference39Ideal [hKernel39Ideal : Cert.Kernel39Ideal.Facts] [hReference39Ideal : Cert.Reference39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg)
    (m' : (ℓ : Loc Cert.Reference39Ideal.nD Cert.Reference39Ideal.τ Cert.Reference39Ideal.sig) → Buf (Elt Ideal) ℓ) (g' : Dev Cert.Reference39Ideal.nD → PrngReg), Pre_Kernel39Ideal m →
    (∀ c : Dev Cert.Kernel39Ideal.nD,
      m' ((c.tc : Thread Cert.Reference39Ideal.nD Cert.Reference39Ideal.τ).loc Cert.Reference39Ideal.main_arg0) = m ((c.tc : Thread Cert.Kernel39Ideal.nD Cert.Kernel39Ideal.τ).loc Cert.Kernel39Ideal.main_arg0)
      ∧ m' ((c.tc : Thread Cert.Reference39Ideal.nD Cert.Reference39Ideal.τ).loc Cert.Reference39Ideal.main_arg1) = m ((c.tc : Thread Cert.Kernel39Ideal.nD Cert.Kernel39Ideal.τ).loc Cert.Kernel39Ideal.main_arg1)
      ∧ m' ((c.tc : Thread Cert.Reference39Ideal.nD Cert.Reference39Ideal.τ).loc Cert.Reference39Ideal.main_arg2) = m ((c.tc : Thread Cert.Kernel39Ideal.nD Cert.Kernel39Ideal.τ).loc Cert.Kernel39Ideal.main_arg2)
      ∧ m' ((c.tc : Thread Cert.Reference39Ideal.nD Cert.Reference39Ideal.τ).loc Cert.Reference39Ideal.main_arg3) = m ((c.tc : Thread Cert.Kernel39Ideal.nD Cert.Kernel39Ideal.τ).loc Cert.Kernel39Ideal.main_arg3)) →
    ∃ (v0 : (c : Dev Cert.Kernel39Ideal.nD) → Buf (Elt Ideal) ((c.tc : Thread Cert.Kernel39Ideal.nD Cert.Kernel39Ideal.τ).loc Cert.Kernel39Ideal.main_v0_0)) (v1 : (c : Dev Cert.Kernel39Ideal.nD) → Buf (Elt Ideal) ((c.tc : Thread Cert.Kernel39Ideal.nD Cert.Kernel39Ideal.τ).loc Cert.Kernel39Ideal.main_v0_1)) (v2 : (c : Dev Cert.Kernel39Ideal.nD) → Buf (Elt Ideal) ((c.tc : Thread Cert.Kernel39Ideal.nD Cert.Kernel39Ideal.τ).loc Cert.Kernel39Ideal.main_v0_2)) (v3 : (c : Dev Cert.Kernel39Ideal.nD) → Buf (Elt Ideal) ((c.tc : Thread Cert.Kernel39Ideal.nD Cert.Kernel39Ideal.τ).loc Cert.Kernel39Ideal.main_v0_3)),
      θ_run (Cert.Kernel39Ideal.defs (F := Ideal)) (onTc (τ := Cert.Kernel39Ideal.τ) (Cert.Kernel39Ideal.main (F := Ideal))) ⟨m, fun _ => 0, g⟩ (fun r => ∀ c : Dev Cert.Kernel39Ideal.nD,
          r.2.mem ((c.tc : Thread Cert.Kernel39Ideal.nD Cert.Kernel39Ideal.τ).loc Cert.Kernel39Ideal.main_v0_0) = v0 c
          ∧ r.2.mem ((c.tc : Thread Cert.Kernel39Ideal.nD Cert.Kernel39Ideal.τ).loc Cert.Kernel39Ideal.main_v0_1) = v1 c
          ∧ r.2.mem ((c.tc : Thread Cert.Kernel39Ideal.nD Cert.Kernel39Ideal.τ).loc Cert.Kernel39Ideal.main_v0_2) = v2 c
          ∧ r.2.mem ((c.tc : Thread Cert.Kernel39Ideal.nD Cert.Kernel39Ideal.τ).loc Cert.Kernel39Ideal.main_v0_3) = v3 c
          ∧ r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
          ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
          ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2)
          ∧ r.2.mem ((c.tc : Thread Cert.Kernel39Ideal.nD Cert.Kernel39Ideal.τ).loc Cert.Kernel39Ideal.main_arg3) = m ((c.tc : Thread Cert.Kernel39Ideal.nD Cert.Kernel39Ideal.τ).loc Cert.Kernel39Ideal.main_arg3))
      ∧ θ_run (Cert.Reference39Ideal.defs (F := Ideal)) (onTc (τ := Cert.Reference39Ideal.τ) (Cert.Reference39Ideal.main (F := Ideal))) ⟨m', fun _ => 0, g'⟩ (fun r => ∀ c : Dev Cert.Reference39Ideal.nD,
          r.2.mem ((c.tc : Thread Cert.Reference39Ideal.nD Cert.Reference39Ideal.τ).loc Cert.Reference39Ideal.main_v23) = v0 c
          ∧ r.2.mem ((c.tc : Thread Cert.Reference39Ideal.nD Cert.Reference39Ideal.τ).loc Cert.Reference39Ideal.main_v4) = v1 c
          ∧ r.2.mem ((c.tc : Thread Cert.Reference39Ideal.nD Cert.Reference39Ideal.τ).loc Cert.Reference39Ideal.main_v10) = v2 c
          ∧ r.2.mem ((c.tc : Thread Cert.Reference39Ideal.nD Cert.Reference39Ideal.τ).loc Cert.Reference39Ideal.main_arg1) = v3 c
          ∧ r.2.mem ((c.tc : Thread Cert.Reference39Ideal.nD Cert.Reference39Ideal.τ).loc Cert.Reference39Ideal.main_arg0) = m' ((c.tc : Thread Cert.Reference39Ideal.nD Cert.Reference39Ideal.τ).loc Cert.Reference39Ideal.main_arg0)
          ∧ r.2.mem ((c.tc : Thread Cert.Reference39Ideal.nD Cert.Reference39Ideal.τ).loc Cert.Reference39Ideal.main_arg1) = m' ((c.tc : Thread Cert.Reference39Ideal.nD Cert.Reference39Ideal.τ).loc Cert.Reference39Ideal.main_arg1)
          ∧ r.2.mem ((c.tc : Thread Cert.Reference39Ideal.nD Cert.Reference39Ideal.τ).loc Cert.Reference39Ideal.main_arg2) = m' ((c.tc : Thread Cert.Reference39Ideal.nD Cert.Reference39Ideal.τ).loc Cert.Reference39Ideal.main_arg2)
          ∧ r.2.mem ((c.tc : Thread Cert.Reference39Ideal.nD Cert.Reference39Ideal.τ).loc Cert.Reference39Ideal.main_arg3) = m' ((c.tc : Thread Cert.Reference39Ideal.nD Cert.Reference39Ideal.τ).loc Cert.Reference39Ideal.main_arg3))

def preserves_Kernel40_Kernel40Ideal : Prop :=
  True

def algebraic_Kernel40Ideal_Reference40Ideal [hKernel40Ideal : Cert.Kernel40Ideal.Facts] [hReference40Ideal : Cert.Reference40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg)
    (m' : (ℓ : Loc Cert.Reference40Ideal.nD Cert.Reference40Ideal.τ Cert.Reference40Ideal.sig) → Buf (Elt Ideal) ℓ) (g' : Dev Cert.Reference40Ideal.nD → PrngReg), Pre_Kernel40Ideal m →
    (∀ c : Dev Cert.Kernel40Ideal.nD,
      m' ((c.tc : Thread Cert.Reference40Ideal.nD Cert.Reference40Ideal.τ).loc Cert.Reference40Ideal.main_arg0) = m ((c.tc : Thread Cert.Kernel40Ideal.nD Cert.Kernel40Ideal.τ).loc Cert.Kernel40Ideal.main_arg0)
      ∧ m' ((c.tc : Thread Cert.Reference40Ideal.nD Cert.Reference40Ideal.τ).loc Cert.Reference40Ideal.main_arg1) = m ((c.tc : Thread Cert.Kernel40Ideal.nD Cert.Kernel40Ideal.τ).loc Cert.Kernel40Ideal.main_arg1)
      ∧ m' ((c.tc : Thread Cert.Reference40Ideal.nD Cert.Reference40Ideal.τ).loc Cert.Reference40Ideal.main_arg2) = m ((c.tc : Thread Cert.Kernel40Ideal.nD Cert.Kernel40Ideal.τ).loc Cert.Kernel40Ideal.main_arg2)
      ∧ m' ((c.tc : Thread Cert.Reference40Ideal.nD Cert.Reference40Ideal.τ).loc Cert.Reference40Ideal.main_arg3) = m ((c.tc : Thread Cert.Kernel40Ideal.nD Cert.Kernel40Ideal.τ).loc Cert.Kernel40Ideal.main_arg3)) →
    ∃ (v0 : (c : Dev Cert.Kernel40Ideal.nD) → Buf (Elt Ideal) ((c.tc : Thread Cert.Kernel40Ideal.nD Cert.Kernel40Ideal.τ).loc Cert.Kernel40Ideal.main_v0_0)) (v1 : (c : Dev Cert.Kernel40Ideal.nD) → Buf (Elt Ideal) ((c.tc : Thread Cert.Kernel40Ideal.nD Cert.Kernel40Ideal.τ).loc Cert.Kernel40Ideal.main_v0_1)) (v2 : (c : Dev Cert.Kernel40Ideal.nD) → Buf (Elt Ideal) ((c.tc : Thread Cert.Kernel40Ideal.nD Cert.Kernel40Ideal.τ).loc Cert.Kernel40Ideal.main_v0_2)) (v3 : (c : Dev Cert.Kernel40Ideal.nD) → Buf (Elt Ideal) ((c.tc : Thread Cert.Kernel40Ideal.nD Cert.Kernel40Ideal.τ).loc Cert.Kernel40Ideal.main_v0_3)),
      θ_run (Cert.Kernel40Ideal.defs (F := Ideal)) (onTc (τ := Cert.Kernel40Ideal.τ) (Cert.Kernel40Ideal.main (F := Ideal))) ⟨m, fun _ => 0, g⟩ (fun r => ∀ c : Dev Cert.Kernel40Ideal.nD,
          r.2.mem ((c.tc : Thread Cert.Kernel40Ideal.nD Cert.Kernel40Ideal.τ).loc Cert.Kernel40Ideal.main_v0_0) = v0 c
          ∧ r.2.mem ((c.tc : Thread Cert.Kernel40Ideal.nD Cert.Kernel40Ideal.τ).loc Cert.Kernel40Ideal.main_v0_1) = v1 c
          ∧ r.2.mem ((c.tc : Thread Cert.Kernel40Ideal.nD Cert.Kernel40Ideal.τ).loc Cert.Kernel40Ideal.main_v0_2) = v2 c
          ∧ r.2.mem ((c.tc : Thread Cert.Kernel40Ideal.nD Cert.Kernel40Ideal.τ).loc Cert.Kernel40Ideal.main_v0_3) = v3 c
          ∧ r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
          ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1)
          ∧ r.2.mem ((c.tc : Thread Cert.Kernel40Ideal.nD Cert.Kernel40Ideal.τ).loc Cert.Kernel40Ideal.main_arg2) = m ((c.tc : Thread Cert.Kernel40Ideal.nD Cert.Kernel40Ideal.τ).loc Cert.Kernel40Ideal.main_arg2)
          ∧ r.2.mem ((c.tc : Thread Cert.Kernel40Ideal.nD Cert.Kernel40Ideal.τ).loc Cert.Kernel40Ideal.main_arg3) = m ((c.tc : Thread Cert.Kernel40Ideal.nD Cert.Kernel40Ideal.τ).loc Cert.Kernel40Ideal.main_arg3))
      ∧ θ_run (Cert.Reference40Ideal.defs (F := Ideal)) (onTc (τ := Cert.Reference40Ideal.τ) (Cert.Reference40Ideal.main (F := Ideal))) ⟨m', fun _ => 0, g'⟩ (fun r => ∀ c : Dev Cert.Reference40Ideal.nD,
          r.2.mem ((c.tc : Thread Cert.Reference40Ideal.nD Cert.Reference40Ideal.τ).loc Cert.Reference40Ideal.main_v23) = v0 c
          ∧ r.2.mem ((c.tc : Thread Cert.Reference40Ideal.nD Cert.Reference40Ideal.τ).loc Cert.Reference40Ideal.main_v4) = v1 c
          ∧ r.2.mem ((c.tc : Thread Cert.Reference40Ideal.nD Cert.Reference40Ideal.τ).loc Cert.Reference40Ideal.main_v10) = v2 c
          ∧ r.2.mem ((c.tc : Thread Cert.Reference40Ideal.nD Cert.Reference40Ideal.τ).loc Cert.Reference40Ideal.main_arg1) = v3 c
          ∧ r.2.mem ((c.tc : Thread Cert.Reference40Ideal.nD Cert.Reference40Ideal.τ).loc Cert.Reference40Ideal.main_arg0) = m' ((c.tc : Thread Cert.Reference40Ideal.nD Cert.Reference40Ideal.τ).loc Cert.Reference40Ideal.main_arg0)
          ∧ r.2.mem ((c.tc : Thread Cert.Reference40Ideal.nD Cert.Reference40Ideal.τ).loc Cert.Reference40Ideal.main_arg1) = m' ((c.tc : Thread Cert.Reference40Ideal.nD Cert.Reference40Ideal.τ).loc Cert.Reference40Ideal.main_arg1)
          ∧ r.2.mem ((c.tc : Thread Cert.Reference40Ideal.nD Cert.Reference40Ideal.τ).loc Cert.Reference40Ideal.main_arg2) = m' ((c.tc : Thread Cert.Reference40Ideal.nD Cert.Reference40Ideal.τ).loc Cert.Reference40Ideal.main_arg2)
          ∧ r.2.mem ((c.tc : Thread Cert.Reference40Ideal.nD Cert.Reference40Ideal.τ).loc Cert.Reference40Ideal.main_arg3) = m' ((c.tc : Thread Cert.Reference40Ideal.nD Cert.Reference40Ideal.τ).loc Cert.Reference40Ideal.main_arg3))

def preserves_Kernel41_Kernel41Ideal : Prop :=
  True

def algebraic_Kernel41Ideal_Reference41Ideal [hKernel41Ideal : Cert.Kernel41Ideal.Facts] [hReference41Ideal : Cert.Reference41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg)
    (m' : (ℓ : Loc Cert.Reference41Ideal.nD Cert.Reference41Ideal.τ Cert.Reference41Ideal.sig) → Buf (Elt Ideal) ℓ) (g' : Dev Cert.Reference41Ideal.nD → PrngReg), Pre_Kernel41Ideal m →
    (∀ c : Dev Cert.Kernel41Ideal.nD,
      m' ((c.tc : Thread Cert.Reference41Ideal.nD Cert.Reference41Ideal.τ).loc Cert.Reference41Ideal.main_arg0) = m ((c.tc : Thread Cert.Kernel41Ideal.nD Cert.Kernel41Ideal.τ).loc Cert.Kernel41Ideal.main_arg0)
      ∧ m' ((c.tc : Thread Cert.Reference41Ideal.nD Cert.Reference41Ideal.τ).loc Cert.Reference41Ideal.main_arg1) = m ((c.tc : Thread Cert.Kernel41Ideal.nD Cert.Kernel41Ideal.τ).loc Cert.Kernel41Ideal.main_arg1)
      ∧ m' ((c.tc : Thread Cert.Reference41Ideal.nD Cert.Reference41Ideal.τ).loc Cert.Reference41Ideal.main_arg2) = m ((c.tc : Thread Cert.Kernel41Ideal.nD Cert.Kernel41Ideal.τ).loc Cert.Kernel41Ideal.main_arg2)
      ∧ m' ((c.tc : Thread Cert.Reference41Ideal.nD Cert.Reference41Ideal.τ).loc Cert.Reference41Ideal.main_arg3) = m ((c.tc : Thread Cert.Kernel41Ideal.nD Cert.Kernel41Ideal.τ).loc Cert.Kernel41Ideal.main_arg3)) →
    ∃ (v0 : (c : Dev Cert.Kernel41Ideal.nD) → Buf (Elt Ideal) ((c.tc : Thread Cert.Kernel41Ideal.nD Cert.Kernel41Ideal.τ).loc Cert.Kernel41Ideal.main_v0_0)) (v1 : (c : Dev Cert.Kernel41Ideal.nD) → Buf (Elt Ideal) ((c.tc : Thread Cert.Kernel41Ideal.nD Cert.Kernel41Ideal.τ).loc Cert.Kernel41Ideal.main_v0_1)) (v2 : (c : Dev Cert.Kernel41Ideal.nD) → Buf (Elt Ideal) ((c.tc : Thread Cert.Kernel41Ideal.nD Cert.Kernel41Ideal.τ).loc Cert.Kernel41Ideal.main_v0_2)) (v3 : (c : Dev Cert.Kernel41Ideal.nD) → Buf (Elt Ideal) ((c.tc : Thread Cert.Kernel41Ideal.nD Cert.Kernel41Ideal.τ).loc Cert.Kernel41Ideal.main_v0_3)),
      θ_run (Cert.Kernel41Ideal.defs (F := Ideal)) (onTc (τ := Cert.Kernel41Ideal.τ) (Cert.Kernel41Ideal.main (F := Ideal))) ⟨m, fun _ => 0, g⟩ (fun r => ∀ c : Dev Cert.Kernel41Ideal.nD,
          r.2.mem ((c.tc : Thread Cert.Kernel41Ideal.nD Cert.Kernel41Ideal.τ).loc Cert.Kernel41Ideal.main_v0_0) = v0 c
          ∧ r.2.mem ((c.tc : Thread Cert.Kernel41Ideal.nD Cert.Kernel41Ideal.τ).loc Cert.Kernel41Ideal.main_v0_1) = v1 c
          ∧ r.2.mem ((c.tc : Thread Cert.Kernel41Ideal.nD Cert.Kernel41Ideal.τ).loc Cert.Kernel41Ideal.main_v0_2) = v2 c
          ∧ r.2.mem ((c.tc : Thread Cert.Kernel41Ideal.nD Cert.Kernel41Ideal.τ).loc Cert.Kernel41Ideal.main_v0_3) = v3 c
          ∧ r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
          ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1)
          ∧ r.2.mem ((c.tc : Thread Cert.Kernel41Ideal.nD Cert.Kernel41Ideal.τ).loc Cert.Kernel41Ideal.main_arg2) = m ((c.tc : Thread Cert.Kernel41Ideal.nD Cert.Kernel41Ideal.τ).loc Cert.Kernel41Ideal.main_arg2)
          ∧ r.2.mem ((c.tc : Thread Cert.Kernel41Ideal.nD Cert.Kernel41Ideal.τ).loc Cert.Kernel41Ideal.main_arg3) = m ((c.tc : Thread Cert.Kernel41Ideal.nD Cert.Kernel41Ideal.τ).loc Cert.Kernel41Ideal.main_arg3))
      ∧ θ_run (Cert.Reference41Ideal.defs (F := Ideal)) (onTc (τ := Cert.Reference41Ideal.τ) (Cert.Reference41Ideal.main (F := Ideal))) ⟨m', fun _ => 0, g'⟩ (fun r => ∀ c : Dev Cert.Reference41Ideal.nD,
          r.2.mem ((c.tc : Thread Cert.Reference41Ideal.nD Cert.Reference41Ideal.τ).loc Cert.Reference41Ideal.main_v23) = v0 c
          ∧ r.2.mem ((c.tc : Thread Cert.Reference41Ideal.nD Cert.Reference41Ideal.τ).loc Cert.Reference41Ideal.main_v4) = v1 c
          ∧ r.2.mem ((c.tc : Thread Cert.Reference41Ideal.nD Cert.Reference41Ideal.τ).loc Cert.Reference41Ideal.main_v10) = v2 c
          ∧ r.2.mem ((c.tc : Thread Cert.Reference41Ideal.nD Cert.Reference41Ideal.τ).loc Cert.Reference41Ideal.main_arg1) = v3 c
          ∧ r.2.mem ((c.tc : Thread Cert.Reference41Ideal.nD Cert.Reference41Ideal.τ).loc Cert.Reference41Ideal.main_arg0) = m' ((c.tc : Thread Cert.Reference41Ideal.nD Cert.Reference41Ideal.τ).loc Cert.Reference41Ideal.main_arg0)
          ∧ r.2.mem ((c.tc : Thread Cert.Reference41Ideal.nD Cert.Reference41Ideal.τ).loc Cert.Reference41Ideal.main_arg1) = m' ((c.tc : Thread Cert.Reference41Ideal.nD Cert.Reference41Ideal.τ).loc Cert.Reference41Ideal.main_arg1)
          ∧ r.2.mem ((c.tc : Thread Cert.Reference41Ideal.nD Cert.Reference41Ideal.τ).loc Cert.Reference41Ideal.main_arg2) = m' ((c.tc : Thread Cert.Reference41Ideal.nD Cert.Reference41Ideal.τ).loc Cert.Reference41Ideal.main_arg2)
          ∧ r.2.mem ((c.tc : Thread Cert.Reference41Ideal.nD Cert.Reference41Ideal.τ).loc Cert.Reference41Ideal.main_arg3) = m' ((c.tc : Thread Cert.Reference41Ideal.nD Cert.Reference41Ideal.τ).loc Cert.Reference41Ideal.main_arg3))

def preserves_Kernel42_Kernel42Ideal : Prop :=
  True

def algebraic_Kernel42Ideal_Reference42Ideal [hKernel42Ideal : Cert.Kernel42Ideal.Facts] [hReference42Ideal : Cert.Reference42Ideal.Facts] : Prop :=
  ∀ (m : (ℓ : Loc Cert.Kernel42Ideal.nD Cert.Kernel42Ideal.τ Cert.Kernel42Ideal.sig) → Buf (Elt Ideal) ℓ) (g : Dev Cert.Kernel42Ideal.nD → PrngReg)
    (m' : (ℓ : Loc Cert.Reference42Ideal.nD Cert.Reference42Ideal.τ Cert.Reference42Ideal.sig) → Buf (Elt Ideal) ℓ) (g' : Dev Cert.Reference42Ideal.nD → PrngReg), Pre_Kernel42Ideal m →
    (∀ c : Dev Cert.Kernel42Ideal.nD,
      m' ((c.tc : Thread Cert.Reference42Ideal.nD Cert.Reference42Ideal.τ).loc Cert.Reference42Ideal.main_arg0) = m ((c.tc : Thread Cert.Kernel42Ideal.nD Cert.Kernel42Ideal.τ).loc Cert.Kernel42Ideal.main_arg0)
      ∧ m' ((c.tc : Thread Cert.Reference42Ideal.nD Cert.Reference42Ideal.τ).loc Cert.Reference42Ideal.main_arg1) = m ((c.tc : Thread Cert.Kernel42Ideal.nD Cert.Kernel42Ideal.τ).loc Cert.Kernel42Ideal.main_arg1)
      ∧ m' ((c.tc : Thread Cert.Reference42Ideal.nD Cert.Reference42Ideal.τ).loc Cert.Reference42Ideal.main_arg2) = m ((c.tc : Thread Cert.Kernel42Ideal.nD Cert.Kernel42Ideal.τ).loc Cert.Kernel42Ideal.main_arg2)
      ∧ m' ((c.tc : Thread Cert.Reference42Ideal.nD Cert.Reference42Ideal.τ).loc Cert.Reference42Ideal.main_arg3) = m ((c.tc : Thread Cert.Kernel42Ideal.nD Cert.Kernel42Ideal.τ).loc Cert.Kernel42Ideal.main_arg3)) →
    ∃ (v0 : (c : Dev Cert.Kernel42Ideal.nD) → Buf (Elt Ideal) ((c.tc : Thread Cert.Kernel42Ideal.nD Cert.Kernel42Ideal.τ).loc Cert.Kernel42Ideal.main_v0_0)) (v1 : (c : Dev Cert.Kernel42Ideal.nD) → Buf (Elt Ideal) ((c.tc : Thread Cert.Kernel42Ideal.nD Cert.Kernel42Ideal.τ).loc Cert.Kernel42Ideal.main_v0_1)) (v2 : (c : Dev Cert.Kernel42Ideal.nD) → Buf (Elt Ideal) ((c.tc : Thread Cert.Kernel42Ideal.nD Cert.Kernel42Ideal.τ).loc Cert.Kernel42Ideal.main_v0_2)),
      θ_run (Cert.Kernel42Ideal.defs (F := Ideal)) (onTc (τ := Cert.Kernel42Ideal.τ) (Cert.Kernel42Ideal.main (F := Ideal))) ⟨m, fun _ => 0, g⟩ (fun r => ∀ c : Dev Cert.Kernel42Ideal.nD,
          r.2.mem ((c.tc : Thread Cert.Kernel42Ideal.nD Cert.Kernel42Ideal.τ).loc Cert.Kernel42Ideal.main_v0_0) = v0 c
          ∧ r.2.mem ((c.tc : Thread Cert.Kernel42Ideal.nD Cert.Kernel42Ideal.τ).loc Cert.Kernel42Ideal.main_v0_1) = v1 c
          ∧ r.2.mem ((c.tc : Thread Cert.Kernel42Ideal.nD Cert.Kernel42Ideal.τ).loc Cert.Kernel42Ideal.main_v0_2) = v2 c
          ∧ r.2.mem ((c.tc : Thread Cert.Kernel42Ideal.nD Cert.Kernel42Ideal.τ).loc Cert.Kernel42Ideal.main_arg0) = m ((c.tc : Thread Cert.Kernel42Ideal.nD Cert.Kernel42Ideal.τ).loc Cert.Kernel42Ideal.main_arg0)
          ∧ r.2.mem ((c.tc : Thread Cert.Kernel42Ideal.nD Cert.Kernel42Ideal.τ).loc Cert.Kernel42Ideal.main_arg1) = m ((c.tc : Thread Cert.Kernel42Ideal.nD Cert.Kernel42Ideal.τ).loc Cert.Kernel42Ideal.main_arg1)
          ∧ r.2.mem ((c.tc : Thread Cert.Kernel42Ideal.nD Cert.Kernel42Ideal.τ).loc Cert.Kernel42Ideal.main_arg2) = m ((c.tc : Thread Cert.Kernel42Ideal.nD Cert.Kernel42Ideal.τ).loc Cert.Kernel42Ideal.main_arg2)
          ∧ r.2.mem ((c.tc : Thread Cert.Kernel42Ideal.nD Cert.Kernel42Ideal.τ).loc Cert.Kernel42Ideal.main_arg3) = m ((c.tc : Thread Cert.Kernel42Ideal.nD Cert.Kernel42Ideal.τ).loc Cert.Kernel42Ideal.main_arg3))
      ∧ θ_run (Cert.Reference42Ideal.defs (F := Ideal)) (onTc (τ := Cert.Reference42Ideal.τ) (Cert.Reference42Ideal.main (F := Ideal))) ⟨m', fun _ => 0, g'⟩ (fun r => ∀ c : Dev Cert.Reference42Ideal.nD,
          r.2.mem ((c.tc : Thread Cert.Reference42Ideal.nD Cert.Reference42Ideal.τ).loc Cert.Reference42Ideal.main_v23) = v0 c
          ∧ r.2.mem ((c.tc : Thread Cert.Reference42Ideal.nD Cert.Reference42Ideal.τ).loc Cert.Reference42Ideal.main_v4) = v1 c
          ∧ r.2.mem ((c.tc : Thread Cert.Reference42Ideal.nD Cert.Reference42Ideal.τ).loc Cert.Reference42Ideal.main_v10) = v2 c
          ∧ r.2.mem ((c.tc : Thread Cert.Reference42Ideal.nD Cert.Reference42Ideal.τ).loc Cert.Reference42Ideal.main_arg0) = m' ((c.tc : Thread Cert.Reference42Ideal.nD Cert.Reference42Ideal.τ).loc Cert.Reference42Ideal.main_arg0)
          ∧ r.2.mem ((c.tc : Thread Cert.Reference42Ideal.nD Cert.Reference42Ideal.τ).loc Cert.Reference42Ideal.main_arg1) = m' ((c.tc : Thread Cert.Reference42Ideal.nD Cert.Reference42Ideal.τ).loc Cert.Reference42Ideal.main_arg1)
          ∧ r.2.mem ((c.tc : Thread Cert.Reference42Ideal.nD Cert.Reference42Ideal.τ).loc Cert.Reference42Ideal.main_arg2) = m' ((c.tc : Thread Cert.Reference42Ideal.nD Cert.Reference42Ideal.τ).loc Cert.Reference42Ideal.main_arg2)
          ∧ r.2.mem ((c.tc : Thread Cert.Reference42Ideal.nD Cert.Reference42Ideal.τ).loc Cert.Reference42Ideal.main_arg3) = m' ((c.tc : Thread Cert.Reference42Ideal.nD Cert.Reference42Ideal.τ).loc Cert.Reference42Ideal.main_arg3))

def preserves_Kernel43_Kernel43Ideal : Prop :=
  True

def algebraic_Kernel43Ideal_Reference43Ideal [hKernel43Ideal : Cert.Kernel43Ideal.Facts] [hReference43Ideal : Cert.Reference43Ideal.Facts] : Prop :=
  ∀ (m : (ℓ : Loc Cert.Kernel43Ideal.nD Cert.Kernel43Ideal.τ Cert.Kernel43Ideal.sig) → Buf (Elt Ideal) ℓ) (g : Dev Cert.Kernel43Ideal.nD → PrngReg)
    (m' : (ℓ : Loc Cert.Reference43Ideal.nD Cert.Reference43Ideal.τ Cert.Reference43Ideal.sig) → Buf (Elt Ideal) ℓ) (g' : Dev Cert.Reference43Ideal.nD → PrngReg), Pre_Kernel43Ideal m →
    (∀ c : Dev Cert.Kernel43Ideal.nD,
      m' ((c.tc : Thread Cert.Reference43Ideal.nD Cert.Reference43Ideal.τ).loc Cert.Reference43Ideal.main_arg0) = m ((c.tc : Thread Cert.Kernel43Ideal.nD Cert.Kernel43Ideal.τ).loc Cert.Kernel43Ideal.main_arg0)
      ∧ m' ((c.tc : Thread Cert.Reference43Ideal.nD Cert.Reference43Ideal.τ).loc Cert.Reference43Ideal.main_arg1) = m ((c.tc : Thread Cert.Kernel43Ideal.nD Cert.Kernel43Ideal.τ).loc Cert.Kernel43Ideal.main_arg1)
      ∧ m' ((c.tc : Thread Cert.Reference43Ideal.nD Cert.Reference43Ideal.τ).loc Cert.Reference43Ideal.main_arg2) = m ((c.tc : Thread Cert.Kernel43Ideal.nD Cert.Kernel43Ideal.τ).loc Cert.Kernel43Ideal.main_arg2)) →
    ∃ (v0 : (c : Dev Cert.Kernel43Ideal.nD) → Buf (Elt Ideal) ((c.tc : Thread Cert.Kernel43Ideal.nD Cert.Kernel43Ideal.τ).loc Cert.Kernel43Ideal.main_v0_0)) (v1 : (c : Dev Cert.Kernel43Ideal.nD) → Buf (Elt Ideal) ((c.tc : Thread Cert.Kernel43Ideal.nD Cert.Kernel43Ideal.τ).loc Cert.Kernel43Ideal.main_v0_1)),
      θ_run (Cert.Kernel43Ideal.defs (F := Ideal)) (onTc (τ := Cert.Kernel43Ideal.τ) (Cert.Kernel43Ideal.main (F := Ideal))) ⟨m, fun _ => 0, g⟩ (fun r => ∀ c : Dev Cert.Kernel43Ideal.nD,
          r.2.mem ((c.tc : Thread Cert.Kernel43Ideal.nD Cert.Kernel43Ideal.τ).loc Cert.Kernel43Ideal.main_v0_0) = v0 c
          ∧ r.2.mem ((c.tc : Thread Cert.Kernel43Ideal.nD Cert.Kernel43Ideal.τ).loc Cert.Kernel43Ideal.main_v0_1) = v1 c
          ∧ r.2.mem ((c.tc : Thread Cert.Kernel43Ideal.nD Cert.Kernel43Ideal.τ).loc Cert.Kernel43Ideal.main_arg0) = m ((c.tc : Thread Cert.Kernel43Ideal.nD Cert.Kernel43Ideal.τ).loc Cert.Kernel43Ideal.main_arg0)
          ∧ r.2.mem ((c.tc : Thread Cert.Kernel43Ideal.nD Cert.Kernel43Ideal.τ).loc Cert.Kernel43Ideal.main_arg1) = m ((c.tc : Thread Cert.Kernel43Ideal.nD Cert.Kernel43Ideal.τ).loc Cert.Kernel43Ideal.main_arg1)
          ∧ r.2.mem ((c.tc : Thread Cert.Kernel43Ideal.nD Cert.Kernel43Ideal.τ).loc Cert.Kernel43Ideal.main_arg2) = m ((c.tc : Thread Cert.Kernel43Ideal.nD Cert.Kernel43Ideal.τ).loc Cert.Kernel43Ideal.main_arg2))
      ∧ θ_run (Cert.Reference43Ideal.defs (F := Ideal)) (onTc (τ := Cert.Reference43Ideal.τ) (Cert.Reference43Ideal.main (F := Ideal))) ⟨m', fun _ => 0, g'⟩ (fun r => ∀ c : Dev Cert.Reference43Ideal.nD,
          r.2.mem ((c.tc : Thread Cert.Reference43Ideal.nD Cert.Reference43Ideal.τ).loc Cert.Reference43Ideal.main_v19) = v0 c
          ∧ r.2.mem ((c.tc : Thread Cert.Reference43Ideal.nD Cert.Reference43Ideal.τ).loc Cert.Reference43Ideal.main_v20) = v1 c
          ∧ r.2.mem ((c.tc : Thread Cert.Reference43Ideal.nD Cert.Reference43Ideal.τ).loc Cert.Reference43Ideal.main_arg0) = m' ((c.tc : Thread Cert.Reference43Ideal.nD Cert.Reference43Ideal.τ).loc Cert.Reference43Ideal.main_arg0)
          ∧ r.2.mem ((c.tc : Thread Cert.Reference43Ideal.nD Cert.Reference43Ideal.τ).loc Cert.Reference43Ideal.main_arg1) = m' ((c.tc : Thread Cert.Reference43Ideal.nD Cert.Reference43Ideal.τ).loc Cert.Reference43Ideal.main_arg1)
          ∧ r.2.mem ((c.tc : Thread Cert.Reference43Ideal.nD Cert.Reference43Ideal.τ).loc Cert.Reference43Ideal.main_arg2) = m' ((c.tc : Thread Cert.Reference43Ideal.nD Cert.Reference43Ideal.τ).loc Cert.Reference43Ideal.main_arg2))

def preserves_Kernel44_Kernel44Ideal : Prop :=
  True

def algebraic_Kernel44Ideal_Reference44Ideal [hKernel44Ideal : Cert.Kernel44Ideal.Facts] [hReference44Ideal : Cert.Reference44Ideal.Facts] : Prop :=
  ∀ (m : (ℓ : Loc Cert.Kernel44Ideal.nD Cert.Kernel44Ideal.τ Cert.Kernel44Ideal.sig) → Buf (Elt Ideal) ℓ) (g : Dev Cert.Kernel44Ideal.nD → PrngReg)
    (m' : (ℓ : Loc Cert.Reference44Ideal.nD Cert.Reference44Ideal.τ Cert.Reference44Ideal.sig) → Buf (Elt Ideal) ℓ) (g' : Dev Cert.Reference44Ideal.nD → PrngReg), Pre_Kernel44Ideal m →
    (∀ c : Dev Cert.Kernel44Ideal.nD,
      m' ((c.tc : Thread Cert.Reference44Ideal.nD Cert.Reference44Ideal.τ).loc Cert.Reference44Ideal.main_arg0) = m ((c.tc : Thread Cert.Kernel44Ideal.nD Cert.Kernel44Ideal.τ).loc Cert.Kernel44Ideal.main_arg0)) →
    ∃ (v0 : (c : Dev Cert.Kernel44Ideal.nD) → Buf (Elt Ideal) ((c.tc : Thread Cert.Kernel44Ideal.nD Cert.Kernel44Ideal.τ).loc Cert.Kernel44Ideal.main_v0)),
      θ_run (Cert.Kernel44Ideal.defs (F := Ideal)) (onTc (τ := Cert.Kernel44Ideal.τ) (Cert.Kernel44Ideal.main (F := Ideal))) ⟨m, fun _ => 0, g⟩ (fun r => ∀ c : Dev Cert.Kernel44Ideal.nD,
          r.2.mem ((c.tc : Thread Cert.Kernel44Ideal.nD Cert.Kernel44Ideal.τ).loc Cert.Kernel44Ideal.main_v0) = v0 c
          ∧ r.2.mem ((c.tc : Thread Cert.Kernel44Ideal.nD Cert.Kernel44Ideal.τ).loc Cert.Kernel44Ideal.main_arg0) = m ((c.tc : Thread Cert.Kernel44Ideal.nD Cert.Kernel44Ideal.τ).loc Cert.Kernel44Ideal.main_arg0))
      ∧ θ_run (Cert.Reference44Ideal.defs (F := Ideal)) (onTc (τ := Cert.Reference44Ideal.τ) (Cert.Reference44Ideal.main (F := Ideal))) ⟨m', fun _ => 0, g'⟩ (fun r => ∀ c : Dev Cert.Reference44Ideal.nD,
          r.2.mem ((c.tc : Thread Cert.Reference44Ideal.nD Cert.Reference44Ideal.τ).loc Cert.Reference44Ideal.main_v0) = v0 c
          ∧ r.2.mem ((c.tc : Thread Cert.Reference44Ideal.nD Cert.Reference44Ideal.τ).loc Cert.Reference44Ideal.main_arg0) = m' ((c.tc : Thread Cert.Reference44Ideal.nD Cert.Reference44Ideal.τ).loc Cert.Reference44Ideal.main_arg0))

def preserves_Kernel45_Kernel45Ideal : Prop :=
  True

def algebraic_Kernel45Ideal_Reference45Ideal [hKernel45Ideal : Cert.Kernel45Ideal.Facts] [hReference45Ideal : Cert.Reference45Ideal.Facts] : Prop :=
  ∀ (m : (ℓ : Loc Cert.Kernel45Ideal.nD Cert.Kernel45Ideal.τ Cert.Kernel45Ideal.sig) → Buf (Elt Ideal) ℓ) (g : Dev Cert.Kernel45Ideal.nD → PrngReg)
    (m' : (ℓ : Loc Cert.Reference45Ideal.nD Cert.Reference45Ideal.τ Cert.Reference45Ideal.sig) → Buf (Elt Ideal) ℓ) (g' : Dev Cert.Reference45Ideal.nD → PrngReg), Pre_Kernel45Ideal m →
    (∀ c : Dev Cert.Kernel45Ideal.nD,
      m' ((c.tc : Thread Cert.Reference45Ideal.nD Cert.Reference45Ideal.τ).loc Cert.Reference45Ideal.main_arg0) = m ((c.tc : Thread Cert.Kernel45Ideal.nD Cert.Kernel45Ideal.τ).loc Cert.Kernel45Ideal.main_arg0)) →
    ∃ (v0 : (c : Dev Cert.Kernel45Ideal.nD) → Buf (Elt Ideal) ((c.tc : Thread Cert.Kernel45Ideal.nD Cert.Kernel45Ideal.τ).loc Cert.Kernel45Ideal.main_v0)),
      θ_run (Cert.Kernel45Ideal.defs (F := Ideal)) (onTc (τ := Cert.Kernel45Ideal.τ) (Cert.Kernel45Ideal.main (F := Ideal))) ⟨m, fun _ => 0, g⟩ (fun r => ∀ c : Dev Cert.Kernel45Ideal.nD,
          r.2.mem ((c.tc : Thread Cert.Kernel45Ideal.nD Cert.Kernel45Ideal.τ).loc Cert.Kernel45Ideal.main_v0) = v0 c
          ∧ r.2.mem ((c.tc : Thread Cert.Kernel45Ideal.nD Cert.Kernel45Ideal.τ).loc Cert.Kernel45Ideal.main_arg0) = m ((c.tc : Thread Cert.Kernel45Ideal.nD Cert.Kernel45Ideal.τ).loc Cert.Kernel45Ideal.main_arg0))
      ∧ θ_run (Cert.Reference45Ideal.defs (F := Ideal)) (onTc (τ := Cert.Reference45Ideal.τ) (Cert.Reference45Ideal.main (F := Ideal))) ⟨m', fun _ => 0, g'⟩ (fun r => ∀ c : Dev Cert.Reference45Ideal.nD,
          r.2.mem ((c.tc : Thread Cert.Reference45Ideal.nD Cert.Reference45Ideal.τ).loc Cert.Reference45Ideal.main_v0) = v0 c
          ∧ r.2.mem ((c.tc : Thread Cert.Reference45Ideal.nD Cert.Reference45Ideal.τ).loc Cert.Reference45Ideal.main_arg0) = m' ((c.tc : Thread Cert.Reference45Ideal.nD Cert.Reference45Ideal.τ).loc Cert.Reference45Ideal.main_arg0))

def preserves_Kernel46_Kernel46Ideal : Prop :=
  True

def algebraic_Kernel46Ideal_Reference46Ideal [hKernel46Ideal : Cert.Kernel46Ideal.Facts] [hReference46Ideal : Cert.Reference46Ideal.Facts] : Prop :=
  ∀ (m : (ℓ : Loc Cert.Kernel46Ideal.nD Cert.Kernel46Ideal.τ Cert.Kernel46Ideal.sig) → Buf (Elt Ideal) ℓ) (g : Dev Cert.Kernel46Ideal.nD → PrngReg)
    (m' : (ℓ : Loc Cert.Reference46Ideal.nD Cert.Reference46Ideal.τ Cert.Reference46Ideal.sig) → Buf (Elt Ideal) ℓ) (g' : Dev Cert.Reference46Ideal.nD → PrngReg), Pre_Kernel46Ideal m →
    (∀ c : Dev Cert.Kernel46Ideal.nD,
      m' ((c.tc : Thread Cert.Reference46Ideal.nD Cert.Reference46Ideal.τ).loc Cert.Reference46Ideal.main_arg0) = m ((c.tc : Thread Cert.Kernel46Ideal.nD Cert.Kernel46Ideal.τ).loc Cert.Kernel46Ideal.main_arg0)
      ∧ m' ((c.tc : Thread Cert.Reference46Ideal.nD Cert.Reference46Ideal.τ).loc Cert.Reference46Ideal.main_arg1) = m ((c.tc : Thread Cert.Kernel46Ideal.nD Cert.Kernel46Ideal.τ).loc Cert.Kernel46Ideal.main_arg1)) →
    ∃ (v0 : (c : Dev Cert.Kernel46Ideal.nD) → Buf (Elt Ideal) ((c.tc : Thread Cert.Kernel46Ideal.nD Cert.Kernel46Ideal.τ).loc Cert.Kernel46Ideal.main_v0)),
      θ_run (Cert.Kernel46Ideal.defs (F := Ideal)) (onTc (τ := Cert.Kernel46Ideal.τ) (Cert.Kernel46Ideal.main (F := Ideal))) ⟨m, fun _ => 0, g⟩ (fun r => ∀ c : Dev Cert.Kernel46Ideal.nD,
          r.2.mem ((c.tc : Thread Cert.Kernel46Ideal.nD Cert.Kernel46Ideal.τ).loc Cert.Kernel46Ideal.main_v0) = v0 c
          ∧ r.2.mem ((c.tc : Thread Cert.Kernel46Ideal.nD Cert.Kernel46Ideal.τ).loc Cert.Kernel46Ideal.main_arg0) = m ((c.tc : Thread Cert.Kernel46Ideal.nD Cert.Kernel46Ideal.τ).loc Cert.Kernel46Ideal.main_arg0)
          ∧ r.2.mem ((c.tc : Thread Cert.Kernel46Ideal.nD Cert.Kernel46Ideal.τ).loc Cert.Kernel46Ideal.main_arg1) = m ((c.tc : Thread Cert.Kernel46Ideal.nD Cert.Kernel46Ideal.τ).loc Cert.Kernel46Ideal.main_arg1))
      ∧ θ_run (Cert.Reference46Ideal.defs (F := Ideal)) (onTc (τ := Cert.Reference46Ideal.τ) (Cert.Reference46Ideal.main (F := Ideal))) ⟨m', fun _ => 0, g'⟩ (fun r => ∀ c : Dev Cert.Reference46Ideal.nD,
          r.2.mem ((c.tc : Thread Cert.Reference46Ideal.nD Cert.Reference46Ideal.τ).loc Cert.Reference46Ideal.main_v4) = v0 c
          ∧ r.2.mem ((c.tc : Thread Cert.Reference46Ideal.nD Cert.Reference46Ideal.τ).loc Cert.Reference46Ideal.main_arg0) = m' ((c.tc : Thread Cert.Reference46Ideal.nD Cert.Reference46Ideal.τ).loc Cert.Reference46Ideal.main_arg0)
          ∧ r.2.mem ((c.tc : Thread Cert.Reference46Ideal.nD Cert.Reference46Ideal.τ).loc Cert.Reference46Ideal.main_arg1) = m' ((c.tc : Thread Cert.Reference46Ideal.nD Cert.Reference46Ideal.τ).loc Cert.Reference46Ideal.main_arg1))

def preserves_Kernel47_Kernel47Ideal : Prop :=
  True

def algebraic_Kernel47Ideal_Reference47Ideal [hKernel47Ideal : Cert.Kernel47Ideal.Facts] [hReference47Ideal : Cert.Reference47Ideal.Facts] : Prop :=
  ∀ (m : (ℓ : Loc Cert.Kernel47Ideal.nD Cert.Kernel47Ideal.τ Cert.Kernel47Ideal.sig) → Buf (Elt Ideal) ℓ) (g : Dev Cert.Kernel47Ideal.nD → PrngReg)
    (m' : (ℓ : Loc Cert.Reference47Ideal.nD Cert.Reference47Ideal.τ Cert.Reference47Ideal.sig) → Buf (Elt Ideal) ℓ) (g' : Dev Cert.Reference47Ideal.nD → PrngReg), Pre_Kernel47Ideal m →
    (∀ c : Dev Cert.Kernel47Ideal.nD,
      m' ((c.tc : Thread Cert.Reference47Ideal.nD Cert.Reference47Ideal.τ).loc Cert.Reference47Ideal.main_arg0) = m ((c.tc : Thread Cert.Kernel47Ideal.nD Cert.Kernel47Ideal.τ).loc Cert.Kernel47Ideal.main_arg0)
      ∧ m' ((c.tc : Thread Cert.Reference47Ideal.nD Cert.Reference47Ideal.τ).loc Cert.Reference47Ideal.main_arg1) = m ((c.tc : Thread Cert.Kernel47Ideal.nD Cert.Kernel47Ideal.τ).loc Cert.Kernel47Ideal.main_arg1)
      ∧ m' ((c.tc : Thread Cert.Reference47Ideal.nD Cert.Reference47Ideal.τ).loc Cert.Reference47Ideal.main_arg2) = m ((c.tc : Thread Cert.Kernel47Ideal.nD Cert.Kernel47Ideal.τ).loc Cert.Kernel47Ideal.main_arg2)
      ∧ m' ((c.tc : Thread Cert.Reference47Ideal.nD Cert.Reference47Ideal.τ).loc Cert.Reference47Ideal.main_arg3) = m ((c.tc : Thread Cert.Kernel47Ideal.nD Cert.Kernel47Ideal.τ).loc Cert.Kernel47Ideal.main_arg3)) →
    ∃ (v0 : (c : Dev Cert.Kernel47Ideal.nD) → Buf (Elt Ideal) ((c.tc : Thread Cert.Kernel47Ideal.nD Cert.Kernel47Ideal.τ).loc Cert.Kernel47Ideal.main_v0)),
      θ_run (Cert.Kernel47Ideal.defs (F := Ideal)) (onTc (τ := Cert.Kernel47Ideal.τ) (Cert.Kernel47Ideal.main (F := Ideal))) ⟨m, fun _ => 0, g⟩ (fun r => ∀ c : Dev Cert.Kernel47Ideal.nD,
          r.2.mem ((c.tc : Thread Cert.Kernel47Ideal.nD Cert.Kernel47Ideal.τ).loc Cert.Kernel47Ideal.main_v0) = v0 c
          ∧ r.2.mem ((c.tc : Thread Cert.Kernel47Ideal.nD Cert.Kernel47Ideal.τ).loc Cert.Kernel47Ideal.main_arg0) = m ((c.tc : Thread Cert.Kernel47Ideal.nD Cert.Kernel47Ideal.τ).loc Cert.Kernel47Ideal.main_arg0)
          ∧ r.2.mem ((c.tc : Thread Cert.Kernel47Ideal.nD Cert.Kernel47Ideal.τ).loc Cert.Kernel47Ideal.main_arg1) = m ((c.tc : Thread Cert.Kernel47Ideal.nD Cert.Kernel47Ideal.τ).loc Cert.Kernel47Ideal.main_arg1)
          ∧ r.2.mem ((c.tc : Thread Cert.Kernel47Ideal.nD Cert.Kernel47Ideal.τ).loc Cert.Kernel47Ideal.main_arg2) = m ((c.tc : Thread Cert.Kernel47Ideal.nD Cert.Kernel47Ideal.τ).loc Cert.Kernel47Ideal.main_arg2)
          ∧ r.2.mem ((c.tc : Thread Cert.Kernel47Ideal.nD Cert.Kernel47Ideal.τ).loc Cert.Kernel47Ideal.main_arg3) = m ((c.tc : Thread Cert.Kernel47Ideal.nD Cert.Kernel47Ideal.τ).loc Cert.Kernel47Ideal.main_arg3))
      ∧ θ_run (Cert.Reference47Ideal.defs (F := Ideal)) (onTc (τ := Cert.Reference47Ideal.τ) (Cert.Reference47Ideal.main (F := Ideal))) ⟨m', fun _ => 0, g'⟩ (fun r => ∀ c : Dev Cert.Reference47Ideal.nD,
          r.2.mem ((c.tc : Thread Cert.Reference47Ideal.nD Cert.Reference47Ideal.τ).loc Cert.Reference47Ideal.main_v47) = v0 c
          ∧ r.2.mem ((c.tc : Thread Cert.Reference47Ideal.nD Cert.Reference47Ideal.τ).loc Cert.Reference47Ideal.main_arg0) = m' ((c.tc : Thread Cert.Reference47Ideal.nD Cert.Reference47Ideal.τ).loc Cert.Reference47Ideal.main_arg0)
          ∧ r.2.mem ((c.tc : Thread Cert.Reference47Ideal.nD Cert.Reference47Ideal.τ).loc Cert.Reference47Ideal.main_arg1) = m' ((c.tc : Thread Cert.Reference47Ideal.nD Cert.Reference47Ideal.τ).loc Cert.Reference47Ideal.main_arg1)
          ∧ r.2.mem ((c.tc : Thread Cert.Reference47Ideal.nD Cert.Reference47Ideal.τ).loc Cert.Reference47Ideal.main_arg2) = m' ((c.tc : Thread Cert.Reference47Ideal.nD Cert.Reference47Ideal.τ).loc Cert.Reference47Ideal.main_arg2)
          ∧ r.2.mem ((c.tc : Thread Cert.Reference47Ideal.nD Cert.Reference47Ideal.τ).loc Cert.Reference47Ideal.main_arg3) = m' ((c.tc : Thread Cert.Reference47Ideal.nD Cert.Reference47Ideal.τ).loc Cert.Reference47Ideal.main_arg3))

def preserves_Kernel48_Kernel48Ideal : Prop :=
  True

def algebraic_Kernel48Ideal_Reference48Ideal [hKernel48Ideal : Cert.Kernel48Ideal.Facts] [hReference48Ideal : Cert.Reference48Ideal.Facts] : Prop :=
  ∀ (m : (ℓ : Loc Cert.Kernel48Ideal.nD Cert.Kernel48Ideal.τ Cert.Kernel48Ideal.sig) → Buf (Elt Ideal) ℓ) (g : Dev Cert.Kernel48Ideal.nD → PrngReg)
    (m' : (ℓ : Loc Cert.Reference48Ideal.nD Cert.Reference48Ideal.τ Cert.Reference48Ideal.sig) → Buf (Elt Ideal) ℓ) (g' : Dev Cert.Reference48Ideal.nD → PrngReg), Pre_Kernel48Ideal m →
    (∀ c : Dev Cert.Kernel48Ideal.nD,
      m' ((c.tc : Thread Cert.Reference48Ideal.nD Cert.Reference48Ideal.τ).loc Cert.Reference48Ideal.main_arg0) = m ((c.tc : Thread Cert.Kernel48Ideal.nD Cert.Kernel48Ideal.τ).loc Cert.Kernel48Ideal.main_arg0)
      ∧ m' ((c.tc : Thread Cert.Reference48Ideal.nD Cert.Reference48Ideal.τ).loc Cert.Reference48Ideal.main_arg1) = m ((c.tc : Thread Cert.Kernel48Ideal.nD Cert.Kernel48Ideal.τ).loc Cert.Kernel48Ideal.main_arg1)
      ∧ m' ((c.tc : Thread Cert.Reference48Ideal.nD Cert.Reference48Ideal.τ).loc Cert.Reference48Ideal.main_arg2) = m ((c.tc : Thread Cert.Kernel48Ideal.nD Cert.Kernel48Ideal.τ).loc Cert.Kernel48Ideal.main_arg2)
      ∧ m' ((c.tc : Thread Cert.Reference48Ideal.nD Cert.Reference48Ideal.τ).loc Cert.Reference48Ideal.main_arg3) = m ((c.tc : Thread Cert.Kernel48Ideal.nD Cert.Kernel48Ideal.τ).loc Cert.Kernel48Ideal.main_arg3)
      ∧ m' ((c.tc : Thread Cert.Reference48Ideal.nD Cert.Reference48Ideal.τ).loc Cert.Reference48Ideal.main_arg4) = m ((c.tc : Thread Cert.Kernel48Ideal.nD Cert.Kernel48Ideal.τ).loc Cert.Kernel48Ideal.main_arg4)
      ∧ m' ((c.tc : Thread Cert.Reference48Ideal.nD Cert.Reference48Ideal.τ).loc Cert.Reference48Ideal.main_arg5) = m ((c.tc : Thread Cert.Kernel48Ideal.nD Cert.Kernel48Ideal.τ).loc Cert.Kernel48Ideal.main_arg5)) →
    ∃ (v0 : (c : Dev Cert.Kernel48Ideal.nD) → Buf (Elt Ideal) ((c.tc : Thread Cert.Kernel48Ideal.nD Cert.Kernel48Ideal.τ).loc Cert.Kernel48Ideal.main_v0_0)) (v1 : (c : Dev Cert.Kernel48Ideal.nD) → Buf (Elt Ideal) ((c.tc : Thread Cert.Kernel48Ideal.nD Cert.Kernel48Ideal.τ).loc Cert.Kernel48Ideal.main_v0_1)),
      θ_run (Cert.Kernel48Ideal.defs (F := Ideal)) (onTc (τ := Cert.Kernel48Ideal.τ) (Cert.Kernel48Ideal.main (F := Ideal))) ⟨m, fun _ => 0, g⟩ (fun r => ∀ c : Dev Cert.Kernel48Ideal.nD,
          r.2.mem ((c.tc : Thread Cert.Kernel48Ideal.nD Cert.Kernel48Ideal.τ).loc Cert.Kernel48Ideal.main_v0_0) = v0 c
          ∧ r.2.mem ((c.tc : Thread Cert.Kernel48Ideal.nD Cert.Kernel48Ideal.τ).loc Cert.Kernel48Ideal.main_v0_1) = v1 c
          ∧ r.2.mem ((c.tc : Thread Cert.Kernel48Ideal.nD Cert.Kernel48Ideal.τ).loc Cert.Kernel48Ideal.main_arg0) = m ((c.tc : Thread Cert.Kernel48Ideal.nD Cert.Kernel48Ideal.τ).loc Cert.Kernel48Ideal.main_arg0)
          ∧ r.2.mem ((c.tc : Thread Cert.Kernel48Ideal.nD Cert.Kernel48Ideal.τ).loc Cert.Kernel48Ideal.main_arg1) = m ((c.tc : Thread Cert.Kernel48Ideal.nD Cert.Kernel48Ideal.τ).loc Cert.Kernel48Ideal.main_arg1)
          ∧ r.2.mem ((c.tc : Thread Cert.Kernel48Ideal.nD Cert.Kernel48Ideal.τ).loc Cert.Kernel48Ideal.main_arg2) = m ((c.tc : Thread Cert.Kernel48Ideal.nD Cert.Kernel48Ideal.τ).loc Cert.Kernel48Ideal.main_arg2)
          ∧ r.2.mem ((c.tc : Thread Cert.Kernel48Ideal.nD Cert.Kernel48Ideal.τ).loc Cert.Kernel48Ideal.main_arg3) = m ((c.tc : Thread Cert.Kernel48Ideal.nD Cert.Kernel48Ideal.τ).loc Cert.Kernel48Ideal.main_arg3)
          ∧ r.2.mem ((c.tc : Thread Cert.Kernel48Ideal.nD Cert.Kernel48Ideal.τ).loc Cert.Kernel48Ideal.main_arg4) = m ((c.tc : Thread Cert.Kernel48Ideal.nD Cert.Kernel48Ideal.τ).loc Cert.Kernel48Ideal.main_arg4)
          ∧ r.2.mem ((c.tc : Thread Cert.Kernel48Ideal.nD Cert.Kernel48Ideal.τ).loc Cert.Kernel48Ideal.main_arg5) = m ((c.tc : Thread Cert.Kernel48Ideal.nD Cert.Kernel48Ideal.τ).loc Cert.Kernel48Ideal.main_arg5))
      ∧ θ_run (Cert.Reference48Ideal.defs (F := Ideal)) (onTc (τ := Cert.Reference48Ideal.τ) (Cert.Reference48Ideal.main (F := Ideal))) ⟨m', fun _ => 0, g'⟩ (fun r => ∀ c : Dev Cert.Reference48Ideal.nD,
          r.2.mem ((c.tc : Thread Cert.Reference48Ideal.nD Cert.Reference48Ideal.τ).loc Cert.Reference48Ideal.main_v14) = v0 c
          ∧ r.2.mem ((c.tc : Thread Cert.Reference48Ideal.nD Cert.Reference48Ideal.τ).loc Cert.Reference48Ideal.main_v62) = v1 c
          ∧ r.2.mem ((c.tc : Thread Cert.Reference48Ideal.nD Cert.Reference48Ideal.τ).loc Cert.Reference48Ideal.main_arg0) = m' ((c.tc : Thread Cert.Reference48Ideal.nD Cert.Reference48Ideal.τ).loc Cert.Reference48Ideal.main_arg0)
          ∧ r.2.mem ((c.tc : Thread Cert.Reference48Ideal.nD Cert.Reference48Ideal.τ).loc Cert.Reference48Ideal.main_arg1) = m' ((c.tc : Thread Cert.Reference48Ideal.nD Cert.Reference48Ideal.τ).loc Cert.Reference48Ideal.main_arg1)
          ∧ r.2.mem ((c.tc : Thread Cert.Reference48Ideal.nD Cert.Reference48Ideal.τ).loc Cert.Reference48Ideal.main_arg2) = m' ((c.tc : Thread Cert.Reference48Ideal.nD Cert.Reference48Ideal.τ).loc Cert.Reference48Ideal.main_arg2)
          ∧ r.2.mem ((c.tc : Thread Cert.Reference48Ideal.nD Cert.Reference48Ideal.τ).loc Cert.Reference48Ideal.main_arg3) = m' ((c.tc : Thread Cert.Reference48Ideal.nD Cert.Reference48Ideal.τ).loc Cert.Reference48Ideal.main_arg3)
          ∧ r.2.mem ((c.tc : Thread Cert.Reference48Ideal.nD Cert.Reference48Ideal.τ).loc Cert.Reference48Ideal.main_arg4) = m' ((c.tc : Thread Cert.Reference48Ideal.nD Cert.Reference48Ideal.τ).loc Cert.Reference48Ideal.main_arg4)
          ∧ r.2.mem ((c.tc : Thread Cert.Reference48Ideal.nD Cert.Reference48Ideal.τ).loc Cert.Reference48Ideal.main_arg5) = m' ((c.tc : Thread Cert.Reference48Ideal.nD Cert.Reference48Ideal.τ).loc Cert.Reference48Ideal.main_arg5))

def preserves_Kernel49_Kernel49Ideal : Prop :=
  True

def algebraic_Kernel49Ideal_Reference49Ideal [hKernel49Ideal : Cert.Kernel49Ideal.Facts] [hReference49Ideal : Cert.Reference49Ideal.Facts] : Prop :=
  ∀ (m : (ℓ : Loc Cert.Kernel49Ideal.nD Cert.Kernel49Ideal.τ Cert.Kernel49Ideal.sig) → Buf (Elt Ideal) ℓ) (g : Dev Cert.Kernel49Ideal.nD → PrngReg)
    (m' : (ℓ : Loc Cert.Reference49Ideal.nD Cert.Reference49Ideal.τ Cert.Reference49Ideal.sig) → Buf (Elt Ideal) ℓ) (g' : Dev Cert.Reference49Ideal.nD → PrngReg), Pre_Kernel49Ideal m →
    (∀ c : Dev Cert.Kernel49Ideal.nD,
      m' ((c.tc : Thread Cert.Reference49Ideal.nD Cert.Reference49Ideal.τ).loc Cert.Reference49Ideal.main_arg0) = m ((c.tc : Thread Cert.Kernel49Ideal.nD Cert.Kernel49Ideal.τ).loc Cert.Kernel49Ideal.main_arg0)
      ∧ m' ((c.tc : Thread Cert.Reference49Ideal.nD Cert.Reference49Ideal.τ).loc Cert.Reference49Ideal.main_arg1) = m ((c.tc : Thread Cert.Kernel49Ideal.nD Cert.Kernel49Ideal.τ).loc Cert.Kernel49Ideal.main_arg1)
      ∧ m' ((c.tc : Thread Cert.Reference49Ideal.nD Cert.Reference49Ideal.τ).loc Cert.Reference49Ideal.main_arg2) = m ((c.tc : Thread Cert.Kernel49Ideal.nD Cert.Kernel49Ideal.τ).loc Cert.Kernel49Ideal.main_arg2)) →
    ∃ (v0 : (c : Dev Cert.Kernel49Ideal.nD) → Buf (Elt Ideal) ((c.tc : Thread Cert.Kernel49Ideal.nD Cert.Kernel49Ideal.τ).loc Cert.Kernel49Ideal.main_v0)),
      θ_run (Cert.Kernel49Ideal.defs (F := Ideal)) (onTc (τ := Cert.Kernel49Ideal.τ) (Cert.Kernel49Ideal.main (F := Ideal))) ⟨m, fun _ => 0, g⟩ (fun r => ∀ c : Dev Cert.Kernel49Ideal.nD,
          r.2.mem ((c.tc : Thread Cert.Kernel49Ideal.nD Cert.Kernel49Ideal.τ).loc Cert.Kernel49Ideal.main_v0) = v0 c
          ∧ r.2.mem ((c.tc : Thread Cert.Kernel49Ideal.nD Cert.Kernel49Ideal.τ).loc Cert.Kernel49Ideal.main_arg0) = m ((c.tc : Thread Cert.Kernel49Ideal.nD Cert.Kernel49Ideal.τ).loc Cert.Kernel49Ideal.main_arg0)
          ∧ r.2.mem ((c.tc : Thread Cert.Kernel49Ideal.nD Cert.Kernel49Ideal.τ).loc Cert.Kernel49Ideal.main_arg1) = m ((c.tc : Thread Cert.Kernel49Ideal.nD Cert.Kernel49Ideal.τ).loc Cert.Kernel49Ideal.main_arg1)
          ∧ r.2.mem ((c.tc : Thread Cert.Kernel49Ideal.nD Cert.Kernel49Ideal.τ).loc Cert.Kernel49Ideal.main_arg2) = m ((c.tc : Thread Cert.Kernel49Ideal.nD Cert.Kernel49Ideal.τ).loc Cert.Kernel49Ideal.main_arg2))
      ∧ θ_run (Cert.Reference49Ideal.defs (F := Ideal)) (onTc (τ := Cert.Reference49Ideal.τ) (Cert.Reference49Ideal.main (F := Ideal))) ⟨m', fun _ => 0, g'⟩ (fun r => ∀ c : Dev Cert.Reference49Ideal.nD,
          r.2.mem ((c.tc : Thread Cert.Reference49Ideal.nD Cert.Reference49Ideal.τ).loc Cert.Reference49Ideal.main_v18) = v0 c
          ∧ r.2.mem ((c.tc : Thread Cert.Reference49Ideal.nD Cert.Reference49Ideal.τ).loc Cert.Reference49Ideal.main_arg0) = m' ((c.tc : Thread Cert.Reference49Ideal.nD Cert.Reference49Ideal.τ).loc Cert.Reference49Ideal.main_arg0)
          ∧ r.2.mem ((c.tc : Thread Cert.Reference49Ideal.nD Cert.Reference49Ideal.τ).loc Cert.Reference49Ideal.main_arg1) = m' ((c.tc : Thread Cert.Reference49Ideal.nD Cert.Reference49Ideal.τ).loc Cert.Reference49Ideal.main_arg1)
          ∧ r.2.mem ((c.tc : Thread Cert.Reference49Ideal.nD Cert.Reference49Ideal.τ).loc Cert.Reference49Ideal.main_arg2) = m' ((c.tc : Thread Cert.Reference49Ideal.nD Cert.Reference49Ideal.τ).loc Cert.Reference49Ideal.main_arg2))

def preserves_Kernel50_Kernel50Ideal : Prop :=
  True

def algebraic_Kernel50Ideal_Reference50Ideal [hKernel50Ideal : Cert.Kernel50Ideal.Facts] [hReference50Ideal : Cert.Reference50Ideal.Facts] : Prop :=
  ∀ (m : (ℓ : Loc Cert.Kernel50Ideal.nD Cert.Kernel50Ideal.τ Cert.Kernel50Ideal.sig) → Buf (Elt Ideal) ℓ) (g : Dev Cert.Kernel50Ideal.nD → PrngReg)
    (m' : (ℓ : Loc Cert.Reference50Ideal.nD Cert.Reference50Ideal.τ Cert.Reference50Ideal.sig) → Buf (Elt Ideal) ℓ) (g' : Dev Cert.Reference50Ideal.nD → PrngReg), Pre_Kernel50Ideal m →
    (∀ c : Dev Cert.Kernel50Ideal.nD,
      m' ((c.tc : Thread Cert.Reference50Ideal.nD Cert.Reference50Ideal.τ).loc Cert.Reference50Ideal.main_arg0) = m ((c.tc : Thread Cert.Kernel50Ideal.nD Cert.Kernel50Ideal.τ).loc Cert.Kernel50Ideal.main_arg0)
      ∧ m' ((c.tc : Thread Cert.Reference50Ideal.nD Cert.Reference50Ideal.τ).loc Cert.Reference50Ideal.main_arg1) = m ((c.tc : Thread Cert.Kernel50Ideal.nD Cert.Kernel50Ideal.τ).loc Cert.Kernel50Ideal.main_arg1)
      ∧ m' ((c.tc : Thread Cert.Reference50Ideal.nD Cert.Reference50Ideal.τ).loc Cert.Reference50Ideal.main_arg2) = m ((c.tc : Thread Cert.Kernel50Ideal.nD Cert.Kernel50Ideal.τ).loc Cert.Kernel50Ideal.main_arg2)) →
    ∃ (v0 : (c : Dev Cert.Kernel50Ideal.nD) → Buf (Elt Ideal) ((c.tc : Thread Cert.Kernel50Ideal.nD Cert.Kernel50Ideal.τ).loc Cert.Kernel50Ideal.main_v0)),
      θ_run (Cert.Kernel50Ideal.defs (F := Ideal)) (onTc (τ := Cert.Kernel50Ideal.τ) (Cert.Kernel50Ideal.main (F := Ideal))) ⟨m, fun _ => 0, g⟩ (fun r => ∀ c : Dev Cert.Kernel50Ideal.nD,
          r.2.mem ((c.tc : Thread Cert.Kernel50Ideal.nD Cert.Kernel50Ideal.τ).loc Cert.Kernel50Ideal.main_v0) = v0 c
          ∧ r.2.mem ((c.tc : Thread Cert.Kernel50Ideal.nD Cert.Kernel50Ideal.τ).loc Cert.Kernel50Ideal.main_arg0) = m ((c.tc : Thread Cert.Kernel50Ideal.nD Cert.Kernel50Ideal.τ).loc Cert.Kernel50Ideal.main_arg0)
          ∧ r.2.mem ((c.tc : Thread Cert.Kernel50Ideal.nD Cert.Kernel50Ideal.τ).loc Cert.Kernel50Ideal.main_arg1) = m ((c.tc : Thread Cert.Kernel50Ideal.nD Cert.Kernel50Ideal.τ).loc Cert.Kernel50Ideal.main_arg1)
          ∧ r.2.mem ((c.tc : Thread Cert.Kernel50Ideal.nD Cert.Kernel50Ideal.τ).loc Cert.Kernel50Ideal.main_arg2) = m ((c.tc : Thread Cert.Kernel50Ideal.nD Cert.Kernel50Ideal.τ).loc Cert.Kernel50Ideal.main_arg2))
      ∧ θ_run (Cert.Reference50Ideal.defs (F := Ideal)) (onTc (τ := Cert.Reference50Ideal.τ) (Cert.Reference50Ideal.main (F := Ideal))) ⟨m', fun _ => 0, g'⟩ (fun r => ∀ c : Dev Cert.Reference50Ideal.nD,
          r.2.mem ((c.tc : Thread Cert.Reference50Ideal.nD Cert.Reference50Ideal.τ).loc Cert.Reference50Ideal.main_v23) = v0 c
          ∧ r.2.mem ((c.tc : Thread Cert.Reference50Ideal.nD Cert.Reference50Ideal.τ).loc Cert.Reference50Ideal.main_arg0) = m' ((c.tc : Thread Cert.Reference50Ideal.nD Cert.Reference50Ideal.τ).loc Cert.Reference50Ideal.main_arg0)
          ∧ r.2.mem ((c.tc : Thread Cert.Reference50Ideal.nD Cert.Reference50Ideal.τ).loc Cert.Reference50Ideal.main_arg1) = m' ((c.tc : Thread Cert.Reference50Ideal.nD Cert.Reference50Ideal.τ).loc Cert.Reference50Ideal.main_arg1)
          ∧ r.2.mem ((c.tc : Thread Cert.Reference50Ideal.nD Cert.Reference50Ideal.τ).loc Cert.Reference50Ideal.main_arg2) = m' ((c.tc : Thread Cert.Reference50Ideal.nD Cert.Reference50Ideal.τ).loc Cert.Reference50Ideal.main_arg2))

def preserves_Kernel51_Kernel51Ideal : Prop :=
  True

def algebraic_Kernel51Ideal_Reference51Ideal [hKernel51Ideal : Cert.Kernel51Ideal.Facts] [hReference51Ideal : Cert.Reference51Ideal.Facts] : Prop :=
  ∀ (m : (ℓ : Loc Cert.Kernel51Ideal.nD Cert.Kernel51Ideal.τ Cert.Kernel51Ideal.sig) → Buf (Elt Ideal) ℓ) (g : Dev Cert.Kernel51Ideal.nD → PrngReg)
    (m' : (ℓ : Loc Cert.Reference51Ideal.nD Cert.Reference51Ideal.τ Cert.Reference51Ideal.sig) → Buf (Elt Ideal) ℓ) (g' : Dev Cert.Reference51Ideal.nD → PrngReg), Pre_Kernel51Ideal m →
    (∀ c : Dev Cert.Kernel51Ideal.nD,
      m' ((c.tc : Thread Cert.Reference51Ideal.nD Cert.Reference51Ideal.τ).loc Cert.Reference51Ideal.main_arg0) = m ((c.tc : Thread Cert.Kernel51Ideal.nD Cert.Kernel51Ideal.τ).loc Cert.Kernel51Ideal.main_arg0)
      ∧ m' ((c.tc : Thread Cert.Reference51Ideal.nD Cert.Reference51Ideal.τ).loc Cert.Reference51Ideal.main_arg1) = m ((c.tc : Thread Cert.Kernel51Ideal.nD Cert.Kernel51Ideal.τ).loc Cert.Kernel51Ideal.main_arg1)
      ∧ m' ((c.tc : Thread Cert.Reference51Ideal.nD Cert.Reference51Ideal.τ).loc Cert.Reference51Ideal.main_arg2) = m ((c.tc : Thread Cert.Kernel51Ideal.nD Cert.Kernel51Ideal.τ).loc Cert.Kernel51Ideal.main_arg2)
      ∧ m' ((c.tc : Thread Cert.Reference51Ideal.nD Cert.Reference51Ideal.τ).loc Cert.Reference51Ideal.main_arg3) = m ((c.tc : Thread Cert.Kernel51Ideal.nD Cert.Kernel51Ideal.τ).loc Cert.Kernel51Ideal.main_arg3)) →
    ∃ (v0 : (c : Dev Cert.Kernel51Ideal.nD) → Buf (Elt Ideal) ((c.tc : Thread Cert.Kernel51Ideal.nD Cert.Kernel51Ideal.τ).loc Cert.Kernel51Ideal.main_v0)),
      θ_run (Cert.Kernel51Ideal.defs (F := Ideal)) (onTc (τ := Cert.Kernel51Ideal.τ) (Cert.Kernel51Ideal.main (F := Ideal))) ⟨m, fun _ => 0, g⟩ (fun r => ∀ c : Dev Cert.Kernel51Ideal.nD,
          r.2.mem ((c.tc : Thread Cert.Kernel51Ideal.nD Cert.Kernel51Ideal.τ).loc Cert.Kernel51Ideal.main_v0) = v0 c
          ∧ r.2.mem ((c.tc : Thread Cert.Kernel51Ideal.nD Cert.Kernel51Ideal.τ).loc Cert.Kernel51Ideal.main_arg0) = m ((c.tc : Thread Cert.Kernel51Ideal.nD Cert.Kernel51Ideal.τ).loc Cert.Kernel51Ideal.main_arg0)
          ∧ r.2.mem ((c.tc : Thread Cert.Kernel51Ideal.nD Cert.Kernel51Ideal.τ).loc Cert.Kernel51Ideal.main_arg1) = m ((c.tc : Thread Cert.Kernel51Ideal.nD Cert.Kernel51Ideal.τ).loc Cert.Kernel51Ideal.main_arg1)
          ∧ r.2.mem ((c.tc : Thread Cert.Kernel51Ideal.nD Cert.Kernel51Ideal.τ).loc Cert.Kernel51Ideal.main_arg2) = m ((c.tc : Thread Cert.Kernel51Ideal.nD Cert.Kernel51Ideal.τ).loc Cert.Kernel51Ideal.main_arg2)
          ∧ r.2.mem ((c.tc : Thread Cert.Kernel51Ideal.nD Cert.Kernel51Ideal.τ).loc Cert.Kernel51Ideal.main_arg3) = m ((c.tc : Thread Cert.Kernel51Ideal.nD Cert.Kernel51Ideal.τ).loc Cert.Kernel51Ideal.main_arg3))
      ∧ θ_run (Cert.Reference51Ideal.defs (F := Ideal)) (onTc (τ := Cert.Reference51Ideal.τ) (Cert.Reference51Ideal.main (F := Ideal))) ⟨m', fun _ => 0, g'⟩ (fun r => ∀ c : Dev Cert.Reference51Ideal.nD,
          r.2.mem ((c.tc : Thread Cert.Reference51Ideal.nD Cert.Reference51Ideal.τ).loc Cert.Reference51Ideal.main_v26) = v0 c
          ∧ r.2.mem ((c.tc : Thread Cert.Reference51Ideal.nD Cert.Reference51Ideal.τ).loc Cert.Reference51Ideal.main_arg0) = m' ((c.tc : Thread Cert.Reference51Ideal.nD Cert.Reference51Ideal.τ).loc Cert.Reference51Ideal.main_arg0)
          ∧ r.2.mem ((c.tc : Thread Cert.Reference51Ideal.nD Cert.Reference51Ideal.τ).loc Cert.Reference51Ideal.main_arg1) = m' ((c.tc : Thread Cert.Reference51Ideal.nD Cert.Reference51Ideal.τ).loc Cert.Reference51Ideal.main_arg1)
          ∧ r.2.mem ((c.tc : Thread Cert.Reference51Ideal.nD Cert.Reference51Ideal.τ).loc Cert.Reference51Ideal.main_arg2) = m' ((c.tc : Thread Cert.Reference51Ideal.nD Cert.Reference51Ideal.τ).loc Cert.Reference51Ideal.main_arg2)
          ∧ r.2.mem ((c.tc : Thread Cert.Reference51Ideal.nD Cert.Reference51Ideal.τ).loc Cert.Reference51Ideal.main_arg3) = m' ((c.tc : Thread Cert.Reference51Ideal.nD Cert.Reference51Ideal.τ).loc Cert.Reference51Ideal.main_arg3))

def preserves_Kernel52_Kernel52Ideal : Prop :=
  True

def algebraic_Kernel52Ideal_Reference52Ideal [hKernel52Ideal : Cert.Kernel52Ideal.Facts] [hReference52Ideal : Cert.Reference52Ideal.Facts] : Prop :=
  ∀ (m : (ℓ : Loc Cert.Kernel52Ideal.nD Cert.Kernel52Ideal.τ Cert.Kernel52Ideal.sig) → Buf (Elt Ideal) ℓ) (g : Dev Cert.Kernel52Ideal.nD → PrngReg)
    (m' : (ℓ : Loc Cert.Reference52Ideal.nD Cert.Reference52Ideal.τ Cert.Reference52Ideal.sig) → Buf (Elt Ideal) ℓ) (g' : Dev Cert.Reference52Ideal.nD → PrngReg), Pre_Kernel52Ideal m →
    (∀ c : Dev Cert.Kernel52Ideal.nD,
      m' ((c.tc : Thread Cert.Reference52Ideal.nD Cert.Reference52Ideal.τ).loc Cert.Reference52Ideal.main_arg0) = m ((c.tc : Thread Cert.Kernel52Ideal.nD Cert.Kernel52Ideal.τ).loc Cert.Kernel52Ideal.main_arg0)
      ∧ m' ((c.tc : Thread Cert.Reference52Ideal.nD Cert.Reference52Ideal.τ).loc Cert.Reference52Ideal.main_arg1) = m ((c.tc : Thread Cert.Kernel52Ideal.nD Cert.Kernel52Ideal.τ).loc Cert.Kernel52Ideal.main_arg1)) →
    ∃ (v0 : (c : Dev Cert.Kernel52Ideal.nD) → Buf (Elt Ideal) ((c.tc : Thread Cert.Kernel52Ideal.nD Cert.Kernel52Ideal.τ).loc Cert.Kernel52Ideal.main_v0)),
      θ_run (Cert.Kernel52Ideal.defs (F := Ideal)) (onTc (τ := Cert.Kernel52Ideal.τ) (Cert.Kernel52Ideal.main (F := Ideal))) ⟨m, fun _ => 0, g⟩ (fun r => ∀ c : Dev Cert.Kernel52Ideal.nD,
          r.2.mem ((c.tc : Thread Cert.Kernel52Ideal.nD Cert.Kernel52Ideal.τ).loc Cert.Kernel52Ideal.main_v0) = v0 c
          ∧ r.2.mem ((c.tc : Thread Cert.Kernel52Ideal.nD Cert.Kernel52Ideal.τ).loc Cert.Kernel52Ideal.main_arg0) = m ((c.tc : Thread Cert.Kernel52Ideal.nD Cert.Kernel52Ideal.τ).loc Cert.Kernel52Ideal.main_arg0)
          ∧ r.2.mem ((c.tc : Thread Cert.Kernel52Ideal.nD Cert.Kernel52Ideal.τ).loc Cert.Kernel52Ideal.main_arg1) = m ((c.tc : Thread Cert.Kernel52Ideal.nD Cert.Kernel52Ideal.τ).loc Cert.Kernel52Ideal.main_arg1))
      ∧ θ_run (Cert.Reference52Ideal.defs (F := Ideal)) (onTc (τ := Cert.Reference52Ideal.τ) (Cert.Reference52Ideal.main (F := Ideal))) ⟨m', fun _ => 0, g'⟩ (fun r => ∀ c : Dev Cert.Reference52Ideal.nD,
          r.2.mem ((c.tc : Thread Cert.Reference52Ideal.nD Cert.Reference52Ideal.τ).loc Cert.Reference52Ideal.main_v1) = v0 c
          ∧ r.2.mem ((c.tc : Thread Cert.Reference52Ideal.nD Cert.Reference52Ideal.τ).loc Cert.Reference52Ideal.main_arg0) = m' ((c.tc : Thread Cert.Reference52Ideal.nD Cert.Reference52Ideal.τ).loc Cert.Reference52Ideal.main_arg0)
          ∧ r.2.mem ((c.tc : Thread Cert.Reference52Ideal.nD Cert.Reference52Ideal.τ).loc Cert.Reference52Ideal.main_arg1) = m' ((c.tc : Thread Cert.Reference52Ideal.nD Cert.Reference52Ideal.τ).loc Cert.Reference52Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hKernel37 : Cert.Kernel37.Facts) (hKernel37Ideal : Cert.Kernel37Ideal.Facts) (hReference37Ideal : Cert.Reference37Ideal.Facts) (hKernel38 : Cert.Kernel38.Facts) (hKernel38Ideal : Cert.Kernel38Ideal.Facts) (hReference38Ideal : Cert.Reference38Ideal.Facts) (hKernel39 : Cert.Kernel39.Facts) (hKernel39Ideal : Cert.Kernel39Ideal.Facts) (hReference39Ideal : Cert.Reference39Ideal.Facts) (hKernel40 : Cert.Kernel40.Facts) (hKernel40Ideal : Cert.Kernel40Ideal.Facts) (hReference40Ideal : Cert.Reference40Ideal.Facts) (hKernel41 : Cert.Kernel41.Facts) (hKernel41Ideal : Cert.Kernel41Ideal.Facts) (hReference41Ideal : Cert.Reference41Ideal.Facts) (hKernel42 : Cert.Kernel42.Facts) (hKernel42Ideal : Cert.Kernel42Ideal.Facts) (hReference42Ideal : Cert.Reference42Ideal.Facts) (hKernel43 : Cert.Kernel43.Facts) (hKernel43Ideal : Cert.Kernel43Ideal.Facts) (hReference43Ideal : Cert.Reference43Ideal.Facts) (hKernel44 : Cert.Kernel44.Facts) (hKernel44Ideal : Cert.Kernel44Ideal.Facts) (hReference44Ideal : Cert.Reference44Ideal.Facts) (hKernel45 : Cert.Kernel45.Facts) (hKernel45Ideal : Cert.Kernel45Ideal.Facts) (hReference45Ideal : Cert.Reference45Ideal.Facts) (hKernel46 : Cert.Kernel46.Facts) (hKernel46Ideal : Cert.Kernel46Ideal.Facts) (hReference46Ideal : Cert.Reference46Ideal.Facts) (hKernel47 : Cert.Kernel47.Facts) (hKernel47Ideal : Cert.Kernel47Ideal.Facts) (hReference47Ideal : Cert.Reference47Ideal.Facts) (hKernel48 : Cert.Kernel48.Facts) (hKernel48Ideal : Cert.Kernel48Ideal.Facts) (hReference48Ideal : Cert.Reference48Ideal.Facts) (hKernel49 : Cert.Kernel49.Facts) (hKernel49Ideal : Cert.Kernel49Ideal.Facts) (hReference49Ideal : Cert.Reference49Ideal.Facts) (hKernel50 : Cert.Kernel50.Facts) (hKernel50Ideal : Cert.Kernel50Ideal.Facts) (hReference50Ideal : Cert.Reference50Ideal.Facts) (hKernel51 : Cert.Kernel51.Facts) (hKernel51Ideal : Cert.Kernel51Ideal.Facts) (hReference51Ideal : Cert.Reference51Ideal.Facts) (hKernel52 : Cert.Kernel52.Facts) (hKernel52Ideal : Cert.Kernel52Ideal.Facts) (hReference52Ideal : Cert.Reference52Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ quiescent_Kernel37 (hKernel37 := hKernel37)
    ∧ quiescent_Kernel37Ideal (hKernel37Ideal := hKernel37Ideal)
    ∧ quiescent_Reference37Ideal (hReference37Ideal := hReference37Ideal)
    ∧ quiescent_Kernel38 (hKernel38 := hKernel38)
    ∧ quiescent_Kernel38Ideal (hKernel38Ideal := hKernel38Ideal)
    ∧ quiescent_Reference38Ideal (hReference38Ideal := hReference38Ideal)
    ∧ quiescent_Kernel39 (hKernel39 := hKernel39)
    ∧ quiescent_Kernel39Ideal (hKernel39Ideal := hKernel39Ideal)
    ∧ quiescent_Reference39Ideal (hReference39Ideal := hReference39Ideal)
    ∧ quiescent_Kernel40 (hKernel40 := hKernel40)
    ∧ quiescent_Kernel40Ideal (hKernel40Ideal := hKernel40Ideal)
    ∧ quiescent_Reference40Ideal (hReference40Ideal := hReference40Ideal)
    ∧ quiescent_Kernel41 (hKernel41 := hKernel41)
    ∧ quiescent_Kernel41Ideal (hKernel41Ideal := hKernel41Ideal)
    ∧ quiescent_Reference41Ideal (hReference41Ideal := hReference41Ideal)
    ∧ quiescent_Kernel42 (hKernel42 := hKernel42)
    ∧ quiescent_Kernel42Ideal (hKernel42Ideal := hKernel42Ideal)
    ∧ quiescent_Reference42Ideal (hReference42Ideal := hReference42Ideal)
    ∧ quiescent_Kernel43 (hKernel43 := hKernel43)
    ∧ quiescent_Kernel43Ideal (hKernel43Ideal := hKernel43Ideal)
    ∧ quiescent_Reference43Ideal (hReference43Ideal := hReference43Ideal)
    ∧ quiescent_Kernel44 (hKernel44 := hKernel44)
    ∧ quiescent_Kernel44Ideal (hKernel44Ideal := hKernel44Ideal)
    ∧ quiescent_Reference44Ideal (hReference44Ideal := hReference44Ideal)
    ∧ quiescent_Kernel45 (hKernel45 := hKernel45)
    ∧ quiescent_Kernel45Ideal (hKernel45Ideal := hKernel45Ideal)
    ∧ quiescent_Reference45Ideal (hReference45Ideal := hReference45Ideal)
    ∧ quiescent_Kernel46 (hKernel46 := hKernel46)
    ∧ quiescent_Kernel46Ideal (hKernel46Ideal := hKernel46Ideal)
    ∧ quiescent_Reference46Ideal (hReference46Ideal := hReference46Ideal)
    ∧ quiescent_Kernel47 (hKernel47 := hKernel47)
    ∧ quiescent_Kernel47Ideal (hKernel47Ideal := hKernel47Ideal)
    ∧ quiescent_Reference47Ideal (hReference47Ideal := hReference47Ideal)
    ∧ quiescent_Kernel48 (hKernel48 := hKernel48)
    ∧ quiescent_Kernel48Ideal (hKernel48Ideal := hKernel48Ideal)
    ∧ quiescent_Reference48Ideal (hReference48Ideal := hReference48Ideal)
    ∧ quiescent_Kernel49 (hKernel49 := hKernel49)
    ∧ quiescent_Kernel49Ideal (hKernel49Ideal := hKernel49Ideal)
    ∧ quiescent_Reference49Ideal (hReference49Ideal := hReference49Ideal)
    ∧ quiescent_Kernel50 (hKernel50 := hKernel50)
    ∧ quiescent_Kernel50Ideal (hKernel50Ideal := hKernel50Ideal)
    ∧ quiescent_Reference50Ideal (hReference50Ideal := hReference50Ideal)
    ∧ quiescent_Kernel51 (hKernel51 := hKernel51)
    ∧ quiescent_Kernel51Ideal (hKernel51Ideal := hKernel51Ideal)
    ∧ quiescent_Reference51Ideal (hReference51Ideal := hReference51Ideal)
    ∧ quiescent_Kernel52 (hKernel52 := hKernel52)
    ∧ quiescent_Kernel52Ideal (hKernel52Ideal := hKernel52Ideal)
    ∧ quiescent_Reference52Ideal (hReference52Ideal := hReference52Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
    ∧ preserves_Kernel37_Kernel37Ideal
    ∧ algebraic_Kernel37Ideal_Reference37Ideal (hKernel37Ideal := hKernel37Ideal) (hReference37Ideal := hReference37Ideal)
    ∧ preserves_Kernel38_Kernel38Ideal
    ∧ algebraic_Kernel38Ideal_Reference38Ideal (hKernel38Ideal := hKernel38Ideal) (hReference38Ideal := hReference38Ideal)
    ∧ preserves_Kernel39_Kernel39Ideal
    ∧ algebraic_Kernel39Ideal_Reference39Ideal (hKernel39Ideal := hKernel39Ideal) (hReference39Ideal := hReference39Ideal)
    ∧ preserves_Kernel40_Kernel40Ideal
    ∧ algebraic_Kernel40Ideal_Reference40Ideal (hKernel40Ideal := hKernel40Ideal) (hReference40Ideal := hReference40Ideal)
    ∧ preserves_Kernel41_Kernel41Ideal
    ∧ algebraic_Kernel41Ideal_Reference41Ideal (hKernel41Ideal := hKernel41Ideal) (hReference41Ideal := hReference41Ideal)
    ∧ preserves_Kernel42_Kernel42Ideal
    ∧ algebraic_Kernel42Ideal_Reference42Ideal (hKernel42Ideal := hKernel42Ideal) (hReference42Ideal := hReference42Ideal)
    ∧ preserves_Kernel43_Kernel43Ideal
    ∧ algebraic_Kernel43Ideal_Reference43Ideal (hKernel43Ideal := hKernel43Ideal) (hReference43Ideal := hReference43Ideal)
    ∧ preserves_Kernel44_Kernel44Ideal
    ∧ algebraic_Kernel44Ideal_Reference44Ideal (hKernel44Ideal := hKernel44Ideal) (hReference44Ideal := hReference44Ideal)
    ∧ preserves_Kernel45_Kernel45Ideal
    ∧ algebraic_Kernel45Ideal_Reference45Ideal (hKernel45Ideal := hKernel45Ideal) (hReference45Ideal := hReference45Ideal)
    ∧ preserves_Kernel46_Kernel46Ideal
    ∧ algebraic_Kernel46Ideal_Reference46Ideal (hKernel46Ideal := hKernel46Ideal) (hReference46Ideal := hReference46Ideal)
    ∧ preserves_Kernel47_Kernel47Ideal
    ∧ algebraic_Kernel47Ideal_Reference47Ideal (hKernel47Ideal := hKernel47Ideal) (hReference47Ideal := hReference47Ideal)
    ∧ preserves_Kernel48_Kernel48Ideal
    ∧ algebraic_Kernel48Ideal_Reference48Ideal (hKernel48Ideal := hKernel48Ideal) (hReference48Ideal := hReference48Ideal)
    ∧ preserves_Kernel49_Kernel49Ideal
    ∧ algebraic_Kernel49Ideal_Reference49Ideal (hKernel49Ideal := hKernel49Ideal) (hReference49Ideal := hReference49Ideal)
    ∧ preserves_Kernel50_Kernel50Ideal
    ∧ algebraic_Kernel50Ideal_Reference50Ideal (hKernel50Ideal := hKernel50Ideal) (hReference50Ideal := hReference50Ideal)
    ∧ preserves_Kernel51_Kernel51Ideal
    ∧ algebraic_Kernel51Ideal_Reference51Ideal (hKernel51Ideal := hKernel51Ideal) (hReference51Ideal := hReference51Ideal)
    ∧ preserves_Kernel52_Kernel52Ideal
    ∧ algebraic_Kernel52Ideal_Reference52Ideal (hKernel52Ideal := hKernel52Ideal) (hReference52Ideal := hReference52Ideal)
-- ==== Kernel.lean ====
abbrev S4352x512 : Shape := ⟨2, ![4352, 512]⟩
abbrev S4352x5632 : Shape := ⟨2, ![4352, 5632]⟩
abbrev S2x4 : Shape := ⟨2, ![2, 4]⟩
abbrev S2x4x34x128x256 : Shape := ⟨5, ![2, 4, 34, 128, 256]⟩
abbrev S4352x1024 : Shape := ⟨2, ![4352, 1024]⟩
abbrev S_ : Shape := ⟨0, ![]⟩
abbrev S2x4x8x128 : Shape := ⟨4, ![2, 4, 8, 128]⟩
abbrev S128x512 : Shape := ⟨2, ![128, 512]⟩
abbrev S128x1024 : Shape := ⟨2, ![128, 1024]⟩
abbrev S2x4x1x128x256 : Shape := ⟨5, ![2, 4, 1, 128, 256]⟩
abbrev S2x4x128x256 : Shape := ⟨4, ![2, 4, 128, 256]⟩
abbrev S1x1 : Shape := ⟨2, ![1, 1]⟩
abbrev S128x128 : Shape := ⟨2, ![128, 128]⟩
abbrev S128x1 : Shape := ⟨2, ![128, 1]⟩
abbrev S128x256 : Shape := ⟨2, ![128, 256]⟩
abbrev S1x1x1x128x256 : Shape := ⟨5, ![1, 1, 1, 128, 256]⟩
abbrev S1x1x128x256 : Shape := ⟨4, ![1, 1, 128, 256]⟩
abbrev S1x128x128 : Shape := ⟨3, ![1, 128, 128]⟩
abbrev S1 : Shape := ⟨1, ![1]⟩
abbrev S1x1x1 : Shape := ⟨3, ![1, 1, 1]⟩
abbrev S1x128x256 : Shape := ⟨3, ![1, 128, 256]⟩
abbrev S256 : Shape := ⟨1, ![256]⟩
abbrev S1x256 : Shape := ⟨2, ![1, 256]⟩
abbrev S1x1x8x128 : Shape := ⟨4, ![1, 1, 8, 128]⟩
abbrev S8x128 : Shape := ⟨2, ![8, 128]⟩

abbrev nBuf : Space → Nat
  | .hbm => 29
  | .vmem => 32
  | .smem => 1
  | _ => 0

abbrev bufTy : (tb : Table) → Fin (tcTables nBuf tb) → BufTy
  | .hbm, ⟨0, _⟩ => ⟨S4352x512, .f32⟩
  | .hbm, ⟨1, _⟩ => ⟨S4352x512, .f32⟩
  | .hbm, ⟨2, _⟩ => ⟨S4352x5632, .f32⟩
  | .hbm, ⟨3, _⟩ => ⟨S2x4, .f32⟩
  | .hbm, ⟨4, _⟩ => ⟨S2x4x34x128x256, .f32⟩
  | .hbm, ⟨5, _⟩ => ⟨S4352x1024, .f32⟩
  | .hbm, ⟨6, _⟩ => ⟨S2x4, .f32⟩
  | .hbm, ⟨7, _⟩ => ⟨S_, .f32⟩
  | .hbm, ⟨8, _⟩ => ⟨S2x4, .f32⟩
  | .hbm, ⟨9, _⟩ => ⟨S2x4, .f32⟩
  | .hbm, ⟨10, _⟩ => ⟨S2x4, .f32⟩
  | .hbm, ⟨11, _⟩ => ⟨S2x4, .f32⟩
  | .hbm, ⟨12, _⟩ => ⟨S2x4, .i1⟩
  | .hbm, ⟨13, _⟩ => ⟨S2x4, .f32⟩
  | .hbm, ⟨14, _⟩ => ⟨S2x4, .f32⟩
  | .hbm, ⟨15, _⟩ => ⟨S2x4, .f32⟩
  | .hbm, ⟨16, _⟩ => ⟨S2x4, .f32⟩
  | .hbm, ⟨17, _⟩ => ⟨S2x4, .f32⟩
  | .hbm, ⟨18, _⟩ => ⟨S2x4, .f32⟩
  | .hbm, ⟨19, _⟩ => ⟨S2x4, .f32⟩
  | .hbm, ⟨20, _⟩ => ⟨S2x4, .f32⟩
  | .hbm, ⟨21, _⟩ => ⟨S2x4, .f32⟩
  | .hbm, ⟨22, _⟩ => ⟨S4352x512, .f32⟩
  | .hbm, ⟨23, _⟩ => ⟨S4352x512, .f32⟩
  | .hbm, ⟨24, _⟩ => ⟨S4352x512, .f32⟩
  | .hbm, ⟨25, _⟩ => ⟨S4352x512, .f32⟩
  | .hbm, ⟨26, _⟩ => ⟨S4352x1024, .f32⟩
  | .hbm, ⟨27, _⟩ => ⟨S4352x1024, .f32⟩
  | .hbm, ⟨28, _⟩ => ⟨S2x4x8x128, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S2x4x1x128x256, .f32⟩
  | .local _ .vmem, ⟨13, _⟩ => ⟨S2x4x1x128x256, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | .local _ .vmem, ⟨18, _⟩ => ⟨S128x512, .f32⟩
  | .local _ .vmem, ⟨19, _⟩ => ⟨S128x512, .f32⟩
  | .local _ .vmem, ⟨20, _⟩ => ⟨S128x512, .f32⟩
  | .local _ .vmem, ⟨21, _⟩ => ⟨S128x512, .f32⟩
  | .local _ .vmem, ⟨22, _⟩ => ⟨S128x512, .f32⟩
  | .local _ .vmem, ⟨23, _⟩ => ⟨S128x512, .f32⟩
  | .local _ .vmem, ⟨24, _⟩ => ⟨S128x512, .f32⟩
  | .local _ .vmem, ⟨25, _⟩ => ⟨S128x512, .f32⟩
  | .local _ .vmem, ⟨26, _⟩ => ⟨S128x1024, .f32⟩
  | .local _ .vmem, ⟨27, _⟩ => ⟨S128x1024, .f32⟩
  | .local _ .vmem, ⟨28, _⟩ => ⟨S128x1024, .f32⟩
  | .local _ .vmem, ⟨29, _⟩ => ⟨S128x1024, .f32⟩
  | .local _ .vmem, ⟨30, _⟩ => ⟨S2x4x8x128, .f32⟩
  | .local _ .vmem, ⟨31, _⟩ => ⟨S2x4x128x256, .f32⟩
  | .local _ .smem, ⟨0, _⟩ => ⟨S2x4, .f32⟩
  | _, _ => ⟨S4352x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .smem, ⟨0, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_call0_cst : Ref sig .tc := ⟨.hbm, 7, rfl⟩
abbrev main_call0_call0_v0 : Ref sig .tc := ⟨.hbm, 8, rfl⟩
abbrev main_call0_call0_v1 : Ref sig .tc := ⟨.hbm, 9, rfl⟩
abbrev main_call0_call0_v2 : Ref sig .tc := ⟨.hbm, 10, rfl⟩
abbrev main_call0_call0_v3 : Ref sig .tc := ⟨.hbm, 11, rfl⟩
abbrev main_call0_call0_v4 : Ref sig .tc := ⟨.hbm, 12, rfl⟩
abbrev main_call0_call0_v5 : Ref sig .tc := ⟨.hbm, 13, rfl⟩
abbrev main_call0_call0_v6 : Ref sig .tc := ⟨.hbm, 14, rfl⟩
abbrev main_call0_call0_v7 : Ref sig .tc := ⟨.hbm, 15, rfl⟩
abbrev main_call0_call0_v8 : Ref sig .tc := ⟨.hbm, 16, rfl⟩
abbrev main_call0_call0_v9 : Ref sig .tc := ⟨.hbm, 17, rfl⟩
abbrev main_call0_call0_v10 : Ref sig .tc := ⟨.hbm, 18, rfl⟩
abbrev main_call0_call0_v11 : Ref sig .tc := ⟨.hbm, 19, rfl⟩
abbrev main_call0_v1 : Ref sig .tc := ⟨.hbm, 20, rfl⟩
abbrev main_v0 : Ref sig .tc := ⟨.hbm, 21, rfl⟩
abbrev main_v1_0 : Ref sig .tc := ⟨.hbm, 22, rfl⟩
abbrev main_v1_1 : Ref sig .tc := ⟨.hbm, 23, rfl⟩
abbrev main_v1_2 : Ref sig .tc := ⟨.hbm, 24, rfl⟩
abbrev main_v1_3 : Ref sig .tc := ⟨.hbm, 25, rfl⟩
abbrev main_v1_4 : Ref sig .tc := ⟨.hbm, 26, rfl⟩
abbrev main_v1_5 : Ref sig .tc := ⟨.hbm, 27, rfl⟩
abbrev main_v1_6 : Ref sig .tc := ⟨.hbm, 28, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_scratch0 : Ref sig .tc := ⟨.vmem, 31, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c33_i32 : BitVec 32 := 33#32
  let v0 : BitVec 32 := Scalar.subi c33_i32 arg0
  let c2_i32 : BitVec 32 := 2#32
  let v1 : BitVec 1 := Scalar.cmpi .slt v0 c2_i32
  let c32_i32 : BitVec 32 := 32#32
  let v2 : BitVec 32 := Scalar.addi c32_i32 v0
  let c2_i32_0 : BitVec 32 := 2#32
  let v3 : BitVec 32 := Scalar.subi v0 c2_i32_0
  let v4 : BitVec 32 := Scalar.select v1 v2 v3
  let c0_i32 : BitVec 32 := 0#32
  let c0_i32_1 : BitVec 32 := 0#32
  ![v4.toNat, c0_i32.toNat]

def cc0_transform_2 (i : grid0.Coords) : Fin 2 → Nat :=
  let arg0 : BitVec 32 := BitVec.ofNat 32 (i 0).val
  let c33_i32 : BitVec 32 := 33#32
  let v0 : BitVec 32 := Scalar.subi c33_i32 arg0
  let c33_i32_0 : BitVec 32 := 33#32
  let v1 : BitVec 32 := Scalar.subi c33_i32_0 v0
  let c0_i32 : BitVec 32 := 0#32
  let c0_i32_1 : BitVec 32 := 0#32
  ![v1.toNat, c0_i32.toNat]

def cc0_transform_3 (i : grid0.Coords) : Fin 2 → Nat :=
  let arg0 : BitVec 32 := BitVec.ofNat 32 (i 0).val
  let c33_i32 : BitVec 32 := 33#32
  let v0 : BitVec 32 := Scalar.subi c33_i32 arg0
  let c2_i32 : BitVec 32 := 2#32
  let v1 : BitVec 1 := Scalar.cmpi .slt v0 c2_i32
  let c32_i32 : BitVec 32 := 32#32
  let v2 : BitVec 32 := Scalar.addi c32_i32 v0
  let c2_i32_0 : BitVec 32 := 2#32
  let v3 : BitVec 32 := Scalar.subi v0 c2_i32_0
  let v4 : BitVec 32 := Scalar.select v1 v2 v3
  let c0_i32 : BitVec 32 := 0#32
  let c0_i32_1 : BitVec 32 := 0#32
  ![v4.toNat, c0_i32.toNat]

def cc0_transform_4 (i : grid0.Coords) : Fin 2 → Nat :=
  let arg0 : BitVec 32 := BitVec.ofNat 32 (i 0).val
  let c33_i32 : BitVec 32 := 33#32
  let v0 : BitVec 32 := Scalar.subi c33_i32 arg0
  let c33_i32_0 : BitVec 32 := 33#32
  let v1 : BitVec 32 := Scalar.subi c33_i32_0 v0
  let c0_i32 : BitVec 32 := 0#32
  let c0_i32_1 : BitVec 32 := 0#32
  ![v1.toNat, c0_i32.toNat]

def cc0_transform_5 (i : grid0.Coords) : Fin 2 → Nat :=
  let arg0 : BitVec 32 := BitVec.ofNat 32 (i 0).val
  let c33_i32 : BitVec 32 := 33#32
  let v0 : BitVec 32 := Scalar.subi c33_i32 arg0
  let c2_i32 : BitVec 32 := 2#32
  let v1 : BitVec 1 := Scalar.cmpi .slt v0 c2_i32
  let c32_i32 : BitVec 32 := 32#32
  let v2 : BitVec 32 := Scalar.addi c32_i32 v0
  let c2_i32_0 : BitVec 32 := 2#32
  let v3 : BitVec 32 := Scalar.subi v0 c2_i32_0
  let v4 : BitVec 32 := Scalar.select v1 v2 v3
  let c1_i32 : BitVec 32 := 1#32
  let c0_i32 : BitVec 32 := 0#32
  ![v4.toNat, c1_i32.toNat]

def cc0_transform_6 (i : grid0.Coords) : Fin 2 → Nat :=
  let arg0 : BitVec 32 := BitVec.ofNat 32 (i 0).val
  let c33_i32 : BitVec 32 := 33#32
  let v0 : BitVec 32 := Scalar.subi c33_i32 arg0
  let c33_i32_0 : BitVec 32 := 33#32
  let v1 : BitVec 32 := Scalar.subi c33_i32_0 v0
  let c1_i32 : BitVec 32 := 1#32
  let c0_i32 : BitVec 32 := 0#32
  ![v1.toNat, c1_i32.toNat]

def cc0_transform_7 (i : grid0.Coords) : Fin 5 → Nat :=
  let arg0 : BitVec 32 := BitVec.ofNat 32 (i 0).val
  let c33_i32 : BitVec 32 := 33#32
  let v0 : BitVec 32 := Scalar.subi c33_i32 arg0
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, v0.toNat, c0_i32_1.toNat, c0_i32_2.toNat]

def cc0_transform_8 (i : grid0.Coords) : Fin 2 → Nat :=
  let arg0 : BitVec 32 := BitVec.ofNat 32 (i 0).val
  let c33_i32 : BitVec 32 := 33#32
  let v0 : BitVec 32 := Scalar.subi c33_i32 arg0
  let c2_i32 : BitVec 32 := 2#32
  let v1 : BitVec 1 := Scalar.cmpi .slt v0 c2_i32
  let c32_i32 : BitVec 32 := 32#32
  let v2 : BitVec 32 := Scalar.addi c32_i32 v0
  let c2_i32_0 : BitVec 32 := 2#32
  let v3 : BitVec 32 := Scalar.subi v0 c2_i32_0
  let v4 : BitVec 32 := Scalar.select v1 v2 v3
  let c0_i32 : BitVec 32 := 0#32
  let c0_i32_1 : BitVec 32 := 0#32
  ![v4.toNat, c0_i32.toNat]

def cc0_transform_9 (i : grid0.Coords) : Fin 2 → Nat :=
  let arg0 : BitVec 32 := BitVec.ofNat 32 (i 0).val
  let c33_i32 : BitVec 32 := 33#32
  let v0 : BitVec 32 := Scalar.subi c33_i32 arg0
  let c33_i32_0 : BitVec 32 := 33#32
  let v1 : BitVec 32 := Scalar.subi c33_i32_0 v0
  let c0_i32 : BitVec 32 := 0#32
  let c0_i32_1 : BitVec 32 := 0#32
  ![v1.toNat, c0_i32.toNat]

def cc0_transform_10 (i : grid0.Coords) : Fin 2 → Nat :=
  let arg0 : BitVec 32 := BitVec.ofNat 32 (i 0).val
  let c33_i32 : BitVec 32 := 33#32
  let v0 : BitVec 32 := Scalar.subi c33_i32 arg0
  let c2_i32 : BitVec 32 := 2#32
  let v1 : BitVec 1 := Scalar.cmpi .slt v0 c2_i32
  let c32_i32 : BitVec 32 := 32#32
  let v2 : BitVec 32 := Scalar.addi c32_i32 v0
  let c2_i32_0 : BitVec 32 := 2#32
  let v3 : BitVec 32 := Scalar.subi v0 c2_i32_0
  let v4 : BitVec 32 := Scalar.select v1 v2 v3
  let c0_i32 : BitVec 32 := 0#32
  let c0_i32_1 : BitVec 32 := 0#32
  ![v4.toNat, c0_i32.toNat]

def cc0_transform_11 (i : grid0.Coords) : Fin 2 → Nat :=
  let arg0 : BitVec 32 := BitVec.ofNat 32 (i 0).val
  let c33_i32 : BitVec 32 := 33#32
  let v0 : BitVec 32 := Scalar.subi c33_i32 arg0
  let c33_i32_0 : BitVec 32 := 33#32
  let v1 : BitVec 32 := Scalar.subi c33_i32_0 v0
  let c0_i32 : BitVec 32 := 0#32
  let c0_i32_1 : BitVec 32 := 0#32
  ![v1.toNat, c0_i32.toNat]

def cc0_transform_12 (i : grid0.Coords) : Fin 2 → Nat :=
  let arg0 : BitVec 32 := BitVec.ofNat 32 (i 0).val
  let c33_i32 : BitVec 32 := 33#32
  let v0 : BitVec 32 := Scalar.subi c33_i32 arg0
  let c2_i32 : BitVec 32 := 2#32
  let v1 : BitVec 1 := Scalar.cmpi .slt v0 c2_i32
  let c32_i32 : BitVec 32 := 32#32
  let v2 : BitVec 32 := Scalar.addi c32_i32 v0
  let c2_i32_0 : BitVec 32 := 2#32
  let v3 : BitVec 32 := Scalar.subi v0 c2_i32_0
  let v4 : BitVec 32 := Scalar.select v1 v2 v3
  let c0_i32 : BitVec 32 := 0#32
  let c0_i32_1 : BitVec 32 := 0#32
  ![v4.toNat, c0_i32.toNat]

def cc0_transform_13 (i : grid0.Coords) : Fin 2 → Nat :=
  let arg0 : BitVec 32 := BitVec.ofNat 32 (i 0).val
  let c33_i32 : BitVec 32 := 33#32
  let v0 : BitVec 32 := Scalar.subi c33_i32 arg0
  let c33_i32_0 : BitVec 32 := 33#32
  let v1 : BitVec 32 := Scalar.subi c33_i32_0 v0
  let c0_i32 : BitVec 32 := 0#32
  let c0_i32_1 : BitVec 32 := 0#32
  ![v1.toNat, c0_i32.toNat]

def cc0_transform_14 (i : grid0.Coords) : Fin 2 → Nat :=
  let arg0 : BitVec 32 := BitVec.ofNat 32 (i 0).val
  let c33_i32 : BitVec 32 := 33#32
  let v0 : BitVec 32 := Scalar.subi c33_i32 arg0
  let c2_i32 : BitVec 32 := 2#32
  let v1 : BitVec 1 := Scalar.cmpi .slt v0 c2_i32
  let c32_i32 : BitVec 32 := 32#32
  let v2 : BitVec 32 := Scalar.addi c32_i32 v0
  let c2_i32_0 : BitVec 32 := 2#32
  let v3 : BitVec 32 := Scalar.subi v0 c2_i32_0
  let v4 : BitVec 32 := Scalar.select v1 v2 v3
  let c0_i32 : BitVec 32 := 0#32
  let c0_i32_1 : BitVec 32 := 0#32
  ![v4.toNat, c0_i32.toNat]

def cc0_transform_15 (i : grid0.Coords) : Fin 2 → Nat :=
  let arg0 : BitVec 32 := BitVec.ofNat 32 (i 0).val
  let c33_i32 : BitVec 32 := 33#32
  let v0 : BitVec 32 := Scalar.subi c33_i32 arg0
  let c33_i32_0 : BitVec 32 := 33#32
  let v1 : BitVec 32 := Scalar.subi c33_i32_0 v0
  let c0_i32 : BitVec 32 := 0#32
  let c0_i32_1 : BitVec 32 := 0#32
  ![v1.toNat, c0_i32.toNat]

def cc0_transform_16 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 1 → Memref sig .tc .smem S2x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x4x1x128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S128x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S2x4x8x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== ReferenceIdeal.lean ====
abbrev S4352x512 : Shape := ⟨2, ![4352, 512]⟩
abbrev S4352x5632 : Shape := ⟨2, ![4352, 5632]⟩
abbrev S2x4 : Shape := ⟨2, ![2, 4]⟩
abbrev S2x4x34x128x256 : Shape := ⟨5, ![2, 4, 34, 128, 256]⟩
abbrev S4352x1024 : Shape := ⟨2, ![4352, 1024]⟩
abbrev S_ : Shape := ⟨0, ![]⟩
abbrev S34x2x4x128x256 : Shape := ⟨5, ![34, 2, 4, 128, 256]⟩
abbrev S256x512 : Shape := ⟨2, ![256, 512]⟩
abbrev S4096x512 : Shape := ⟨2, ![4096, 512]⟩
abbrev S1x4352x512 : Shape := ⟨3, ![1, 4352, 512]⟩
abbrev S2x4352x512 : Shape := ⟨3, ![2, 4352, 512]⟩
abbrev S2x34x128x4x128 : Shape := ⟨5, ![2, 34, 128, 4, 128]⟩
abbrev S34x2x4x128x128 : Shape := ⟨5, ![34, 2, 4, 128, 128]⟩
abbrev S256x1024 : Shape := ⟨2, ![256, 1024]⟩
abbrev S4096x1024 : Shape := ⟨2, ![4096, 1024]⟩
abbrev S1x4352x1024 : Shape := ⟨3, ![1, 4352, 1024]⟩
abbrev S2x4352x1024 : Shape := ⟨3, ![2, 4352, 1024]⟩
abbrev S2x34x128x4x256 : Shape := ⟨5, ![2, 34, 128, 4, 256]⟩
abbrev S2x4x128x256 : Shape := ⟨4, ![2, 4, 128, 256]⟩
abbrev S34x2x4 : Shape := ⟨3, ![34, 2, 4]⟩
abbrev S1x2x4x128x256 : Shape := ⟨5, ![1, 2, 4, 128, 256]⟩
abbrev S1x2x4x128x128 : Shape := ⟨5, ![1, 2, 4, 128, 128]⟩
abbrev S2x4x128x128 : Shape := ⟨4, ![2, 4, 128, 128]⟩
abbrev S2x4x1x1 : Shape := ⟨4, ![2, 4, 1, 1]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x1x128x128 : Shape := ⟨4, ![1, 1, 128, 128]⟩
abbrev S1x1x128x1 : Shape := ⟨4, ![1, 1, 128, 1]⟩
abbrev S2x4x128x1 : Shape := ⟨4, ![2, 4, 128, 1]⟩
abbrev S2x4x256x128 : Shape := ⟨4, ![2, 4, 256, 128]⟩
abbrev S2x4x128 : Shape := ⟨3, ![2, 4, 128]⟩
abbrev S2x4x1 : Shape := ⟨3, ![2, 4, 1]⟩
abbrev S1x2x4 : Shape := ⟨3, ![1, 2, 4]⟩
abbrev S2x4x8x128 : Shape := ⟨4, ![2, 4, 8, 128]⟩

abbrev nBuf : Space → Nat
  | .hbm => 304
  | .vmem => 0
  | .smem => 0
  | _ => 0

abbrev hbmTy0_0 (i : Nat) : BufTy := match i % 128 with
  | 0 => ⟨S4352x512, .f32⟩
  | 1 => ⟨S4352x512, .f32⟩
  | 2 => ⟨S4352x5632, .f32⟩
  | 3 => ⟨S2x4, .f32⟩
  | 4 => ⟨S2x4x34x128x256, .f32⟩
  | 5 => ⟨S4352x1024, .f32⟩
  | 6 => ⟨S2x4, .f32⟩
  | 7 => ⟨S_, .f32⟩
  | 8 => ⟨S2x4, .f32⟩
  | 9 => ⟨S2x4, .f32⟩
  | 10 => ⟨S2x4, .f32⟩
  | 11 => ⟨S2x4, .f32⟩
  | 12 => ⟨S2x4, .i1⟩
  | 13 => ⟨S2x4, .f32⟩
  | 14 => ⟨S2x4, .f32⟩
  | 15 => ⟨S2x4, .f32⟩
  | 16 => ⟨S2x4, .f32⟩
  | 17 => ⟨S2x4, .f32⟩
  | 18 => ⟨S2x4, .f32⟩
  | 19 => ⟨S2x4, .f32⟩
  | 20 => ⟨S2x4, .f32⟩
  | 21 => ⟨S2x4, .f32⟩
  | 22 => ⟨S34x2x4x128x256, .f32⟩
  | 23 => ⟨S256x512, .f32⟩
  | 24 => ⟨S4096x512, .f32⟩
  | 25 => ⟨S4352x512, .f32⟩
  | 26 => ⟨S4352x512, .f32⟩
  | 27 => ⟨S1x4352x512, .f32⟩
  | 28 => ⟨S1x4352x512, .f32⟩
  | 29 => ⟨S2x4352x512, .f32⟩
  | 30 => ⟨S2x34x128x4x128, .f32⟩
  | 31 => ⟨S34x2x4x128x128, .f32⟩
  | 32 => ⟨S256x512, .f32⟩
  | 33 => ⟨S4096x512, .f32⟩
  | 34 => ⟨S4352x512, .f32⟩
  | 35 => ⟨S4352x512, .f32⟩
  | 36 => ⟨S1x4352x512, .f32⟩
  | 37 => ⟨S1x4352x512, .f32⟩
  | 38 => ⟨S2x4352x512, .f32⟩
  | 39 => ⟨S2x34x128x4x128, .f32⟩
  | 40 => ⟨S34x2x4x128x128, .f32⟩
  | 41 => ⟨S4352x1024, .f32⟩
  | 42 => ⟨S256x1024, .f32⟩
  | 43 => ⟨S4096x1024, .f32⟩
  | 44 => ⟨S4352x1024, .f32⟩
  | 45 => ⟨S4352x1024, .f32⟩
  | 46 => ⟨S1x4352x1024, .f32⟩
  | 47 => ⟨S1x4352x1024, .f32⟩
  | 48 => ⟨S2x4352x1024, .f32⟩
  | 49 => ⟨S2x34x128x4x256, .f32⟩
  | 50 => ⟨S34x2x4x128x256, .f32⟩
  | 51 => ⟨S256x1024, .f32⟩
  | 52 => ⟨S4096x1024, .f32⟩
  | 53 => ⟨S4352x1024, .f32⟩
  | 54 => ⟨S4352x1024, .f32⟩
  | 55 => ⟨S1x4352x1024, .f32⟩
  | 56 => ⟨S1x4352x1024, .f32⟩
  | 57 => ⟨S2x4352x1024, .f32⟩
  | 58 => ⟨S2x34x128x4x256, .f32⟩
  | 59 => ⟨S34x2x4x128x256, .f32⟩
  | 60 => ⟨S_, .f32⟩
  | 61 => ⟨S2x4x128x256, .f32⟩
  | 62 => ⟨S_, .f32⟩
  | 63 => ⟨S34x2x4x128x128, .f32⟩
  | 64 => ⟨S_, .f32⟩
  | 65 => ⟨S34x2x4x128x128, .f32⟩
  | 66 => ⟨S_, .f32⟩
  | 67 => ⟨S34x2x4x128x256, .f32⟩
  | 68 => ⟨S_, .f32⟩
  | 69 => ⟨S34x2x4, .f32⟩
  | 70 => ⟨S_, .i32⟩
  | 71 => ⟨S34x2x4x128x256, .f32⟩
  | 72 => ⟨S34x2x4x128x128, .f32⟩
  | 73 => ⟨S34x2x4x128x128, .f32⟩
  | 74 => ⟨S34x2x4x128x256, .f32⟩
  | 75 => ⟨S34x2x4x128x256, .f32⟩
  | 76 => ⟨S2x4, .f32⟩
  | 77 => ⟨S_, .i32⟩
  | 78 => ⟨S2x4x128x256, .f32⟩
  | 79 => ⟨S34x2x4x128x128, .f32⟩
  | 80 => ⟨S34x2x4x128x128, .f32⟩
  | 81 => ⟨S34x2x4x128x256, .f32⟩
  | 82 => ⟨S34x2x4, .f32⟩
  | 83 => ⟨S_, .i32⟩
  | 84 => ⟨S_, .i1⟩
  | 85 => ⟨S_, .i32⟩
  | 86 => ⟨S_, .i32⟩
  | 87 => ⟨S_, .i32⟩
  | 88 => ⟨S_, .i32⟩
  | 89 => ⟨S_, .i32⟩
  | 90 => ⟨S_, .i32⟩
  | 91 => ⟨S_, .i32⟩
  | 92 => ⟨S_, .i32⟩
  | 93 => ⟨S1x2x4x128x256, .f32⟩
  | 94 => ⟨S2x4x128x256, .f32⟩
  | 95 => ⟨S_, .i32⟩
  | 96 => ⟨S_, .i32⟩
  | 97 => ⟨S_, .i32⟩
  | 98 => ⟨S_, .i32⟩
  | 99 => ⟨S1x2x4x128x128, .f32⟩
  | 100 => ⟨S2x4x128x128, .f32⟩
  | 101 => ⟨S_, .i32⟩
  | 102 => ⟨S_, .i32⟩
  | 103 => ⟨S_, .i32⟩
  | 104 => ⟨S_, .i32⟩
  | 105 => ⟨S1x2x4x128x128, .f32⟩
  | 106 => ⟨S2x4x128x128, .f32⟩
  | 107 => ⟨S_, .i32⟩
  | 108 => ⟨S_, .i32⟩
  | 109 => ⟨S_, .i32⟩
  | 110 => ⟨S_, .i32⟩
  | 111 => ⟨S1x2x4x128x256, .f32⟩
  | 112 => ⟨S2x4x128x256, .f32⟩
  | 113 => ⟨S_, .i32⟩
  | 114 => ⟨S_, .i32⟩
  | 115 => ⟨S_, .i32⟩
  | 116 => ⟨S_, .i32⟩
  | 117 => ⟨S1x2x4x128x256, .f32⟩
  | 118 => ⟨S2x4x128x256, .f32⟩
  | 119 => ⟨S2x4x1x1, .f32⟩
  | 120 => ⟨S128, .f32⟩
  | 121 => ⟨S128x1, .f32⟩
  | 122 => ⟨S1x128, .f32⟩
  | 123 => ⟨S128x128, .f32⟩
  | 124 => ⟨S128x128, .f32⟩
  | 125 => ⟨S128x128, .f32⟩
  | 126 => ⟨S_, .f32⟩
  | 127 => ⟨S128x128, .f32⟩
  | _ => ⟨S4352x512, .f32⟩

abbrev hbmTy0_1 (i : Nat) : BufTy := match i % 128 with
  | 0 => ⟨S128x128, .i1⟩
  | 1 => ⟨S_, .f32⟩
  | 2 => ⟨S_, .f32⟩
  | 3 => ⟨S128x128, .f32⟩
  | 4 => ⟨S128x128, .f32⟩
  | 5 => ⟨S1x1x128x128, .f32⟩
  | 6 => ⟨S2x4x128x128, .f32⟩
  | 7 => ⟨S2x4x128x128, .f32⟩
  | 8 => ⟨S2x4x128x128, .f32⟩
  | 9 => ⟨S2x4x128x128, .f32⟩
  | 10 => ⟨S_, .f32⟩
  | 11 => ⟨S_, .f32⟩
  | 12 => ⟨S2x4x128x128, .i1⟩
  | 13 => ⟨S2x4x128x128, .f32⟩
  | 14 => ⟨S2x4x128x128, .f32⟩
  | 15 => ⟨S_, .f32⟩
  | 16 => ⟨S2x4x128x128, .f32⟩
  | 17 => ⟨S_, .f32⟩
  | 18 => ⟨S128, .f32⟩
  | 19 => ⟨S128, .f32⟩
  | 20 => ⟨S128x1, .f32⟩
  | 21 => ⟨S1x1x128x1, .f32⟩
  | 22 => ⟨S2x4x128x1, .f32⟩
  | 23 => ⟨S2x4x128x1, .f32⟩
  | 24 => ⟨S2x4x128x1, .f32⟩
  | 25 => ⟨S2x4x128x1, .f32⟩
  | 26 => ⟨S_, .f32⟩
  | 27 => ⟨S128, .f32⟩
  | 28 => ⟨S128, .f32⟩
  | 29 => ⟨S128x1, .f32⟩
  | 30 => ⟨S1x1x128x1, .f32⟩
  | 31 => ⟨S2x4x128x1, .f32⟩
  | 32 => ⟨S2x4x128x1, .f32⟩
  | 33 => ⟨S2x4x128x1, .f32⟩
  | 34 => ⟨S2x4x128x1, .f32⟩
  | 35 => ⟨S_, .f32⟩
  | 36 => ⟨S2x4x1x1, .f32⟩
  | 37 => ⟨S2x4x1x1, .f32⟩
  | 38 => ⟨S2x4x1x1, .f32⟩
  | 39 => ⟨S2x4x128x128, .f32⟩
  | 40 => ⟨S2x4x128x128, .f32⟩
  | 41 => ⟨S2x4x128x256, .f32⟩
  | 42 => ⟨S2x4x128x256, .f32⟩
  | 43 => ⟨S2x4x128x256, .f32⟩
  | 44 => ⟨S2x4x128x256, .f32⟩
  | 45 => ⟨S2x4x128x256, .f32⟩
  | 46 => ⟨S2x4x128x256, .f32⟩
  | 47 => ⟨S2x4x128x256, .f32⟩
  | 48 => ⟨S2x4x128x128, .f32⟩
  | 49 => ⟨S2x4x128x128, .f32⟩
  | 50 => ⟨S2x4x128x256, .f32⟩
  | 51 => ⟨S2x4x128x256, .f32⟩
  | 52 => ⟨S2x4x256x128, .f32⟩
  | 53 => ⟨S2x4x128x256, .f32⟩
  | 54 => ⟨S2x4x128x128, .f32⟩
  | 55 => ⟨S2x4x128x128, .f32⟩
  | 56 => ⟨S2x4x128x128, .f32⟩
  | 57 => ⟨S_, .f32⟩
  | 58 => ⟨S2x4x128, .f32⟩
  | 59 => ⟨S2x4x128x1, .f32⟩
  | 60 => ⟨S2x4x128x128, .f32⟩
  | 61 => ⟨S2x4x128x128, .f32⟩
  | 62 => ⟨S2x4x128x256, .f32⟩
  | 63 => ⟨S_, .f32⟩
  | 64 => ⟨S2x4, .f32⟩
  | 65 => ⟨S2x4x1x1, .f32⟩
  | 66 => ⟨S2x4x128x256, .f32⟩
  | 67 => ⟨S2x4x128x256, .f32⟩
  | 68 => ⟨S2x4x128x256, .f32⟩
  | 69 => ⟨S_, .f32⟩
  | 70 => ⟨S2x4x128, .f32⟩
  | 71 => ⟨S2x4x128x1, .f32⟩
  | 72 => ⟨S2x4x128x256, .f32⟩
  | 73 => ⟨S2x4x128x256, .f32⟩
  | 74 => ⟨S2x4x256x128, .f32⟩
  | 75 => ⟨S2x4x128x256, .f32⟩
  | 76 => ⟨S2x4x128x256, .f32⟩
  | 77 => ⟨S2x4x128x128, .f32⟩
  | 78 => ⟨S2x4x256x128, .f32⟩
  | 79 => ⟨S2x4x128x256, .f32⟩
  | 80 => ⟨S2x4x128x256, .f32⟩
  | 81 => ⟨S2x4x128x128, .f32⟩
  | 82 => ⟨S2x4x128x128, .f32⟩
  | 83 => ⟨S2x4x128x128, .f32⟩
  | 84 => ⟨S2x4x128x128, .f32⟩
  | 85 => ⟨S2x4x128x128, .f32⟩
  | 86 => ⟨S2x4x128x128, .f32⟩
  | 87 => ⟨S2x4x128x128, .f32⟩
  | 88 => ⟨S2x4x1x1, .f32⟩
  | 89 => ⟨S_, .f32⟩
  | 90 => ⟨S2x4x1x1, .f32⟩
  | 91 => ⟨S2x4x1x1, .f32⟩
  | 92 => ⟨S2x4x128x1, .f32⟩
  | 93 => ⟨S2x4x128x1, .f32⟩
  | 94 => ⟨S2x4x128x1, .f32⟩
  | 95 => ⟨S_, .f32⟩
  | 96 => ⟨S2x4x1, .f32⟩
  | 97 => ⟨S2x4x1x1, .f32⟩
  | 98 => ⟨S2x4x1x1, .f32⟩
  | 99 => ⟨S2x4x128x1, .f32⟩
  | 100 => ⟨S2x4x128x1, .f32⟩
  | 101 => ⟨S2x4x128x1, .f32⟩
  | 102 => ⟨S_, .f32⟩
  | 103 => ⟨S2x4x1, .f32⟩
  | 104 => ⟨S2x4x1x1, .f32⟩
  | 105 => ⟨S2x4x1x1, .f32⟩
  | 106 => ⟨S_, .f32⟩
  | 107 => ⟨S2x4x128x128, .f32⟩
  | 108 => ⟨S2x4x128x128, .f32⟩
  | 109 => ⟨S2x4x128x128, .f32⟩
  | 110 => ⟨S2x4x128x128, .f32⟩
  | 111 => ⟨S2x4x128x128, .f32⟩
  | 112 => ⟨S_, .f32⟩
  | 113 => ⟨S2x4, .f32⟩
  | 114 => ⟨S2x4x1x1, .f32⟩
  | 115 => ⟨S2x4x1x1, .f32⟩
  | 116 => ⟨S_, .f32⟩
  | 117 => ⟨S2x4, .f32⟩
  | 118 => ⟨S1x2x4x128x128, .f32⟩
  | 119 => ⟨S_, .i32⟩
  | 120 => ⟨S_, .i32⟩
  | 121 => ⟨S_, .i32⟩
  | 122 => ⟨S_, .i32⟩
  | 123 => ⟨S34x2x4x128x128, .f32⟩
  | 124 => ⟨S1x2x4x128x128, .f32⟩
  | 125 => ⟨S_, .i32⟩
  | 126 => ⟨S_, .i32⟩
  | 127 => ⟨S_, .i32⟩
  | _ => ⟨S4352x512, .f32⟩

abbrev hbmTy0_2 (i : Nat) : BufTy := match i % 128 with
  | 0 => ⟨S_, .i32⟩
  | 1 => ⟨S34x2x4x128x128, .f32⟩
  | 2 => ⟨S1x2x4x128x256, .f32⟩
  | 3 => ⟨S_, .i32⟩
  | 4 => ⟨S_, .i32⟩
  | 5 => ⟨S_, .i32⟩
  | 6 => ⟨S_, .i32⟩
  | 7 => ⟨S34x2x4x128x256, .f32⟩
  | 8 => ⟨S1x2x4, .f32⟩
  | 9 => ⟨S_, .i32⟩
  | 10 => ⟨S_, .i32⟩
  | 11 => ⟨S34x2x4, .f32⟩
  | 12 => ⟨S_, .i32⟩
  | 13 => ⟨S_, .i32⟩
  | 14 => ⟨S2x34x128x4x128, .f32⟩
  | 15 => ⟨S2x4352x512, .f32⟩
  | 16 => ⟨S1x4352x512, .f32⟩
  | 17 => ⟨S4352x512, .f32⟩
  | 18 => ⟨S1x4352x512, .f32⟩
  | 19 => ⟨S4352x512, .f32⟩
  | 20 => ⟨S4096x512, .f32⟩
  | 21 => ⟨S256x512, .f32⟩
  | 22 => ⟨S4352x512, .f32⟩
  | 23 => ⟨S4352x512, .f32⟩
  | 24 => ⟨S2x34x128x4x128, .f32⟩
  | 25 => ⟨S2x4352x512, .f32⟩
  | 26 => ⟨S1x4352x512, .f32⟩
  | 27 => ⟨S4352x512, .f32⟩
  | 28 => ⟨S1x4352x512, .f32⟩
  | 29 => ⟨S4352x512, .f32⟩
  | 30 => ⟨S4096x512, .f32⟩
  | 31 => ⟨S256x512, .f32⟩
  | 32 => ⟨S4352x512, .f32⟩
  | 33 => ⟨S4352x512, .f32⟩
  | 34 => ⟨S2x34x128x4x256, .f32⟩
  | 35 => ⟨S2x4352x1024, .f32⟩
  | 36 => ⟨S1x4352x1024, .f32⟩
  | 37 => ⟨S4352x1024, .f32⟩
  | 38 => ⟨S1x4352x1024, .f32⟩
  | 39 => ⟨S4352x1024, .f32⟩
  | 40 => ⟨S4096x1024, .f32⟩
  | 41 => ⟨S256x1024, .f32⟩
  | 42 => ⟨S4352x1024, .f32⟩
  | 43 => ⟨S4352x1024, .f32⟩
  | 44 => ⟨S_, .f32⟩
  | 45 => ⟨S2x4, .f32⟩
  | 46 => ⟨S2x4x1x1, .f32⟩
  | 47 => ⟨S2x4x8x128, .f32⟩
  | _ => ⟨S4352x512, .f32⟩

abbrev hbmTy (i : Nat) : BufTy := match i / 128 with
  | 0 => hbmTy0_0 i
  | 1 => hbmTy0_1 i
  | 2 => hbmTy0_2 i
  | _ => ⟨S4352x512, .f32⟩

abbrev bufTy : (tb : Table) → Fin (tcTables nBuf tb) → BufTy
  | .hbm, ⟨i, _⟩ => hbmTy i
  | _, _ => ⟨S4352x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_call0_cst : Ref sig .tc := ⟨.hbm, 7, rfl⟩
abbrev main_call0_call0_v0 : Ref sig .tc := ⟨.hbm, 8, rfl⟩
abbrev main_call0_call0_v1 : Ref sig .tc := ⟨.hbm, 9, rfl⟩
abbrev main_call0_call0_v2 : Ref sig .tc := ⟨.hbm, 10, rfl⟩
abbrev main_call0_call0_v3 : Ref sig .tc := ⟨.hbm, 11, rfl⟩
abbrev main_call0_call0_v4 : Ref sig .tc := ⟨.hbm, 12, rfl⟩
abbrev main_call0_call0_v5 : Ref sig .tc := ⟨.hbm, 13, rfl⟩
abbrev main_call0_call0_v6 : Ref sig .tc := ⟨.hbm, 14, rfl⟩
abbrev main_call0_call0_v7 : Ref sig .tc := ⟨.hbm, 15, rfl⟩
abbrev main_call0_call0_v8 : Ref sig .tc := ⟨.hbm, 16, rfl⟩
abbrev main_call0_call0_v9 : Ref sig .tc := ⟨.hbm, 17, rfl⟩
abbrev main_call0_call0_v10 : Ref sig .tc := ⟨.hbm, 18, rfl⟩
abbrev main_call0_call0_v11 : Ref sig .tc := ⟨.hbm, 19, rfl⟩
abbrev main_call0_v1 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst : Ref sig .tc := ⟨.hbm, 60, rfl⟩
abbrev main_v39 : Ref sig .tc := ⟨.hbm, 61, rfl⟩
abbrev main_cst_0 : Ref sig .tc := ⟨.hbm, 62, rfl⟩
abbrev main_v40 : Ref sig .tc := ⟨.hbm, 63, rfl⟩
abbrev main_cst_1 : Ref sig .tc := ⟨.hbm, 64, rfl⟩
abbrev main_v41 : Ref sig .tc := ⟨.hbm, 65, rfl⟩
abbrev main_cst_2 : Ref sig .tc := ⟨.hbm, 66, rfl⟩
abbrev main_v42 : Ref sig .tc := ⟨.hbm, 67, rfl⟩
abbrev main_cst_3 : Ref sig .tc := ⟨.hbm, 68, rfl⟩
abbrev main_v43 : Ref sig .tc := ⟨.hbm, 69, rfl⟩
abbrev main_c : Ref sig .tc := ⟨.hbm, 70, rfl⟩
abbrev main_v44_0 : Ref sig .tc := ⟨.hbm, 71, rfl⟩
abbrev main_v44_1 : Ref sig .tc := ⟨.hbm, 72, rfl⟩
abbrev main_v44_2 : Ref sig .tc := ⟨.hbm, 73, rfl⟩
abbrev main_v44_3 : Ref sig .tc := ⟨.hbm, 74, rfl⟩
abbrev main_v44_4 : Ref sig .tc := ⟨.hbm, 75, rfl⟩
abbrev main_v44_5 : Ref sig .tc := ⟨.hbm, 76, rfl⟩
abbrev main_v44_6 : Ref sig .tc := ⟨.hbm, 77, rfl⟩
abbrev main_v44_7 : Ref sig .tc := ⟨.hbm, 78, rfl⟩
abbrev main_v44_8 : Ref sig .tc := ⟨.hbm, 79, rfl⟩
abbrev main_v44_9 : Ref sig .tc := ⟨.hbm, 80, rfl⟩
abbrev main_v44_10 : Ref sig .tc := ⟨.hbm, 81, rfl⟩
abbrev main_v44_11 : Ref sig .tc := ⟨.hbm, 82, rfl⟩
abbrev main_while0c_c_16 : Ref sig .tc := ⟨.hbm, 83, rfl⟩
abbrev main_while0c_v78 : Ref sig .tc := ⟨.hbm, 84, rfl⟩
abbrev main_while0b_c_16 : Ref sig .tc := ⟨.hbm, 85, rfl⟩
abbrev main_while0b_v78 : Ref sig .tc := ⟨.hbm, 86, rfl⟩
abbrev main_while0b_c_17 : Ref sig .tc := ⟨.hbm, 87, rfl⟩
abbrev main_while0b_v79 : Ref sig .tc := ⟨.hbm, 88, rfl⟩
abbrev main_while0b_call5_c : Ref sig .tc := ⟨.hbm, 89, rfl⟩
abbrev main_while0b_call5_c_0 : Ref sig .tc := ⟨.hbm, 90, rfl⟩
abbrev main_while0b_call5_c_1 : Ref sig .tc := ⟨.hbm, 91, rfl⟩
abbrev main_while0b_call5_c_2 : Ref sig .tc := ⟨.hbm, 92, rfl⟩
abbrev main_while0b_call5_v0 : Ref sig .tc := ⟨.hbm, 93, rfl⟩
abbrev main_while0b_v80 : Ref sig .tc := ⟨.hbm, 94, rfl⟩
abbrev main_while0b_call6_c : Ref sig .tc := ⟨.hbm, 95, rfl⟩
abbrev main_while0b_call6_c_0 : Ref sig .tc := ⟨.hbm, 96, rfl⟩
abbrev main_while0b_call6_c_1 : Ref sig .tc := ⟨.hbm, 97, rfl⟩
abbrev main_while0b_call6_c_2 : Ref sig .tc := ⟨.hbm, 98, rfl⟩
abbrev main_while0b_call6_v0 : Ref sig .tc := ⟨.hbm, 99, rfl⟩
abbrev main_while0b_v81 : Ref sig .tc := ⟨.hbm, 100, rfl⟩
abbrev main_while0b_call7_c : Ref sig .tc := ⟨.hbm, 101, rfl⟩
abbrev main_while0b_call7_c_0 : Ref sig .tc := ⟨.hbm, 102, rfl⟩
abbrev main_while0b_call7_c_1 : Ref sig .tc := ⟨.hbm, 103, rfl⟩
abbrev main_while0b_call7_c_2 : Ref sig .tc := ⟨.hbm, 104, rfl⟩
abbrev main_while0b_call7_v0 : Ref sig .tc := ⟨.hbm, 105, rfl⟩
abbrev main_while0b_v82 : Ref sig .tc := ⟨.hbm, 106, rfl⟩
abbrev main_while0b_call8_c : Ref sig .tc := ⟨.hbm, 107, rfl⟩
abbrev main_while0b_call8_c_0 : Ref sig .tc := ⟨.hbm, 108, rfl⟩
abbrev main_while0b_call8_c_1 : Ref sig .tc := ⟨.hbm, 109, rfl⟩
abbrev main_while0b_call8_c_2 : Ref sig .tc := ⟨.hbm, 110, rfl⟩
abbrev main_while0b_call8_v0 : Ref sig .tc := ⟨.hbm, 111, rfl⟩
abbrev main_while0b_v83 : Ref sig .tc := ⟨.hbm, 112, rfl⟩
abbrev main_while0b_call9_c : Ref sig .tc := ⟨.hbm, 113, rfl⟩
abbrev main_while0b_call9_c_0 : Ref sig .tc := ⟨.hbm, 114, rfl⟩
abbrev main_while0b_call9_c_1 : Ref sig .tc := ⟨.hbm, 115, rfl⟩
abbrev main_while0b_call9_c_2 : Ref sig .tc := ⟨.hbm, 116, rfl⟩
abbrev main_while0b_call9_v0 : Ref sig .tc := ⟨.hbm, 117, rfl⟩
abbrev main_while0b_v84 : Ref sig .tc := ⟨.hbm, 118, rfl⟩
abbrev main_while0b_v85 : Ref sig .tc := ⟨.hbm, 119, rfl⟩
abbrev main_while0b_v86 : Ref sig .tc := ⟨.hbm, 120, rfl⟩
abbrev main_while0b_v87 : Ref sig .tc := ⟨.hbm, 121, rfl⟩
abbrev main_while0b_v88 : Ref sig .tc := ⟨.hbm, 122, rfl⟩
abbrev main_while0b_v89 : Ref sig .tc := ⟨.hbm, 123, rfl⟩
abbrev main_while0b_v90 : Ref sig .tc := ⟨.hbm, 124, rfl⟩
abbrev main_while0b_v91 : Ref sig .tc := ⟨.hbm, 125, rfl⟩
abbrev main_while0b_cst_18 : Ref sig .tc := ⟨.hbm, 126, rfl⟩
abbrev main_while0b_v92 : Ref sig .tc := ⟨.hbm, 127, rfl⟩
abbrev main_while0b_v93 : Ref sig .tc := ⟨.hbm, 128, rfl⟩
abbrev main_while0b_cst_19 : Ref sig .tc := ⟨.hbm, 129, rfl⟩
abbrev main_while0b_call10_v0 : Ref sig .tc := ⟨.hbm, 130, rfl⟩
abbrev main_while0b_call10_v1 : Ref sig .tc := ⟨.hbm, 131, rfl⟩
abbrev main_while0b_v94 : Ref sig .tc := ⟨.hbm, 132, rfl⟩
abbrev main_while0b_v95 : Ref sig .tc := ⟨.hbm, 133, rfl⟩
abbrev main_while0b_v96 : Ref sig .tc := ⟨.hbm, 134, rfl⟩
abbrev main_while0b_v97 : Ref sig .tc := ⟨.hbm, 135, rfl⟩
abbrev main_while0b_v98 : Ref sig .tc := ⟨.hbm, 136, rfl⟩
abbrev main_while0b_v99 : Ref sig .tc := ⟨.hbm, 137, rfl⟩
abbrev main_while0b_cst_20 : Ref sig .tc := ⟨.hbm, 138, rfl⟩
abbrev main_while0b_call11_v0 : Ref sig .tc := ⟨.hbm, 139, rfl⟩
abbrev main_while0b_v100_1 : Ref sig .tc := ⟨.hbm, 140, rfl⟩
abbrev main_while0b_call11_v2 : Ref sig .tc := ⟨.hbm, 141, rfl⟩
abbrev main_while0b_v100_0 : Ref sig .tc := ⟨.hbm, 142, rfl⟩
abbrev main_while0b_call11_cst : Ref sig .tc := ⟨.hbm, 143, rfl⟩
abbrev main_while0b_v100_2 : Ref sig .tc := ⟨.hbm, 144, rfl⟩
abbrev main_while0b_cst_21 : Ref sig .tc := ⟨.hbm, 145, rfl⟩
abbrev main_while0b_v101 : Ref sig .tc := ⟨.hbm, 146, rfl⟩
abbrev main_while0b_v102 : Ref sig .tc := ⟨.hbm, 147, rfl⟩
abbrev main_while0b_v103 : Ref sig .tc := ⟨.hbm, 148, rfl⟩
abbrev main_while0b_v104 : Ref sig .tc := ⟨.hbm, 149, rfl⟩
abbrev main_while0b_v105 : Ref sig .tc := ⟨.hbm, 150, rfl⟩
abbrev main_while0b_v106 : Ref sig .tc := ⟨.hbm, 151, rfl⟩
abbrev main_while0b_v107 : Ref sig .tc := ⟨.hbm, 152, rfl⟩
abbrev main_while0b_v108 : Ref sig .tc := ⟨.hbm, 153, rfl⟩
abbrev main_while0b_cst_22 : Ref sig .tc := ⟨.hbm, 154, rfl⟩
abbrev main_while0b_v109 : Ref sig .tc := ⟨.hbm, 155, rfl⟩
abbrev main_while0b_v110 : Ref sig .tc := ⟨.hbm, 156, rfl⟩
abbrev main_while0b_v111 : Ref sig .tc := ⟨.hbm, 157, rfl⟩
abbrev main_while0b_v112 : Ref sig .tc := ⟨.hbm, 158, rfl⟩
abbrev main_while0b_v113 : Ref sig .tc := ⟨.hbm, 159, rfl⟩
abbrev main_while0b_v114 : Ref sig .tc := ⟨.hbm, 160, rfl⟩
abbrev main_while0b_v115 : Ref sig .tc := ⟨.hbm, 161, rfl⟩
abbrev main_while0b_v116 : Ref sig .tc := ⟨.hbm, 162, rfl⟩
abbrev main_while0b_cst_23 : Ref sig .tc := ⟨.hbm, 163, rfl⟩
abbrev main_while0b_v117 : Ref sig .tc := ⟨.hbm, 164, rfl⟩
abbrev main_while0b_v118 : Ref sig .tc := ⟨.hbm, 165, rfl⟩
abbrev main_while0b_v119 : Ref sig .tc := ⟨.hbm, 166, rfl⟩
abbrev main_while0b_v120 : Ref sig .tc := ⟨.hbm, 167, rfl⟩
abbrev main_while0b_v121 : Ref sig .tc := ⟨.hbm, 168, rfl⟩
abbrev main_while0b_v122 : Ref sig .tc := ⟨.hbm, 169, rfl⟩
abbrev main_while0b_v123 : Ref sig .tc := ⟨.hbm, 170, rfl⟩
abbrev main_while0b_v124 : Ref sig .tc := ⟨.hbm, 171, rfl⟩
abbrev main_while0b_v125 : Ref sig .tc := ⟨.hbm, 172, rfl⟩
abbrev main_while0b_v126 : Ref sig .tc := ⟨.hbm, 173, rfl⟩
abbrev main_while0b_v127 : Ref sig .tc := ⟨.hbm, 174, rfl⟩
abbrev main_while0b_v128 : Ref sig .tc := ⟨.hbm, 175, rfl⟩
abbrev main_while0b_v129 : Ref sig .tc := ⟨.hbm, 176, rfl⟩
abbrev main_while0b_v130 : Ref sig .tc := ⟨.hbm, 177, rfl⟩
abbrev main_while0b_v131 : Ref sig .tc := ⟨.hbm, 178, rfl⟩
abbrev main_while0b_v132 : Ref sig .tc := ⟨.hbm, 179, rfl⟩
abbrev main_while0b_v133 : Ref sig .tc := ⟨.hbm, 180, rfl⟩
abbrev main_while0b_v134 : Ref sig .tc := ⟨.hbm, 181, rfl⟩
abbrev main_while0b_v135 : Ref sig .tc := ⟨.hbm, 182, rfl⟩
abbrev main_while0b_v136 : Ref sig .tc := ⟨.hbm, 183, rfl⟩
abbrev main_while0b_v137 : Ref sig .tc := ⟨.hbm, 184, rfl⟩
abbrev main_while0b_cst_24 : Ref sig .tc := ⟨.hbm, 185, rfl⟩
abbrev main_while0b_v138 : Ref sig .tc := ⟨.hbm, 186, rfl⟩
abbrev main_while0b_v139 : Ref sig .tc := ⟨.hbm, 187, rfl⟩
abbrev main_while0b_v140 : Ref sig .tc := ⟨.hbm, 188, rfl⟩
abbrev main_while0b_v141 : Ref sig .tc := ⟨.hbm, 189, rfl⟩
abbrev main_while0b_v142 : Ref sig .tc := ⟨.hbm, 190, rfl⟩
abbrev main_while0b_cst_25 : Ref sig .tc := ⟨.hbm, 191, rfl⟩
abbrev main_while0b_v143 : Ref sig .tc := ⟨.hbm, 192, rfl⟩
abbrev main_while0b_v144 : Ref sig .tc := ⟨.hbm, 193, rfl⟩
abbrev main_while0b_v145 : Ref sig .tc := ⟨.hbm, 194, rfl⟩
abbrev main_while0b_v146 : Ref sig .tc := ⟨.hbm, 195, rfl⟩
abbrev main_while0b_v147 : Ref sig .tc := ⟨.hbm, 196, rfl⟩
abbrev main_while0b_cst_26 : Ref sig .tc := ⟨.hbm, 197, rfl⟩
abbrev main_while0b_v148 : Ref sig .tc := ⟨.hbm, 198, rfl⟩
abbrev main_while0b_v149 : Ref sig .tc := ⟨.hbm, 199, rfl⟩
abbrev main_while0b_v150 : Ref sig .tc := ⟨.hbm, 200, rfl⟩
abbrev main_while0b_v151 : Ref sig .tc := ⟨.hbm, 201, rfl⟩
abbrev main_while0b_v152 : Ref sig .tc := ⟨.hbm, 202, rfl⟩
abbrev main_while0b_v153 : Ref sig .tc := ⟨.hbm, 203, rfl⟩
abbrev main_while0b_v154 : Ref sig .tc := ⟨.hbm, 204, rfl⟩
abbrev main_while0b_v155 : Ref sig .tc := ⟨.hbm, 205, rfl⟩
abbrev main_while0b_v156 : Ref sig .tc := ⟨.hbm, 206, rfl⟩
abbrev main_while0b_v157 : Ref sig .tc := ⟨.hbm, 207, rfl⟩
abbrev main_while0b_v158 : Ref sig .tc := ⟨.hbm, 208, rfl⟩
abbrev main_while0b_v159 : Ref sig .tc := ⟨.hbm, 209, rfl⟩
abbrev main_while0b_v160 : Ref sig .tc := ⟨.hbm, 210, rfl⟩
abbrev main_while0b_v161 : Ref sig .tc := ⟨.hbm, 211, rfl⟩
abbrev main_while0b_v162 : Ref sig .tc := ⟨.hbm, 212, rfl⟩
abbrev main_while0b_v163 : Ref sig .tc := ⟨.hbm, 213, rfl⟩
abbrev main_while0b_v164 : Ref sig .tc := ⟨.hbm, 214, rfl⟩
abbrev main_while0b_v165 : Ref sig .tc := ⟨.hbm, 215, rfl⟩
abbrev main_while0b_v166 : Ref sig .tc := ⟨.hbm, 216, rfl⟩
abbrev main_while0b_cst_27 : Ref sig .tc := ⟨.hbm, 217, rfl⟩
abbrev main_while0b_v167 : Ref sig .tc := ⟨.hbm, 218, rfl⟩
abbrev main_while0b_v168 : Ref sig .tc := ⟨.hbm, 219, rfl⟩
abbrev main_while0b_v169 : Ref sig .tc := ⟨.hbm, 220, rfl⟩
abbrev main_while0b_v170 : Ref sig .tc := ⟨.hbm, 221, rfl⟩
abbrev main_while0b_v171 : Ref sig .tc := ⟨.hbm, 222, rfl⟩
abbrev main_while0b_cst_28 : Ref sig .tc := ⟨.hbm, 223, rfl⟩
abbrev main_while0b_v172 : Ref sig .tc := ⟨.hbm, 224, rfl⟩
abbrev main_while0b_v173 : Ref sig .tc := ⟨.hbm, 225, rfl⟩
abbrev main_while0b_v174 : Ref sig .tc := ⟨.hbm, 226, rfl⟩
abbrev main_while0b_v175 : Ref sig .tc := ⟨.hbm, 227, rfl⟩
abbrev main_while0b_v176 : Ref sig .tc := ⟨.hbm, 228, rfl⟩
abbrev main_while0b_v177 : Ref sig .tc := ⟨.hbm, 229, rfl⟩
abbrev main_while0b_cst_29 : Ref sig .tc := ⟨.hbm, 230, rfl⟩
abbrev main_while0b_v178 : Ref sig .tc := ⟨.hbm, 231, rfl⟩
abbrev main_while0b_v179 : Ref sig .tc := ⟨.hbm, 232, rfl⟩
abbrev main_while0b_v180 : Ref sig .tc := ⟨.hbm, 233, rfl⟩
abbrev main_while0b_call12_cst : Ref sig .tc := ⟨.hbm, 234, rfl⟩
abbrev main_while0b_call12_v0 : Ref sig .tc := ⟨.hbm, 235, rfl⟩
abbrev main_while0b_v181 : Ref sig .tc := ⟨.hbm, 236, rfl⟩
abbrev main_while0b_v182 : Ref sig .tc := ⟨.hbm, 237, rfl⟩
abbrev main_while0b_v183 : Ref sig .tc := ⟨.hbm, 238, rfl⟩
abbrev main_while0b_v184 : Ref sig .tc := ⟨.hbm, 239, rfl⟩
abbrev main_while0b_cst_30 : Ref sig .tc := ⟨.hbm, 240, rfl⟩
abbrev main_while0b_v185 : Ref sig .tc := ⟨.hbm, 241, rfl⟩
abbrev main_while0b_v186 : Ref sig .tc := ⟨.hbm, 242, rfl⟩
abbrev main_while0b_v187 : Ref sig .tc := ⟨.hbm, 243, rfl⟩
abbrev main_while0b_cst_31 : Ref sig .tc := ⟨.hbm, 244, rfl⟩
abbrev main_while0b_v188 : Ref sig .tc := ⟨.hbm, 245, rfl⟩
abbrev main_while0b_call13_v0 : Ref sig .tc := ⟨.hbm, 246, rfl⟩
abbrev main_while0b_call13_c : Ref sig .tc := ⟨.hbm, 247, rfl⟩
abbrev main_while0b_call13_c_0 : Ref sig .tc := ⟨.hbm, 248, rfl⟩
abbrev main_while0b_call13_c_1 : Ref sig .tc := ⟨.hbm, 249, rfl⟩
abbrev main_while0b_call13_c_2 : Ref sig .tc := ⟨.hbm, 250, rfl⟩
abbrev main_while0b_v189 : Ref sig .tc := ⟨.hbm, 251, rfl⟩
abbrev main_while0b_call14_v0 : Ref sig .tc := ⟨.hbm, 252, rfl⟩
abbrev main_while0b_call14_c : Ref sig .tc := ⟨.hbm, 253, rfl⟩
abbrev main_while0b_call14_c_0 : Ref sig .tc := ⟨.hbm, 254, rfl⟩
abbrev main_while0b_call14_c_1 : Ref sig .tc := ⟨.hbm, 255, rfl⟩
abbrev main_while0b_call14_c_2 : Ref sig .tc := ⟨.hbm, 256, rfl⟩
abbrev main_while0b_v190 : Ref sig .tc := ⟨.hbm, 257, rfl⟩
abbrev main_while0b_call15_v0 : Ref sig .tc := ⟨.hbm, 258, rfl⟩
abbrev main_while0b_call15_c : Ref sig .tc := ⟨.hbm, 259, rfl⟩
abbrev main_while0b_call15_c_0 : Ref sig .tc := ⟨.hbm, 260, rfl⟩
abbrev main_while0b_call15_c_1 : Ref sig .tc := ⟨.hbm, 261, rfl⟩
abbrev main_while0b_call15_c_2 : Ref sig .tc := ⟨.hbm, 262, rfl⟩
abbrev main_while0b_v191 : Ref sig .tc := ⟨.hbm, 263, rfl⟩
abbrev main_while0b_call16_v0 : Ref sig .tc := ⟨.hbm, 264, rfl⟩
abbrev main_while0b_call16_c : Ref sig .tc := ⟨.hbm, 265, rfl⟩
abbrev main_while0b_call16_c_0 : Ref sig .tc := ⟨.hbm, 266, rfl⟩
abbrev main_while0b_v192 : Ref sig .tc := ⟨.hbm, 267, rfl⟩
abbrev main_while0b_c_32 : Ref sig .tc := ⟨.hbm, 268, rfl⟩
abbrev main_while0b_v193 : Ref sig .tc := ⟨.hbm, 269, rfl⟩
abbrev main_v45 : Ref sig .tc := ⟨.hbm, 270, rfl⟩
abbrev main_v46 : Ref sig .tc := ⟨.hbm, 271, rfl⟩
abbrev main_v47 : Ref sig .tc := ⟨.hbm, 272, rfl⟩
abbrev main_v48 : Ref sig .tc := ⟨.hbm, 273, rfl⟩
abbrev main_v49 : Ref sig .tc := ⟨.hbm, 274, rfl⟩
abbrev main_v50 : Ref sig .tc := ⟨.hbm, 275, rfl⟩
abbrev main_v51 : Ref sig .tc := ⟨.hbm, 276, rfl⟩
abbrev main_v52 : Ref sig .tc := ⟨.hbm, 277, rfl⟩
abbrev main_v53 : Ref sig .tc := ⟨.hbm, 278, rfl⟩
abbrev main_v54 : Ref sig .tc := ⟨.hbm, 279, rfl⟩
abbrev main_v55 : Ref sig .tc := ⟨.hbm, 280, rfl⟩
abbrev main_v56 : Ref sig .tc := ⟨.hbm, 281, rfl⟩
abbrev main_v57 : Ref sig .tc := ⟨.hbm, 282, rfl⟩
abbrev main_v58 : Ref sig .tc := ⟨.hbm, 283, rfl⟩
abbrev main_v59 : Ref sig .tc := ⟨.hbm, 284, rfl⟩
abbrev main_v60 : Ref sig .tc := ⟨.hbm, 285, rfl⟩
abbrev main_v61 : Ref sig .tc := ⟨.hbm, 286, rfl⟩
abbrev main_v62 : Ref sig .tc := ⟨.hbm, 287, rfl⟩
abbrev main_v63 : Ref sig .tc := ⟨.hbm, 288, rfl⟩
abbrev main_v64 : Ref sig .tc := ⟨.hbm, 289, rfl⟩
abbrev main_v65 : Ref sig .tc := ⟨.hbm, 290, rfl⟩
abbrev main_v66 : Ref sig .tc := ⟨.hbm, 291, rfl⟩
abbrev main_v67 : Ref sig .tc := ⟨.hbm, 292, rfl⟩
abbrev main_v68 : Ref sig .tc := ⟨.hbm, 293, rfl⟩
abbrev main_v69 : Ref sig .tc := ⟨.hbm, 294, rfl⟩
abbrev main_v70 : Ref sig .tc := ⟨.hbm, 295, rfl⟩
abbrev main_v71 : Ref sig .tc := ⟨.hbm, 296, rfl⟩
abbrev main_v72 : Ref sig .tc := ⟨.hbm, 297, rfl⟩
abbrev main_v73 : Ref sig .tc := ⟨.hbm, 298, rfl⟩
abbrev main_v74 : Ref sig .tc := ⟨.hbm, 299, rfl⟩
abbrev main_cst_4 : Ref sig .tc := ⟨.hbm, 300, rfl⟩
abbrev main_v75 : Ref sig .tc := ⟨.hbm, 301, rfl⟩
abbrev main_v76 : Ref sig .tc := ⟨.hbm, 302, rfl⟩
abbrev main_v77 : Ref sig .tc := ⟨.hbm, 303, rfl⟩

abbrev nD : Nat := 1
abbrev τ : Topo := Topo.v7x

variable {F : FTy → Type} [FloatOps F]

abbrev main_while0_count : Scf.Loop 32 := ⟨0#32, 34#32, 1#32⟩
-- ==== Kernel2.lean ====
abbrev S2x4352x5632 : Shape := ⟨3, ![2, 4352, 5632]⟩
abbrev S4x2x2048x2816 : Shape := ⟨4, ![4, 2, 2048, 2816]⟩
abbrev S4352x2048 : Shape := ⟨2, ![4352, 2048]⟩
abbrev S1x1088x1408 : Shape := ⟨3, ![1, 1088, 1408]⟩
abbrev S1x1x2048x1408 : Shape := ⟨4, ![1, 1, 2048, 1408]⟩
abbrev S1088x2048 : Shape := ⟨2, ![1088, 2048]⟩
abbrev S1088x1408 : Shape := ⟨2, ![1088, 1408]⟩
abbrev S2048x1408 : Shape := ⟨2, ![2048, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2x4352x5632, .bf16⟩
  | .hbm, ⟨1, _⟩ => ⟨S4x2x2048x2816, .bf16⟩
  | .hbm, ⟨2, _⟩ => ⟨S4352x2048, .f32⟩
  | .local _ .vmem, ⟨0, _⟩ => ⟨S1x1088x1408, .bf16⟩
  | .local _ .vmem, ⟨1, _⟩ => ⟨S1x1088x1408, .bf16⟩
  | .local _ .vmem, ⟨2, _⟩ => ⟨S1x1x2048x1408, .bf16⟩
  | .local _ .vmem, ⟨3, _⟩ => ⟨S1x1x2048x1408, .bf16⟩
  | .local _ .vmem, ⟨4, _⟩ => ⟨S1088x2048, .f32⟩
  | .local _ .vmem, ⟨5, _⟩ => ⟨S1088x2048, .f32⟩
  | _, _ => ⟨S2x4352x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_6 : BitVec 32 := 0#32
  let v7 : BitVec 1 := Scalar.cmpi .ne v6 c0_i32_6
  v7

def k0_cond2 (i : grid0.Coords) : BitVec 1 :=
  let arg1 : BitVec 32 := BitVec.ofNat 32 (i 1).val
  let c0_i32_7 : BitVec 32 := 0#32
  let v8 : BitVec 1 := Scalar.cmpi .sgt arg1 c0_i32_7
  let v9 : BitVec 32 := Scalar.extui v8
  let c0_i32_8 : BitVec 32 := 0#32
  let v10 : BitVec 1 := Scalar.cmpi .ne v9 c0_i32_8
  v10

def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x1088x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1088x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference2Ideal.lean ====
abbrev S2x4352x5632 : Shape := ⟨3, ![2, 4352, 5632]⟩
abbrev S4x2x2048x2816 : Shape := ⟨4, ![4, 2, 2048, 2816]⟩
abbrev S4x1x2048x2816 : Shape := ⟨4, ![4, 1, 2048, 2816]⟩
abbrev S4x2048x2816 : Shape := ⟨3, ![4, 2048, 2816]⟩
abbrev S2048x4x2816 : Shape := ⟨3, ![2048, 4, 2816]⟩
abbrev S2048x11264 : Shape := ⟨2, ![2048, 11264]⟩
abbrev S_ : Shape := ⟨0, ![]⟩
abbrev S4352x2048 : Shape := ⟨2, ![4352, 2048]⟩
abbrev S4352x11264 : Shape := ⟨2, ![4352, 11264]⟩
abbrev S4352x2x5632 : Shape := ⟨3, ![4352, 2, 5632]⟩

abbrev nBuf : Space → Nat
  | .hbm => 14
  | .vmem => 0
  | .smem => 0
  | _ => 0

abbrev bufTy : (tb : Table) → Fin (tcTables nBuf tb) → BufTy
  | .hbm, ⟨0, _⟩ => ⟨S2x4352x5632, .bf16⟩
  | .hbm, ⟨1, _⟩ => ⟨S4x2x2048x2816, .bf16⟩
  | .hbm, ⟨2, _⟩ => ⟨S4x1x2048x2816, .bf16⟩
  | .hbm, ⟨3, _⟩ => ⟨S4x2048x2816, .bf16⟩
  | .hbm, ⟨4, _⟩ => ⟨S4x2048x2816, .f32⟩
  | .hbm, ⟨5, _⟩ => ⟨S2048x4x2816, .f32⟩
  | .hbm, ⟨6, _⟩ => ⟨S2048x11264, .f32⟩
  | .hbm, ⟨7, _⟩ => ⟨S_, .f32⟩
  | .hbm, ⟨8, _⟩ => ⟨S4352x2048, .f32⟩
  | .hbm, ⟨9, _⟩ => ⟨S4352x11264, .f32⟩
  | .hbm, ⟨10, _⟩ => ⟨S2x4352x5632, .f32⟩
  | .hbm, ⟨11, _⟩ => ⟨S4352x2x5632, .f32⟩
  | .hbm, ⟨12, _⟩ => ⟨S4352x11264, .f32⟩
  | .hbm, ⟨13, _⟩ => ⟨S4352x2048, .f32⟩
  | _, _ => ⟨S2x4352x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel3.lean ====
abbrev S4352x2048 : Shape := ⟨2, ![4352, 2048]⟩
abbrev S2x4352x5632 : Shape := ⟨3, ![2, 4352, 5632]⟩
abbrev S2x4x2048x2816 : Shape := ⟨4, ![2, 4, 2048, 2816]⟩
abbrev S1024x2048 : Shape := ⟨2, ![1024, 2048]⟩
abbrev S256x2048 : Shape := ⟨2, ![256, 2048]⟩
abbrev S1x1024x1408 : Shape := ⟨3, ![1, 1024, 1408]⟩
abbrev S1x256x1408 : Shape := ⟨3, ![1, 256, 1408]⟩
abbrev S1x1x2048x1408 : Shape := ⟨4, ![1, 1, 2048, 1408]⟩
abbrev S2048x1408 : Shape := ⟨2, ![2048, 1408]⟩
abbrev S1024x1408 : Shape := ⟨2, ![1024, 1408]⟩
abbrev S256x1408 : Shape := ⟨2, ![256, 1408]⟩

abbrev nBuf : Space → Nat
  | .hbm => 4
  | .vmem => 10
  | .smem => 0
  | _ => 0

abbrev bufTy : (tb : Table) → Fin (tcTables nBuf tb) → BufTy
  | .hbm, ⟨0, _⟩ => ⟨S4352x2048, .bf16⟩
  | .hbm, ⟨1, _⟩ => ⟨S2x4352x5632, .bf16⟩
  | .hbm, ⟨2, _⟩ => ⟨S2x4x2048x2816, .bf16⟩
  | .hbm, ⟨3, _⟩ => ⟨S2x4x2048x2816, .bf16⟩
  | .local _ .vmem, ⟨0, _⟩ => ⟨S1024x2048, .bf16⟩
  | .local _ .vmem, ⟨1, _⟩ => ⟨S1024x2048, .bf16⟩
  | .local _ .vmem, ⟨2, _⟩ => ⟨S256x2048, .bf16⟩
  | .local _ .vmem, ⟨3, _⟩ => ⟨S1x1024x1408, .bf16⟩
  | .local _ .vmem, ⟨4, _⟩ => ⟨S1x1024x1408, .bf16⟩
  | .local _ .vmem, ⟨5, _⟩ => ⟨S1x256x1408, .bf16⟩
  | .local _ .vmem, ⟨6, _⟩ => ⟨S1x256x1408, .bf16⟩
  | .local _ .vmem, ⟨7, _⟩ => ⟨S1x1x2048x1408, .bf16⟩
  | .local _ .vmem, ⟨8, _⟩ => ⟨S1x1x2048x1408, .bf16⟩
  | .local _ .vmem, ⟨9, _⟩ => ⟨S2048x1408, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 5], ![false, false]⟩

def k0_cond3 (i : grid0.Coords) : BitVec 1 :=
  let arg1 : BitVec 32 := BitVec.ofNat 32 (i 1).val
  let c4_i32_3 : BitVec 32 := 4#32
  let v8 : BitVec 1 := Scalar.cmpi .eq arg1 c4_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let c0_i32 : BitVec 32 := 0#32
  let c0_i32_0 : BitVec 32 := 0#32
  ![c16_i32.toNat, c0_i32.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32 : BitVec 32 := 3#32
  let v17 : BitVec 32 := Scalar.minsi arg1 c3_i32
  let c4_i32_4 : BitVec 32 := 4#32
  let c0_i32_5 : BitVec 32 := 0#32
  let v18 : BitVec 1 := Scalar.cmpi .eq c4_i32_4 c0_i32_5
  let c1_i32_6 : BitVec 32 := 1#32
  let v19 : BitVec 32 := Scalar.select v18 c1_i32_6 c4_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  ![v16.toNat, v17.toNat, v27.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c16_i32 : BitVec 32 := 16#32
  let c0_i32_10 : BitVec 32 := 0#32
  ![v16.toNat, c16_i32.toNat, v26.toNat]

def cc0_transform_5 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![c0_i32_10.toNat, v16.toNat, c0_i32_11.toNat, v26.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x2048x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference3Ideal.lean ====
abbrev S4352x2048 : Shape := ⟨2, ![4352, 2048]⟩
abbrev S2x4352x5632 : Shape := ⟨3, ![2, 4352, 5632]⟩
abbrev S2x4x2048x2816 : Shape := ⟨4, ![2, 4, 2048, 2816]⟩
abbrev S_ : Shape := ⟨0, ![]⟩
abbrev S2048x11264 : Shape := ⟨2, ![2048, 11264]⟩
abbrev S4352x11264 : Shape := ⟨2, ![4352, 11264]⟩
abbrev S4352x2x5632 : Shape := ⟨3, ![4352, 2, 5632]⟩
abbrev S11264x2048 : Shape := ⟨2, ![11264, 2048]⟩
abbrev S2048x4x2816 : Shape := ⟨3, ![2048, 4, 2816]⟩
abbrev S4x2048x2816 : Shape := ⟨3, ![4, 2048, 2816]⟩
abbrev S1x4x2048x2816 : Shape := ⟨4, ![1, 4, 2048, 2816]⟩

abbrev nBuf : Space → Nat
  | .hbm => 20
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S2x4352x5632, .bf16⟩
  | .hbm, ⟨2, _⟩ => ⟨S2x4x2048x2816, .bf16⟩
  | .hbm, ⟨3, _⟩ => ⟨S4352x2048, .f32⟩
  | .hbm, ⟨4, _⟩ => ⟨S_, .f32⟩
  | .hbm, ⟨5, _⟩ => ⟨S2048x11264, .f32⟩
  | .hbm, ⟨6, _⟩ => ⟨S4352x11264, .f32⟩
  | .hbm, ⟨7, _⟩ => ⟨S2x4352x5632, .f32⟩
  | .hbm, ⟨8, _⟩ => ⟨S4352x2x5632, .f32⟩
  | .hbm, ⟨9, _⟩ => ⟨S4352x11264, .f32⟩
  | .hbm, ⟨10, _⟩ => ⟨S11264x2048, .f32⟩
  | .hbm, ⟨11, _⟩ => ⟨S2048x11264, .f32⟩
  | .hbm, ⟨12, _⟩ => ⟨S2048x4x2816, .f32⟩
  | .hbm, ⟨13, _⟩ => ⟨S4x2048x2816, .f32⟩
  | .hbm, ⟨14, _⟩ => ⟨S4x2048x2816, .bf16⟩
  | .hbm, ⟨15, _⟩ => ⟨S1x4x2048x2816, .bf16⟩
  | .hbm, ⟨16, _⟩ => ⟨S4x2048x2816, .bf16⟩
  | .hbm, ⟨17, _⟩ => ⟨S1x4x2048x2816, .bf16⟩
  | .hbm, ⟨18, _⟩ => ⟨S1x4x2048x2816, .bf16⟩
  | .hbm, ⟨19, _⟩ => ⟨S2x4x2048x2816, .bf16⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩

abbrev nD : Nat := 1
abbrev τ : Topo := Topo.v7x

variable {F : FTy → Type} [FloatOps F]
-- ==== Kernel4.lean ====
abbrev S4352x2048 : Shape := ⟨2, ![4352, 2048]⟩
abbrev S4x2x1408x2048 : Shape := ⟨4, ![4, 2, 1408, 2048]⟩
abbrev S4352x5632 : Shape := ⟨2, ![4352, 5632]⟩
abbrev S1088x2048 : Shape := ⟨2, ![1088, 2048]⟩
abbrev S1x1x1408x2048 : Shape := ⟨4, ![1, 1, 1408, 2048]⟩
abbrev S1088x1408 : Shape := ⟨2, ![1088, 1408]⟩
abbrev S1408x2048 : Shape := ⟨2, ![1408, 2048]⟩

abbrev nBuf : Space → Nat
  | .hbm => 3
  | .vmem => 6
  | .smem => 0
  | _ => 0

abbrev bufTy : (tb : Table) → Fin (tcTables nBuf tb) → BufTy
  | .hbm, ⟨0, _⟩ => ⟨S4352x2048, .bf16⟩
  | .hbm, ⟨1, _⟩ => ⟨S4x2x1408x2048, .bf16⟩
  | .hbm, ⟨2, _⟩ => ⟨S4352x5632, .f32⟩
  | .local _ .vmem, ⟨0, _⟩ => ⟨S1088x2048, .bf16⟩
  | .local _ .vmem, ⟨1, _⟩ => ⟨S1088x2048, .bf16⟩
  | .local _ .vmem, ⟨2, _⟩ => ⟨S1x1x1408x2048, .bf16⟩
  | .local _ .vmem, ⟨3, _⟩ => ⟨S1x1x1408x2048, .bf16⟩
  | .local _ .vmem, ⟨4, _⟩ => ⟨S1088x1408, .f32⟩
  | .local _ .vmem, ⟨5, _⟩ => ⟨S1088x1408, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1088x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S4352x2048 : Shape := ⟨2, ![4352, 2048]⟩
abbrev S4x2x1408x2048 : Shape := ⟨4, ![4, 2, 1408, 2048]⟩
abbrev S4x1x1408x2048 : Shape := ⟨4, ![4, 1, 1408, 2048]⟩
abbrev S4x1408x2048 : Shape := ⟨3, ![4, 1408, 2048]⟩
abbrev S5632x2048 : Shape := ⟨2, ![5632, 2048]⟩
abbrev S_ : Shape := ⟨0, ![]⟩
abbrev S4352x5632 : Shape := ⟨2, ![4352, 5632]⟩

abbrev nBuf : Space → Nat
  | .hbm => 11
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S4x2x1408x2048, .bf16⟩
  | .hbm, ⟨2, _⟩ => ⟨S4x1x1408x2048, .bf16⟩
  | .hbm, ⟨3, _⟩ => ⟨S4x1408x2048, .bf16⟩
  | .hbm, ⟨4, _⟩ => ⟨S4x1408x2048, .f32⟩
  | .hbm, ⟨5, _⟩ => ⟨S5632x2048, .f32⟩
  | .hbm, ⟨6, _⟩ => ⟨S_, .f32⟩
  | .hbm, ⟨7, _⟩ => ⟨S4352x5632, .f32⟩
  | .hbm, ⟨8, _⟩ => ⟨S4352x2048, .f32⟩
  | .hbm, ⟨9, _⟩ => ⟨S4352x2048, .f32⟩
  | .hbm, ⟨10, _⟩ => ⟨S4352x5632, .f32⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel5.lean ====
abbrev S4352x5632 : Shape := ⟨2, ![4352, 5632]⟩
abbrev S4352x2048 : Shape := ⟨2, ![4352, 2048]⟩
abbrev S2x4x1408x2048 : Shape := ⟨4, ![2, 4, 1408, 2048]⟩
abbrev S1024x1408 : Shape := ⟨2, ![1024, 1408]⟩
abbrev S256x1408 : Shape := ⟨2, ![256, 1408]⟩
abbrev S1024x2048 : Shape := ⟨2, ![1024, 2048]⟩
abbrev S256x2048 : Shape := ⟨2, ![256, 2048]⟩
abbrev S1x1x1408x2048 : Shape := ⟨4, ![1, 1, 1408, 2048]⟩
abbrev S1408x2048 : Shape := ⟨2, ![1408, 2048]⟩

abbrev nBuf : Space → Nat
  | .hbm => 4
  | .vmem => 10
  | .smem => 0
  | _ => 0

abbrev bufTy : (tb : Table) → Fin (tcTables nBuf tb) → BufTy
  | .hbm, ⟨0, _⟩ => ⟨S4352x5632, .bf16⟩
  | .hbm, ⟨1, _⟩ => ⟨S4352x2048, .bf16⟩
  | .hbm, ⟨2, _⟩ => ⟨S2x4x1408x2048, .bf16⟩
  | .hbm, ⟨3, _⟩ => ⟨S2x4x1408x2048, .bf16⟩
  | .local _ .vmem, ⟨0, _⟩ => ⟨S1024x1408, .bf16⟩
  | .local _ .vmem, ⟨1, _⟩ => ⟨S1024x1408, .bf16⟩
  | .local _ .vmem, ⟨2, _⟩ => ⟨S256x1408, .bf16⟩
  | .local _ .vmem, ⟨3, _⟩ => ⟨S256x1408, .bf16⟩
  | .local _ .vmem, ⟨4, _⟩ => ⟨S1024x2048, .bf16⟩
  | .local _ .vmem, ⟨5, _⟩ => ⟨S1024x2048, .bf16⟩
  | .local _ .vmem, ⟨6, _⟩ => ⟨S256x2048, .bf16⟩
  | .local _ .vmem, ⟨7, _⟩ => ⟨S1x1x1408x2048, .bf16⟩
  | .local _ .vmem, ⟨8, _⟩ => ⟨S1x1x1408x2048, .bf16⟩
  | .local _ .vmem, ⟨9, _⟩ => ⟨S1408x2048, .f32⟩
  | _, _ => ⟨S4352x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 5], ![false, false]⟩

def k0_cond3 (i : grid0.Coords) : BitVec 1 :=
  let arg1 : BitVec 32 := BitVec.ofNat 32 (i 1).val
  let c4_i32_3 : BitVec 32 := 4#32
  let v8 : BitVec 1 := Scalar.cmpi .eq arg1 c4_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let c0_i32 : BitVec 32 := 0#32
  ![c16_i32.toNat, arg0.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let c0_i32 : BitVec 32 := 0#32
  let c0_i32_0 : BitVec 32 := 0#32
  ![c16_i32.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x1408x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference5Ideal.lean ====
abbrev S4352x5632 : Shape := ⟨2, ![4352, 5632]⟩
abbrev S4352x2048 : Shape := ⟨2, ![4352, 2048]⟩
abbrev S2x4x1408x2048 : Shape := ⟨4, ![2, 4, 1408, 2048]⟩
abbrev S_ : Shape := ⟨0, ![]⟩
abbrev S5632x2048 : Shape := ⟨2, ![5632, 2048]⟩
abbrev S2048x5632 : Shape := ⟨2, ![2048, 5632]⟩
abbrev S4x1408x2048 : Shape := ⟨3, ![4, 1408, 2048]⟩
abbrev S1x4x1408x2048 : Shape := ⟨4, ![1, 4, 1408, 2048]⟩

abbrev nBuf : Space → Nat
  | .hbm => 17
  | .vmem => 0
  | .smem => 0
  | _ => 0

abbrev bufTy : (tb : Table) → Fin (tcTables nBuf tb) → BufTy
  | .hbm, ⟨0, _⟩ => ⟨S4352x5632, .bf16⟩
  | .hbm, ⟨1, _⟩ => ⟨S4352x2048, .bf16⟩
  | .hbm, ⟨2, _⟩ => ⟨S2x4x1408x2048, .bf16⟩
  | .hbm, ⟨3, _⟩ => ⟨S4352x5632, .f32⟩
  | .hbm, ⟨4, _⟩ => ⟨S_, .f32⟩
  | .hbm, ⟨5, _⟩ => ⟨S5632x2048, .f32⟩
  | .hbm, ⟨6, _⟩ => ⟨S4352x2048, .f32⟩
  | .hbm, ⟨7, _⟩ => ⟨S4352x2048, .f32⟩
  | .hbm, ⟨8, _⟩ => ⟨S2048x5632, .f32⟩
  | .hbm, ⟨9, _⟩ => ⟨S5632x2048, .f32⟩
  | .hbm, ⟨10, _⟩ => ⟨S4x1408x2048, .f32⟩
  | .hbm, ⟨11, _⟩ => ⟨S4x1408x2048, .bf16⟩
  | .hbm, ⟨12, _⟩ => ⟨S1x4x1408x2048, .bf16⟩
  | .hbm, ⟨13, _⟩ => ⟨S4x1408x2048, .bf16⟩
  | .hbm, ⟨14, _⟩ => ⟨S1x4x1408x2048, .bf16⟩
  | .hbm, ⟨15, _⟩ => ⟨S1x4x1408x2048, .bf16⟩
  | .hbm, ⟨16, _⟩ => ⟨S2x4x1408x2048, .bf16⟩
  | _, _ => ⟨S4352x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== Kernel6.lean ====
abbrev S4352x5632 : Shape := ⟨2, ![4352, 5632]⟩
abbrev S4x2x2048x1408 : Shape := ⟨4, ![4, 2, 2048, 1408]⟩
abbrev S4352x2048 : Shape := ⟨2, ![4352, 2048]⟩
abbrev S1088x1408 : Shape := ⟨2, ![1088, 1408]⟩
abbrev S1x1x2048x1408 : Shape := ⟨4, ![1, 1, 2048, 1408]⟩
abbrev S1088x2048 : Shape := ⟨2, ![1088, 2048]⟩
abbrev S2048x1408 : Shape := ⟨2, ![2048, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4352x5632, .bf16⟩
  | .hbm, ⟨1, _⟩ => ⟨S4x2x2048x1408, .bf16⟩
  | .hbm, ⟨2, _⟩ => ⟨S4352x2048, .f32⟩
  | .local _ .vmem, ⟨0, _⟩ => ⟨S1088x1408, .bf16⟩
  | .local _ .vmem, ⟨1, _⟩ => ⟨S1088x1408, .bf16⟩
  | .local _ .vmem, ⟨2, _⟩ => ⟨S1x1x2048x1408, .bf16⟩
  | .local _ .vmem, ⟨3, _⟩ => ⟨S1x1x2048x1408, .bf16⟩
  | .local _ .vmem, ⟨4, _⟩ => ⟨S1088x2048, .f32⟩
  | .local _ .vmem, ⟨5, _⟩ => ⟨S1088x2048, .f32⟩
  | _, _ => ⟨S4352x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_5 : BitVec 32 := 0#32
  let v6 : BitVec 1 := Scalar.cmpi .ne v5 c0_i32_5
  v6

def k0_cond2 (i : grid0.Coords) : BitVec 1 :=
  let arg1 : BitVec 32 := BitVec.ofNat 32 (i 1).val
  let c0_i32_6 : BitVec 32 := 0#32
  let v7 : BitVec 1 := Scalar.cmpi .sgt arg1 c0_i32_6
  let v8 : BitVec 32 := Scalar.extui v7
  let c0_i32_7 : BitVec 32 := 0#32
  let v9 : BitVec 1 := Scalar.cmpi .ne v8 c0_i32_7
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1088x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1088x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference6Ideal.lean ====
abbrev S4352x5632 : Shape := ⟨2, ![4352, 5632]⟩
abbrev S4x2x2048x1408 : Shape := ⟨4, ![4, 2, 2048, 1408]⟩
abbrev S4x1x2048x1408 : Shape := ⟨4, ![4, 1, 2048, 1408]⟩
abbrev S4x2048x1408 : Shape := ⟨3, ![4, 2048, 1408]⟩
abbrev S2048x4x1408 : Shape := ⟨3, ![2048, 4, 1408]⟩
abbrev S2048x5632 : Shape := ⟨2, ![2048, 5632]⟩
abbrev S_ : Shape := ⟨0, ![]⟩
abbrev S4352x2048 : Shape := ⟨2, ![4352, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4352x5632, .bf16⟩
  | .hbm, ⟨1, _⟩ => ⟨S4x2x2048x1408, .bf16⟩
  | .hbm, ⟨2, _⟩ => ⟨S4x1x2048x1408, .bf16⟩
  | .hbm, ⟨3, _⟩ => ⟨S4x2048x1408, .bf16⟩
  | .hbm, ⟨4, _⟩ => ⟨S4x2048x1408, .f32⟩
  | .hbm, ⟨5, _⟩ => ⟨S2048x4x1408, .f32⟩
  | .hbm, ⟨6, _⟩ => ⟨S2048x5632, .f32⟩
  | .hbm, ⟨7, _⟩ => ⟨S_, .f32⟩
  | .hbm, ⟨8, _⟩ => ⟨S4352x2048, .f32⟩
  | .hbm, ⟨9, _⟩ => ⟨S4352x5632, .f32⟩
  | .hbm, ⟨10, _⟩ => ⟨S4352x5632, .f32⟩
  | .hbm, ⟨11, _⟩ => ⟨S4352x2048, .f32⟩
  | _, _ => ⟨S4352x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel7.lean ====
abbrev S4352x2048 : Shape := ⟨2, ![4352, 2048]⟩
abbrev S4352x5632 : Shape := ⟨2, ![4352, 5632]⟩
abbrev S2x4x2048x1408 : Shape := ⟨4, ![2, 4, 2048, 1408]⟩
abbrev S1024x2048 : Shape := ⟨2, ![1024, 2048]⟩
abbrev S256x2048 : Shape := ⟨2, ![256, 2048]⟩
abbrev S1024x1408 : Shape := ⟨2, ![1024, 1408]⟩
abbrev S256x1408 : Shape := ⟨2, ![256, 1408]⟩
abbrev S1x1x2048x1408 : Shape := ⟨4, ![1, 1, 2048, 1408]⟩
abbrev S2048x1408 : Shape := ⟨2, ![2048, 1408]⟩

abbrev nBuf : Space → Nat
  | .hbm => 4
  | .vmem => 10
  | .smem => 0
  | _ => 0

abbrev bufTy : (tb : Table) → Fin (tcTables nBuf tb) → BufTy
  | .hbm, ⟨0, _⟩ => ⟨S4352x2048, .bf16⟩
  | .hbm, ⟨1, _⟩ => ⟨S4352x5632, .bf16⟩
  | .hbm, ⟨2, _⟩ => ⟨S2x4x2048x1408, .bf16⟩
  | .hbm, ⟨3, _⟩ => ⟨S2x4x2048x1408, .bf16⟩
  | .local _ .vmem, ⟨0, _⟩ => ⟨S1024x2048, .bf16⟩
  | .local _ .vmem, ⟨1, _⟩ => ⟨S1024x2048, .bf16⟩
  | .local _ .vmem, ⟨2, _⟩ => ⟨S256x2048, .bf16⟩
  | .local _ .vmem, ⟨3, _⟩ => ⟨S1024x1408, .bf16⟩
  | .local _ .vmem, ⟨4, _⟩ => ⟨S1024x1408, .bf16⟩
  | .local _ .vmem, ⟨5, _⟩ => ⟨S256x1408, .bf16⟩
  | .local _ .vmem, ⟨6, _⟩ => ⟨S256x1408, .bf16⟩
  | .local _ .vmem, ⟨7, _⟩ => ⟨S1x1x2048x1408, .bf16⟩
  | .local _ .vmem, ⟨8, _⟩ => ⟨S1x1x2048x1408, .bf16⟩
  | .local _ .vmem, ⟨9, _⟩ => ⟨S2048x1408, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 5], ![false, false]⟩

def k0_cond3 (i : grid0.Coords) : BitVec 1 :=
  let arg1 : BitVec 32 := BitVec.ofNat 32 (i 1).val
  let c4_i32_3 : BitVec 32 := 4#32
  let v8 : BitVec 1 := Scalar.cmpi .eq arg1 c4_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let c0_i32 : BitVec 32 := 0#32
  let c0_i32_0 : BitVec 32 := 0#32
  ![c16_i32.toNat, c0_i32.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  ![v0.toNat, arg0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let c0_i32 : BitVec 32 := 0#32
  ![c16_i32.toNat, arg0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x2048x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference7Ideal.lean ====
abbrev S4352x2048 : Shape := ⟨2, ![4352, 2048]⟩
abbrev S4352x5632 : Shape := ⟨2, ![4352, 5632]⟩
abbrev S2x4x2048x1408 : Shape := ⟨4, ![2, 4, 2048, 1408]⟩
abbrev S_ : Shape := ⟨0, ![]⟩
abbrev S2048x5632 : Shape := ⟨2, ![2048, 5632]⟩
abbrev S5632x2048 : Shape := ⟨2, ![5632, 2048]⟩
abbrev S2048x4x1408 : Shape := ⟨3, ![2048, 4, 1408]⟩
abbrev S4x2048x1408 : Shape := ⟨3, ![4, 2048, 1408]⟩
abbrev S1x4x2048x1408 : Shape := ⟨4, ![1, 4, 2048, 1408]⟩

abbrev nBuf : Space → Nat
  | .hbm => 18
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S4352x5632, .bf16⟩
  | .hbm, ⟨2, _⟩ => ⟨S2x4x2048x1408, .bf16⟩
  | .hbm, ⟨3, _⟩ => ⟨S4352x2048, .f32⟩
  | .hbm, ⟨4, _⟩ => ⟨S_, .f32⟩
  | .hbm, ⟨5, _⟩ => ⟨S2048x5632, .f32⟩
  | .hbm, ⟨6, _⟩ => ⟨S4352x5632, .f32⟩
  | .hbm, ⟨7, _⟩ => ⟨S4352x5632, .f32⟩
  | .hbm, ⟨8, _⟩ => ⟨S5632x2048, .f32⟩
  | .hbm, ⟨9, _⟩ => ⟨S2048x5632, .f32⟩
  | .hbm, ⟨10, _⟩ => ⟨S2048x4x1408, .f32⟩
  | .hbm, ⟨11, _⟩ => ⟨S4x2048x1408, .f32⟩
  | .hbm, ⟨12, _⟩ => ⟨S4x2048x1408, .bf16⟩
  | .hbm, ⟨13, _⟩ => ⟨S1x4x2048x1408, .bf16⟩
  | .hbm, ⟨14, _⟩ => ⟨S4x2048x1408, .bf16⟩
  | .hbm, ⟨15, _⟩ => ⟨S1x4x2048x1408, .bf16⟩
  | .hbm, ⟨16, _⟩ => ⟨S1x4x2048x1408, .bf16⟩
  | .hbm, ⟨17, _⟩ => ⟨S2x4x2048x1408, .bf16⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== Kernel8.lean ====
abbrev S4352x2048 : Shape := ⟨2, ![4352, 2048]⟩
abbrev S4x2x512x2048 : Shape := ⟨4, ![4, 2, 512, 2048]⟩
abbrev S1088x2048 : Shape := ⟨2, ![1088, 2048]⟩
abbrev S1x1x512x2048 : Shape := ⟨4, ![1, 1, 512, 2048]⟩
abbrev S1088x512 : Shape := ⟨2, ![1088, 512]⟩
abbrev S512x2048 : Shape := ⟨2, ![512, 2048]⟩

abbrev nBuf : Space → Nat
  | .hbm => 3
  | .vmem => 6
  | .smem => 0
  | _ => 0

abbrev bufTy : (tb : Table) → Fin (tcTables nBuf tb) → BufTy
  | .hbm, ⟨0, _⟩ => ⟨S4352x2048, .bf16⟩
  | .hbm, ⟨1, _⟩ => ⟨S4x2x512x2048, .bf16⟩
  | .hbm, ⟨2, _⟩ => ⟨S4352x2048, .f32⟩
  | .local _ .vmem, ⟨0, _⟩ => ⟨S1088x2048, .bf16⟩
  | .local _ .vmem, ⟨1, _⟩ => ⟨S1088x2048, .bf16⟩
  | .local _ .vmem, ⟨2, _⟩ => ⟨S1x1x512x2048, .bf16⟩
  | .local _ .vmem, ⟨3, _⟩ => ⟨S1x1x512x2048, .bf16⟩
  | .local _ .vmem, ⟨4, _⟩ => ⟨S1088x512, .f32⟩
  | .local _ .vmem, ⟨5, _⟩ => ⟨S1088x512, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S4352x2048 : Shape := ⟨2, ![4352, 2048]⟩
abbrev S4x2x512x2048 : Shape := ⟨4, ![4, 2, 512, 2048]⟩
abbrev S4x1x512x2048 : Shape := ⟨4, ![4, 1, 512, 2048]⟩
abbrev S4x512x2048 : Shape := ⟨3, ![4, 512, 2048]⟩
abbrev S2048x2048 : Shape := ⟨2, ![2048, 2048]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S4x2x512x2048, .bf16⟩
  | .hbm, ⟨2, _⟩ => ⟨S4x1x512x2048, .bf16⟩
  | .hbm, ⟨3, _⟩ => ⟨S4x512x2048, .bf16⟩
  | .hbm, ⟨4, _⟩ => ⟨S4x512x2048, .f32⟩
  | .hbm, ⟨5, _⟩ => ⟨S2048x2048, .f32⟩
  | .hbm, ⟨6, _⟩ => ⟨S_, .f32⟩
  | .hbm, ⟨7, _⟩ => ⟨S4352x2048, .f32⟩
  | .hbm, ⟨8, _⟩ => ⟨S4352x2048, .f32⟩
  | .hbm, ⟨9, _⟩ => ⟨S4352x2048, .f32⟩
  | .hbm, ⟨10, _⟩ => ⟨S4352x2048, .f32⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel9.lean ====
abbrev S4352x2048 : Shape := ⟨2, ![4352, 2048]⟩
abbrev S4x2x2048x2816 : Shape := ⟨4, ![4, 2, 2048, 2816]⟩
abbrev S2x4352x5632 : Shape := ⟨3, ![2, 4352, 5632]⟩
abbrev S1088x2048 : Shape := ⟨2, ![1088, 2048]⟩
abbrev S1x1x2048x1408 : Shape := ⟨4, ![1, 1, 2048, 1408]⟩
abbrev S1x1088x1408 : Shape := ⟨3, ![1, 1088, 1408]⟩
abbrev S2048x1408 : Shape := ⟨2, ![2048, 1408]⟩
abbrev S1088x1408 : Shape := ⟨2, ![1088, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4352x2048, .bf16⟩
  | .hbm, ⟨1, _⟩ => ⟨S4x2x2048x2816, .bf16⟩
  | .hbm, ⟨2, _⟩ => ⟨S2x4352x5632, .f32⟩
  | .local _ .vmem, ⟨0, _⟩ => ⟨S1088x2048, .bf16⟩
  | .local _ .vmem, ⟨1, _⟩ => ⟨S1088x2048, .bf16⟩
  | .local _ .vmem, ⟨2, _⟩ => ⟨S1x1x2048x1408, .bf16⟩
  | .local _ .vmem, ⟨3, _⟩ => ⟨S1x1x2048x1408, .bf16⟩
  | .local _ .vmem, ⟨4, _⟩ => ⟨S1x1088x1408, .f32⟩
  | .local _ .vmem, ⟨5, _⟩ => ⟨S1x1088x1408, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1088x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S4352x2048 : Shape := ⟨2, ![4352, 2048]⟩
abbrev S4x2x2048x2816 : Shape := ⟨4, ![4, 2, 2048, 2816]⟩
abbrev S4x1x2048x2816 : Shape := ⟨4, ![4, 1, 2048, 2816]⟩
abbrev S4x2048x2816 : Shape := ⟨3, ![4, 2048, 2816]⟩
abbrev S2048x4x2816 : Shape := ⟨3, ![2048, 4, 2816]⟩
abbrev S2048x11264 : Shape := ⟨2, ![2048, 11264]⟩
abbrev S4352x11264 : Shape := ⟨2, ![4352, 11264]⟩
abbrev S4352x5632 : Shape := ⟨2, ![4352, 5632]⟩
abbrev S1x4352x5632 : Shape := ⟨3, ![1, 4352, 5632]⟩
abbrev S2x4352x5632 : Shape := ⟨3, ![2, 4352, 5632]⟩

abbrev nBuf : Space → Nat
  | .hbm => 14
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S4x2x2048x2816, .bf16⟩
  | .hbm, ⟨2, _⟩ => ⟨S4352x2048, .f32⟩
  | .hbm, ⟨3, _⟩ => ⟨S4x1x2048x2816, .bf16⟩
  | .hbm, ⟨4, _⟩ => ⟨S4x2048x2816, .bf16⟩
  | .hbm, ⟨5, _⟩ => ⟨S4x2048x2816, .f32⟩
  | .hbm, ⟨6, _⟩ => ⟨S2048x4x2816, .f32⟩
  | .hbm, ⟨7, _⟩ => ⟨S2048x11264, .f32⟩
  | .hbm, ⟨8, _⟩ => ⟨S4352x11264, .f32⟩
  | .hbm, ⟨9, _⟩ => ⟨S4352x5632, .f32⟩
  | .hbm, ⟨10, _⟩ => ⟨S4352x5632, .f32⟩
  | .hbm, ⟨11, _⟩ => ⟨S1x4352x5632, .f32⟩
  | .hbm, ⟨12, _⟩ => ⟨S1x4352x5632, .f32⟩
  | .hbm, ⟨13, _⟩ => ⟨S2x4352x5632, .f32⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩

abbrev nD : Nat := 1
abbrev τ : Topo := Topo.v7x

variable {F : FTy → Type} [FloatOps F]
-- ==== Kernel10.lean ====
abbrev S4352x2048 : Shape := ⟨2, ![4352, 2048]⟩
abbrev S4x2x2048x1408 : Shape := ⟨4, ![4, 2, 2048, 1408]⟩
abbrev S4352x5632 : Shape := ⟨2, ![4352, 5632]⟩
abbrev S1088x2048 : Shape := ⟨2, ![1088, 2048]⟩
abbrev S1x1x2048x1408 : Shape := ⟨4, ![1, 1, 2048, 1408]⟩
abbrev S1088x1408 : Shape := ⟨2, ![1088, 1408]⟩
abbrev S2048x1408 : Shape := ⟨2, ![2048, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4352x2048, .bf16⟩
  | .hbm, ⟨1, _⟩ => ⟨S4x2x2048x1408, .bf16⟩
  | .hbm, ⟨2, _⟩ => ⟨S4352x5632, .f32⟩
  | .local _ .vmem, ⟨0, _⟩ => ⟨S1088x2048, .bf16⟩
  | .local _ .vmem, ⟨1, _⟩ => ⟨S1088x2048, .bf16⟩
  | .local _ .vmem, ⟨2, _⟩ => ⟨S1x1x2048x1408, .bf16⟩
  | .local _ .vmem, ⟨3, _⟩ => ⟨S1x1x2048x1408, .bf16⟩
  | .local _ .vmem, ⟨4, _⟩ => ⟨S1088x1408, .f32⟩
  | .local _ .vmem, ⟨5, _⟩ => ⟨S1088x1408, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1088x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S4352x2048 : Shape := ⟨2, ![4352, 2048]⟩
abbrev S4x2x2048x1408 : Shape := ⟨4, ![4, 2, 2048, 1408]⟩
abbrev S4x1x2048x1408 : Shape := ⟨4, ![4, 1, 2048, 1408]⟩
abbrev S4x2048x1408 : Shape := ⟨3, ![4, 2048, 1408]⟩
abbrev S2048x4x1408 : Shape := ⟨3, ![2048, 4, 1408]⟩
abbrev S2048x5632 : Shape := ⟨2, ![2048, 5632]⟩
abbrev S4352x5632 : Shape := ⟨2, ![4352, 5632]⟩

abbrev nBuf : Space → Nat
  | .hbm => 9
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S4x2x2048x1408, .bf16⟩
  | .hbm, ⟨2, _⟩ => ⟨S4352x2048, .f32⟩
  | .hbm, ⟨3, _⟩ => ⟨S4x1x2048x1408, .bf16⟩
  | .hbm, ⟨4, _⟩ => ⟨S4x2048x1408, .bf16⟩
  | .hbm, ⟨5, _⟩ => ⟨S4x2048x1408, .f32⟩
  | .hbm, ⟨6, _⟩ => ⟨S2048x4x1408, .f32⟩
  | .hbm, ⟨7, _⟩ => ⟨S2048x5632, .f32⟩
  | .hbm, ⟨8, _⟩ => ⟨S4352x5632, .f32⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Kernel11.lean ====
abbrev S4352x5632 : Shape := ⟨2, ![4352, 5632]⟩
abbrev S4x2x1408x2048 : Shape := ⟨4, ![4, 2, 1408, 2048]⟩
abbrev S4352x2048 : Shape := ⟨2, ![4352, 2048]⟩
abbrev S544x5632 : Shape := ⟨2, ![544, 5632]⟩
abbrev S4x1x1408x1024 : Shape := ⟨4, ![4, 1, 1408, 1024]⟩
abbrev S544x1024 : Shape := ⟨2, ![544, 1024]⟩
abbrev S544x1408 : Shape := ⟨2, ![544, 1408]⟩
abbrev S1x1x1408x1024 : Shape := ⟨4, ![1, 1, 1408, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4352x5632, .bf16⟩
  | .hbm, ⟨1, _⟩ => ⟨S4x2x1408x2048, .bf16⟩
  | .hbm, ⟨2, _⟩ => ⟨S4352x2048, .f32⟩
  | .local _ .vmem, ⟨0, _⟩ => ⟨S544x5632, .bf16⟩
  | .local _ .vmem, ⟨1, _⟩ => ⟨S544x5632, .bf16⟩
  | .local _ .vmem, ⟨2, _⟩ => ⟨S4x1x1408x1024, .bf16⟩
  | .local _ .vmem, ⟨3, _⟩ => ⟨S4x1x1408x1024, .bf16⟩
  | .local _ .vmem, ⟨4, _⟩ => ⟨S544x1024, .f32⟩
  | .local _ .vmem, ⟨5, _⟩ => ⟨S544x1024, .f32⟩
  | _, _ => ⟨S4352x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S544x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4x1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S544x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference11Ideal.lean ====
abbrev S4352x5632 : Shape := ⟨2, ![4352, 5632]⟩
abbrev S4x2x1408x2048 : Shape := ⟨4, ![4, 2, 1408, 2048]⟩
abbrev S4x1x1408x2048 : Shape := ⟨4, ![4, 1, 1408, 2048]⟩
abbrev S4x1408x2048 : Shape := ⟨3, ![4, 1408, 2048]⟩
abbrev S5632x2048 : Shape := ⟨2, ![5632, 2048]⟩
abbrev S4352x2048 : Shape := ⟨2, ![4352, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4352x5632, .bf16⟩
  | .hbm, ⟨1, _⟩ => ⟨S4x2x1408x2048, .bf16⟩
  | .hbm, ⟨2, _⟩ => ⟨S4352x5632, .f32⟩
  | .hbm, ⟨3, _⟩ => ⟨S4x1x1408x2048, .bf16⟩
  | .hbm, ⟨4, _⟩ => ⟨S4x1408x2048, .bf16⟩
  | .hbm, ⟨5, _⟩ => ⟨S4x1408x2048, .f32⟩
  | .hbm, ⟨6, _⟩ => ⟨S5632x2048, .f32⟩
  | .hbm, ⟨7, _⟩ => ⟨S4352x2048, .f32⟩
  | _, _ => ⟨S4352x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel12.lean ====
abbrev S4352x1024 : Shape := ⟨2, ![4352, 1024]⟩
abbrev S4352x2048 : Shape := ⟨2, ![4352, 2048]⟩
abbrev S2x4x512x2048 : Shape := ⟨4, ![2, 4, 512, 2048]⟩
abbrev S1024x512 : Shape := ⟨2, ![1024, 512]⟩
abbrev S256x512 : Shape := ⟨2, ![256, 512]⟩
abbrev S1024x2048 : Shape := ⟨2, ![1024, 2048]⟩
abbrev S256x2048 : Shape := ⟨2, ![256, 2048]⟩
abbrev S1x1x512x2048 : Shape := ⟨4, ![1, 1, 512, 2048]⟩
abbrev S512x2048 : Shape := ⟨2, ![512, 2048]⟩

abbrev nBuf : Space → Nat
  | .hbm => 4
  | .vmem => 10
  | .smem => 0
  | _ => 0

abbrev bufTy : (tb : Table) → Fin (tcTables nBuf tb) → BufTy
  | .hbm, ⟨0, _⟩ => ⟨S4352x1024, .bf16⟩
  | .hbm, ⟨1, _⟩ => ⟨S4352x2048, .bf16⟩
  | .hbm, ⟨2, _⟩ => ⟨S2x4x512x2048, .bf16⟩
  | .hbm, ⟨3, _⟩ => ⟨S2x4x512x2048, .bf16⟩
  | .local _ .vmem, ⟨0, _⟩ => ⟨S1024x512, .bf16⟩
  | .local _ .vmem, ⟨1, _⟩ => ⟨S1024x512, .bf16⟩
  | .local _ .vmem, ⟨2, _⟩ => ⟨S256x512, .bf16⟩
  | .local _ .vmem, ⟨3, _⟩ => ⟨S256x512, .bf16⟩
  | .local _ .vmem, ⟨4, _⟩ => ⟨S1024x2048, .bf16⟩
  | .local _ .vmem, ⟨5, _⟩ => ⟨S1024x2048, .bf16⟩
  | .local _ .vmem, ⟨6, _⟩ => ⟨S256x2048, .bf16⟩
  | .local _ .vmem, ⟨7, _⟩ => ⟨S1x1x512x2048, .bf16⟩
  | .local _ .vmem, ⟨8, _⟩ => ⟨S1x1x512x2048, .bf16⟩
  | .local _ .vmem, ⟨9, _⟩ => ⟨S512x2048, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 5], ![false, false]⟩

def k0_cond3 (i : grid0.Coords) : BitVec 1 :=
  let arg1 : BitVec 32 := BitVec.ofNat 32 (i 1).val
  let c4_i32_3 : BitVec 32 := 4#32
  let v8 : BitVec 1 := Scalar.cmpi .eq arg1 c4_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let c0_i32 : BitVec 32 := 0#32
  ![c16_i32.toNat, arg0.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let c0_i32 : BitVec 32 := 0#32
  let c0_i32_0 : BitVec 32 := 0#32
  ![c16_i32.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  let c0_i32_3 : BitVec 32 := 0#32
  ![c0_i32_0.toNat, v0.toNat, c0_i32_1.toNat, c0_i32_2.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference12Ideal.lean ====
abbrev S4352x1024 : Shape := ⟨2, ![4352, 1024]⟩
abbrev S4352x2048 : Shape := ⟨2, ![4352, 2048]⟩
abbrev S2x4x512x2048 : Shape := ⟨4, ![2, 4, 512, 2048]⟩
abbrev S_ : Shape := ⟨0, ![]⟩
abbrev S1024x2048 : Shape := ⟨2, ![1024, 2048]⟩
abbrev S2048x1024 : Shape := ⟨2, ![2048, 1024]⟩
abbrev S2x512x2048 : Shape := ⟨3, ![2, 512, 2048]⟩
abbrev S1x2x512x2048 : Shape := ⟨4, ![1, 2, 512, 2048]⟩
abbrev S4x512x2048 : Shape := ⟨3, ![4, 512, 2048]⟩
abbrev S1x4x512x2048 : Shape := ⟨4, ![1, 4, 512, 2048]⟩

abbrev nBuf : Space → Nat
  | .hbm => 20
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S4352x2048, .bf16⟩
  | .hbm, ⟨2, _⟩ => ⟨S2x4x512x2048, .bf16⟩
  | .hbm, ⟨3, _⟩ => ⟨S4352x1024, .f32⟩
  | .hbm, ⟨4, _⟩ => ⟨S_, .f32⟩
  | .hbm, ⟨5, _⟩ => ⟨S1024x2048, .f32⟩
  | .hbm, ⟨6, _⟩ => ⟨S4352x2048, .f32⟩
  | .hbm, ⟨7, _⟩ => ⟨S4352x2048, .f32⟩
  | .hbm, ⟨8, _⟩ => ⟨S2048x1024, .f32⟩
  | .hbm, ⟨9, _⟩ => ⟨S1024x2048, .f32⟩
  | .hbm, ⟨10, _⟩ => ⟨S2x512x2048, .f32⟩
  | .hbm, ⟨11, _⟩ => ⟨S2x512x2048, .bf16⟩
  | .hbm, ⟨12, _⟩ => ⟨S1x2x512x2048, .bf16⟩
  | .hbm, ⟨13, _⟩ => ⟨S2x512x2048, .bf16⟩
  | .hbm, ⟨14, _⟩ => ⟨S4x512x2048, .bf16⟩
  | .hbm, ⟨15, _⟩ => ⟨S1x4x512x2048, .bf16⟩
  | .hbm, ⟨16, _⟩ => ⟨S4x512x2048, .bf16⟩
  | .hbm, ⟨17, _⟩ => ⟨S1x4x512x2048, .bf16⟩
  | .hbm, ⟨18, _⟩ => ⟨S1x4x512x2048, .bf16⟩
  | .hbm, ⟨19, _⟩ => ⟨S2x4x512x2048, .bf16⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩

abbrev nD : Nat := 1
abbrev τ : Topo := Topo.v7x

variable {F : FTy → Type} [FloatOps F]
-- ==== Kernel13.lean ====
abbrev S4352x512 : Shape := ⟨2, ![4352, 512]⟩
abbrev S4352x2048 : Shape := ⟨2, ![4352, 2048]⟩
abbrev S2x4x512x2048 : Shape := ⟨4, ![2, 4, 512, 2048]⟩
abbrev S1024x512 : Shape := ⟨2, ![1024, 512]⟩
abbrev S256x512 : Shape := ⟨2, ![256, 512]⟩
abbrev S1024x2048 : Shape := ⟨2, ![1024, 2048]⟩
abbrev S256x2048 : Shape := ⟨2, ![256, 2048]⟩
abbrev S1x1x512x2048 : Shape := ⟨4, ![1, 1, 512, 2048]⟩
abbrev S512x2048 : Shape := ⟨2, ![512, 2048]⟩

abbrev nBuf : Space → Nat
  | .hbm => 4
  | .vmem => 8
  | .smem => 0
  | _ => 0

abbrev bufTy : (tb : Table) → Fin (tcTables nBuf tb) → BufTy
  | .hbm, ⟨0, _⟩ => ⟨S4352x512, .bf16⟩
  | .hbm, ⟨1, _⟩ => ⟨S4352x2048, .bf16⟩
  | .hbm, ⟨2, _⟩ => ⟨S2x4x512x2048, .bf16⟩
  | .hbm, ⟨3, _⟩ => ⟨S2x4x512x2048, .bf16⟩
  | .local _ .vmem, ⟨0, _⟩ => ⟨S1024x512, .bf16⟩
  | .local _ .vmem, ⟨1, _⟩ => ⟨S1024x512, .bf16⟩
  | .local _ .vmem, ⟨2, _⟩ => ⟨S256x512, .bf16⟩
  | .local _ .vmem, ⟨3, _⟩ => ⟨S1024x2048, .bf16⟩
  | .local _ .vmem, ⟨4, _⟩ => ⟨S1024x2048, .bf16⟩
  | .local _ .vmem, ⟨5, _⟩ => ⟨S256x2048, .bf16⟩
  | .local _ .vmem, ⟨6, _⟩ => ⟨S1x1x512x2048, .bf16⟩
  | .local _ .vmem, ⟨7, _⟩ => ⟨S512x2048, .f32⟩
  | _, _ => ⟨S4352x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨2, ![1, 5], ![false, false]⟩

def k0_cond3 (i : grid0.Coords) : BitVec 1 :=
  let arg1 : BitVec 32 := BitVec.ofNat 32 (i 1).val
  let c4_i32_3 : BitVec 32 := 4#32
  let v8 : BitVec 1 := Scalar.cmpi .eq arg1 c4_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let c0_i32 : BitVec 32 := 0#32
  ![c16_i32.toNat, arg0.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let c0_i32 : BitVec 32 := 0#32
  let c0_i32_0 : BitVec 32 := 0#32
  ![c16_i32.toNat, c0_i32.toNat]

def cc0_transform_5 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x512x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]
-- ==== Reference13Ideal.lean ====
abbrev S4352x512 : Shape := ⟨2, ![4352, 512]⟩
abbrev S4352x2048 : Shape := ⟨2, ![4352, 2048]⟩
abbrev S2x4x512x2048 : Shape := ⟨4, ![2, 4, 512, 2048]⟩
abbrev S1x2x512x2048 : Shape := ⟨4, ![1, 2, 512, 2048]⟩
abbrev S2x512x2048 : Shape := ⟨3, ![2, 512, 2048]⟩
abbrev S_ : Shape := ⟨0, ![]⟩
abbrev S512x2048 : Shape := ⟨2, ![512, 2048]⟩
abbrev S2048x512 : Shape := ⟨2, ![2048, 512]⟩
abbrev S1x512x2048 : Shape := ⟨3, ![1, 512, 2048]⟩
abbrev S1x1x512x2048 : Shape := ⟨4, ![1, 1, 512, 2048]⟩
abbrev S4x512x2048 : Shape := ⟨3, ![4, 512, 2048]⟩
abbrev S1x4x512x2048 : Shape := ⟨4, ![1, 4, 512, 2048]⟩

abbrev nBuf : Space → Nat
  | .hbm => 22
  | .vmem => 0
  | .smem => 0
  | _ => 0

abbrev bufTy : (tb : Table) → Fin (tcTables nBuf tb) → BufTy
  | .hbm, ⟨0, _⟩ => ⟨S4352x512, .bf16⟩
  | .hbm, ⟨1, _⟩ => ⟨S4352x2048, .bf16⟩
  | .hbm, ⟨2, _⟩ => ⟨S2x4x512x2048, .bf16⟩
  | .hbm, ⟨3, _⟩ => ⟨S1x2x512x2048, .bf16⟩
  | .hbm, ⟨4, _⟩ => ⟨S2x512x2048, .bf16⟩
  | .hbm, ⟨5, _⟩ => ⟨S4352x512, .f32⟩
  | .hbm, ⟨6, _⟩ => ⟨S_, .f32⟩
  | .hbm, ⟨7, _⟩ => ⟨S512x2048, .f32⟩
  | .hbm, ⟨8, _⟩ => ⟨S4352x2048, .f32⟩
  | .hbm, ⟨9, _⟩ => ⟨S4352x2048, .f32⟩
  | .hbm, ⟨10, _⟩ => ⟨S2048x512, .f32⟩
  | .hbm, ⟨11, _⟩ => ⟨S512x2048, .f32⟩
  | .hbm, ⟨12, _⟩ => ⟨S1x512x2048, .f32⟩
  | .hbm, ⟨13, _⟩ => ⟨S1x512x2048, .bf16⟩
  | .hbm, ⟨14, _⟩ => ⟨S1x1x512x2048, .bf16⟩
  | .hbm, ⟨15, _⟩ => ⟨S1x512x2048, .bf16⟩
  | .hbm, ⟨16, _⟩ => ⟨S4x512x2048, .bf16⟩
  | .hbm, ⟨17, _⟩ => ⟨S1x4x512x2048, .bf16⟩
  | .hbm, ⟨18, _⟩ => ⟨S4x512x2048, .bf16⟩
  | .hbm, ⟨19, _⟩ => ⟨S1x4x512x2048, .bf16⟩
  | .hbm, ⟨20, _⟩ => ⟨S1x4x512x2048, .bf16⟩
  | .hbm, ⟨21, _⟩ => ⟨S2x4x512x2048, .bf16⟩
  | _, _ => ⟨S4352x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩

abbrev nD : Nat := 1
abbrev τ : Topo := Topo.v7x

variable {F : FTy → Type} [FloatOps F]
-- ==== Kernel14.lean ====
abbrev S4352x512 : Shape := ⟨2, ![4352, 512]⟩
abbrev S4352x2048 : Shape := ⟨2, ![4352, 2048]⟩
abbrev S2x4x512x2048 : Shape := ⟨4, ![2, 4, 512, 2048]⟩
abbrev S1024x512 : Shape := ⟨2, ![1024, 512]⟩
abbrev S256x512 : Shape := ⟨2, ![256, 512]⟩
abbrev S1024x2048 : Shape := ⟨2, ![1024, 2048]⟩
abbrev S256x2048 : Shape := ⟨2, ![256, 2048]⟩
abbrev S1x1x512x2048 : Shape := ⟨4, ![1, 1, 512, 2048]⟩
abbrev S512x2048 : Shape := ⟨2, ![512, 2048]⟩

abbrev nBuf : Space → Nat
  | .hbm => 4
  | .vmem => 8
  | .smem => 0
  | _ => 0

abbrev bufTy : (tb : Table) → Fin (tcTables nBuf tb) → BufTy
  | .hbm, ⟨0, _⟩ => ⟨S4352x512, .bf16⟩
  | .hbm, ⟨1, _⟩ => ⟨S4352x2048, .bf16⟩
  | .hbm, ⟨2, _⟩ => ⟨S2x4x512x2048, .bf16⟩
  | .hbm, ⟨3, _⟩ => ⟨S2x4x512x2048, .bf16⟩
  | .local _ .vmem, ⟨0, _⟩ => ⟨S1024x512, .bf16⟩
  | .local _ .vmem, ⟨1, _⟩ => ⟨S1024x512, .bf16⟩
  | .local _ .vmem, ⟨2, _⟩ => ⟨S256x512, .bf16⟩
  | .local _ .vmem, ⟨3, _⟩ => ⟨S1024x2048, .bf16⟩
  | .local _ .vmem, ⟨4, _⟩ => ⟨S1024x2048, .bf16⟩
  | .local _ .vmem, ⟨5, _⟩ => ⟨S256x2048, .bf16⟩
  | .local _ .vmem, ⟨6, _⟩ => ⟨S1x1x512x2048, .bf16⟩
  | .local _ .vmem, ⟨7, _⟩ => ⟨S512x2048, .f32⟩
  | _, _ => ⟨S4352x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨2, ![1, 5], ![false, false]⟩

def k0_cond3 (i : grid0.Coords) : BitVec 1 :=
  let arg1 : BitVec 32 := BitVec.ofNat 32 (i 1).val
  let c4_i32_3 : BitVec 32 := 4#32
  let v8 : BitVec 1 := Scalar.cmpi .eq arg1 c4_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let c0_i32 : BitVec 32 := 0#32
  ![c16_i32.toNat, arg0.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let c0_i32 : BitVec 32 := 0#32
  let c0_i32_0 : BitVec 32 := 0#32
  ![c16_i32.toNat, c0_i32.toNat]

def cc0_transform_5 (i : grid0.Coords) : Fin 4 → Nat :=
  let arg0 : BitVec 32 := BitVec.ofNat 32 (i 0).val
  let arg1 : BitVec 32 := BitVec.ofNat 32 (i 1).val
  let c3_i32 : BitVec 32 := 3#32
  let v0 : BitVec 32 := Scalar.addi arg0 c3_i32
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x512x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]
-- ==== Reference14Ideal.lean ====
abbrev S4352x512 : Shape := ⟨2, ![4352, 512]⟩
abbrev S4352x2048 : Shape := ⟨2, ![4352, 2048]⟩
abbrev S2x4x512x2048 : Shape := ⟨4, ![2, 4, 512, 2048]⟩
abbrev S1x3x512x2048 : Shape := ⟨4, ![1, 3, 512, 2048]⟩
abbrev S3x512x2048 : Shape := ⟨3, ![3, 512, 2048]⟩
abbrev S_ : Shape := ⟨0, ![]⟩
abbrev S512x2048 : Shape := ⟨2, ![512, 2048]⟩
abbrev S2048x512 : Shape := ⟨2, ![2048, 512]⟩
abbrev S1x512x2048 : Shape := ⟨3, ![1, 512, 2048]⟩
abbrev S4x512x2048 : Shape := ⟨3, ![4, 512, 2048]⟩
abbrev S1x4x512x2048 : Shape := ⟨4, ![1, 4, 512, 2048]⟩

abbrev nBuf : Space → Nat
  | .hbm => 20
  | .vmem => 0
  | .smem => 0
  | _ => 0

abbrev bufTy : (tb : Table) → Fin (tcTables nBuf tb) → BufTy
  | .hbm, ⟨0, _⟩ => ⟨S4352x512, .bf16⟩
  | .hbm, ⟨1, _⟩ => ⟨S4352x2048, .bf16⟩
  | .hbm, ⟨2, _⟩ => ⟨S2x4x512x2048, .bf16⟩
  | .hbm, ⟨3, _⟩ => ⟨S1x3x512x2048, .bf16⟩
  | .hbm, ⟨4, _⟩ => ⟨S3x512x2048, .bf16⟩
  | .hbm, ⟨5, _⟩ => ⟨S4352x512, .f32⟩
  | .hbm, ⟨6, _⟩ => ⟨S_, .f32⟩
  | .hbm, ⟨7, _⟩ => ⟨S512x2048, .f32⟩
  | .hbm, ⟨8, _⟩ => ⟨S4352x2048, .f32⟩
  | .hbm, ⟨9, _⟩ => ⟨S4352x2048, .f32⟩
  | .hbm, ⟨10, _⟩ => ⟨S2048x512, .f32⟩
  | .hbm, ⟨11, _⟩ => ⟨S512x2048, .f32⟩
  | .hbm, ⟨12, _⟩ => ⟨S1x512x2048, .f32⟩
  | .hbm, ⟨13, _⟩ => ⟨S1x512x2048, .bf16⟩
  | .hbm, ⟨14, _⟩ => ⟨S4x512x2048, .bf16⟩
  | .hbm, ⟨15, _⟩ => ⟨S1x4x512x2048, .bf16⟩
  | .hbm, ⟨16, _⟩ => ⟨S4x512x2048, .bf16⟩
  | .hbm, ⟨17, _⟩ => ⟨S1x4x512x2048, .bf16⟩
  | .hbm, ⟨18, _⟩ => ⟨S1x4x512x2048, .bf16⟩
  | .hbm, ⟨19, _⟩ => ⟨S2x4x512x2048, .bf16⟩
  | _, _ => ⟨S4352x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩

abbrev nD : Nat := 1
abbrev τ : Topo := Topo.v7x

variable {F : FTy → Type} [FloatOps F]
-- ==== Kernel15.lean ====
abbrev S4352x512 : Shape := ⟨2, ![4352, 512]⟩
abbrev S4x2x128x512 : Shape := ⟨4, ![4, 2, 128, 512]⟩
abbrev S1088x512 : Shape := ⟨2, ![1088, 512]⟩
abbrev S1x1x128x512 : Shape := ⟨4, ![1, 1, 128, 512]⟩
abbrev S1088x128 : Shape := ⟨2, ![1088, 128]⟩
abbrev S128x512 : Shape := ⟨2, ![128, 512]⟩

abbrev nBuf : Space → Nat
  | .hbm => 3
  | .vmem => 6
  | .smem => 0
  | _ => 0

abbrev bufTy : (tb : Table) → Fin (tcTables nBuf tb) → BufTy
  | .hbm, ⟨0, _⟩ => ⟨S4352x512, .bf16⟩
  | .hbm, ⟨1, _⟩ => ⟨S4x2x128x512, .bf16⟩
  | .hbm, ⟨2, _⟩ => ⟨S4352x512, .f32⟩
  | .local _ .vmem, ⟨0, _⟩ => ⟨S1088x512, .bf16⟩
  | .local _ .vmem, ⟨1, _⟩ => ⟨S1088x512, .bf16⟩
  | .local _ .vmem, ⟨2, _⟩ => ⟨S1x1x128x512, .bf16⟩
  | .local _ .vmem, ⟨3, _⟩ => ⟨S1x1x128x512, .bf16⟩
  | .local _ .vmem, ⟨4, _⟩ => ⟨S1088x128, .f32⟩
  | .local _ .vmem, ⟨5, _⟩ => ⟨S1088x128, .f32⟩
  | _, _ => ⟨S4352x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1088x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1088x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference15Ideal.lean ====
abbrev S4352x512 : Shape := ⟨2, ![4352, 512]⟩
abbrev S4x2x128x512 : Shape := ⟨4, ![4, 2, 128, 512]⟩
abbrev S4x1x128x512 : Shape := ⟨4, ![4, 1, 128, 512]⟩
abbrev S4x128x512 : Shape := ⟨3, ![4, 128, 512]⟩
abbrev S512x512 : Shape := ⟨2, ![512, 512]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4352x512, .bf16⟩
  | .hbm, ⟨1, _⟩ => ⟨S4x2x128x512, .bf16⟩
  | .hbm, ⟨2, _⟩ => ⟨S4x1x128x512, .bf16⟩
  | .hbm, ⟨3, _⟩ => ⟨S4x128x512, .bf16⟩
  | .hbm, ⟨4, _⟩ => ⟨S4x128x512, .f32⟩
  | .hbm, ⟨5, _⟩ => ⟨S512x512, .f32⟩
  | .hbm, ⟨6, _⟩ => ⟨S_, .f32⟩
  | .hbm, ⟨7, _⟩ => ⟨S4352x512, .f32⟩
  | .hbm, ⟨8, _⟩ => ⟨S4352x512, .f32⟩
  | .hbm, ⟨9, _⟩ => ⟨S4352x512, .f32⟩
  | .hbm, ⟨10, _⟩ => ⟨S4352x512, .f32⟩
  | _, _ => ⟨S4352x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel16.lean ====
abbrev S4352x512 : Shape := ⟨2, ![4352, 512]⟩
abbrev S2x4x128x512 : Shape := ⟨4, ![2, 4, 128, 512]⟩
abbrev S1024x128 : Shape := ⟨2, ![1024, 128]⟩
abbrev S256x128 : Shape := ⟨2, ![256, 128]⟩
abbrev S1024x512 : Shape := ⟨2, ![1024, 512]⟩
abbrev S256x512 : Shape := ⟨2, ![256, 512]⟩
abbrev S1x1x128x512 : Shape := ⟨4, ![1, 1, 128, 512]⟩
abbrev S128x512 : Shape := ⟨2, ![128, 512]⟩

abbrev nBuf : Space → Nat
  | .hbm => 4
  | .vmem => 10
  | .smem => 0
  | _ => 0

abbrev bufTy : (tb : Table) → Fin (tcTables nBuf tb) → BufTy
  | .hbm, ⟨0, _⟩ => ⟨S4352x512, .bf16⟩
  | .hbm, ⟨1, _⟩ => ⟨S4352x512, .bf16⟩
  | .hbm, ⟨2, _⟩ => ⟨S2x4x128x512, .bf16⟩
  | .hbm, ⟨3, _⟩ => ⟨S2x4x128x512, .bf16⟩
  | .local _ .vmem, ⟨0, _⟩ => ⟨S1024x128, .bf16⟩
  | .local _ .vmem, ⟨1, _⟩ => ⟨S1024x128, .bf16⟩
  | .local _ .vmem, ⟨2, _⟩ => ⟨S256x128, .bf16⟩
  | .local _ .vmem, ⟨3, _⟩ => ⟨S256x128, .bf16⟩
  | .local _ .vmem, ⟨4, _⟩ => ⟨S1024x512, .bf16⟩
  | .local _ .vmem, ⟨5, _⟩ => ⟨S1024x512, .bf16⟩
  | .local _ .vmem, ⟨6, _⟩ => ⟨S256x512, .bf16⟩
  | .local _ .vmem, ⟨7, _⟩ => ⟨S1x1x128x512, .bf16⟩
  | .local _ .vmem, ⟨8, _⟩ => ⟨S1x1x128x512, .bf16⟩
  | .local _ .vmem, ⟨9, _⟩ => ⟨S128x512, .f32⟩
  | _, _ => ⟨S4352x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 5], ![false, false]⟩

def k0_cond3 (i : grid0.Coords) : BitVec 1 :=
  let arg1 : BitVec 32 := BitVec.ofNat 32 (i 1).val
  let c4_i32_3 : BitVec 32 := 4#32
  let v8 : BitVec 1 := Scalar.cmpi .eq arg1 c4_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let c0_i32 : BitVec 32 := 0#32
  ![c16_i32.toNat, arg0.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let c0_i32 : BitVec 32 := 0#32
  let c0_i32_0 : BitVec 32 := 0#32
  ![c16_i32.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference16Ideal.lean ====
abbrev S4352x512 : Shape := ⟨2, ![4352, 512]⟩
abbrev S2x4x128x512 : Shape := ⟨4, ![2, 4, 128, 512]⟩
abbrev S_ : Shape := ⟨0, ![]⟩
abbrev S512x512 : Shape := ⟨2, ![512, 512]⟩
abbrev S4x128x512 : Shape := ⟨3, ![4, 128, 512]⟩
abbrev S1x4x128x512 : Shape := ⟨4, ![1, 4, 128, 512]⟩

abbrev nBuf : Space → Nat
  | .hbm => 17
  | .vmem => 0
  | .smem => 0
  | _ => 0

abbrev bufTy : (tb : Table) → Fin (tcTables nBuf tb) → BufTy
  | .hbm, ⟨0, _⟩ => ⟨S4352x512, .bf16⟩
  | .hbm, ⟨1, _⟩ => ⟨S4352x512, .bf16⟩
  | .hbm, ⟨2, _⟩ => ⟨S2x4x128x512, .bf16⟩
  | .hbm, ⟨3, _⟩ => ⟨S4352x512, .f32⟩
  | .hbm, ⟨4, _⟩ => ⟨S_, .f32⟩
  | .hbm, ⟨5, _⟩ => ⟨S512x512, .f32⟩
  | .hbm, ⟨6, _⟩ => ⟨S4352x512, .f32⟩
  | .hbm, ⟨7, _⟩ => ⟨S4352x512, .f32⟩
  | .hbm, ⟨8, _⟩ => ⟨S512x512, .f32⟩
  | .hbm, ⟨9, _⟩ => ⟨S512x512, .f32⟩
  | .hbm, ⟨10, _⟩ => ⟨S4x128x512, .f32⟩
  | .hbm, ⟨11, _⟩ => ⟨S4x128x512, .bf16⟩
  | .hbm, ⟨12, _⟩ => ⟨S1x4x128x512, .bf16⟩
  | .hbm, ⟨13, _⟩ => ⟨S4x128x512, .bf16⟩
  | .hbm, ⟨14, _⟩ => ⟨S1x4x128x512, .bf16⟩
  | .hbm, ⟨15, _⟩ => ⟨S1x4x128x512, .bf16⟩
  | .hbm, ⟨16, _⟩ => ⟨S2x4x128x512, .bf16⟩
  | _, _ => ⟨S4352x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== Kernel17.lean ====
abbrev S4352x1024 : Shape := ⟨2, ![4352, 1024]⟩
abbrev S4352x512 : Shape := ⟨2, ![4352, 512]⟩
abbrev S4x2x512x2048 : Shape := ⟨4, ![4, 2, 512, 2048]⟩
abbrev S4352x2048 : Shape := ⟨2, ![4352, 2048]⟩
abbrev S544x1024 : Shape := ⟨2, ![544, 1024]⟩
abbrev S544x512 : Shape := ⟨2, ![544, 512]⟩
abbrev S4x1x512x2048 : Shape := ⟨4, ![4, 1, 512, 2048]⟩
abbrev S544x2048 : Shape := ⟨2, ![544, 2048]⟩
abbrev S1x1x512x2048 : Shape := ⟨4, ![1, 1, 512, 2048]⟩
abbrev S512x2048 : Shape := ⟨2, ![512, 2048]⟩

abbrev nBuf : Space → Nat
  | .hbm => 5
  | .vmem => 9
  | .smem => 0
  | _ => 0

abbrev bufTy : (tb : Table) → Fin (tcTables nBuf tb) → BufTy
  | .hbm, ⟨0, _⟩ => ⟨S4352x1024, .bf16⟩
  | .hbm, ⟨1, _⟩ => ⟨S4352x512, .bf16⟩
  | .hbm, ⟨2, _⟩ => ⟨S4352x512, .bf16⟩
  | .hbm, ⟨3, _⟩ => ⟨S4x2x512x2048, .bf16⟩
  | .hbm, ⟨4, _⟩ => ⟨S4352x2048, .f32⟩
  | .local _ .vmem, ⟨0, _⟩ => ⟨S544x1024, .bf16⟩
  | .local _ .vmem, ⟨1, _⟩ => ⟨S544x1024, .bf16⟩
  | .local _ .vmem, ⟨2, _⟩ => ⟨S544x512, .bf16⟩
  | .local _ .vmem, ⟨3, _⟩ => ⟨S544x512, .bf16⟩
  | .local _ .vmem, ⟨4, _⟩ => ⟨S544x512, .bf16⟩
  | .local _ .vmem, ⟨5, _⟩ => ⟨S544x512, .bf16⟩
  | .local _ .vmem, ⟨6, _⟩ => ⟨S4x1x512x2048, .bf16⟩
  | .local _ .vmem, ⟨7, _⟩ => ⟨S544x2048, .f32⟩
  | .local _ .vmem, ⟨8, _⟩ => ⟨S544x2048, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S544x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S544x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S544x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S4x1x512x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S544x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference17Ideal.lean ====
abbrev S4352x1024 : Shape := ⟨2, ![4352, 1024]⟩
abbrev S4352x512 : Shape := ⟨2, ![4352, 512]⟩
abbrev S4x2x512x2048 : Shape := ⟨4, ![4, 2, 512, 2048]⟩
abbrev S4352x2048 : Shape := ⟨2, ![4352, 2048]⟩
abbrev S4x1x512x2048 : Shape := ⟨4, ![4, 1, 512, 2048]⟩
abbrev S4x512x2048 : Shape := ⟨3, ![4, 512, 2048]⟩
abbrev S2048x2048 : Shape := ⟨2, ![2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S4352x512, .bf16⟩
  | .hbm, ⟨2, _⟩ => ⟨S4352x512, .bf16⟩
  | .hbm, ⟨3, _⟩ => ⟨S4x2x512x2048, .bf16⟩
  | .hbm, ⟨4, _⟩ => ⟨S4352x2048, .bf16⟩
  | .hbm, ⟨5, _⟩ => ⟨S4352x2048, .f32⟩
  | .hbm, ⟨6, _⟩ => ⟨S4x1x512x2048, .bf16⟩
  | .hbm, ⟨7, _⟩ => ⟨S4x512x2048, .bf16⟩
  | .hbm, ⟨8, _⟩ => ⟨S4x512x2048, .f32⟩
  | .hbm, ⟨9, _⟩ => ⟨S2048x2048, .f32⟩
  | .hbm, ⟨10, _⟩ => ⟨S4352x2048, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel18.lean ====
abbrev S4352x512 : Shape := ⟨2, ![4352, 512]⟩
abbrev S4x2x128x512 : Shape := ⟨4, ![4, 2, 128, 512]⟩
abbrev S544x512 : Shape := ⟨2, ![544, 512]⟩
abbrev S4x1x128x512 : Shape := ⟨4, ![4, 1, 128, 512]⟩
abbrev S544x128 : Shape := ⟨2, ![544, 128]⟩
abbrev S1x1x128x512 : Shape := ⟨4, ![1, 1, 128, 512]⟩
abbrev S128x512 : Shape := ⟨2, ![128, 512]⟩

abbrev nBuf : Space → Nat
  | .hbm => 3
  | .vmem => 5
  | .smem => 0
  | _ => 0

abbrev bufTy : (tb : Table) → Fin (tcTables nBuf tb) → BufTy
  | .hbm, ⟨0, _⟩ => ⟨S4352x512, .bf16⟩
  | .hbm, ⟨1, _⟩ => ⟨S4x2x128x512, .bf16⟩
  | .hbm, ⟨2, _⟩ => ⟨S4352x512, .bf16⟩
  | .local _ .vmem, ⟨0, _⟩ => ⟨S544x512, .bf16⟩
  | .local _ .vmem, ⟨1, _⟩ => ⟨S544x512, .bf16⟩
  | .local _ .vmem, ⟨2, _⟩ => ⟨S4x1x128x512, .bf16⟩
  | .local _ .vmem, ⟨3, _⟩ => ⟨S544x512, .bf16⟩
  | .local _ .vmem, ⟨4, _⟩ => ⟨S544x512, .bf16⟩
  | _, _ => ⟨S4352x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S544x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S4x1x128x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S544x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference18Ideal.lean ====
abbrev S4352x512 : Shape := ⟨2, ![4352, 512]⟩
abbrev S4x2x128x512 : Shape := ⟨4, ![4, 2, 128, 512]⟩
abbrev S4x1x128x512 : Shape := ⟨4, ![4, 1, 128, 512]⟩
abbrev S4x128x512 : Shape := ⟨3, ![4, 128, 512]⟩
abbrev S512x512 : Shape := ⟨2, ![512, 512]⟩

abbrev nBuf : Space → Nat
  | .hbm => 9
  | .vmem => 0
  | .smem => 0
  | _ => 0

abbrev bufTy : (tb : Table) → Fin (tcTables nBuf tb) → BufTy
  | .hbm, ⟨0, _⟩ => ⟨S4352x512, .bf16⟩
  | .hbm, ⟨1, _⟩ => ⟨S4x2x128x512, .bf16⟩
  | .hbm, ⟨2, _⟩ => ⟨S4352x512, .f32⟩
  | .hbm, ⟨3, _⟩ => ⟨S4x1x128x512, .bf16⟩
  | .hbm, ⟨4, _⟩ => ⟨S4x128x512, .bf16⟩
  | .hbm, ⟨5, _⟩ => ⟨S4x128x512, .f32⟩
  | .hbm, ⟨6, _⟩ => ⟨S512x512, .f32⟩
  | .hbm, ⟨7, _⟩ => ⟨S4352x512, .f32⟩
  | .hbm, ⟨8, _⟩ => ⟨S4352x512, .bf16⟩
  | _, _ => ⟨S4352x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Kernel19.lean ====
abbrev S2x4352x5632 : Shape := ⟨3, ![2, 4352, 5632]⟩
abbrev S4x2x2048x2816 : Shape := ⟨4, ![4, 2, 2048, 2816]⟩
abbrev S4352x2048 : Shape := ⟨2, ![4352, 2048]⟩
abbrev S1x1088x1408 : Shape := ⟨3, ![1, 1088, 1408]⟩
abbrev S1x1x2048x1408 : Shape := ⟨4, ![1, 1, 2048, 1408]⟩
abbrev S1088x2048 : Shape := ⟨2, ![1088, 2048]⟩
abbrev S1088x1408 : Shape := ⟨2, ![1088, 1408]⟩
abbrev S2048x1408 : Shape := ⟨2, ![2048, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2x4352x5632, .bf16⟩
  | .hbm, ⟨1, _⟩ => ⟨S4x2x2048x2816, .bf16⟩
  | .hbm, ⟨2, _⟩ => ⟨S4352x2048, .f32⟩
  | .local _ .vmem, ⟨0, _⟩ => ⟨S1x1088x1408, .bf16⟩
  | .local _ .vmem, ⟨1, _⟩ => ⟨S1x1088x1408, .bf16⟩
  | .local _ .vmem, ⟨2, _⟩ => ⟨S1x1x2048x1408, .bf16⟩
  | .local _ .vmem, ⟨3, _⟩ => ⟨S1x1x2048x1408, .bf16⟩
  | .local _ .vmem, ⟨4, _⟩ => ⟨S1088x2048, .f32⟩
  | .local _ .vmem, ⟨5, _⟩ => ⟨S1088x2048, .f32⟩
  | _, _ => ⟨S2x4352x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_6 : BitVec 32 := 0#32
  let v7 : BitVec 1 := Scalar.cmpi .ne v6 c0_i32_6
  v7

def k0_cond2 (i : grid0.Coords) : BitVec 1 :=
  let arg1 : BitVec 32 := BitVec.ofNat 32 (i 1).val
  let c0_i32_7 : BitVec 32 := 0#32
  let v8 : BitVec 1 := Scalar.cmpi .sgt arg1 c0_i32_7
  let v9 : BitVec 32 := Scalar.extui v8
  let c0_i32_8 : BitVec 32 := 0#32
  let v10 : BitVec 1 := Scalar.cmpi .ne v9 c0_i32_8
  v10

def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let c0_i32_11 : BitVec 32 := 0#32
  let c0_i32_12 : BitVec 32 := 0#32
  ![v16.toNat, c1_i32_10.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x1088x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1088x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference19Ideal.lean ====
abbrev S2x4352x5632 : Shape := ⟨3, ![2, 4352, 5632]⟩
abbrev S4x2x2048x2816 : Shape := ⟨4, ![4, 2, 2048, 2816]⟩
abbrev S4x1x2048x2816 : Shape := ⟨4, ![4, 1, 2048, 2816]⟩
abbrev S4x2048x2816 : Shape := ⟨3, ![4, 2048, 2816]⟩
abbrev S2048x4x2816 : Shape := ⟨3, ![2048, 4, 2816]⟩
abbrev S2048x11264 : Shape := ⟨2, ![2048, 11264]⟩
abbrev S_ : Shape := ⟨0, ![]⟩
abbrev S4352x2048 : Shape := ⟨2, ![4352, 2048]⟩
abbrev S4352x11264 : Shape := ⟨2, ![4352, 11264]⟩
abbrev S4352x2x5632 : Shape := ⟨3, ![4352, 2, 5632]⟩

abbrev nBuf : Space → Nat
  | .hbm => 14
  | .vmem => 0
  | .smem => 0
  | _ => 0

abbrev bufTy : (tb : Table) → Fin (tcTables nBuf tb) → BufTy
  | .hbm, ⟨0, _⟩ => ⟨S2x4352x5632, .bf16⟩
  | .hbm, ⟨1, _⟩ => ⟨S4x2x2048x2816, .bf16⟩
  | .hbm, ⟨2, _⟩ => ⟨S4x1x2048x2816, .bf16⟩
  | .hbm, ⟨3, _⟩ => ⟨S4x2048x2816, .bf16⟩
  | .hbm, ⟨4, _⟩ => ⟨S4x2048x2816, .f32⟩
  | .hbm, ⟨5, _⟩ => ⟨S2048x4x2816, .f32⟩
  | .hbm, ⟨6, _⟩ => ⟨S2048x11264, .f32⟩
  | .hbm, ⟨7, _⟩ => ⟨S_, .f32⟩
  | .hbm, ⟨8, _⟩ => ⟨S4352x2048, .f32⟩
  | .hbm, ⟨9, _⟩ => ⟨S4352x11264, .f32⟩
  | .hbm, ⟨10, _⟩ => ⟨S2x4352x5632, .f32⟩
  | .hbm, ⟨11, _⟩ => ⟨S4352x2x5632, .f32⟩
  | .hbm, ⟨12, _⟩ => ⟨S4352x11264, .f32⟩
  | .hbm, ⟨13, _⟩ => ⟨S4352x2048, .f32⟩
  | _, _ => ⟨S2x4352x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel20.lean ====
abbrev S4352x2048 : Shape := ⟨2, ![4352, 2048]⟩
abbrev S2x4352x5632 : Shape := ⟨3, ![2, 4352, 5632]⟩
abbrev S2x4x2048x2816 : Shape := ⟨4, ![2, 4, 2048, 2816]⟩
abbrev S1024x2048 : Shape := ⟨2, ![1024, 2048]⟩
abbrev S256x2048 : Shape := ⟨2, ![256, 2048]⟩
abbrev S1x1024x1408 : Shape := ⟨3, ![1, 1024, 1408]⟩
abbrev S1x256x1408 : Shape := ⟨3, ![1, 256, 1408]⟩
abbrev S1x1x2048x1408 : Shape := ⟨4, ![1, 1, 2048, 1408]⟩
abbrev S2048x1408 : Shape := ⟨2, ![2048, 1408]⟩
abbrev S1024x1408 : Shape := ⟨2, ![1024, 1408]⟩
abbrev S256x1408 : Shape := ⟨2, ![256, 1408]⟩

abbrev nBuf : Space → Nat
  | .hbm => 4
  | .vmem => 10
  | .smem => 0
  | _ => 0

abbrev bufTy : (tb : Table) → Fin (tcTables nBuf tb) → BufTy
  | .hbm, ⟨0, _⟩ => ⟨S4352x2048, .bf16⟩
  | .hbm, ⟨1, _⟩ => ⟨S2x4352x5632, .bf16⟩
  | .hbm, ⟨2, _⟩ => ⟨S2x4x2048x2816, .bf16⟩
  | .hbm, ⟨3, _⟩ => ⟨S2x4x2048x2816, .bf16⟩
  | .local _ .vmem, ⟨0, _⟩ => ⟨S1024x2048, .bf16⟩
  | .local _ .vmem, ⟨1, _⟩ => ⟨S1024x2048, .bf16⟩
  | .local _ .vmem, ⟨2, _⟩ => ⟨S256x2048, .bf16⟩
  | .local _ .vmem, ⟨3, _⟩ => ⟨S1x1024x1408, .bf16⟩
  | .local _ .vmem, ⟨4, _⟩ => ⟨S1x1024x1408, .bf16⟩
  | .local _ .vmem, ⟨5, _⟩ => ⟨S1x256x1408, .bf16⟩
  | .local _ .vmem, ⟨6, _⟩ => ⟨S1x256x1408, .bf16⟩
  | .local _ .vmem, ⟨7, _⟩ => ⟨S1x1x2048x1408, .bf16⟩
  | .local _ .vmem, ⟨8, _⟩ => ⟨S1x1x2048x1408, .bf16⟩
  | .local _ .vmem, ⟨9, _⟩ => ⟨S2048x1408, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 5], ![false, false]⟩

def k0_cond3 (i : grid0.Coords) : BitVec 1 :=
  let arg1 : BitVec 32 := BitVec.ofNat 32 (i 1).val
  let c4_i32_3 : BitVec 32 := 4#32
  let v8 : BitVec 1 := Scalar.cmpi .eq arg1 c4_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let c0_i32 : BitVec 32 := 0#32
  let c0_i32_0 : BitVec 32 := 0#32
  ![c16_i32.toNat, c0_i32.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32 : BitVec 32 := 3#32
  let v17 : BitVec 32 := Scalar.minsi arg1 c3_i32
  let c4_i32_4 : BitVec 32 := 4#32
  let c0_i32_5 : BitVec 32 := 0#32
  let v18 : BitVec 1 := Scalar.cmpi .eq c4_i32_4 c0_i32_5
  let c1_i32_6 : BitVec 32 := 1#32
  let v19 : BitVec 32 := Scalar.select v18 c1_i32_6 c4_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  ![v16.toNat, v17.toNat, v27.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c16_i32 : BitVec 32 := 16#32
  let c0_i32_10 : BitVec 32 := 0#32
  ![v16.toNat, c16_i32.toNat, v26.toNat]

def cc0_transform_5 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let c0_i32_11 : BitVec 32 := 0#32
  let c0_i32_12 : BitVec 32 := 0#32
  ![c1_i32_10.toNat, v16.toNat, c0_i32_11.toNat, v26.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x2048x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference20Ideal.lean ====
abbrev S4352x2048 : Shape := ⟨2, ![4352, 2048]⟩
abbrev S2x4352x5632 : Shape := ⟨3, ![2, 4352, 5632]⟩
abbrev S2x4x2048x2816 : Shape := ⟨4, ![2, 4, 2048, 2816]⟩
abbrev S_ : Shape := ⟨0, ![]⟩
abbrev S2048x11264 : Shape := ⟨2, ![2048, 11264]⟩
abbrev S4352x11264 : Shape := ⟨2, ![4352, 11264]⟩
abbrev S4352x2x5632 : Shape := ⟨3, ![4352, 2, 5632]⟩
abbrev S11264x2048 : Shape := ⟨2, ![11264, 2048]⟩
abbrev S1x4x2048x2816 : Shape := ⟨4, ![1, 4, 2048, 2816]⟩
abbrev S4x2048x2816 : Shape := ⟨3, ![4, 2048, 2816]⟩
abbrev S2048x4x2816 : Shape := ⟨3, ![2048, 4, 2816]⟩

abbrev nBuf : Space → Nat
  | .hbm => 20
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S2x4352x5632, .bf16⟩
  | .hbm, ⟨2, _⟩ => ⟨S2x4x2048x2816, .bf16⟩
  | .hbm, ⟨3, _⟩ => ⟨S4352x2048, .f32⟩
  | .hbm, ⟨4, _⟩ => ⟨S_, .f32⟩
  | .hbm, ⟨5, _⟩ => ⟨S2048x11264, .f32⟩
  | .hbm, ⟨6, _⟩ => ⟨S4352x11264, .f32⟩
  | .hbm, ⟨7, _⟩ => ⟨S2x4352x5632, .f32⟩
  | .hbm, ⟨8, _⟩ => ⟨S4352x2x5632, .f32⟩
  | .hbm, ⟨9, _⟩ => ⟨S4352x11264, .f32⟩
  | .hbm, ⟨10, _⟩ => ⟨S11264x2048, .f32⟩
  | .hbm, ⟨11, _⟩ => ⟨S2048x11264, .f32⟩
  | .hbm, ⟨12, _⟩ => ⟨S1x4x2048x2816, .bf16⟩
  | .hbm, ⟨13, _⟩ => ⟨S4x2048x2816, .bf16⟩
  | .hbm, ⟨14, _⟩ => ⟨S2048x4x2816, .f32⟩
  | .hbm, ⟨15, _⟩ => ⟨S4x2048x2816, .f32⟩
  | .hbm, ⟨16, _⟩ => ⟨S4x2048x2816, .bf16⟩
  | .hbm, ⟨17, _⟩ => ⟨S1x4x2048x2816, .bf16⟩
  | .hbm, ⟨18, _⟩ => ⟨S1x4x2048x2816, .bf16⟩
  | .hbm, ⟨19, _⟩ => ⟨S2x4x2048x2816, .bf16⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩

abbrev nD : Nat := 1
abbrev τ : Topo := Topo.v7x

variable {F : FTy → Type} [FloatOps F]
-- ==== Kernel21.lean ====
abbrev S4352x2048 : Shape := ⟨2, ![4352, 2048]⟩
abbrev S4x2x1408x2048 : Shape := ⟨4, ![4, 2, 1408, 2048]⟩
abbrev S4352x5632 : Shape := ⟨2, ![4352, 5632]⟩
abbrev S1088x2048 : Shape := ⟨2, ![1088, 2048]⟩
abbrev S1x1x1408x2048 : Shape := ⟨4, ![1, 1, 1408, 2048]⟩
abbrev S1088x1408 : Shape := ⟨2, ![1088, 1408]⟩
abbrev S1408x2048 : Shape := ⟨2, ![1408, 2048]⟩

abbrev nBuf : Space → Nat
  | .hbm => 3
  | .vmem => 6
  | .smem => 0
  | _ => 0

abbrev bufTy : (tb : Table) → Fin (tcTables nBuf tb) → BufTy
  | .hbm, ⟨0, _⟩ => ⟨S4352x2048, .bf16⟩
  | .hbm, ⟨1, _⟩ => ⟨S4x2x1408x2048, .bf16⟩
  | .hbm, ⟨2, _⟩ => ⟨S4352x5632, .f32⟩
  | .local _ .vmem, ⟨0, _⟩ => ⟨S1088x2048, .bf16⟩
  | .local _ .vmem, ⟨1, _⟩ => ⟨S1088x2048, .bf16⟩
  | .local _ .vmem, ⟨2, _⟩ => ⟨S1x1x1408x2048, .bf16⟩
  | .local _ .vmem, ⟨3, _⟩ => ⟨S1x1x1408x2048, .bf16⟩
  | .local _ .vmem, ⟨4, _⟩ => ⟨S1088x1408, .f32⟩
  | .local _ .vmem, ⟨5, _⟩ => ⟨S1088x1408, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1088x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference21Ideal.lean ====
abbrev S4352x2048 : Shape := ⟨2, ![4352, 2048]⟩
abbrev S4x2x1408x2048 : Shape := ⟨4, ![4, 2, 1408, 2048]⟩
abbrev S4x1x1408x2048 : Shape := ⟨4, ![4, 1, 1408, 2048]⟩
abbrev S4x1408x2048 : Shape := ⟨3, ![4, 1408, 2048]⟩
abbrev S5632x2048 : Shape := ⟨2, ![5632, 2048]⟩
abbrev S_ : Shape := ⟨0, ![]⟩
abbrev S4352x5632 : Shape := ⟨2, ![4352, 5632]⟩

abbrev nBuf : Space → Nat
  | .hbm => 11
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S4x2x1408x2048, .bf16⟩
  | .hbm, ⟨2, _⟩ => ⟨S4x1x1408x2048, .bf16⟩
  | .hbm, ⟨3, _⟩ => ⟨S4x1408x2048, .bf16⟩
  | .hbm, ⟨4, _⟩ => ⟨S4x1408x2048, .f32⟩
  | .hbm, ⟨5, _⟩ => ⟨S5632x2048, .f32⟩
  | .hbm, ⟨6, _⟩ => ⟨S_, .f32⟩
  | .hbm, ⟨7, _⟩ => ⟨S4352x5632, .f32⟩
  | .hbm, ⟨8, _⟩ => ⟨S4352x2048, .f32⟩
  | .hbm, ⟨9, _⟩ => ⟨S4352x2048, .f32⟩
  | .hbm, ⟨10, _⟩ => ⟨S4352x5632, .f32⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel22.lean ====
abbrev S4352x5632 : Shape := ⟨2, ![4352, 5632]⟩
abbrev S4352x2048 : Shape := ⟨2, ![4352, 2048]⟩
abbrev S2x4x1408x2048 : Shape := ⟨4, ![2, 4, 1408, 2048]⟩
abbrev S1024x1408 : Shape := ⟨2, ![1024, 1408]⟩
abbrev S256x1408 : Shape := ⟨2, ![256, 1408]⟩
abbrev S1024x2048 : Shape := ⟨2, ![1024, 2048]⟩
abbrev S256x2048 : Shape := ⟨2, ![256, 2048]⟩
abbrev S1x1x1408x2048 : Shape := ⟨4, ![1, 1, 1408, 2048]⟩
abbrev S1408x2048 : Shape := ⟨2, ![1408, 2048]⟩

abbrev nBuf : Space → Nat
  | .hbm => 4
  | .vmem => 10
  | .smem => 0
  | _ => 0

abbrev bufTy : (tb : Table) → Fin (tcTables nBuf tb) → BufTy
  | .hbm, ⟨0, _⟩ => ⟨S4352x5632, .bf16⟩
  | .hbm, ⟨1, _⟩ => ⟨S4352x2048, .bf16⟩
  | .hbm, ⟨2, _⟩ => ⟨S2x4x1408x2048, .bf16⟩
  | .hbm, ⟨3, _⟩ => ⟨S2x4x1408x2048, .bf16⟩
  | .local _ .vmem, ⟨0, _⟩ => ⟨S1024x1408, .bf16⟩
  | .local _ .vmem, ⟨1, _⟩ => ⟨S1024x1408, .bf16⟩
  | .local _ .vmem, ⟨2, _⟩ => ⟨S256x1408, .bf16⟩
  | .local _ .vmem, ⟨3, _⟩ => ⟨S256x1408, .bf16⟩
  | .local _ .vmem, ⟨4, _⟩ => ⟨S1024x2048, .bf16⟩
  | .local _ .vmem, ⟨5, _⟩ => ⟨S1024x2048, .bf16⟩
  | .local _ .vmem, ⟨6, _⟩ => ⟨S256x2048, .bf16⟩
  | .local _ .vmem, ⟨7, _⟩ => ⟨S1x1x1408x2048, .bf16⟩
  | .local _ .vmem, ⟨8, _⟩ => ⟨S1x1x1408x2048, .bf16⟩
  | .local _ .vmem, ⟨9, _⟩ => ⟨S1408x2048, .f32⟩
  | _, _ => ⟨S4352x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 5], ![false, false]⟩

def k0_cond3 (i : grid0.Coords) : BitVec 1 :=
  let arg1 : BitVec 32 := BitVec.ofNat 32 (i 1).val
  let c4_i32_3 : BitVec 32 := 4#32
  let v8 : BitVec 1 := Scalar.cmpi .eq arg1 c4_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let c0_i32 : BitVec 32 := 0#32
  ![c16_i32.toNat, arg0.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let c0_i32 : BitVec 32 := 0#32
  let c0_i32_0 : BitVec 32 := 0#32
  ![c16_i32.toNat, c0_i32.toNat]

def cc0_transform_5 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x1408x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference22Ideal.lean ====
abbrev S4352x5632 : Shape := ⟨2, ![4352, 5632]⟩
abbrev S4352x2048 : Shape := ⟨2, ![4352, 2048]⟩
abbrev S2x4x1408x2048 : Shape := ⟨4, ![2, 4, 1408, 2048]⟩
abbrev S_ : Shape := ⟨0, ![]⟩
abbrev S5632x2048 : Shape := ⟨2, ![5632, 2048]⟩
abbrev S2048x5632 : Shape := ⟨2, ![2048, 5632]⟩
abbrev S1x4x1408x2048 : Shape := ⟨4, ![1, 4, 1408, 2048]⟩
abbrev S4x1408x2048 : Shape := ⟨3, ![4, 1408, 2048]⟩

abbrev nBuf : Space → Nat
  | .hbm => 17
  | .vmem => 0
  | .smem => 0
  | _ => 0

abbrev bufTy : (tb : Table) → Fin (tcTables nBuf tb) → BufTy
  | .hbm, ⟨0, _⟩ => ⟨S4352x5632, .bf16⟩
  | .hbm, ⟨1, _⟩ => ⟨S4352x2048, .bf16⟩
  | .hbm, ⟨2, _⟩ => ⟨S2x4x1408x2048, .bf16⟩
  | .hbm, ⟨3, _⟩ => ⟨S4352x5632, .f32⟩
  | .hbm, ⟨4, _⟩ => ⟨S_, .f32⟩
  | .hbm, ⟨5, _⟩ => ⟨S5632x2048, .f32⟩
  | .hbm, ⟨6, _⟩ => ⟨S4352x2048, .f32⟩
  | .hbm, ⟨7, _⟩ => ⟨S4352x2048, .f32⟩
  | .hbm, ⟨8, _⟩ => ⟨S2048x5632, .f32⟩
  | .hbm, ⟨9, _⟩ => ⟨S5632x2048, .f32⟩
  | .hbm, ⟨10, _⟩ => ⟨S1x4x1408x2048, .bf16⟩
  | .hbm, ⟨11, _⟩ => ⟨S4x1408x2048, .bf16⟩
  | .hbm, ⟨12, _⟩ => ⟨S4x1408x2048, .f32⟩
  | .hbm, ⟨13, _⟩ => ⟨S4x1408x2048, .bf16⟩
  | .hbm, ⟨14, _⟩ => ⟨S1x4x1408x2048, .bf16⟩
  | .hbm, ⟨15, _⟩ => ⟨S1x4x1408x2048, .bf16⟩
  | .hbm, ⟨16, _⟩ => ⟨S2x4x1408x2048, .bf16⟩
  | _, _ => ⟨S4352x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== Kernel23.lean ====
abbrev S4352x5632 : Shape := ⟨2, ![4352, 5632]⟩
abbrev S4x2x2048x1408 : Shape := ⟨4, ![4, 2, 2048, 1408]⟩
abbrev S4352x2048 : Shape := ⟨2, ![4352, 2048]⟩
abbrev S1088x1408 : Shape := ⟨2, ![1088, 1408]⟩
abbrev S1x1x2048x1408 : Shape := ⟨4, ![1, 1, 2048, 1408]⟩
abbrev S1088x2048 : Shape := ⟨2, ![1088, 2048]⟩
abbrev S2048x1408 : Shape := ⟨2, ![2048, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4352x5632, .bf16⟩
  | .hbm, ⟨1, _⟩ => ⟨S4x2x2048x1408, .bf16⟩
  | .hbm, ⟨2, _⟩ => ⟨S4352x2048, .f32⟩
  | .local _ .vmem, ⟨0, _⟩ => ⟨S1088x1408, .bf16⟩
  | .local _ .vmem, ⟨1, _⟩ => ⟨S1088x1408, .bf16⟩
  | .local _ .vmem, ⟨2, _⟩ => ⟨S1x1x2048x1408, .bf16⟩
  | .local _ .vmem, ⟨3, _⟩ => ⟨S1x1x2048x1408, .bf16⟩
  | .local _ .vmem, ⟨4, _⟩ => ⟨S1088x2048, .f32⟩
  | .local _ .vmem, ⟨5, _⟩ => ⟨S1088x2048, .f32⟩
  | _, _ => ⟨S4352x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_5 : BitVec 32 := 0#32
  let v6 : BitVec 1 := Scalar.cmpi .ne v5 c0_i32_5
  v6

def k0_cond2 (i : grid0.Coords) : BitVec 1 :=
  let arg1 : BitVec 32 := BitVec.ofNat 32 (i 1).val
  let c0_i32_6 : BitVec 32 := 0#32
  let v7 : BitVec 1 := Scalar.cmpi .sgt arg1 c0_i32_6
  let v8 : BitVec 32 := Scalar.extui v7
  let c0_i32_7 : BitVec 32 := 0#32
  let v9 : BitVec 1 := Scalar.cmpi .ne v8 c0_i32_7
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg1.toNat, c1_i32.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1088x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1088x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference23Ideal.lean ====
abbrev S4352x5632 : Shape := ⟨2, ![4352, 5632]⟩
abbrev S4x2x2048x1408 : Shape := ⟨4, ![4, 2, 2048, 1408]⟩
abbrev S4x1x2048x1408 : Shape := ⟨4, ![4, 1, 2048, 1408]⟩
abbrev S4x2048x1408 : Shape := ⟨3, ![4, 2048, 1408]⟩
abbrev S2048x4x1408 : Shape := ⟨3, ![2048, 4, 1408]⟩
abbrev S2048x5632 : Shape := ⟨2, ![2048, 5632]⟩
abbrev S_ : Shape := ⟨0, ![]⟩
abbrev S4352x2048 : Shape := ⟨2, ![4352, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4352x5632, .bf16⟩
  | .hbm, ⟨1, _⟩ => ⟨S4x2x2048x1408, .bf16⟩
  | .hbm, ⟨2, _⟩ => ⟨S4x1x2048x1408, .bf16⟩
  | .hbm, ⟨3, _⟩ => ⟨S4x2048x1408, .bf16⟩
  | .hbm, ⟨4, _⟩ => ⟨S4x2048x1408, .f32⟩
  | .hbm, ⟨5, _⟩ => ⟨S2048x4x1408, .f32⟩
  | .hbm, ⟨6, _⟩ => ⟨S2048x5632, .f32⟩
  | .hbm, ⟨7, _⟩ => ⟨S_, .f32⟩
  | .hbm, ⟨8, _⟩ => ⟨S4352x2048, .f32⟩
  | .hbm, ⟨9, _⟩ => ⟨S4352x5632, .f32⟩
  | .hbm, ⟨10, _⟩ => ⟨S4352x5632, .f32⟩
  | .hbm, ⟨11, _⟩ => ⟨S4352x2048, .f32⟩
  | _, _ => ⟨S4352x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel24.lean ====
abbrev S4352x2048 : Shape := ⟨2, ![4352, 2048]⟩
abbrev S4352x5632 : Shape := ⟨2, ![4352, 5632]⟩
abbrev S2x4x2048x1408 : Shape := ⟨4, ![2, 4, 2048, 1408]⟩
abbrev S1024x2048 : Shape := ⟨2, ![1024, 2048]⟩
abbrev S256x2048 : Shape := ⟨2, ![256, 2048]⟩
abbrev S1024x1408 : Shape := ⟨2, ![1024, 1408]⟩
abbrev S256x1408 : Shape := ⟨2, ![256, 1408]⟩
abbrev S1x1x2048x1408 : Shape := ⟨4, ![1, 1, 2048, 1408]⟩
abbrev S2048x1408 : Shape := ⟨2, ![2048, 1408]⟩

abbrev nBuf : Space → Nat
  | .hbm => 4
  | .vmem => 10
  | .smem => 0
  | _ => 0

abbrev bufTy : (tb : Table) → Fin (tcTables nBuf tb) → BufTy
  | .hbm, ⟨0, _⟩ => ⟨S4352x2048, .bf16⟩
  | .hbm, ⟨1, _⟩ => ⟨S4352x5632, .bf16⟩
  | .hbm, ⟨2, _⟩ => ⟨S2x4x2048x1408, .bf16⟩
  | .hbm, ⟨3, _⟩ => ⟨S2x4x2048x1408, .bf16⟩
  | .local _ .vmem, ⟨0, _⟩ => ⟨S1024x2048, .bf16⟩
  | .local _ .vmem, ⟨1, _⟩ => ⟨S1024x2048, .bf16⟩
  | .local _ .vmem, ⟨2, _⟩ => ⟨S256x2048, .bf16⟩
  | .local _ .vmem, ⟨3, _⟩ => ⟨S1024x1408, .bf16⟩
  | .local _ .vmem, ⟨4, _⟩ => ⟨S1024x1408, .bf16⟩
  | .local _ .vmem, ⟨5, _⟩ => ⟨S256x1408, .bf16⟩
  | .local _ .vmem, ⟨6, _⟩ => ⟨S256x1408, .bf16⟩
  | .local _ .vmem, ⟨7, _⟩ => ⟨S1x1x2048x1408, .bf16⟩
  | .local _ .vmem, ⟨8, _⟩ => ⟨S1x1x2048x1408, .bf16⟩
  | .local _ .vmem, ⟨9, _⟩ => ⟨S2048x1408, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 5], ![false, false]⟩

def k0_cond3 (i : grid0.Coords) : BitVec 1 :=
  let arg1 : BitVec 32 := BitVec.ofNat 32 (i 1).val
  let c4_i32_3 : BitVec 32 := 4#32
  let v8 : BitVec 1 := Scalar.cmpi .eq arg1 c4_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let c0_i32 : BitVec 32 := 0#32
  let c0_i32_0 : BitVec 32 := 0#32
  ![c16_i32.toNat, c0_i32.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  ![v0.toNat, arg0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let c0_i32 : BitVec 32 := 0#32
  ![c16_i32.toNat, arg0.toNat]

def cc0_transform_5 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x2048x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference24Ideal.lean ====
abbrev S4352x2048 : Shape := ⟨2, ![4352, 2048]⟩
abbrev S4352x5632 : Shape := ⟨2, ![4352, 5632]⟩
abbrev S2x4x2048x1408 : Shape := ⟨4, ![2, 4, 2048, 1408]⟩
abbrev S_ : Shape := ⟨0, ![]⟩
abbrev S2048x5632 : Shape := ⟨2, ![2048, 5632]⟩
abbrev S5632x2048 : Shape := ⟨2, ![5632, 2048]⟩
abbrev S1x4x2048x1408 : Shape := ⟨4, ![1, 4, 2048, 1408]⟩
abbrev S4x2048x1408 : Shape := ⟨3, ![4, 2048, 1408]⟩
abbrev S2048x4x1408 : Shape := ⟨3, ![2048, 4, 1408]⟩

abbrev nBuf : Space → Nat
  | .hbm => 18
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S4352x5632, .bf16⟩
  | .hbm, ⟨2, _⟩ => ⟨S2x4x2048x1408, .bf16⟩
  | .hbm, ⟨3, _⟩ => ⟨S4352x2048, .f32⟩
  | .hbm, ⟨4, _⟩ => ⟨S_, .f32⟩
  | .hbm, ⟨5, _⟩ => ⟨S2048x5632, .f32⟩
  | .hbm, ⟨6, _⟩ => ⟨S4352x5632, .f32⟩
  | .hbm, ⟨7, _⟩ => ⟨S4352x5632, .f32⟩
  | .hbm, ⟨8, _⟩ => ⟨S5632x2048, .f32⟩
  | .hbm, ⟨9, _⟩ => ⟨S2048x5632, .f32⟩
  | .hbm, ⟨10, _⟩ => ⟨S1x4x2048x1408, .bf16⟩
  | .hbm, ⟨11, _⟩ => ⟨S4x2048x1408, .bf16⟩
  | .hbm, ⟨12, _⟩ => ⟨S2048x4x1408, .f32⟩
  | .hbm, ⟨13, _⟩ => ⟨S4x2048x1408, .f32⟩
  | .hbm, ⟨14, _⟩ => ⟨S4x2048x1408, .bf16⟩
  | .hbm, ⟨15, _⟩ => ⟨S1x4x2048x1408, .bf16⟩
  | .hbm, ⟨16, _⟩ => ⟨S1x4x2048x1408, .bf16⟩
  | .hbm, ⟨17, _⟩ => ⟨S2x4x2048x1408, .bf16⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== Kernel25.lean ====
abbrev S4352x2048 : Shape := ⟨2, ![4352, 2048]⟩
abbrev S4x2x512x2048 : Shape := ⟨4, ![4, 2, 512, 2048]⟩
abbrev S1088x2048 : Shape := ⟨2, ![1088, 2048]⟩
abbrev S1x1x512x2048 : Shape := ⟨4, ![1, 1, 512, 2048]⟩
abbrev S1088x512 : Shape := ⟨2, ![1088, 512]⟩
abbrev S512x2048 : Shape := ⟨2, ![512, 2048]⟩

abbrev nBuf : Space → Nat
  | .hbm => 3
  | .vmem => 6
  | .smem => 0
  | _ => 0

abbrev bufTy : (tb : Table) → Fin (tcTables nBuf tb) → BufTy
  | .hbm, ⟨0, _⟩ => ⟨S4352x2048, .bf16⟩
  | .hbm, ⟨1, _⟩ => ⟨S4x2x512x2048, .bf16⟩
  | .hbm, ⟨2, _⟩ => ⟨S4352x2048, .f32⟩
  | .local _ .vmem, ⟨0, _⟩ => ⟨S1088x2048, .bf16⟩
  | .local _ .vmem, ⟨1, _⟩ => ⟨S1088x2048, .bf16⟩
  | .local _ .vmem, ⟨2, _⟩ => ⟨S1x1x512x2048, .bf16⟩
  | .local _ .vmem, ⟨3, _⟩ => ⟨S1x1x512x2048, .bf16⟩
  | .local _ .vmem, ⟨4, _⟩ => ⟨S1088x512, .f32⟩
  | .local _ .vmem, ⟨5, _⟩ => ⟨S1088x512, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference25Ideal.lean ====
abbrev S4352x2048 : Shape := ⟨2, ![4352, 2048]⟩
abbrev S4x2x512x2048 : Shape := ⟨4, ![4, 2, 512, 2048]⟩
abbrev S4x1x512x2048 : Shape := ⟨4, ![4, 1, 512, 2048]⟩
abbrev S4x512x2048 : Shape := ⟨3, ![4, 512, 2048]⟩
abbrev S2048x2048 : Shape := ⟨2, ![2048, 2048]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S4x2x512x2048, .bf16⟩
  | .hbm, ⟨2, _⟩ => ⟨S4x1x512x2048, .bf16⟩
  | .hbm, ⟨3, _⟩ => ⟨S4x512x2048, .bf16⟩
  | .hbm, ⟨4, _⟩ => ⟨S4x512x2048, .f32⟩
  | .hbm, ⟨5, _⟩ => ⟨S2048x2048, .f32⟩
  | .hbm, ⟨6, _⟩ => ⟨S_, .f32⟩
  | .hbm, ⟨7, _⟩ => ⟨S4352x2048, .f32⟩
  | .hbm, ⟨8, _⟩ => ⟨S4352x2048, .f32⟩
  | .hbm, ⟨9, _⟩ => ⟨S4352x2048, .f32⟩
  | .hbm, ⟨10, _⟩ => ⟨S4352x2048, .f32⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel26.lean ====
abbrev S4352x2048 : Shape := ⟨2, ![4352, 2048]⟩
abbrev S4x2x2048x2816 : Shape := ⟨4, ![4, 2, 2048, 2816]⟩
abbrev S2x4352x5632 : Shape := ⟨3, ![2, 4352, 5632]⟩
abbrev S1088x2048 : Shape := ⟨2, ![1088, 2048]⟩
abbrev S1x1x2048x1408 : Shape := ⟨4, ![1, 1, 2048, 1408]⟩
abbrev S1x1088x1408 : Shape := ⟨3, ![1, 1088, 1408]⟩
abbrev S2048x1408 : Shape := ⟨2, ![2048, 1408]⟩
abbrev S1088x1408 : Shape := ⟨2, ![1088, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4352x2048, .bf16⟩
  | .hbm, ⟨1, _⟩ => ⟨S4x2x2048x2816, .bf16⟩
  | .hbm, ⟨2, _⟩ => ⟨S2x4352x5632, .f32⟩
  | .local _ .vmem, ⟨0, _⟩ => ⟨S1088x2048, .bf16⟩
  | .local _ .vmem, ⟨1, _⟩ => ⟨S1088x2048, .bf16⟩
  | .local _ .vmem, ⟨2, _⟩ => ⟨S1x1x2048x1408, .bf16⟩
  | .local _ .vmem, ⟨3, _⟩ => ⟨S1x1x2048x1408, .bf16⟩
  | .local _ .vmem, ⟨4, _⟩ => ⟨S1x1088x1408, .f32⟩
  | .local _ .vmem, ⟨5, _⟩ => ⟨S1x1088x1408, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let c0_i32_11 : BitVec 32 := 0#32
  let c0_i32_12 : BitVec 32 := 0#32
  ![v16.toNat, c1_i32_10.toNat, c0_i32_11.toNat, v26.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1088x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference26Ideal.lean ====
abbrev S4352x2048 : Shape := ⟨2, ![4352, 2048]⟩
abbrev S4x2x2048x2816 : Shape := ⟨4, ![4, 2, 2048, 2816]⟩
abbrev S4x1x2048x2816 : Shape := ⟨4, ![4, 1, 2048, 2816]⟩
abbrev S4x2048x2816 : Shape := ⟨3, ![4, 2048, 2816]⟩
abbrev S2048x4x2816 : Shape := ⟨3, ![2048, 4, 2816]⟩
abbrev S2048x11264 : Shape := ⟨2, ![2048, 11264]⟩
abbrev S4352x11264 : Shape := ⟨2, ![4352, 11264]⟩
abbrev S4352x5632 : Shape := ⟨2, ![4352, 5632]⟩
abbrev S1x4352x5632 : Shape := ⟨3, ![1, 4352, 5632]⟩
abbrev S2x4352x5632 : Shape := ⟨3, ![2, 4352, 5632]⟩

abbrev nBuf : Space → Nat
  | .hbm => 14
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S4x2x2048x2816, .bf16⟩
  | .hbm, ⟨2, _⟩ => ⟨S4352x2048, .f32⟩
  | .hbm, ⟨3, _⟩ => ⟨S4x1x2048x2816, .bf16⟩
  | .hbm, ⟨4, _⟩ => ⟨S4x2048x2816, .bf16⟩
  | .hbm, ⟨5, _⟩ => ⟨S4x2048x2816, .f32⟩
  | .hbm, ⟨6, _⟩ => ⟨S2048x4x2816, .f32⟩
  | .hbm, ⟨7, _⟩ => ⟨S2048x11264, .f32⟩
  | .hbm, ⟨8, _⟩ => ⟨S4352x11264, .f32⟩
  | .hbm, ⟨9, _⟩ => ⟨S4352x5632, .f32⟩
  | .hbm, ⟨10, _⟩ => ⟨S4352x5632, .f32⟩
  | .hbm, ⟨11, _⟩ => ⟨S1x4352x5632, .f32⟩
  | .hbm, ⟨12, _⟩ => ⟨S1x4352x5632, .f32⟩
  | .hbm, ⟨13, _⟩ => ⟨S2x4352x5632, .f32⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩

abbrev nD : Nat := 1
abbrev τ : Topo := Topo.v7x

variable {F : FTy → Type} [FloatOps F]
-- ==== Kernel27.lean ====
abbrev S4352x2048 : Shape := ⟨2, ![4352, 2048]⟩
abbrev S4x2x2048x1408 : Shape := ⟨4, ![4, 2, 2048, 1408]⟩
abbrev S4352x5632 : Shape := ⟨2, ![4352, 5632]⟩
abbrev S1088x2048 : Shape := ⟨2, ![1088, 2048]⟩
abbrev S1x1x2048x1408 : Shape := ⟨4, ![1, 1, 2048, 1408]⟩
abbrev S1088x1408 : Shape := ⟨2, ![1088, 1408]⟩
abbrev S2048x1408 : Shape := ⟨2, ![2048, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4352x2048, .bf16⟩
  | .hbm, ⟨1, _⟩ => ⟨S4x2x2048x1408, .bf16⟩
  | .hbm, ⟨2, _⟩ => ⟨S4352x5632, .f32⟩
  | .local _ .vmem, ⟨0, _⟩ => ⟨S1088x2048, .bf16⟩
  | .local _ .vmem, ⟨1, _⟩ => ⟨S1088x2048, .bf16⟩
  | .local _ .vmem, ⟨2, _⟩ => ⟨S1x1x2048x1408, .bf16⟩
  | .local _ .vmem, ⟨3, _⟩ => ⟨S1x1x2048x1408, .bf16⟩
  | .local _ .vmem, ⟨4, _⟩ => ⟨S1088x1408, .f32⟩
  | .local _ .vmem, ⟨5, _⟩ => ⟨S1088x1408, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1088x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference27Ideal.lean ====
abbrev S4352x2048 : Shape := ⟨2, ![4352, 2048]⟩
abbrev S4x2x2048x1408 : Shape := ⟨4, ![4, 2, 2048, 1408]⟩
abbrev S4x1x2048x1408 : Shape := ⟨4, ![4, 1, 2048, 1408]⟩
abbrev S4x2048x1408 : Shape := ⟨3, ![4, 2048, 1408]⟩
abbrev S2048x4x1408 : Shape := ⟨3, ![2048, 4, 1408]⟩
abbrev S2048x5632 : Shape := ⟨2, ![2048, 5632]⟩
abbrev S4352x5632 : Shape := ⟨2, ![4352, 5632]⟩

abbrev nBuf : Space → Nat
  | .hbm => 9
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S4x2x2048x1408, .bf16⟩
  | .hbm, ⟨2, _⟩ => ⟨S4352x2048, .f32⟩
  | .hbm, ⟨3, _⟩ => ⟨S4x1x2048x1408, .bf16⟩
  | .hbm, ⟨4, _⟩ => ⟨S4x2048x1408, .bf16⟩
  | .hbm, ⟨5, _⟩ => ⟨S4x2048x1408, .f32⟩
  | .hbm, ⟨6, _⟩ => ⟨S2048x4x1408, .f32⟩
  | .hbm, ⟨7, _⟩ => ⟨S2048x5632, .f32⟩
  | .hbm, ⟨8, _⟩ => ⟨S4352x5632, .f32⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Kernel28.lean ====
abbrev S4352x5632 : Shape := ⟨2, ![4352, 5632]⟩
abbrev S4x2x1408x2048 : Shape := ⟨4, ![4, 2, 1408, 2048]⟩
abbrev S4352x2048 : Shape := ⟨2, ![4352, 2048]⟩
abbrev S544x5632 : Shape := ⟨2, ![544, 5632]⟩
abbrev S4x1x1408x1024 : Shape := ⟨4, ![4, 1, 1408, 1024]⟩
abbrev S544x1024 : Shape := ⟨2, ![544, 1024]⟩
abbrev S544x1408 : Shape := ⟨2, ![544, 1408]⟩
abbrev S1x1x1408x1024 : Shape := ⟨4, ![1, 1, 1408, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4352x5632, .bf16⟩
  | .hbm, ⟨1, _⟩ => ⟨S4x2x1408x2048, .bf16⟩
  | .hbm, ⟨2, _⟩ => ⟨S4352x2048, .f32⟩
  | .local _ .vmem, ⟨0, _⟩ => ⟨S544x5632, .bf16⟩
  | .local _ .vmem, ⟨1, _⟩ => ⟨S544x5632, .bf16⟩
  | .local _ .vmem, ⟨2, _⟩ => ⟨S4x1x1408x1024, .bf16⟩
  | .local _ .vmem, ⟨3, _⟩ => ⟨S4x1x1408x1024, .bf16⟩
  | .local _ .vmem, ⟨4, _⟩ => ⟨S544x1024, .f32⟩
  | .local _ .vmem, ⟨5, _⟩ => ⟨S544x1024, .f32⟩
  | _, _ => ⟨S4352x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S544x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4x1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S544x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference28Ideal.lean ====
abbrev S4352x5632 : Shape := ⟨2, ![4352, 5632]⟩
abbrev S4x2x1408x2048 : Shape := ⟨4, ![4, 2, 1408, 2048]⟩
abbrev S4x1x1408x2048 : Shape := ⟨4, ![4, 1, 1408, 2048]⟩
abbrev S4x1408x2048 : Shape := ⟨3, ![4, 1408, 2048]⟩
abbrev S5632x2048 : Shape := ⟨2, ![5632, 2048]⟩
abbrev S4352x2048 : Shape := ⟨2, ![4352, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4352x5632, .bf16⟩
  | .hbm, ⟨1, _⟩ => ⟨S4x2x1408x2048, .bf16⟩
  | .hbm, ⟨2, _⟩ => ⟨S4352x5632, .f32⟩
  | .hbm, ⟨3, _⟩ => ⟨S4x1x1408x2048, .bf16⟩
  | .hbm, ⟨4, _⟩ => ⟨S4x1408x2048, .bf16⟩
  | .hbm, ⟨5, _⟩ => ⟨S4x1408x2048, .f32⟩
  | .hbm, ⟨6, _⟩ => ⟨S5632x2048, .f32⟩
  | .hbm, ⟨7, _⟩ => ⟨S4352x2048, .f32⟩
  | _, _ => ⟨S4352x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel29.lean ====
abbrev S4352x1024 : Shape := ⟨2, ![4352, 1024]⟩
abbrev S4352x2048 : Shape := ⟨2, ![4352, 2048]⟩
abbrev S2x4x512x2048 : Shape := ⟨4, ![2, 4, 512, 2048]⟩
abbrev S1024x512 : Shape := ⟨2, ![1024, 512]⟩
abbrev S256x512 : Shape := ⟨2, ![256, 512]⟩
abbrev S1024x2048 : Shape := ⟨2, ![1024, 2048]⟩
abbrev S256x2048 : Shape := ⟨2, ![256, 2048]⟩
abbrev S1x1x512x2048 : Shape := ⟨4, ![1, 1, 512, 2048]⟩
abbrev S512x2048 : Shape := ⟨2, ![512, 2048]⟩

abbrev nBuf : Space → Nat
  | .hbm => 4
  | .vmem => 10
  | .smem => 0
  | _ => 0

abbrev bufTy : (tb : Table) → Fin (tcTables nBuf tb) → BufTy
  | .hbm, ⟨0, _⟩ => ⟨S4352x1024, .bf16⟩
  | .hbm, ⟨1, _⟩ => ⟨S4352x2048, .bf16⟩
  | .hbm, ⟨2, _⟩ => ⟨S2x4x512x2048, .bf16⟩
  | .hbm, ⟨3, _⟩ => ⟨S2x4x512x2048, .bf16⟩
  | .local _ .vmem, ⟨0, _⟩ => ⟨S1024x512, .bf16⟩
  | .local _ .vmem, ⟨1, _⟩ => ⟨S1024x512, .bf16⟩
  | .local _ .vmem, ⟨2, _⟩ => ⟨S256x512, .bf16⟩
  | .local _ .vmem, ⟨3, _⟩ => ⟨S256x512, .bf16⟩
  | .local _ .vmem, ⟨4, _⟩ => ⟨S1024x2048, .bf16⟩
  | .local _ .vmem, ⟨5, _⟩ => ⟨S1024x2048, .bf16⟩
  | .local _ .vmem, ⟨6, _⟩ => ⟨S256x2048, .bf16⟩
  | .local _ .vmem, ⟨7, _⟩ => ⟨S1x1x512x2048, .bf16⟩
  | .local _ .vmem, ⟨8, _⟩ => ⟨S1x1x512x2048, .bf16⟩
  | .local _ .vmem, ⟨9, _⟩ => ⟨S512x2048, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 5], ![false, false]⟩

def k0_cond3 (i : grid0.Coords) : BitVec 1 :=
  let arg1 : BitVec 32 := BitVec.ofNat 32 (i 1).val
  let c4_i32_3 : BitVec 32 := 4#32
  let v8 : BitVec 1 := Scalar.cmpi .eq arg1 c4_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let c0_i32 : BitVec 32 := 0#32
  ![c16_i32.toNat, arg0.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let c0_i32 : BitVec 32 := 0#32
  let c0_i32_0 : BitVec 32 := 0#32
  ![c16_i32.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c1_i32 : BitVec 32 := 1#32
  let c0_i32_0 : BitVec 32 := 0#32
  let c0_i32_1 : BitVec 32 := 0#32
  let c0_i32_2 : BitVec 32 := 0#32
  ![c1_i32.toNat, v0.toNat, c0_i32_0.toNat, c0_i32_1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference29Ideal.lean ====
abbrev S4352x1024 : Shape := ⟨2, ![4352, 1024]⟩
abbrev S4352x2048 : Shape := ⟨2, ![4352, 2048]⟩
abbrev S2x4x512x2048 : Shape := ⟨4, ![2, 4, 512, 2048]⟩
abbrev S1x4x512x2048 : Shape := ⟨4, ![1, 4, 512, 2048]⟩
abbrev S4x512x2048 : Shape := ⟨3, ![4, 512, 2048]⟩
abbrev S_ : Shape := ⟨0, ![]⟩
abbrev S1024x2048 : Shape := ⟨2, ![1024, 2048]⟩
abbrev S2048x1024 : Shape := ⟨2, ![2048, 1024]⟩
abbrev S2x512x2048 : Shape := ⟨3, ![2, 512, 2048]⟩
abbrev S1x2x512x2048 : Shape := ⟨4, ![1, 2, 512, 2048]⟩

abbrev nBuf : Space → Nat
  | .hbm => 20
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S4352x2048, .bf16⟩
  | .hbm, ⟨2, _⟩ => ⟨S2x4x512x2048, .bf16⟩
  | .hbm, ⟨3, _⟩ => ⟨S1x4x512x2048, .bf16⟩
  | .hbm, ⟨4, _⟩ => ⟨S4x512x2048, .bf16⟩
  | .hbm, ⟨5, _⟩ => ⟨S4352x1024, .f32⟩
  | .hbm, ⟨6, _⟩ => ⟨S_, .f32⟩
  | .hbm, ⟨7, _⟩ => ⟨S1024x2048, .f32⟩
  | .hbm, ⟨8, _⟩ => ⟨S4352x2048, .f32⟩
  | .hbm, ⟨9, _⟩ => ⟨S4352x2048, .f32⟩
  | .hbm, ⟨10, _⟩ => ⟨S2048x1024, .f32⟩
  | .hbm, ⟨11, _⟩ => ⟨S1024x2048, .f32⟩
  | .hbm, ⟨12, _⟩ => ⟨S2x512x2048, .f32⟩
  | .hbm, ⟨13, _⟩ => ⟨S2x512x2048, .bf16⟩
  | .hbm, ⟨14, _⟩ => ⟨S1x2x512x2048, .bf16⟩
  | .hbm, ⟨15, _⟩ => ⟨S2x512x2048, .bf16⟩
  | .hbm, ⟨16, _⟩ => ⟨S4x512x2048, .bf16⟩
  | .hbm, ⟨17, _⟩ => ⟨S1x4x512x2048, .bf16⟩
  | .hbm, ⟨18, _⟩ => ⟨S1x4x512x2048, .bf16⟩
  | .hbm, ⟨19, _⟩ => ⟨S2x4x512x2048, .bf16⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩

abbrev nD : Nat := 1
abbrev τ : Topo := Topo.v7x

variable {F : FTy → Type} [FloatOps F]
-- ==== Kernel30.lean ====
abbrev S4352x512 : Shape := ⟨2, ![4352, 512]⟩
abbrev S4352x2048 : Shape := ⟨2, ![4352, 2048]⟩
abbrev S2x4x512x2048 : Shape := ⟨4, ![2, 4, 512, 2048]⟩
abbrev S1024x512 : Shape := ⟨2, ![1024, 512]⟩
abbrev S256x512 : Shape := ⟨2, ![256, 512]⟩
abbrev S1024x2048 : Shape := ⟨2, ![1024, 2048]⟩
abbrev S256x2048 : Shape := ⟨2, ![256, 2048]⟩
abbrev S1x1x512x2048 : Shape := ⟨4, ![1, 1, 512, 2048]⟩
abbrev S512x2048 : Shape := ⟨2, ![512, 2048]⟩

abbrev nBuf : Space → Nat
  | .hbm => 4
  | .vmem => 8
  | .smem => 0
  | _ => 0

abbrev bufTy : (tb : Table) → Fin (tcTables nBuf tb) → BufTy
  | .hbm, ⟨0, _⟩ => ⟨S4352x512, .bf16⟩
  | .hbm, ⟨1, _⟩ => ⟨S4352x2048, .bf16⟩
  | .hbm, ⟨2, _⟩ => ⟨S2x4x512x2048, .bf16⟩
  | .hbm, ⟨3, _⟩ => ⟨S2x4x512x2048, .bf16⟩
  | .local _ .vmem, ⟨0, _⟩ => ⟨S1024x512, .bf16⟩
  | .local _ .vmem, ⟨1, _⟩ => ⟨S1024x512, .bf16⟩
  | .local _ .vmem, ⟨2, _⟩ => ⟨S256x512, .bf16⟩
  | .local _ .vmem, ⟨3, _⟩ => ⟨S1024x2048, .bf16⟩
  | .local _ .vmem, ⟨4, _⟩ => ⟨S1024x2048, .bf16⟩
  | .local _ .vmem, ⟨5, _⟩ => ⟨S256x2048, .bf16⟩
  | .local _ .vmem, ⟨6, _⟩ => ⟨S1x1x512x2048, .bf16⟩
  | .local _ .vmem, ⟨7, _⟩ => ⟨S512x2048, .f32⟩
  | _, _ => ⟨S4352x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨2, ![1, 5], ![false, false]⟩

def k0_cond3 (i : grid0.Coords) : BitVec 1 :=
  let arg1 : BitVec 32 := BitVec.ofNat 32 (i 1).val
  let c4_i32_3 : BitVec 32 := 4#32
  let v8 : BitVec 1 := Scalar.cmpi .eq arg1 c4_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let c0_i32 : BitVec 32 := 0#32
  ![c16_i32.toNat, arg0.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let c0_i32 : BitVec 32 := 0#32
  let c0_i32_0 : BitVec 32 := 0#32
  ![c16_i32.toNat, c0_i32.toNat]

def cc0_transform_5 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c1_i32 : BitVec 32 := 1#32
  let c0_i32 : BitVec 32 := 0#32
  let c0_i32_0 : BitVec 32 := 0#32
  let c0_i32_1 : BitVec 32 := 0#32
  ![c1_i32.toNat, v0.toNat, c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x512x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]
-- ==== Reference30Ideal.lean ====
abbrev S4352x512 : Shape := ⟨2, ![4352, 512]⟩
abbrev S4352x2048 : Shape := ⟨2, ![4352, 2048]⟩
abbrev S2x4x512x2048 : Shape := ⟨4, ![2, 4, 512, 2048]⟩
abbrev S1x4x512x2048 : Shape := ⟨4, ![1, 4, 512, 2048]⟩
abbrev S4x512x2048 : Shape := ⟨3, ![4, 512, 2048]⟩
abbrev S1x2x512x2048 : Shape := ⟨4, ![1, 2, 512, 2048]⟩
abbrev S2x512x2048 : Shape := ⟨3, ![2, 512, 2048]⟩
abbrev S_ : Shape := ⟨0, ![]⟩
abbrev S512x2048 : Shape := ⟨2, ![512, 2048]⟩
abbrev S2048x512 : Shape := ⟨2, ![2048, 512]⟩
abbrev S1x512x2048 : Shape := ⟨3, ![1, 512, 2048]⟩
abbrev S1x1x512x2048 : Shape := ⟨4, ![1, 1, 512, 2048]⟩

abbrev nBuf : Space → Nat
  | .hbm => 22
  | .vmem => 0
  | .smem => 0
  | _ => 0

abbrev bufTy : (tb : Table) → Fin (tcTables nBuf tb) → BufTy
  | .hbm, ⟨0, _⟩ => ⟨S4352x512, .bf16⟩
  | .hbm, ⟨1, _⟩ => ⟨S4352x2048, .bf16⟩
  | .hbm, ⟨2, _⟩ => ⟨S2x4x512x2048, .bf16⟩
  | .hbm, ⟨3, _⟩ => ⟨S1x4x512x2048, .bf16⟩
  | .hbm, ⟨4, _⟩ => ⟨S4x512x2048, .bf16⟩
  | .hbm, ⟨5, _⟩ => ⟨S1x2x512x2048, .bf16⟩
  | .hbm, ⟨6, _⟩ => ⟨S2x512x2048, .bf16⟩
  | .hbm, ⟨7, _⟩ => ⟨S4352x512, .f32⟩
  | .hbm, ⟨8, _⟩ => ⟨S_, .f32⟩
  | .hbm, ⟨9, _⟩ => ⟨S512x2048, .f32⟩
  | .hbm, ⟨10, _⟩ => ⟨S4352x2048, .f32⟩
  | .hbm, ⟨11, _⟩ => ⟨S4352x2048, .f32⟩
  | .hbm, ⟨12, _⟩ => ⟨S2048x512, .f32⟩
  | .hbm, ⟨13, _⟩ => ⟨S512x2048, .f32⟩
  | .hbm, ⟨14, _⟩ => ⟨S1x512x2048, .f32⟩
  | .hbm, ⟨15, _⟩ => ⟨S1x512x2048, .bf16⟩
  | .hbm, ⟨16, _⟩ => ⟨S1x1x512x2048, .bf16⟩
  | .hbm, ⟨17, _⟩ => ⟨S1x512x2048, .bf16⟩
  | .hbm, ⟨18, _⟩ => ⟨S4x512x2048, .bf16⟩
  | .hbm, ⟨19, _⟩ => ⟨S1x4x512x2048, .bf16⟩
  | .hbm, ⟨20, _⟩ => ⟨S1x4x512x2048, .bf16⟩
  | .hbm, ⟨21, _⟩ => ⟨S2x4x512x2048, .bf16⟩
  | _, _ => ⟨S4352x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩

abbrev nD : Nat := 1
abbrev τ : Topo := Topo.v7x

variable {F : FTy → Type} [FloatOps F]
-- ==== Kernel31.lean ====
abbrev S4352x512 : Shape := ⟨2, ![4352, 512]⟩
abbrev S4352x2048 : Shape := ⟨2, ![4352, 2048]⟩
abbrev S2x4x512x2048 : Shape := ⟨4, ![2, 4, 512, 2048]⟩
abbrev S1024x512 : Shape := ⟨2, ![1024, 512]⟩
abbrev S256x512 : Shape := ⟨2, ![256, 512]⟩
abbrev S1024x2048 : Shape := ⟨2, ![1024, 2048]⟩
abbrev S256x2048 : Shape := ⟨2, ![256, 2048]⟩
abbrev S1x1x512x2048 : Shape := ⟨4, ![1, 1, 512, 2048]⟩
abbrev S512x2048 : Shape := ⟨2, ![512, 2048]⟩

abbrev nBuf : Space → Nat
  | .hbm => 4
  | .vmem => 8
  | .smem => 0
  | _ => 0

abbrev bufTy : (tb : Table) → Fin (tcTables nBuf tb) → BufTy
  | .hbm, ⟨0, _⟩ => ⟨S4352x512, .bf16⟩
  | .hbm, ⟨1, _⟩ => ⟨S4352x2048, .bf16⟩
  | .hbm, ⟨2, _⟩ => ⟨S2x4x512x2048, .bf16⟩
  | .hbm, ⟨3, _⟩ => ⟨S2x4x512x2048, .bf16⟩
  | .local _ .vmem, ⟨0, _⟩ => ⟨S1024x512, .bf16⟩
  | .local _ .vmem, ⟨1, _⟩ => ⟨S1024x512, .bf16⟩
  | .local _ .vmem, ⟨2, _⟩ => ⟨S256x512, .bf16⟩
  | .local _ .vmem, ⟨3, _⟩ => ⟨S1024x2048, .bf16⟩
  | .local _ .vmem, ⟨4, _⟩ => ⟨S1024x2048, .bf16⟩
  | .local _ .vmem, ⟨5, _⟩ => ⟨S256x2048, .bf16⟩
  | .local _ .vmem, ⟨6, _⟩ => ⟨S1x1x512x2048, .bf16⟩
  | .local _ .vmem, ⟨7, _⟩ => ⟨S512x2048, .f32⟩
  | _, _ => ⟨S4352x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨2, ![1, 5], ![false, false]⟩

def k0_cond3 (i : grid0.Coords) : BitVec 1 :=
  let arg1 : BitVec 32 := BitVec.ofNat 32 (i 1).val
  let c4_i32_3 : BitVec 32 := 4#32
  let v8 : BitVec 1 := Scalar.cmpi .eq arg1 c4_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let c0_i32 : BitVec 32 := 0#32
  ![c16_i32.toNat, arg0.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let c0_i32 : BitVec 32 := 0#32
  let c0_i32_0 : BitVec 32 := 0#32
  ![c16_i32.toNat, c0_i32.toNat]

def cc0_transform_5 (i : grid0.Coords) : Fin 4 → Nat :=
  let arg0 : BitVec 32 := BitVec.ofNat 32 (i 0).val
  let arg1 : BitVec 32 := BitVec.ofNat 32 (i 1).val
  let c3_i32 : BitVec 32 := 3#32
  let v0 : BitVec 32 := Scalar.addi arg0 c3_i32
  let c1_i32 : BitVec 32 := 1#32
  let c0_i32 : BitVec 32 := 0#32
  let c0_i32_0 : BitVec 32 := 0#32
  let c0_i32_1 : BitVec 32 := 0#32
  ![c1_i32.toNat, v0.toNat, c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x512x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]
-- ==== Reference31Ideal.lean ====
abbrev S4352x512 : Shape := ⟨2, ![4352, 512]⟩
abbrev S4352x2048 : Shape := ⟨2, ![4352, 2048]⟩
abbrev S2x4x512x2048 : Shape := ⟨4, ![2, 4, 512, 2048]⟩
abbrev S1x4x512x2048 : Shape := ⟨4, ![1, 4, 512, 2048]⟩
abbrev S4x512x2048 : Shape := ⟨3, ![4, 512, 2048]⟩
abbrev S1x3x512x2048 : Shape := ⟨4, ![1, 3, 512, 2048]⟩
abbrev S3x512x2048 : Shape := ⟨3, ![3, 512, 2048]⟩
abbrev S_ : Shape := ⟨0, ![]⟩
abbrev S512x2048 : Shape := ⟨2, ![512, 2048]⟩
abbrev S2048x512 : Shape := ⟨2, ![2048, 512]⟩
abbrev S1x512x2048 : Shape := ⟨3, ![1, 512, 2048]⟩

abbrev nBuf : Space → Nat
  | .hbm => 20
  | .vmem => 0
  | .smem => 0
  | _ => 0

abbrev bufTy : (tb : Table) → Fin (tcTables nBuf tb) → BufTy
  | .hbm, ⟨0, _⟩ => ⟨S4352x512, .bf16⟩
  | .hbm, ⟨1, _⟩ => ⟨S4352x2048, .bf16⟩
  | .hbm, ⟨2, _⟩ => ⟨S2x4x512x2048, .bf16⟩
  | .hbm, ⟨3, _⟩ => ⟨S1x4x512x2048, .bf16⟩
  | .hbm, ⟨4, _⟩ => ⟨S4x512x2048, .bf16⟩
  | .hbm, ⟨5, _⟩ => ⟨S1x3x512x2048, .bf16⟩
  | .hbm, ⟨6, _⟩ => ⟨S3x512x2048, .bf16⟩
  | .hbm, ⟨7, _⟩ => ⟨S4352x512, .f32⟩
  | .hbm, ⟨8, _⟩ => ⟨S_, .f32⟩
  | .hbm, ⟨9, _⟩ => ⟨S512x2048, .f32⟩
  | .hbm, ⟨10, _⟩ => ⟨S4352x2048, .f32⟩
  | .hbm, ⟨11, _⟩ => ⟨S4352x2048, .f32⟩
  | .hbm, ⟨12, _⟩ => ⟨S2048x512, .f32⟩
  | .hbm, ⟨13, _⟩ => ⟨S512x2048, .f32⟩
  | .hbm, ⟨14, _⟩ => ⟨S1x512x2048, .f32⟩
  | .hbm, ⟨15, _⟩ => ⟨S1x512x2048, .bf16⟩
  | .hbm, ⟨16, _⟩ => ⟨S4x512x2048, .bf16⟩
  | .hbm, ⟨17, _⟩ => ⟨S1x4x512x2048, .bf16⟩
  | .hbm, ⟨18, _⟩ => ⟨S1x4x512x2048, .bf16⟩
  | .hbm, ⟨19, _⟩ => ⟨S2x4x512x2048, .bf16⟩
  | _, _ => ⟨S4352x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩

abbrev nD : Nat := 1
abbrev τ : Topo := Topo.v7x

variable {F : FTy → Type} [FloatOps F]
-- ==== Kernel32.lean ====
abbrev S4352x512 : Shape := ⟨2, ![4352, 512]⟩
abbrev S4x2x128x512 : Shape := ⟨4, ![4, 2, 128, 512]⟩
abbrev S1088x512 : Shape := ⟨2, ![1088, 512]⟩
abbrev S1x1x128x512 : Shape := ⟨4, ![1, 1, 128, 512]⟩
abbrev S1088x128 : Shape := ⟨2, ![1088, 128]⟩
abbrev S128x512 : Shape := ⟨2, ![128, 512]⟩

abbrev nBuf : Space → Nat
  | .hbm => 3
  | .vmem => 6
  | .smem => 0
  | _ => 0

abbrev bufTy : (tb : Table) → Fin (tcTables nBuf tb) → BufTy
  | .hbm, ⟨0, _⟩ => ⟨S4352x512, .bf16⟩
  | .hbm, ⟨1, _⟩ => ⟨S4x2x128x512, .bf16⟩
  | .hbm, ⟨2, _⟩ => ⟨S4352x512, .f32⟩
  | .local _ .vmem, ⟨0, _⟩ => ⟨S1088x512, .bf16⟩
  | .local _ .vmem, ⟨1, _⟩ => ⟨S1088x512, .bf16⟩
  | .local _ .vmem, ⟨2, _⟩ => ⟨S1x1x128x512, .bf16⟩
  | .local _ .vmem, ⟨3, _⟩ => ⟨S1x1x128x512, .bf16⟩
  | .local _ .vmem, ⟨4, _⟩ => ⟨S1088x128, .f32⟩
  | .local _ .vmem, ⟨5, _⟩ => ⟨S1088x128, .f32⟩
  | _, _ => ⟨S4352x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1088x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1088x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference32Ideal.lean ====
abbrev S4352x512 : Shape := ⟨2, ![4352, 512]⟩
abbrev S4x2x128x512 : Shape := ⟨4, ![4, 2, 128, 512]⟩
abbrev S4x1x128x512 : Shape := ⟨4, ![4, 1, 128, 512]⟩
abbrev S4x128x512 : Shape := ⟨3, ![4, 128, 512]⟩
abbrev S512x512 : Shape := ⟨2, ![512, 512]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4352x512, .bf16⟩
  | .hbm, ⟨1, _⟩ => ⟨S4x2x128x512, .bf16⟩
  | .hbm, ⟨2, _⟩ => ⟨S4x1x128x512, .bf16⟩
  | .hbm, ⟨3, _⟩ => ⟨S4x128x512, .bf16⟩
  | .hbm, ⟨4, _⟩ => ⟨S4x128x512, .f32⟩
  | .hbm, ⟨5, _⟩ => ⟨S512x512, .f32⟩
  | .hbm, ⟨6, _⟩ => ⟨S_, .f32⟩
  | .hbm, ⟨7, _⟩ => ⟨S4352x512, .f32⟩
  | .hbm, ⟨8, _⟩ => ⟨S4352x512, .f32⟩
  | .hbm, ⟨9, _⟩ => ⟨S4352x512, .f32⟩
  | .hbm, ⟨10, _⟩ => ⟨S4352x512, .f32⟩
  | _, _ => ⟨S4352x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel33.lean ====
abbrev S4352x512 : Shape := ⟨2, ![4352, 512]⟩
abbrev S2x4x128x512 : Shape := ⟨4, ![2, 4, 128, 512]⟩
abbrev S1024x128 : Shape := ⟨2, ![1024, 128]⟩
abbrev S256x128 : Shape := ⟨2, ![256, 128]⟩
abbrev S1024x512 : Shape := ⟨2, ![1024, 512]⟩
abbrev S256x512 : Shape := ⟨2, ![256, 512]⟩
abbrev S1x1x128x512 : Shape := ⟨4, ![1, 1, 128, 512]⟩
abbrev S128x512 : Shape := ⟨2, ![128, 512]⟩

abbrev nBuf : Space → Nat
  | .hbm => 4
  | .vmem => 10
  | .smem => 0
  | _ => 0

abbrev bufTy : (tb : Table) → Fin (tcTables nBuf tb) → BufTy
  | .hbm, ⟨0, _⟩ => ⟨S4352x512, .bf16⟩
  | .hbm, ⟨1, _⟩ => ⟨S4352x512, .bf16⟩
  | .hbm, ⟨2, _⟩ => ⟨S2x4x128x512, .bf16⟩
  | .hbm, ⟨3, _⟩ => ⟨S2x4x128x512, .bf16⟩
  | .local _ .vmem, ⟨0, _⟩ => ⟨S1024x128, .bf16⟩
  | .local _ .vmem, ⟨1, _⟩ => ⟨S1024x128, .bf16⟩
  | .local _ .vmem, ⟨2, _⟩ => ⟨S256x128, .bf16⟩
  | .local _ .vmem, ⟨3, _⟩ => ⟨S256x128, .bf16⟩
  | .local _ .vmem, ⟨4, _⟩ => ⟨S1024x512, .bf16⟩
  | .local _ .vmem, ⟨5, _⟩ => ⟨S1024x512, .bf16⟩
  | .local _ .vmem, ⟨6, _⟩ => ⟨S256x512, .bf16⟩
  | .local _ .vmem, ⟨7, _⟩ => ⟨S1x1x128x512, .bf16⟩
  | .local _ .vmem, ⟨8, _⟩ => ⟨S1x1x128x512, .bf16⟩
  | .local _ .vmem, ⟨9, _⟩ => ⟨S128x512, .f32⟩
  | _, _ => ⟨S4352x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 5], ![false, false]⟩

def k0_cond3 (i : grid0.Coords) : BitVec 1 :=
  let arg1 : BitVec 32 := BitVec.ofNat 32 (i 1).val
  let c4_i32_3 : BitVec 32 := 4#32
  let v8 : BitVec 1 := Scalar.cmpi .eq arg1 c4_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let c0_i32 : BitVec 32 := 0#32
  ![c16_i32.toNat, arg0.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let c0_i32 : BitVec 32 := 0#32
  let c0_i32_0 : BitVec 32 := 0#32
  ![c16_i32.toNat, c0_i32.toNat]

def cc0_transform_5 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference33Ideal.lean ====
abbrev S4352x512 : Shape := ⟨2, ![4352, 512]⟩
abbrev S2x4x128x512 : Shape := ⟨4, ![2, 4, 128, 512]⟩
abbrev S1x4x128x512 : Shape := ⟨4, ![1, 4, 128, 512]⟩
abbrev S4x128x512 : Shape := ⟨3, ![4, 128, 512]⟩
abbrev S_ : Shape := ⟨0, ![]⟩
abbrev S512x512 : Shape := ⟨2, ![512, 512]⟩

abbrev nBuf : Space → Nat
  | .hbm => 17
  | .vmem => 0
  | .smem => 0
  | _ => 0

abbrev bufTy : (tb : Table) → Fin (tcTables nBuf tb) → BufTy
  | .hbm, ⟨0, _⟩ => ⟨S4352x512, .bf16⟩
  | .hbm, ⟨1, _⟩ => ⟨S4352x512, .bf16⟩
  | .hbm, ⟨2, _⟩ => ⟨S2x4x128x512, .bf16⟩
  | .hbm, ⟨3, _⟩ => ⟨S1x4x128x512, .bf16⟩
  | .hbm, ⟨4, _⟩ => ⟨S4x128x512, .bf16⟩
  | .hbm, ⟨5, _⟩ => ⟨S4352x512, .f32⟩
  | .hbm, ⟨6, _⟩ => ⟨S_, .f32⟩
  | .hbm, ⟨7, _⟩ => ⟨S512x512, .f32⟩
  | .hbm, ⟨8, _⟩ => ⟨S4352x512, .f32⟩
  | .hbm, ⟨9, _⟩ => ⟨S4352x512, .f32⟩
  | .hbm, ⟨10, _⟩ => ⟨S512x512, .f32⟩
  | .hbm, ⟨11, _⟩ => ⟨S512x512, .f32⟩
  | .hbm, ⟨12, _⟩ => ⟨S4x128x512, .f32⟩
  | .hbm, ⟨13, _⟩ => ⟨S4x128x512, .bf16⟩
  | .hbm, ⟨14, _⟩ => ⟨S1x4x128x512, .bf16⟩
  | .hbm, ⟨15, _⟩ => ⟨S1x4x128x512, .bf16⟩
  | .hbm, ⟨16, _⟩ => ⟨S2x4x128x512, .bf16⟩
  | _, _ => ⟨S4352x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== Kernel34.lean ====
abbrev S4352x1024 : Shape := ⟨2, ![4352, 1024]⟩
abbrev S4352x512 : Shape := ⟨2, ![4352, 512]⟩
abbrev S4x2x512x2048 : Shape := ⟨4, ![4, 2, 512, 2048]⟩
abbrev S4352x2048 : Shape := ⟨2, ![4352, 2048]⟩
abbrev S544x1024 : Shape := ⟨2, ![544, 1024]⟩
abbrev S544x512 : Shape := ⟨2, ![544, 512]⟩
abbrev S4x1x512x2048 : Shape := ⟨4, ![4, 1, 512, 2048]⟩
abbrev S544x2048 : Shape := ⟨2, ![544, 2048]⟩
abbrev S1x1x512x2048 : Shape := ⟨4, ![1, 1, 512, 2048]⟩
abbrev S512x2048 : Shape := ⟨2, ![512, 2048]⟩

abbrev nBuf : Space → Nat
  | .hbm => 5
  | .vmem => 9
  | .smem => 0
  | _ => 0

abbrev bufTy : (tb : Table) → Fin (tcTables nBuf tb) → BufTy
  | .hbm, ⟨0, _⟩ => ⟨S4352x1024, .bf16⟩
  | .hbm, ⟨1, _⟩ => ⟨S4352x512, .bf16⟩
  | .hbm, ⟨2, _⟩ => ⟨S4352x512, .bf16⟩
  | .hbm, ⟨3, _⟩ => ⟨S4x2x512x2048, .bf16⟩
  | .hbm, ⟨4, _⟩ => ⟨S4352x2048, .f32⟩
  | .local _ .vmem, ⟨0, _⟩ => ⟨S544x1024, .bf16⟩
  | .local _ .vmem, ⟨1, _⟩ => ⟨S544x1024, .bf16⟩
  | .local _ .vmem, ⟨2, _⟩ => ⟨S544x512, .bf16⟩
  | .local _ .vmem, ⟨3, _⟩ => ⟨S544x512, .bf16⟩
  | .local _ .vmem, ⟨4, _⟩ => ⟨S544x512, .bf16⟩
  | .local _ .vmem, ⟨5, _⟩ => ⟨S544x512, .bf16⟩
  | .local _ .vmem, ⟨6, _⟩ => ⟨S4x1x512x2048, .bf16⟩
  | .local _ .vmem, ⟨7, _⟩ => ⟨S544x2048, .f32⟩
  | .local _ .vmem, ⟨8, _⟩ => ⟨S544x2048, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S544x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S544x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S544x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S4x1x512x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S544x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference34Ideal.lean ====
abbrev S4352x1024 : Shape := ⟨2, ![4352, 1024]⟩
abbrev S4352x512 : Shape := ⟨2, ![4352, 512]⟩
abbrev S4x2x512x2048 : Shape := ⟨4, ![4, 2, 512, 2048]⟩
abbrev S4352x2048 : Shape := ⟨2, ![4352, 2048]⟩
abbrev S4x1x512x2048 : Shape := ⟨4, ![4, 1, 512, 2048]⟩
abbrev S4x512x2048 : Shape := ⟨3, ![4, 512, 2048]⟩
abbrev S2048x2048 : Shape := ⟨2, ![2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S4352x512, .bf16⟩
  | .hbm, ⟨2, _⟩ => ⟨S4352x512, .bf16⟩
  | .hbm, ⟨3, _⟩ => ⟨S4x2x512x2048, .bf16⟩
  | .hbm, ⟨4, _⟩ => ⟨S4352x2048, .bf16⟩
  | .hbm, ⟨5, _⟩ => ⟨S4352x2048, .f32⟩
  | .hbm, ⟨6, _⟩ => ⟨S4x1x512x2048, .bf16⟩
  | .hbm, ⟨7, _⟩ => ⟨S4x512x2048, .bf16⟩
  | .hbm, ⟨8, _⟩ => ⟨S4x512x2048, .f32⟩
  | .hbm, ⟨9, _⟩ => ⟨S2048x2048, .f32⟩
  | .hbm, ⟨10, _⟩ => ⟨S4352x2048, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel35.lean ====
abbrev S4352x512 : Shape := ⟨2, ![4352, 512]⟩
abbrev S4x2x128x512 : Shape := ⟨4, ![4, 2, 128, 512]⟩
abbrev S544x512 : Shape := ⟨2, ![544, 512]⟩
abbrev S4x1x128x512 : Shape := ⟨4, ![4, 1, 128, 512]⟩
abbrev S544x128 : Shape := ⟨2, ![544, 128]⟩
abbrev S1x1x128x512 : Shape := ⟨4, ![1, 1, 128, 512]⟩
abbrev S128x512 : Shape := ⟨2, ![128, 512]⟩

abbrev nBuf : Space → Nat
  | .hbm => 3
  | .vmem => 5
  | .smem => 0
  | _ => 0

abbrev bufTy : (tb : Table) → Fin (tcTables nBuf tb) → BufTy
  | .hbm, ⟨0, _⟩ => ⟨S4352x512, .bf16⟩
  | .hbm, ⟨1, _⟩ => ⟨S4x2x128x512, .bf16⟩
  | .hbm, ⟨2, _⟩ => ⟨S4352x512, .bf16⟩
  | .local _ .vmem, ⟨0, _⟩ => ⟨S544x512, .bf16⟩
  | .local _ .vmem, ⟨1, _⟩ => ⟨S544x512, .bf16⟩
  | .local _ .vmem, ⟨2, _⟩ => ⟨S4x1x128x512, .bf16⟩
  | .local _ .vmem, ⟨3, _⟩ => ⟨S544x512, .bf16⟩
  | .local _ .vmem, ⟨4, _⟩ => ⟨S544x512, .bf16⟩
  | _, _ => ⟨S4352x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S544x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S4x1x128x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S544x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference35Ideal.lean ====
abbrev S4352x512 : Shape := ⟨2, ![4352, 512]⟩
abbrev S4x2x128x512 : Shape := ⟨4, ![4, 2, 128, 512]⟩
abbrev S4x1x128x512 : Shape := ⟨4, ![4, 1, 128, 512]⟩
abbrev S4x128x512 : Shape := ⟨3, ![4, 128, 512]⟩
abbrev S512x512 : Shape := ⟨2, ![512, 512]⟩

abbrev nBuf : Space → Nat
  | .hbm => 9
  | .vmem => 0
  | .smem => 0
  | _ => 0

abbrev bufTy : (tb : Table) → Fin (tcTables nBuf tb) → BufTy
  | .hbm, ⟨0, _⟩ => ⟨S4352x512, .bf16⟩
  | .hbm, ⟨1, _⟩ => ⟨S4x2x128x512, .bf16⟩
  | .hbm, ⟨2, _⟩ => ⟨S4352x512, .f32⟩
  | .hbm, ⟨3, _⟩ => ⟨S4x1x128x512, .bf16⟩
  | .hbm, ⟨4, _⟩ => ⟨S4x128x512, .bf16⟩
  | .hbm, ⟨5, _⟩ => ⟨S4x128x512, .f32⟩
  | .hbm, ⟨6, _⟩ => ⟨S512x512, .f32⟩
  | .hbm, ⟨7, _⟩ => ⟨S4352x512, .f32⟩
  | .hbm, ⟨8, _⟩ => ⟨S4352x512, .bf16⟩
  | _, _ => ⟨S4352x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Kernel36.lean ====
abbrev S4096x3072 : Shape := ⟨2, ![4096, 3072]⟩
abbrev S64x3072 : Shape := ⟨2, ![64, 3072]⟩

abbrev nBuf : Space → Nat
  | .hbm => 7
  | .vmem => 14
  | .smem => 0
  | _ => 0

abbrev bufTy : (tb : Table) → Fin (tcTables nBuf tb) → BufTy
  | .hbm, ⟨0, _⟩ => ⟨S4096x3072, .f32⟩
  | .hbm, ⟨1, _⟩ => ⟨S4096x3072, .f32⟩
  | .hbm, ⟨2, _⟩ => ⟨S4096x3072, .f32⟩
  | .hbm, ⟨3, _⟩ => ⟨S4096x3072, .f32⟩
  | .hbm, ⟨4, _⟩ => ⟨S4096x3072, .f32⟩
  | .hbm, ⟨5, _⟩ => ⟨S4096x3072, .f32⟩
  | .hbm, ⟨6, _⟩ => ⟨S4096x3072, .f32⟩
  | .local _ .vmem, ⟨0, _⟩ => ⟨S64x3072, .f32⟩
  | .local _ .vmem, ⟨1, _⟩ => ⟨S64x3072, .f32⟩
  | .local _ .vmem, ⟨2, _⟩ => ⟨S64x3072, .f32⟩
  | .local _ .vmem, ⟨3, _⟩ => ⟨S64x3072, .f32⟩
  | .local _ .vmem, ⟨4, _⟩ => ⟨S64x3072, .f32⟩
  | .local _ .vmem, ⟨5, _⟩ => ⟨S64x3072, .f32⟩
  | .local _ .vmem, ⟨6, _⟩ => ⟨S64x3072, .f32⟩
  | .local _ .vmem, ⟨7, _⟩ => ⟨S64x3072, .f32⟩
  | .local _ .vmem, ⟨8, _⟩ => ⟨S64x3072, .f32⟩
  | .local _ .vmem, ⟨9, _⟩ => ⟨S64x3072, .f32⟩
  | .local _ .vmem, ⟨10, _⟩ => ⟨S64x3072, .f32⟩
  | .local _ .vmem, ⟨11, _⟩ => ⟨S64x3072, .f32⟩
  | .local _ .vmem, ⟨12, _⟩ => ⟨S64x3072, .f32⟩
  | .local _ .vmem, ⟨13, _⟩ => ⟨S64x3072, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference36Ideal.lean ====
abbrev S4096x3072 : Shape := ⟨2, ![4096, 3072]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S4096x3072, .f32⟩
  | .hbm, ⟨2, _⟩ => ⟨S4096x3072, .f32⟩
  | .hbm, ⟨3, _⟩ => ⟨S4096x3072, .f32⟩
  | .hbm, ⟨4, _⟩ => ⟨S_, .f32⟩
  | .hbm, ⟨5, _⟩ => ⟨S4096x3072, .f32⟩
  | .hbm, ⟨6, _⟩ => ⟨S4096x3072, .f32⟩
  | .hbm, ⟨7, _⟩ => ⟨S_, .f32⟩
  | .hbm, ⟨8, _⟩ => ⟨S4096x3072, .f32⟩
  | .hbm, ⟨9, _⟩ => ⟨S4096x3072, .f32⟩
  | .hbm, ⟨10, _⟩ => ⟨S4096x3072, .f32⟩
  | .hbm, ⟨11, _⟩ => ⟨S_, .f32⟩
  | .hbm, ⟨12, _⟩ => ⟨S4096x3072, .f32⟩
  | .hbm, ⟨13, _⟩ => ⟨S4096x3072, .f32⟩
  | .hbm, ⟨14, _⟩ => ⟨S4096x3072, .f32⟩
  | .hbm, ⟨15, _⟩ => ⟨S_, .f32⟩
  | .hbm, ⟨16, _⟩ => ⟨S4096x3072, .f32⟩
  | .hbm, ⟨17, _⟩ => ⟨S4096x3072, .f32⟩
  | .hbm, ⟨18, _⟩ => ⟨S4096x3072, .f32⟩
  | .hbm, ⟨19, _⟩ => ⟨S_, .f32⟩
  | .hbm, ⟨20, _⟩ => ⟨S4096x3072, .f32⟩
  | .hbm, ⟨21, _⟩ => ⟨S4096x3072, .f32⟩
  | .hbm, ⟨22, _⟩ => ⟨S_, .f32⟩
  | .hbm, ⟨23, _⟩ => ⟨S4096x3072, .f32⟩
  | .hbm, ⟨24, _⟩ => ⟨S4096x3072, .f32⟩
  | .hbm, ⟨25, _⟩ => ⟨S4096x3072, .f32⟩
  | .hbm, ⟨26, _⟩ => ⟨S_, .f32⟩
  | .hbm, ⟨27, _⟩ => ⟨S4096x3072, .f32⟩
  | .hbm, ⟨28, _⟩ => ⟨S4096x3072, .f32⟩
  | .hbm, ⟨29, _⟩ => ⟨S4096x3072, .f32⟩
  | .hbm, ⟨30, _⟩ => ⟨S_, .f32⟩
  | .hbm, ⟨31, _⟩ => ⟨S4096x3072, .f32⟩
  | .hbm, ⟨32, _⟩ => ⟨S4096x3072, .f32⟩
  | .hbm, ⟨33, _⟩ => ⟨S4096x3072, .f32⟩
  | .hbm, ⟨34, _⟩ => ⟨S_, .f32⟩
  | .hbm, ⟨35, _⟩ => ⟨S4096x3072, .f32⟩
  | .hbm, ⟨36, _⟩ => ⟨S4096x3072, .f32⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel37.lean ====
abbrev S4096x1408 : Shape := ⟨2, ![4096, 1408]⟩
abbrev S128x1408 : Shape := ⟨2, ![128, 1408]⟩

abbrev nBuf : Space → Nat
  | .hbm => 8
  | .vmem => 16
  | .smem => 0
  | _ => 0

abbrev bufTy : (tb : Table) → Fin (tcTables nBuf tb) → BufTy
  | .hbm, ⟨0, _⟩ => ⟨S4096x1408, .f32⟩
  | .hbm, ⟨1, _⟩ => ⟨S4096x1408, .f32⟩
  | .hbm, ⟨2, _⟩ => ⟨S4096x1408, .f32⟩
  | .hbm, ⟨3, _⟩ => ⟨S4096x1408, .f32⟩
  | .hbm, ⟨4, _⟩ => ⟨S4096x1408, .f32⟩
  | .hbm, ⟨5, _⟩ => ⟨S4096x1408, .f32⟩
  | .hbm, ⟨6, _⟩ => ⟨S4096x1408, .f32⟩
  | .hbm, ⟨7, _⟩ => ⟨S4096x1408, .f32⟩
  | .local _ .vmem, ⟨0, _⟩ => ⟨S128x1408, .f32⟩
  | .local _ .vmem, ⟨1, _⟩ => ⟨S128x1408, .f32⟩
  | .local _ .vmem, ⟨2, _⟩ => ⟨S128x1408, .f32⟩
  | .local _ .vmem, ⟨3, _⟩ => ⟨S128x1408, .f32⟩
  | .local _ .vmem, ⟨4, _⟩ => ⟨S128x1408, .f32⟩
  | .local _ .vmem, ⟨5, _⟩ => ⟨S128x1408, .f32⟩
  | .local _ .vmem, ⟨6, _⟩ => ⟨S128x1408, .f32⟩
  | .local _ .vmem, ⟨7, _⟩ => ⟨S128x1408, .f32⟩
  | .local _ .vmem, ⟨8, _⟩ => ⟨S128x1408, .f32⟩
  | .local _ .vmem, ⟨9, _⟩ => ⟨S128x1408, .f32⟩
  | .local _ .vmem, ⟨10, _⟩ => ⟨S128x1408, .f32⟩
  | .local _ .vmem, ⟨11, _⟩ => ⟨S128x1408, .f32⟩
  | .local _ .vmem, ⟨12, _⟩ => ⟨S128x1408, .f32⟩
  | .local _ .vmem, ⟨13, _⟩ => ⟨S128x1408, .f32⟩
  | .local _ .vmem, ⟨14, _⟩ => ⟨S128x1408, .f32⟩
  | .local _ .vmem, ⟨15, _⟩ => ⟨S128x1408, .f32⟩
  | _, _ => ⟨S4096x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference37Ideal.lean ====
abbrev S4096x1408 : Shape := ⟨2, ![4096, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x1408, .f32⟩
  | .hbm, ⟨1, _⟩ => ⟨S4096x1408, .f32⟩
  | .hbm, ⟨2, _⟩ => ⟨S4096x1408, .f32⟩
  | .hbm, ⟨3, _⟩ => ⟨S4096x1408, .f32⟩
  | .hbm, ⟨4, _⟩ => ⟨S_, .f32⟩
  | .hbm, ⟨5, _⟩ => ⟨S4096x1408, .f32⟩
  | .hbm, ⟨6, _⟩ => ⟨S4096x1408, .f32⟩
  | .hbm, ⟨7, _⟩ => ⟨S_, .f32⟩
  | .hbm, ⟨8, _⟩ => ⟨S4096x1408, .f32⟩
  | .hbm, ⟨9, _⟩ => ⟨S4096x1408, .f32⟩
  | .hbm, ⟨10, _⟩ => ⟨S4096x1408, .f32⟩
  | .hbm, ⟨11, _⟩ => ⟨S_, .f32⟩
  | .hbm, ⟨12, _⟩ => ⟨S4096x1408, .f32⟩
  | .hbm, ⟨13, _⟩ => ⟨S4096x1408, .f32⟩
  | .hbm, ⟨14, _⟩ => ⟨S4096x1408, .f32⟩
  | .hbm, ⟨15, _⟩ => ⟨S_, .f32⟩
  | .hbm, ⟨16, _⟩ => ⟨S4096x1408, .f32⟩
  | .hbm, ⟨17, _⟩ => ⟨S4096x1408, .f32⟩
  | .hbm, ⟨18, _⟩ => ⟨S4096x1408, .f32⟩
  | .hbm, ⟨19, _⟩ => ⟨S_, .f32⟩
  | .hbm, ⟨20, _⟩ => ⟨S4096x1408, .f32⟩
  | .hbm, ⟨21, _⟩ => ⟨S4096x1408, .f32⟩
  | .hbm, ⟨22, _⟩ => ⟨S_, .f32⟩
  | .hbm, ⟨23, _⟩ => ⟨S4096x1408, .f32⟩
  | .hbm, ⟨24, _⟩ => ⟨S4096x1408, .f32⟩
  | .hbm, ⟨25, _⟩ => ⟨S4096x1408, .f32⟩
  | .hbm, ⟨26, _⟩ => ⟨S_, .f32⟩
  | .hbm, ⟨27, _⟩ => ⟨S4096x1408, .f32⟩
  | .hbm, ⟨28, _⟩ => ⟨S4096x1408, .f32⟩
  | .hbm, ⟨29, _⟩ => ⟨S4096x1408, .f32⟩
  | .hbm, ⟨30, _⟩ => ⟨S_, .f32⟩
  | .hbm, ⟨31, _⟩ => ⟨S4096x1408, .f32⟩
  | .hbm, ⟨32, _⟩ => ⟨S4096x1408, .f32⟩
  | .hbm, ⟨33, _⟩ => ⟨S4096x1408, .f32⟩
  | .hbm, ⟨34, _⟩ => ⟨S_, .f32⟩
  | .hbm, ⟨35, _⟩ => ⟨S4096x1408, .f32⟩
  | .hbm, ⟨36, _⟩ => ⟨S4096x1408, .f32⟩
  | _, _ => ⟨S4096x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel38.lean ====
abbrev S256x512 : Shape := ⟨2, ![256, 512]⟩

abbrev nBuf : Space → Nat
  | .hbm => 8
  | .vmem => 8
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S256x512, .f32⟩
  | .hbm, ⟨5, _⟩ => ⟨S256x512, .f32⟩
  | .hbm, ⟨6, _⟩ => ⟨S256x512, .f32⟩
  | .hbm, ⟨7, _⟩ => ⟨S256x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference38Ideal.lean ====
abbrev S256x512 : Shape := ⟨2, ![256, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S_, .f32⟩
  | .hbm, ⟨5, _⟩ => ⟨S256x512, .f32⟩
  | .hbm, ⟨6, _⟩ => ⟨S256x512, .f32⟩
  | .hbm, ⟨7, _⟩ => ⟨S_, .f32⟩
  | .hbm, ⟨8, _⟩ => ⟨S256x512, .f32⟩
  | .hbm, ⟨9, _⟩ => ⟨S256x512, .f32⟩
  | .hbm, ⟨10, _⟩ => ⟨S256x512, .f32⟩
  | .hbm, ⟨11, _⟩ => ⟨S_, .f32⟩
  | .hbm, ⟨12, _⟩ => ⟨S256x512, .f32⟩
  | .hbm, ⟨13, _⟩ => ⟨S256x512, .f32⟩
  | .hbm, ⟨14, _⟩ => ⟨S256x512, .f32⟩
  | .hbm, ⟨15, _⟩ => ⟨S_, .f32⟩
  | .hbm, ⟨16, _⟩ => ⟨S256x512, .f32⟩
  | .hbm, ⟨17, _⟩ => ⟨S256x512, .f32⟩
  | .hbm, ⟨18, _⟩ => ⟨S256x512, .f32⟩
  | .hbm, ⟨19, _⟩ => ⟨S_, .f32⟩
  | .hbm, ⟨20, _⟩ => ⟨S256x512, .f32⟩
  | .hbm, ⟨21, _⟩ => ⟨S256x512, .f32⟩
  | .hbm, ⟨22, _⟩ => ⟨S_, .f32⟩
  | .hbm, ⟨23, _⟩ => ⟨S256x512, .f32⟩
  | .hbm, ⟨24, _⟩ => ⟨S256x512, .f32⟩
  | .hbm, ⟨25, _⟩ => ⟨S256x512, .f32⟩
  | .hbm, ⟨26, _⟩ => ⟨S_, .f32⟩
  | .hbm, ⟨27, _⟩ => ⟨S256x512, .f32⟩
  | .hbm, ⟨28, _⟩ => ⟨S256x512, .f32⟩
  | .hbm, ⟨29, _⟩ => ⟨S256x512, .f32⟩
  | .hbm, ⟨30, _⟩ => ⟨S_, .f32⟩
  | .hbm, ⟨31, _⟩ => ⟨S256x512, .f32⟩
  | .hbm, ⟨32, _⟩ => ⟨S256x512, .f32⟩
  | .hbm, ⟨33, _⟩ => ⟨S256x512, .f32⟩
  | .hbm, ⟨34, _⟩ => ⟨S_, .f32⟩
  | .hbm, ⟨35, _⟩ => ⟨S256x512, .f32⟩
  | .hbm, ⟨36, _⟩ => ⟨S256x512, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel39.lean ====
abbrev S1024x2048 : Shape := ⟨2, ![1024, 2048]⟩
abbrev S128x2048 : Shape := ⟨2, ![128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S1024x2048, .f32⟩
  | .hbm, ⟨3, _⟩ => ⟨S1024x2048, .f32⟩
  | .hbm, ⟨4, _⟩ => ⟨S1024x2048, .f32⟩
  | .hbm, ⟨5, _⟩ => ⟨S1024x2048, .f32⟩
  | .hbm, ⟨6, _⟩ => ⟨S1024x2048, .f32⟩
  | .hbm, ⟨7, _⟩ => ⟨S1024x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference39Ideal.lean ====
abbrev S1024x2048 : Shape := ⟨2, ![1024, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S1024x2048, .f32⟩
  | .hbm, ⟨3, _⟩ => ⟨S1024x2048, .f32⟩
  | .hbm, ⟨4, _⟩ => ⟨S_, .f32⟩
  | .hbm, ⟨5, _⟩ => ⟨S1024x2048, .f32⟩
  | .hbm, ⟨6, _⟩ => ⟨S1024x2048, .f32⟩
  | .hbm, ⟨7, _⟩ => ⟨S_, .f32⟩
  | .hbm, ⟨8, _⟩ => ⟨S1024x2048, .f32⟩
  | .hbm, ⟨9, _⟩ => ⟨S1024x2048, .f32⟩
  | .hbm, ⟨10, _⟩ => ⟨S1024x2048, .f32⟩
  | .hbm, ⟨11, _⟩ => ⟨S_, .f32⟩
  | .hbm, ⟨12, _⟩ => ⟨S1024x2048, .f32⟩
  | .hbm, ⟨13, _⟩ => ⟨S1024x2048, .f32⟩
  | .hbm, ⟨14, _⟩ => ⟨S1024x2048, .f32⟩
  | .hbm, ⟨15, _⟩ => ⟨S_, .f32⟩
  | .hbm, ⟨16, _⟩ => ⟨S1024x2048, .f32⟩
  | .hbm, ⟨17, _⟩ => ⟨S1024x2048, .f32⟩
  | .hbm, ⟨18, _⟩ => ⟨S1024x2048, .f32⟩
  | .hbm, ⟨19, _⟩ => ⟨S_, .f32⟩
  | .hbm, ⟨20, _⟩ => ⟨S1024x2048, .f32⟩
  | .hbm, ⟨21, _⟩ => ⟨S1024x2048, .f32⟩
  | .hbm, ⟨22, _⟩ => ⟨S_, .f32⟩
  | .hbm, ⟨23, _⟩ => ⟨S1024x2048, .f32⟩
  | .hbm, ⟨24, _⟩ => ⟨S1024x2048, .f32⟩
  | .hbm, ⟨25, _⟩ => ⟨S1024x2048, .f32⟩
  | .hbm, ⟨26, _⟩ => ⟨S_, .f32⟩
  | .hbm, ⟨27, _⟩ => ⟨S1024x2048, .f32⟩
  | .hbm, ⟨28, _⟩ => ⟨S1024x2048, .f32⟩
  | .hbm, ⟨29, _⟩ => ⟨S1024x2048, .f32⟩
  | .hbm, ⟨30, _⟩ => ⟨S_, .f32⟩
  | .hbm, ⟨31, _⟩ => ⟨S1024x2048, .f32⟩
  | .hbm, ⟨32, _⟩ => ⟨S1024x2048, .f32⟩
  | .hbm, ⟨33, _⟩ => ⟨S1024x2048, .f32⟩
  | .hbm, ⟨34, _⟩ => ⟨S_, .f32⟩
  | .hbm, ⟨35, _⟩ => ⟨S1024x2048, .f32⟩
  | .hbm, ⟨36, _⟩ => ⟨S1024x2048, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel40.lean ====
abbrev S4096x2816 : Shape := ⟨2, ![4096, 2816]⟩
abbrev S64x2816 : Shape := ⟨2, ![64, 2816]⟩

abbrev nBuf : Space → Nat
  | .hbm => 8
  | .vmem => 16
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S4096x2816, .f32⟩
  | .hbm, ⟨3, _⟩ => ⟨S4096x2816, .f32⟩
  | .hbm, ⟨4, _⟩ => ⟨S4096x2816, .f32⟩
  | .hbm, ⟨5, _⟩ => ⟨S4096x2816, .f32⟩
  | .hbm, ⟨6, _⟩ => ⟨S4096x2816, .f32⟩
  | .hbm, ⟨7, _⟩ => ⟨S4096x2816, .f32⟩
  | .local _ .vmem, ⟨0, _⟩ => ⟨S64x2816, .f32⟩
  | .local _ .vmem, ⟨1, _⟩ => ⟨S64x2816, .f32⟩
  | .local _ .vmem, ⟨2, _⟩ => ⟨S64x2816, .f32⟩
  | .local _ .vmem, ⟨3, _⟩ => ⟨S64x2816, .f32⟩
  | .local _ .vmem, ⟨4, _⟩ => ⟨S64x2816, .f32⟩
  | .local _ .vmem, ⟨5, _⟩ => ⟨S64x2816, .f32⟩
  | .local _ .vmem, ⟨6, _⟩ => ⟨S64x2816, .f32⟩
  | .local _ .vmem, ⟨7, _⟩ => ⟨S64x2816, .f32⟩
  | .local _ .vmem, ⟨8, _⟩ => ⟨S64x2816, .f32⟩
  | .local _ .vmem, ⟨9, _⟩ => ⟨S64x2816, .f32⟩
  | .local _ .vmem, ⟨10, _⟩ => ⟨S64x2816, .f32⟩
  | .local _ .vmem, ⟨11, _⟩ => ⟨S64x2816, .f32⟩
  | .local _ .vmem, ⟨12, _⟩ => ⟨S64x2816, .f32⟩
  | .local _ .vmem, ⟨13, _⟩ => ⟨S64x2816, .f32⟩
  | .local _ .vmem, ⟨14, _⟩ => ⟨S64x2816, .f32⟩
  | .local _ .vmem, ⟨15, _⟩ => ⟨S64x2816, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x2816 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference40Ideal.lean ====
abbrev S4096x2816 : Shape := ⟨2, ![4096, 2816]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S4096x2816, .f32⟩
  | .hbm, ⟨3, _⟩ => ⟨S4096x2816, .f32⟩
  | .hbm, ⟨4, _⟩ => ⟨S_, .f32⟩
  | .hbm, ⟨5, _⟩ => ⟨S4096x2816, .f32⟩
  | .hbm, ⟨6, _⟩ => ⟨S4096x2816, .f32⟩
  | .hbm, ⟨7, _⟩ => ⟨S_, .f32⟩
  | .hbm, ⟨8, _⟩ => ⟨S4096x2816, .f32⟩
  | .hbm, ⟨9, _⟩ => ⟨S4096x2816, .f32⟩
  | .hbm, ⟨10, _⟩ => ⟨S4096x2816, .f32⟩
  | .hbm, ⟨11, _⟩ => ⟨S_, .f32⟩
  | .hbm, ⟨12, _⟩ => ⟨S4096x2816, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S_, .f32⟩
  | .hbm, ⟨20, _⟩ => ⟨S4096x2816, .f32⟩
  | .hbm, ⟨21, _⟩ => ⟨S4096x2816, .f32⟩
  | .hbm, ⟨22, _⟩ => ⟨S_, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S_, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S_, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S_, .f32⟩
  | .hbm, ⟨35, _⟩ => ⟨S4096x2816, .f32⟩
  | .hbm, ⟨36, _⟩ => ⟨S4096x2816, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel41.lean ====
abbrev S2816x2048 : Shape := ⟨2, ![2816, 2048]⟩
abbrev S128x2048 : Shape := ⟨2, ![128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S2816x2048, .f32⟩
  | .hbm, ⟨1, _⟩ => ⟨S2816x2048, .f32⟩
  | .hbm, ⟨2, _⟩ => ⟨S2816x2048, .f32⟩
  | .hbm, ⟨3, _⟩ => ⟨S2816x2048, .f32⟩
  | .hbm, ⟨4, _⟩ => ⟨S2816x2048, .f32⟩
  | .hbm, ⟨5, _⟩ => ⟨S2816x2048, .f32⟩
  | .hbm, ⟨6, _⟩ => ⟨S2816x2048, .f32⟩
  | .hbm, ⟨7, _⟩ => ⟨S2816x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S2816x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference41Ideal.lean ====
abbrev S2816x2048 : Shape := ⟨2, ![2816, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2816x2048, .f32⟩
  | .hbm, ⟨1, _⟩ => ⟨S2816x2048, .f32⟩
  | .hbm, ⟨2, _⟩ => ⟨S2816x2048, .f32⟩
  | .hbm, ⟨3, _⟩ => ⟨S2816x2048, .f32⟩
  | .hbm, ⟨4, _⟩ => ⟨S_, .f32⟩
  | .hbm, ⟨5, _⟩ => ⟨S2816x2048, .f32⟩
  | .hbm, ⟨6, _⟩ => ⟨S2816x2048, .f32⟩
  | .hbm, ⟨7, _⟩ => ⟨S_, .f32⟩
  | .hbm, ⟨8, _⟩ => ⟨S2816x2048, .f32⟩
  | .hbm, ⟨9, _⟩ => ⟨S2816x2048, .f32⟩
  | .hbm, ⟨10, _⟩ => ⟨S2816x2048, .f32⟩
  | .hbm, ⟨11, _⟩ => ⟨S_, .f32⟩
  | .hbm, ⟨12, _⟩ => ⟨S2816x2048, .f32⟩
  | .hbm, ⟨13, _⟩ => ⟨S2816x2048, .f32⟩
  | .hbm, ⟨14, _⟩ => ⟨S2816x2048, .f32⟩
  | .hbm, ⟨15, _⟩ => ⟨S_, .f32⟩
  | .hbm, ⟨16, _⟩ => ⟨S2816x2048, .f32⟩
  | .hbm, ⟨17, _⟩ => ⟨S2816x2048, .f32⟩
  | .hbm, ⟨18, _⟩ => ⟨S2816x2048, .f32⟩
  | .hbm, ⟨19, _⟩ => ⟨S_, .f32⟩
  | .hbm, ⟨20, _⟩ => ⟨S2816x2048, .f32⟩
  | .hbm, ⟨21, _⟩ => ⟨S2816x2048, .f32⟩
  | .hbm, ⟨22, _⟩ => ⟨S_, .f32⟩
  | .hbm, ⟨23, _⟩ => ⟨S2816x2048, .f32⟩
  | .hbm, ⟨24, _⟩ => ⟨S2816x2048, .f32⟩
  | .hbm, ⟨25, _⟩ => ⟨S2816x2048, .f32⟩
  | .hbm, ⟨26, _⟩ => ⟨S_, .f32⟩
  | .hbm, ⟨27, _⟩ => ⟨S2816x2048, .f32⟩
  | .hbm, ⟨28, _⟩ => ⟨S2816x2048, .f32⟩
  | .hbm, ⟨29, _⟩ => ⟨S2816x2048, .f32⟩
  | .hbm, ⟨30, _⟩ => ⟨S_, .f32⟩
  | .hbm, ⟨31, _⟩ => ⟨S2816x2048, .f32⟩
  | .hbm, ⟨32, _⟩ => ⟨S2816x2048, .f32⟩
  | .hbm, ⟨33, _⟩ => ⟨S2816x2048, .f32⟩
  | .hbm, ⟨34, _⟩ => ⟨S_, .f32⟩
  | .hbm, ⟨35, _⟩ => ⟨S2816x2048, .f32⟩
  | .hbm, ⟨36, _⟩ => ⟨S2816x2048, .f32⟩
  | _, _ => ⟨S2816x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel42.lean ====
abbrev S736x128 : Shape := ⟨2, ![736, 128]⟩
abbrev S32x128 : Shape := ⟨2, ![32, 128]⟩

abbrev nBuf : Space → Nat
  | .hbm => 7
  | .vmem => 14
  | .smem => 0
  | _ => 0

abbrev bufTy : (tb : Table) → Fin (tcTables nBuf tb) → BufTy
  | .hbm, ⟨0, _⟩ => ⟨S736x128, .f32⟩
  | .hbm, ⟨1, _⟩ => ⟨S736x128, .f32⟩
  | .hbm, ⟨2, _⟩ => ⟨S736x128, .f32⟩
  | .hbm, ⟨3, _⟩ => ⟨S736x128, .f32⟩
  | .hbm, ⟨4, _⟩ => ⟨S736x128, .f32⟩
  | .hbm, ⟨5, _⟩ => ⟨S736x128, .f32⟩
  | .hbm, ⟨6, _⟩ => ⟨S736x128, .f32⟩
  | .local _ .vmem, ⟨0, _⟩ => ⟨S32x128, .f32⟩
  | .local _ .vmem, ⟨1, _⟩ => ⟨S32x128, .f32⟩
  | .local _ .vmem, ⟨2, _⟩ => ⟨S32x128, .f32⟩
  | .local _ .vmem, ⟨3, _⟩ => ⟨S32x128, .f32⟩
  | .local _ .vmem, ⟨4, _⟩ => ⟨S32x128, .f32⟩
  | .local _ .vmem, ⟨5, _⟩ => ⟨S32x128, .f32⟩
  | .local _ .vmem, ⟨6, _⟩ => ⟨S32x128, .f32⟩
  | .local _ .vmem, ⟨7, _⟩ => ⟨S32x128, .f32⟩
  | .local _ .vmem, ⟨8, _⟩ => ⟨S32x128, .f32⟩
  | .local _ .vmem, ⟨9, _⟩ => ⟨S32x128, .f32⟩
  | .local _ .vmem, ⟨10, _⟩ => ⟨S32x128, .f32⟩
  | .local _ .vmem, ⟨11, _⟩ => ⟨S32x128, .f32⟩
  | .local _ .vmem, ⟨12, _⟩ => ⟨S32x128, .f32⟩
  | .local _ .vmem, ⟨13, _⟩ => ⟨S32x128, .f32⟩
  | _, _ => ⟨S736x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![23], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference42Ideal.lean ====
abbrev S736x128 : Shape := ⟨2, ![736, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S736x128, .f32⟩
  | .hbm, ⟨1, _⟩ => ⟨S736x128, .f32⟩
  | .hbm, ⟨2, _⟩ => ⟨S736x128, .f32⟩
  | .hbm, ⟨3, _⟩ => ⟨S736x128, .f32⟩
  | .hbm, ⟨4, _⟩ => ⟨S_, .f32⟩
  | .hbm, ⟨5, _⟩ => ⟨S736x128, .f32⟩
  | .hbm, ⟨6, _⟩ => ⟨S736x128, .f32⟩
  | .hbm, ⟨7, _⟩ => ⟨S_, .f32⟩
  | .hbm, ⟨8, _⟩ => ⟨S736x128, .f32⟩
  | .hbm, ⟨9, _⟩ => ⟨S736x128, .f32⟩
  | .hbm, ⟨10, _⟩ => ⟨S736x128, .f32⟩
  | .hbm, ⟨11, _⟩ => ⟨S_, .f32⟩
  | .hbm, ⟨12, _⟩ => ⟨S736x128, .f32⟩
  | .hbm, ⟨13, _⟩ => ⟨S736x128, .f32⟩
  | .hbm, ⟨14, _⟩ => ⟨S736x128, .f32⟩
  | .hbm, ⟨15, _⟩ => ⟨S_, .f32⟩
  | .hbm, ⟨16, _⟩ => ⟨S736x128, .f32⟩
  | .hbm, ⟨17, _⟩ => ⟨S736x128, .f32⟩
  | .hbm, ⟨18, _⟩ => ⟨S736x128, .f32⟩
  | .hbm, ⟨19, _⟩ => ⟨S_, .f32⟩
  | .hbm, ⟨20, _⟩ => ⟨S736x128, .f32⟩
  | .hbm, ⟨21, _⟩ => ⟨S736x128, .f32⟩
  | .hbm, ⟨22, _⟩ => ⟨S_, .f32⟩
  | .hbm, ⟨23, _⟩ => ⟨S736x128, .f32⟩
  | .hbm, ⟨24, _⟩ => ⟨S736x128, .f32⟩
  | .hbm, ⟨25, _⟩ => ⟨S736x128, .f32⟩
  | .hbm, ⟨26, _⟩ => ⟨S_, .f32⟩
  | .hbm, ⟨27, _⟩ => ⟨S736x128, .f32⟩
  | .hbm, ⟨28, _⟩ => ⟨S736x128, .f32⟩
  | .hbm, ⟨29, _⟩ => ⟨S736x128, .f32⟩
  | .hbm, ⟨30, _⟩ => ⟨S_, .f32⟩
  | .hbm, ⟨31, _⟩ => ⟨S736x128, .f32⟩
  | .hbm, ⟨32, _⟩ => ⟨S736x128, .f32⟩
  | .hbm, ⟨33, _⟩ => ⟨S736x128, .f32⟩
  | .hbm, ⟨34, _⟩ => ⟨S_, .f32⟩
  | .hbm, ⟨35, _⟩ => ⟨S736x128, .f32⟩
  | .hbm, ⟨36, _⟩ => ⟨S736x128, .f32⟩
  | _, _ => ⟨S736x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel43.lean ====
abbrev S16x2048 : Shape := ⟨2, ![16, 2048]⟩
abbrev S2x2048x3072 : Shape := ⟨3, ![2, 2048, 3072]⟩
abbrev S2x16x3072 : Shape := ⟨3, ![2, 16, 3072]⟩
abbrev S1x2048x512 : Shape := ⟨3, ![1, 2048, 512]⟩
abbrev S1x16x512 : Shape := ⟨3, ![1, 16, 512]⟩
abbrev S16x512 : Shape := ⟨2, ![16, 512]⟩
abbrev S2048x512 : Shape := ⟨2, ![2048, 512]⟩

abbrev nBuf : Space → Nat
  | .hbm => 5
  | .vmem => 8
  | .smem => 0
  | _ => 0

abbrev bufTy : (tb : Table) → Fin (tcTables nBuf tb) → BufTy
  | .hbm, ⟨0, _⟩ => ⟨S16x2048, .f32⟩
  | .hbm, ⟨1, _⟩ => ⟨S2x2048x3072, .f32⟩
  | .hbm, ⟨2, _⟩ => ⟨S2x16x3072, .f32⟩
  | .hbm, ⟨3, _⟩ => ⟨S2x2048x3072, .f32⟩
  | .hbm, ⟨4, _⟩ => ⟨S16x2048, .f32⟩
  | .local _ .vmem, ⟨0, _⟩ => ⟨S16x2048, .f32⟩
  | .local _ .vmem, ⟨1, _⟩ => ⟨S1x2048x512, .f32⟩
  | .local _ .vmem, ⟨2, _⟩ => ⟨S1x2048x512, .f32⟩
  | .local _ .vmem, ⟨3, _⟩ => ⟨S1x16x512, .f32⟩
  | .local _ .vmem, ⟨4, _⟩ => ⟨S1x16x512, .f32⟩
  | .local _ .vmem, ⟨5, _⟩ => ⟨S1x2048x512, .f32⟩
  | .local _ .vmem, ⟨6, _⟩ => ⟨S1x2048x512, .f32⟩
  | .local _ .vmem, ⟨7, _⟩ => ⟨S16x2048, .f32⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨2, ![2, 6], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v24 : BitVec 32 := Scalar.extui v2
  let c0_i32_15 : BitVec 32 := 0#32
  let v25 : BitVec 1 := Scalar.cmpi .ne v24 c0_i32_15
  v25

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v_true : BitVec 1 := 1#1
  let v26 : BitVec 1 := Scalar.xori v2 v_true
  let v27 : BitVec 32 := Scalar.extui v26
  let c0_i32_16 : BitVec 32 := 0#32
  let v28 : BitVec 1 := Scalar.cmpi .ne v27 c0_i32_16
  v28

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S16x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]
-- ==== Reference43Ideal.lean ====
abbrev S16x2048 : Shape := ⟨2, ![16, 2048]⟩
abbrev S2x2048x3072 : Shape := ⟨3, ![2, 2048, 3072]⟩
abbrev S2x16x3072 : Shape := ⟨3, ![2, 16, 3072]⟩
abbrev S_ : Shape := ⟨0, ![]⟩
abbrev S1x2048x3072 : Shape := ⟨3, ![1, 2048, 3072]⟩
abbrev S2048x3072 : Shape := ⟨2, ![2048, 3072]⟩
abbrev S16x3072 : Shape := ⟨2, ![16, 3072]⟩
abbrev S1x16x3072 : Shape := ⟨3, ![1, 16, 3072]⟩
abbrev S3072x2048 : Shape := ⟨2, ![3072, 2048]⟩

abbrev nBuf : Space → Nat
  | .hbm => 32
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S2x2048x3072, .f32⟩
  | .hbm, ⟨2, _⟩ => ⟨S2x16x3072, .f32⟩
  | .hbm, ⟨3, _⟩ => ⟨S16x2048, .f32⟩
  | .hbm, ⟨4, _⟩ => ⟨S16x2048, .f32⟩
  | .hbm, ⟨5, _⟩ => ⟨S_, .f32⟩
  | .hbm, ⟨6, _⟩ => ⟨S16x2048, .f32⟩
  | .hbm, ⟨7, _⟩ => ⟨S16x2048, .f32⟩
  | .hbm, ⟨8, _⟩ => ⟨S_, .f32⟩
  | .hbm, ⟨9, _⟩ => ⟨S16x2048, .f32⟩
  | .hbm, ⟨10, _⟩ => ⟨S16x2048, .f32⟩
  | .hbm, ⟨11, _⟩ => ⟨S16x2048, .f32⟩
  | .hbm, ⟨12, _⟩ => ⟨S1x2048x3072, .f32⟩
  | .hbm, ⟨13, _⟩ => ⟨S2048x3072, .f32⟩
  | .hbm, ⟨14, _⟩ => ⟨S16x3072, .f32⟩
  | .hbm, ⟨15, _⟩ => ⟨S1x16x3072, .f32⟩
  | .hbm, ⟨16, _⟩ => ⟨S16x3072, .f32⟩
  | .hbm, ⟨17, _⟩ => ⟨S3072x2048, .f32⟩
  | .hbm, ⟨18, _⟩ => ⟨S2048x3072, .f32⟩
  | .hbm, ⟨19, _⟩ => ⟨S16x2048, .f32⟩
  | .hbm, ⟨20, _⟩ => ⟨S1x2048x3072, .f32⟩
  | .hbm, ⟨21, _⟩ => ⟨S2048x3072, .f32⟩
  | .hbm, ⟨22, _⟩ => ⟨S16x3072, .f32⟩
  | .hbm, ⟨23, _⟩ => ⟨S1x16x3072, .f32⟩
  | .hbm, ⟨24, _⟩ => ⟨S16x3072, .f32⟩
  | .hbm, ⟨25, _⟩ => ⟨S3072x2048, .f32⟩
  | .hbm, ⟨26, _⟩ => ⟨S2048x3072, .f32⟩
  | .hbm, ⟨27, _⟩ => ⟨S16x2048, .f32⟩
  | .hbm, ⟨28, _⟩ => ⟨S1x2048x3072, .f32⟩
  | .hbm, ⟨29, _⟩ => ⟨S1x2048x3072, .f32⟩
  | .hbm, ⟨30, _⟩ => ⟨S2x2048x3072, .f32⟩
  | .hbm, ⟨31, _⟩ => ⟨S16x2048, .f32⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩

abbrev nD : Nat := 1
abbrev τ : Topo := Topo.v7x

variable {F : FTy → Type} [FloatOps F]
-- ==== Kernel44.lean ====
abbrev S8x1488x128 : Shape := ⟨3, ![8, 1488, 128]⟩
abbrev S1488x128 : Shape := ⟨2, ![1488, 128]⟩
abbrev S8x16x128 : Shape := ⟨3, ![8, 16, 128]⟩
abbrev S16x128 : Shape := ⟨2, ![16, 128]⟩
abbrev S1x16x128 : Shape := ⟨3, ![1, 16, 128]⟩

abbrev nBuf : Space → Nat
  | .hbm => 2
  | .vmem => 4
  | .smem => 0
  | _ => 0

abbrev bufTy : (tb : Table) → Fin (tcTables nBuf tb) → BufTy
  | .hbm, ⟨0, _⟩ => ⟨S8x1488x128, .f32⟩
  | .hbm, ⟨1, _⟩ => ⟨S1488x128, .f32⟩
  | .local _ .vmem, ⟨0, _⟩ => ⟨S8x16x128, .f32⟩
  | .local _ .vmem, ⟨1, _⟩ => ⟨S8x16x128, .f32⟩
  | .local _ .vmem, ⟨2, _⟩ => ⟨S16x128, .f32⟩
  | .local _ .vmem, ⟨3, _⟩ => ⟨S16x128, .f32⟩
  | _, _ => ⟨S8x1488x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![93], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference44Ideal.lean ====
abbrev S8x1488x128 : Shape := ⟨3, ![8, 1488, 128]⟩
abbrev S_ : Shape := ⟨0, ![]⟩
abbrev S1488x128 : Shape := ⟨2, ![1488, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x1488x128, .f32⟩
  | .hbm, ⟨1, _⟩ => ⟨S_, .f32⟩
  | .hbm, ⟨2, _⟩ => ⟨S1488x128, .f32⟩
  | _, _ => ⟨S8x1488x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel45.lean ====
abbrev S16x192x128 : Shape := ⟨3, ![16, 192, 128]⟩
abbrev S192x128 : Shape := ⟨2, ![192, 128]⟩
abbrev S16x64x128 : Shape := ⟨3, ![16, 64, 128]⟩
abbrev S64x128 : Shape := ⟨2, ![64, 128]⟩
abbrev S1x64x128 : Shape := ⟨3, ![1, 64, 128]⟩

abbrev nBuf : Space → Nat
  | .hbm => 2
  | .vmem => 4
  | .smem => 0
  | _ => 0

abbrev bufTy : (tb : Table) → Fin (tcTables nBuf tb) → BufTy
  | .hbm, ⟨0, _⟩ => ⟨S16x192x128, .f32⟩
  | .hbm, ⟨1, _⟩ => ⟨S192x128, .f32⟩
  | .local _ .vmem, ⟨0, _⟩ => ⟨S16x64x128, .f32⟩
  | .local _ .vmem, ⟨1, _⟩ => ⟨S16x64x128, .f32⟩
  | .local _ .vmem, ⟨2, _⟩ => ⟨S64x128, .f32⟩
  | .local _ .vmem, ⟨3, _⟩ => ⟨S64x128, .f32⟩
  | _, _ => ⟨S16x192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![3], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference45Ideal.lean ====
abbrev S16x192x128 : Shape := ⟨3, ![16, 192, 128]⟩
abbrev S_ : Shape := ⟨0, ![]⟩
abbrev S192x128 : Shape := ⟨2, ![192, 128]⟩

abbrev nBuf : Space → Nat
  | .hbm => 3
  | .vmem => 0
  | .smem => 0
  | _ => 0

abbrev bufTy : (tb : Table) → Fin (tcTables nBuf tb) → BufTy
  | .hbm, ⟨0, _⟩ => ⟨S16x192x128, .f32⟩
  | .hbm, ⟨1, _⟩ => ⟨S_, .f32⟩
  | .hbm, ⟨2, _⟩ => ⟨S192x128, .f32⟩
  | _, _ => ⟨S16x192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel46.lean ====
abbrev S4x1x2048 : Shape := ⟨3, ![4, 1, 2048]⟩
abbrev S1x2048 : Shape := ⟨2, ![1, 2048]⟩
abbrev S1x1x2048 : Shape := ⟨3, ![1, 1, 2048]⟩

abbrev nBuf : Space → Nat
  | .hbm => 3
  | .vmem => 3
  | .smem => 0
  | _ => 0

abbrev bufTy : (tb : Table) → Fin (tcTables nBuf tb) → BufTy
  | .hbm, ⟨0, _⟩ => ⟨S4x1x2048, .f32⟩
  | .hbm, ⟨1, _⟩ => ⟨S1x2048, .f32⟩
  | .hbm, ⟨2, _⟩ => ⟨S1x2048, .f32⟩
  | .local _ .vmem, ⟨0, _⟩ => ⟨S4x1x2048, .f32⟩
  | .local _ .vmem, ⟨1, _⟩ => ⟨S1x2048, .f32⟩
  | .local _ .vmem, ⟨2, _⟩ => ⟨S1x2048, .f32⟩
  | _, _ => ⟨S4x1x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4x1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Reference46Ideal.lean ====
abbrev S4x1x2048 : Shape := ⟨3, ![4, 1, 2048]⟩
abbrev S1x2048 : Shape := ⟨2, ![1, 2048]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4x1x2048, .f32⟩
  | .hbm, ⟨1, _⟩ => ⟨S1x2048, .f32⟩
  | .hbm, ⟨2, _⟩ => ⟨S_, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S_, .f32⟩
  | .hbm, ⟨7, _⟩ => ⟨S1x2048, .f32⟩
  | .hbm, ⟨8, _⟩ => ⟨S1x2048, .f32⟩
  | .hbm, ⟨9, _⟩ => ⟨S_, .f32⟩
  | .hbm, ⟨10, _⟩ => ⟨S1x2048, .f32⟩
  | .hbm, ⟨11, _⟩ => ⟨S1x2048, .f32⟩
  | .hbm, ⟨12, _⟩ => ⟨S_, .f32⟩
  | .hbm, ⟨13, _⟩ => ⟨S1x2048, .f32⟩
  | .hbm, ⟨14, _⟩ => ⟨S1x2048, .f32⟩
  | .hbm, ⟨15, _⟩ => ⟨S1x2048, .f32⟩
  | .hbm, ⟨16, _⟩ => ⟨S1x2048, .f32⟩
  | .hbm, ⟨17, _⟩ => ⟨S_, .f32⟩
  | .hbm, ⟨18, _⟩ => ⟨S1x2048, .f32⟩
  | .hbm, ⟨19, _⟩ => ⟨S1x2048, .f32⟩
  | .hbm, ⟨20, _⟩ => ⟨S1x2048, .f32⟩
  | .hbm, ⟨21, _⟩ => ⟨S1x2048, .f32⟩
  | .hbm, ⟨22, _⟩ => ⟨S1x2048, .f32⟩
  | .hbm, ⟨23, _⟩ => ⟨S1x2048, .f32⟩
  | _, _ => ⟨S4x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v1_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v1_1 : Ref sig .tc := ⟨.hbm, 15, rfl⟩
abbrev main_v1_0 : Ref sig .tc := ⟨.hbm, 16, rfl⟩
abbrev main_cst_0 : Ref sig .tc := ⟨.hbm, 17, rfl⟩
abbrev main_v2 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_v3 : Ref sig .tc := ⟨.hbm, 22, rfl⟩
abbrev main_v4 : Ref sig .tc := ⟨.hbm, 23, rfl⟩

abbrev nD : Nat := 1
abbrev τ : Topo := Topo.v7x

variable {F : FTy → Type} [FloatOps F]
-- ==== Kernel47.lean ====
abbrev S4352x2048 : Shape := ⟨2, ![4352, 2048]⟩
abbrev S1x2048 : Shape := ⟨2, ![1, 2048]⟩
abbrev S2x1x2048 : Shape := ⟨3, ![2, 1, 2048]⟩
abbrev S256x2048 : Shape := ⟨2, ![256, 2048]⟩
abbrev S1x1x2048 : Shape := ⟨3, ![1, 1, 2048]⟩
abbrev S256 : Shape := ⟨1, ![256]⟩
abbrev S256x1 : Shape := ⟨2, ![256, 1]⟩

abbrev nBuf : Space → Nat
  | .hbm => 5
  | .vmem => 9
  | .smem => 0
  | _ => 0

abbrev bufTy : (tb : Table) → Fin (tcTables nBuf tb) → BufTy
  | .hbm, ⟨0, _⟩ => ⟨S4352x2048, .f32⟩
  | .hbm, ⟨1, _⟩ => ⟨S1x2048, .f32⟩
  | .hbm, ⟨2, _⟩ => ⟨S2x1x2048, .f32⟩
  | .hbm, ⟨3, _⟩ => ⟨S2x1x2048, .f32⟩
  | .hbm, ⟨4, _⟩ => ⟨S4352x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S256x2048, .bf16⟩
  | .local _ .vmem, ⟨8, _⟩ => ⟨S256x2048, .bf16⟩
  | _, _ => ⟨S4352x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.minsi v16 c1_i32_4
  let c0_i32_5 : BitVec 32 := 0#32
  let c0_i32_6 : BitVec 32 := 0#32
  let c0_i32_7 : BitVec 32 := 0#32
  ![v17.toNat, c0_i32_5.toNat, c0_i32_6.toNat]

def cc0_transform_3 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.minsi v16 c1_i32_4
  let c0_i32_5 : BitVec 32 := 0#32
  let c0_i32_6 : BitVec 32 := 0#32
  let c0_i32_7 : BitVec 32 := 0#32
  ![v17.toNat, c0_i32_5.toNat, c0_i32_6.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference47Ideal.lean ====
abbrev S4352x2048 : Shape := ⟨2, ![4352, 2048]⟩
abbrev S1x2048 : Shape := ⟨2, ![1, 2048]⟩
abbrev S2x1x2048 : Shape := ⟨3, ![2, 1, 2048]⟩
abbrev S4096x2048 : Shape := ⟨2, ![4096, 2048]⟩
abbrev S_ : Shape := ⟨0, ![]⟩
abbrev S4096 : Shape := ⟨1, ![4096]⟩
abbrev S4096x1 : Shape := ⟨2, ![4096, 1]⟩
abbrev S1x1x2048 : Shape := ⟨3, ![1, 1, 2048]⟩
abbrev S256x2048 : Shape := ⟨2, ![256, 2048]⟩
abbrev S256 : Shape := ⟨1, ![256]⟩
abbrev S256x1 : Shape := ⟨2, ![256, 1]⟩

abbrev nBuf : Space → Nat
  | .hbm => 60
  | .vmem => 0
  | .smem => 0
  | _ => 0

abbrev bufTy : (tb : Table) → Fin (tcTables nBuf tb) → BufTy
  | .hbm, ⟨0, _⟩ => ⟨S4352x2048, .f32⟩
  | .hbm, ⟨1, _⟩ => ⟨S1x2048, .f32⟩
  | .hbm, ⟨2, _⟩ => ⟨S2x1x2048, .f32⟩
  | .hbm, ⟨3, _⟩ => ⟨S2x1x2048, .f32⟩
  | .hbm, ⟨4, _⟩ => ⟨S4096x2048, .f32⟩
  | .hbm, ⟨5, _⟩ => ⟨S4096x2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S1x1x2048, .f32⟩
  | .hbm, ⟨21, _⟩ => ⟨S1x2048, .f32⟩
  | .hbm, ⟨22, _⟩ => ⟨S1x1x2048, .f32⟩
  | .hbm, ⟨23, _⟩ => ⟨S1x2048, .f32⟩
  | .hbm, ⟨24, _⟩ => ⟨S_, .f32⟩
  | .hbm, ⟨25, _⟩ => ⟨S1x2048, .f32⟩
  | .hbm, ⟨26, _⟩ => ⟨S1x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S256x2048, .f32⟩
  | .hbm, ⟨32, _⟩ => ⟨S256x2048, .f32⟩
  | .hbm, ⟨33, _⟩ => ⟨S_, .f32⟩
  | .hbm, ⟨34, _⟩ => ⟨S256, .f32⟩
  | .hbm, ⟨35, _⟩ => ⟨S256x1, .f32⟩
  | .hbm, ⟨36, _⟩ => ⟨S_, .f32⟩
  | .hbm, ⟨37, _⟩ => ⟨S256x1, .f32⟩
  | .hbm, ⟨38, _⟩ => ⟨S256x1, .f32⟩
  | .hbm, ⟨39, _⟩ => ⟨S_, .f32⟩
  | .hbm, ⟨40, _⟩ => ⟨S256x1, .f32⟩
  | .hbm, ⟨41, _⟩ => ⟨S256x1, .f32⟩
  | .hbm, ⟨42, _⟩ => ⟨S256x1, .f32⟩
  | .hbm, ⟨43, _⟩ => ⟨S256x2048, .f32⟩
  | .hbm, ⟨44, _⟩ => ⟨S256x2048, .f32⟩
  | .hbm, ⟨45, _⟩ => ⟨S256x2048, .f32⟩
  | .hbm, ⟨46, _⟩ => ⟨S256x2048, .f32⟩
  | .hbm, ⟨47, _⟩ => ⟨S1x1x2048, .f32⟩
  | .hbm, ⟨48, _⟩ => ⟨S1x2048, .f32⟩
  | .hbm, ⟨49, _⟩ => ⟨S1x1x2048, .f32⟩
  | .hbm, ⟨50, _⟩ => ⟨S1x2048, .f32⟩
  | .hbm, ⟨51, _⟩ => ⟨S_, .f32⟩
  | .hbm, ⟨52, _⟩ => ⟨S1x2048, .f32⟩
  | .hbm, ⟨53, _⟩ => ⟨S1x2048, .f32⟩
  | .hbm, ⟨54, _⟩ => ⟨S256x2048, .f32⟩
  | .hbm, ⟨55, _⟩ => ⟨S256x2048, .f32⟩
  | .hbm, ⟨56, _⟩ => ⟨S256x2048, .f32⟩
  | .hbm, ⟨57, _⟩ => ⟨S256x2048, .f32⟩
  | .hbm, ⟨58, _⟩ => ⟨S4352x2048, .f32⟩
  | .hbm, ⟨59, _⟩ => ⟨S4352x2048, .bf16⟩
  | _, _ => ⟨S4352x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_cst_5 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_6 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩

abbrev nD : Nat := 1
abbrev τ : Topo := Topo.v7x

variable {F : FTy → Type} [FloatOps F]
-- ==== Kernel48.lean ====
abbrev S4352x2048 : Shape := ⟨2, ![4352, 2048]⟩
abbrev S2x1x2048 : Shape := ⟨3, ![2, 1, 2048]⟩
abbrev S1x2048 : Shape := ⟨2, ![1, 2048]⟩
abbrev S256x2048 : Shape := ⟨2, ![256, 2048]⟩
abbrev S1x1x2048 : Shape := ⟨3, ![1, 1, 2048]⟩
abbrev S256 : Shape := ⟨1, ![256]⟩
abbrev S256x1 : Shape := ⟨2, ![256, 1]⟩

abbrev nBuf : Space → Nat
  | .hbm => 8
  | .vmem => 15
  | .smem => 0
  | _ => 0

abbrev bufTy : (tb : Table) → Fin (tcTables nBuf tb) → BufTy
  | .hbm, ⟨0, _⟩ => ⟨S4352x2048, .f32⟩
  | .hbm, ⟨1, _⟩ => ⟨S4352x2048, .f32⟩
  | .hbm, ⟨2, _⟩ => ⟨S2x1x2048, .f32⟩
  | .hbm, ⟨3, _⟩ => ⟨S1x2048, .f32⟩
  | .hbm, ⟨4, _⟩ => ⟨S2x1x2048, .f32⟩
  | .hbm, ⟨5, _⟩ => ⟨S2x1x2048, .f32⟩
  | .hbm, ⟨6, _⟩ => ⟨S4352x2048, .f32⟩
  | .hbm, ⟨7, _⟩ => ⟨S4352x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x2048, .f32⟩
  | .local _ .vmem, ⟨7, _⟩ => ⟨S1x1x2048, .f32⟩
  | .local _ .vmem, ⟨8, _⟩ => ⟨S1x1x2048, .f32⟩
  | .local _ .vmem, ⟨9, _⟩ => ⟨S1x1x2048, .f32⟩
  | .local _ .vmem, ⟨10, _⟩ => ⟨S1x1x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .bf16⟩
  | .local _ .vmem, ⟨14, _⟩ => ⟨S256x2048, .bf16⟩
  | _, _ => ⟨S4352x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.minsi v16 c1_i32_4
  let c0_i32_5 : BitVec 32 := 0#32
  let c0_i32_6 : BitVec 32 := 0#32
  let c0_i32_7 : BitVec 32 := 0#32
  ![v17.toNat, c0_i32_5.toNat, c0_i32_6.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.minsi v16 c1_i32_4
  let c0_i32_5 : BitVec 32 := 0#32
  let c0_i32_6 : BitVec 32 := 0#32
  let c0_i32_7 : BitVec 32 := 0#32
  ![v17.toNat, c0_i32_5.toNat, c0_i32_6.toNat]

def cc0_transform_5 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.minsi v16 c1_i32_4
  let c0_i32_5 : BitVec 32 := 0#32
  let c0_i32_6 : BitVec 32 := 0#32
  let c0_i32_7 : BitVec 32 := 0#32
  ![v17.toNat, c0_i32_5.toNat, c0_i32_6.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference48Ideal.lean ====
abbrev S4352x2048 : Shape := ⟨2, ![4352, 2048]⟩
abbrev S2x1x2048 : Shape := ⟨3, ![2, 1, 2048]⟩
abbrev S1x2048 : Shape := ⟨2, ![1, 2048]⟩
abbrev S4096x2048 : Shape := ⟨2, ![4096, 2048]⟩
abbrev S1x1x2048 : Shape := ⟨3, ![1, 1, 2048]⟩
abbrev S256x2048 : Shape := ⟨2, ![256, 2048]⟩
abbrev S_ : Shape := ⟨0, ![]⟩
abbrev S4096 : Shape := ⟨1, ![4096]⟩
abbrev S4096x1 : Shape := ⟨2, ![4096, 1]⟩
abbrev S256 : Shape := ⟨1, ![256]⟩
abbrev S256x1 : Shape := ⟨2, ![256, 1]⟩

abbrev nBuf : Space → Nat
  | .hbm => 77
  | .vmem => 0
  | .smem => 0
  | _ => 0

abbrev bufTy : (tb : Table) → Fin (tcTables nBuf tb) → BufTy
  | .hbm, ⟨0, _⟩ => ⟨S4352x2048, .f32⟩
  | .hbm, ⟨1, _⟩ => ⟨S4352x2048, .f32⟩
  | .hbm, ⟨2, _⟩ => ⟨S2x1x2048, .f32⟩
  | .hbm, ⟨3, _⟩ => ⟨S1x2048, .f32⟩
  | .hbm, ⟨4, _⟩ => ⟨S2x1x2048, .f32⟩
  | .hbm, ⟨5, _⟩ => ⟨S2x1x2048, .f32⟩
  | .hbm, ⟨6, _⟩ => ⟨S4096x2048, .f32⟩
  | .hbm, ⟨7, _⟩ => ⟨S1x1x2048, .f32⟩
  | .hbm, ⟨8, _⟩ => ⟨S1x2048, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S256x2048, .f32⟩
  | .hbm, ⟨14, _⟩ => ⟨S1x1x2048, .f32⟩
  | .hbm, ⟨15, _⟩ => ⟨S1x2048, .f32⟩
  | .hbm, ⟨16, _⟩ => ⟨S256x2048, .f32⟩
  | .hbm, ⟨17, _⟩ => ⟨S256x2048, .f32⟩
  | .hbm, ⟨18, _⟩ => ⟨S256x2048, .f32⟩
  | .hbm, ⟨19, _⟩ => ⟨S256x2048, .f32⟩
  | .hbm, ⟨20, _⟩ => ⟨S4352x2048, .f32⟩
  | .hbm, ⟨21, _⟩ => ⟨S4096x2048, .f32⟩
  | .hbm, ⟨22, _⟩ => ⟨S4096x2048, .f32⟩
  | .hbm, ⟨23, _⟩ => ⟨S_, .f32⟩
  | .hbm, ⟨24, _⟩ => ⟨S4096, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S1x1x2048, .f32⟩
  | .hbm, ⟨38, _⟩ => ⟨S1x2048, .f32⟩
  | .hbm, ⟨39, _⟩ => ⟨S1x1x2048, .f32⟩
  | .hbm, ⟨40, _⟩ => ⟨S1x2048, .f32⟩
  | .hbm, ⟨41, _⟩ => ⟨S_, .f32⟩
  | .hbm, ⟨42, _⟩ => ⟨S1x2048, .f32⟩
  | .hbm, ⟨43, _⟩ => ⟨S1x2048, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S256x2048, .f32⟩
  | .hbm, ⟨49, _⟩ => ⟨S256x2048, .f32⟩
  | .hbm, ⟨50, _⟩ => ⟨S_, .f32⟩
  | .hbm, ⟨51, _⟩ => ⟨S256, .f32⟩
  | .hbm, ⟨52, _⟩ => ⟨S256x1, .f32⟩
  | .hbm, ⟨53, _⟩ => ⟨S_, .f32⟩
  | .hbm, ⟨54, _⟩ => ⟨S256x1, .f32⟩
  | .hbm, ⟨55, _⟩ => ⟨S256x1, .f32⟩
  | .hbm, ⟨56, _⟩ => ⟨S_, .f32⟩
  | .hbm, ⟨57, _⟩ => ⟨S256x1, .f32⟩
  | .hbm, ⟨58, _⟩ => ⟨S256x1, .f32⟩
  | .hbm, ⟨59, _⟩ => ⟨S256x1, .f32⟩
  | .hbm, ⟨60, _⟩ => ⟨S256x2048, .f32⟩
  | .hbm, ⟨61, _⟩ => ⟨S256x2048, .f32⟩
  | .hbm, ⟨62, _⟩ => ⟨S256x2048, .f32⟩
  | .hbm, ⟨63, _⟩ => ⟨S256x2048, .f32⟩
  | .hbm, ⟨64, _⟩ => ⟨S1x1x2048, .f32⟩
  | .hbm, ⟨65, _⟩ => ⟨S1x2048, .f32⟩
  | .hbm, ⟨66, _⟩ => ⟨S1x1x2048, .f32⟩
  | .hbm, ⟨67, _⟩ => ⟨S1x2048, .f32⟩
  | .hbm, ⟨68, _⟩ => ⟨S_, .f32⟩
  | .hbm, ⟨69, _⟩ => ⟨S1x2048, .f32⟩
  | .hbm, ⟨70, _⟩ => ⟨S1x2048, .f32⟩
  | .hbm, ⟨71, _⟩ => ⟨S256x2048, .f32⟩
  | .hbm, ⟨72, _⟩ => ⟨S256x2048, .f32⟩
  | .hbm, ⟨73, _⟩ => ⟨S256x2048, .f32⟩
  | .hbm, ⟨74, _⟩ => ⟨S256x2048, .f32⟩
  | .hbm, ⟨75, _⟩ => ⟨S4352x2048, .f32⟩
  | .hbm, ⟨76, _⟩ => ⟨S4352x2048, .bf16⟩
  | _, _ => ⟨S4352x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst : Ref sig .tc := ⟨.hbm, 23, rfl⟩
abbrev main_v17 : Ref sig .tc := ⟨.hbm, 24, rfl⟩
abbrev main_v18 : Ref sig .tc := ⟨.hbm, 25, rfl⟩
abbrev main_cst_0 : Ref sig .tc := ⟨.hbm, 26, rfl⟩
abbrev main_v19 : Ref sig .tc := ⟨.hbm, 27, rfl⟩
abbrev main_v20 : Ref sig .tc := ⟨.hbm, 28, rfl⟩
abbrev main_cst_1 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_2 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_3 : Ref sig .tc := ⟨.hbm, 50, rfl⟩
abbrev main_v40 : Ref sig .tc := ⟨.hbm, 51, rfl⟩
abbrev main_v41 : Ref sig .tc := ⟨.hbm, 52, rfl⟩
abbrev main_cst_4 : Ref sig .tc := ⟨.hbm, 53, rfl⟩
abbrev main_v42 : Ref sig .tc := ⟨.hbm, 54, rfl⟩
abbrev main_v43 : Ref sig .tc := ⟨.hbm, 55, rfl⟩
abbrev main_cst_5 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_cst_6 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩

abbrev nD : Nat := 1
abbrev τ : Topo := Topo.v7x

variable {F : FTy → Type} [FloatOps F]
-- ==== Kernel49.lean ====
abbrev S16x2048 : Shape := ⟨2, ![16, 2048]⟩
abbrev S2x2048x3072 : Shape := ⟨3, ![2, 2048, 3072]⟩
abbrev S2x1x3072 : Shape := ⟨3, ![2, 1, 3072]⟩
abbrev S2x16x3072 : Shape := ⟨3, ![2, 16, 3072]⟩
abbrev S1x2048x512 : Shape := ⟨3, ![1, 2048, 512]⟩
abbrev S1x1x512 : Shape := ⟨3, ![1, 1, 512]⟩
abbrev S1x16x512 : Shape := ⟨3, ![1, 16, 512]⟩
abbrev S2048x512 : Shape := ⟨2, ![2048, 512]⟩
abbrev S16x512 : Shape := ⟨2, ![16, 512]⟩
abbrev S1x512 : Shape := ⟨2, ![1, 512]⟩

abbrev nBuf : Space → Nat
  | .hbm => 4
  | .vmem => 7
  | .smem => 0
  | _ => 0

abbrev bufTy : (tb : Table) → Fin (tcTables nBuf tb) → BufTy
  | .hbm, ⟨0, _⟩ => ⟨S16x2048, .f32⟩
  | .hbm, ⟨1, _⟩ => ⟨S2x2048x3072, .f32⟩
  | .hbm, ⟨2, _⟩ => ⟨S2x1x3072, .f32⟩
  | .hbm, ⟨3, _⟩ => ⟨S2x16x3072, .f32⟩
  | .local _ .vmem, ⟨0, _⟩ => ⟨S16x2048, .f32⟩
  | .local _ .vmem, ⟨1, _⟩ => ⟨S1x2048x512, .f32⟩
  | .local _ .vmem, ⟨2, _⟩ => ⟨S1x2048x512, .f32⟩
  | .local _ .vmem, ⟨3, _⟩ => ⟨S1x1x512, .f32⟩
  | .local _ .vmem, ⟨4, _⟩ => ⟨S1x1x512, .f32⟩
  | .local _ .vmem, ⟨5, _⟩ => ⟨S1x16x512, .f32⟩
  | .local _ .vmem, ⟨6, _⟩ => ⟨S1x16x512, .f32⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference49Ideal.lean ====
abbrev S16x2048 : Shape := ⟨2, ![16, 2048]⟩
abbrev S2x2048x3072 : Shape := ⟨3, ![2, 2048, 3072]⟩
abbrev S2x1x3072 : Shape := ⟨3, ![2, 1, 3072]⟩
abbrev S_ : Shape := ⟨0, ![]⟩
abbrev S1x2048x3072 : Shape := ⟨3, ![1, 2048, 3072]⟩
abbrev S2048x3072 : Shape := ⟨2, ![2048, 3072]⟩
abbrev S16x3072 : Shape := ⟨2, ![16, 3072]⟩
abbrev S1x1x3072 : Shape := ⟨3, ![1, 1, 3072]⟩
abbrev S1x3072 : Shape := ⟨2, ![1, 3072]⟩
abbrev S1x16x3072 : Shape := ⟨3, ![1, 16, 3072]⟩
abbrev S2x16x3072 : Shape := ⟨3, ![2, 16, 3072]⟩

abbrev nBuf : Space → Nat
  | .hbm => 38
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S2x2048x3072, .f32⟩
  | .hbm, ⟨2, _⟩ => ⟨S2x1x3072, .f32⟩
  | .hbm, ⟨3, _⟩ => ⟨S16x2048, .f32⟩
  | .hbm, ⟨4, _⟩ => ⟨S16x2048, .f32⟩
  | .hbm, ⟨5, _⟩ => ⟨S_, .f32⟩
  | .hbm, ⟨6, _⟩ => ⟨S16x2048, .f32⟩
  | .hbm, ⟨7, _⟩ => ⟨S16x2048, .f32⟩
  | .hbm, ⟨8, _⟩ => ⟨S_, .f32⟩
  | .hbm, ⟨9, _⟩ => ⟨S16x2048, .f32⟩
  | .hbm, ⟨10, _⟩ => ⟨S16x2048, .f32⟩
  | .hbm, ⟨11, _⟩ => ⟨S16x2048, .f32⟩
  | .hbm, ⟨12, _⟩ => ⟨S1x2048x3072, .f32⟩
  | .hbm, ⟨13, _⟩ => ⟨S2048x3072, .f32⟩
  | .hbm, ⟨14, _⟩ => ⟨S16x3072, .f32⟩
  | .hbm, ⟨15, _⟩ => ⟨S1x1x3072, .f32⟩
  | .hbm, ⟨16, _⟩ => ⟨S1x3072, .f32⟩
  | .hbm, ⟨17, _⟩ => ⟨S16x3072, .f32⟩
  | .hbm, ⟨18, _⟩ => ⟨S16x3072, .f32⟩
  | .hbm, ⟨19, _⟩ => ⟨S16x2048, .f32⟩
  | .hbm, ⟨20, _⟩ => ⟨S16x2048, .f32⟩
  | .hbm, ⟨21, _⟩ => ⟨S_, .f32⟩
  | .hbm, ⟨22, _⟩ => ⟨S16x2048, .f32⟩
  | .hbm, ⟨23, _⟩ => ⟨S16x2048, .f32⟩
  | .hbm, ⟨24, _⟩ => ⟨S_, .f32⟩
  | .hbm, ⟨25, _⟩ => ⟨S16x2048, .f32⟩
  | .hbm, ⟨26, _⟩ => ⟨S16x2048, .f32⟩
  | .hbm, ⟨27, _⟩ => ⟨S16x2048, .f32⟩
  | .hbm, ⟨28, _⟩ => ⟨S1x2048x3072, .f32⟩
  | .hbm, ⟨29, _⟩ => ⟨S2048x3072, .f32⟩
  | .hbm, ⟨30, _⟩ => ⟨S16x3072, .f32⟩
  | .hbm, ⟨31, _⟩ => ⟨S1x1x3072, .f32⟩
  | .hbm, ⟨32, _⟩ => ⟨S1x3072, .f32⟩
  | .hbm, ⟨33, _⟩ => ⟨S16x3072, .f32⟩
  | .hbm, ⟨34, _⟩ => ⟨S16x3072, .f32⟩
  | .hbm, ⟨35, _⟩ => ⟨S1x16x3072, .f32⟩
  | .hbm, ⟨36, _⟩ => ⟨S1x16x3072, .f32⟩
  | .hbm, ⟨37, _⟩ => ⟨S2x16x3072, .f32⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_call1_v0 : Ref sig .tc := ⟨.hbm, 19, rfl⟩
abbrev main_call1_v1 : Ref sig .tc := ⟨.hbm, 20, rfl⟩
abbrev main_call1_cst : Ref sig .tc := ⟨.hbm, 21, rfl⟩
abbrev main_call1_v2 : Ref sig .tc := ⟨.hbm, 22, rfl⟩
abbrev main_call1_v3 : Ref sig .tc := ⟨.hbm, 23, rfl⟩
abbrev main_call1_cst_0 : Ref sig .tc := ⟨.hbm, 24, rfl⟩
abbrev main_call1_v4 : Ref sig .tc := ⟨.hbm, 25, rfl⟩
abbrev main_call1_v5 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩

abbrev nD : Nat := 1
abbrev τ : Topo := Topo.v7x

variable {F : FTy → Type} [FloatOps F]
-- ==== Kernel50.lean ====
abbrev S4352x512 : Shape := ⟨2, ![4352, 512]⟩
abbrev S1x512 : Shape := ⟨2, ![1, 512]⟩
abbrev S256x512 : Shape := ⟨2, ![256, 512]⟩
abbrev S256 : Shape := ⟨1, ![256]⟩
abbrev S256x1 : Shape := ⟨2, ![256, 1]⟩

abbrev nBuf : Space → Nat
  | .hbm => 4
  | .vmem => 6
  | .smem => 0
  | _ => 0

abbrev bufTy : (tb : Table) → Fin (tcTables nBuf tb) → BufTy
  | .hbm, ⟨0, _⟩ => ⟨S4352x512, .f32⟩
  | .hbm, ⟨1, _⟩ => ⟨S1x512, .f32⟩
  | .hbm, ⟨2, _⟩ => ⟨S1x512, .f32⟩
  | .hbm, ⟨3, _⟩ => ⟨S4352x512, .bf16⟩
  | .local _ .vmem, ⟨0, _⟩ => ⟨S256x512, .f32⟩
  | .local _ .vmem, ⟨1, _⟩ => ⟨S256x512, .f32⟩
  | .local _ .vmem, ⟨2, _⟩ => ⟨S1x512, .f32⟩
  | .local _ .vmem, ⟨3, _⟩ => ⟨S1x512, .f32⟩
  | .local _ .vmem, ⟨4, _⟩ => ⟨S256x512, .bf16⟩
  | .local _ .vmem, ⟨5, _⟩ => ⟨S256x512, .bf16⟩
  | _, _ => ⟨S4352x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference50Ideal.lean ====
abbrev S4352x512 : Shape := ⟨2, ![4352, 512]⟩
abbrev S1x512 : Shape := ⟨2, ![1, 512]⟩
abbrev S_ : Shape := ⟨0, ![]⟩
abbrev S4352 : Shape := ⟨1, ![4352]⟩
abbrev S4352x1 : Shape := ⟨2, ![4352, 1]⟩

abbrev nBuf : Space → Nat
  | .hbm => 40
  | .vmem => 0
  | .smem => 0
  | _ => 0

abbrev bufTy : (tb : Table) → Fin (tcTables nBuf tb) → BufTy
  | .hbm, ⟨0, _⟩ => ⟨S4352x512, .f32⟩
  | .hbm, ⟨1, _⟩ => ⟨S1x512, .f32⟩
  | .hbm, ⟨2, _⟩ => ⟨S1x512, .f32⟩
  | .hbm, ⟨3, _⟩ => ⟨S_, .f32⟩
  | .hbm, ⟨4, _⟩ => ⟨S4352, .f32⟩
  | .hbm, ⟨5, _⟩ => ⟨S4352x1, .f32⟩
  | .hbm, ⟨6, _⟩ => ⟨S_, .f32⟩
  | .hbm, ⟨7, _⟩ => ⟨S4352x1, .f32⟩
  | .hbm, ⟨8, _⟩ => ⟨S4352x1, .f32⟩
  | .hbm, ⟨9, _⟩ => ⟨S4352x512, .f32⟩
  | .hbm, ⟨10, _⟩ => ⟨S4352x512, .f32⟩
  | .hbm, ⟨11, _⟩ => ⟨S4352x512, .f32⟩
  | .hbm, ⟨12, _⟩ => ⟨S_, .f32⟩
  | .hbm, ⟨13, _⟩ => ⟨S4352, .f32⟩
  | .hbm, ⟨14, _⟩ => ⟨S4352x1, .f32⟩
  | .hbm, ⟨15, _⟩ => ⟨S_, .f32⟩
  | .hbm, ⟨16, _⟩ => ⟨S4352x1, .f32⟩
  | .hbm, ⟨17, _⟩ => ⟨S4352x1, .f32⟩
  | .hbm, ⟨18, _⟩ => ⟨S4352x512, .f32⟩
  | .hbm, ⟨19, _⟩ => ⟨S4352x512, .f32⟩
  | .hbm, ⟨20, _⟩ => ⟨S_, .f32⟩
  | .hbm, ⟨21, _⟩ => ⟨S4352x1, .f32⟩
  | .hbm, ⟨22, _⟩ => ⟨S4352x1, .f32⟩
  | .hbm, ⟨23, _⟩ => ⟨S4352x1, .f32⟩
  | .hbm, ⟨24, _⟩ => ⟨S4352x512, .f32⟩
  | .hbm, ⟨25, _⟩ => ⟨S4352x512, .f32⟩
  | .hbm, ⟨26, _⟩ => ⟨S4352x512, .f32⟩
  | .hbm, ⟨27, _⟩ => ⟨S4352x512, .f32⟩
  | .hbm, ⟨28, _⟩ => ⟨S4352x512, .f32⟩
  | .hbm, ⟨29, _⟩ => ⟨S4352x512, .f32⟩
  | .hbm, ⟨30, _⟩ => ⟨S4352x512, .f32⟩
  | .hbm, ⟨31, _⟩ => ⟨S4352x512, .f32⟩
  | .hbm, ⟨32, _⟩ => ⟨S_, .f32⟩
  | .hbm, ⟨33, _⟩ => ⟨S4352x512, .f32⟩
  | .hbm, ⟨34, _⟩ => ⟨S4352x512, .f32⟩
  | .hbm, ⟨35, _⟩ => ⟨S_, .f32⟩
  | .hbm, ⟨36, _⟩ => ⟨S4352x512, .f32⟩
  | .hbm, ⟨37, _⟩ => ⟨S4352x512, .f32⟩
  | .hbm, ⟨38, _⟩ => ⟨S4352x512, .f32⟩
  | .hbm, ⟨39, _⟩ => ⟨S4352x512, .bf16⟩
  | _, _ => ⟨S4352x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v22 : Ref sig .tc := ⟨.hbm, 38, rfl⟩
abbrev main_v23 : Ref sig .tc := ⟨.hbm, 39, rfl⟩

abbrev nD : Nat := 1
abbrev τ : Topo := Topo.v7x

variable {F : FTy → Type} [FloatOps F]
-- ==== Kernel51.lean ====
abbrev S4352x1024 : Shape := ⟨2, ![4352, 1024]⟩
abbrev S4352x5632 : Shape := ⟨2, ![4352, 5632]⟩
abbrev S1x1024 : Shape := ⟨2, ![1, 1024]⟩
abbrev S1088x256 : Shape := ⟨2, ![1088, 256]⟩
abbrev S1x256 : Shape := ⟨2, ![1, 256]⟩
abbrev S1088 : Shape := ⟨1, ![1088]⟩
abbrev S1088x1 : Shape := ⟨2, ![1088, 1]⟩

abbrev nBuf : Space → Nat
  | .hbm => 5
  | .vmem => 10
  | .smem => 0
  | _ => 0

abbrev bufTy : (tb : Table) → Fin (tcTables nBuf tb) → BufTy
  | .hbm, ⟨0, _⟩ => ⟨S4352x1024, .f32⟩
  | .hbm, ⟨1, _⟩ => ⟨S4352x1024, .f32⟩
  | .hbm, ⟨2, _⟩ => ⟨S4352x5632, .f32⟩
  | .hbm, ⟨3, _⟩ => ⟨S1x1024, .f32⟩
  | .hbm, ⟨4, _⟩ => ⟨S4352x1024, .bf16⟩
  | .local _ .vmem, ⟨0, _⟩ => ⟨S1088x256, .f32⟩
  | .local _ .vmem, ⟨1, _⟩ => ⟨S1088x256, .f32⟩
  | .local _ .vmem, ⟨2, _⟩ => ⟨S1088x256, .f32⟩
  | .local _ .vmem, ⟨3, _⟩ => ⟨S1088x256, .f32⟩
  | .local _ .vmem, ⟨4, _⟩ => ⟨S1088x256, .f32⟩
  | .local _ .vmem, ⟨5, _⟩ => ⟨S1088x256, .f32⟩
  | .local _ .vmem, ⟨6, _⟩ => ⟨S1x256, .f32⟩
  | .local _ .vmem, ⟨7, _⟩ => ⟨S1x256, .f32⟩
  | .local _ .vmem, ⟨8, _⟩ => ⟨S1088x256, .bf16⟩
  | .local _ .vmem, ⟨9, _⟩ => ⟨S1088x256, .bf16⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1088x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1088x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1088x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1088x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference51Ideal.lean ====
abbrev S4352x1024 : Shape := ⟨2, ![4352, 1024]⟩
abbrev S4352x5632 : Shape := ⟨2, ![4352, 5632]⟩
abbrev S1x1024 : Shape := ⟨2, ![1, 1024]⟩
abbrev S4352x4x256 : Shape := ⟨3, ![4352, 4, 256]⟩
abbrev S_ : Shape := ⟨0, ![]⟩
abbrev S4352x4 : Shape := ⟨2, ![4352, 4]⟩
abbrev S4352x4x1 : Shape := ⟨3, ![4352, 4, 1]⟩

abbrev nBuf : Space → Nat
  | .hbm => 44
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S4352x1024, .f32⟩
  | .hbm, ⟨2, _⟩ => ⟨S4352x5632, .f32⟩
  | .hbm, ⟨3, _⟩ => ⟨S1x1024, .f32⟩
  | .hbm, ⟨4, _⟩ => ⟨S4352x1024, .f32⟩
  | .hbm, ⟨5, _⟩ => ⟨S4352x4x256, .f32⟩
  | .hbm, ⟨6, _⟩ => ⟨S_, .f32⟩
  | .hbm, ⟨7, _⟩ => ⟨S4352x4, .f32⟩
  | .hbm, ⟨8, _⟩ => ⟨S4352x4x1, .f32⟩
  | .hbm, ⟨9, _⟩ => ⟨S_, .f32⟩
  | .hbm, ⟨10, _⟩ => ⟨S4352x4x1, .f32⟩
  | .hbm, ⟨11, _⟩ => ⟨S4352x4x1, .f32⟩
  | .hbm, ⟨12, _⟩ => ⟨S4352x4x256, .f32⟩
  | .hbm, ⟨13, _⟩ => ⟨S4352x4x256, .f32⟩
  | .hbm, ⟨14, _⟩ => ⟨S4352x4x256, .f32⟩
  | .hbm, ⟨15, _⟩ => ⟨S_, .f32⟩
  | .hbm, ⟨16, _⟩ => ⟨S4352x4, .f32⟩
  | .hbm, ⟨17, _⟩ => ⟨S4352x4x1, .f32⟩
  | .hbm, ⟨18, _⟩ => ⟨S_, .f32⟩
  | .hbm, ⟨19, _⟩ => ⟨S4352x4x1, .f32⟩
  | .hbm, ⟨20, _⟩ => ⟨S4352x4x1, .f32⟩
  | .hbm, ⟨21, _⟩ => ⟨S4352x4x256, .f32⟩
  | .hbm, ⟨22, _⟩ => ⟨S4352x4x256, .f32⟩
  | .hbm, ⟨23, _⟩ => ⟨S_, .f32⟩
  | .hbm, ⟨24, _⟩ => ⟨S4352x4x1, .f32⟩
  | .hbm, ⟨25, _⟩ => ⟨S4352x4x1, .f32⟩
  | .hbm, ⟨26, _⟩ => ⟨S4352x4x1, .f32⟩
  | .hbm, ⟨27, _⟩ => ⟨S4352x4x256, .f32⟩
  | .hbm, ⟨28, _⟩ => ⟨S4352x4x256, .f32⟩
  | .hbm, ⟨29, _⟩ => ⟨S4352x1024, .f32⟩
  | .hbm, ⟨30, _⟩ => ⟨S4352x1024, .f32⟩
  | .hbm, ⟨31, _⟩ => ⟨S4352x1024, .f32⟩
  | .hbm, ⟨32, _⟩ => ⟨S4352x1024, .f32⟩
  | .hbm, ⟨33, _⟩ => ⟨S4352x1024, .f32⟩
  | .hbm, ⟨34, _⟩ => ⟨S4352x1024, .f32⟩
  | .hbm, ⟨35, _⟩ => ⟨S_, .f32⟩
  | .hbm, ⟨36, _⟩ => ⟨S4352x1024, .f32⟩
  | .hbm, ⟨37, _⟩ => ⟨S4352x1024, .f32⟩
  | .hbm, ⟨38, _⟩ => ⟨S_, .f32⟩
  | .hbm, ⟨39, _⟩ => ⟨S4352x1024, .f32⟩
  | .hbm, ⟨40, _⟩ => ⟨S4352x1024, .f32⟩
  | .hbm, ⟨41, _⟩ => ⟨S4352x1024, .f32⟩
  | .hbm, ⟨42, _⟩ => ⟨S4352x1024, .f32⟩
  | .hbm, ⟨43, _⟩ => ⟨S4352x1024, .bf16⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩

abbrev nD : Nat := 1
abbrev τ : Topo := Topo.v7x

variable {F : FTy → Type} [FloatOps F]
-- ==== Kernel52.lean ====
abbrev S4352x1024 : Shape := ⟨2, ![4352, 1024]⟩
abbrev S1088x1024 : Shape := ⟨2, ![1088, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4352x1024, .f32⟩
  | .hbm, ⟨1, _⟩ => ⟨S4352x1024, .f32⟩
  | .hbm, ⟨2, _⟩ => ⟨S4352x1024, .bf16⟩
  | .local _ .vmem, ⟨0, _⟩ => ⟨S1088x1024, .f32⟩
  | .local _ .vmem, ⟨1, _⟩ => ⟨S1088x1024, .f32⟩
  | .local _ .vmem, ⟨2, _⟩ => ⟨S1088x1024, .f32⟩
  | .local _ .vmem, ⟨3, _⟩ => ⟨S1088x1024, .f32⟩
  | .local _ .vmem, ⟨4, _⟩ => ⟨S1088x1024, .bf16⟩
  | .local _ .vmem, ⟨5, _⟩ => ⟨S1088x1024, .bf16⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1088x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1088x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1088x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference52Ideal.lean ====
abbrev S4352x1024 : Shape := ⟨2, ![4352, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S4352x1024, .f32⟩
  | .hbm, ⟨2, _⟩ => ⟨S4352x1024, .f32⟩
  | .hbm, ⟨3, _⟩ => ⟨S4352x1024, .bf16⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.UpDh.lean ====
/- The cotangent of the feed-forward's up projection with respect to its input: `dU · upᵀ`. -/
module

public import proofs.«01_k».proof.Proof.Gen.Kernel2Ideal.Value
public import proofs.«01_k».proof.Proof.Gen.Reference2Ideal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel2Ideal.Value

open Cert.Kernel2Ideal Cert.Kernel2Ideal.Gen

variable (m : (ℓ : Loc nD τ sig) → Buf (Elt Ideal) ℓ) (c : Dev nD)

/-- What the reference computes of its two arguments: value and gate side by side against the assembled weight. -/
abbrev REF (X0 : FVec Ideal S2x4352x5632 .bf16) (X1 : FVec Ideal S4x2x2048x2816 .bf16) : FVec Ideal S4352x2048 .f32 :=
  Host.dotGeneral Cert.Reference2Ideal.dot_S4352x11264_S2048x11264_S4352x2048_1_1_0_0_n_n none (shapeCast _ (transpose Cert.Reference2Ideal.S4352x2x5632 [1, 0, 2] (extf .f32 X0 Cert.Reference2Ideal.Gen.bitsLt_bf16_f32) Cert.Reference2Ideal.Gen.transposes_S2x4352x5632_S4352x2x5632_1_0_2) Cert.Reference2Ideal.Gen.shapeCasts_S4352x2x5632_S4352x11264) (shapeCast _ (transpose Cert.Reference2Ideal.S2048x4x2816 [1, 0, 2] (extf .f32 (shapeCast _ (extractStridedSlice Cert.Reference2Ideal.S4x1x2048x2816 ![0, 0, 0, 0] X1 Cert.Reference2Ideal.Gen.slices_S4x2x2048x2816_S4x1x2048x2816_0_0_0_0) Cert.Reference2Ideal.Gen.shapeCasts_S4x1x2048x2816_S4x2048x2816) Cert.Reference2Ideal.Gen.bitsLt_bf16_f32) Cert.Reference2Ideal.Gen.transposes_S4x2048x2816_S2048x4x2816_1_0_2) Cert.Reference2Ideal.Gen.shapeCasts_S2048x4x2816_S2048x11264)

theorem idx : ∀ t : Fin cfg0.N, win0_0.index t = ![t.val % 8 / 4, t.val / 8, t.val % 4] ∧ win0_1.index t = ![t.val % 8 / 2, 0, 0, t.val % 2] ∧ win0_2.index t = ![t.val / 8, 0] :=
  (by decide +kernel : ∀ t : Fin grid0.N, _)

/-- The product of one block. -/
theorem first (x0 : Vec Ideal S1x1088x1408 .bf16) (x1 : Vec Ideal S1x1x2048x1408 .bf16) (j : S1088x2048.Idx) :
    k0_pay1 x0 x1 j = ∑ k : Fin 1408, x0 (ix3 0 (j 0) k) * x1 (ix4 0 0 (j 1) k) := by pointwise [k0_pay1]
/-- One more product added. -/
theorem step (x0 : Vec Ideal S1x1088x1408 .bf16) (x1 : Vec Ideal S1x1x2048x1408 .bf16) (a : Vec Ideal S1088x2048 .f32) (j : S1088x2048.Idx) :
    k0_pay2 x0 x1 a j = a j + ∑ k : Fin 1408, x0 (ix3 0 (j 0) k) * x1 (ix4 0 0 (j 1) k) := by pointwise [k0_pay2, k0_pay1]
/-- The reference's entry as one contraction. -/
theorem whole (X0 : FVec Ideal S2x4352x5632 .bf16) (X1 : FVec Ideal S4x2x2048x2816 .bf16) (j : S4352x2048.Idx) :
    REF X0 X1 j = ∑ l : Fin 11264, X0 (ix3 ⟨l.val / 5632, by omega⟩ (j 0) ⟨l.val % 5632, by omega⟩) * X1 (ix4 ⟨l.val / 2816, by omega⟩ 0 (j 1) ⟨l.val % 2816, by omega⟩) := by
  pointwise [REF]

/-- The whole result: the 8 partial products of a block of rows, added up from the first, are the contraction over all 11264. -/
theorem final : (dats m 0 c).arrAt 2 cfg0.N = REF (m ((c : Thread nD τ).loc main_arg0)) (m ((c : Thread nD τ).loc main_arg1)) := by
  refine (dats m 0 c).arrAt_eq_of_covers 2 _ (by decide +kernel) fun t hf y => ?_
  have ht : t.val < 32 := t.isLt
  blk_simp
  rw [after0_2, Pipeline.eq_sum_fin_of_reset_step_apply_of_flush (fun n h => outsAt0 m c n h) 8 (fun _ => 0) _
    (fun t h j => by rw [outsAt0_A m c t h (by omega)]; frame_out; rw [first, zero_add])
    (fun t h j => by rw [outsAt0_B m c t h (by omega)]; frame_out; rw [step])
    t ((flush0_2 t).mp hf) _, zero_add, whole]
  refine Fin.sum_mul_add_congr fun s k hl => ?_
  blk_point [iblk, V, idx t, idx ⟨_, Pipeline.run_point_lt_of_flush t ((flush0_2 t).mp hf) s⟩]

end Cert.Kernel2Ideal.Value

end
-- ==== Proof.Sums.lean ====
/- Finite sums cut into consecutive runs. -/
module

public import Mathlib.Algebra.BigOperators.Fin
public import Mathlib.Data.EReal.Basic

@[expose] public section

namespace Cert.Sums

/-- A sum over `n = a + b` indices is the sum over the first `a` plus the sum over the last `b`. -/
theorem split (a b : ℕ) {n : ℕ} (h : n = a + b) (f : Fin n → EReal) :
    ∑ i, f i = (∑ i : Fin a, f ⟨i, by omega⟩) + ∑ i : Fin b, f ⟨a + i, by omega⟩ := by
  subst h
  exact Fin.sum_univ_add f

/-- A sum over 5632 indices as four sums of 1408, added up from the first. -/
theorem quarters (f : Fin 5632 → EReal) : ∑ i, f i
    = (((∑ k : Fin 1408, f ⟨k, by omega⟩) + ∑ k : Fin 1408, f ⟨1408 + k, by omega⟩)
        + ∑ k : Fin 1408, f ⟨2816 + k, by omega⟩) + ∑ k : Fin 1408, f ⟨4224 + k, by omega⟩ := by
  rw [split 4224 1408 rfl, split 2816 1408 rfl, split 1408 1408 rfl]

/-- A sum over 4352 rows as four blocks of 1024 and a last one of 256, added up from the first. -/
theorem rows (f : Fin 4352 → EReal) : ∑ i, f i
    = ((((∑ k : Fin 1024, f ⟨k, by omega⟩) + ∑ k : Fin 1024, f ⟨1024 + k, by omega⟩)
        + ∑ k : Fin 1024, f ⟨2048 + k, by omega⟩) + ∑ k : Fin 1024, f ⟨3072 + k, by omega⟩)
        + ∑ k : Fin 256, f ⟨4096 + k, by omega⟩ := by
  rw [split 4096 256 rfl, split 3072 1024 rfl, split 2048 1024 rfl, split 1024 1024 rfl]

/-- A product over 4352 rows, taken in runs of five steps. In a run the first step puts its block's product `L` into an
    accumulator, the next three add theirs, and the last adds its shorter block's product `C` into the result. So the
    result after a run's last step is the sum over all the rows. -/
theorem run {N : ℕ} (a b L C : Fin N → EReal)
    (h0 : ∀ t : Fin N, t.val % 5 = 0 → a t = L t)
    (h1 : ∀ t : Fin N, (1 ≤ t.val % 5 ∧ t.val % 5 ≤ 3) → ∀ h' : t.val - 1 < N, a t = a ⟨t.val - 1, h'⟩ + L t)
    (h2 : ∀ t : Fin N, t.val % 5 = 4 → ∀ h' : t.val - 1 < N, b t = a ⟨t.val - 1, h'⟩ + C t)
    (t : Fin N) (ht : t.val % 5 = 4) (f : Fin 4352 → EReal)
    (hL : ∀ s : Fin N, s.val / 5 = t.val / 5 → ∀ h3 : s.val % 5 ≤ 3, L s = ∑ k : Fin 1024, f ⟨s.val % 5 * 1024 + k.val, by omega⟩)
    (hC : C t = ∑ k : Fin 256, f ⟨4096 + k.val, by omega⟩) : b t = ∑ i, f i := by
  have hN := t.isLt
  have e (s : Fin N) (hs : s.val / 5 = t.val / 5) (q : ℕ) (hq : s.val % 5 = q) (h3 : q ≤ 3) :
      L s = ∑ k : Fin 1024, f ⟨q * 1024 + k.val, by omega⟩ := by subst hq; exact hL s hs h3
  have e0 := e ⟨t.val - 1 - 1 - 1 - 1, by omega⟩ (by dsimp only; omega) 0 (by dsimp only; omega) (by omega)
  have e1 := e ⟨t.val - 1 - 1 - 1, by omega⟩ (by dsimp only; omega) 1 (by dsimp only; omega) (by omega)
  have e2 := e ⟨t.val - 1 - 1, by omega⟩ (by dsimp only; omega) 2 (by dsimp only; omega) (by omega)
  have e3 := e ⟨t.val - 1, by omega⟩ (by dsimp only; omega) 3 (by dsimp only; omega) (by omega)
  rw [h2 t ht (by omega), h1 ⟨t.val - 1, by omega⟩ (by dsimp only; omega) (by dsimp only; omega),
    h1 ⟨t.val - 1 - 1, by omega⟩ (by dsimp only; omega) (by dsimp only; omega),
    h1 ⟨t.val - 1 - 1 - 1, by omega⟩ (by dsimp only; omega) (by dsimp only; omega),
    h0 ⟨t.val - 1 - 1 - 1 - 1, by omega⟩ (by dsimp only; omega), e0, e1, e2, e3, hC, rows]
  simp only [Nat.zero_mul, Nat.one_mul, Nat.zero_add, Nat.reduceMul]

end Cert.Sums

end
-- ==== Proof.UpDw.lean ====
/- The weight gradient of the feed-forward's up projection, written into its layer of the gradients: `hᵀ · dU`. -/
module

public import proofs.«01_k».proof.Proof.Gen.Kernel3Ideal.Value
public import proofs.«01_k».proof.Proof.Gen.Reference3Ideal
public import Idealize.ShloMosaic.Lib.Pipeline.ValueKit
public import Idealize.ShloMosaic.Lib.Pipeline.ReadBack
public import proofs.«01_k».proof.Proof.Sums

@[expose] public section

set_option maxRecDepth 16384

noncomputable section

open Idealize.ShloMosaic Idealize.ShloMosaic.TcCoe Idealize.SL.Sem
open Idealize.ShloMosaic.Pipeline (Dat)

namespace Cert.Kernel3Ideal.Value

open Cert.Kernel3Ideal Cert.Kernel3Ideal.Gen

variable (m : (ℓ : Loc nD τ sig) → Buf (Elt Ideal) ℓ) (c : Dev nD)

/-- What the reference computes of its arguments: the gradient in layer 0, the third argument in layer 1. -/
abbrev REF (X0 : FVec Ideal S4352x2048 .bf16) (X1 : FVec Ideal S2x4352x5632 .bf16) (X2 : FVec Ideal S2x4x2048x2816 .bf16) : FVec Ideal S2x4x2048x2816 .bf16 :=
  concatenate Cert.Reference3Ideal.S2x4x2048x2816 0 [⟨Cert.Reference3Ideal.S1x4x2048x2816, (broadcastInDim Cert.Reference3Ideal.S1x4x2048x2816 ![1, 2, 3] Cert.Reference3Ideal.Gen.bcast_S4x2048x2816_S1x4x2048x2816_1_2_3 (truncf .bf16 (transpose Cert.Reference3Ideal.S4x2048x2816 [1, 0, 2] (shapeCast _ (transpose Cert.Reference3Ideal.S2048x11264 [1, 0] (Host.dotGeneral Cert.Reference3Ideal.dot_S4352x11264_S4352x2048_S11264x2048_0_0_1_1_n_n none (shapeCast _ (transpose Cert.Reference3Ideal.S4352x2x5632 [1, 0, 2] (extf .f32 X1 Cert.Reference3Ideal.Gen.bitsLt_bf16_f32) Cert.Reference3Ideal.Gen.transposes_S2x4352x5632_S4352x2x5632_1_0_2) Cert.Reference3Ideal.Gen.shapeCasts_S4352x2x5632_S4352x11264) (extf .f32 X0 Cert.Reference3Ideal.Gen.bitsLt_bf16_f32)) Cert.Reference3Ideal.Gen.transposes_S11264x2048_S2048x11264_1_0) Cert.Reference3Ideal.Gen.shapeCasts_S2048x11264_S2048x4x2816) Cert.Reference3Ideal.Gen.transposes_S2048x4x2816_S4x2048x2816_1_0_2) Cert.Reference3Ideal.Gen.bitsLt_bf16_f32))⟩, ⟨Cert.Reference3Ideal.S1x4x2048x2816, (broadcastInDim Cert.Reference3Ideal.S1x4x2048x2816 ![1, 2, 3] Cert.Reference3Ideal.Gen.bcast_S4x2048x2816_S1x4x2048x2816_1_2_3 (shapeCast _ (extractStridedSlice Cert.Reference3Ideal.S1x4x2048x2816 ![1, 0, 0, 0] X2 Cert.Reference3Ideal.Gen.slices_S2x4x2048x2816_S1x4x2048x2816_1_0_0_0) Cert.Reference3Ideal.Gen.shapeCasts_S1x4x2048x2816_S4x2048x2816))⟩] Cert.Reference3Ideal.Gen.concatenates_S1x4x2048x2816_S1x4x2048x2816_S2x4x2048x2816_d0

theorem idx : ∀ t : Fin cfg0.N, win0_0.index t = ![min (t.val % 5) 3, 0] ∧ win0_1.index t = ![16, 0] ∧ win0_2.index t = ![t.val / 5 / 4, min (t.val % 5) 3, t.val / 5 % 4] ∧ win0_3.index t = ![t.val / 5 / 4, 16, t.val / 5 % 4] ∧ win0_4.index t = ![0, t.val / 5 / 2, 0, t.val / 5 % 2] :=
  (by decide +kernel : ∀ t : Fin grid0.N, _)

/-- The product of one block of rows. -/
theorem first (a : Vec Ideal S1024x2048 .bf16) (d : Vec Ideal S1x1024x1408 .bf16) (j : S2048x1408.Idx) :
    k0_pay1 a d j = ∑ k : Fin 1024, a (ix2 k (j 0)) * d (ix3 0 k (j 1)) := by pointwise [k0_pay1]
/-- One more block of rows added. -/
theorem step (a : Vec Ideal S1024x2048 .bf16) (d : Vec Ideal S1x1024x1408 .bf16) (x : Vec Ideal S2048x1408 .f32) (j : S2048x1408.Idx) :
    k0_pay2 x a d j = x j + ∑ k : Fin 1024, a (ix2 k (j 0)) * d (ix3 0 k (j 1)) := by pointwise [k0_pay2]
/-- The last, shorter block of rows added. -/
theorem last (a : Vec Ideal S256x2048 .bf16) (d : Vec Ideal S1x256x1408 .bf16) (x : Vec Ideal S2048x1408 .f32) (y : S1x1x2048x1408.Idx) :
    k0_pay3 x a d y = x (ix2 (y 2) (y 3)) + ∑ k : Fin 256, a (ix2 k (y 2)) * d (ix3 0 k (y 3)) := by pointwise [k0_pay3]

/-- The reference's entry in the layer the gradient is of, as one contraction over all rows. -/
theorem whole (X0 : FVec Ideal S4352x2048 .bf16) (X1 : FVec Ideal S2x4352x5632 .bf16) (X2 : FVec Ideal S2x4x2048x2816 .bf16) (j : S2x4x2048x2816.Idx) (hj : (j 0).val = 0) :
    REF X0 X1 X2 j = ∑ k : Fin 4352, X1 (ix3 ⟨((j 1).val * 2816 + (j 3).val) / 5632, by have h1 : (j 1).val < 4 := (j 1).isLt; have h3 : (j 3).val < 2816 := (j 3).isLt; omega⟩ k ⟨((j 1).val * 2816 + (j 3).val) % 5632, by have h1 : (j 1).val < 4 := (j 1).isLt; have h3 : (j 3).val < 2816 := (j 3).isLt; omega⟩) * X0 (ix2 k (j 2)) := by
  pointwise [REF, hj]
/-- In the other layer the reference keeps its third argument. -/
theorem kept (X0 : FVec Ideal S4352x2048 .bf16) (X1 : FVec Ideal S2x4352x5632 .bf16) (X2 : FVec Ideal S2x4x2048x2816 .bf16) (j : S2x4x2048x2816.Idx) (hj : ¬ ((j 0).val = 0)) :
    REF X0 X1 X2 j = X2 j := by
  pointwise [REF]
  have h0 : (j 0).val < 2 := (j 0).isLt
  have h1 : (j 1).val < 4 := (j 1).isLt
  split_ifs
  all_goals first
    | (exfalso; omega)
    | (refine congrArg X2 (funext fun a => ?_)
       match a with
       | 0 => exact Fin.ext (by first | (show 0 = (j 0).val; omega) | (show 1 = (j 0).val; omega))
       | 1 => first | rfl | exact Fin.ext (by show 3 = (j 1).val; omega) | exact Fin.ext (by dsimp only [ix4]; omega)
       | 2 => rfl
       | 3 => rfl)

/-- The block of 1024 rows of the first factor at a grid point. -/
abbrev La (t : Fin cfg0.N) : Vec Ideal S1024x2048 .bf16 := X0_0 m c t
/-- The block of 1024 rows of the second factor at a grid point. -/
abbrev Ld (t : Fin cfg0.N) : Vec Ideal S1x1024x1408 .bf16 := X0_2 m c t
/-- The last 256 rows of the first factor. -/
abbrev Ca (t : Fin cfg0.N) : Vec Ideal S256x2048 .bf16 := iblk m c 1 t
/-- The last 256 rows of the second factor. -/
abbrev Cd (t : Fin cfg0.N) : Vec Ideal S1x256x1408 .bf16 := iblk m c 3 t

/-- Where the first factor's block of rows lies in its array. -/
theorem La_at (t : Fin cfg0.N) (k : Fin 1024) (r : Fin 2048) : La m c t (ix2 k r) = m ((c : Thread nD τ).loc main_arg0) (ix2 ⟨min (t.val % 5) 3 * 1024 + k.val, by omega⟩ r) := by
  have ht : t.val < 40 := t.isLt
  unfold La X0_0 Pipeline.Window.fill
  rw [dif_pos (moved0_0 t _)]
  blk_point [iblk, V, idx t]
/-- Where the second factor's block of rows lies in its array. -/
theorem Ld_at (t : Fin cfg0.N) (k : Fin 1024) (r : Fin 1408) : Ld m c t (ix3 0 k r) = m ((c : Thread nD τ).loc main_arg1) (ix3 ⟨t.val / 5 / 4, by have ht : t.val < 40 := t.isLt; omega⟩ ⟨min (t.val % 5) 3 * 1024 + k.val, by omega⟩ ⟨t.val / 5 % 4 * 1408 + r.val, by omega⟩) := by
  have ht : t.val < 40 := t.isLt
  unfold Ld X0_2 Pipeline.Window.fill
  rw [dif_pos (moved0_2 t _)]
  blk_point [iblk, V, idx t]
/-- Where the first factor's last rows lie in its array. -/
theorem Ca_at (t : Fin cfg0.N) (k : Fin 256) (r : Fin 2048) : Ca m c t (ix2 k r) = m ((c : Thread nD τ).loc main_arg0) (ix2 ⟨4096 + k.val, by omega⟩ r) := by
  have ht : t.val < 40 := t.isLt
  blk_point [Ca, iblk, V, idx t]
/-- Where the second factor's last rows lie in its array. -/
theorem Cd_at (t : Fin cfg0.N) (k : Fin 256) (r : Fin 1408) : Cd m c t (ix3 0 k r) = m ((c : Thread nD τ).loc main_arg1) (ix3 ⟨t.val / 5 / 4, by have ht : t.val < 40 := t.isLt; omega⟩ ⟨4096 + k.val, by omega⟩ ⟨t.val / 5 % 4 * 1408 + r.val, by omega⟩) := by
  have ht : t.val < 40 := t.isLt
  blk_point [Cd, iblk, V, idx t]

/-- The partial sum a grid point leaves: a fresh product at the first block of rows. -/
theorem acc_first (t : Fin cfg0.N) (h : t.val % 5 = 0) (j : S2048x1408.Idx) : (outsAt0 m c t.val t.isLt).2 j
    = ∑ k : Fin 1024, La m c t (ix2 k (j 0)) * Ld m c t (ix3 0 k (j 1)) := by
  rw [outsAt0_A m c t h (by omega) (by omega)]; frame_out; exact first _ _ j
/-- The partial sum a grid point leaves: one product more at the next three. -/
theorem acc_step (t : Fin cfg0.N) (h : 1 ≤ t.val % 5 ∧ t.val % 5 ≤ 3) (h' : t.val - 1 < cfg0.N) (j : S2048x1408.Idx) : (outsAt0 m c t.val t.isLt).2 j
    = (outsAt0 m c (t.val - 1) h').2 j + ∑ k : Fin 1024, La m c t (ix2 k (j 0)) * Ld m c t (ix3 0 k (j 1)) := by
  rw [outsAt0_B m c t (by omega) h (by omega)]; frame_out; rw [read_unread_whole]; exact step _ _ _ j
/-- What a last grid point of a run stores: the partial sum and the last, shorter block of rows. -/
theorem acc_last (t : Fin cfg0.N) (h : t.val % 5 = 4) (h' : t.val - 1 < cfg0.N) (y : S1x1x2048x1408.Idx) : (outsAt0 m c t.val t.isLt).1 y
    = (outsAt0 m c (t.val - 1) h').2 (ix2 (y 2) (y 3)) + ∑ k : Fin 256, Ca m c t (ix2 k (y 2)) * Cd m c t (ix3 0 k (y 3)) := by
  rw [outsAt0_C m c t (by omega) (by omega) h]; frame_out; rw [read_unread_whole]; exact last _ _ _ y

/-- The whole result: in the layer the gradient is of, the five blocks of rows added up; the other layer untouched. -/
theorem final : (dats m 0 c).arrAt 4 cfg0.N = REF (m ((c : Thread nD τ).loc main_arg0)) (m ((c : Thread nD τ).loc main_arg1)) (m ((c : Thread nD τ).loc main_arg2)) := by
  refine (dats m 0 c).arrAt_eq_of_coversWhere_of_agree 4 _ (fun β => β (0 : Fin _) = 0) (by decide +kernel) (fun t hf y => ?_) (fun j hj => ?_)
  · have ht : t.val < 40 := t.isLt
    have h4 := (flush0_4 t).mp hf
    blk_simp
    rw [after0_4, whole]
    · refine Sums.run (fun s => (outsAt0 m c s.val s.isLt).2 (ix2 (y 2) (y 3))) (fun s => (outsAt0 m c s.val s.isLt).1 y) _ _ (fun s h => acc_first m c s h _)
        (fun s h h' => acc_step m c s h h' _) (fun s h h' => acc_last m c s h h' y) t h4 _ (fun s hs h3 => Finset.sum_congr rfl fun k _ => (EReal.mul_comm _ _).trans ?_)
        (Finset.sum_congr rfl fun k _ => (EReal.mul_comm _ _).trans ?_)
      · refine (congrArg₂ (fun a b : EReal => a * b) (Ld_at m c s k _) (La_at m c s k _)).trans ?_
        blk_point [idx t]
      · refine (congrArg₂ (fun a b : EReal => a * b) (Cd_at m c t k _) (Ca_at m c t k _)).trans ?_
        blk_point [idx t]
    · blk_simp [idx t]
  · blk_simp [Pipeline.Window.cell_apply] at hj
    rw [kept _ _ _ _ (by blk_simp; omega)]
    show V m c main_v0 _ = _
    entry_read
    rfl

end Cert.Kernel3Ideal.Value

end
-- ==== Proof.DownDa.lean ====
/- The cotangent of the feed-forward's down projection with respect to its input: `dY · downᵀ`. -/
module

public import proofs.«01_k».proof.Proof.Gen.Kernel4Ideal.Value
public import proofs.«01_k».proof.Proof.Gen.Reference4Ideal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel4Ideal.Value

open Cert.Kernel4Ideal Cert.Kernel4Ideal.Gen

variable (m : (ℓ : Loc nD τ sig) → Buf (Elt Ideal) ℓ) (c : Dev nD)

/-- What the reference computes of its two arguments: `dY` against the rows of the assembled weight. -/
abbrev REF (dY : FVec Ideal S4352x2048 .bf16) (W : FVec Ideal S4x2x1408x2048 .bf16) : FVec Ideal S4352x5632 .f32 :=
  Host.dotGeneral Cert.Reference4Ideal.dot_S4352x2048_S5632x2048_S4352x5632_1_1_0_0_n_n none (extf .f32 dY Cert.Reference4Ideal.Gen.bitsLt_bf16_f32)
    (shapeCast _ (extf .f32 (shapeCast _ (extractStridedSlice Cert.Reference4Ideal.S4x1x1408x2048 ![0, 0, 0, 0] W Cert.Reference4Ideal.Gen.slices_S4x2x1408x2048_S4x1x1408x2048_0_0_0_0)
      Cert.Reference4Ideal.Gen.shapeCasts_S4x1x1408x2048_S4x1408x2048) Cert.Reference4Ideal.Gen.bitsLt_bf16_f32) Cert.Reference4Ideal.Gen.shapeCasts_S4x1408x2048_S5632x2048)

theorem idx : ∀ t : Fin cfg0.N, win0_0.index t = ![t.val % 4, 0] ∧ win0_1.index t = ![t.val / 4, 0, 0, 0] ∧ win0_2.index t = ![t.val % 4, t.val / 4] :=
  (by decide +kernel : ∀ t : Fin grid0.N, _)

/-- What grid point `t` stores at `y` is the reference's entry where `y` lies in the array. -/
theorem point (t : Fin cfg0.N) (y : S1088x1408.Idx) : k0_pay1 (iblk m c 0 t) (iblk m c 1 t) y
    = REF (m ((c : Thread nD τ).loc main_arg0)) (m ((c : Thread nD τ).loc main_arg1)) (((cfg0.win 2).blk t).view.emb y) := by
  have ht : t.val < 16 := t.isLt
  pointwise [k0_pay1, REF]
  blk_point [iblk, V, idx t]

/-- The whole result. -/
theorem final : (dats m 0 c).arrAt 2 cfg0.N = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel4Ideal.Value

end
-- ==== Proof.DownDw.lean ====
/- The weight gradient of the feed-forward's down projection, written into its layer of the gradients: `aᵀ · dY`. -/
module

public import proofs.«01_k».proof.Proof.Gen.Kernel5Ideal.Value
public import proofs.«01_k».proof.Proof.Gen.Reference5Ideal
public import Idealize.ShloMosaic.Lib.Pipeline.ValueKit
public import Idealize.ShloMosaic.Lib.Pipeline.ReadBack
public import proofs.«01_k».proof.Proof.Sums

@[expose] public section

set_option maxRecDepth 16384

noncomputable section

open Idealize.ShloMosaic Idealize.ShloMosaic.TcCoe Idealize.SL.Sem
open Idealize.ShloMosaic.Pipeline (Dat)

namespace Cert.Kernel5Ideal.Value

open Cert.Kernel5Ideal Cert.Kernel5Ideal.Gen

variable (m : (ℓ : Loc nD τ sig) → Buf (Elt Ideal) ℓ) (c : Dev nD)

/-- What the reference computes of its arguments: the gradient in layer 0, the third argument in layer 1. -/
abbrev REF (X0 : FVec Ideal S4352x5632 .bf16) (X1 : FVec Ideal S4352x2048 .bf16) (X2 : FVec Ideal S2x4x1408x2048 .bf16) : FVec Ideal S2x4x1408x2048 .bf16 :=
  concatenate Cert.Reference5Ideal.S2x4x1408x2048 0 [⟨Cert.Reference5Ideal.S1x4x1408x2048, (broadcastInDim Cert.Reference5Ideal.S1x4x1408x2048 ![1, 2, 3] Cert.Reference5Ideal.Gen.bcast_S4x1408x2048_S1x4x1408x2048_1_2_3 (truncf .bf16 (shapeCast _ (transpose Cert.Reference5Ideal.S5632x2048 [1, 0] (Host.dotGeneral Cert.Reference5Ideal.dot_S4352x2048_S4352x5632_S2048x5632_0_0_1_1_n_n none (extf .f32 X1 Cert.Reference5Ideal.Gen.bitsLt_bf16_f32) (extf .f32 X0 Cert.Reference5Ideal.Gen.bitsLt_bf16_f32)) Cert.Reference5Ideal.Gen.transposes_S2048x5632_S5632x2048_1_0) Cert.Reference5Ideal.Gen.shapeCasts_S5632x2048_S4x1408x2048) Cert.Reference5Ideal.Gen.bitsLt_bf16_f32))⟩, ⟨Cert.Reference5Ideal.S1x4x1408x2048, (broadcastInDim Cert.Reference5Ideal.S1x4x1408x2048 ![1, 2, 3] Cert.Reference5Ideal.Gen.bcast_S4x1408x2048_S1x4x1408x2048_1_2_3 (shapeCast _ (extractStridedSlice Cert.Reference5Ideal.S1x4x1408x2048 ![1, 0, 0, 0] X2 Cert.Reference5Ideal.Gen.slices_S2x4x1408x2048_S1x4x1408x2048_1_0_0_0) Cert.Reference5Ideal.Gen.shapeCasts_S1x4x1408x2048_S4x1408x2048))⟩] Cert.Reference5Ideal.Gen.concatenates_S1x4x1408x2048_S1x4x1408x2048_S2x4x1408x2048_d0

theorem idx : ∀ t : Fin cfg0.N, win0_0.index t = ![min (t.val % 5) 3, t.val / 5] ∧ win0_1.index t = ![16, t.val / 5] ∧ win0_2.index t = ![min (t.val % 5) 3, 0] ∧ win0_3.index t = ![16, 0] ∧ win0_4.index t = ![0, t.val / 5, 0, 0] :=
  (by decide +kernel : ∀ t : Fin grid0.N, _)

/-- The product of one block of rows. -/
theorem first (a : Vec Ideal S1024x1408 .bf16) (d : Vec Ideal S1024x2048 .bf16) (j : S1408x2048.Idx) :
    k0_pay1 a d j = ∑ k : Fin 1024, a (ix2 k (j 0)) * d (ix2 k (j 1)) := by pointwise [k0_pay1]
/-- One more block of rows added. -/
theorem step (a : Vec Ideal S1024x1408 .bf16) (d : Vec Ideal S1024x2048 .bf16) (x : Vec Ideal S1408x2048 .f32) (j : S1408x2048.Idx) :
    k0_pay2 x a d j = x j + ∑ k : Fin 1024, a (ix2 k (j 0)) * d (ix2 k (j 1)) := by pointwise [k0_pay2]
/-- The last, shorter block of rows added. -/
theorem last (a : Vec Ideal S256x1408 .bf16) (d : Vec Ideal S256x2048 .bf16) (x : Vec Ideal S1408x2048 .f32) (y : S1x1x1408x2048.Idx) :
    k0_pay3 x a d y = x (ix2 (y 2) (y 3)) + ∑ k : Fin 256, a (ix2 k (y 2)) * d (ix2 k (y 3)) := by pointwise [k0_pay3]

/-- The reference's entry in the layer the gradient is of, as one contraction over all rows. -/
theorem whole (X0 : FVec Ideal S4352x5632 .bf16) (X1 : FVec Ideal S4352x2048 .bf16) (X2 : FVec Ideal S2x4x1408x2048 .bf16) (j : S2x4x1408x2048.Idx) (hj : (j 0).val = 0) :
    REF X0 X1 X2 j = ∑ k : Fin 4352, X1 (ix2 k (j 3)) * X0 (ix2 k ⟨(j 1).val * 1408 + (j 2).val, by have h1 : (j 1).val < 4 := (j 1).isLt; have h2 : (j 2).val < 1408 := (j 2).isLt; omega⟩) := by
  pointwise [REF, hj]
/-- In the other layer the reference keeps its third argument. -/
theorem kept (X0 : FVec Ideal S4352x5632 .bf16) (X1 : FVec Ideal S4352x2048 .bf16) (X2 : FVec Ideal S2x4x1408x2048 .bf16) (j : S2x4x1408x2048.Idx) (hj : ¬ ((j 0).val = 0)) :
    REF X0 X1 X2 j = X2 j := by
  pointwise [REF]
  have h0 : (j 0).val < 2 := (j 0).isLt
  have h1 : (j 1).val < 4 := (j 1).isLt
  split_ifs
  all_goals first
    | (exfalso; omega)
    | (refine congrArg X2 (funext fun a => ?_)
       match a with
       | 0 => exact Fin.ext (by first | (show 0 = (j 0).val; omega) | (show 1 = (j 0).val; omega))
       | 1 => first | rfl | exact Fin.ext (by show 3 = (j 1).val; omega) | exact Fin.ext (by dsimp only [ix4]; omega)
       | 2 => rfl
       | 3 => rfl)

/-- The block of 1024 rows of the first factor at a grid point. -/
abbrev La (t : Fin cfg0.N) : Vec Ideal S1024x1408 .bf16 := X0_0 m c t
/-- The block of 1024 rows of the second factor at a grid point. -/
abbrev Ld (t : Fin cfg0.N) : Vec Ideal S1024x2048 .bf16 := X0_2 m c t
/-- The last 256 rows of the first factor. -/
abbrev Ca (t : Fin cfg0.N) : Vec Ideal S256x1408 .bf16 := iblk m c 1 t
/-- The last 256 rows of the second factor. -/
abbrev Cd (t : Fin cfg0.N) : Vec Ideal S256x2048 .bf16 := iblk m c 3 t

/-- Where the first factor's block of rows lies in its array. -/
theorem La_at (t : Fin cfg0.N) (k : Fin 1024) (r : Fin 1408) : La m c t (ix2 k r) = m ((c : Thread nD τ).loc main_arg0) (ix2 ⟨min (t.val % 5) 3 * 1024 + k.val, by omega⟩ ⟨t.val / 5 * 1408 + r.val, by have ht : t.val < 20 := t.isLt; omega⟩) := by
  have ht : t.val < 20 := t.isLt
  unfold La X0_0 Pipeline.Window.fill
  rw [dif_pos (moved0_0 t _)]
  blk_point [iblk, V, idx t]
/-- Where the second factor's block of rows lies in its array. -/
theorem Ld_at (t : Fin cfg0.N) (k : Fin 1024) (r : Fin 2048) : Ld m c t (ix2 k r) = m ((c : Thread nD τ).loc main_arg1) (ix2 ⟨min (t.val % 5) 3 * 1024 + k.val, by omega⟩ r) := by
  have ht : t.val < 20 := t.isLt
  unfold Ld X0_2 Pipeline.Window.fill
  rw [dif_pos (moved0_2 t _)]
  blk_point [iblk, V, idx t]
/-- Where the first factor's last rows lie in its array. -/
theorem Ca_at (t : Fin cfg0.N) (k : Fin 256) (r : Fin 1408) : Ca m c t (ix2 k r) = m ((c : Thread nD τ).loc main_arg0) (ix2 ⟨4096 + k.val, by omega⟩ ⟨t.val / 5 * 1408 + r.val, by have ht : t.val < 20 := t.isLt; omega⟩) := by
  have ht : t.val < 20 := t.isLt
  blk_point [Ca, iblk, V, idx t]
/-- Where the second factor's last rows lie in its array. -/
theorem Cd_at (t : Fin cfg0.N) (k : Fin 256) (r : Fin 2048) : Cd m c t (ix2 k r) = m ((c : Thread nD τ).loc main_arg1) (ix2 ⟨4096 + k.val, by omega⟩ r) := by
  have ht : t.val < 20 := t.isLt
  blk_point [Cd, iblk, V, idx t]

/-- The partial sum a grid point leaves: a fresh product at the first block of rows. -/
theorem acc_first (t : Fin cfg0.N) (h : t.val % 5 = 0) (j : S1408x2048.Idx) : (outsAt0 m c t.val t.isLt).2 j
    = ∑ k : Fin 1024, La m c t (ix2 k (j 0)) * Ld m c t (ix2 k (j 1)) := by
  rw [outsAt0_A m c t h (by omega) (by omega)]; frame_out; exact first _ _ j
/-- The partial sum a grid point leaves: one product more at the next three. -/
theorem acc_step (t : Fin cfg0.N) (h : 1 ≤ t.val % 5 ∧ t.val % 5 ≤ 3) (h' : t.val - 1 < cfg0.N) (j : S1408x2048.Idx) : (outsAt0 m c t.val t.isLt).2 j
    = (outsAt0 m c (t.val - 1) h').2 j + ∑ k : Fin 1024, La m c t (ix2 k (j 0)) * Ld m c t (ix2 k (j 1)) := by
  rw [outsAt0_B m c t (by omega) h (by omega)]; frame_out; rw [read_unread_whole]; exact step _ _ _ j
/-- What a last grid point of a run stores: the partial sum and the last, shorter block of rows. -/
theorem acc_last (t : Fin cfg0.N) (h : t.val % 5 = 4) (h' : t.val - 1 < cfg0.N) (y : S1x1x1408x2048.Idx) : (outsAt0 m c t.val t.isLt).1 y
    = (outsAt0 m c (t.val - 1) h').2 (ix2 (y 2) (y 3)) + ∑ k : Fin 256, Ca m c t (ix2 k (y 2)) * Cd m c t (ix2 k (y 3)) := by
  rw [outsAt0_C m c t (by omega) (by omega) h]; frame_out; rw [read_unread_whole]; exact last _ _ _ y

/-- The whole result: in the layer the gradient is of, the five blocks of rows added up; the other layer untouched. -/
theorem final : (dats m 0 c).arrAt 4 cfg0.N = REF (m ((c : Thread nD τ).loc main_arg0)) (m ((c : Thread nD τ).loc main_arg1)) (m ((c : Thread nD τ).loc main_arg2)) := by
  refine (dats m 0 c).arrAt_eq_of_coversWhere_of_agree 4 _ (fun β => β (0 : Fin _) = 0) (by decide +kernel) (fun t hf y => ?_) (fun j hj => ?_)
  · have ht : t.val < 20 := t.isLt
    have h4 := (flush0_4 t).mp hf
    blk_simp
    rw [after0_4, whole]
    · refine Sums.run (fun s => (outsAt0 m c s.val s.isLt).2 (ix2 (y 2) (y 3))) (fun s => (outsAt0 m c s.val s.isLt).1 y) _ _ (fun s h => acc_first m c s h _)
        (fun s h h' => acc_step m c s h h' _) (fun s h h' => acc_last m c s h h' y) t h4 _ (fun s hs h3 => Finset.sum_congr rfl fun k _ => (EReal.mul_comm _ _).trans ?_)
        (Finset.sum_congr rfl fun k _ => (EReal.mul_comm _ _).trans ?_)
      · refine (congrArg₂ (fun a b : EReal => a * b) (Ld_at m c s k _) (La_at m c s k _)).trans ?_
        blk_point [idx t]
      · refine (congrArg₂ (fun a b : EReal => a * b) (Cd_at m c t k _) (Ca_at m c t k _)).trans ?_
        blk_point [idx t]
    · blk_simp [idx t]
  · blk_simp [Pipeline.Window.cell_apply] at hj
    rw [kept _ _ _ _ (by blk_simp; omega)]
    show V m c main_v0 _ = _
    entry_read
    rfl

end Cert.Kernel5Ideal.Value

end
-- ==== Proof.InDh.lean ====
/- The cotangent of the mixers' input projection with respect to its input: `dP · inᵀ`. -/
module

public import proofs.«01_k».proof.Proof.Gen.Kernel6Ideal.Value
public import proofs.«01_k».proof.Proof.Gen.Reference6Ideal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel6Ideal.Value

open Cert.Kernel6Ideal Cert.Kernel6Ideal.Gen

variable (m : (ℓ : Loc nD τ sig) → Buf (Elt Ideal) ℓ) (c : Dev nD)

/-- What the reference computes of its two arguments: `dP` against the assembled weight. -/
abbrev REF (X0 : FVec Ideal S4352x5632 .bf16) (X1 : FVec Ideal S4x2x2048x1408 .bf16) : FVec Ideal S4352x2048 .f32 :=
  Host.dotGeneral Cert.Reference6Ideal.dot_S4352x5632_S2048x5632_S4352x2048_1_1_0_0_n_n none (extf .f32 X0 Cert.Reference6Ideal.Gen.bitsLt_bf16_f32) (shapeCast _ (transpose Cert.Reference6Ideal.S2048x4x1408 [1, 0, 2] (extf .f32 (shapeCast _ (extractStridedSlice Cert.Reference6Ideal.S4x1x2048x1408 ![0, 0, 0, 0] X1 Cert.Reference6Ideal.Gen.slices_S4x2x2048x1408_S4x1x2048x1408_0_0_0_0) Cert.Reference6Ideal.Gen.shapeCasts_S4x1x2048x1408_S4x2048x1408) Cert.Reference6Ideal.Gen.bitsLt_bf16_f32) Cert.Reference6Ideal.Gen.transposes_S4x2048x1408_S2048x4x1408_1_0_2) Cert.Reference6Ideal.Gen.shapeCasts_S2048x4x1408_S2048x5632)

theorem idx : ∀ t : Fin cfg0.N, win0_0.index t = ![t.val / 4, t.val % 4] ∧ win0_1.index t = ![t.val % 4, 0, 0, 0] ∧ win0_2.index t = ![t.val / 4, 0] :=
  (by decide +kernel : ∀ t : Fin grid0.N, _)

/-- The product of one block. -/
theorem first (x0 : Vec Ideal S1088x1408 .bf16) (x1 : Vec Ideal S1x1x2048x1408 .bf16) (j : S1088x2048.Idx) :
    k0_pay1 x0 x1 j = ∑ k : Fin 1408, x0 (ix2 (j 0) k) * x1 (ix4 0 0 (j 1) k) := by pointwise [k0_pay1]
/-- One more product added. -/
theorem step (x0 : Vec Ideal S1088x1408 .bf16) (x1 : Vec Ideal S1x1x2048x1408 .bf16) (a : Vec Ideal S1088x2048 .f32) (j : S1088x2048.Idx) :
    k0_pay2 x0 x1 a j = a j + ∑ k : Fin 1408, x0 (ix2 (j 0) k) * x1 (ix4 0 0 (j 1) k) := by pointwise [k0_pay2, k0_pay1]
/-- The reference's entry as one contraction. -/
theorem whole (X0 : FVec Ideal S4352x5632 .bf16) (X1 : FVec Ideal S4x2x2048x1408 .bf16) (j : S4352x2048.Idx) :
    REF X0 X1 j = ∑ l : Fin 5632, X0 (ix2 (j 0) l) * X1 (ix4 ⟨l.val / 1408, by omega⟩ 0 (j 1) ⟨l.val % 1408, by omega⟩) := by
  pointwise [REF]

/-- The whole result: the 4 partial products of a block of rows, added up from the first, are the contraction over all 5632. -/
theorem final : (dats m 0 c).arrAt 2 cfg0.N = REF (m ((c : Thread nD τ).loc main_arg0)) (m ((c : Thread nD τ).loc main_arg1)) := by
  refine (dats m 0 c).arrAt_eq_of_covers 2 _ (by decide +kernel) fun t hf y => ?_
  have ht : t.val < 16 := t.isLt
  blk_simp
  rw [after0_2, Pipeline.eq_sum_fin_of_reset_step_apply_of_flush (fun n h => outsAt0 m c n h) 4 (fun _ => 0) _
    (fun t h j => by rw [outsAt0_A m c t h (by omega)]; frame_out; rw [first, zero_add])
    (fun t h j => by rw [outsAt0_B m c t h (by omega)]; frame_out; rw [step])
    t ((flush0_2 t).mp hf) _, zero_add, whole]
  refine Fin.sum_mul_add_congr fun s k hl => ?_
  blk_point [iblk, V, idx t, idx ⟨_, Pipeline.run_point_lt_of_flush t ((flush0_2 t).mp hf) s⟩]

end Cert.Kernel6Ideal.Value

end
-- ==== Proof.InDw.lean ====
/- The weight gradient of the retention block's input projection, written into its layer of the gradients: `hᵀ · dP`. -/
module

public import proofs.«01_k».proof.Proof.Gen.Kernel7Ideal.Value
public import proofs.«01_k».proof.Proof.Gen.Reference7Ideal
public import Idealize.ShloMosaic.Lib.Pipeline.ValueKit
public import Idealize.ShloMosaic.Lib.Pipeline.ReadBack
public import proofs.«01_k».proof.Proof.Sums

@[expose] public section

set_option maxRecDepth 16384

noncomputable section

open Idealize.ShloMosaic Idealize.ShloMosaic.TcCoe Idealize.SL.Sem
open Idealize.ShloMosaic.Pipeline (Dat)

namespace Cert.Kernel7Ideal.Value

open Cert.Kernel7Ideal Cert.Kernel7Ideal.Gen

variable (m : (ℓ : Loc nD τ sig) → Buf (Elt Ideal) ℓ) (c : Dev nD)

/-- What the reference computes of its arguments: the gradient in layer 0, the third argument in layer 1. -/
abbrev REF (X0 : FVec Ideal S4352x2048 .bf16) (X1 : FVec Ideal S4352x5632 .bf16) (X2 : FVec Ideal S2x4x2048x1408 .bf16) : FVec Ideal S2x4x2048x1408 .bf16 :=
  concatenate Cert.Reference7Ideal.S2x4x2048x1408 0 [⟨Cert.Reference7Ideal.S1x4x2048x1408, (broadcastInDim Cert.Reference7Ideal.S1x4x2048x1408 ![1, 2, 3] Cert.Reference7Ideal.Gen.bcast_S4x2048x1408_S1x4x2048x1408_1_2_3 (truncf .bf16 (transpose Cert.Reference7Ideal.S4x2048x1408 [1, 0, 2] (shapeCast _ (transpose Cert.Reference7Ideal.S2048x5632 [1, 0] (Host.dotGeneral Cert.Reference7Ideal.dot_S4352x5632_S4352x2048_S5632x2048_0_0_1_1_n_n none (extf .f32 X1 Cert.Reference7Ideal.Gen.bitsLt_bf16_f32) (extf .f32 X0 Cert.Reference7Ideal.Gen.bitsLt_bf16_f32)) Cert.Reference7Ideal.Gen.transposes_S5632x2048_S2048x5632_1_0) Cert.Reference7Ideal.Gen.shapeCasts_S2048x5632_S2048x4x1408) Cert.Reference7Ideal.Gen.transposes_S2048x4x1408_S4x2048x1408_1_0_2) Cert.Reference7Ideal.Gen.bitsLt_bf16_f32))⟩, ⟨Cert.Reference7Ideal.S1x4x2048x1408, (broadcastInDim Cert.Reference7Ideal.S1x4x2048x1408 ![1, 2, 3] Cert.Reference7Ideal.Gen.bcast_S4x2048x1408_S1x4x2048x1408_1_2_3 (shapeCast _ (extractStridedSlice Cert.Reference7Ideal.S1x4x2048x1408 ![1, 0, 0, 0] X2 Cert.Reference7Ideal.Gen.slices_S2x4x2048x1408_S1x4x2048x1408_1_0_0_0) Cert.Reference7Ideal.Gen.shapeCasts_S1x4x2048x1408_S4x2048x1408))⟩] Cert.Reference7Ideal.Gen.concatenates_S1x4x2048x1408_S1x4x2048x1408_S2x4x2048x1408_d0

theorem idx : ∀ t : Fin cfg0.N, win0_0.index t = ![min (t.val % 5) 3, 0] ∧ win0_1.index t = ![16, 0] ∧ win0_2.index t = ![min (t.val % 5) 3, t.val / 5] ∧ win0_3.index t = ![16, t.val / 5] ∧ win0_4.index t = ![0, t.val / 5, 0, 0] :=
  (by decide +kernel : ∀ t : Fin grid0.N, _)

/-- The product of one block of rows. -/
theorem first (a : Vec Ideal S1024x2048 .bf16) (d : Vec Ideal S1024x1408 .bf16) (j : S2048x1408.Idx) :
    k0_pay1 a d j = ∑ k : Fin 1024, a (ix2 k (j 0)) * d (ix2 k (j 1)) := by pointwise [k0_pay1]
/-- One more block of rows added. -/
theorem step (a : Vec Ideal S1024x2048 .bf16) (d : Vec Ideal S1024x1408 .bf16) (x : Vec Ideal S2048x1408 .f32) (j : S2048x1408.Idx) :
    k0_pay2 x a d j = x j + ∑ k : Fin 1024, a (ix2 k (j 0)) * d (ix2 k (j 1)) := by pointwise [k0_pay2]
/-- The last, shorter block of rows added. -/
theorem last (a : Vec Ideal S256x2048 .bf16) (d : Vec Ideal S256x1408 .bf16) (x : Vec Ideal S2048x1408 .f32) (y : S1x1x2048x1408.Idx) :
    k0_pay3 x a d y = x (ix2 (y 2) (y 3)) + ∑ k : Fin 256, a (ix2 k (y 2)) * d (ix2 k (y 3)) := by pointwise [k0_pay3]

/-- The reference's entry in the layer the gradient is of, as one contraction over all rows. -/
theorem whole (X0 : FVec Ideal S4352x2048 .bf16) (X1 : FVec Ideal S4352x5632 .bf16) (X2 : FVec Ideal S2x4x2048x1408 .bf16) (j : S2x4x2048x1408.Idx) (hj : (j 0).val = 0) :
    REF X0 X1 X2 j = ∑ k : Fin 4352, X1 (ix2 k ⟨(j 1).val * 1408 + (j 3).val, by have h1 : (j 1).val < 4 := (j 1).isLt; have h3 : (j 3).val < 1408 := (j 3).isLt; omega⟩) * X0 (ix2 k (j 2)) := by
  pointwise [REF, hj]
/-- In the other layer the reference keeps its third argument. -/
theorem kept (X0 : FVec Ideal S4352x2048 .bf16) (X1 : FVec Ideal S4352x5632 .bf16) (X2 : FVec Ideal S2x4x2048x1408 .bf16) (j : S2x4x2048x1408.Idx) (hj : ¬ ((j 0).val = 0)) :
    REF X0 X1 X2 j = X2 j := by
  pointwise [REF]
  have h0 : (j 0).val < 2 := (j 0).isLt
  have h1 : (j 1).val < 4 := (j 1).isLt
  split_ifs
  all_goals first
    | (exfalso; omega)
    | (refine congrArg X2 (funext fun a => ?_)
       match a with
       | 0 => exact Fin.ext (by first | (show 0 = (j 0).val; omega) | (show 1 = (j 0).val; omega))
       | 1 => first | rfl | exact Fin.ext (by show 3 = (j 1).val; omega) | exact Fin.ext (by dsimp only [ix4]; omega)
       | 2 => rfl
       | 3 => rfl)

/-- The block of 1024 rows of the first factor at a grid point. -/
abbrev La (t : Fin cfg0.N) : Vec Ideal S1024x2048 .bf16 := X0_0 m c t
/-- The block of 1024 rows of the second factor at a grid point. -/
abbrev Ld (t : Fin cfg0.N) : Vec Ideal S1024x1408 .bf16 := X0_2 m c t
/-- The last 256 rows of the first factor. -/
abbrev Ca (t : Fin cfg0.N) : Vec Ideal S256x2048 .bf16 := iblk m c 1 t
/-- The last 256 rows of the second factor. -/
abbrev Cd (t : Fin cfg0.N) : Vec Ideal S256x1408 .bf16 := iblk m c 3 t

/-- Where the first factor's block of rows lies in its array. -/
theorem La_at (t : Fin cfg0.N) (k : Fin 1024) (r : Fin 2048) : La m c t (ix2 k r) = m ((c : Thread nD τ).loc main_arg0) (ix2 ⟨min (t.val % 5) 3 * 1024 + k.val, by omega⟩ r) := by
  have ht : t.val < 20 := t.isLt
  unfold La X0_0 Pipeline.Window.fill
  rw [dif_pos (moved0_0 t _)]
  blk_point [iblk, V, idx t]
/-- Where the second factor's block of rows lies in its array. -/
theorem Ld_at (t : Fin cfg0.N) (k : Fin 1024) (r : Fin 1408) : Ld m c t (ix2 k r) = m ((c : Thread nD τ).loc main_arg1) (ix2 ⟨min (t.val % 5) 3 * 1024 + k.val, by omega⟩ ⟨t.val / 5 * 1408 + r.val, by have ht : t.val < 20 := t.isLt; omega⟩) := by
  have ht : t.val < 20 := t.isLt
  unfold Ld X0_2 Pipeline.Window.fill
  rw [dif_pos (moved0_2 t _)]
  blk_point [iblk, V, idx t]
/-- Where the first factor's last rows lie in its array. -/
theorem Ca_at (t : Fin cfg0.N) (k : Fin 256) (r : Fin 2048) : Ca m c t (ix2 k r) = m ((c : Thread nD τ).loc main_arg0) (ix2 ⟨4096 + k.val, by omega⟩ r) := by
  have ht : t.val < 20 := t.isLt
  blk_point [Ca, iblk, V, idx t]
/-- Where the second factor's last rows lie in its array. -/
theorem Cd_at (t : Fin cfg0.N) (k : Fin 256) (r : Fin 1408) : Cd m c t (ix2 k r) = m ((c : Thread nD τ).loc main_arg1) (ix2 ⟨4096 + k.val, by omega⟩ ⟨t.val / 5 * 1408 + r.val, by have ht : t.val < 20 := t.isLt; omega⟩) := by
  have ht : t.val < 20 := t.isLt
  blk_point [Cd, iblk, V, idx t]

/-- The partial sum a grid point leaves: a fresh product at the first block of rows. -/
theorem acc_first (t : Fin cfg0.N) (h : t.val % 5 = 0) (j : S2048x1408.Idx) : (outsAt0 m c t.val t.isLt).2 j
    = ∑ k : Fin 1024, La m c t (ix2 k (j 0)) * Ld m c t (ix2 k (j 1)) := by
  rw [outsAt0_A m c t h (by omega) (by omega)]; frame_out; exact first _ _ j
/-- The partial sum a grid point leaves: one product more at the next three. -/
theorem acc_step (t : Fin cfg0.N) (h : 1 ≤ t.val % 5 ∧ t.val % 5 ≤ 3) (h' : t.val - 1 < cfg0.N) (j : S2048x1408.Idx) : (outsAt0 m c t.val t.isLt).2 j
    = (outsAt0 m c (t.val - 1) h').2 j + ∑ k : Fin 1024, La m c t (ix2 k (j 0)) * Ld m c t (ix2 k (j 1)) := by
  rw [outsAt0_B m c t (by omega) h (by omega)]; frame_out; rw [read_unread_whole]; exact step _ _ _ j
/-- What a last grid point of a run stores: the partial sum and the last, shorter block of rows. -/
theorem acc_last (t : Fin cfg0.N) (h : t.val % 5 = 4) (h' : t.val - 1 < cfg0.N) (y : S1x1x2048x1408.Idx) : (outsAt0 m c t.val t.isLt).1 y
    = (outsAt0 m c (t.val - 1) h').2 (ix2 (y 2) (y 3)) + ∑ k : Fin 256, Ca m c t (ix2 k (y 2)) * Cd m c t (ix2 k (y 3)) := by
  rw [outsAt0_C m c t (by omega) (by omega) h]; frame_out; rw [read_unread_whole]; exact last _ _ _ y

/-- The whole result: in the layer the gradient is of, the five blocks of rows added up; the other layer untouched. -/
theorem final : (dats m 0 c).arrAt 4 cfg0.N = REF (m ((c : Thread nD τ).loc main_arg0)) (m ((c : Thread nD τ).loc main_arg1)) (m ((c : Thread nD τ).loc main_arg2)) := by
  refine (dats m 0 c).arrAt_eq_of_coversWhere_of_agree 4 _ (fun β => β (0 : Fin _) = 0) (by decide +kernel) (fun t hf y => ?_) (fun j hj => ?_)
  · have ht : t.val < 20 := t.isLt
    have h4 := (flush0_4 t).mp hf
    blk_simp
    rw [after0_4, whole]
    · refine Sums.run (fun s => (outsAt0 m c s.val s.isLt).2 (ix2 (y 2) (y 3))) (fun s => (outsAt0 m c s.val s.isLt).1 y) _ _ (fun s h => acc_first m c s h _)
        (fun s h h' => acc_step m c s h h' _) (fun s h h' => acc_last m c s h h' y) t h4 _ (fun s hs h3 => Finset.sum_congr rfl fun k _ => (EReal.mul_comm _ _).trans ?_)
        (Finset.sum_congr rfl fun k _ => (EReal.mul_comm _ _).trans ?_)
      · refine (congrArg₂ (fun a b : EReal => a * b) (Ld_at m c s k _) (La_at m c s k _)).trans ?_
        blk_point [idx t]
      · refine (congrArg₂ (fun a b : EReal => a * b) (Cd_at m c t k _) (Ca_at m c t k _)).trans ?_
        blk_point [idx t]
    · blk_simp [idx t]
  · blk_simp [Pipeline.Window.cell_apply] at hj
    rw [kept _ _ _ _ (by blk_simp; omega)]
    show V m c main_v0 _ = _
    entry_read
    rfl

end Cert.Kernel7Ideal.Value

end
-- ==== Proof.OutDmix.lean ====
/- The cotangent of the mixers' output projection with respect to its input: `dY · outᵀ`. -/
module

public import proofs.«01_k».proof.Proof.Gen.Kernel8Ideal.Value
public import proofs.«01_k».proof.Proof.Gen.Reference8Ideal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel8Ideal.Value

open Cert.Kernel8Ideal Cert.Kernel8Ideal.Gen

variable (m : (ℓ : Loc nD τ sig) → Buf (Elt Ideal) ℓ) (c : Dev nD)

/-- What the reference computes of its two arguments: `dY` against the rows of the assembled weight. -/
abbrev REF (X0 : FVec Ideal S4352x2048 .bf16) (X1 : FVec Ideal S4x2x512x2048 .bf16) : FVec Ideal S4352x2048 .f32 :=
  Host.dotGeneral Cert.Reference8Ideal.dot_S4352x2048_S2048x2048_S4352x2048_1_1_0_0_n_n none (extf .f32 X0 Cert.Reference8Ideal.Gen.bitsLt_bf16_f32) (shapeCast _ (extf .f32 (shapeCast _ (extractStridedSlice Cert.Reference8Ideal.S4x1x512x2048 ![0, 0, 0, 0] X1 Cert.Reference8Ideal.Gen.slices_S4x2x512x2048_S4x1x512x2048_0_0_0_0) Cert.Reference8Ideal.Gen.shapeCasts_S4x1x512x2048_S4x512x2048) Cert.Reference8Ideal.Gen.bitsLt_bf16_f32) Cert.Reference8Ideal.Gen.shapeCasts_S4x512x2048_S2048x2048)

theorem idx : ∀ t : Fin cfg0.N, win0_0.index t = ![t.val % 4, 0] ∧ win0_1.index t = ![t.val / 4, 0, 0, 0] ∧ win0_2.index t = ![t.val % 4, t.val / 4] :=
  (by decide +kernel : ∀ t : Fin grid0.N, _)

/-- What grid point `t` stores at `y` is the reference's entry where `y` lies in the array. -/
theorem point (t : Fin cfg0.N) (y : S1088x512.Idx) : k0_pay1 (iblk m c 0 t) (iblk m c 1 t) y
    = REF (m ((c : Thread nD τ).loc main_arg0)) (m ((c : Thread nD τ).loc main_arg1)) (((cfg0.win 2).blk t).view.emb y) := by
  have ht : t.val < 16 := t.isLt
  pointwise [k0_pay1, REF]
  blk_point [iblk, V, idx t]

/-- The whole result. -/
theorem final : (dats m 0 c).arrAt 2 cfg0.N = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel8Ideal.Value

end
-- ==== Proof.Up.lean ====
/- The feed-forward's up projection: `h · up`, value and gate on a leading axis. -/
module

public import proofs.«01_k».proof.Proof.Gen.Kernel9Ideal.Value
public import proofs.«01_k».proof.Proof.Gen.Reference9Ideal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel9Ideal.Value

open Cert.Kernel9Ideal Cert.Kernel9Ideal.Gen

variable (m : (ℓ : Loc nD τ sig) → Buf (Elt Ideal) ℓ) (c : Dev nD)

/-- What the reference computes of its two arguments: the product with the assembled weight, its halves stacked. -/
abbrev REF (X0 : FVec Ideal S4352x2048 .bf16) (X1 : FVec Ideal S4x2x2048x2816 .bf16) : FVec Ideal S2x4352x5632 .f32 :=
  concatenate Cert.Reference9Ideal.S2x4352x5632 0 [⟨Cert.Reference9Ideal.S1x4352x5632, (broadcastInDim Cert.Reference9Ideal.S1x4352x5632 ![1, 2] Cert.Reference9Ideal.Gen.bcast_S4352x5632_S1x4352x5632_1_2 (extractStridedSlice Cert.Reference9Ideal.S4352x5632 ![0, 0] (Host.dotGeneral Cert.Reference9Ideal.dot_S4352x2048_S2048x11264_S4352x11264_1_0_0_1_n_n none (extf .f32 X0 Cert.Reference9Ideal.Gen.bitsLt_bf16_f32) (shapeCast _ (transpose Cert.Reference9Ideal.S2048x4x2816 [1, 0, 2] (extf .f32 (shapeCast _ (extractStridedSlice Cert.Reference9Ideal.S4x1x2048x2816 ![0, 0, 0, 0] X1 Cert.Reference9Ideal.Gen.slices_S4x2x2048x2816_S4x1x2048x2816_0_0_0_0) Cert.Reference9Ideal.Gen.shapeCasts_S4x1x2048x2816_S4x2048x2816) Cert.Reference9Ideal.Gen.bitsLt_bf16_f32) Cert.Reference9Ideal.Gen.transposes_S4x2048x2816_S2048x4x2816_1_0_2) Cert.Reference9Ideal.Gen.shapeCasts_S2048x4x2816_S2048x11264)) Cert.Reference9Ideal.Gen.slices_S4352x11264_S4352x5632_0_0))⟩, ⟨Cert.Reference9Ideal.S1x4352x5632, (broadcastInDim Cert.Reference9Ideal.S1x4352x5632 ![1, 2] Cert.Reference9Ideal.Gen.bcast_S4352x5632_S1x4352x5632_1_2 (extractStridedSlice Cert.Reference9Ideal.S4352x5632 ![0, 5632] (Host.dotGeneral Cert.Reference9Ideal.dot_S4352x2048_S2048x11264_S4352x11264_1_0_0_1_n_n none (extf .f32 X0 Cert.Reference9Ideal.Gen.bitsLt_bf16_f32) (shapeCast _ (transpose Cert.Reference9Ideal.S2048x4x2816 [1, 0, 2] (extf .f32 (shapeCast _ (extractStridedSlice Cert.Reference9Ideal.S4x1x2048x2816 ![0, 0, 0, 0] X1 Cert.Reference9Ideal.Gen.slices_S4x2x2048x2816_S4x1x2048x2816_0_0_0_0) Cert.Reference9Ideal.Gen.shapeCasts_S4x1x2048x2816_S4x2048x2816) Cert.Reference9Ideal.Gen.bitsLt_bf16_f32) Cert.Reference9Ideal.Gen.transposes_S4x2048x2816_S2048x4x2816_1_0_2) Cert.Reference9Ideal.Gen.shapeCasts_S2048x4x2816_S2048x11264)) Cert.Reference9Ideal.Gen.slices_S4352x11264_S4352x5632_0_5632))⟩] Cert.Reference9Ideal.Gen.concatenates_S1x4352x5632_S1x4352x5632_S2x4352x5632_d0

theorem idx : ∀ t : Fin cfg0.N, win0_0.index t = ![t.val % 4, 0] ∧ win0_1.index t = ![t.val / 4 / 2, 0, 0, t.val / 4 % 2] ∧ win0_2.index t = ![t.val / 4 / 4, t.val % 4, t.val / 4 % 4] :=
  (by decide +kernel : ∀ t : Fin grid0.N, _)

/-- What grid point `t` stores at `y` is the reference's entry where `y` lies in the array. -/
theorem point (t : Fin cfg0.N) (y : S1x1088x1408.Idx) : k0_pay1 (iblk m c 0 t) (iblk m c 1 t) y
    = REF (m ((c : Thread nD τ).loc main_arg0)) (m ((c : Thread nD τ).loc main_arg1)) (((cfg0.win 2).blk t).view.emb y) := by
  have ht : t.val < 32 := t.isLt
  have e : (((((View.whole main_v0).slice ((win0 2).rect t)).emb y 0 : Fin 2)) : ℕ) = t.val / 4 / 4 := by
    show ((((cfg0.win 2).blk t).view.emb y 0 : Fin 2) : ℕ) = _
    blk_simp [idx t]
  pointwise [k0_pay1, REF]
  blk_point [iblk, V, idx t]
  all_goals omega

/-- The whole result. -/
theorem final : (dats m 0 c).arrAt 2 cfg0.N = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel9Ideal.Value

end
-- ==== Proof.In.lean ====
/- The mixers' input projection: `h · in`. -/
module

public import proofs.«01_k».proof.Proof.Gen.Kernel10Ideal.Value
public import proofs.«01_k».proof.Proof.Gen.Reference10Ideal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel10Ideal.Value

open Cert.Kernel10Ideal Cert.Kernel10Ideal.Gen

variable (m : (ℓ : Loc nD τ sig) → Buf (Elt Ideal) ℓ) (c : Dev nD)

/-- What the reference computes of its two arguments: the product with the assembled weight. -/
abbrev REF (X0 : FVec Ideal S4352x2048 .bf16) (X1 : FVec Ideal S4x2x2048x1408 .bf16) : FVec Ideal S4352x5632 .f32 :=
  Host.dotGeneral Cert.Reference10Ideal.dot_S4352x2048_S2048x5632_S4352x5632_1_0_0_1_n_n none (extf .f32 X0 Cert.Reference10Ideal.Gen.bitsLt_bf16_f32) (shapeCast _ (transpose Cert.Reference10Ideal.S2048x4x1408 [1, 0, 2] (extf .f32 (shapeCast _ (extractStridedSlice Cert.Reference10Ideal.S4x1x2048x1408 ![0, 0, 0, 0] X1 Cert.Reference10Ideal.Gen.slices_S4x2x2048x1408_S4x1x2048x1408_0_0_0_0) Cert.Reference10Ideal.Gen.shapeCasts_S4x1x2048x1408_S4x2048x1408) Cert.Reference10Ideal.Gen.bitsLt_bf16_f32) Cert.Reference10Ideal.Gen.transposes_S4x2048x1408_S2048x4x1408_1_0_2) Cert.Reference10Ideal.Gen.shapeCasts_S2048x4x1408_S2048x5632)

theorem idx : ∀ t : Fin cfg0.N, win0_0.index t = ![t.val % 4, 0] ∧ win0_1.index t = ![t.val / 4, 0, 0, 0] ∧ win0_2.index t = ![t.val % 4, t.val / 4] :=
  (by decide +kernel : ∀ t : Fin grid0.N, _)

/-- What grid point `t` stores at `y` is the reference's entry where `y` lies in the array. -/
theorem point (t : Fin cfg0.N) (y : S1088x1408.Idx) : k0_pay1 (iblk m c 0 t) (iblk m c 1 t) y
    = REF (m ((c : Thread nD τ).loc main_arg0)) (m ((c : Thread nD τ).loc main_arg1)) (((cfg0.win 2).blk t).view.emb y) := by
  have ht : t.val < 16 := t.isLt
  pointwise [k0_pay1, REF]
  blk_point [iblk, V, idx t]

/-- The whole result. -/
theorem final : (dats m 0 c).arrAt 2 cfg0.N = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel10Ideal.Value

end
-- ==== Proof.Down.lean ====
/- The feed-forward's down projection: `a · down`. -/
module

public import proofs.«01_k».proof.Proof.Gen.Kernel11Ideal.Value
public import proofs.«01_k».proof.Proof.Gen.Reference11Ideal
public import Idealize.ShloMosaic.Lib.Pipeline.ValueKit
public import Idealize.ShloMosaic.Lib.Pipeline.ReadBack
public import proofs.«01_k».proof.Proof.Sums

@[expose] public section

set_option maxRecDepth 16384

noncomputable section

open Idealize.ShloMosaic Idealize.ShloMosaic.TcCoe Idealize.SL.Sem
open Idealize.ShloMosaic.Pipeline (Dat)

namespace Cert.Kernel11Ideal.Value

open Cert.Kernel11Ideal Cert.Kernel11Ideal.Gen

variable (m : (ℓ : Loc nD τ sig) → Buf (Elt Ideal) ℓ) (c : Dev nD)

/-- What the reference computes of its two arguments: the activation against the assembled weight. -/
abbrev REF (X0 : FVec Ideal S4352x5632 .bf16) (X1 : FVec Ideal S4x2x1408x2048 .bf16) : FVec Ideal S4352x2048 .f32 :=
  Host.dotGeneral Cert.Reference11Ideal.dot_S4352x5632_S5632x2048_S4352x2048_1_0_0_1_n_n none (extf .f32 X0 Cert.Reference11Ideal.Gen.bitsLt_bf16_f32) (shapeCast _ (extf .f32 (shapeCast _ (extractStridedSlice Cert.Reference11Ideal.S4x1x1408x2048 ![0, 0, 0, 0] X1 Cert.Reference11Ideal.Gen.slices_S4x2x1408x2048_S4x1x1408x2048_0_0_0_0) Cert.Reference11Ideal.Gen.shapeCasts_S4x1x1408x2048_S4x1408x2048) Cert.Reference11Ideal.Gen.bitsLt_bf16_f32) Cert.Reference11Ideal.Gen.shapeCasts_S4x1408x2048_S5632x2048)

theorem idx : ∀ t : Fin cfg0.N, win0_0.index t = ![t.val % 8, 0] ∧ win0_1.index t = ![0, 0, 0, t.val / 8] ∧ win0_2.index t = ![t.val % 8, t.val / 8] :=
  (by decide +kernel : ∀ t : Fin grid0.N, _)

/-- The four products of a block, added up. -/
theorem four (a0 : Vec Ideal S544x1408 .bf16) (b0 : Vec Ideal S1x1x1408x1024 .bf16) (a1 : Vec Ideal S544x1408 .bf16) (b1 : Vec Ideal S1x1x1408x1024 .bf16)
    (a2 : Vec Ideal S544x1408 .bf16) (b2 : Vec Ideal S1x1x1408x1024 .bf16) (a3 : Vec Ideal S544x1408 .bf16) (b3 : Vec Ideal S1x1x1408x1024 .bf16) (y : S544x1024.Idx) :
    k0_pay1 a0 b0 a1 b1 a2 b2 a3 b3 y
      = (((∑ k : Fin 1408, a0 (ix2 (y 0) k) * b0 (ix4 0 0 k (y 1))) + ∑ k : Fin 1408, a1 (ix2 (y 0) k) * b1 (ix4 0 0 k (y 1)))
          + ∑ k : Fin 1408, a2 (ix2 (y 0) k) * b2 (ix4 0 0 k (y 1))) + ∑ k : Fin 1408, a3 (ix2 (y 0) k) * b3 (ix4 0 0 k (y 1)) := by
  pointwise [k0_pay1]
/-- The reference's entry as one contraction. -/
theorem whole (X0 : FVec Ideal S4352x5632 .bf16) (X1 : FVec Ideal S4x2x1408x2048 .bf16) (j : S4352x2048.Idx) :
    REF X0 X1 j = ∑ l : Fin 5632, X0 (ix2 (j 0) l) * X1 (ix4 ⟨l.val / 1408, by omega⟩ 0 ⟨l.val % 1408, by omega⟩ (j 1)) := by
  pointwise [REF]

/-- The whole result: the four quarters of the contraction, added up. -/
theorem final : (dats m 0 c).arrAt 2 cfg0.N = REF (m ((c : Thread nD τ).loc main_arg0)) (m ((c : Thread nD τ).loc main_arg1)) := by
  refine (dats m 0 c).arrAt_eq_of_covers 2 _ (by decide +kernel) fun t _ y => ?_
  have ht : t.val < 16 := t.isLt
  blk_simp
  rw [after0_2]; frame_out
  rw [four, whole, Sums.quarters]
  congr 1; congr 1; congr 1
  all_goals refine Finset.sum_congr rfl fun k _ => ?_
  all_goals have hk : k.val < 1408 := k.isLt
  all_goals blk_point [iblk, V, idx t]

end Cert.Kernel11Ideal.Value

end
-- ==== Proof.OutDwA.lean ====
/- The weight gradient of the mixers' output projection in layer 0, the rows that multiply the retention's part: `mixᵀ · dY`. -/
module

public import proofs.«01_k».proof.Proof.Gen.Kernel12Ideal.Value
public import proofs.«01_k».proof.Proof.Gen.Reference12Ideal
public import Idealize.ShloMosaic.Lib.Pipeline.ValueKit
public import Idealize.ShloMosaic.Lib.Pipeline.ReadBack
public import proofs.«01_k».proof.Proof.Sums

@[expose] public section

set_option maxRecDepth 16384

noncomputable section

open Idealize.ShloMosaic Idealize.ShloMosaic.TcCoe Idealize.SL.Sem
open Idealize.ShloMosaic.Pipeline (Dat)

namespace Cert.Kernel12Ideal.Value

open Cert.Kernel12Ideal Cert.Kernel12Ideal.Gen

variable (m : (ℓ : Loc nD τ sig) → Buf (Elt Ideal) ℓ) (c : Dev nD)

/-- What the reference computes of its arguments: the gradient in its rows of layer 0, the third argument elsewhere. -/
abbrev REF (X0 : FVec Ideal S4352x1024 .bf16) (X1 : FVec Ideal S4352x2048 .bf16) (X2 : FVec Ideal S2x4x512x2048 .bf16) : FVec Ideal S2x4x512x2048 .bf16 :=
  concatenate Cert.Reference12Ideal.S2x4x512x2048 0 [⟨Cert.Reference12Ideal.S1x4x512x2048, (broadcastInDim Cert.Reference12Ideal.S1x4x512x2048 ![1, 2, 3] Cert.Reference12Ideal.Gen.bcast_S4x512x2048_S1x4x512x2048_1_2_3 (concatenate Cert.Reference12Ideal.S4x512x2048 0 [⟨Cert.Reference12Ideal.S2x512x2048, (truncf .bf16 (shapeCast _ (transpose Cert.Reference12Ideal.S1024x2048 [1, 0] (Host.dotGeneral Cert.Reference12Ideal.dot_S4352x2048_S4352x1024_S2048x1024_0_0_1_1_n_n none (extf .f32 X1 Cert.Reference12Ideal.Gen.bitsLt_bf16_f32) (extf .f32 X0 Cert.Reference12Ideal.Gen.bitsLt_bf16_f32)) Cert.Reference12Ideal.Gen.transposes_S2048x1024_S1024x2048_1_0) Cert.Reference12Ideal.Gen.shapeCasts_S1024x2048_S2x512x2048) Cert.Reference12Ideal.Gen.bitsLt_bf16_f32)⟩, ⟨Cert.Reference12Ideal.S2x512x2048, (shapeCast _ (extractStridedSlice Cert.Reference12Ideal.S1x2x512x2048 ![0, 2, 0, 0] X2 Cert.Reference12Ideal.Gen.slices_S2x4x512x2048_S1x2x512x2048_0_2_0_0) Cert.Reference12Ideal.Gen.shapeCasts_S1x2x512x2048_S2x512x2048)⟩] Cert.Reference12Ideal.Gen.concatenates_S2x512x2048_S2x512x2048_S4x512x2048_d0))⟩, ⟨Cert.Reference12Ideal.S1x4x512x2048, (broadcastInDim Cert.Reference12Ideal.S1x4x512x2048 ![1, 2, 3] Cert.Reference12Ideal.Gen.bcast_S4x512x2048_S1x4x512x2048_1_2_3 (shapeCast _ (extractStridedSlice Cert.Reference12Ideal.S1x4x512x2048 ![1, 0, 0, 0] X2 Cert.Reference12Ideal.Gen.slices_S2x4x512x2048_S1x4x512x2048_1_0_0_0) Cert.Reference12Ideal.Gen.shapeCasts_S1x4x512x2048_S4x512x2048))⟩] Cert.Reference12Ideal.Gen.concatenates_S1x4x512x2048_S1x4x512x2048_S2x4x512x2048_d0

theorem idx : ∀ t : Fin cfg0.N, win0_0.index t = ![min (t.val % 5) 3, t.val / 5] ∧ win0_1.index t = ![16, t.val / 5] ∧ win0_2.index t = ![min (t.val % 5) 3, 0] ∧ win0_3.index t = ![16, 0] ∧ win0_4.index t = ![0, t.val / 5, 0, 0] :=
  (by decide +kernel : ∀ t : Fin grid0.N, _)

/-- The product of one block of rows. -/
theorem first (a : Vec Ideal S1024x512 .bf16) (d : Vec Ideal S1024x2048 .bf16) (j : S512x2048.Idx) :
    k0_pay1 a d j = ∑ k : Fin 1024, a (ix2 k (j 0)) * d (ix2 k (j 1)) := by pointwise [k0_pay1]
/-- One more block of rows added. -/
theorem step (a : Vec Ideal S1024x512 .bf16) (d : Vec Ideal S1024x2048 .bf16) (x : Vec Ideal S512x2048 .f32) (j : S512x2048.Idx) :
    k0_pay2 x a d j = x j + ∑ k : Fin 1024, a (ix2 k (j 0)) * d (ix2 k (j 1)) := by pointwise [k0_pay2]
/-- The last, shorter block of rows added. -/
theorem last (a : Vec Ideal S256x512 .bf16) (d : Vec Ideal S256x2048 .bf16) (x : Vec Ideal S512x2048 .f32) (y : S1x1x512x2048.Idx) :
    k0_pay3 x a d y = x (ix2 (y 2) (y 3)) + ∑ k : Fin 256, a (ix2 k (y 2)) * d (ix2 k (y 3)) := by pointwise [k0_pay3]

/-- The reference's entry where the gradient is written, as one contraction over all rows. -/
theorem whole (X0 : FVec Ideal S4352x1024 .bf16) (X1 : FVec Ideal S4352x2048 .bf16) (X2 : FVec Ideal S2x4x512x2048 .bf16) (j : S2x4x512x2048.Idx) (hj : (j 0).val = 0 ∧ 0 ≤ (j 1).val ∧ (j 1).val < 2) :
    REF X0 X1 X2 j = ∑ k : Fin 4352, X1 (ix2 k (j 3)) * X0 (ix2 k ⟨(j 1).val * 512 + (j 2).val, by have h2 : (j 2).val < 512 := (j 2).isLt; omega⟩) := by
  pointwise [REF, hj]
/-- Everywhere else the reference keeps its third argument. -/
theorem kept (X0 : FVec Ideal S4352x1024 .bf16) (X1 : FVec Ideal S4352x2048 .bf16) (X2 : FVec Ideal S2x4x512x2048 .bf16) (j : S2x4x512x2048.Idx) (hj : ¬ ((j 0).val = 0 ∧ 0 ≤ (j 1).val ∧ (j 1).val < 2)) :
    REF X0 X1 X2 j = X2 j := by
  pointwise [REF]
  have h0 : (j 0).val < 2 := (j 0).isLt
  have h1 : (j 1).val < 4 := (j 1).isLt
  split_ifs
  all_goals first
    | (exfalso; omega)
    | (refine congrArg X2 (funext fun a => ?_)
       match a with
       | 0 => exact Fin.ext (by first | (show 0 = (j 0).val; omega) | (show 1 = (j 0).val; omega))
       | 1 => first | rfl | exact Fin.ext (by show 3 = (j 1).val; omega) | exact Fin.ext (by dsimp only [ix4]; omega)
       | 2 => rfl
       | 3 => rfl)

/-- The block of 1024 rows of the first factor at a grid point. -/
abbrev La (t : Fin cfg0.N) : Vec Ideal S1024x512 .bf16 := X0_0 m c t
/-- The block of 1024 rows of the second factor at a grid point. -/
abbrev Ld (t : Fin cfg0.N) : Vec Ideal S1024x2048 .bf16 := X0_2 m c t
/-- The last 256 rows of the first factor. -/
abbrev Ca (t : Fin cfg0.N) : Vec Ideal S256x512 .bf16 := iblk m c 1 t
/-- The last 256 rows of the second factor. -/
abbrev Cd (t : Fin cfg0.N) : Vec Ideal S256x2048 .bf16 := iblk m c 3 t

/-- Where the first factor's block of rows lies in its array. -/
theorem La_at (t : Fin cfg0.N) (k : Fin 1024) (r : Fin 512) : La m c t (ix2 k r) = m ((c : Thread nD τ).loc main_arg0) (ix2 ⟨min (t.val % 5) 3 * 1024 + k.val, by omega⟩ ⟨t.val / 5 * 512 + r.val, by have ht : t.val < 10 := t.isLt; omega⟩) := by
  have ht : t.val < 10 := t.isLt
  unfold La X0_0 Pipeline.Window.fill
  rw [dif_pos (moved0_0 t _)]
  blk_point [iblk, V, idx t]
/-- Where the second factor's block of rows lies in its array. -/
theorem Ld_at (t : Fin cfg0.N) (k : Fin 1024) (r : Fin 2048) : Ld m c t (ix2 k r) = m ((c : Thread nD τ).loc main_arg1) (ix2 ⟨min (t.val % 5) 3 * 1024 + k.val, by omega⟩ r) := by
  have ht : t.val < 10 := t.isLt
  unfold Ld X0_2 Pipeline.Window.fill
  rw [dif_pos (moved0_2 t _)]
  blk_point [iblk, V, idx t]
/-- Where the first factor's last rows lie in its array. -/
theorem Ca_at (t : Fin cfg0.N) (k : Fin 256) (r : Fin 512) : Ca m c t (ix2 k r) = m ((c : Thread nD τ).loc main_arg0) (ix2 ⟨4096 + k.val, by omega⟩ ⟨t.val / 5 * 512 + r.val, by have ht : t.val < 10 := t.isLt; omega⟩) := by
  have ht : t.val < 10 := t.isLt
  blk_point [Ca, iblk, V, idx t]
/-- Where the second factor's last rows lie in its array. -/
theorem Cd_at (t : Fin cfg0.N) (k : Fin 256) (r : Fin 2048) : Cd m c t (ix2 k r) = m ((c : Thread nD τ).loc main_arg1) (ix2 ⟨4096 + k.val, by omega⟩ r) := by
  have ht : t.val < 10 := t.isLt
  blk_point [Cd, iblk, V, idx t]

/-- The partial sum a grid point leaves: a fresh product at the first block of rows. -/
theorem acc_first (t : Fin cfg0.N) (h : t.val % 5 = 0) (j : S512x2048.Idx) : (outsAt0 m c t.val t.isLt).2 j
    = ∑ k : Fin 1024, La m c t (ix2 k (j 0)) * Ld m c t (ix2 k (j 1)) := by
  rw [outsAt0_A m c t h (by omega) (by omega)]; frame_out; exact first _ _ j
/-- The partial sum a grid point leaves: one product more at the next three. -/
theorem acc_step (t : Fin cfg0.N) (h : 1 ≤ t.val % 5 ∧ t.val % 5 ≤ 3) (h' : t.val - 1 < cfg0.N) (j : S512x2048.Idx) : (outsAt0 m c t.val t.isLt).2 j
    = (outsAt0 m c (t.val - 1) h').2 j + ∑ k : Fin 1024, La m c t (ix2 k (j 0)) * Ld m c t (ix2 k (j 1)) := by
  rw [outsAt0_B m c t (by omega) h (by omega)]; frame_out; rw [read_unread_whole]; exact step _ _ _ j
/-- What a last grid point of a run stores: the partial sum and the last, shorter block of rows. -/
theorem acc_last (t : Fin cfg0.N) (h : t.val % 5 = 4) (h' : t.val - 1 < cfg0.N) (y : S1x1x512x2048.Idx) : (outsAt0 m c t.val t.isLt).1 y
    = (outsAt0 m c (t.val - 1) h').2 (ix2 (y 2) (y 3)) + ∑ k : Fin 256, Ca m c t (ix2 k (y 2)) * Cd m c t (ix2 k (y 3)) := by
  rw [outsAt0_C m c t (by omega) (by omega) h]; frame_out; rw [read_unread_whole]; exact last _ _ _ y

/-- The whole result: where the gradient is written, the five blocks of rows added up; everything else untouched. -/
theorem final : (dats m 0 c).arrAt 4 cfg0.N = REF (m ((c : Thread nD τ).loc main_arg0)) (m ((c : Thread nD τ).loc main_arg1)) (m ((c : Thread nD τ).loc main_arg2)) := by
  refine (dats m 0 c).arrAt_eq_of_coversWhere_of_agree 4 _ (fun β => β (0 : Fin _) = 0 ∧ 0 ≤ β (1 : Fin _) ∧ β (1 : Fin _) < 2) (by decide +kernel) (fun t hf y => ?_) (fun j hj => ?_)
  · have ht : t.val < 10 := t.isLt
    have h4 := (flush0_4 t).mp hf
    blk_simp
    rw [after0_4, whole]
    · refine Sums.run (fun s => (outsAt0 m c s.val s.isLt).2 (ix2 (y 2) (y 3))) (fun s => (outsAt0 m c s.val s.isLt).1 y) _ _ (fun s h => acc_first m c s h _)
        (fun s h h' => acc_step m c s h h' _) (fun s h h' => acc_last m c s h h' y) t h4 _ (fun s hs h3 => Finset.sum_congr rfl fun k _ => (EReal.mul_comm _ _).trans ?_)
        (Finset.sum_congr rfl fun k _ => (EReal.mul_comm _ _).trans ?_)
      · refine (congrArg₂ (fun a b : EReal => a * b) (Ld_at m c s k _) (La_at m c s k _)).trans ?_
        blk_point [idx t]
      · refine (congrArg₂ (fun a b : EReal => a * b) (Cd_at m c t k _) (Ca_at m c t k _)).trans ?_
        blk_point [idx t]
    · blk_simp [idx t]
      exact ⟨trivial, by omega, by omega⟩
  · blk_simp [Pipeline.Window.cell_apply] at hj
    rw [kept _ _ _ _ (by blk_simp; omega)]
    show V m c main_v0 _ = _
    entry_read
    rfl

end Cert.Kernel12Ideal.Value

end
-- ==== Proof.OutDwB.lean ====
/- The weight gradient of the mixers' output projection in layer 0, the rows that multiply the convolution's part: `mixᵀ · dY`. -/
module

public import proofs.«01_k».proof.Proof.Gen.Kernel13Ideal.Value
public import proofs.«01_k».proof.Proof.Gen.Reference13Ideal
public import Idealize.ShloMosaic.Lib.Pipeline.ValueKit
public import Idealize.ShloMosaic.Lib.Pipeline.ReadBack
public import proofs.«01_k».proof.Proof.OutDwA

@[expose] public section

set_option maxRecDepth 16384

noncomputable section

open Idealize.ShloMosaic Idealize.ShloMosaic.TcCoe Idealize.SL.Sem
open Idealize.ShloMosaic.Pipeline (Dat)

namespace Cert.Kernel13Ideal.Value

open Cert.Kernel13Ideal Cert.Kernel13Ideal.Gen

variable (m : (ℓ : Loc nD τ sig) → Buf (Elt Ideal) ℓ) (c : Dev nD)

/-- What the reference computes of its arguments: the gradient in its rows of layer 0, the third argument elsewhere. -/
abbrev REF (X0 : FVec Ideal S4352x512 .bf16) (X1 : FVec Ideal S4352x2048 .bf16) (X2 : FVec Ideal S2x4x512x2048 .bf16) : FVec Ideal S2x4x512x2048 .bf16 :=
  concatenate Cert.Reference13Ideal.S2x4x512x2048 0 [⟨Cert.Reference13Ideal.S1x4x512x2048, (broadcastInDim Cert.Reference13Ideal.S1x4x512x2048 ![1, 2, 3] Cert.Reference13Ideal.Gen.bcast_S4x512x2048_S1x4x512x2048_1_2_3 ((concatenate Cert.Reference13Ideal.S4x512x2048 0 [⟨Cert.Reference13Ideal.S2x512x2048, ((shapeCast _ (extractStridedSlice Cert.Reference13Ideal.S1x2x512x2048 ![0, 0, 0, 0] X2 Cert.Reference13Ideal.Gen.slices_S2x4x512x2048_S1x2x512x2048_0_0_0_0) Cert.Reference13Ideal.Gen.shapeCasts_S1x2x512x2048_S2x512x2048) : (⟨Cert.Reference13Ideal.S2x512x2048, .bf16⟩ : BufTy).Contents (Elt Ideal))⟩, ⟨Cert.Reference13Ideal.S1x512x2048, ((truncf .bf16 (shapeCast _ (transpose Cert.Reference13Ideal.S512x2048 [1, 0] (Host.dotGeneral Cert.Reference13Ideal.dot_S4352x2048_S4352x512_S2048x512_0_0_1_1_n_n none (extf .f32 X1 Cert.Reference13Ideal.Gen.bitsLt_bf16_f32) (extf .f32 X0 Cert.Reference13Ideal.Gen.bitsLt_bf16_f32)) Cert.Reference13Ideal.Gen.transposes_S2048x512_S512x2048_1_0) Cert.Reference13Ideal.Gen.shapeCasts_S512x2048_S1x512x2048) Cert.Reference13Ideal.Gen.bitsLt_bf16_f32) : (⟨Cert.Reference13Ideal.S1x512x2048, .bf16⟩ : BufTy).Contents (Elt Ideal))⟩, ⟨Cert.Reference13Ideal.S1x512x2048, ((shapeCast _ (extractStridedSlice Cert.Reference13Ideal.S1x1x512x2048 ![0, 3, 0, 0] X2 Cert.Reference13Ideal.Gen.slices_S2x4x512x2048_S1x1x512x2048_0_3_0_0) Cert.Reference13Ideal.Gen.shapeCasts_S1x1x512x2048_S1x512x2048) : (⟨Cert.Reference13Ideal.S1x512x2048, .bf16⟩ : BufTy).Contents (Elt Ideal))⟩] Cert.Reference13Ideal.Gen.concatenates_S2x512x2048_S1x512x2048_S1x512x2048_S4x512x2048_d0 : (⟨Cert.Reference13Ideal.S4x512x2048, .bf16⟩ : BufTy).Contents (Elt Ideal))))⟩, ⟨Cert.Reference13Ideal.S1x4x512x2048, (broadcastInDim Cert.Reference13Ideal.S1x4x512x2048 ![1, 2, 3] Cert.Reference13Ideal.Gen.bcast_S4x512x2048_S1x4x512x2048_1_2_3 (shapeCast _ (extractStridedSlice Cert.Reference13Ideal.S1x4x512x2048 ![1, 0, 0, 0] X2 Cert.Reference13Ideal.Gen.slices_S2x4x512x2048_S1x4x512x2048_1_0_0_0) Cert.Reference13Ideal.Gen.shapeCasts_S1x4x512x2048_S4x512x2048))⟩] Cert.Reference13Ideal.Gen.concatenates_S1x4x512x2048_S1x4x512x2048_S2x4x512x2048_d0

theorem idx : ∀ t : Fin cfg0.N, win0_0.index t = ![min (t.val % 5) 3, t.val / 5] ∧ win0_1.index t = ![16, t.val / 5] ∧ win0_2.index t = ![min (t.val % 5) 3, 0] ∧ win0_3.index t = ![16, 0] ∧ win0_4.index t = ![0, t.val / 5 + 2, 0, 0] :=
  (by decide +kernel : ∀ t : Fin grid0.N, _)

/-- The reference's entry where the gradient is written, as one contraction over all rows. -/
theorem whole (X0 : FVec Ideal S4352x512 .bf16) (X1 : FVec Ideal S4352x2048 .bf16) (X2 : FVec Ideal S2x4x512x2048 .bf16) (j : S2x4x512x2048.Idx) (hj : (j 0).val = 0 ∧ 2 ≤ (j 1).val ∧ (j 1).val < 3) :
    REF X0 X1 X2 j = ∑ k : Fin 4352, X1 (ix2 k (j 3)) * X0 (ix2 k (j 2)) := by
  pointwise [REF, hj]
  rw [dif_neg (by omega), dif_pos (by omega)]
/-- Everywhere else the reference keeps its third argument. -/
theorem kept (X0 : FVec Ideal S4352x512 .bf16) (X1 : FVec Ideal S4352x2048 .bf16) (X2 : FVec Ideal S2x4x512x2048 .bf16) (j : S2x4x512x2048.Idx) (hj : ¬ ((j 0).val = 0 ∧ 2 ≤ (j 1).val ∧ (j 1).val < 3)) :
    REF X0 X1 X2 j = X2 j := by
  pointwise [REF]
  have h0 : (j 0).val < 2 := (j 0).isLt
  have h1 : (j 1).val < 4 := (j 1).isLt
  split_ifs
  all_goals first
    | (exfalso; omega)
    | (refine congrArg X2 (funext fun a => ?_)
       match a with
       | 0 => exact Fin.ext (by first | (show 0 = (j 0).val; omega) | (show 1 = (j 0).val; omega))
       | 1 => first | rfl | exact Fin.ext (by show 3 = (j 1).val; omega) | exact Fin.ext (by dsimp only [ix4]; omega)
       | 2 => rfl
       | 3 => rfl)

/-- The block of 1024 rows of the first factor at a grid point. -/
abbrev La (t : Fin cfg0.N) : Vec Ideal S1024x512 .bf16 := X0_0 m c t
/-- The block of 1024 rows of the second factor at a grid point. -/
abbrev Ld (t : Fin cfg0.N) : Vec Ideal S1024x2048 .bf16 := X0_2 m c t
/-- The last 256 rows of the first factor. -/
abbrev Ca (t : Fin cfg0.N) : Vec Ideal S256x512 .bf16 := iblk m c 1 t
/-- The last 256 rows of the second factor. -/
abbrev Cd (t : Fin cfg0.N) : Vec Ideal S256x2048 .bf16 := iblk m c 3 t

/-- Where the first factor's block of rows lies in its array. -/
theorem La_at (t : Fin cfg0.N) (k : Fin 1024) (r : Fin 512) : La m c t (ix2 k r) = m ((c : Thread nD τ).loc main_arg0) (ix2 ⟨min (t.val % 5) 3 * 1024 + k.val, by omega⟩ ⟨t.val / 5 * 512 + r.val, by have ht : t.val < 5 := t.isLt; omega⟩) := by
  have ht : t.val < 5 := t.isLt
  unfold La X0_0 Pipeline.Window.fill
  rw [dif_pos (moved0_0 t _)]
  blk_point [iblk, V, idx t]
/-- Where the second factor's block of rows lies in its array. -/
theorem Ld_at (t : Fin cfg0.N) (k : Fin 1024) (r : Fin 2048) : Ld m c t (ix2 k r) = m ((c : Thread nD τ).loc main_arg1) (ix2 ⟨min (t.val % 5) 3 * 1024 + k.val, by omega⟩ r) := by
  have ht : t.val < 5 := t.isLt
  unfold Ld X0_2 Pipeline.Window.fill
  rw [dif_pos (moved0_2 t _)]
  blk_point [iblk, V, idx t]
/-- Where the first factor's last rows lie in its array. -/
theorem Ca_at (t : Fin cfg0.N) (k : Fin 256) (r : Fin 512) : Ca m c t (ix2 k r) = m ((c : Thread nD τ).loc main_arg0) (ix2 ⟨4096 + k.val, by omega⟩ ⟨t.val / 5 * 512 + r.val, by have ht : t.val < 5 := t.isLt; omega⟩) := by
  have ht : t.val < 5 := t.isLt
  blk_point [Ca, iblk, V, idx t]
/-- Where the second factor's last rows lie in its array. -/
theorem Cd_at (t : Fin cfg0.N) (k : Fin 256) (r : Fin 2048) : Cd m c t (ix2 k r) = m ((c : Thread nD τ).loc main_arg1) (ix2 ⟨4096 + k.val, by omega⟩ r) := by
  have ht : t.val < 5 := t.isLt
  blk_point [Cd, iblk, V, idx t]

/-- The partial sum a grid point leaves: a fresh product at the first block of rows. -/
theorem acc_first (t : Fin cfg0.N) (h : t.val % 5 = 0) (j : S512x2048.Idx) : (outsAt0 m c t.val t.isLt).2 j
    = ∑ k : Fin 1024, La m c t (ix2 k (j 0)) * Ld m c t (ix2 k (j 1)) := by
  rw [outsAt0_A m c t h (by omega) (by omega)]; frame_out; exact Cert.Kernel12Ideal.Value.first _ _ j
/-- The partial sum a grid point leaves: one product more at the next three. -/
theorem acc_step (t : Fin cfg0.N) (h : 1 ≤ t.val % 5 ∧ t.val % 5 ≤ 3) (h' : t.val - 1 < cfg0.N) (j : S512x2048.Idx) : (outsAt0 m c t.val t.isLt).2 j
    = (outsAt0 m c (t.val - 1) h').2 j + ∑ k : Fin 1024, La m c t (ix2 k (j 0)) * Ld m c t (ix2 k (j 1)) := by
  rw [outsAt0_B m c t (by omega) h (by omega)]; frame_out; rw [read_unread_whole]; exact Cert.Kernel12Ideal.Value.step _ _ _ j
/-- What a last grid point of a run stores: the partial sum and the last, shorter block of rows. -/
theorem acc_last (t : Fin cfg0.N) (h : t.val % 5 = 4) (h' : t.val - 1 < cfg0.N) (y : S1x1x512x2048.Idx) : (outsAt0 m c t.val t.isLt).1 y
    = (outsAt0 m c (t.val - 1) h').2 (ix2 (y 2) (y 3)) + ∑ k : Fin 256, Ca m c t (ix2 k (y 2)) * Cd m c t (ix2 k (y 3)) := by
  rw [outsAt0_C m c t (by omega) (by omega) h]; frame_out; rw [read_unread_whole]; exact Cert.Kernel12Ideal.Value.last _ _ _ y

/-- The whole result: where the gradient is written, the five blocks of rows added up; everything else untouched. -/
theorem final : (dats m 0 c).arrAt 4 cfg0.N = REF (m ((c : Thread nD τ).loc main_arg0)) (m ((c : Thread nD τ).loc main_arg1)) (m ((c : Thread nD τ).loc main_arg2)) := by
  refine (dats m 0 c).arrAt_eq_of_coversWhere_of_agree 4 _ (fun β => β (0 : Fin _) = 0 ∧ 2 ≤ β (1 : Fin _) ∧ β (1 : Fin _) < 3) (by decide +kernel) (fun t hf y => ?_) (fun j hj => ?_)
  · have ht : t.val < 5 := t.isLt
    have h4 := (flush0_4 t).mp hf
    blk_simp
    rw [after0_4, whole]
    · refine Sums.run (fun s => (outsAt0 m c s.val s.isLt).2 (ix2 (y 2) (y 3))) (fun s => (outsAt0 m c s.val s.isLt).1 y) _ _ (fun s h => acc_first m c s h _)
        (fun s h h' => acc_step m c s h h' _) (fun s h h' => acc_last m c s h h' y) t h4 _ (fun s hs h3 => Finset.sum_congr rfl fun k _ => (EReal.mul_comm _ _).trans ?_)
        (Finset.sum_congr rfl fun k _ => (EReal.mul_comm _ _).trans ?_)
      · refine (congrArg₂ (fun a b : EReal => a * b) (Ld_at m c s k _) (La_at m c s k _)).trans ?_
        blk_point [idx t]
      · refine (congrArg₂ (fun a b : EReal => a * b) (Cd_at m c t k _) (Ca_at m c t k _)).trans ?_
        blk_point [idx t]
    · blk_simp [idx t]
      exact ⟨trivial, by omega, by omega⟩
  · blk_simp [Pipeline.Window.cell_apply] at hj
    rw [kept _ _ _ _ (by blk_simp; omega)]
    show V m c main_v0 _ = _
    entry_read
    rfl

end Cert.Kernel13Ideal.Value

end
-- ==== Proof.OutDwC.lean ====
/- The weight gradient of the mixers' output projection in layer 0, the rows that multiply the attention's part: `mixᵀ · dY`. -/
module

public import proofs.«01_k».proof.Proof.Gen.Kernel14Ideal.Value
public import proofs.«01_k».proof.Proof.Gen.Reference14Ideal
public import Idealize.ShloMosaic.Lib.Pipeline.ValueKit
public import Idealize.ShloMosaic.Lib.Pipeline.ReadBack
public import proofs.«01_k».proof.Proof.OutDwA

@[expose] public section

set_option maxRecDepth 16384

noncomputable section

open Idealize.ShloMosaic Idealize.ShloMosaic.TcCoe Idealize.SL.Sem
open Idealize.ShloMosaic.Pipeline (Dat)

namespace Cert.Kernel14Ideal.Value

open Cert.Kernel14Ideal Cert.Kernel14Ideal.Gen

variable (m : (ℓ : Loc nD τ sig) → Buf (Elt Ideal) ℓ) (c : Dev nD)

/-- What the reference computes of its arguments: the gradient in its rows of layer 0, the third argument elsewhere. -/
abbrev REF (X0 : FVec Ideal S4352x512 .bf16) (X1 : FVec Ideal S4352x2048 .bf16) (X2 : FVec Ideal S2x4x512x2048 .bf16) : FVec Ideal S2x4x512x2048 .bf16 :=
  concatenate Cert.Reference14Ideal.S2x4x512x2048 0 [⟨Cert.Reference14Ideal.S1x4x512x2048, (broadcastInDim Cert.Reference14Ideal.S1x4x512x2048 ![1, 2, 3] Cert.Reference14Ideal.Gen.bcast_S4x512x2048_S1x4x512x2048_1_2_3 (concatenate Cert.Reference14Ideal.S4x512x2048 0 [⟨Cert.Reference14Ideal.S3x512x2048, (shapeCast _ (extractStridedSlice Cert.Reference14Ideal.S1x3x512x2048 ![0, 0, 0, 0] X2 Cert.Reference14Ideal.Gen.slices_S2x4x512x2048_S1x3x512x2048_0_0_0_0) Cert.Reference14Ideal.Gen.shapeCasts_S1x3x512x2048_S3x512x2048)⟩, ⟨Cert.Reference14Ideal.S1x512x2048, (truncf .bf16 (shapeCast _ (transpose Cert.Reference14Ideal.S512x2048 [1, 0] (Host.dotGeneral Cert.Reference14Ideal.dot_S4352x2048_S4352x512_S2048x512_0_0_1_1_n_n none (extf .f32 X1 Cert.Reference14Ideal.Gen.bitsLt_bf16_f32) (extf .f32 X0 Cert.Reference14Ideal.Gen.bitsLt_bf16_f32)) Cert.Reference14Ideal.Gen.transposes_S2048x512_S512x2048_1_0) Cert.Reference14Ideal.Gen.shapeCasts_S512x2048_S1x512x2048) Cert.Reference14Ideal.Gen.bitsLt_bf16_f32)⟩] Cert.Reference14Ideal.Gen.concatenates_S3x512x2048_S1x512x2048_S4x512x2048_d0))⟩, ⟨Cert.Reference14Ideal.S1x4x512x2048, (broadcastInDim Cert.Reference14Ideal.S1x4x512x2048 ![1, 2, 3] Cert.Reference14Ideal.Gen.bcast_S4x512x2048_S1x4x512x2048_1_2_3 (shapeCast _ (extractStridedSlice Cert.Reference14Ideal.S1x4x512x2048 ![1, 0, 0, 0] X2 Cert.Reference14Ideal.Gen.slices_S2x4x512x2048_S1x4x512x2048_1_0_0_0) Cert.Reference14Ideal.Gen.shapeCasts_S1x4x512x2048_S4x512x2048))⟩] Cert.Reference14Ideal.Gen.concatenates_S1x4x512x2048_S1x4x512x2048_S2x4x512x2048_d0

theorem idx : ∀ t : Fin cfg0.N, win0_0.index t = ![min (t.val % 5) 3, t.val / 5] ∧ win0_1.index t = ![16, t.val / 5] ∧ win0_2.index t = ![min (t.val % 5) 3, 0] ∧ win0_3.index t = ![16, 0] ∧ win0_4.index t = ![0, t.val / 5 + 3, 0, 0] :=
  (by decide +kernel : ∀ t : Fin grid0.N, _)

/-- The reference's entry where the gradient is written, as one contraction over all rows. -/
theorem whole (X0 : FVec Ideal S4352x512 .bf16) (X1 : FVec Ideal S4352x2048 .bf16) (X2 : FVec Ideal S2x4x512x2048 .bf16) (j : S2x4x512x2048.Idx) (hj : (j 0).val = 0 ∧ 3 ≤ (j 1).val ∧ (j 1).val < 4) :
    REF X0 X1 X2 j = ∑ k : Fin 4352, X1 (ix2 k (j 3)) * X0 (ix2 k (j 2)) := by
  pointwise [REF, hj]
  rw [dif_neg (by omega)]
/-- Everywhere else the reference keeps its third argument. -/
theorem kept (X0 : FVec Ideal S4352x512 .bf16) (X1 : FVec Ideal S4352x2048 .bf16) (X2 : FVec Ideal S2x4x512x2048 .bf16) (j : S2x4x512x2048.Idx) (hj : ¬ ((j 0).val = 0 ∧ 3 ≤ (j 1).val ∧ (j 1).val < 4)) :
    REF X0 X1 X2 j = X2 j := by
  pointwise [REF]
  have h0 : (j 0).val < 2 := (j 0).isLt
  have h1 : (j 1).val < 4 := (j 1).isLt
  split_ifs
  all_goals first
    | (exfalso; omega)
    | (refine congrArg X2 (funext fun a => ?_)
       match a with
       | 0 => exact Fin.ext (by first | (show 0 = (j 0).val; omega) | (show 1 = (j 0).val; omega))
       | 1 => first | rfl | exact Fin.ext (by show 3 = (j 1).val; omega) | exact Fin.ext (by dsimp only [ix4]; omega)
       | 2 => rfl
       | 3 => rfl)

/-- The block of 1024 rows of the first factor at a grid point. -/
abbrev La (t : Fin cfg0.N) : Vec Ideal S1024x512 .bf16 := X0_0 m c t
/-- The block of 1024 rows of the second factor at a grid point. -/
abbrev Ld (t : Fin cfg0.N) : Vec Ideal S1024x2048 .bf16 := X0_2 m c t
/-- The last 256 rows of the first factor. -/
abbrev Ca (t : Fin cfg0.N) : Vec Ideal S256x512 .bf16 := iblk m c 1 t
/-- The last 256 rows of the second factor. -/
abbrev Cd (t : Fin cfg0.N) : Vec Ideal S256x2048 .bf16 := iblk m c 3 t

/-- Where the first factor's block of rows lies in its array. -/
theorem La_at (t : Fin cfg0.N) (k : Fin 1024) (r : Fin 512) : La m c t (ix2 k r) = m ((c : Thread nD τ).loc main_arg0) (ix2 ⟨min (t.val % 5) 3 * 1024 + k.val, by omega⟩ ⟨t.val / 5 * 512 + r.val, by have ht : t.val < 5 := t.isLt; omega⟩) := by
  have ht : t.val < 5 := t.isLt
  unfold La X0_0 Pipeline.Window.fill
  rw [dif_pos (moved0_0 t _)]
  blk_point [iblk, V, idx t]
/-- Where the second factor's block of rows lies in its array. -/
theorem Ld_at (t : Fin cfg0.N) (k : Fin 1024) (r : Fin 2048) : Ld m c t (ix2 k r) = m ((c : Thread nD τ).loc main_arg1) (ix2 ⟨min (t.val % 5) 3 * 1024 + k.val, by omega⟩ r) := by
  have ht : t.val < 5 := t.isLt
  unfold Ld X0_2 Pipeline.Window.fill
  rw [dif_pos (moved0_2 t _)]
  blk_point [iblk, V, idx t]
/-- Where the first factor's last rows lie in its array. -/
theorem Ca_at (t : Fin cfg0.N) (k : Fin 256) (r : Fin 512) : Ca m c t (ix2 k r) = m ((c : Thread nD τ).loc main_arg0) (ix2 ⟨4096 + k.val, by omega⟩ ⟨t.val / 5 * 512 + r.val, by have ht : t.val < 5 := t.isLt; omega⟩) := by
  have ht : t.val < 5 := t.isLt
  blk_point [Ca, iblk, V, idx t]
/-- Where the second factor's last rows lie in its array. -/
theorem Cd_at (t : Fin cfg0.N) (k : Fin 256) (r : Fin 2048) : Cd m c t (ix2 k r) = m ((c : Thread nD τ).loc main_arg1) (ix2 ⟨4096 + k.val, by omega⟩ r) := by
  have ht : t.val < 5 := t.isLt
  blk_point [Cd, iblk, V, idx t]

/-- The partial sum a grid point leaves: a fresh product at the first block of rows. -/
theorem acc_first (t : Fin cfg0.N) (h : t.val % 5 = 0) (j : S512x2048.Idx) : (outsAt0 m c t.val t.isLt).2 j
    = ∑ k : Fin 1024, La m c t (ix2 k (j 0)) * Ld m c t (ix2 k (j 1)) := by
  rw [outsAt0_A m c t h (by omega) (by omega)]; frame_out; exact Cert.Kernel12Ideal.Value.first _ _ j
/-- The partial sum a grid point leaves: one product more at the next three. -/
theorem acc_step (t : Fin cfg0.N) (h : 1 ≤ t.val % 5 ∧ t.val % 5 ≤ 3) (h' : t.val - 1 < cfg0.N) (j : S512x2048.Idx) : (outsAt0 m c t.val t.isLt).2 j
    = (outsAt0 m c (t.val - 1) h').2 j + ∑ k : Fin 1024, La m c t (ix2 k (j 0)) * Ld m c t (ix2 k (j 1)) := by
  rw [outsAt0_B m c t (by omega) h (by omega)]; frame_out; rw [read_unread_whole]; exact Cert.Kernel12Ideal.Value.step _ _ _ j
/-- What a last grid point of a run stores: the partial sum and the last, shorter block of rows. -/
theorem acc_last (t : Fin cfg0.N) (h : t.val % 5 = 4) (h' : t.val - 1 < cfg0.N) (y : S1x1x512x2048.Idx) : (outsAt0 m c t.val t.isLt).1 y
    = (outsAt0 m c (t.val - 1) h').2 (ix2 (y 2) (y 3)) + ∑ k : Fin 256, Ca m c t (ix2 k (y 2)) * Cd m c t (ix2 k (y 3)) := by
  rw [outsAt0_C m c t (by omega) (by omega) h]; frame_out; rw [read_unread_whole]; exact Cert.Kernel12Ideal.Value.last _ _ _ y

/-- The whole result: where the gradient is written, the five blocks of rows added up; everything else untouched. -/
theorem final : (dats m 0 c).arrAt 4 cfg0.N = REF (m ((c : Thread nD τ).loc main_arg0)) (m ((c : Thread nD τ).loc main_arg1)) (m ((c : Thread nD τ).loc main_arg2)) := by
  refine (dats m 0 c).arrAt_eq_of_coversWhere_of_agree 4 _ (fun β => β (0 : Fin _) = 0 ∧ 3 ≤ β (1 : Fin _) ∧ β (1 : Fin _) < 4) (by decide +kernel) (fun t hf y => ?_) (fun j hj => ?_)
  · have ht : t.val < 5 := t.isLt
    have h4 := (flush0_4 t).mp hf
    blk_simp
    rw [after0_4, whole]
    · refine Sums.run (fun s => (outsAt0 m c s.val s.isLt).2 (ix2 (y 2) (y 3))) (fun s => (outsAt0 m c s.val s.isLt).1 y) _ _ (fun s h => acc_first m c s h _)
        (fun s h h' => acc_step m c s h h' _) (fun s h h' => acc_last m c s h h' y) t h4 _ (fun s hs h3 => Finset.sum_congr rfl fun k _ => (EReal.mul_comm _ _).trans ?_)
        (Finset.sum_congr rfl fun k _ => (EReal.mul_comm _ _).trans ?_)
      · refine (congrArg₂ (fun a b : EReal => a * b) (Ld_at m c s k _) (La_at m c s k _)).trans ?_
        blk_point [idx t]
      · refine (congrArg₂ (fun a b : EReal => a * b) (Cd_at m c t k _) (Ca_at m c t k _)).trans ?_
        blk_point [idx t]
    · blk_simp [idx t]
      exact ⟨trivial, by omega, by omega⟩
  · blk_simp [Pipeline.Window.cell_apply] at hj
    rw [kept _ _ _ _ (by blk_simp; omega)]
    show V m c main_v0 _ = _
    entry_read
    rfl

end Cert.Kernel14Ideal.Value

end
-- ==== Proof.PwDact.lean ====
/- The cotangent of the pointwise convolution with respect to its input: `dcv · pwᵀ`. -/
module

public import proofs.«01_k».proof.Proof.Gen.Kernel15Ideal.Value
public import proofs.«01_k».proof.Proof.Gen.Reference15Ideal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel15Ideal.Value

open Cert.Kernel15Ideal Cert.Kernel15Ideal.Gen

variable (m : (ℓ : Loc nD τ sig) → Buf (Elt Ideal) ℓ) (c : Dev nD)

/-- What the reference computes of its two arguments: the cotangent against the assembled weight. -/
abbrev REF (X0 : FVec Ideal S4352x512 .bf16) (X1 : FVec Ideal S4x2x128x512 .bf16) : FVec Ideal S4352x512 .f32 :=
  Host.dotGeneral Cert.Reference15Ideal.dot_S4352x512_S512x512_S4352x512_1_1_0_0_n_n none (extf .f32 X0 Cert.Reference15Ideal.Gen.bitsLt_bf16_f32) (shapeCast _ (extf .f32 (shapeCast _ (extractStridedSlice Cert.Reference15Ideal.S4x1x128x512 ![0, 0, 0, 0] X1 Cert.Reference15Ideal.Gen.slices_S4x2x128x512_S4x1x128x512_0_0_0_0) Cert.Reference15Ideal.Gen.shapeCasts_S4x1x128x512_S4x128x512) Cert.Reference15Ideal.Gen.bitsLt_bf16_f32) Cert.Reference15Ideal.Gen.shapeCasts_S4x128x512_S512x512)

theorem idx : ∀ t : Fin cfg0.N, win0_0.index t = ![t.val % 4, 0] ∧ win0_1.index t = ![t.val / 4, 0, 0, 0] ∧ win0_2.index t = ![t.val % 4, t.val / 4] :=
  (by decide +kernel : ∀ t : Fin grid0.N, _)

/-- What grid point `t` stores at `y` is the reference's entry where `y` lies in the array. -/
theorem point (t : Fin cfg0.N) (y : S1088x128.Idx) : k0_pay1 (iblk m c 0 t) (iblk m c 1 t) y
    = REF (m ((c : Thread nD τ).loc main_arg0)) (m ((c : Thread nD τ).loc main_arg1)) (((cfg0.win 2).blk t).view.emb y) := by
  have ht : t.val < 16 := t.isLt
  pointwise [k0_pay1, REF]
  blk_point [iblk, V, idx t]

/-- The whole result. -/
theorem final : (dats m 0 c).arrAt 2 cfg0.N = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel15Ideal.Value

end
-- ==== Proof.PwDw.lean ====
/- The weight gradient of the pointwise convolution, written into its layer of the gradients: `actᵀ · dcv`. -/
module

public import proofs.«01_k».proof.Proof.Gen.Kernel16Ideal.Value
public import proofs.«01_k».proof.Proof.Gen.Reference16Ideal
public import Idealize.ShloMosaic.Lib.Pipeline.ValueKit
public import Idealize.ShloMosaic.Lib.Pipeline.ReadBack
public import proofs.«01_k».proof.Proof.Sums

@[expose] public section

set_option maxRecDepth 16384

noncomputable section

open Idealize.ShloMosaic Idealize.ShloMosaic.TcCoe Idealize.SL.Sem
open Idealize.ShloMosaic.Pipeline (Dat)

namespace Cert.Kernel16Ideal.Value

open Cert.Kernel16Ideal Cert.Kernel16Ideal.Gen

variable (m : (ℓ : Loc nD τ sig) → Buf (Elt Ideal) ℓ) (c : Dev nD)

/-- What the reference computes of its arguments: the gradient in layer 0, the third argument in layer 1. -/
abbrev REF (X0 : FVec Ideal S4352x512 .bf16) (X1 : FVec Ideal S4352x512 .bf16) (X2 : FVec Ideal S2x4x128x512 .bf16) : FVec Ideal S2x4x128x512 .bf16 :=
  concatenate Cert.Reference16Ideal.S2x4x128x512 0 [⟨Cert.Reference16Ideal.S1x4x128x512, (broadcastInDim Cert.Reference16Ideal.S1x4x128x512 ![1, 2, 3] Cert.Reference16Ideal.Gen.bcast_S4x128x512_S1x4x128x512_1_2_3 (truncf .bf16 (shapeCast _ (transpose Cert.Reference16Ideal.S512x512 [1, 0] (Host.dotGeneral Cert.Reference16Ideal.dot_S4352x512_S4352x512_S512x512_0_0_1_1_n_n none (extf .f32 X1 Cert.Reference16Ideal.Gen.bitsLt_bf16_f32) (extf .f32 X0 Cert.Reference16Ideal.Gen.bitsLt_bf16_f32)) Cert.Reference16Ideal.Gen.transposes_S512x512_S512x512_1_0) Cert.Reference16Ideal.Gen.shapeCasts_S512x512_S4x128x512) Cert.Reference16Ideal.Gen.bitsLt_bf16_f32))⟩, ⟨Cert.Reference16Ideal.S1x4x128x512, (broadcastInDim Cert.Reference16Ideal.S1x4x128x512 ![1, 2, 3] Cert.Reference16Ideal.Gen.bcast_S4x128x512_S1x4x128x512_1_2_3 (shapeCast _ (extractStridedSlice Cert.Reference16Ideal.S1x4x128x512 ![1, 0, 0, 0] X2 Cert.Reference16Ideal.Gen.slices_S2x4x128x512_S1x4x128x512_1_0_0_0) Cert.Reference16Ideal.Gen.shapeCasts_S1x4x128x512_S4x128x512))⟩] Cert.Reference16Ideal.Gen.concatenates_S1x4x128x512_S1x4x128x512_S2x4x128x512_d0

theorem idx : ∀ t : Fin cfg0.N, win0_0.index t = ![min (t.val % 5) 3, t.val / 5] ∧ win0_1.index t = ![16, t.val / 5] ∧ win0_2.index t = ![min (t.val % 5) 3, 0] ∧ win0_3.index t = ![16, 0] ∧ win0_4.index t = ![0, t.val / 5, 0, 0] :=
  (by decide +kernel : ∀ t : Fin grid0.N, _)

/-- The product of one block of rows. -/
theorem first (a : Vec Ideal S1024x128 .bf16) (d : Vec Ideal S1024x512 .bf16) (j : S128x512.Idx) :
    k0_pay1 a d j = ∑ k : Fin 1024, a (ix2 k (j 0)) * d (ix2 k (j 1)) := by pointwise [k0_pay1]
/-- One more block of rows added. -/
theorem step (a : Vec Ideal S1024x128 .bf16) (d : Vec Ideal S1024x512 .bf16) (x : Vec Ideal S128x512 .f32) (j : S128x512.Idx) :
    k0_pay2 x a d j = x j + ∑ k : Fin 1024, a (ix2 k (j 0)) * d (ix2 k (j 1)) := by pointwise [k0_pay2]
/-- The last, shorter block of rows added. -/
theorem last (a : Vec Ideal S256x128 .bf16) (d : Vec Ideal S256x512 .bf16) (x : Vec Ideal S128x512 .f32) (y : S1x1x128x512.Idx) :
    k0_pay3 x a d y = x (ix2 (y 2) (y 3)) + ∑ k : Fin 256, a (ix2 k (y 2)) * d (ix2 k (y 3)) := by pointwise [k0_pay3]

/-- The reference's entry in the layer the gradient is of, as one contraction over all rows. -/
theorem whole (X0 : FVec Ideal S4352x512 .bf16) (X1 : FVec Ideal S4352x512 .bf16) (X2 : FVec Ideal S2x4x128x512 .bf16) (j : S2x4x128x512.Idx) (hj : (j 0).val = 0) :
    REF X0 X1 X2 j = ∑ k : Fin 4352, X1 (ix2 k (j 3)) * X0 (ix2 k ⟨(j 1).val * 128 + (j 2).val, by have h1 : (j 1).val < 4 := (j 1).isLt; have h2 : (j 2).val < 128 := (j 2).isLt; omega⟩) := by
  pointwise [REF, hj]
/-- In the other layer the reference keeps its third argument. -/
theorem kept (X0 : FVec Ideal S4352x512 .bf16) (X1 : FVec Ideal S4352x512 .bf16) (X2 : FVec Ideal S2x4x128x512 .bf16) (j : S2x4x128x512.Idx) (hj : ¬ ((j 0).val = 0)) :
    REF X0 X1 X2 j = X2 j := by
  pointwise [REF]
  have h0 : (j 0).val < 2 := (j 0).isLt
  have h1 : (j 1).val < 4 := (j 1).isLt
  split_ifs
  all_goals first
    | (exfalso; omega)
    | (refine congrArg X2 (funext fun a => ?_)
       match a with
       | 0 => exact Fin.ext (by first | (show 0 = (j 0).val; omega) | (show 1 = (j 0).val; omega))
       | 1 => first | rfl | exact Fin.ext (by show 3 = (j 1).val; omega) | exact Fin.ext (by dsimp only [ix4]; omega)
       | 2 => rfl
       | 3 => rfl)

/-- The block of 1024 rows of the first factor at a grid point. -/
abbrev La (t : Fin cfg0.N) : Vec Ideal S1024x128 .bf16 := X0_0 m c t
/-- The block of 1024 rows of the second factor at a grid point. -/
abbrev Ld (t : Fin cfg0.N) : Vec Ideal S1024x512 .bf16 := X0_2 m c t
/-- The last 256 rows of the first factor. -/
abbrev Ca (t : Fin cfg0.N) : Vec Ideal S256x128 .bf16 := iblk m c 1 t
/-- The last 256 rows of the second factor. -/
abbrev Cd (t : Fin cfg0.N) : Vec Ideal S256x512 .bf16 := iblk m c 3 t

/-- Where the first factor's block of rows lies in its array. -/
theorem La_at (t : Fin cfg0.N) (k : Fin 1024) (r : Fin 128) : La m c t (ix2 k r) = m ((c : Thread nD τ).loc main_arg0) (ix2 ⟨min (t.val % 5) 3 * 1024 + k.val, by omega⟩ ⟨t.val / 5 * 128 + r.val, by have ht : t.val < 20 := t.isLt; omega⟩) := by
  have ht : t.val < 20 := t.isLt
  unfold La X0_0 Pipeline.Window.fill
  rw [dif_pos (moved0_0 t _)]
  blk_point [iblk, V, idx t]
/-- Where the second factor's block of rows lies in its array. -/
theorem Ld_at (t : Fin cfg0.N) (k : Fin 1024) (r : Fin 512) : Ld m c t (ix2 k r) = m ((c : Thread nD τ).loc main_arg1) (ix2 ⟨min (t.val % 5) 3 * 1024 + k.val, by omega⟩ r) := by
  have ht : t.val < 20 := t.isLt
  unfold Ld X0_2 Pipeline.Window.fill
  rw [dif_pos (moved0_2 t _)]
  blk_point [iblk, V, idx t]
/-- Where the first factor's last rows lie in its array. -/
theorem Ca_at (t : Fin cfg0.N) (k : Fin 256) (r : Fin 128) : Ca m c t (ix2 k r) = m ((c : Thread nD τ).loc main_arg0) (ix2 ⟨4096 + k.val, by omega⟩ ⟨t.val / 5 * 128 + r.val, by have ht : t.val < 20 := t.isLt; omega⟩) := by
  have ht : t.val < 20 := t.isLt
  blk_point [Ca, iblk, V, idx t]
/-- Where the second factor's last rows lie in its array. -/
theorem Cd_at (t : Fin cfg0.N) (k : Fin 256) (r : Fin 512) : Cd m c t (ix2 k r) = m ((c : Thread nD τ).loc main_arg1) (ix2 ⟨4096 + k.val, by omega⟩ r) := by
  have ht : t.val < 20 := t.isLt
  blk_point [Cd, iblk, V, idx t]

/-- The partial sum a grid point leaves: a fresh product at the first block of rows. -/
theorem acc_first (t : Fin cfg0.N) (h : t.val % 5 = 0) (j : S128x512.Idx) : (outsAt0 m c t.val t.isLt).2 j
    = ∑ k : Fin 1024, La m c t (ix2 k (j 0)) * Ld m c t (ix2 k (j 1)) := by
  rw [outsAt0_A m c t h (by omega) (by omega)]; frame_out; exact first _ _ j
/-- The partial sum a grid point leaves: one product more at the next three. -/
theorem acc_step (t : Fin cfg0.N) (h : 1 ≤ t.val % 5 ∧ t.val % 5 ≤ 3) (h' : t.val - 1 < cfg0.N) (j : S128x512.Idx) : (outsAt0 m c t.val t.isLt).2 j
    = (outsAt0 m c (t.val - 1) h').2 j + ∑ k : Fin 1024, La m c t (ix2 k (j 0)) * Ld m c t (ix2 k (j 1)) := by
  rw [outsAt0_B m c t (by omega) h (by omega)]; frame_out; rw [read_unread_whole]; exact step _ _ _ j
/-- What a last grid point of a run stores: the partial sum and the last, shorter block of rows. -/
theorem acc_last (t : Fin cfg0.N) (h : t.val % 5 = 4) (h' : t.val - 1 < cfg0.N) (y : S1x1x128x512.Idx) : (outsAt0 m c t.val t.isLt).1 y
    = (outsAt0 m c (t.val - 1) h').2 (ix2 (y 2) (y 3)) + ∑ k : Fin 256, Ca m c t (ix2 k (y 2)) * Cd m c t (ix2 k (y 3)) := by
  rw [outsAt0_C m c t (by omega) (by omega) h]; frame_out; rw [read_unread_whole]; exact last _ _ _ y

/-- The whole result: in the layer the gradient is of, the five blocks of rows added up; the other layer untouched. -/
theorem final : (dats m 0 c).arrAt 4 cfg0.N = REF (m ((c : Thread nD τ).loc main_arg0)) (m ((c : Thread nD τ).loc main_arg1)) (m ((c : Thread nD τ).loc main_arg2)) := by
  refine (dats m 0 c).arrAt_eq_of_coversWhere_of_agree 4 _ (fun β => β (0 : Fin _) = 0) (by decide +kernel) (fun t hf y => ?_) (fun j hj => ?_)
  · have ht : t.val < 20 := t.isLt
    have h4 := (flush0_4 t).mp hf
    blk_simp
    rw [after0_4, whole]
    · refine Sums.run (fun s => (outsAt0 m c s.val s.isLt).2 (ix2 (y 2) (y 3))) (fun s => (outsAt0 m c s.val s.isLt).1 y) _ _ (fun s h => acc_first m c s h _)
        (fun s h h' => acc_step m c s h h' _) (fun s h h' => acc_last m c s h h' y) t h4 _ (fun s hs h3 => Finset.sum_congr rfl fun k _ => (EReal.mul_comm _ _).trans ?_)
        (Finset.sum_congr rfl fun k _ => (EReal.mul_comm _ _).trans ?_)
      · refine (congrArg₂ (fun a b : EReal => a * b) (Ld_at m c s k _) (La_at m c s k _)).trans ?_
        blk_point [idx t]
      · refine (congrArg₂ (fun a b : EReal => a * b) (Cd_at m c t k _) (Ca_at m c t k _)).trans ?_
        blk_point [idx t]
    · blk_simp [idx t]
  · blk_simp [Pipeline.Window.cell_apply] at hj
    rw [kept _ _ _ _ (by blk_simp; omega)]
    show V m c main_v0 _ = _
    entry_read
    rfl

end Cert.Kernel16Ideal.Value

end
-- ==== Proof.Out.lean ====
/- The mixers' output projection: `mix · out`, the mixers' three results side by side. -/
module

public import proofs.«01_k».proof.Proof.Gen.Kernel17Ideal.Value
public import proofs.«01_k».proof.Proof.Gen.Reference17Ideal
public import Idealize.ShloMosaic.Lib.Pipeline.ValueKit
public import proofs.«01_k».proof.Proof.Sums

@[expose] public section

set_option maxRecDepth 16384

noncomputable section

open Idealize.ShloMosaic Idealize.ShloMosaic.TcCoe Idealize.SL.Sem
open Idealize.ShloMosaic.Pipeline (Dat)

namespace Cert.Kernel17Ideal.Value

open Cert.Kernel17Ideal Cert.Kernel17Ideal.Gen

variable (m : (ℓ : Loc nD τ sig) → Buf (Elt Ideal) ℓ) (c : Dev nD)

/-- What the reference computes of its four arguments: the three pieces side by side against the assembled weight. -/
abbrev REF (X0 : FVec Ideal S4352x1024 .bf16) (X1 : FVec Ideal S4352x512 .bf16) (X2 : FVec Ideal S4352x512 .bf16) (X3 : FVec Ideal S4x2x512x2048 .bf16) : FVec Ideal S4352x2048 .f32 :=
  Host.dotGeneral Cert.Reference17Ideal.dot_S4352x2048_S2048x2048_S4352x2048_1_0_0_1_n_n none (extf .f32 ((concatenate Cert.Reference17Ideal.S4352x2048 1 [⟨Cert.Reference17Ideal.S4352x1024, (X0 : (⟨Cert.Reference17Ideal.S4352x1024, .bf16⟩ : BufTy).Contents (Elt Ideal))⟩, ⟨Cert.Reference17Ideal.S4352x512, (X1 : (⟨Cert.Reference17Ideal.S4352x512, .bf16⟩ : BufTy).Contents (Elt Ideal))⟩, ⟨Cert.Reference17Ideal.S4352x512, (X2 : (⟨Cert.Reference17Ideal.S4352x512, .bf16⟩ : BufTy).Contents (Elt Ideal))⟩] Cert.Reference17Ideal.Gen.concatenates_S4352x1024_S4352x512_S4352x512_S4352x2048_d1 : (⟨Cert.Reference17Ideal.S4352x2048, .bf16⟩ : BufTy).Contents (Elt Ideal))) Cert.Reference17Ideal.Gen.bitsLt_bf16_f32) (shapeCast _ (extf .f32 (shapeCast _ (extractStridedSlice Cert.Reference17Ideal.S4x1x512x2048 ![0, 0, 0, 0] X3 Cert.Reference17Ideal.Gen.slices_S4x2x512x2048_S4x1x512x2048_0_0_0_0) Cert.Reference17Ideal.Gen.shapeCasts_S4x1x512x2048_S4x512x2048) Cert.Reference17Ideal.Gen.bitsLt_bf16_f32) Cert.Reference17Ideal.Gen.shapeCasts_S4x512x2048_S2048x2048)

theorem idx : ∀ t : Fin cfg0.N, win0_0.index t = ![t.val, 0] ∧ win0_1.index t = ![t.val, 0] ∧ win0_2.index t = ![t.val, 0] ∧ win0_3.index t = ![0, 0, 0, 0] ∧ win0_4.index t = ![t.val, 0] :=
  (by decide +kernel : ∀ t : Fin grid0.N, _)

/-- The four products of a block, added up. -/
theorem four (a0 : Vec Ideal S544x512 .bf16) (b0 : Vec Ideal S1x1x512x2048 .bf16) (a1 : Vec Ideal S544x512 .bf16) (b1 : Vec Ideal S1x1x512x2048 .bf16) (a2 : Vec Ideal S544x512 .bf16) (b2 : Vec Ideal S1x1x512x2048 .bf16) (a3 : Vec Ideal S544x512 .bf16) (b3 : Vec Ideal S1x1x512x2048 .bf16) (y : S544x2048.Idx) :
    k0_pay1 a0 b0 a1 b1 a2 b2 a3 b3 y = (((∑ k : Fin 512, a0 (ix2 (y 0) k) * b0 (ix4 0 0 k (y 1))) + ∑ k : Fin 512, a1 (ix2 (y 0) k) * b1 (ix4 0 0 k (y 1)))
      + ∑ k : Fin 512, a2 (ix2 (y 0) k) * b2 (ix4 0 0 k (y 1))) + ∑ k : Fin 512, a3 (ix2 (y 0) k) * b3 (ix4 0 0 k (y 1)) := by
  pointwise [k0_pay1]

/-- A sum over 2048 as four quarters, added up from the first. -/
theorem four_parts (f : Fin 2048 → EReal) : ∑ i, f i = (((∑ k : Fin 512, f ⟨k, by omega⟩) + ∑ k : Fin 512, f ⟨512 + k, by omega⟩) + ∑ k : Fin 512, f ⟨1024 + k, by omega⟩) + ∑ k : Fin 512, f ⟨1536 + k, by omega⟩ := by
  rw [Sums.split 1536 512 rfl, Sums.split 1024 512 rfl, Sums.split 512 512 rfl]

/-- The reference's entry: the rows of each piece of the weight against the piece of the input they multiply. -/
theorem whole (X0 : FVec Ideal S4352x1024 .bf16) (X1 : FVec Ideal S4352x512 .bf16) (X2 : FVec Ideal S4352x512 .bf16) (X3 : FVec Ideal S4x2x512x2048 .bf16) (j : S4352x2048.Idx) :
    REF X0 X1 X2 X3 j = (((∑ k : Fin 512, X0 (ix2 (j 0) ⟨k.val, by omega⟩) * X3 (ix4 0 0 k (j 1))) + ∑ k : Fin 512, X0 (ix2 (j 0) ⟨512 + k.val, by omega⟩) * X3 (ix4 1 0 k (j 1)))
      + ∑ k : Fin 512, X1 (ix2 (j 0) k) * X3 (ix4 2 0 k (j 1))) + ∑ k : Fin 512, X2 (ix2 (j 0) k) * X3 (ix4 3 0 k (j 1)) := by
  pointwise [REF]
  rw [four_parts]
  refine congrArg₂ (fun a b : EReal => a + b) (congrArg₂ (fun a b : EReal => a + b) (congrArg₂ (fun a b : EReal => a + b) ?_ ?_) ?_) ?_
  all_goals refine Finset.sum_congr rfl fun k _ => ?_
  · rw [dif_pos (by dsimp only; omega)]; blk_point []
  · rw [dif_pos (by dsimp only; omega)]; blk_point []
  · rw [dif_neg (by dsimp only; omega), dif_pos (by dsimp only; omega)]; blk_point []
  · rw [dif_neg (by dsimp only; omega), dif_neg (by dsimp only; omega)]; blk_point []

/-- The whole result: the four quarters of the contraction, added up. -/
theorem final : (dats m 0 c).arrAt 4 cfg0.N = REF (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  have ht : t.val < 8 := t.isLt
  blk_simp
  rw [after0_4]; frame_out
  rw [four, whole]
  refine congrArg₂ (fun a b : EReal => a + b) (congrArg₂ (fun a b : EReal => a + b) (congrArg₂ (fun a b : EReal => a + b) ?_ ?_) ?_) ?_
  all_goals refine Finset.sum_congr rfl fun k _ => ?_
  all_goals have hk : k.val < 512 := k.isLt
  all_goals blk_point [iblk, V, idx t]

end Cert.Kernel17Ideal.Value

end
-- ==== Proof.Pw.lean ====
/- The pointwise convolution: `act · pw`. -/
module

public import proofs.«01_k».proof.Proof.Gen.Kernel18Ideal.Value
public import proofs.«01_k».proof.Proof.Gen.Reference18Ideal
public import Idealize.ShloMosaic.Lib.Pipeline.ValueKit
public import proofs.«01_k».proof.Proof.Sums

@[expose] public section

set_option maxRecDepth 16384

noncomputable section

open Idealize.ShloMosaic Idealize.ShloMosaic.TcCoe Idealize.SL.Sem
open Idealize.ShloMosaic.Pipeline (Dat)

namespace Cert.Kernel18Ideal.Value

open Cert.Kernel18Ideal Cert.Kernel18Ideal.Gen

variable (m : (ℓ : Loc nD τ sig) → Buf (Elt Ideal) ℓ) (c : Dev nD)

/-- What the reference computes of its two arguments: the activation against the assembled weight. -/
abbrev REF (X0 : FVec Ideal S4352x512 .bf16) (X1 : FVec Ideal S4x2x128x512 .bf16) : FVec Ideal S4352x512 .bf16 :=
  truncf .bf16 (Host.dotGeneral Cert.Reference18Ideal.dot_S4352x512_S512x512_S4352x512_1_0_0_1_n_n none (extf .f32 X0 Cert.Reference18Ideal.Gen.bitsLt_bf16_f32) (shapeCast _ (extf .f32 (shapeCast _ (extractStridedSlice Cert.Reference18Ideal.S4x1x128x512 ![0, 0, 0, 0] X1 Cert.Reference18Ideal.Gen.slices_S4x2x128x512_S4x1x128x512_0_0_0_0) Cert.Reference18Ideal.Gen.shapeCasts_S4x1x128x512_S4x128x512) Cert.Reference18Ideal.Gen.bitsLt_bf16_f32) Cert.Reference18Ideal.Gen.shapeCasts_S4x128x512_S512x512)) Cert.Reference18Ideal.Gen.bitsLt_bf16_f32

theorem idx : ∀ t : Fin cfg0.N, win0_0.index t = ![t.val, 0] ∧ win0_1.index t = ![0, 0, 0, 0] ∧ win0_2.index t = ![t.val, 0] :=
  (by decide +kernel : ∀ t : Fin grid0.N, _)

/-- The four products of a block, added up. -/
theorem four (a0 : Vec Ideal S544x128 .bf16) (b0 : Vec Ideal S1x1x128x512 .bf16) (a1 : Vec Ideal S544x128 .bf16) (b1 : Vec Ideal S1x1x128x512 .bf16) (a2 : Vec Ideal S544x128 .bf16) (b2 : Vec Ideal S1x1x128x512 .bf16) (a3 : Vec Ideal S544x128 .bf16) (b3 : Vec Ideal S1x1x128x512 .bf16) (y : S544x512.Idx) :
    k0_pay1 a0 b0 a1 b1 a2 b2 a3 b3 y = (((∑ k : Fin 128, a0 (ix2 (y 0) k) * b0 (ix4 0 0 k (y 1))) + ∑ k : Fin 128, a1 (ix2 (y 0) k) * b1 (ix4 0 0 k (y 1)))
      + ∑ k : Fin 128, a2 (ix2 (y 0) k) * b2 (ix4 0 0 k (y 1))) + ∑ k : Fin 128, a3 (ix2 (y 0) k) * b3 (ix4 0 0 k (y 1)) := by
  pointwise [k0_pay1]

/-- A sum over 512 as four quarters, added up from the first. -/
theorem four_parts (f : Fin 512 → EReal) : ∑ i, f i = (((∑ k : Fin 128, f ⟨k, by omega⟩) + ∑ k : Fin 128, f ⟨128 + k, by omega⟩) + ∑ k : Fin 128, f ⟨256 + k, by omega⟩) + ∑ k : Fin 128, f ⟨384 + k, by omega⟩ := by
  rw [Sums.split 384 128 rfl, Sums.split 256 128 rfl, Sums.split 128 128 rfl]

/-- The reference's entry as one contraction. -/
theorem whole (X0 : FVec Ideal S4352x512 .bf16) (X1 : FVec Ideal S4x2x128x512 .bf16) (j : S4352x512.Idx) :
    REF X0 X1 j = ∑ l : Fin 512, X0 (ix2 (j 0) l) * X1 (ix4 ⟨l.val / 128, by omega⟩ 0 ⟨l.val % 128, by omega⟩ (j 1)) := by
  pointwise [REF]

/-- The whole result: the four quarters of the contraction, added up. -/
theorem final : (dats m 0 c).arrAt 2 cfg0.N = REF (m ((c : Thread nD τ).loc main_arg0)) (m ((c : Thread nD τ).loc main_arg1)) := by
  refine (dats m 0 c).arrAt_eq_of_covers 2 _ (by decide +kernel) fun t _ y => ?_
  have ht : t.val < 8 := t.isLt
  blk_simp
  rw [after0_2]; frame_out
  rw [four, whole, four_parts]
  refine congrArg₂ (fun a b : EReal => a + b) (congrArg₂ (fun a b : EReal => a + b) (congrArg₂ (fun a b : EReal => a + b) ?_ ?_) ?_) ?_
  all_goals refine Finset.sum_congr rfl fun k _ => ?_
  all_goals have hk : k.val < 128 := k.isLt
  all_goals blk_point [iblk, V, idx t]

end Cert.Kernel18Ideal.Value

end
-- ==== Proof.UpDhLater.lean ====
/- The cotangent of the feed-forward's up projection with respect to its input: `dU · upᵀ`, in layer 1. -/
module

public import proofs.«01_k».proof.Proof.Gen.Kernel19Ideal.Value
public import proofs.«01_k».proof.Proof.Gen.Reference19Ideal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel19Ideal.Value

open Cert.Kernel19Ideal Cert.Kernel19Ideal.Gen

variable (m : (ℓ : Loc nD τ sig) → Buf (Elt Ideal) ℓ) (c : Dev nD)

/-- What the reference computes of its two arguments: value and gate side by side against the assembled weight. -/
abbrev REF (X0 : FVec Ideal S2x4352x5632 .bf16) (X1 : FVec Ideal S4x2x2048x2816 .bf16) : FVec Ideal S4352x2048 .f32 :=
  Host.dotGeneral Cert.Reference19Ideal.dot_S4352x11264_S2048x11264_S4352x2048_1_1_0_0_n_n none (shapeCast _ (transpose Cert.Reference19Ideal.S4352x2x5632 [1, 0, 2] (extf .f32 X0 Cert.Reference19Ideal.Gen.bitsLt_bf16_f32) Cert.Reference19Ideal.Gen.transposes_S2x4352x5632_S4352x2x5632_1_0_2) Cert.Reference19Ideal.Gen.shapeCasts_S4352x2x5632_S4352x11264) (shapeCast _ (transpose Cert.Reference19Ideal.S2048x4x2816 [1, 0, 2] (extf .f32 (shapeCast _ (extractStridedSlice Cert.Reference19Ideal.S4x1x2048x2816 ![0, 1, 0, 0] X1 Cert.Reference19Ideal.Gen.slices_S4x2x2048x2816_S4x1x2048x2816_0_1_0_0) Cert.Reference19Ideal.Gen.shapeCasts_S4x1x2048x2816_S4x2048x2816) Cert.Reference19Ideal.Gen.bitsLt_bf16_f32) Cert.Reference19Ideal.Gen.transposes_S4x2048x2816_S2048x4x2816_1_0_2) Cert.Reference19Ideal.Gen.shapeCasts_S2048x4x2816_S2048x11264)

theorem idx : ∀ t : Fin cfg0.N, win0_0.index t = ![t.val % 8 / 4, t.val / 8, t.val % 4] ∧ win0_1.index t = ![t.val % 8 / 2, 1, 0, t.val % 2] ∧ win0_2.index t = ![t.val / 8, 0] :=
  (by decide +kernel : ∀ t : Fin grid0.N, _)

/-- The product of one block. -/
theorem first (x0 : Vec Ideal S1x1088x1408 .bf16) (x1 : Vec Ideal S1x1x2048x1408 .bf16) (j : S1088x2048.Idx) :
    k0_pay1 x0 x1 j = ∑ k : Fin 1408, x0 (ix3 0 (j 0) k) * x1 (ix4 0 0 (j 1) k) := by pointwise [k0_pay1]
/-- One more product added. -/
theorem step (x0 : Vec Ideal S1x1088x1408 .bf16) (x1 : Vec Ideal S1x1x2048x1408 .bf16) (a : Vec Ideal S1088x2048 .f32) (j : S1088x2048.Idx) :
    k0_pay2 x0 x1 a j = a j + ∑ k : Fin 1408, x0 (ix3 0 (j 0) k) * x1 (ix4 0 0 (j 1) k) := by pointwise [k0_pay2, k0_pay1]
/-- The reference's entry as one contraction. -/
theorem whole (X0 : FVec Ideal S2x4352x5632 .bf16) (X1 : FVec Ideal S4x2x2048x2816 .bf16) (j : S4352x2048.Idx) :
    REF X0 X1 j = ∑ l : Fin 11264, X0 (ix3 ⟨l.val / 5632, by omega⟩ (j 0) ⟨l.val % 5632, by omega⟩) * X1 (ix4 ⟨l.val / 2816, by omega⟩ 1 (j 1) ⟨l.val % 2816, by omega⟩) := by
  pointwise [REF]

/-- The whole result: the 8 partial products of a block of rows, added up from the first, are the contraction over all 11264. -/
theorem final : (dats m 0 c).arrAt 2 cfg0.N = REF (m ((c : Thread nD τ).loc main_arg0)) (m ((c : Thread nD τ).loc main_arg1)) := by
  refine (dats m 0 c).arrAt_eq_of_covers 2 _ (by decide +kernel) fun t hf y => ?_
  have ht : t.val < 32 := t.isLt
  blk_simp
  rw [after0_2, Pipeline.eq_sum_fin_of_reset_step_apply_of_flush (fun n h => outsAt0 m c n h) 8 (fun _ => 0) _
    (fun t h j => by rw [outsAt0_A m c t h (by omega)]; frame_out; rw [first, zero_add])
    (fun t h j => by rw [outsAt0_B m c t h (by omega)]; frame_out; rw [step])
    t ((flush0_2 t).mp hf) _, zero_add, whole]
  refine Fin.sum_mul_add_congr fun s k hl => ?_
  blk_point [iblk, V, idx t, idx ⟨_, Pipeline.run_point_lt_of_flush t ((flush0_2 t).mp hf) s⟩]

end Cert.Kernel19Ideal.Value

end
-- ==== Proof.UpDwLater.lean ====
/- The weight gradient of the feed-forward's up projection, written into layer 1 of the gradients: `hᵀ · dU`. -/
module

public import proofs.«01_k».proof.Proof.Gen.Kernel20Ideal.Value
public import proofs.«01_k».proof.Proof.Gen.Reference20Ideal
public import Idealize.ShloMosaic.Lib.Pipeline.ValueKit
public import Idealize.ShloMosaic.Lib.Pipeline.ReadBack
public import proofs.«01_k».proof.Proof.UpDw

@[expose] public section

set_option maxRecDepth 16384

noncomputable section

open Idealize.ShloMosaic Idealize.ShloMosaic.TcCoe Idealize.SL.Sem
open Idealize.ShloMosaic.Pipeline (Dat)

namespace Cert.Kernel20Ideal.Value

open Cert.Kernel20Ideal Cert.Kernel20Ideal.Gen

variable (m : (ℓ : Loc nD τ sig) → Buf (Elt Ideal) ℓ) (c : Dev nD)

/-- What the reference computes of its arguments: the gradient in layer 1, the third argument in layer 0. -/
abbrev REF (X0 : FVec Ideal S4352x2048 .bf16) (X1 : FVec Ideal S2x4352x5632 .bf16) (X2 : FVec Ideal S2x4x2048x2816 .bf16) : FVec Ideal S2x4x2048x2816 .bf16 :=
  concatenate Cert.Reference20Ideal.S2x4x2048x2816 0 [⟨Cert.Reference20Ideal.S1x4x2048x2816, (broadcastInDim Cert.Reference20Ideal.S1x4x2048x2816 ![1, 2, 3] Cert.Reference20Ideal.Gen.bcast_S4x2048x2816_S1x4x2048x2816_1_2_3 (shapeCast _ (extractStridedSlice Cert.Reference20Ideal.S1x4x2048x2816 ![0, 0, 0, 0] X2 Cert.Reference20Ideal.Gen.slices_S2x4x2048x2816_S1x4x2048x2816_0_0_0_0) Cert.Reference20Ideal.Gen.shapeCasts_S1x4x2048x2816_S4x2048x2816))⟩, ⟨Cert.Reference20Ideal.S1x4x2048x2816, (broadcastInDim Cert.Reference20Ideal.S1x4x2048x2816 ![1, 2, 3] Cert.Reference20Ideal.Gen.bcast_S4x2048x2816_S1x4x2048x2816_1_2_3 (truncf .bf16 (transpose Cert.Reference20Ideal.S4x2048x2816 [1, 0, 2] (shapeCast _ (transpose Cert.Reference20Ideal.S2048x11264 [1, 0] (Host.dotGeneral Cert.Reference20Ideal.dot_S4352x11264_S4352x2048_S11264x2048_0_0_1_1_n_n none (shapeCast _ (transpose Cert.Reference20Ideal.S4352x2x5632 [1, 0, 2] (extf .f32 X1 Cert.Reference20Ideal.Gen.bitsLt_bf16_f32) Cert.Reference20Ideal.Gen.transposes_S2x4352x5632_S4352x2x5632_1_0_2) Cert.Reference20Ideal.Gen.shapeCasts_S4352x2x5632_S4352x11264) (extf .f32 X0 Cert.Reference20Ideal.Gen.bitsLt_bf16_f32)) Cert.Reference20Ideal.Gen.transposes_S11264x2048_S2048x11264_1_0) Cert.Reference20Ideal.Gen.shapeCasts_S2048x11264_S2048x4x2816) Cert.Reference20Ideal.Gen.transposes_S2048x4x2816_S4x2048x2816_1_0_2) Cert.Reference20Ideal.Gen.bitsLt_bf16_f32))⟩] Cert.Reference20Ideal.Gen.concatenates_S1x4x2048x2816_S1x4x2048x2816_S2x4x2048x2816_d0

theorem idx : ∀ t : Fin cfg0.N, win0_0.index t = ![min (t.val % 5) 3, 0] ∧ win0_1.index t = ![16, 0] ∧ win0_2.index t = ![t.val / 5 / 4, min (t.val % 5) 3, t.val / 5 % 4] ∧ win0_3.index t = ![t.val / 5 / 4, 16, t.val / 5 % 4] ∧ win0_4.index t = ![1, t.val / 5 / 2, 0, t.val / 5 % 2] :=
  (by decide +kernel : ∀ t : Fin grid0.N, _)

/-- The reference's entry in the layer the gradient is of, as one contraction over all rows. -/
theorem whole (X0 : FVec Ideal S4352x2048 .bf16) (X1 : FVec Ideal S2x4352x5632 .bf16) (X2 : FVec Ideal S2x4x2048x2816 .bf16) (j : S2x4x2048x2816.Idx) (hj : (j 0).val = 1) :
    REF X0 X1 X2 j = ∑ k : Fin 4352, X1 (ix3 ⟨((j 1).val * 2816 + (j 3).val) / 5632, by have h1 : (j 1).val < 4 := (j 1).isLt; have h3 : (j 3).val < 2816 := (j 3).isLt; omega⟩ k ⟨((j 1).val * 2816 + (j 3).val) % 5632, by have h1 : (j 1).val < 4 := (j 1).isLt; have h3 : (j 3).val < 2816 := (j 3).isLt; omega⟩) * X0 (ix2 k (j 2)) := by
  pointwise [REF, hj]
/-- In the other layer the reference keeps its third argument. -/
theorem kept (X0 : FVec Ideal S4352x2048 .bf16) (X1 : FVec Ideal S2x4352x5632 .bf16) (X2 : FVec Ideal S2x4x2048x2816 .bf16) (j : S2x4x2048x2816.Idx) (hj : ¬ ((j 0).val = 1)) :
    REF X0 X1 X2 j = X2 j := by
  pointwise [REF]
  have h0 : (j 0).val < 2 := (j 0).isLt
  have h1 : (j 1).val < 4 := (j 1).isLt
  split_ifs
  all_goals first
    | (exfalso; omega)
    | (refine congrArg X2 (funext fun a => ?_)
       match a with
       | 0 => exact Fin.ext (by first | (show 0 = (j 0).val; omega) | (show 1 = (j 0).val; omega))
       | 1 => first | rfl | exact Fin.ext (by show 3 = (j 1).val; omega) | exact Fin.ext (by dsimp only [ix4]; omega)
       | 2 => rfl
       | 3 => rfl)

/-- The block of 1024 rows of the first factor at a grid point. -/
abbrev La (t : Fin cfg0.N) : Vec Ideal S1024x2048 .bf16 := X0_0 m c t
/-- The block of 1024 rows of the second factor at a grid point. -/
abbrev Ld (t : Fin cfg0.N) : Vec Ideal S1x1024x1408 .bf16 := X0_2 m c t
/-- The last 256 rows of the first factor. -/
abbrev Ca (t : Fin cfg0.N) : Vec Ideal S256x2048 .bf16 := iblk m c 1 t
/-- The last 256 rows of the second factor. -/
abbrev Cd (t : Fin cfg0.N) : Vec Ideal S1x256x1408 .bf16 := iblk m c 3 t

/-- Where the first factor's block of rows lies in its array. -/
theorem La_at (t : Fin cfg0.N) (k : Fin 1024) (r : Fin 2048) : La m c t (ix2 k r) = m ((c : Thread nD τ).loc main_arg0) (ix2 ⟨min (t.val % 5) 3 * 1024 + k.val, by omega⟩ r) := by
  have ht : t.val < 40 := t.isLt
  unfold La X0_0 Pipeline.Window.fill
  rw [dif_pos (moved0_0 t _)]
  blk_point [iblk, V, idx t]
/-- Where the second factor's block of rows lies in its array. -/
theorem Ld_at (t : Fin cfg0.N) (k : Fin 1024) (r : Fin 1408) : Ld m c t (ix3 0 k r) = m ((c : Thread nD τ).loc main_arg1) (ix3 ⟨t.val / 5 / 4, by have ht : t.val < 40 := t.isLt; omega⟩ ⟨min (t.val % 5) 3 * 1024 + k.val, by omega⟩ ⟨t.val / 5 % 4 * 1408 + r.val, by omega⟩) := by
  have ht : t.val < 40 := t.isLt
  unfold Ld X0_2 Pipeline.Window.fill
  rw [dif_pos (moved0_2 t _)]
  blk_point [iblk, V, idx t]
/-- Where the first factor's last rows lie in its array. -/
theorem Ca_at (t : Fin cfg0.N) (k : Fin 256) (r : Fin 2048) : Ca m c t (ix2 k r) = m ((c : Thread nD τ).loc main_arg0) (ix2 ⟨4096 + k.val, by omega⟩ r) := by
  have ht : t.val < 40 := t.isLt
  blk_point [Ca, iblk, V, idx t]
/-- Where the second factor's last rows lie in its array. -/
theorem Cd_at (t : Fin cfg0.N) (k : Fin 256) (r : Fin 1408) : Cd m c t (ix3 0 k r) = m ((c : Thread nD τ).loc main_arg1) (ix3 ⟨t.val / 5 / 4, by have ht : t.val < 40 := t.isLt; omega⟩ ⟨4096 + k.val, by omega⟩ ⟨t.val / 5 % 4 * 1408 + r.val, by omega⟩) := by
  have ht : t.val < 40 := t.isLt
  blk_point [Cd, iblk, V, idx t]

/-- The partial sum a grid point leaves: a fresh product at the first block of rows. -/
theorem acc_first (t : Fin cfg0.N) (h : t.val % 5 = 0) (j : S2048x1408.Idx) : (outsAt0 m c t.val t.isLt).2 j
    = ∑ k : Fin 1024, La m c t (ix2 k (j 0)) * Ld m c t (ix3 0 k (j 1)) := by
  rw [outsAt0_A m c t h (by omega) (by omega)]; frame_out; exact Cert.Kernel3Ideal.Value.first _ _ j
/-- The partial sum a grid point leaves: one product more at the next three. -/
theorem acc_step (t : Fin cfg0.N) (h : 1 ≤ t.val % 5 ∧ t.val % 5 ≤ 3) (h' : t.val - 1 < cfg0.N) (j : S2048x1408.Idx) : (outsAt0 m c t.val t.isLt).2 j
    = (outsAt0 m c (t.val - 1) h').2 j + ∑ k : Fin 1024, La m c t (ix2 k (j 0)) * Ld m c t (ix3 0 k (j 1)) := by
  rw [outsAt0_B m c t (by omega) h (by omega)]; frame_out; rw [read_unread_whole]; exact Cert.Kernel3Ideal.Value.step _ _ _ j
/-- What a last grid point of a run stores: the partial sum and the last, shorter block of rows. -/
theorem acc_last (t : Fin cfg0.N) (h : t.val % 5 = 4) (h' : t.val - 1 < cfg0.N) (y : S1x1x2048x1408.Idx) : (outsAt0 m c t.val t.isLt).1 y
    = (outsAt0 m c (t.val - 1) h').2 (ix2 (y 2) (y 3)) + ∑ k : Fin 256, Ca m c t (ix2 k (y 2)) * Cd m c t (ix3 0 k (y 3)) := by
  rw [outsAt0_C m c t (by omega) (by omega) h]; frame_out; rw [read_unread_whole]; exact Cert.Kernel3Ideal.Value.last _ _ _ y

/-- The whole result: in the layer the gradient is of, the five blocks of rows added up; the other layer untouched. -/
theorem final : (dats m 0 c).arrAt 4 cfg0.N = REF (m ((c : Thread nD τ).loc main_arg0)) (m ((c : Thread nD τ).loc main_arg1)) (m ((c : Thread nD τ).loc main_arg2)) := by
  refine (dats m 0 c).arrAt_eq_of_coversWhere_of_agree 4 _ (fun β => β (0 : Fin _) = 1) (by decide +kernel) (fun t hf y => ?_) (fun j hj => ?_)
  · have ht : t.val < 40 := t.isLt
    have h4 := (flush0_4 t).mp hf
    blk_simp
    rw [after0_4, whole]
    · refine Sums.run (fun s => (outsAt0 m c s.val s.isLt).2 (ix2 (y 2) (y 3))) (fun s => (outsAt0 m c s.val s.isLt).1 y) _ _ (fun s h => acc_first m c s h _)
        (fun s h h' => acc_step m c s h h' _) (fun s h h' => acc_last m c s h h' y) t h4 _ (fun s hs h3 => Finset.sum_congr rfl fun k _ => (EReal.mul_comm _ _).trans ?_)
        (Finset.sum_congr rfl fun k _ => (EReal.mul_comm _ _).trans ?_)
      · refine (congrArg₂ (fun a b : EReal => a * b) (Ld_at m c s k _) (La_at m c s k _)).trans ?_
        blk_point [idx t]
      · refine (congrArg₂ (fun a b : EReal => a * b) (Cd_at m c t k _) (Ca_at m c t k _)).trans ?_
        blk_point [idx t]
    · blk_simp [idx t]
  · blk_simp [Pipeline.Window.cell_apply] at hj
    rw [kept _ _ _ _ (by blk_simp; omega)]
    show V m c main_v0 _ = _
    entry_read
    rfl

end Cert.Kernel20Ideal.Value

end
-- ==== Proof.DownDaLater.lean ====
/- The cotangent of the feed-forward's down projection with respect to its input: `dY · downᵀ`, in layer 1. -/
module

public import proofs.«01_k».proof.Proof.Gen.Kernel21Ideal.Value
public import proofs.«01_k».proof.Proof.Gen.Reference21Ideal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel21Ideal.Value

open Cert.Kernel21Ideal Cert.Kernel21Ideal.Gen

variable (m : (ℓ : Loc nD τ sig) → Buf (Elt Ideal) ℓ) (c : Dev nD)

/-- What the reference computes of its two arguments: `dY` against the rows of the assembled weight. -/
abbrev REF (X0 : FVec Ideal S4352x2048 .bf16) (X1 : FVec Ideal S4x2x1408x2048 .bf16) : FVec Ideal S4352x5632 .f32 :=
  Host.dotGeneral Cert.Reference21Ideal.dot_S4352x2048_S5632x2048_S4352x5632_1_1_0_0_n_n none (extf .f32 X0 Cert.Reference21Ideal.Gen.bitsLt_bf16_f32) (shapeCast _ (extf .f32 (shapeCast _ (extractStridedSlice Cert.Reference21Ideal.S4x1x1408x2048 ![0, 1, 0, 0] X1 Cert.Reference21Ideal.Gen.slices_S4x2x1408x2048_S4x1x1408x2048_0_1_0_0) Cert.Reference21Ideal.Gen.shapeCasts_S4x1x1408x2048_S4x1408x2048) Cert.Reference21Ideal.Gen.bitsLt_bf16_f32) Cert.Reference21Ideal.Gen.shapeCasts_S4x1408x2048_S5632x2048)

theorem idx : ∀ t : Fin cfg0.N, win0_0.index t = ![t.val % 4, 0] ∧ win0_1.index t = ![t.val / 4, 1, 0, 0] ∧ win0_2.index t = ![t.val % 4, t.val / 4] :=
  (by decide +kernel : ∀ t : Fin grid0.N, _)

/-- What grid point `t` stores at `y` is the reference's entry where `y` lies in the array. -/
theorem point (t : Fin cfg0.N) (y : S1088x1408.Idx) : k0_pay1 (iblk m c 0 t) (iblk m c 1 t) y
    = REF (m ((c : Thread nD τ).loc main_arg0)) (m ((c : Thread nD τ).loc main_arg1)) (((cfg0.win 2).blk t).view.emb y) := by
  have ht : t.val < 16 := t.isLt
  pointwise [k0_pay1, REF]
  blk_point [iblk, V, idx t]

/-- The whole result. -/
theorem final : (dats m 0 c).arrAt 2 cfg0.N = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel21Ideal.Value

end
-- ==== Proof.DownDwLater.lean ====
/- The weight gradient of the feed-forward's down projection, written into layer 1 of the gradients: `aᵀ · dY`. -/
module

public import proofs.«01_k».proof.Proof.Gen.Kernel22Ideal.Value
public import proofs.«01_k».proof.Proof.Gen.Reference22Ideal
public import Idealize.ShloMosaic.Lib.Pipeline.ValueKit
public import Idealize.ShloMosaic.Lib.Pipeline.ReadBack
public import proofs.«01_k».proof.Proof.DownDw

@[expose] public section

set_option maxRecDepth 16384

noncomputable section

open Idealize.ShloMosaic Idealize.ShloMosaic.TcCoe Idealize.SL.Sem
open Idealize.ShloMosaic.Pipeline (Dat)

namespace Cert.Kernel22Ideal.Value

open Cert.Kernel22Ideal Cert.Kernel22Ideal.Gen

variable (m : (ℓ : Loc nD τ sig) → Buf (Elt Ideal) ℓ) (c : Dev nD)

/-- What the reference computes of its arguments: the gradient in layer 1, the third argument in layer 0. -/
abbrev REF (X0 : FVec Ideal S4352x5632 .bf16) (X1 : FVec Ideal S4352x2048 .bf16) (X2 : FVec Ideal S2x4x1408x2048 .bf16) : FVec Ideal S2x4x1408x2048 .bf16 :=
  concatenate Cert.Reference22Ideal.S2x4x1408x2048 0 [⟨Cert.Reference22Ideal.S1x4x1408x2048, (broadcastInDim Cert.Reference22Ideal.S1x4x1408x2048 ![1, 2, 3] Cert.Reference22Ideal.Gen.bcast_S4x1408x2048_S1x4x1408x2048_1_2_3 (shapeCast _ (extractStridedSlice Cert.Reference22Ideal.S1x4x1408x2048 ![0, 0, 0, 0] X2 Cert.Reference22Ideal.Gen.slices_S2x4x1408x2048_S1x4x1408x2048_0_0_0_0) Cert.Reference22Ideal.Gen.shapeCasts_S1x4x1408x2048_S4x1408x2048))⟩, ⟨Cert.Reference22Ideal.S1x4x1408x2048, (broadcastInDim Cert.Reference22Ideal.S1x4x1408x2048 ![1, 2, 3] Cert.Reference22Ideal.Gen.bcast_S4x1408x2048_S1x4x1408x2048_1_2_3 (truncf .bf16 (shapeCast _ (transpose Cert.Reference22Ideal.S5632x2048 [1, 0] (Host.dotGeneral Cert.Reference22Ideal.dot_S4352x2048_S4352x5632_S2048x5632_0_0_1_1_n_n none (extf .f32 X1 Cert.Reference22Ideal.Gen.bitsLt_bf16_f32) (extf .f32 X0 Cert.Reference22Ideal.Gen.bitsLt_bf16_f32)) Cert.Reference22Ideal.Gen.transposes_S2048x5632_S5632x2048_1_0) Cert.Reference22Ideal.Gen.shapeCasts_S5632x2048_S4x1408x2048) Cert.Reference22Ideal.Gen.bitsLt_bf16_f32))⟩] Cert.Reference22Ideal.Gen.concatenates_S1x4x1408x2048_S1x4x1408x2048_S2x4x1408x2048_d0

theorem idx : ∀ t : Fin cfg0.N, win0_0.index t = ![min (t.val % 5) 3, t.val / 5] ∧ win0_1.index t = ![16, t.val / 5] ∧ win0_2.index t = ![min (t.val % 5) 3, 0] ∧ win0_3.index t = ![16, 0] ∧ win0_4.index t = ![1, t.val / 5, 0, 0] :=
  (by decide +kernel : ∀ t : Fin grid0.N, _)

/-- The reference's entry in the layer the gradient is of, as one contraction over all rows. -/
theorem whole (X0 : FVec Ideal S4352x5632 .bf16) (X1 : FVec Ideal S4352x2048 .bf16) (X2 : FVec Ideal S2x4x1408x2048 .bf16) (j : S2x4x1408x2048.Idx) (hj : (j 0).val = 1) :
    REF X0 X1 X2 j = ∑ k : Fin 4352, X1 (ix2 k (j 3)) * X0 (ix2 k ⟨(j 1).val * 1408 + (j 2).val, by have h1 : (j 1).val < 4 := (j 1).isLt; have h2 : (j 2).val < 1408 := (j 2).isLt; omega⟩) := by
  pointwise [REF, hj]
/-- In the other layer the reference keeps its third argument. -/
theorem kept (X0 : FVec Ideal S4352x5632 .bf16) (X1 : FVec Ideal S4352x2048 .bf16) (X2 : FVec Ideal S2x4x1408x2048 .bf16) (j : S2x4x1408x2048.Idx) (hj : ¬ ((j 0).val = 1)) :
    REF X0 X1 X2 j = X2 j := by
  pointwise [REF]
  have h0 : (j 0).val < 2 := (j 0).isLt
  have h1 : (j 1).val < 4 := (j 1).isLt
  split_ifs
  all_goals first
    | (exfalso; omega)
    | (refine congrArg X2 (funext fun a => ?_)
       match a with
       | 0 => exact Fin.ext (by first | (show 0 = (j 0).val; omega) | (show 1 = (j 0).val; omega))
       | 1 => first | rfl | exact Fin.ext (by show 3 = (j 1).val; omega) | exact Fin.ext (by dsimp only [ix4]; omega)
       | 2 => rfl
       | 3 => rfl)

/-- The block of 1024 rows of the first factor at a grid point. -/
abbrev La (t : Fin cfg0.N) : Vec Ideal S1024x1408 .bf16 := X0_0 m c t
/-- The block of 1024 rows of the second factor at a grid point. -/
abbrev Ld (t : Fin cfg0.N) : Vec Ideal S1024x2048 .bf16 := X0_2 m c t
/-- The last 256 rows of the first factor. -/
abbrev Ca (t : Fin cfg0.N) : Vec Ideal S256x1408 .bf16 := iblk m c 1 t
/-- The last 256 rows of the second factor. -/
abbrev Cd (t : Fin cfg0.N) : Vec Ideal S256x2048 .bf16 := iblk m c 3 t

/-- Where the first factor's block of rows lies in its array. -/
theorem La_at (t : Fin cfg0.N) (k : Fin 1024) (r : Fin 1408) : La m c t (ix2 k r) = m ((c : Thread nD τ).loc main_arg0) (ix2 ⟨min (t.val % 5) 3 * 1024 + k.val, by omega⟩ ⟨t.val / 5 * 1408 + r.val, by have ht : t.val < 20 := t.isLt; omega⟩) := by
  have ht : t.val < 20 := t.isLt
  unfold La X0_0 Pipeline.Window.fill
  rw [dif_pos (moved0_0 t _)]
  blk_point [iblk, V, idx t]
/-- Where the second factor's block of rows lies in its array. -/
theorem Ld_at (t : Fin cfg0.N) (k : Fin 1024) (r : Fin 2048) : Ld m c t (ix2 k r) = m ((c : Thread nD τ).loc main_arg1) (ix2 ⟨min (t.val % 5) 3 * 1024 + k.val, by omega⟩ r) := by
  have ht : t.val < 20 := t.isLt
  unfold Ld X0_2 Pipeline.Window.fill
  rw [dif_pos (moved0_2 t _)]
  blk_point [iblk, V, idx t]
/-- Where the first factor's last rows lie in its array. -/
theorem Ca_at (t : Fin cfg0.N) (k : Fin 256) (r : Fin 1408) : Ca m c t (ix2 k r) = m ((c : Thread nD τ).loc main_arg0) (ix2 ⟨4096 + k.val, by omega⟩ ⟨t.val / 5 * 1408 + r.val, by have ht : t.val < 20 := t.isLt; omega⟩) := by
  have ht : t.val < 20 := t.isLt
  blk_point [Ca, iblk, V, idx t]
/-- Where the second factor's last rows lie in its array. -/
theorem Cd_at (t : Fin cfg0.N) (k : Fin 256) (r : Fin 2048) : Cd m c t (ix2 k r) = m ((c : Thread nD τ).loc main_arg1) (ix2 ⟨4096 + k.val, by omega⟩ r) := by
  have ht : t.val < 20 := t.isLt
  blk_point [Cd, iblk, V, idx t]

/-- The partial sum a grid point leaves: a fresh product at the first block of rows. -/
theorem acc_first (t : Fin cfg0.N) (h : t.val % 5 = 0) (j : S1408x2048.Idx) : (outsAt0 m c t.val t.isLt).2 j
    = ∑ k : Fin 1024, La m c t (ix2 k (j 0)) * Ld m c t (ix2 k (j 1)) := by
  rw [outsAt0_A m c t h (by omega) (by omega)]; frame_out; exact Cert.Kernel5Ideal.Value.first _ _ j
/-- The partial sum a grid point leaves: one product more at the next three. -/
theorem acc_step (t : Fin cfg0.N) (h : 1 ≤ t.val % 5 ∧ t.val % 5 ≤ 3) (h' : t.val - 1 < cfg0.N) (j : S1408x2048.Idx) : (outsAt0 m c t.val t.isLt).2 j
    = (outsAt0 m c (t.val - 1) h').2 j + ∑ k : Fin 1024, La m c t (ix2 k (j 0)) * Ld m c t (ix2 k (j 1)) := by
  rw [outsAt0_B m c t (by omega) h (by omega)]; frame_out; rw [read_unread_whole]; exact Cert.Kernel5Ideal.Value.step _ _ _ j
/-- What a last grid point of a run stores: the partial sum and the last, shorter block of rows. -/
theorem acc_last (t : Fin cfg0.N) (h : t.val % 5 = 4) (h' : t.val - 1 < cfg0.N) (y : S1x1x1408x2048.Idx) : (outsAt0 m c t.val t.isLt).1 y
    = (outsAt0 m c (t.val - 1) h').2 (ix2 (y 2) (y 3)) + ∑ k : Fin 256, Ca m c t (ix2 k (y 2)) * Cd m c t (ix2 k (y 3)) := by
  rw [outsAt0_C m c t (by omega) (by omega) h]; frame_out; rw [read_unread_whole]; exact Cert.Kernel5Ideal.Value.last _ _ _ y

/-- The whole result: in the layer the gradient is of, the five blocks of rows added up; the other layer untouched. -/
theorem final : (dats m 0 c).arrAt 4 cfg0.N = REF (m ((c : Thread nD τ).loc main_arg0)) (m ((c : Thread nD τ).loc main_arg1)) (m ((c : Thread nD τ).loc main_arg2)) := by
  refine (dats m 0 c).arrAt_eq_of_coversWhere_of_agree 4 _ (fun β => β (0 : Fin _) = 1) (by decide +kernel) (fun t hf y => ?_) (fun j hj => ?_)
  · have ht : t.val < 20 := t.isLt
    have h4 := (flush0_4 t).mp hf
    blk_simp
    rw [after0_4, whole]
    · refine Sums.run (fun s => (outsAt0 m c s.val s.isLt).2 (ix2 (y 2) (y 3))) (fun s => (outsAt0 m c s.val s.isLt).1 y) _ _ (fun s h => acc_first m c s h _)
        (fun s h h' => acc_step m c s h h' _) (fun s h h' => acc_last m c s h h' y) t h4 _ (fun s hs h3 => Finset.sum_congr rfl fun k _ => (EReal.mul_comm _ _).trans ?_)
        (Finset.sum_congr rfl fun k _ => (EReal.mul_comm _ _).trans ?_)
      · refine (congrArg₂ (fun a b : EReal => a * b) (Ld_at m c s k _) (La_at m c s k _)).trans ?_
        blk_point [idx t]
      · refine (congrArg₂ (fun a b : EReal => a * b) (Cd_at m c t k _) (Ca_at m c t k _)).trans ?_
        blk_point [idx t]
    · blk_simp [idx t]
  · blk_simp [Pipeline.Window.cell_apply] at hj
    rw [kept _ _ _ _ (by blk_simp; omega)]
    show V m c main_v0 _ = _
    entry_read
    rfl

end Cert.Kernel22Ideal.Value

end
-- ==== Proof.InDhLater.lean ====
/- The cotangent of the mixers' input projection with respect to its input: `dP · inᵀ`, in layer 1. -/
module

public import proofs.«01_k».proof.Proof.Gen.Kernel23Ideal.Value
public import proofs.«01_k».proof.Proof.Gen.Reference23Ideal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel23Ideal.Value

open Cert.Kernel23Ideal Cert.Kernel23Ideal.Gen

variable (m : (ℓ : Loc nD τ sig) → Buf (Elt Ideal) ℓ) (c : Dev nD)

/-- What the reference computes of its two arguments: `dP` against the assembled weight. -/
abbrev REF (X0 : FVec Ideal S4352x5632 .bf16) (X1 : FVec Ideal S4x2x2048x1408 .bf16) : FVec Ideal S4352x2048 .f32 :=
  Host.dotGeneral Cert.Reference23Ideal.dot_S4352x5632_S2048x5632_S4352x2048_1_1_0_0_n_n none (extf .f32 X0 Cert.Reference23Ideal.Gen.bitsLt_bf16_f32) (shapeCast _ (transpose Cert.Reference23Ideal.S2048x4x1408 [1, 0, 2] (extf .f32 (shapeCast _ (extractStridedSlice Cert.Reference23Ideal.S4x1x2048x1408 ![0, 1, 0, 0] X1 Cert.Reference23Ideal.Gen.slices_S4x2x2048x1408_S4x1x2048x1408_0_1_0_0) Cert.Reference23Ideal.Gen.shapeCasts_S4x1x2048x1408_S4x2048x1408) Cert.Reference23Ideal.Gen.bitsLt_bf16_f32) Cert.Reference23Ideal.Gen.transposes_S4x2048x1408_S2048x4x1408_1_0_2) Cert.Reference23Ideal.Gen.shapeCasts_S2048x4x1408_S2048x5632)

theorem idx : ∀ t : Fin cfg0.N, win0_0.index t = ![t.val / 4, t.val % 4] ∧ win0_1.index t = ![t.val % 4, 1, 0, 0] ∧ win0_2.index t = ![t.val / 4, 0] :=
  (by decide +kernel : ∀ t : Fin grid0.N, _)

/-- The product of one block. -/
theorem first (x0 : Vec Ideal S1088x1408 .bf16) (x1 : Vec Ideal S1x1x2048x1408 .bf16) (j : S1088x2048.Idx) :
    k0_pay1 x0 x1 j = ∑ k : Fin 1408, x0 (ix2 (j 0) k) * x1 (ix4 0 0 (j 1) k) := by pointwise [k0_pay1]
/-- One more product added. -/
theorem step (x0 : Vec Ideal S1088x1408 .bf16) (x1 : Vec Ideal S1x1x2048x1408 .bf16) (a : Vec Ideal S1088x2048 .f32) (j : S1088x2048.Idx) :
    k0_pay2 x0 x1 a j = a j + ∑ k : Fin 1408, x0 (ix2 (j 0) k) * x1 (ix4 0 0 (j 1) k) := by pointwise [k0_pay2, k0_pay1]
/-- The reference's entry as one contraction. -/
theorem whole (X0 : FVec Ideal S4352x5632 .bf16) (X1 : FVec Ideal S4x2x2048x1408 .bf16) (j : S4352x2048.Idx) :
    REF X0 X1 j = ∑ l : Fin 5632, X0 (ix2 (j 0) l) * X1 (ix4 ⟨l.val / 1408, by omega⟩ 1 (j 1) ⟨l.val % 1408, by omega⟩) := by
  pointwise [REF]

/-- The whole result: the 4 partial products of a block of rows, added up from the first, are the contraction over all 5632. -/
theorem final : (dats m 0 c).arrAt 2 cfg0.N = REF (m ((c : Thread nD τ).loc main_arg0)) (m ((c : Thread nD τ).loc main_arg1)) := by
  refine (dats m 0 c).arrAt_eq_of_covers 2 _ (by decide +kernel) fun t hf y => ?_
  have ht : t.val < 16 := t.isLt
  blk_simp
  rw [after0_2, Pipeline.eq_sum_fin_of_reset_step_apply_of_flush (fun n h => outsAt0 m c n h) 4 (fun _ => 0) _
    (fun t h j => by rw [outsAt0_A m c t h (by omega)]; frame_out; rw [first, zero_add])
    (fun t h j => by rw [outsAt0_B m c t h (by omega)]; frame_out; rw [step])
    t ((flush0_2 t).mp hf) _, zero_add, whole]
  refine Fin.sum_mul_add_congr fun s k hl => ?_
  blk_point [iblk, V, idx t, idx ⟨_, Pipeline.run_point_lt_of_flush t ((flush0_2 t).mp hf) s⟩]

end Cert.Kernel23Ideal.Value

end
-- ==== Proof.InDwLater.lean ====
/- The weight gradient of the retention block's input projection, written into layer 1 of the gradients: `hᵀ · dP`. -/
module

public import proofs.«01_k».proof.Proof.Gen.Kernel24Ideal.Value
public import proofs.«01_k».proof.Proof.Gen.Reference24Ideal
public import Idealize.ShloMosaic.Lib.Pipeline.ValueKit
public import Idealize.ShloMosaic.Lib.Pipeline.ReadBack
public import proofs.«01_k».proof.Proof.InDw

@[expose] public section

set_option maxRecDepth 16384

noncomputable section

open Idealize.ShloMosaic Idealize.ShloMosaic.TcCoe Idealize.SL.Sem
open Idealize.ShloMosaic.Pipeline (Dat)

namespace Cert.Kernel24Ideal.Value

open Cert.Kernel24Ideal Cert.Kernel24Ideal.Gen

variable (m : (ℓ : Loc nD τ sig) → Buf (Elt Ideal) ℓ) (c : Dev nD)

/-- What the reference computes of its arguments: the gradient in layer 1, the third argument in layer 0. -/
abbrev REF (X0 : FVec Ideal S4352x2048 .bf16) (X1 : FVec Ideal S4352x5632 .bf16) (X2 : FVec Ideal S2x4x2048x1408 .bf16) : FVec Ideal S2x4x2048x1408 .bf16 :=
  concatenate Cert.Reference24Ideal.S2x4x2048x1408 0 [⟨Cert.Reference24Ideal.S1x4x2048x1408, (broadcastInDim Cert.Reference24Ideal.S1x4x2048x1408 ![1, 2, 3] Cert.Reference24Ideal.Gen.bcast_S4x2048x1408_S1x4x2048x1408_1_2_3 (shapeCast _ (extractStridedSlice Cert.Reference24Ideal.S1x4x2048x1408 ![0, 0, 0, 0] X2 Cert.Reference24Ideal.Gen.slices_S2x4x2048x1408_S1x4x2048x1408_0_0_0_0) Cert.Reference24Ideal.Gen.shapeCasts_S1x4x2048x1408_S4x2048x1408))⟩, ⟨Cert.Reference24Ideal.S1x4x2048x1408, (broadcastInDim Cert.Reference24Ideal.S1x4x2048x1408 ![1, 2, 3] Cert.Reference24Ideal.Gen.bcast_S4x2048x1408_S1x4x2048x1408_1_2_3 (truncf .bf16 (transpose Cert.Reference24Ideal.S4x2048x1408 [1, 0, 2] (shapeCast _ (transpose Cert.Reference24Ideal.S2048x5632 [1, 0] (Host.dotGeneral Cert.Reference24Ideal.dot_S4352x5632_S4352x2048_S5632x2048_0_0_1_1_n_n none (extf .f32 X1 Cert.Reference24Ideal.Gen.bitsLt_bf16_f32) (extf .f32 X0 Cert.Reference24Ideal.Gen.bitsLt_bf16_f32)) Cert.Reference24Ideal.Gen.transposes_S5632x2048_S2048x5632_1_0) Cert.Reference24Ideal.Gen.shapeCasts_S2048x5632_S2048x4x1408) Cert.Reference24Ideal.Gen.transposes_S2048x4x1408_S4x2048x1408_1_0_2) Cert.Reference24Ideal.Gen.bitsLt_bf16_f32))⟩] Cert.Reference24Ideal.Gen.concatenates_S1x4x2048x1408_S1x4x2048x1408_S2x4x2048x1408_d0

theorem idx : ∀ t : Fin cfg0.N, win0_0.index t = ![min (t.val % 5) 3, 0] ∧ win0_1.index t = ![16, 0] ∧ win0_2.index t = ![min (t.val % 5) 3, t.val / 5] ∧ win0_3.index t = ![16, t.val / 5] ∧ win0_4.index t = ![1, t.val / 5, 0, 0] :=
  (by decide +kernel : ∀ t : Fin grid0.N, _)

/-- The reference's entry in the layer the gradient is of, as one contraction over all rows. -/
theorem whole (X0 : FVec Ideal S4352x2048 .bf16) (X1 : FVec Ideal S4352x5632 .bf16) (X2 : FVec Ideal S2x4x2048x1408 .bf16) (j : S2x4x2048x1408.Idx) (hj : (j 0).val = 1) :
    REF X0 X1 X2 j = ∑ k : Fin 4352, X1 (ix2 k ⟨(j 1).val * 1408 + (j 3).val, by have h1 : (j 1).val < 4 := (j 1).isLt; have h3 : (j 3).val < 1408 := (j 3).isLt; omega⟩) * X0 (ix2 k (j 2)) := by
  pointwise [REF, hj]
/-- In the other layer the reference keeps its third argument. -/
theorem kept (X0 : FVec Ideal S4352x2048 .bf16) (X1 : FVec Ideal S4352x5632 .bf16) (X2 : FVec Ideal S2x4x2048x1408 .bf16) (j : S2x4x2048x1408.Idx) (hj : ¬ ((j 0).val = 1)) :
    REF X0 X1 X2 j = X2 j := by
  pointwise [REF]
  have h0 : (j 0).val < 2 := (j 0).isLt
  have h1 : (j 1).val < 4 := (j 1).isLt
  split_ifs
  all_goals first
    | (exfalso; omega)
    | (refine congrArg X2 (funext fun a => ?_)
       match a with
       | 0 => exact Fin.ext (by first | (show 0 = (j 0).val; omega) | (show 1 = (j 0).val; omega))
       | 1 => first | rfl | exact Fin.ext (by show 3 = (j 1).val; omega) | exact Fin.ext (by dsimp only [ix4]; omega)
       | 2 => rfl
       | 3 => rfl)

/-- The block of 1024 rows of the first factor at a grid point. -/
abbrev La (t : Fin cfg0.N) : Vec Ideal S1024x2048 .bf16 := X0_0 m c t
/-- The block of 1024 rows of the second factor at a grid point. -/
abbrev Ld (t : Fin cfg0.N) : Vec Ideal S1024x1408 .bf16 := X0_2 m c t
/-- The last 256 rows of the first factor. -/
abbrev Ca (t : Fin cfg0.N) : Vec Ideal S256x2048 .bf16 := iblk m c 1 t
/-- The last 256 rows of the second factor. -/
abbrev Cd (t : Fin cfg0.N) : Vec Ideal S256x1408 .bf16 := iblk m c 3 t

/-- Where the first factor's block of rows lies in its array. -/
theorem La_at (t : Fin cfg0.N) (k : Fin 1024) (r : Fin 2048) : La m c t (ix2 k r) = m ((c : Thread nD τ).loc main_arg0) (ix2 ⟨min (t.val % 5) 3 * 1024 + k.val, by omega⟩ r) := by
  have ht : t.val < 20 := t.isLt
  unfold La X0_0 Pipeline.Window.fill
  rw [dif_pos (moved0_0 t _)]
  blk_point [iblk, V, idx t]
/-- Where the second factor's block of rows lies in its array. -/
theorem Ld_at (t : Fin cfg0.N) (k : Fin 1024) (r : Fin 1408) : Ld m c t (ix2 k r) = m ((c : Thread nD τ).loc main_arg1) (ix2 ⟨min (t.val % 5) 3 * 1024 + k.val, by omega⟩ ⟨t.val / 5 * 1408 + r.val, by have ht : t.val < 20 := t.isLt; omega⟩) := by
  have ht : t.val < 20 := t.isLt
  unfold Ld X0_2 Pipeline.Window.fill
  rw [dif_pos (moved0_2 t _)]
  blk_point [iblk, V, idx t]
/-- Where the first factor's last rows lie in its array. -/
theorem Ca_at (t : Fin cfg0.N) (k : Fin 256) (r : Fin 2048) : Ca m c t (ix2 k r) = m ((c : Thread nD τ).loc main_arg0) (ix2 ⟨4096 + k.val, by omega⟩ r) := by
  have ht : t.val < 20 := t.isLt
  blk_point [Ca, iblk, V, idx t]
/-- Where the second factor's last rows lie in its array. -/
theorem Cd_at (t : Fin cfg0.N) (k : Fin 256) (r : Fin 1408) : Cd m c t (ix2 k r) = m ((c : Thread nD τ).loc main_arg1) (ix2 ⟨4096 + k.val, by omega⟩ ⟨t.val / 5 * 1408 + r.val, by have ht : t.val < 20 := t.isLt; omega⟩) := by
  have ht : t.val < 20 := t.isLt
  blk_point [Cd, iblk, V, idx t]

/-- The partial sum a grid point leaves: a fresh product at the first block of rows. -/
theorem acc_first (t : Fin cfg0.N) (h : t.val % 5 = 0) (j : S2048x1408.Idx) : (outsAt0 m c t.val t.isLt).2 j
    = ∑ k : Fin 1024, La m c t (ix2 k (j 0)) * Ld m c t (ix2 k (j 1)) := by
  rw [outsAt0_A m c t h (by omega) (by omega)]; frame_out; exact Cert.Kernel7Ideal.Value.first _ _ j
/-- The partial sum a grid point leaves: one product more at the next three. -/
theorem acc_step (t : Fin cfg0.N) (h : 1 ≤ t.val % 5 ∧ t.val % 5 ≤ 3) (h' : t.val - 1 < cfg0.N) (j : S2048x1408.Idx) : (outsAt0 m c t.val t.isLt).2 j
    = (outsAt0 m c (t.val - 1) h').2 j + ∑ k : Fin 1024, La m c t (ix2 k (j 0)) * Ld m c t (ix2 k (j 1)) := by
  rw [outsAt0_B m c t (by omega) h (by omega)]; frame_out; rw [read_unread_whole]; exact Cert.Kernel7Ideal.Value.step _ _ _ j
/-- What a last grid point of a run stores: the partial sum and the last, shorter block of rows. -/
theorem acc_last (t : Fin cfg0.N) (h : t.val % 5 = 4) (h' : t.val - 1 < cfg0.N) (y : S1x1x2048x1408.Idx) : (outsAt0 m c t.val t.isLt).1 y
    = (outsAt0 m c (t.val - 1) h').2 (ix2 (y 2) (y 3)) + ∑ k : Fin 256, Ca m c t (ix2 k (y 2)) * Cd m c t (ix2 k (y 3)) := by
  rw [outsAt0_C m c t (by omega) (by omega) h]; frame_out; rw [read_unread_whole]; exact Cert.Kernel7Ideal.Value.last _ _ _ y

/-- The whole result: in the layer the gradient is of, the five blocks of rows added up; the other layer untouched. -/
theorem final : (dats m 0 c).arrAt 4 cfg0.N = REF (m ((c : Thread nD τ).loc main_arg0)) (m ((c : Thread nD τ).loc main_arg1)) (m ((c : Thread nD τ).loc main_arg2)) := by
  refine (dats m 0 c).arrAt_eq_of_coversWhere_of_agree 4 _ (fun β => β (0 : Fin _) = 1) (by decide +kernel) (fun t hf y => ?_) (fun j hj => ?_)
  · have ht : t.val < 20 := t.isLt
    have h4 := (flush0_4 t).mp hf
    blk_simp
    rw [after0_4, whole]
    · refine Sums.run (fun s => (outsAt0 m c s.val s.isLt).2 (ix2 (y 2) (y 3))) (fun s => (outsAt0 m c s.val s.isLt).1 y) _ _ (fun s h => acc_first m c s h _)
        (fun s h h' => acc_step m c s h h' _) (fun s h h' => acc_last m c s h h' y) t h4 _ (fun s hs h3 => Finset.sum_congr rfl fun k _ => (EReal.mul_comm _ _).trans ?_)
        (Finset.sum_congr rfl fun k _ => (EReal.mul_comm _ _).trans ?_)
      · refine (congrArg₂ (fun a b : EReal => a * b) (Ld_at m c s k _) (La_at m c s k _)).trans ?_
        blk_point [idx t]
      · refine (congrArg₂ (fun a b : EReal => a * b) (Cd_at m c t k _) (Ca_at m c t k _)).trans ?_
        blk_point [idx t]
    · blk_simp [idx t]
  · blk_simp [Pipeline.Window.cell_apply] at hj
    rw [kept _ _ _ _ (by blk_simp; omega)]
    show V m c main_v0 _ = _
    entry_read
    rfl

end Cert.Kernel24Ideal.Value

end
-- ==== Proof.OutDmixLater.lean ====
/- The cotangent of the mixers' output projection with respect to its input: `dY · outᵀ`, in layer 1. -/
module

public import proofs.«01_k».proof.Proof.Gen.Kernel25Ideal.Value
public import proofs.«01_k».proof.Proof.Gen.Reference25Ideal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel25Ideal.Value

open Cert.Kernel25Ideal Cert.Kernel25Ideal.Gen

variable (m : (ℓ : Loc nD τ sig) → Buf (Elt Ideal) ℓ) (c : Dev nD)

/-- What the reference computes of its two arguments: `dY` against the rows of the assembled weight. -/
abbrev REF (X0 : FVec Ideal S4352x2048 .bf16) (X1 : FVec Ideal S4x2x512x2048 .bf16) : FVec Ideal S4352x2048 .f32 :=
  Host.dotGeneral Cert.Reference25Ideal.dot_S4352x2048_S2048x2048_S4352x2048_1_1_0_0_n_n none (extf .f32 X0 Cert.Reference25Ideal.Gen.bitsLt_bf16_f32) (shapeCast _ (extf .f32 (shapeCast _ (extractStridedSlice Cert.Reference25Ideal.S4x1x512x2048 ![0, 1, 0, 0] X1 Cert.Reference25Ideal.Gen.slices_S4x2x512x2048_S4x1x512x2048_0_1_0_0) Cert.Reference25Ideal.Gen.shapeCasts_S4x1x512x2048_S4x512x2048) Cert.Reference25Ideal.Gen.bitsLt_bf16_f32) Cert.Reference25Ideal.Gen.shapeCasts_S4x512x2048_S2048x2048)

theorem idx : ∀ t : Fin cfg0.N, win0_0.index t = ![t.val % 4, 0] ∧ win0_1.index t = ![t.val / 4, 1, 0, 0] ∧ win0_2.index t = ![t.val % 4, t.val / 4] :=
  (by decide +kernel : ∀ t : Fin grid0.N, _)

/-- What grid point `t` stores at `y` is the reference's entry where `y` lies in the array. -/
theorem point (t : Fin cfg0.N) (y : S1088x512.Idx) : k0_pay1 (iblk m c 0 t) (iblk m c 1 t) y
    = REF (m ((c : Thread nD τ).loc main_arg0)) (m ((c : Thread nD τ).loc main_arg1)) (((cfg0.win 2).blk t).view.emb y) := by
  have ht : t.val < 16 := t.isLt
  pointwise [k0_pay1, REF]
  blk_point [iblk, V, idx t]

/-- The whole result. -/
theorem final : (dats m 0 c).arrAt 2 cfg0.N = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel25Ideal.Value

end
-- ==== Proof.UpLater.lean ====
/- The feed-forward's up projection: `h · up`, value and gate on a leading axis, in layer 1. -/
module

public import proofs.«01_k».proof.Proof.Gen.Kernel26Ideal.Value
public import proofs.«01_k».proof.Proof.Gen.Reference26Ideal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel26Ideal.Value

open Cert.Kernel26Ideal Cert.Kernel26Ideal.Gen

variable (m : (ℓ : Loc nD τ sig) → Buf (Elt Ideal) ℓ) (c : Dev nD)

/-- What the reference computes of its two arguments: the product with the assembled weight, its halves stacked. -/
abbrev REF (X0 : FVec Ideal S4352x2048 .bf16) (X1 : FVec Ideal S4x2x2048x2816 .bf16) : FVec Ideal S2x4352x5632 .f32 :=
  concatenate Cert.Reference26Ideal.S2x4352x5632 0 [⟨Cert.Reference26Ideal.S1x4352x5632, (broadcastInDim Cert.Reference26Ideal.S1x4352x5632 ![1, 2] Cert.Reference26Ideal.Gen.bcast_S4352x5632_S1x4352x5632_1_2 (extractStridedSlice Cert.Reference26Ideal.S4352x5632 ![0, 0] (Host.dotGeneral Cert.Reference26Ideal.dot_S4352x2048_S2048x11264_S4352x11264_1_0_0_1_n_n none (extf .f32 X0 Cert.Reference26Ideal.Gen.bitsLt_bf16_f32) (shapeCast _ (transpose Cert.Reference26Ideal.S2048x4x2816 [1, 0, 2] (extf .f32 (shapeCast _ (extractStridedSlice Cert.Reference26Ideal.S4x1x2048x2816 ![0, 1, 0, 0] X1 Cert.Reference26Ideal.Gen.slices_S4x2x2048x2816_S4x1x2048x2816_0_1_0_0) Cert.Reference26Ideal.Gen.shapeCasts_S4x1x2048x2816_S4x2048x2816) Cert.Reference26Ideal.Gen.bitsLt_bf16_f32) Cert.Reference26Ideal.Gen.transposes_S4x2048x2816_S2048x4x2816_1_0_2) Cert.Reference26Ideal.Gen.shapeCasts_S2048x4x2816_S2048x11264)) Cert.Reference26Ideal.Gen.slices_S4352x11264_S4352x5632_0_0))⟩, ⟨Cert.Reference26Ideal.S1x4352x5632, (broadcastInDim Cert.Reference26Ideal.S1x4352x5632 ![1, 2] Cert.Reference26Ideal.Gen.bcast_S4352x5632_S1x4352x5632_1_2 (extractStridedSlice Cert.Reference26Ideal.S4352x5632 ![0, 5632] (Host.dotGeneral Cert.Reference26Ideal.dot_S4352x2048_S2048x11264_S4352x11264_1_0_0_1_n_n none (extf .f32 X0 Cert.Reference26Ideal.Gen.bitsLt_bf16_f32) (shapeCast _ (transpose Cert.Reference26Ideal.S2048x4x2816 [1, 0, 2] (extf .f32 (shapeCast _ (extractStridedSlice Cert.Reference26Ideal.S4x1x2048x2816 ![0, 1, 0, 0] X1 Cert.Reference26Ideal.Gen.slices_S4x2x2048x2816_S4x1x2048x2816_0_1_0_0) Cert.Reference26Ideal.Gen.shapeCasts_S4x1x2048x2816_S4x2048x2816) Cert.Reference26Ideal.Gen.bitsLt_bf16_f32) Cert.Reference26Ideal.Gen.transposes_S4x2048x2816_S2048x4x2816_1_0_2) Cert.Reference26Ideal.Gen.shapeCasts_S2048x4x2816_S2048x11264)) Cert.Reference26Ideal.Gen.slices_S4352x11264_S4352x5632_0_5632))⟩] Cert.Reference26Ideal.Gen.concatenates_S1x4352x5632_S1x4352x5632_S2x4352x5632_d0

theorem idx : ∀ t : Fin cfg0.N, win0_0.index t = ![t.val % 4, 0] ∧ win0_1.index t = ![t.val / 4 / 2, 1, 0, t.val / 4 % 2] ∧ win0_2.index t = ![t.val / 4 / 4, t.val % 4, t.val / 4 % 4] :=
  (by decide +kernel : ∀ t : Fin grid0.N, _)

/-- What grid point `t` stores at `y` is the reference's entry where `y` lies in the array. -/
theorem point (t : Fin cfg0.N) (y : S1x1088x1408.Idx) : k0_pay1 (iblk m c 0 t) (iblk m c 1 t) y
    = REF (m ((c : Thread nD τ).loc main_arg0)) (m ((c : Thread nD τ).loc main_arg1)) (((cfg0.win 2).blk t).view.emb y) := by
  have ht : t.val < 32 := t.isLt
  have e : (((((View.whole main_v0).slice ((win0 2).rect t)).emb y 0 : Fin 2)) : ℕ) = t.val / 4 / 4 := by
    show ((((cfg0.win 2).blk t).view.emb y 0 : Fin 2) : ℕ) = _
    blk_simp [idx t]
  pointwise [k0_pay1, REF]
  blk_point [iblk, V, idx t]
  all_goals omega

/-- The whole result. -/
theorem final : (dats m 0 c).arrAt 2 cfg0.N = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel26Ideal.Value

end
-- ==== Proof.InLater.lean ====
/- The mixers' input projection: `h · in`, in layer 1. -/
module

public import proofs.«01_k».proof.Proof.Gen.Kernel27Ideal.Value
public import proofs.«01_k».proof.Proof.Gen.Reference27Ideal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel27Ideal.Value

open Cert.Kernel27Ideal Cert.Kernel27Ideal.Gen

variable (m : (ℓ : Loc nD τ sig) → Buf (Elt Ideal) ℓ) (c : Dev nD)

/-- What the reference computes of its two arguments: the product with the assembled weight. -/
abbrev REF (X0 : FVec Ideal S4352x2048 .bf16) (X1 : FVec Ideal S4x2x2048x1408 .bf16) : FVec Ideal S4352x5632 .f32 :=
  Host.dotGeneral Cert.Reference27Ideal.dot_S4352x2048_S2048x5632_S4352x5632_1_0_0_1_n_n none (extf .f32 X0 Cert.Reference27Ideal.Gen.bitsLt_bf16_f32) (shapeCast _ (transpose Cert.Reference27Ideal.S2048x4x1408 [1, 0, 2] (extf .f32 (shapeCast _ (extractStridedSlice Cert.Reference27Ideal.S4x1x2048x1408 ![0, 1, 0, 0] X1 Cert.Reference27Ideal.Gen.slices_S4x2x2048x1408_S4x1x2048x1408_0_1_0_0) Cert.Reference27Ideal.Gen.shapeCasts_S4x1x2048x1408_S4x2048x1408) Cert.Reference27Ideal.Gen.bitsLt_bf16_f32) Cert.Reference27Ideal.Gen.transposes_S4x2048x1408_S2048x4x1408_1_0_2) Cert.Reference27Ideal.Gen.shapeCasts_S2048x4x1408_S2048x5632)

theorem idx : ∀ t : Fin cfg0.N, win0_0.index t = ![t.val % 4, 0] ∧ win0_1.index t = ![t.val / 4, 1, 0, 0] ∧ win0_2.index t = ![t.val % 4, t.val / 4] :=
  (by decide +kernel : ∀ t : Fin grid0.N, _)

/-- What grid point `t` stores at `y` is the reference's entry where `y` lies in the array. -/
theorem point (t : Fin cfg0.N) (y : S1088x1408.Idx) : k0_pay1 (iblk m c 0 t) (iblk m c 1 t) y
    = REF (m ((c : Thread nD τ).loc main_arg0)) (m ((c : Thread nD τ).loc main_arg1)) (((cfg0.win 2).blk t).view.emb y) := by
  have ht : t.val < 16 := t.isLt
  pointwise [k0_pay1, REF]
  blk_point [iblk, V, idx t]

/-- The whole result. -/
theorem final : (dats m 0 c).arrAt 2 cfg0.N = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel27Ideal.Value

end
-- ==== Proof.DownLater.lean ====
/- The feed-forward's down projection: `a · down`, in layer 1. -/
module

public import proofs.«01_k».proof.Proof.Gen.Kernel28Ideal.Value
public import proofs.«01_k».proof.Proof.Gen.Reference28Ideal
public import Idealize.ShloMosaic.Lib.Pipeline.ValueKit
public import Idealize.ShloMosaic.Lib.Pipeline.ReadBack
public import proofs.«01_k».proof.Proof.Sums

@[expose] public section

set_option maxRecDepth 16384

noncomputable section

open Idealize.ShloMosaic Idealize.ShloMosaic.TcCoe Idealize.SL.Sem
open Idealize.ShloMosaic.Pipeline (Dat)

namespace Cert.Kernel28Ideal.Value

open Cert.Kernel28Ideal Cert.Kernel28Ideal.Gen

variable (m : (ℓ : Loc nD τ sig) → Buf (Elt Ideal) ℓ) (c : Dev nD)

/-- What the reference computes of its two arguments: the activation against the assembled weight. -/
abbrev REF (X0 : FVec Ideal S4352x5632 .bf16) (X1 : FVec Ideal S4x2x1408x2048 .bf16) : FVec Ideal S4352x2048 .f32 :=
  Host.dotGeneral Cert.Reference28Ideal.dot_S4352x5632_S5632x2048_S4352x2048_1_0_0_1_n_n none (extf .f32 X0 Cert.Reference28Ideal.Gen.bitsLt_bf16_f32) (shapeCast _ (extf .f32 (shapeCast _ (extractStridedSlice Cert.Reference28Ideal.S4x1x1408x2048 ![0, 1, 0, 0] X1 Cert.Reference28Ideal.Gen.slices_S4x2x1408x2048_S4x1x1408x2048_0_1_0_0) Cert.Reference28Ideal.Gen.shapeCasts_S4x1x1408x2048_S4x1408x2048) Cert.Reference28Ideal.Gen.bitsLt_bf16_f32) Cert.Reference28Ideal.Gen.shapeCasts_S4x1408x2048_S5632x2048)

theorem idx : ∀ t : Fin cfg0.N, win0_0.index t = ![t.val % 8, 0] ∧ win0_1.index t = ![0, 1, 0, t.val / 8] ∧ win0_2.index t = ![t.val % 8, t.val / 8] :=
  (by decide +kernel : ∀ t : Fin grid0.N, _)

/-- The four products of a block, added up. -/
theorem four (a0 : Vec Ideal S544x1408 .bf16) (b0 : Vec Ideal S1x1x1408x1024 .bf16) (a1 : Vec Ideal S544x1408 .bf16) (b1 : Vec Ideal S1x1x1408x1024 .bf16)
    (a2 : Vec Ideal S544x1408 .bf16) (b2 : Vec Ideal S1x1x1408x1024 .bf16) (a3 : Vec Ideal S544x1408 .bf16) (b3 : Vec Ideal S1x1x1408x1024 .bf16) (y : S544x1024.Idx) :
    k0_pay1 a0 b0 a1 b1 a2 b2 a3 b3 y
      = (((∑ k : Fin 1408, a0 (ix2 (y 0) k) * b0 (ix4 0 0 k (y 1))) + ∑ k : Fin 1408, a1 (ix2 (y 0) k) * b1 (ix4 0 0 k (y 1)))
          + ∑ k : Fin 1408, a2 (ix2 (y 0) k) * b2 (ix4 0 0 k (y 1))) + ∑ k : Fin 1408, a3 (ix2 (y 0) k) * b3 (ix4 0 0 k (y 1)) := by
  pointwise [k0_pay1]
/-- The reference's entry as one contraction. -/
theorem whole (X0 : FVec Ideal S4352x5632 .bf16) (X1 : FVec Ideal S4x2x1408x2048 .bf16) (j : S4352x2048.Idx) :
    REF X0 X1 j = ∑ l : Fin 5632, X0 (ix2 (j 0) l) * X1 (ix4 ⟨l.val / 1408, by omega⟩ 1 ⟨l.val % 1408, by omega⟩ (j 1)) := by
  pointwise [REF]

/-- The whole result: the four quarters of the contraction, added up. -/
theorem final : (dats m 0 c).arrAt 2 cfg0.N = REF (m ((c : Thread nD τ).loc main_arg0)) (m ((c : Thread nD τ).loc main_arg1)) := by
  refine (dats m 0 c).arrAt_eq_of_covers 2 _ (by decide +kernel) fun t _ y => ?_
  have ht : t.val < 16 := t.isLt
  blk_simp
  rw [after0_2]; frame_out
  rw [four, whole, Sums.quarters]
  congr 1; congr 1; congr 1
  all_goals refine Finset.sum_congr rfl fun k _ => ?_
  all_goals have hk : k.val < 1408 := k.isLt
  all_goals blk_point [iblk, V, idx t]

end Cert.Kernel28Ideal.Value

end
-- ==== Proof.OutDwALater.lean ====
/- The weight gradient of the mixers' output projection in layer 1, the rows that multiply the retention's part: `mixᵀ · dY`. -/
module

public import proofs.«01_k».proof.Proof.Gen.Kernel29Ideal.Value
public import proofs.«01_k».proof.Proof.Gen.Reference29Ideal
public import Idealize.ShloMosaic.Lib.Pipeline.ValueKit
public import Idealize.ShloMosaic.Lib.Pipeline.ReadBack
public import proofs.«01_k».proof.Proof.OutDwA

@[expose] public section

set_option maxRecDepth 16384

noncomputable section

open Idealize.ShloMosaic Idealize.ShloMosaic.TcCoe Idealize.SL.Sem
open Idealize.ShloMosaic.Pipeline (Dat)

namespace Cert.Kernel29Ideal.Value

open Cert.Kernel29Ideal Cert.Kernel29Ideal.Gen

variable (m : (ℓ : Loc nD τ sig) → Buf (Elt Ideal) ℓ) (c : Dev nD)

/-- What the reference computes of its arguments: the gradient in its rows of layer 1, the third argument elsewhere. -/
abbrev REF (X0 : FVec Ideal S4352x1024 .bf16) (X1 : FVec Ideal S4352x2048 .bf16) (X2 : FVec Ideal S2x4x512x2048 .bf16) : FVec Ideal S2x4x512x2048 .bf16 :=
  concatenate Cert.Reference29Ideal.S2x4x512x2048 0 [⟨Cert.Reference29Ideal.S1x4x512x2048, (broadcastInDim Cert.Reference29Ideal.S1x4x512x2048 ![1, 2, 3] Cert.Reference29Ideal.Gen.bcast_S4x512x2048_S1x4x512x2048_1_2_3 (shapeCast _ (extractStridedSlice Cert.Reference29Ideal.S1x4x512x2048 ![0, 0, 0, 0] X2 Cert.Reference29Ideal.Gen.slices_S2x4x512x2048_S1x4x512x2048_0_0_0_0) Cert.Reference29Ideal.Gen.shapeCasts_S1x4x512x2048_S4x512x2048))⟩, ⟨Cert.Reference29Ideal.S1x4x512x2048, (broadcastInDim Cert.Reference29Ideal.S1x4x512x2048 ![1, 2, 3] Cert.Reference29Ideal.Gen.bcast_S4x512x2048_S1x4x512x2048_1_2_3 (concatenate Cert.Reference29Ideal.S4x512x2048 0 [⟨Cert.Reference29Ideal.S2x512x2048, (truncf .bf16 (shapeCast _ (transpose Cert.Reference29Ideal.S1024x2048 [1, 0] (Host.dotGeneral Cert.Reference29Ideal.dot_S4352x2048_S4352x1024_S2048x1024_0_0_1_1_n_n none (extf .f32 X1 Cert.Reference29Ideal.Gen.bitsLt_bf16_f32) (extf .f32 X0 Cert.Reference29Ideal.Gen.bitsLt_bf16_f32)) Cert.Reference29Ideal.Gen.transposes_S2048x1024_S1024x2048_1_0) Cert.Reference29Ideal.Gen.shapeCasts_S1024x2048_S2x512x2048) Cert.Reference29Ideal.Gen.bitsLt_bf16_f32)⟩, ⟨Cert.Reference29Ideal.S2x512x2048, (shapeCast _ (extractStridedSlice Cert.Reference29Ideal.S1x2x512x2048 ![1, 2, 0, 0] X2 Cert.Reference29Ideal.Gen.slices_S2x4x512x2048_S1x2x512x2048_1_2_0_0) Cert.Reference29Ideal.Gen.shapeCasts_S1x2x512x2048_S2x512x2048)⟩] Cert.Reference29Ideal.Gen.concatenates_S2x512x2048_S2x512x2048_S4x512x2048_d0))⟩] Cert.Reference29Ideal.Gen.concatenates_S1x4x512x2048_S1x4x512x2048_S2x4x512x2048_d0

theorem idx : ∀ t : Fin cfg0.N, win0_0.index t = ![min (t.val % 5) 3, t.val / 5] ∧ win0_1.index t = ![16, t.val / 5] ∧ win0_2.index t = ![min (t.val % 5) 3, 0] ∧ win0_3.index t = ![16, 0] ∧ win0_4.index t = ![1, t.val / 5, 0, 0] :=
  (by decide +kernel : ∀ t : Fin grid0.N, _)

/-- The reference's entry where the gradient is written, as one contraction over all rows. -/
theorem whole (X0 : FVec Ideal S4352x1024 .bf16) (X1 : FVec Ideal S4352x2048 .bf16) (X2 : FVec Ideal S2x4x512x2048 .bf16) (j : S2x4x512x2048.Idx) (hj : (j 0).val = 1 ∧ 0 ≤ (j 1).val ∧ (j 1).val < 2) :
    REF X0 X1 X2 j = ∑ k : Fin 4352, X1 (ix2 k (j 3)) * X0 (ix2 k ⟨(j 1).val * 512 + (j 2).val, by have h2 : (j 2).val < 512 := (j 2).isLt; omega⟩) := by
  pointwise [REF, hj]
/-- Everywhere else the reference keeps its third argument. -/
theorem kept (X0 : FVec Ideal S4352x1024 .bf16) (X1 : FVec Ideal S4352x2048 .bf16) (X2 : FVec Ideal S2x4x512x2048 .bf16) (j : S2x4x512x2048.Idx) (hj : ¬ ((j 0).val = 1 ∧ 0 ≤ (j 1).val ∧ (j 1).val < 2)) :
    REF X0 X1 X2 j = X2 j := by
  pointwise [REF]
  have h0 : (j 0).val < 2 := (j 0).isLt
  have h1 : (j 1).val < 4 := (j 1).isLt
  split_ifs
  all_goals first
    | (exfalso; omega)
    | (refine congrArg X2 (funext fun a => ?_)
       match a with
       | 0 => exact Fin.ext (by first | (show 0 = (j 0).val; omega) | (show 1 = (j 0).val; omega))
       | 1 => first | rfl | exact Fin.ext (by show 3 = (j 1).val; omega) | exact Fin.ext (by dsimp only [ix4]; omega)
       | 2 => rfl
       | 3 => rfl)

/-- The block of 1024 rows of the first factor at a grid point. -/
abbrev La (t : Fin cfg0.N) : Vec Ideal S1024x512 .bf16 := X0_0 m c t
/-- The block of 1024 rows of the second factor at a grid point. -/
abbrev Ld (t : Fin cfg0.N) : Vec Ideal S1024x2048 .bf16 := X0_2 m c t
/-- The last 256 rows of the first factor. -/
abbrev Ca (t : Fin cfg0.N) : Vec Ideal S256x512 .bf16 := iblk m c 1 t
/-- The last 256 rows of the second factor. -/
abbrev Cd (t : Fin cfg0.N) : Vec Ideal S256x2048 .bf16 := iblk m c 3 t

/-- Where the first factor's block of rows lies in its array. -/
theorem La_at (t : Fin cfg0.N) (k : Fin 1024) (r : Fin 512) : La m c t (ix2 k r) = m ((c : Thread nD τ).loc main_arg0) (ix2 ⟨min (t.val % 5) 3 * 1024 + k.val, by omega⟩ ⟨t.val / 5 * 512 + r.val, by have ht : t.val < 10 := t.isLt; omega⟩) := by
  have ht : t.val < 10 := t.isLt
  unfold La X0_0 Pipeline.Window.fill
  rw [dif_pos (moved0_0 t _)]
  blk_point [iblk, V, idx t]
/-- Where the second factor's block of rows lies in its array. -/
theorem Ld_at (t : Fin cfg0.N) (k : Fin 1024) (r : Fin 2048) : Ld m c t (ix2 k r) = m ((c : Thread nD τ).loc main_arg1) (ix2 ⟨min (t.val % 5) 3 * 1024 + k.val, by omega⟩ r) := by
  have ht : t.val < 10 := t.isLt
  unfold Ld X0_2 Pipeline.Window.fill
  rw [dif_pos (moved0_2 t _)]
  blk_point [iblk, V, idx t]
/-- Where the first factor's last rows lie in its array. -/
theorem Ca_at (t : Fin cfg0.N) (k : Fin 256) (r : Fin 512) : Ca m c t (ix2 k r) = m ((c : Thread nD τ).loc main_arg0) (ix2 ⟨4096 + k.val, by omega⟩ ⟨t.val / 5 * 512 + r.val, by have ht : t.val < 10 := t.isLt; omega⟩) := by
  have ht : t.val < 10 := t.isLt
  blk_point [Ca, iblk, V, idx t]
/-- Where the second factor's last rows lie in its array. -/
theorem Cd_at (t : Fin cfg0.N) (k : Fin 256) (r : Fin 2048) : Cd m c t (ix2 k r) = m ((c : Thread nD τ).loc main_arg1) (ix2 ⟨4096 + k.val, by omega⟩ r) := by
  have ht : t.val < 10 := t.isLt
  blk_point [Cd, iblk, V, idx t]

/-- The partial sum a grid point leaves: a fresh product at the first block of rows. -/
theorem acc_first (t : Fin cfg0.N) (h : t.val % 5 = 0) (j : S512x2048.Idx) : (outsAt0 m c t.val t.isLt).2 j
    = ∑ k : Fin 1024, La m c t (ix2 k (j 0)) * Ld m c t (ix2 k (j 1)) := by
  rw [outsAt0_A m c t h (by omega) (by omega)]; frame_out; exact Cert.Kernel12Ideal.Value.first _ _ j
/-- The partial sum a grid point leaves: one product more at the next three. -/
theorem acc_step (t : Fin cfg0.N) (h : 1 ≤ t.val % 5 ∧ t.val % 5 ≤ 3) (h' : t.val - 1 < cfg0.N) (j : S512x2048.Idx) : (outsAt0 m c t.val t.isLt).2 j
    = (outsAt0 m c (t.val - 1) h').2 j + ∑ k : Fin 1024, La m c t (ix2 k (j 0)) * Ld m c t (ix2 k (j 1)) := by
  rw [outsAt0_B m c t (by omega) h (by omega)]; frame_out; rw [read_unread_whole]; exact Cert.Kernel12Ideal.Value.step _ _ _ j
/-- What a last grid point of a run stores: the partial sum and the last, shorter block of rows. -/
theorem acc_last (t : Fin cfg0.N) (h : t.val % 5 = 4) (h' : t.val - 1 < cfg0.N) (y : S1x1x512x2048.Idx) : (outsAt0 m c t.val t.isLt).1 y
    = (outsAt0 m c (t.val - 1) h').2 (ix2 (y 2) (y 3)) + ∑ k : Fin 256, Ca m c t (ix2 k (y 2)) * Cd m c t (ix2 k (y 3)) := by
  rw [outsAt0_C m c t (by omega) (by omega) h]; frame_out; rw [read_unread_whole]; exact Cert.Kernel12Ideal.Value.last _ _ _ y

/-- The whole result: where the gradient is written, the five blocks of rows added up; everything else untouched. -/
theorem final : (dats m 0 c).arrAt 4 cfg0.N = REF (m ((c : Thread nD τ).loc main_arg0)) (m ((c : Thread nD τ).loc main_arg1)) (m ((c : Thread nD τ).loc main_arg2)) := by
  refine (dats m 0 c).arrAt_eq_of_coversWhere_of_agree 4 _ (fun β => β (0 : Fin _) = 1 ∧ 0 ≤ β (1 : Fin _) ∧ β (1 : Fin _) < 2) (by decide +kernel) (fun t hf y => ?_) (fun j hj => ?_)
  · have ht : t.val < 10 := t.isLt
    have h4 := (flush0_4 t).mp hf
    blk_simp
    rw [after0_4, whole]
    · refine Sums.run (fun s => (outsAt0 m c s.val s.isLt).2 (ix2 (y 2) (y 3))) (fun s => (outsAt0 m c s.val s.isLt).1 y) _ _ (fun s h => acc_first m c s h _)
        (fun s h h' => acc_step m c s h h' _) (fun s h h' => acc_last m c s h h' y) t h4 _ (fun s hs h3 => Finset.sum_congr rfl fun k _ => (EReal.mul_comm _ _).trans ?_)
        (Finset.sum_congr rfl fun k _ => (EReal.mul_comm _ _).trans ?_)
      · refine (congrArg₂ (fun a b : EReal => a * b) (Ld_at m c s k _) (La_at m c s k _)).trans ?_
        blk_point [idx t]
      · refine (congrArg₂ (fun a b : EReal => a * b) (Cd_at m c t k _) (Ca_at m c t k _)).trans ?_
        blk_point [idx t]
    · blk_simp [idx t]
      exact ⟨trivial, by omega, by omega⟩
  · blk_simp [Pipeline.Window.cell_apply] at hj
    rw [kept _ _ _ _ (by blk_simp; omega)]
    show V m c main_v0 _ = _
    entry_read
    rfl

end Cert.Kernel29Ideal.Value

end
-- ==== Proof.OutDwBLater.lean ====
/- The weight gradient of the mixers' output projection in layer 1, the rows that multiply the convolution's part: `mixᵀ · dY`. -/
module

public import proofs.«01_k».proof.Proof.Gen.Kernel30Ideal.Value
public import proofs.«01_k».proof.Proof.Gen.Reference30Ideal
public import Idealize.ShloMosaic.Lib.Pipeline.ValueKit
public import Idealize.ShloMosaic.Lib.Pipeline.ReadBack
public import proofs.«01_k».proof.Proof.OutDwA

@[expose] public section

set_option maxRecDepth 16384

noncomputable section

open Idealize.ShloMosaic Idealize.ShloMosaic.TcCoe Idealize.SL.Sem
open Idealize.ShloMosaic.Pipeline (Dat)

namespace Cert.Kernel30Ideal.Value

open Cert.Kernel30Ideal Cert.Kernel30Ideal.Gen

variable (m : (ℓ : Loc nD τ sig) → Buf (Elt Ideal) ℓ) (c : Dev nD)

/-- What the reference computes of its arguments: the gradient in its rows of layer 1, the third argument elsewhere. -/
abbrev REF (X0 : FVec Ideal S4352x512 .bf16) (X1 : FVec Ideal S4352x2048 .bf16) (X2 : FVec Ideal S2x4x512x2048 .bf16) : FVec Ideal S2x4x512x2048 .bf16 :=
  concatenate Cert.Reference30Ideal.S2x4x512x2048 0 [⟨Cert.Reference30Ideal.S1x4x512x2048, (broadcastInDim Cert.Reference30Ideal.S1x4x512x2048 ![1, 2, 3] Cert.Reference30Ideal.Gen.bcast_S4x512x2048_S1x4x512x2048_1_2_3 (shapeCast _ (extractStridedSlice Cert.Reference30Ideal.S1x4x512x2048 ![0, 0, 0, 0] X2 Cert.Reference30Ideal.Gen.slices_S2x4x512x2048_S1x4x512x2048_0_0_0_0) Cert.Reference30Ideal.Gen.shapeCasts_S1x4x512x2048_S4x512x2048))⟩, ⟨Cert.Reference30Ideal.S1x4x512x2048, (broadcastInDim Cert.Reference30Ideal.S1x4x512x2048 ![1, 2, 3] Cert.Reference30Ideal.Gen.bcast_S4x512x2048_S1x4x512x2048_1_2_3 ((concatenate Cert.Reference30Ideal.S4x512x2048 0 [⟨Cert.Reference30Ideal.S2x512x2048, ((shapeCast _ (extractStridedSlice Cert.Reference30Ideal.S1x2x512x2048 ![1, 0, 0, 0] X2 Cert.Reference30Ideal.Gen.slices_S2x4x512x2048_S1x2x512x2048_1_0_0_0) Cert.Reference30Ideal.Gen.shapeCasts_S1x2x512x2048_S2x512x2048) : (⟨Cert.Reference30Ideal.S2x512x2048, .bf16⟩ : BufTy).Contents (Elt Ideal))⟩, ⟨Cert.Reference30Ideal.S1x512x2048, ((truncf .bf16 (shapeCast _ (transpose Cert.Reference30Ideal.S512x2048 [1, 0] (Host.dotGeneral Cert.Reference30Ideal.dot_S4352x2048_S4352x512_S2048x512_0_0_1_1_n_n none (extf .f32 X1 Cert.Reference30Ideal.Gen.bitsLt_bf16_f32) (extf .f32 X0 Cert.Reference30Ideal.Gen.bitsLt_bf16_f32)) Cert.Reference30Ideal.Gen.transposes_S2048x512_S512x2048_1_0) Cert.Reference30Ideal.Gen.shapeCasts_S512x2048_S1x512x2048) Cert.Reference30Ideal.Gen.bitsLt_bf16_f32) : (⟨Cert.Reference30Ideal.S1x512x2048, .bf16⟩ : BufTy).Contents (Elt Ideal))⟩, ⟨Cert.Reference30Ideal.S1x512x2048, ((shapeCast _ (extractStridedSlice Cert.Reference30Ideal.S1x1x512x2048 ![1, 3, 0, 0] X2 Cert.Reference30Ideal.Gen.slices_S2x4x512x2048_S1x1x512x2048_1_3_0_0) Cert.Reference30Ideal.Gen.shapeCasts_S1x1x512x2048_S1x512x2048) : (⟨Cert.Reference30Ideal.S1x512x2048, .bf16⟩ : BufTy).Contents (Elt Ideal))⟩] Cert.Reference30Ideal.Gen.concatenates_S2x512x2048_S1x512x2048_S1x512x2048_S4x512x2048_d0 : (⟨Cert.Reference30Ideal.S4x512x2048, .bf16⟩ : BufTy).Contents (Elt Ideal))))⟩] Cert.Reference30Ideal.Gen.concatenates_S1x4x512x2048_S1x4x512x2048_S2x4x512x2048_d0

theorem idx : ∀ t : Fin cfg0.N, win0_0.index t = ![min (t.val % 5) 3, t.val / 5] ∧ win0_1.index t = ![16, t.val / 5] ∧ win0_2.index t = ![min (t.val % 5) 3, 0] ∧ win0_3.index t = ![16, 0] ∧ win0_4.index t = ![1, t.val / 5 + 2, 0, 0] :=
  (by decide +kernel : ∀ t : Fin grid0.N, _)

/-- The reference's entry where the gradient is written, as one contraction over all rows. -/
theorem whole (X0 : FVec Ideal S4352x512 .bf16) (X1 : FVec Ideal S4352x2048 .bf16) (X2 : FVec Ideal S2x4x512x2048 .bf16) (j : S2x4x512x2048.Idx) (hj : (j 0).val = 1 ∧ 2 ≤ (j 1).val ∧ (j 1).val < 3) :
    REF X0 X1 X2 j = ∑ k : Fin 4352, X1 (ix2 k (j 3)) * X0 (ix2 k (j 2)) := by
  pointwise [REF, hj]
  rw [dif_neg (by omega), dif_pos (by omega)]
/-- Everywhere else the reference keeps its third argument. -/
theorem kept (X0 : FVec Ideal S4352x512 .bf16) (X1 : FVec Ideal S4352x2048 .bf16) (X2 : FVec Ideal S2x4x512x2048 .bf16) (j : S2x4x512x2048.Idx) (hj : ¬ ((j 0).val = 1 ∧ 2 ≤ (j 1).val ∧ (j 1).val < 3)) :
    REF X0 X1 X2 j = X2 j := by
  pointwise [REF]
  have h0 : (j 0).val < 2 := (j 0).isLt
  have h1 : (j 1).val < 4 := (j 1).isLt
  split_ifs
  all_goals first
    | (exfalso; omega)
    | (refine congrArg X2 (funext fun a => ?_)
       match a with
       | 0 => exact Fin.ext (by first | (show 0 = (j 0).val; omega) | (show 1 = (j 0).val; omega))
       | 1 => first | rfl | exact Fin.ext (by show 3 = (j 1).val; omega) | exact Fin.ext (by dsimp only [ix4]; omega)
       | 2 => rfl
       | 3 => rfl)

/-- The block of 1024 rows of the first factor at a grid point. -/
abbrev La (t : Fin cfg0.N) : Vec Ideal S1024x512 .bf16 := X0_0 m c t
/-- The block of 1024 rows of the second factor at a grid point. -/
abbrev Ld (t : Fin cfg0.N) : Vec Ideal S1024x2048 .bf16 := X0_2 m c t
/-- The last 256 rows of the first factor. -/
abbrev Ca (t : Fin cfg0.N) : Vec Ideal S256x512 .bf16 := iblk m c 1 t
/-- The last 256 rows of the second factor. -/
abbrev Cd (t : Fin cfg0.N) : Vec Ideal S256x2048 .bf16 := iblk m c 3 t

/-- Where the first factor's block of rows lies in its array. -/
theorem La_at (t : Fin cfg0.N) (k : Fin 1024) (r : Fin 512) : La m c t (ix2 k r) = m ((c : Thread nD τ).loc main_arg0) (ix2 ⟨min (t.val % 5) 3 * 1024 + k.val, by omega⟩ ⟨t.val / 5 * 512 + r.val, by have ht : t.val < 5 := t.isLt; omega⟩) := by
  have ht : t.val < 5 := t.isLt
  unfold La X0_0 Pipeline.Window.fill
  rw [dif_pos (moved0_0 t _)]
  blk_point [iblk, V, idx t]
/-- Where the second factor's block of rows lies in its array. -/
theorem Ld_at (t : Fin cfg0.N) (k : Fin 1024) (r : Fin 2048) : Ld m c t (ix2 k r) = m ((c : Thread nD τ).loc main_arg1) (ix2 ⟨min (t.val % 5) 3 * 1024 + k.val, by omega⟩ r) := by
  have ht : t.val < 5 := t.isLt
  unfold Ld X0_2 Pipeline.Window.fill
  rw [dif_pos (moved0_2 t _)]
  blk_point [iblk, V, idx t]
/-- Where the first factor's last rows lie in its array. -/
theorem Ca_at (t : Fin cfg0.N) (k : Fin 256) (r : Fin 512) : Ca m c t (ix2 k r) = m ((c : Thread nD τ).loc main_arg0) (ix2 ⟨4096 + k.val, by omega⟩ ⟨t.val / 5 * 512 + r.val, by have ht : t.val < 5 := t.isLt; omega⟩) := by
  have ht : t.val < 5 := t.isLt
  blk_point [Ca, iblk, V, idx t]
/-- Where the second factor's last rows lie in its array. -/
theorem Cd_at (t : Fin cfg0.N) (k : Fin 256) (r : Fin 2048) : Cd m c t (ix2 k r) = m ((c : Thread nD τ).loc main_arg1) (ix2 ⟨4096 + k.val, by omega⟩ r) := by
  have ht : t.val < 5 := t.isLt
  blk_point [Cd, iblk, V, idx t]

/-- The partial sum a grid point leaves: a fresh product at the first block of rows. -/
theorem acc_first (t : Fin cfg0.N) (h : t.val % 5 = 0) (j : S512x2048.Idx) : (outsAt0 m c t.val t.isLt).2 j
    = ∑ k : Fin 1024, La m c t (ix2 k (j 0)) * Ld m c t (ix2 k (j 1)) := by
  rw [outsAt0_A m c t h (by omega) (by omega)]; frame_out; exact Cert.Kernel12Ideal.Value.first _ _ j
/-- The partial sum a grid point leaves: one product more at the next three. -/
theorem acc_step (t : Fin cfg0.N) (h : 1 ≤ t.val % 5 ∧ t.val % 5 ≤ 3) (h' : t.val - 1 < cfg0.N) (j : S512x2048.Idx) : (outsAt0 m c t.val t.isLt).2 j
    = (outsAt0 m c (t.val - 1) h').2 j + ∑ k : Fin 1024, La m c t (ix2 k (j 0)) * Ld m c t (ix2 k (j 1)) := by
  rw [outsAt0_B m c t (by omega) h (by omega)]; frame_out; rw [read_unread_whole]; exact Cert.Kernel12Ideal.Value.step _ _ _ j
/-- What a last grid point of a run stores: the partial sum and the last, shorter block of rows. -/
theorem acc_last (t : Fin cfg0.N) (h : t.val % 5 = 4) (h' : t.val - 1 < cfg0.N) (y : S1x1x512x2048.Idx) : (outsAt0 m c t.val t.isLt).1 y
    = (outsAt0 m c (t.val - 1) h').2 (ix2 (y 2) (y 3)) + ∑ k : Fin 256, Ca m c t (ix2 k (y 2)) * Cd m c t (ix2 k (y 3)) := by
  rw [outsAt0_C m c t (by omega) (by omega) h]; frame_out; rw [read_unread_whole]; exact Cert.Kernel12Ideal.Value.last _ _ _ y

/-- The whole result: where the gradient is written, the five blocks of rows added up; everything else untouched. -/
theorem final : (dats m 0 c).arrAt 4 cfg0.N = REF (m ((c : Thread nD τ).loc main_arg0)) (m ((c : Thread nD τ).loc main_arg1)) (m ((c : Thread nD τ).loc main_arg2)) := by
  refine (dats m 0 c).arrAt_eq_of_coversWhere_of_agree 4 _ (fun β => β (0 : Fin _) = 1 ∧ 2 ≤ β (1 : Fin _) ∧ β (1 : Fin _) < 3) (by decide +kernel) (fun t hf y => ?_) (fun j hj => ?_)
  · have ht : t.val < 5 := t.isLt
    have h4 := (flush0_4 t).mp hf
    blk_simp
    rw [after0_4, whole]
    · refine Sums.run (fun s => (outsAt0 m c s.val s.isLt).2 (ix2 (y 2) (y 3))) (fun s => (outsAt0 m c s.val s.isLt).1 y) _ _ (fun s h => acc_first m c s h _)
        (fun s h h' => acc_step m c s h h' _) (fun s h h' => acc_last m c s h h' y) t h4 _ (fun s hs h3 => Finset.sum_congr rfl fun k _ => (EReal.mul_comm _ _).trans ?_)
        (Finset.sum_congr rfl fun k _ => (EReal.mul_comm _ _).trans ?_)
      · refine (congrArg₂ (fun a b : EReal => a * b) (Ld_at m c s k _) (La_at m c s k _)).trans ?_
        blk_point [idx t]
      · refine (congrArg₂ (fun a b : EReal => a * b) (Cd_at m c t k _) (Ca_at m c t k _)).trans ?_
        blk_point [idx t]
    · blk_simp [idx t]
      exact ⟨trivial, by omega, by omega⟩
  · blk_simp [Pipeline.Window.cell_apply] at hj
    rw [kept _ _ _ _ (by blk_simp; omega)]
    show V m c main_v0 _ = _
    entry_read
    rfl

end Cert.Kernel30Ideal.Value

end
-- ==== Proof.OutDwCLater.lean ====
/- The weight gradient of the mixers' output projection in layer 1, the rows that multiply the attention's part: `mixᵀ · dY`. -/
module

public import proofs.«01_k».proof.Proof.Gen.Kernel31Ideal.Value
public import proofs.«01_k».proof.Proof.Gen.Reference31Ideal
public import Idealize.ShloMosaic.Lib.Pipeline.ValueKit
public import Idealize.ShloMosaic.Lib.Pipeline.ReadBack
public import proofs.«01_k».proof.Proof.OutDwA

@[expose] public section

set_option maxRecDepth 16384

noncomputable section

open Idealize.ShloMosaic Idealize.ShloMosaic.TcCoe Idealize.SL.Sem
open Idealize.ShloMosaic.Pipeline (Dat)

namespace Cert.Kernel31Ideal.Value

open Cert.Kernel31Ideal Cert.Kernel31Ideal.Gen

variable (m : (ℓ : Loc nD τ sig) → Buf (Elt Ideal) ℓ) (c : Dev nD)

/-- What the reference computes of its arguments: the gradient in its rows of layer 1, the third argument elsewhere. -/
abbrev REF (X0 : FVec Ideal S4352x512 .bf16) (X1 : FVec Ideal S4352x2048 .bf16) (X2 : FVec Ideal S2x4x512x2048 .bf16) : FVec Ideal S2x4x512x2048 .bf16 :=
  concatenate Cert.Reference31Ideal.S2x4x512x2048 0 [⟨Cert.Reference31Ideal.S1x4x512x2048, (broadcastInDim Cert.Reference31Ideal.S1x4x512x2048 ![1, 2, 3] Cert.Reference31Ideal.Gen.bcast_S4x512x2048_S1x4x512x2048_1_2_3 (shapeCast _ (extractStridedSlice Cert.Reference31Ideal.S1x4x512x2048 ![0, 0, 0, 0] X2 Cert.Reference31Ideal.Gen.slices_S2x4x512x2048_S1x4x512x2048_0_0_0_0) Cert.Reference31Ideal.Gen.shapeCasts_S1x4x512x2048_S4x512x2048))⟩, ⟨Cert.Reference31Ideal.S1x4x512x2048, (broadcastInDim Cert.Reference31Ideal.S1x4x512x2048 ![1, 2, 3] Cert.Reference31Ideal.Gen.bcast_S4x512x2048_S1x4x512x2048_1_2_3 (concatenate Cert.Reference31Ideal.S4x512x2048 0 [⟨Cert.Reference31Ideal.S3x512x2048, (shapeCast _ (extractStridedSlice Cert.Reference31Ideal.S1x3x512x2048 ![1, 0, 0, 0] X2 Cert.Reference31Ideal.Gen.slices_S2x4x512x2048_S1x3x512x2048_1_0_0_0) Cert.Reference31Ideal.Gen.shapeCasts_S1x3x512x2048_S3x512x2048)⟩, ⟨Cert.Reference31Ideal.S1x512x2048, (truncf .bf16 (shapeCast _ (transpose Cert.Reference31Ideal.S512x2048 [1, 0] (Host.dotGeneral Cert.Reference31Ideal.dot_S4352x2048_S4352x512_S2048x512_0_0_1_1_n_n none (extf .f32 X1 Cert.Reference31Ideal.Gen.bitsLt_bf16_f32) (extf .f32 X0 Cert.Reference31Ideal.Gen.bitsLt_bf16_f32)) Cert.Reference31Ideal.Gen.transposes_S2048x512_S512x2048_1_0) Cert.Reference31Ideal.Gen.shapeCasts_S512x2048_S1x512x2048) Cert.Reference31Ideal.Gen.bitsLt_bf16_f32)⟩] Cert.Reference31Ideal.Gen.concatenates_S3x512x2048_S1x512x2048_S4x512x2048_d0))⟩] Cert.Reference31Ideal.Gen.concatenates_S1x4x512x2048_S1x4x512x2048_S2x4x512x2048_d0

theorem idx : ∀ t : Fin cfg0.N, win0_0.index t = ![min (t.val % 5) 3, t.val / 5] ∧ win0_1.index t = ![16, t.val / 5] ∧ win0_2.index t = ![min (t.val % 5) 3, 0] ∧ win0_3.index t = ![16, 0] ∧ win0_4.index t = ![1, t.val / 5 + 3, 0, 0] :=
  (by decide +kernel : ∀ t : Fin grid0.N, _)

/-- The reference's entry where the gradient is written, as one contraction over all rows. -/
theorem whole (X0 : FVec Ideal S4352x512 .bf16) (X1 : FVec Ideal S4352x2048 .bf16) (X2 : FVec Ideal S2x4x512x2048 .bf16) (j : S2x4x512x2048.Idx) (hj : (j 0).val = 1 ∧ 3 ≤ (j 1).val ∧ (j 1).val < 4) :
    REF X0 X1 X2 j = ∑ k : Fin 4352, X1 (ix2 k (j 3)) * X0 (ix2 k (j 2)) := by
  pointwise [REF, hj]
  rw [dif_neg (by omega)]
/-- Everywhere else the reference keeps its third argument. -/
theorem kept (X0 : FVec Ideal S4352x512 .bf16) (X1 : FVec Ideal S4352x2048 .bf16) (X2 : FVec Ideal S2x4x512x2048 .bf16) (j : S2x4x512x2048.Idx) (hj : ¬ ((j 0).val = 1 ∧ 3 ≤ (j 1).val ∧ (j 1).val < 4)) :
    REF X0 X1 X2 j = X2 j := by
  pointwise [REF]
  have h0 : (j 0).val < 2 := (j 0).isLt
  have h1 : (j 1).val < 4 := (j 1).isLt
  split_ifs
  all_goals first
    | (exfalso; omega)
    | (refine congrArg X2 (funext fun a => ?_)
       match a with
       | 0 => exact Fin.ext (by first | (show 0 = (j 0).val; omega) | (show 1 = (j 0).val; omega))
       | 1 => first | rfl | exact Fin.ext (by show 3 = (j 1).val; omega) | exact Fin.ext (by dsimp only [ix4]; omega)
       | 2 => rfl
       | 3 => rfl)

/-- The block of 1024 rows of the first factor at a grid point. -/
abbrev La (t : Fin cfg0.N) : Vec Ideal S1024x512 .bf16 := X0_0 m c t
/-- The block of 1024 rows of the second factor at a grid point. -/
abbrev Ld (t : Fin cfg0.N) : Vec Ideal S1024x2048 .bf16 := X0_2 m c t
/-- The last 256 rows of the first factor. -/
abbrev Ca (t : Fin cfg0.N) : Vec Ideal S256x512 .bf16 := iblk m c 1 t
/-- The last 256 rows of the second factor. -/
abbrev Cd (t : Fin cfg0.N) : Vec Ideal S256x2048 .bf16 := iblk m c 3 t

/-- Where the first factor's block of rows lies in its array. -/
theorem La_at (t : Fin cfg0.N) (k : Fin 1024) (r : Fin 512) : La m c t (ix2 k r) = m ((c : Thread nD τ).loc main_arg0) (ix2 ⟨min (t.val % 5) 3 * 1024 + k.val, by omega⟩ ⟨t.val / 5 * 512 + r.val, by have ht : t.val < 5 := t.isLt; omega⟩) := by
  have ht : t.val < 5 := t.isLt
  unfold La X0_0 Pipeline.Window.fill
  rw [dif_pos (moved0_0 t _)]
  blk_point [iblk, V, idx t]
/-- Where the second factor's block of rows lies in its array. -/
theorem Ld_at (t : Fin cfg0.N) (k : Fin 1024) (r : Fin 2048) : Ld m c t (ix2 k r) = m ((c : Thread nD τ).loc main_arg1) (ix2 ⟨min (t.val % 5) 3 * 1024 + k.val, by omega⟩ r) := by
  have ht : t.val < 5 := t.isLt
  unfold Ld X0_2 Pipeline.Window.fill
  rw [dif_pos (moved0_2 t _)]
  blk_point [iblk, V, idx t]
/-- Where the first factor's last rows lie in its array. -/
theorem Ca_at (t : Fin cfg0.N) (k : Fin 256) (r : Fin 512) : Ca m c t (ix2 k r) = m ((c : Thread nD τ).loc main_arg0) (ix2 ⟨4096 + k.val, by omega⟩ ⟨t.val / 5 * 512 + r.val, by have ht : t.val < 5 := t.isLt; omega⟩) := by
  have ht : t.val < 5 := t.isLt
  blk_point [Ca, iblk, V, idx t]
/-- Where the second factor's last rows lie in its array. -/
theorem Cd_at (t : Fin cfg0.N) (k : Fin 256) (r : Fin 2048) : Cd m c t (ix2 k r) = m ((c : Thread nD τ).loc main_arg1) (ix2 ⟨4096 + k.val, by omega⟩ r) := by
  have ht : t.val < 5 := t.isLt
  blk_point [Cd, iblk, V, idx t]

/-- The partial sum a grid point leaves: a fresh product at the first block of rows. -/
theorem acc_first (t : Fin cfg0.N) (h : t.val % 5 = 0) (j : S512x2048.Idx) : (outsAt0 m c t.val t.isLt).2 j
    = ∑ k : Fin 1024, La m c t (ix2 k (j 0)) * Ld m c t (ix2 k (j 1)) := by
  rw [outsAt0_A m c t h (by omega) (by omega)]; frame_out; exact Cert.Kernel12Ideal.Value.first _ _ j
/-- The partial sum a grid point leaves: one product more at the next three. -/
theorem acc_step (t : Fin cfg0.N) (h : 1 ≤ t.val % 5 ∧ t.val % 5 ≤ 3) (h' : t.val - 1 < cfg0.N) (j : S512x2048.Idx) : (outsAt0 m c t.val t.isLt).2 j
    = (outsAt0 m c (t.val - 1) h').2 j + ∑ k : Fin 1024, La m c t (ix2 k (j 0)) * Ld m c t (ix2 k (j 1)) := by
  rw [outsAt0_B m c t (by omega) h (by omega)]; frame_out; rw [read_unread_whole]; exact Cert.Kernel12Ideal.Value.step _ _ _ j
/-- What a last grid point of a run stores: the partial sum and the last, shorter block of rows. -/
theorem acc_last (t : Fin cfg0.N) (h : t.val % 5 = 4) (h' : t.val - 1 < cfg0.N) (y : S1x1x512x2048.Idx) : (outsAt0 m c t.val t.isLt).1 y
    = (outsAt0 m c (t.val - 1) h').2 (ix2 (y 2) (y 3)) + ∑ k : Fin 256, Ca m c t (ix2 k (y 2)) * Cd m c t (ix2 k (y 3)) := by
  rw [outsAt0_C m c t (by omega) (by omega) h]; frame_out; rw [read_unread_whole]; exact Cert.Kernel12Ideal.Value.last _ _ _ y

/-- The whole result: where the gradient is written, the five blocks of rows added up; everything else untouched. -/
theorem final : (dats m 0 c).arrAt 4 cfg0.N = REF (m ((c : Thread nD τ).loc main_arg0)) (m ((c : Thread nD τ).loc main_arg1)) (m ((c : Thread nD τ).loc main_arg2)) := by
  refine (dats m 0 c).arrAt_eq_of_coversWhere_of_agree 4 _ (fun β => β (0 : Fin _) = 1 ∧ 3 ≤ β (1 : Fin _) ∧ β (1 : Fin _) < 4) (by decide +kernel) (fun t hf y => ?_) (fun j hj => ?_)
  · have ht : t.val < 5 := t.isLt
    have h4 := (flush0_4 t).mp hf
    blk_simp
    rw [after0_4, whole]
    · refine Sums.run (fun s => (outsAt0 m c s.val s.isLt).2 (ix2 (y 2) (y 3))) (fun s => (outsAt0 m c s.val s.isLt).1 y) _ _ (fun s h => acc_first m c s h _)
        (fun s h h' => acc_step m c s h h' _) (fun s h h' => acc_last m c s h h' y) t h4 _ (fun s hs h3 => Finset.sum_congr rfl fun k _ => (EReal.mul_comm _ _).trans ?_)
        (Finset.sum_congr rfl fun k _ => (EReal.mul_comm _ _).trans ?_)
      · refine (congrArg₂ (fun a b : EReal => a * b) (Ld_at m c s k _) (La_at m c s k _)).trans ?_
        blk_point [idx t]
      · refine (congrArg₂ (fun a b : EReal => a * b) (Cd_at m c t k _) (Ca_at m c t k _)).trans ?_
        blk_point [idx t]
    · blk_simp [idx t]
      exact ⟨trivial, by omega, by omega⟩
  · blk_simp [Pipeline.Window.cell_apply] at hj
    rw [kept _ _ _ _ (by blk_simp; omega)]
    show V m c main_v0 _ = _
    entry_read
    rfl

end Cert.Kernel31Ideal.Value

end
-- ==== Proof.PwDactLater.lean ====
/- The cotangent of the pointwise convolution with respect to its input: `dcv · pwᵀ`, in layer 1. -/
module

public import proofs.«01_k».proof.Proof.Gen.Kernel32Ideal.Value
public import proofs.«01_k».proof.Proof.Gen.Reference32Ideal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel32Ideal.Value

open Cert.Kernel32Ideal Cert.Kernel32Ideal.Gen

variable (m : (ℓ : Loc nD τ sig) → Buf (Elt Ideal) ℓ) (c : Dev nD)

/-- What the reference computes of its two arguments: the cotangent against the assembled weight. -/
abbrev REF (X0 : FVec Ideal S4352x512 .bf16) (X1 : FVec Ideal S4x2x128x512 .bf16) : FVec Ideal S4352x512 .f32 :=
  Host.dotGeneral Cert.Reference32Ideal.dot_S4352x512_S512x512_S4352x512_1_1_0_0_n_n none (extf .f32 X0 Cert.Reference32Ideal.Gen.bitsLt_bf16_f32) (shapeCast _ (extf .f32 (shapeCast _ (extractStridedSlice Cert.Reference32Ideal.S4x1x128x512 ![0, 1, 0, 0] X1 Cert.Reference32Ideal.Gen.slices_S4x2x128x512_S4x1x128x512_0_1_0_0) Cert.Reference32Ideal.Gen.shapeCasts_S4x1x128x512_S4x128x512) Cert.Reference32Ideal.Gen.bitsLt_bf16_f32) Cert.Reference32Ideal.Gen.shapeCasts_S4x128x512_S512x512)

theorem idx : ∀ t : Fin cfg0.N, win0_0.index t = ![t.val % 4, 0] ∧ win0_1.index t = ![t.val / 4, 1, 0, 0] ∧ win0_2.index t = ![t.val % 4, t.val / 4] :=
  (by decide +kernel : ∀ t : Fin grid0.N, _)

/-- What grid point `t` stores at `y` is the reference's entry where `y` lies in the array. -/
theorem point (t : Fin cfg0.N) (y : S1088x128.Idx) : k0_pay1 (iblk m c 0 t) (iblk m c 1 t) y
    = REF (m ((c : Thread nD τ).loc main_arg0)) (m ((c : Thread nD τ).loc main_arg1)) (((cfg0.win 2).blk t).view.emb y) := by
  have ht : t.val < 16 := t.isLt
  pointwise [k0_pay1, REF]
  blk_point [iblk, V, idx t]

/-- The whole result. -/
theorem final : (dats m 0 c).arrAt 2 cfg0.N = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel32Ideal.Value

end
-- ==== Proof.PwDwLater.lean ====
/- The weight gradient of the pointwise convolution, written into layer 1 of the gradients: `actᵀ · dcv`. -/
module

public import proofs.«01_k».proof.Proof.Gen.Kernel33Ideal.Value
public import proofs.«01_k».proof.Proof.Gen.Reference33Ideal
public import Idealize.ShloMosaic.Lib.Pipeline.ValueKit
public import Idealize.ShloMosaic.Lib.Pipeline.ReadBack
public import proofs.«01_k».proof.Proof.PwDw

@[expose] public section

set_option maxRecDepth 16384

noncomputable section

open Idealize.ShloMosaic Idealize.ShloMosaic.TcCoe Idealize.SL.Sem
open Idealize.ShloMosaic.Pipeline (Dat)

namespace Cert.Kernel33Ideal.Value

open Cert.Kernel33Ideal Cert.Kernel33Ideal.Gen

variable (m : (ℓ : Loc nD τ sig) → Buf (Elt Ideal) ℓ) (c : Dev nD)

/-- What the reference computes of its arguments: the gradient in layer 1, the third argument in layer 0. -/
abbrev REF (X0 : FVec Ideal S4352x512 .bf16) (X1 : FVec Ideal S4352x512 .bf16) (X2 : FVec Ideal S2x4x128x512 .bf16) : FVec Ideal S2x4x128x512 .bf16 :=
  concatenate Cert.Reference33Ideal.S2x4x128x512 0 [⟨Cert.Reference33Ideal.S1x4x128x512, (broadcastInDim Cert.Reference33Ideal.S1x4x128x512 ![1, 2, 3] Cert.Reference33Ideal.Gen.bcast_S4x128x512_S1x4x128x512_1_2_3 (shapeCast _ (extractStridedSlice Cert.Reference33Ideal.S1x4x128x512 ![0, 0, 0, 0] X2 Cert.Reference33Ideal.Gen.slices_S2x4x128x512_S1x4x128x512_0_0_0_0) Cert.Reference33Ideal.Gen.shapeCasts_S1x4x128x512_S4x128x512))⟩, ⟨Cert.Reference33Ideal.S1x4x128x512, (broadcastInDim Cert.Reference33Ideal.S1x4x128x512 ![1, 2, 3] Cert.Reference33Ideal.Gen.bcast_S4x128x512_S1x4x128x512_1_2_3 (truncf .bf16 (shapeCast _ (transpose Cert.Reference33Ideal.S512x512 [1, 0] (Host.dotGeneral Cert.Reference33Ideal.dot_S4352x512_S4352x512_S512x512_0_0_1_1_n_n none (extf .f32 X1 Cert.Reference33Ideal.Gen.bitsLt_bf16_f32) (extf .f32 X0 Cert.Reference33Ideal.Gen.bitsLt_bf16_f32)) Cert.Reference33Ideal.Gen.transposes_S512x512_S512x512_1_0) Cert.Reference33Ideal.Gen.shapeCasts_S512x512_S4x128x512) Cert.Reference33Ideal.Gen.bitsLt_bf16_f32))⟩] Cert.Reference33Ideal.Gen.concatenates_S1x4x128x512_S1x4x128x512_S2x4x128x512_d0

theorem idx : ∀ t : Fin cfg0.N, win0_0.index t = ![min (t.val % 5) 3, t.val / 5] ∧ win0_1.index t = ![16, t.val / 5] ∧ win0_2.index t = ![min (t.val % 5) 3, 0] ∧ win0_3.index t = ![16, 0] ∧ win0_4.index t = ![1, t.val / 5, 0, 0] :=
  (by decide +kernel : ∀ t : Fin grid0.N, _)

/-- The reference's entry in the layer the gradient is of, as one contraction over all rows. -/
theorem whole (X0 : FVec Ideal S4352x512 .bf16) (X1 : FVec Ideal S4352x512 .bf16) (X2 : FVec Ideal S2x4x128x512 .bf16) (j : S2x4x128x512.Idx) (hj : (j 0).val = 1) :
    REF X0 X1 X2 j = ∑ k : Fin 4352, X1 (ix2 k (j 3)) * X0 (ix2 k ⟨(j 1).val * 128 + (j 2).val, by have h1 : (j 1).val < 4 := (j 1).isLt; have h2 : (j 2).val < 128 := (j 2).isLt; omega⟩) := by
  pointwise [REF, hj]
/-- In the other layer the reference keeps its third argument. -/
theorem kept (X0 : FVec Ideal S4352x512 .bf16) (X1 : FVec Ideal S4352x512 .bf16) (X2 : FVec Ideal S2x4x128x512 .bf16) (j : S2x4x128x512.Idx) (hj : ¬ ((j 0).val = 1)) :
    REF X0 X1 X2 j = X2 j := by
  pointwise [REF]
  have h0 : (j 0).val < 2 := (j 0).isLt
  have h1 : (j 1).val < 4 := (j 1).isLt
  split_ifs
  all_goals first
    | (exfalso; omega)
    | (refine congrArg X2 (funext fun a => ?_)
       match a with
       | 0 => exact Fin.ext (by first | (show 0 = (j 0).val; omega) | (show 1 = (j 0).val; omega))
       | 1 => first | rfl | exact Fin.ext (by show 3 = (j 1).val; omega) | exact Fin.ext (by dsimp only [ix4]; omega)
       | 2 => rfl
       | 3 => rfl)

/-- The block of 1024 rows of the first factor at a grid point. -/
abbrev La (t : Fin cfg0.N) : Vec Ideal S1024x128 .bf16 := X0_0 m c t
/-- The block of 1024 rows of the second factor at a grid point. -/
abbrev Ld (t : Fin cfg0.N) : Vec Ideal S1024x512 .bf16 := X0_2 m c t
/-- The last 256 rows of the first factor. -/
abbrev Ca (t : Fin cfg0.N) : Vec Ideal S256x128 .bf16 := iblk m c 1 t
/-- The last 256 rows of the second factor. -/
abbrev Cd (t : Fin cfg0.N) : Vec Ideal S256x512 .bf16 := iblk m c 3 t

/-- Where the first factor's block of rows lies in its array. -/
theorem La_at (t : Fin cfg0.N) (k : Fin 1024) (r : Fin 128) : La m c t (ix2 k r) = m ((c : Thread nD τ).loc main_arg0) (ix2 ⟨min (t.val % 5) 3 * 1024 + k.val, by omega⟩ ⟨t.val / 5 * 128 + r.val, by have ht : t.val < 20 := t.isLt; omega⟩) := by
  have ht : t.val < 20 := t.isLt
  unfold La X0_0 Pipeline.Window.fill
  rw [dif_pos (moved0_0 t _)]
  blk_point [iblk, V, idx t]
/-- Where the second factor's block of rows lies in its array. -/
theorem Ld_at (t : Fin cfg0.N) (k : Fin 1024) (r : Fin 512) : Ld m c t (ix2 k r) = m ((c : Thread nD τ).loc main_arg1) (ix2 ⟨min (t.val % 5) 3 * 1024 + k.val, by omega⟩ r) := by
  have ht : t.val < 20 := t.isLt
  unfold Ld X0_2 Pipeline.Window.fill
  rw [dif_pos (moved0_2 t _)]
  blk_point [iblk, V, idx t]
/-- Where the first factor's last rows lie in its array. -/
theorem Ca_at (t : Fin cfg0.N) (k : Fin 256) (r : Fin 128) : Ca m c t (ix2 k r) = m ((c : Thread nD τ).loc main_arg0) (ix2 ⟨4096 + k.val, by omega⟩ ⟨t.val / 5 * 128 + r.val, by have ht : t.val < 20 := t.isLt; omega⟩) := by
  have ht : t.val < 20 := t.isLt
  blk_point [Ca, iblk, V, idx t]
/-- Where the second factor's last rows lie in its array. -/
theorem Cd_at (t : Fin cfg0.N) (k : Fin 256) (r : Fin 512) : Cd m c t (ix2 k r) = m ((c : Thread nD τ).loc main_arg1) (ix2 ⟨4096 + k.val, by omega⟩ r) := by
  have ht : t.val < 20 := t.isLt
  blk_point [Cd, iblk, V, idx t]

/-- The partial sum a grid point leaves: a fresh product at the first block of rows. -/
theorem acc_first (t : Fin cfg0.N) (h : t.val % 5 = 0) (j : S128x512.Idx) : (outsAt0 m c t.val t.isLt).2 j
    = ∑ k : Fin 1024, La m c t (ix2 k (j 0)) * Ld m c t (ix2 k (j 1)) := by
  rw [outsAt0_A m c t h (by omega) (by omega)]; frame_out; exact Cert.Kernel16Ideal.Value.first _ _ j
/-- The partial sum a grid point leaves: one product more at the next three. -/
theorem acc_step (t : Fin cfg0.N) (h : 1 ≤ t.val % 5 ∧ t.val % 5 ≤ 3) (h' : t.val - 1 < cfg0.N) (j : S128x512.Idx) : (outsAt0 m c t.val t.isLt).2 j
    = (outsAt0 m c (t.val - 1) h').2 j + ∑ k : Fin 1024, La m c t (ix2 k (j 0)) * Ld m c t (ix2 k (j 1)) := by
  rw [outsAt0_B m c t (by omega) h (by omega)]; frame_out; rw [read_unread_whole]; exact Cert.Kernel16Ideal.Value.step _ _ _ j
/-- What a last grid point of a run stores: the partial sum and the last, shorter block of rows. -/
theorem acc_last (t : Fin cfg0.N) (h : t.val % 5 = 4) (h' : t.val - 1 < cfg0.N) (y : S1x1x128x512.Idx) : (outsAt0 m c t.val t.isLt).1 y
    = (outsAt0 m c (t.val - 1) h').2 (ix2 (y 2) (y 3)) + ∑ k : Fin 256, Ca m c t (ix2 k (y 2)) * Cd m c t (ix2 k (y 3)) := by
  rw [outsAt0_C m c t (by omega) (by omega) h]; frame_out; rw [read_unread_whole]; exact Cert.Kernel16Ideal.Value.last _ _ _ y

/-- The whole result: in the layer the gradient is of, the five blocks of rows added up; the other layer untouched. -/
theorem final : (dats m 0 c).arrAt 4 cfg0.N = REF (m ((c : Thread nD τ).loc main_arg0)) (m ((c : Thread nD τ).loc main_arg1)) (m ((c : Thread nD τ).loc main_arg2)) := by
  refine (dats m 0 c).arrAt_eq_of_coversWhere_of_agree 4 _ (fun β => β (0 : Fin _) = 1) (by decide +kernel) (fun t hf y => ?_) (fun j hj => ?_)
  · have ht : t.val < 20 := t.isLt
    have h4 := (flush0_4 t).mp hf
    blk_simp
    rw [after0_4, whole]
    · refine Sums.run (fun s => (outsAt0 m c s.val s.isLt).2 (ix2 (y 2) (y 3))) (fun s => (outsAt0 m c s.val s.isLt).1 y) _ _ (fun s h => acc_first m c s h _)
        (fun s h h' => acc_step m c s h h' _) (fun s h h' => acc_last m c s h h' y) t h4 _ (fun s hs h3 => Finset.sum_congr rfl fun k _ => (EReal.mul_comm _ _).trans ?_)
        (Finset.sum_congr rfl fun k _ => (EReal.mul_comm _ _).trans ?_)
      · refine (congrArg₂ (fun a b : EReal => a * b) (Ld_at m c s k _) (La_at m c s k _)).trans ?_
        blk_point [idx t]
      · refine (congrArg₂ (fun a b : EReal => a * b) (Cd_at m c t k _) (Ca_at m c t k _)).trans ?_
        blk_point [idx t]
    · blk_simp [idx t]
  · blk_simp [Pipeline.Window.cell_apply] at hj
    rw [kept _ _ _ _ (by blk_simp; omega)]
    show V m c main_v0 _ = _
    entry_read
    rfl

end Cert.Kernel33Ideal.Value

end
-- ==== Proof.OutLater.lean ====
/- The mixers' output projection: `mix · out`, the mixers' three results side by side, in layer 1. -/
module

public import proofs.«01_k».proof.Proof.Gen.Kernel34Ideal.Value
public import proofs.«01_k».proof.Proof.Gen.Reference34Ideal
public import Idealize.ShloMosaic.Lib.Pipeline.ValueKit
public import proofs.«01_k».proof.Proof.Sums

@[expose] public section

set_option maxRecDepth 16384

noncomputable section

open Idealize.ShloMosaic Idealize.ShloMosaic.TcCoe Idealize.SL.Sem
open Idealize.ShloMosaic.Pipeline (Dat)

namespace Cert.Kernel34Ideal.Value

open Cert.Kernel34Ideal Cert.Kernel34Ideal.Gen

variable (m : (ℓ : Loc nD τ sig) → Buf (Elt Ideal) ℓ) (c : Dev nD)

/-- What the reference computes of its four arguments: the three pieces side by side against the assembled weight. -/
abbrev REF (X0 : FVec Ideal S4352x1024 .bf16) (X1 : FVec Ideal S4352x512 .bf16) (X2 : FVec Ideal S4352x512 .bf16) (X3 : FVec Ideal S4x2x512x2048 .bf16) : FVec Ideal S4352x2048 .f32 :=
  Host.dotGeneral Cert.Reference34Ideal.dot_S4352x2048_S2048x2048_S4352x2048_1_0_0_1_n_n none (extf .f32 ((concatenate Cert.Reference34Ideal.S4352x2048 1 [⟨Cert.Reference34Ideal.S4352x1024, (X0 : (⟨Cert.Reference34Ideal.S4352x1024, .bf16⟩ : BufTy).Contents (Elt Ideal))⟩, ⟨Cert.Reference34Ideal.S4352x512, (X1 : (⟨Cert.Reference34Ideal.S4352x512, .bf16⟩ : BufTy).Contents (Elt Ideal))⟩, ⟨Cert.Reference34Ideal.S4352x512, (X2 : (⟨Cert.Reference34Ideal.S4352x512, .bf16⟩ : BufTy).Contents (Elt Ideal))⟩] Cert.Reference34Ideal.Gen.concatenates_S4352x1024_S4352x512_S4352x512_S4352x2048_d1 : (⟨Cert.Reference34Ideal.S4352x2048, .bf16⟩ : BufTy).Contents (Elt Ideal))) Cert.Reference34Ideal.Gen.bitsLt_bf16_f32) (shapeCast _ (extf .f32 (shapeCast _ (extractStridedSlice Cert.Reference34Ideal.S4x1x512x2048 ![0, 1, 0, 0] X3 Cert.Reference34Ideal.Gen.slices_S4x2x512x2048_S4x1x512x2048_0_1_0_0) Cert.Reference34Ideal.Gen.shapeCasts_S4x1x512x2048_S4x512x2048) Cert.Reference34Ideal.Gen.bitsLt_bf16_f32) Cert.Reference34Ideal.Gen.shapeCasts_S4x512x2048_S2048x2048)

theorem idx : ∀ t : Fin cfg0.N, win0_0.index t = ![t.val, 0] ∧ win0_1.index t = ![t.val, 0] ∧ win0_2.index t = ![t.val, 0] ∧ win0_3.index t = ![0, 1, 0, 0] ∧ win0_4.index t = ![t.val, 0] :=
  (by decide +kernel : ∀ t : Fin grid0.N, _)

/-- The four products of a block, added up. -/
theorem four (a0 : Vec Ideal S544x512 .bf16) (b0 : Vec Ideal S1x1x512x2048 .bf16) (a1 : Vec Ideal S544x512 .bf16) (b1 : Vec Ideal S1x1x512x2048 .bf16) (a2 : Vec Ideal S544x512 .bf16) (b2 : Vec Ideal S1x1x512x2048 .bf16) (a3 : Vec Ideal S544x512 .bf16) (b3 : Vec Ideal S1x1x512x2048 .bf16) (y : S544x2048.Idx) :
    k0_pay1 a0 b0 a1 b1 a2 b2 a3 b3 y = (((∑ k : Fin 512, a0 (ix2 (y 0) k) * b0 (ix4 0 0 k (y 1))) + ∑ k : Fin 512, a1 (ix2 (y 0) k) * b1 (ix4 0 0 k (y 1)))
      + ∑ k : Fin 512, a2 (ix2 (y 0) k) * b2 (ix4 0 0 k (y 1))) + ∑ k : Fin 512, a3 (ix2 (y 0) k) * b3 (ix4 0 0 k (y 1)) := by
  pointwise [k0_pay1]

/-- A sum over 2048 as four quarters, added up from the first. -/
theorem four_parts (f : Fin 2048 → EReal) : ∑ i, f i = (((∑ k : Fin 512, f ⟨k, by omega⟩) + ∑ k : Fin 512, f ⟨512 + k, by omega⟩) + ∑ k : Fin 512, f ⟨1024 + k, by omega⟩) + ∑ k : Fin 512, f ⟨1536 + k, by omega⟩ := by
  rw [Sums.split 1536 512 rfl, Sums.split 1024 512 rfl, Sums.split 512 512 rfl]

/-- The reference's entry: the rows of each piece of the weight against the piece of the input they multiply. -/
theorem whole (X0 : FVec Ideal S4352x1024 .bf16) (X1 : FVec Ideal S4352x512 .bf16) (X2 : FVec Ideal S4352x512 .bf16) (X3 : FVec Ideal S4x2x512x2048 .bf16) (j : S4352x2048.Idx) :
    REF X0 X1 X2 X3 j = (((∑ k : Fin 512, X0 (ix2 (j 0) ⟨k.val, by omega⟩) * X3 (ix4 0 1 k (j 1))) + ∑ k : Fin 512, X0 (ix2 (j 0) ⟨512 + k.val, by omega⟩) * X3 (ix4 1 1 k (j 1)))
      + ∑ k : Fin 512, X1 (ix2 (j 0) k) * X3 (ix4 2 1 k (j 1))) + ∑ k : Fin 512, X2 (ix2 (j 0) k) * X3 (ix4 3 1 k (j 1)) := by
  pointwise [REF]
  rw [four_parts]
  refine congrArg₂ (fun a b : EReal => a + b) (congrArg₂ (fun a b : EReal => a + b) (congrArg₂ (fun a b : EReal => a + b) ?_ ?_) ?_) ?_
  all_goals refine Finset.sum_congr rfl fun k _ => ?_
  · rw [dif_pos (by dsimp only; omega)]; blk_point []
  · rw [dif_pos (by dsimp only; omega)]; blk_point []
  · rw [dif_neg (by dsimp only; omega), dif_pos (by dsimp only; omega)]; blk_point []
  · rw [dif_neg (by dsimp only; omega), dif_neg (by dsimp only; omega)]; blk_point []

/-- The whole result: the four quarters of the contraction, added up. -/
theorem final : (dats m 0 c).arrAt 4 cfg0.N = REF (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  have ht : t.val < 8 := t.isLt
  blk_simp
  rw [after0_4]; frame_out
  rw [four, whole]
  refine congrArg₂ (fun a b : EReal => a + b) (congrArg₂ (fun a b : EReal => a + b) (congrArg₂ (fun a b : EReal => a + b) ?_ ?_) ?_) ?_
  all_goals refine Finset.sum_congr rfl fun k _ => ?_
  all_goals have hk : k.val < 512 := k.isLt
  all_goals blk_point [iblk, V, idx t]

end Cert.Kernel34Ideal.Value

end
-- ==== Proof.PwLater.lean ====
/- The pointwise convolution: `act · pw`, in layer 1. -/
module

public import proofs.«01_k».proof.Proof.Gen.Kernel35Ideal.Value
public import proofs.«01_k».proof.Proof.Gen.Reference35Ideal
public import Idealize.ShloMosaic.Lib.Pipeline.ValueKit
public import proofs.«01_k».proof.Proof.Sums

@[expose] public section

set_option maxRecDepth 16384

noncomputable section

open Idealize.ShloMosaic Idealize.ShloMosaic.TcCoe Idealize.SL.Sem
open Idealize.ShloMosaic.Pipeline (Dat)

namespace Cert.Kernel35Ideal.Value

open Cert.Kernel35Ideal Cert.Kernel35Ideal.Gen

variable (m : (ℓ : Loc nD τ sig) → Buf (Elt Ideal) ℓ) (c : Dev nD)

/-- What the reference computes of its two arguments: the activation against the assembled weight. -/
abbrev REF (X0 : FVec Ideal S4352x512 .bf16) (X1 : FVec Ideal S4x2x128x512 .bf16) : FVec Ideal S4352x512 .bf16 :=
  truncf .bf16 (Host.dotGeneral Cert.Reference35Ideal.dot_S4352x512_S512x512_S4352x512_1_0_0_1_n_n none (extf .f32 X0 Cert.Reference35Ideal.Gen.bitsLt_bf16_f32) (shapeCast _ (extf .f32 (shapeCast _ (extractStridedSlice Cert.Reference35Ideal.S4x1x128x512 ![0, 1, 0, 0] X1 Cert.Reference35Ideal.Gen.slices_S4x2x128x512_S4x1x128x512_0_1_0_0) Cert.Reference35Ideal.Gen.shapeCasts_S4x1x128x512_S4x128x512) Cert.Reference35Ideal.Gen.bitsLt_bf16_f32) Cert.Reference35Ideal.Gen.shapeCasts_S4x128x512_S512x512)) Cert.Reference35Ideal.Gen.bitsLt_bf16_f32

theorem idx : ∀ t : Fin cfg0.N, win0_0.index t = ![t.val, 0] ∧ win0_1.index t = ![0, 1, 0, 0] ∧ win0_2.index t = ![t.val, 0] :=
  (by decide +kernel : ∀ t : Fin grid0.N, _)

/-- The four products of a block, added up. -/
theorem four (a0 : Vec Ideal S544x128 .bf16) (b0 : Vec Ideal S1x1x128x512 .bf16) (a1 : Vec Ideal S544x128 .bf16) (b1 : Vec Ideal S1x1x128x512 .bf16) (a2 : Vec Ideal S544x128 .bf16) (b2 : Vec Ideal S1x1x128x512 .bf16) (a3 : Vec Ideal S544x128 .bf16) (b3 : Vec Ideal S1x1x128x512 .bf16) (y : S544x512.Idx) :
    k0_pay1 a0 b0 a1 b1 a2 b2 a3 b3 y = (((∑ k : Fin 128, a0 (ix2 (y 0) k) * b0 (ix4 0 0 k (y 1))) + ∑ k : Fin 128, a1 (ix2 (y 0) k) * b1 (ix4 0 0 k (y 1)))
      + ∑ k : Fin 128, a2 (ix2 (y 0) k) * b2 (ix4 0 0 k (y 1))) + ∑ k : Fin 128, a3 (ix2 (y 0) k) * b3 (ix4 0 0 k (y 1)) := by
  pointwise [k0_pay1]

/-- A sum over 512 as four quarters, added up from the first. -/
theorem four_parts (f : Fin 512 → EReal) : ∑ i, f i = (((∑ k : Fin 128, f ⟨k, by omega⟩) + ∑ k : Fin 128, f ⟨128 + k, by omega⟩) + ∑ k : Fin 128, f ⟨256 + k, by omega⟩) + ∑ k : Fin 128, f ⟨384 + k, by omega⟩ := by
  rw [Sums.split 384 128 rfl, Sums.split 256 128 rfl, Sums.split 128 128 rfl]

/-- The reference's entry as one contraction. -/
theorem whole (X0 : FVec Ideal S4352x512 .bf16) (X1 : FVec Ideal S4x2x128x512 .bf16) (j : S4352x512.Idx) :
    REF X0 X1 j = ∑ l : Fin 512, X0 (ix2 (j 0) l) * X1 (ix4 ⟨l.val / 128, by omega⟩ 1 ⟨l.val % 128, by omega⟩ (j 1)) := by
  pointwise [REF]

/-- The whole result: the four quarters of the contraction, added up. -/
theorem final : (dats m 0 c).arrAt 2 cfg0.N = REF (m ((c : Thread nD τ).loc main_arg0)) (m ((c : Thread nD τ).loc main_arg1)) := by
  refine (dats m 0 c).arrAt_eq_of_covers 2 _ (by decide +kernel) fun t _ y => ?_
  have ht : t.val < 8 := t.isLt
  blk_simp
  rw [after0_2]; frame_out
  rw [four, whole, four_parts]
  refine congrArg₂ (fun a b : EReal => a + b) (congrArg₂ (fun a b : EReal => a + b) (congrArg₂ (fun a b : EReal => a + b) ?_ ?_) ?_) ?_
  all_goals refine Finset.sum_congr rfl fun k _ => ?_
  all_goals have hk : k.val < 128 := k.isLt
  all_goals blk_point [iblk, V, idx t]

end Cert.Kernel35Ideal.Value

end
-- ==== Proof.Adam.lean ====
/- The optimiser's step at one entry, and over an array of any shape: the new moments and the change of the weight,
   and that the reference's host operations give exactly these. -/
module

public import Idealize.ShloMosaic.Lib.Pipeline.ValueKit

@[expose] public section

set_option maxRecDepth 16384

noncomputable section

open Idealize.ShloMosaic Idealize.ShloMosaic.TcCoe Idealize.SL.Sem

namespace Adam

/-- The first moment's new entry, from the gradient's and the old moment's: `β₁ m + (1 - β₁) g`. -/
def m1 (g m : Ideal .f32) : Ideal .f32 :=
  FloatOps.addf (F := Ideal) (FloatOps.mulf (Scalar.ofBits .f32 0x3F666666#32) m) (FloatOps.mulf (Scalar.ofBits .f32 0x3DCCCCCD#32) g)

/-- The second moment's new entry: `β₂ v + (1 - β₂) g²`. -/
def v1 (g v : Ideal .f32) : Ideal .f32 :=
  FloatOps.addf (F := Ideal) (FloatOps.mulf (Scalar.ofBits .f32 0x3F7FBE77#32) v) (FloatOps.mulf (Scalar.ofBits .f32 0x3A83126F#32) (FloatOps.mulf g g))

/-- The change of the weight's entry: `-lr (m̂ / (√v̂ + ε) + wd · w)`, the moments divided by their corrections. -/
def d1 (w g m v : Ideal .f32) : Ideal .f32 :=
  FloatOps.mulf (F := Ideal) (Scalar.ofBits .f32 0xBA83126F#32) (FloatOps.addf
    (FloatOps.divf (FloatOps.divf (m1 g m) (Scalar.ofBits .f32 0x3F26BD02#32))
      (FloatOps.addf (FloatOps.sqrt (FloatOps.divf (v1 g v) (Scalar.ofBits .f32 0x3C231ACC#32))) (Scalar.ofBits .f32 0x322BCC77#32)))
    (FloatOps.mulf (Scalar.ofBits .f32 0x3C23D70A#32) w))

variable {S : Shape}

/-- The first moment's new array. -/
def newM (g m : FVec Ideal S .f32) : FVec Ideal S .f32 := fun i => m1 (g i) (m i)
/-- The second moment's new array. -/
def newV (g v : FVec Ideal S .f32) : FVec Ideal S .f32 := fun i => v1 (g i) (v i)
/-- The change of the weight, as an array. -/
def delta (w g m v : FVec Ideal S .f32) : FVec Ideal S .f32 := fun i => d1 (w i) (g i) (m i) (v i)

/-- A scalar constant, spread over the shape as the reference does. -/
abbrev spread (h : (⟨0, ![]⟩ : Shape).BroadcastsInDim S (![] : Fin 0 → Fin S.rank)) (b : BitVec 32) : FVec Ideal S .f32 :=
  broadcastInDim S ![] h (constant (F := Ideal) ⟨0, ![]⟩ .f32 b)

variable (h : (⟨0, ![]⟩ : Shape).BroadcastsInDim S (![] : Fin 0 → Fin S.rank)) (w g m v : FVec Ideal S .f32)

/-- The reference's first moment. -/
theorem newM_eq : addf (mulf (spread h 0x3F666666#32) m) (mulf (spread h 0x3DCCCCCD#32) g) = newM g m := rfl

/-- The reference's second moment. -/
theorem newV_eq : addf (mulf (spread h 0x3F7FBE77#32) v) (mulf (spread h 0x3A83126F#32) (mulf g g)) = newV g v := rfl

/-- The reference's change of the weight. -/
theorem delta_eq : mulf (spread h 0xBA83126F#32) (addf
      (Host.divf (Host.divf (addf (mulf (spread h 0x3F666666#32) m) (mulf (spread h 0x3DCCCCCD#32) g)) (spread h 0x3F26BD02#32))
        (addf (Host.sqrt (Host.divf (addf (mulf (spread h 0x3F7FBE77#32) v) (mulf (spread h 0x3A83126F#32) (mulf g g))) (spread h 0x3C231ACC#32)))
          (spread h 0x322BCC77#32)))
      (mulf (spread h 0x3C23D70A#32) w)) = delta w g m v := rfl

end Adam

end
-- ==== Proof.AdamIn.lean ====
/- The optimiser's call on the input projection's weight: its four results. -/
module

public import proofs.«01_k».proof.Proof.Gen.Kernel37Ideal.Value
public import proofs.«01_k».proof.Proof.Adam

@[expose] public section

set_option maxRecDepth 16384

noncomputable section

open Idealize.ShloMosaic Idealize.ShloMosaic.TcCoe Idealize.SL.Sem
open Idealize.ShloMosaic.Pipeline (Dat)

namespace Cert.Kernel37Ideal.Value

open Cert.Kernel37Ideal Cert.Kernel37Ideal.Gen

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

/-- The weight's change. -/
theorem final4 : (dats m 0 c).arrAt 4 cfg0.N = Adam.delta (m ((c : Thread nD τ).loc main_arg0)) (m ((c : Thread nD τ).loc main_arg1))
    (m ((c : Thread nD τ).loc main_arg2)) (m ((c : Thread nD τ).loc main_arg3)) := by
  refine (dats m 0 c).arrAt_eq_of_covers 4 _ (by decide +kernel) fun t _ y => ?_
  blk_simp
  rw [after0_4]; frame_out
  show Adam.d1 (iblk m c 0 t y) (iblk m c 1 t y) (iblk m c 2 t y) (iblk m c 3 t y) = _
  unfold Adam.delta
  congr 1 <;> blk_point [iblk, V, idx t]

/-- The first moment. -/
theorem final5 : (dats m 0 c).arrAt 5 cfg0.N = Adam.newM (m ((c : Thread nD τ).loc main_arg1)) (m ((c : Thread nD τ).loc main_arg2)) := by
  refine (dats m 0 c).arrAt_eq_of_covers 5 _ (by decide +kernel) fun t _ y => ?_
  blk_simp
  rw [after0_5]; frame_out
  show Adam.m1 (iblk m c 1 t y) (iblk m c 2 t y) = _
  unfold Adam.newM
  congr 1 <;> blk_point [iblk, V, idx t]

/-- The second moment. -/
theorem final6 : (dats m 0 c).arrAt 6 cfg0.N = Adam.newV (m ((c : Thread nD τ).loc main_arg1)) (m ((c : Thread nD τ).loc main_arg3)) := by
  refine (dats m 0 c).arrAt_eq_of_covers 6 _ (by decide +kernel) fun t _ y => ?_
  blk_simp
  rw [after0_6]; frame_out
  show Adam.v1 (iblk m c 1 t y) (iblk m c 3 t y) = _
  unfold Adam.newV
  congr 1 <;> blk_point [iblk, V, idx t]

/-- The gradient, handed on. -/
theorem final7 : (dats m 0 c).arrAt 7 cfg0.N = m ((c : Thread nD τ).loc main_arg1) := by
  refine (dats m 0 c).arrAt_eq_of_covers 7 _ (by decide +kernel) fun t _ y => ?_
  blk_simp
  rw [after0_7]; frame_out
  blk_point [iblk, V, idx t]

end Cert.Kernel37Ideal.Value

end
-- ==== Proof.AdamOut.lean ====
/- The optimiser's call on the output projection's weight: its four results. -/
module

public import proofs.«01_k».proof.Proof.Gen.Kernel39Ideal.Value
public import proofs.«01_k».proof.Proof.Adam

@[expose] public section

set_option maxRecDepth 16384

noncomputable section

open Idealize.ShloMosaic Idealize.ShloMosaic.TcCoe Idealize.SL.Sem
open Idealize.ShloMosaic.Pipeline (Dat)

namespace Cert.Kernel39Ideal.Value

open Cert.Kernel39Ideal Cert.Kernel39Ideal.Gen

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

/-- The weight's change. -/
theorem final4 : (dats m 0 c).arrAt 4 cfg0.N = Adam.delta (m ((c : Thread nD τ).loc main_arg0)) (m ((c : Thread nD τ).loc main_arg1))
    (m ((c : Thread nD τ).loc main_arg2)) (m ((c : Thread nD τ).loc main_arg3)) := by
  refine (dats m 0 c).arrAt_eq_of_covers 4 _ (by decide +kernel) fun t _ y => ?_
  blk_simp
  rw [after0_4]; frame_out
  show Adam.d1 (iblk m c 0 t y) (iblk m c 1 t y) (iblk m c 2 t y) (iblk m c 3 t y) = _
  unfold Adam.delta
  congr 1 <;> blk_point [iblk, V, idx t]

/-- The first moment. -/
theorem final5 : (dats m 0 c).arrAt 5 cfg0.N = Adam.newM (m ((c : Thread nD τ).loc main_arg1)) (m ((c : Thread nD τ).loc main_arg2)) := by
  refine (dats m 0 c).arrAt_eq_of_covers 5 _ (by decide +kernel) fun t _ y => ?_
  blk_simp
  rw [after0_5]; frame_out
  show Adam.m1 (iblk m c 1 t y) (iblk m c 2 t y) = _
  unfold Adam.newM
  congr 1 <;> blk_point [iblk, V, idx t]

/-- The second moment. -/
theorem final6 : (dats m 0 c).arrAt 6 cfg0.N = Adam.newV (m ((c : Thread nD τ).loc main_arg1)) (m ((c : Thread nD τ).loc main_arg3)) := by
  refine (dats m 0 c).arrAt_eq_of_covers 6 _ (by decide +kernel) fun t _ y => ?_
  blk_simp
  rw [after0_6]; frame_out
  show Adam.v1 (iblk m c 1 t y) (iblk m c 3 t y) = _
  unfold Adam.newV
  congr 1 <;> blk_point [iblk, V, idx t]

/-- The gradient, handed on. -/
theorem final7 : (dats m 0 c).arrAt 7 cfg0.N = m ((c : Thread nD τ).loc main_arg1) := by
  refine (dats m 0 c).arrAt_eq_of_covers 7 _ (by decide +kernel) fun t _ y => ?_
  blk_simp
  rw [after0_7]; frame_out
  blk_point [iblk, V, idx t]

end Cert.Kernel39Ideal.Value

end
-- ==== Proof.AdamUp.lean ====
/- The optimiser's call on the up projection's weight: its four results. -/
module

public import proofs.«01_k».proof.Proof.Gen.Kernel40Ideal.Value
public import proofs.«01_k».proof.Proof.Adam

@[expose] public section

set_option maxRecDepth 16384

noncomputable section

open Idealize.ShloMosaic Idealize.ShloMosaic.TcCoe Idealize.SL.Sem
open Idealize.ShloMosaic.Pipeline (Dat)

namespace Cert.Kernel40Ideal.Value

open Cert.Kernel40Ideal Cert.Kernel40Ideal.Gen

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

/-- The weight's change. -/
theorem final4 : (dats m 0 c).arrAt 4 cfg0.N = Adam.delta (m ((c : Thread nD τ).loc main_arg0)) (m ((c : Thread nD τ).loc main_arg1))
    (m ((c : Thread nD τ).loc main_arg2)) (m ((c : Thread nD τ).loc main_arg3)) := by
  refine (dats m 0 c).arrAt_eq_of_covers 4 _ (by decide +kernel) fun t _ y => ?_
  blk_simp
  rw [after0_4]; frame_out
  show Adam.d1 (iblk m c 0 t y) (iblk m c 1 t y) (iblk m c 2 t y) (iblk m c 3 t y) = _
  unfold Adam.delta
  congr 1 <;> blk_point [iblk, V, idx t]

/-- The first moment. -/
theorem final5 : (dats m 0 c).arrAt 5 cfg0.N = Adam.newM (m ((c : Thread nD τ).loc main_arg1)) (m ((c : Thread nD τ).loc main_arg2)) := by
  refine (dats m 0 c).arrAt_eq_of_covers 5 _ (by decide +kernel) fun t _ y => ?_
  blk_simp
  rw [after0_5]; frame_out
  show Adam.m1 (iblk m c 1 t y) (iblk m c 2 t y) = _
  unfold Adam.newM
  congr 1 <;> blk_point [iblk, V, idx t]

/-- The second moment. -/
theorem final6 : (dats m 0 c).arrAt 6 cfg0.N = Adam.newV (m ((c : Thread nD τ).loc main_arg1)) (m ((c : Thread nD τ).loc main_arg3)) := by
  refine (dats m 0 c).arrAt_eq_of_covers 6 _ (by decide +kernel) fun t _ y => ?_
  blk_simp
  rw [after0_6]; frame_out
  show Adam.v1 (iblk m c 1 t y) (iblk m c 3 t y) = _
  unfold Adam.newV
  congr 1 <;> blk_point [iblk, V, idx t]

/-- The gradient, handed on. -/
theorem final7 : (dats m 0 c).arrAt 7 cfg0.N = m ((c : Thread nD τ).loc main_arg1) := by
  refine (dats m 0 c).arrAt_eq_of_covers 7 _ (by decide +kernel) fun t _ y => ?_
  blk_simp
  rw [after0_7]; frame_out
  blk_point [iblk, V, idx t]

end Cert.Kernel40Ideal.Value

end
-- ==== Proof.AdamDown.lean ====
/- The optimiser's call on the down projection's weight: its four results. -/
module

public import proofs.«01_k».proof.Proof.Gen.Kernel41Ideal.Value
public import proofs.«01_k».proof.Proof.Adam

@[expose] public section

set_option maxRecDepth 16384

noncomputable section

open Idealize.ShloMosaic Idealize.ShloMosaic.TcCoe Idealize.SL.Sem
open Idealize.ShloMosaic.Pipeline (Dat)

namespace Cert.Kernel41Ideal.Value

open Cert.Kernel41Ideal Cert.Kernel41Ideal.Gen

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

/-- The weight's change. -/
theorem final4 : (dats m 0 c).arrAt 4 cfg0.N = Adam.delta (m ((c : Thread nD τ).loc main_arg0)) (m ((c : Thread nD τ).loc main_arg1))
    (m ((c : Thread nD τ).loc main_arg2)) (m ((c : Thread nD τ).loc main_arg3)) := by
  refine (dats m 0 c).arrAt_eq_of_covers 4 _ (by decide +kernel) fun t _ y => ?_
  blk_simp
  rw [after0_4]; frame_out
  show Adam.d1 (iblk m c 0 t y) (iblk m c 1 t y) (iblk m c 2 t y) (iblk m c 3 t y) = _
  unfold Adam.delta
  congr 1 <;> blk_point [iblk, V, idx t]

/-- The first moment. -/
theorem final5 : (dats m 0 c).arrAt 5 cfg0.N = Adam.newM (m ((c : Thread nD τ).loc main_arg1)) (m ((c : Thread nD τ).loc main_arg2)) := by
  refine (dats m 0 c).arrAt_eq_of_covers 5 _ (by decide +kernel) fun t _ y => ?_
  blk_simp
  rw [after0_5]; frame_out
  show Adam.m1 (iblk m c 1 t y) (iblk m c 2 t y) = _
  unfold Adam.newM
  congr 1 <;> blk_point [iblk, V, idx t]

/-- The second moment. -/
theorem final6 : (dats m 0 c).arrAt 6 cfg0.N = Adam.newV (m ((c : Thread nD τ).loc main_arg1)) (m ((c : Thread nD τ).loc main_arg3)) := by
  refine (dats m 0 c).arrAt_eq_of_covers 6 _ (by decide +kernel) fun t _ y => ?_
  blk_simp
  rw [after0_6]; frame_out
  show Adam.v1 (iblk m c 1 t y) (iblk m c 3 t y) = _
  unfold Adam.newV
  congr 1 <;> blk_point [iblk, V, idx t]

/-- The gradient, handed on. -/
theorem final7 : (dats m 0 c).arrAt 7 cfg0.N = m ((c : Thread nD τ).loc main_arg1) := by
  refine (dats m 0 c).arrAt_eq_of_covers 7 _ (by decide +kernel) fun t _ y => ?_
  blk_simp
  rw [after0_7]; frame_out
  blk_point [iblk, V, idx t]

end Cert.Kernel41Ideal.Value

end
-- ==== Proof.Rows.lean ====
/- What the normalised and gated rows are, entry by entry: the mean of a row, the two norms, the logistic gate. -/
module

public import Idealize.ShloMosaic.Lib.Pipeline.ValueKit

@[expose] public section

noncomputable section

open Idealize.ShloMosaic

namespace Rows

/-- The gated linear unit `z · 1/(1 + e^(-z))`. -/
def silu (z : EReal) : EReal := z * Ideal.div 1 (1 + Ideal.exp (-z))

/-- Sums of equal terms are equal. -/
theorem sum_eq {n : ℕ} {f g : Fin n → EReal} (h : ∀ x, f x = g x) : ∑ x, f x = ∑ x, g x := Finset.sum_congr rfl fun x _ => h x

/-- The mean of a row, its length given as the single-precision number of bits `w`. -/
def mean {n : ℕ} (w : BitVec 32) (f : Fin n → EReal) : EReal := Ideal.div (∑ x, f x) (Ideal.ofBits .f32 w)

/-- The reciprocal root of a mean square, the small constant added. -/
def rstd {n : ℕ} (w : BitVec 32) (f : Fin n → EReal) : EReal :=
  Ideal.rsqrt (mean w (fun x => f x * f x) + Ideal.ofBits .f32 0x358637BD#32)

/-- A row less its mean. -/
def centred {n : ℕ} (w : BitVec 32) (f : Fin n → EReal) (x : Fin n) : EReal := f x - mean w f

/-- A row normalised by its mean and variance. -/
def layer {n : ℕ} (w : BitVec 32) (f : Fin n → EReal) (x : Fin n) : EReal := centred w f x * rstd w (centred w f)

/-- The root-mean-square norm of a row with weight `g`, then scaled by `1 + sc` and shifted by `sh`. -/
def modulated {n : ℕ} (w : BitVec 32) (f g sc sh : Fin n → EReal) (x : Fin n) : EReal :=
  f x * rstd w f * g x * (1 + sc x) + sh x

/-- Which of the two regions a row is in: the first 4096 rows are the latent's, the rest the context's. -/
def reg (i : Fin 4352) : Fin 2 := ⟨i.val / 4096, by omega⟩

/-- A row of the latent. -/
theorem reg_lt {i : Fin 4352} (h : i.val < 4096) : reg i = 0 := Fin.ext (show i.val / 4096 = 0 by omega)

/-- A row of the context. -/
theorem reg_ge {i : Fin 4352} (h : ¬ i.val < 4096) : reg i = 1 := Fin.ext (show i.val / 4096 = 1 by omega)

end Rows

end
-- ==== Proof.AdaBwd.lean ====
/- The gradients of the adaptive layer: its weight's, and the gated condition's. -/
module

public import proofs.«01_k».proof.Proof.Gen.Kernel43Ideal.Value
public import proofs.«01_k».proof.Proof.Gen.Reference43Ideal.Run
public import Idealize.ShloMosaic.Lib.Pipeline.ValueKit
public import proofs.«01_k».proof.Proof.Rows

@[expose] public section

set_option maxRecDepth 16384

noncomputable section

open Idealize.ShloMosaic Idealize.ShloMosaic.TcCoe Idealize.SL.Sem
open Idealize.ShloMosaic.Pipeline (Dat)

namespace Cert.Kernel43Ideal.Value

open Cert.Kernel43Ideal Cert.Kernel43Ideal.Gen

variable (m : (ℓ : Loc nD τ sig) → Buf (Elt Ideal) ℓ) (c : Dev nD)

/-- The weight's gradient in each layer: the gated condition, transposed, against the rows' gradient. -/
def DW (X0 : FVec Ideal S16x2048 .f32) (X2 : FVec Ideal S2x16x3072 .f32) : FVec Ideal S2x2048x3072 .f32 := fun j =>
  ∑ x : Fin 16, Rows.silu (X0 (ix2 x (j 1))) * X2 (ix3 (j 0) x (j 2))

/-- The gated condition's gradient: the rows' gradient against the weight, both layers added. -/
def DS (X1 : FVec Ideal S2x2048x3072 .f32) (X2 : FVec Ideal S2x16x3072 .f32) : FVec Ideal S16x2048 .f32 := fun j =>
  (∑ x : Fin 3072, X2 (ix3 0 (j 0) x) * X1 (ix3 0 (j 1) x)) + ∑ x : Fin 3072, X2 (ix3 1 (j 0) x) * X1 (ix3 1 (j 1) x)

theorem idx : ∀ t : Fin cfg0.N, win0_0.index t = ![0, 0] ∧ win0_1.index t = ![t.val / 6, 0, t.val % 6] ∧ win0_2.index t = ![t.val / 6, 0, t.val % 6] ∧ win0_3.index t = ![t.val / 6, 0, t.val % 6] ∧ win0_4.index t = ![0, 0] :=
  (by decide +kernel : ∀ t : Fin grid0.N, _)

/-- An entry of a block of the weight's gradient. -/
theorem entry (a : Vec Ideal S16x2048 .f32) (d : Vec Ideal S1x16x512 .f32) (y : S1x2048x512.Idx) :
    k0_pay2 a d y = ∑ x : Fin 16, Rows.silu (a (ix2 x (y 1))) * d (ix3 0 x (y 2)) := by
  pointwise [k0_pay2, k0_pay1]
  simp only [Rows.silu, zero_sub]

/-- A block's part of the condition's gradient. -/
theorem part (d : Vec Ideal S1x16x512 .f32) (w : Vec Ideal S1x2048x512 .f32) (j : S16x2048.Idx) :
    k0_pay3 d w j = ∑ x : Fin 512, d (ix3 0 (j 0) x) * w (ix3 0 (j 1) x) := by
  pointwise [k0_pay3, k0_pay1]

/-- The same, added to what was there. -/
theorem more (d : Vec Ideal S1x16x512 .f32) (w : Vec Ideal S1x2048x512 .f32) (z : Vec Ideal S16x2048 .f32) (j : S16x2048.Idx) :
    k0_pay4 d w z j = z j + k0_pay3 d w j := by
  pointwise [k0_pay4, k0_pay3, k0_pay1]

/-- What a grid point leaves of the weight's gradient. -/
theorem left3 (t : Fin cfg0.N) (y : S1x2048x512.Idx) :
    (outsAt0 m c t.val t.isLt).1 y = ∑ x : Fin 16, Rows.silu (iblk m c 0 t (ix2 x (y 1))) * iblk m c 2 t (ix3 0 x (y 2)) := by
  have ht : t.val < 12 := t.isLt
  by_cases h : t.val = 0
  · rw [outsAt0_A m c t (by omega) (by omega)]; frame_out; exact entry _ _ y
  · rw [outsAt0_B m c t (by omega) (by omega)]; frame_out; exact entry _ _ y

/-- A grid point's part of the condition's gradient. -/
def P (m : (ℓ : Loc nD τ sig) → Buf (Elt Ideal) ℓ) (c : Dev nD) (j : S16x2048.Idx) (s : ℕ) : EReal := if h : s < cfg0.N then k0_pay3 (F := Ideal) (iblk m c 2 ⟨s, h⟩) (iblk m c 1 ⟨s, h⟩) j else 0

/-- What a grid point leaves of the condition's gradient: the parts of the points up to it, added. -/
theorem left4 (j : S16x2048.Idx) (n : ℕ) : ∀ h : n < cfg0.N, (outsAt0 m c n h).2 j = ∑ s ∈ Finset.range (n + 1), P m c j s := by
  induction n with
  | zero =>
    intro h
    rw [outsAt0_A m c ⟨0, h⟩ rfl (by dsimp only; omega)]; frame_out
    rw [Finset.sum_range_one, P, dif_pos h]
  | succ n ih =>
    intro h
    have hN : n + 1 < 12 := h
    rw [outsAt0_B m c ⟨n + 1, h⟩ (by dsimp only; omega) (by dsimp only; omega)]; frame_out
    rw [Finset.sum_range_succ, ← ih (by omega), P, dif_pos h]
    exact more _ _ _ j

/-- A sum over 3072 as six of 512. -/
theorem six (f : Fin 3072 → EReal) : ∑ i, f i = ∑ s : Fin 6, ∑ k : Fin 512, f ⟨s.val * 512 + k.val, by omega⟩ := by
  rw [← Equiv.sum_comp (finProdFinEquiv (m := 6) (n := 512)), Fintype.sum_prod_type]
  refine Finset.sum_congr rfl fun s _ => Finset.sum_congr rfl fun k _ => congrArg f (Fin.ext ?_)
  show k.val + 512 * s.val = s.val * 512 + k.val
  omega

/-- A grid point's part in the whole arrays. -/
theorem P_at (j : S16x2048.Idx) (l : Fin 2) (s : Fin 6) : P m c j (6 * l.val + s.val) = ∑ k : Fin 512, (fun a b : EReal => a * b) ((m ((c : Thread nD τ).loc main_arg2)) (ix3 l (j 0) ⟨s.val * 512 + k.val, by omega⟩)) ((m ((c : Thread nD τ).loc main_arg1)) (ix3 l (j 1) ⟨s.val * 512 + k.val, by omega⟩)) := by
  have h : 6 * l.val + s.val < cfg0.N := show _ < 12 by omega
  rw [P, dif_pos h]
  refine (part _ _ j).trans (Finset.sum_congr rfl fun k _ => ?_)
  refine congrArg₂ (fun a b : EReal => a * b) ?_ ?_ <;> blk_point [iblk, V, idx ⟨6 * l.val + s.val, h⟩]

/-- All the parts added up. -/
theorem total (j : S16x2048.Idx) : ∑ s ∈ Finset.range 12, P m c j s = DS (m ((c : Thread nD τ).loc main_arg1)) (m ((c : Thread nD τ).loc main_arg2)) j := by
  have h0 := fun s => P_at m c j 0 s
  have h1 := fun s => P_at m c j 1 s
  rw [DS, six, six]
  refine Eq.trans ?_ (congrArg₂ (fun a b : EReal => a + b) (Finset.sum_congr rfl fun s _ => h0 s) (Finset.sum_congr rfl fun s _ => h1 s))
  simp only [Finset.sum_range_succ, Finset.sum_range_zero, Fin.sum_univ_six, zero_add]
  simp only [← add_assoc]
  rfl

/-- The weight's gradient. -/
theorem final3 : (dats m 0 c).arrAt 3 cfg0.N = DW (m ((c : Thread nD τ).loc main_arg0)) (m ((c : Thread nD τ).loc main_arg2)) := by
  refine (dats m 0 c).arrAt_eq_of_covers 3 _ (by decide +kernel) fun t _ y => ?_
  have ht : t.val < 12 := t.isLt
  blk_simp
  rw [after0_3, left3, DW]
  exact Rows.sum_eq fun x => congrArg₂ (fun a b : EReal => a * b) (congrArg Rows.silu (by blk_point [iblk, V, idx t])) (by blk_point [iblk, V, idx t])

/-- The gated condition's gradient. -/
theorem final4 : (dats m 0 c).arrAt 4 cfg0.N = DS (m ((c : Thread nD τ).loc main_arg1)) (m ((c : Thread nD τ).loc main_arg2)) := by
  refine (dats m 0 c).arrAt_eq_of_covers 4 _ (by decide +kernel) fun t hf y => ?_
  have ht : t.val < 12 := t.isLt
  have h4 := (flush0_4 t).mp hf
  blk_simp
  rw [after0_4, left4, show t.val + 1 = 12 by omega, total]
  refine congrArg (DS _ _) ?_
  blk_point [idx t]

/-- The reference ends at the same function of its arguments, which it leaves unchanged. -/
theorem ref_run (m : (ℓ : Loc Cert.Reference43Ideal.nD Cert.Reference43Ideal.τ Cert.Reference43Ideal.sig) → Buf (Elt Ideal) ℓ) (ρ : Dev Cert.Reference43Ideal.nD → PrngReg) :
    θ_run Cert.Reference43Ideal.defs (onTc (τ := Cert.Reference43Ideal.τ) (Cert.Reference43Ideal.main (F := Ideal))) ⟨m, fun _ => 0, ρ⟩ fun r => ∀ c : Dev Cert.Reference43Ideal.nD,
      r.2.mem (c.tc.loc Cert.Reference43Ideal.main_v19) = DW (m (c.tc.loc Cert.Reference43Ideal.main_arg0)) (m (c.tc.loc Cert.Reference43Ideal.main_arg2))
      ∧ r.2.mem (c.tc.loc Cert.Reference43Ideal.main_v20) = DS (m (c.tc.loc Cert.Reference43Ideal.main_arg1)) (m (c.tc.loc Cert.Reference43Ideal.main_arg2))
      ∧ r.2.mem (c.tc.loc Cert.Reference43Ideal.main_arg0) = m (c.tc.loc Cert.Reference43Ideal.main_arg0)
      ∧ r.2.mem (c.tc.loc Cert.Reference43Ideal.main_arg1) = m (c.tc.loc Cert.Reference43Ideal.main_arg1)
      ∧ r.2.mem (c.tc.loc Cert.Reference43Ideal.main_arg2) = m (c.tc.loc Cert.Reference43Ideal.main_arg2) :=
  (θ_run _ _ _).mono (fun _ h c => ⟨(h c).1.trans (by
    clear h
    funext j
    have hj : (j 0).val < 2 := (j 0).isLt
    have v0 : ((0 : Fin 2)).val = 0 := rfl
    have v1 : ((1 : Fin 2)).val = 1 := rfl
    pointwise []
    split <;> rename_i hr
    · have h0 : (j 0) = (0 : Fin 2) := Fin.ext (by rw [v0]; omega)
      simp only [DW, Rows.silu, h0]
      exact Finset.sum_congr rfl fun x _ => mul_comm _ _
    · have h1 : (j 0) = (1 : Fin 2) := Fin.ext (by rw [v1]; omega)
      simp only [DW, Rows.silu, h1]
      exact Finset.sum_congr rfl fun x _ => mul_comm _ _), (h c).2.1.trans (by
    clear h
    funext j
    pointwise [DS]), (h c).2.2⟩) (Cert.Reference43Ideal.Value.run (F := Ideal) m ρ)

end Cert.Kernel43Ideal.Value

end
-- ==== Proof.SumSmall.lean ====
/- The small gradients' sum over the eight devices. -/
module

public import proofs.«01_k».proof.Proof.Gen.Kernel44Ideal.Value
public import proofs.«01_k».proof.Proof.Gen.Reference44Ideal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel44Ideal.Value

open Cert.Kernel44Ideal Cert.Kernel44Ideal.Gen

variable (m : (ℓ : Loc nD τ sig) → Buf (Elt Ideal) ℓ) (c : Dev nD)

/-- The sum over the leading axis. -/
def SPEC (X0 : FVec Ideal S8x1488x128 .f32) : FVec Ideal S1488x128 .f32 := fun j => ∑ k : Fin 8, X0 (ix3 k (j 0) (j 1))

theorem idx : ∀ t : Fin cfg0.N, win0_0.index t = ![0, t.val, 0] ∧ win0_1.index t = ![t.val, 0] :=
  (by decide +kernel : ∀ t : Fin grid0.N, _)

/-- The terms added one after another, from the first, are the sum. -/
theorem add_up (f : Fin 8 → EReal) : (((((((f 0 + f 1) + f 2) + f 3) + f 4) + f 5) + f 6) + f 7) = ∑ i, f i := by
  simp only [Fin.sum_univ_succ, Fin.sum_univ_zero, add_zero, ← add_assoc]
  rfl

/-- The whole result. -/
theorem final : (dats m 0 c).arrAt 1 cfg0.N = SPEC (m ((c : Thread nD τ).loc main_arg0)) := by
  refine (dats m 0 c).arrAt_eq_of_covers 1 _ (by decide +kernel) fun t _ y => ?_
  have ht : t.val < 93 := t.isLt
  blk_simp
  rw [after0_1]; frame_out
  pointwise [k0_pay1]
  refine (add_up fun k => iblk m c 0 t (ix3 k (y 0) (y 1))).trans (Finset.sum_congr rfl fun k _ => ?_)
  blk_point [iblk, V, idx t]

/-- The reference ends at the same function of its arguments, which it leaves unchanged. -/
theorem ref_run (m : (ℓ : Loc Cert.Reference44Ideal.nD Cert.Reference44Ideal.τ Cert.Reference44Ideal.sig) → Buf (Elt Ideal) ℓ) (ρ : Dev Cert.Reference44Ideal.nD → PrngReg) :
    θ_run Cert.Reference44Ideal.defs (onTc (τ := Cert.Reference44Ideal.τ) (Cert.Reference44Ideal.main (F := Ideal))) ⟨m, fun _ => 0, ρ⟩ fun r => ∀ c : Dev Cert.Reference44Ideal.nD,
      r.2.mem (c.tc.loc Cert.Reference44Ideal.main_v0) = SPEC (m (c.tc.loc Cert.Reference44Ideal.main_arg0))
      ∧ r.2.mem (c.tc.loc Cert.Reference44Ideal.main_arg0) = m (c.tc.loc Cert.Reference44Ideal.main_arg0) :=
  (θ_run _ _ _).mono (fun _ h c => ⟨(h c).1.trans (by
    clear h
    funext j; pointwise [SPEC]), (h c).2⟩) (Cert.Reference44Ideal.Value.run (F := Ideal) m ρ)

end Cert.Kernel44Ideal.Value

end
-- ==== Proof.SumBias.lean ====
/- The adaptive bias's gradient, the sum over the sixteen rows. -/
module

public import proofs.«01_k».proof.Proof.Gen.Kernel45Ideal.Value
public import proofs.«01_k».proof.Proof.Gen.Reference45Ideal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel45Ideal.Value

open Cert.Kernel45Ideal Cert.Kernel45Ideal.Gen

variable (m : (ℓ : Loc nD τ sig) → Buf (Elt Ideal) ℓ) (c : Dev nD)

/-- The sum over the leading axis. -/
def SPEC (X0 : FVec Ideal S16x192x128 .f32) : FVec Ideal S192x128 .f32 := fun j => ∑ k : Fin 16, X0 (ix3 k (j 0) (j 1))

theorem idx : ∀ t : Fin cfg0.N, win0_0.index t = ![0, t.val, 0] ∧ win0_1.index t = ![t.val, 0] :=
  (by decide +kernel : ∀ t : Fin grid0.N, _)

/-- The terms added one after another, from the first, are the sum. -/
theorem add_up (f : Fin 16 → EReal) : (((((((((((((((f 0 + f 1) + f 2) + f 3) + f 4) + f 5) + f 6) + f 7) + f 8) + f 9) + f 10) + f 11) + f 12) + f 13) + f 14) + f 15) = ∑ i, f i := by
  simp only [Fin.sum_univ_succ, Fin.sum_univ_zero, add_zero, ← add_assoc]
  rfl

/-- The whole result. -/
theorem final : (dats m 0 c).arrAt 1 cfg0.N = SPEC (m ((c : Thread nD τ).loc main_arg0)) := by
  refine (dats m 0 c).arrAt_eq_of_covers 1 _ (by decide +kernel) fun t _ y => ?_
  have ht : t.val < 3 := t.isLt
  blk_simp
  rw [after0_1]; frame_out
  pointwise [k0_pay1, k0_pay2]
  refine (add_up fun k => iblk m c 0 t (ix3 k (y 0) (y 1))).trans (Finset.sum_congr rfl fun k _ => ?_)
  blk_point [iblk, V, idx t]

/-- The reference ends at the same function of its arguments, which it leaves unchanged. -/
theorem ref_run (m : (ℓ : Loc Cert.Reference45Ideal.nD Cert.Reference45Ideal.τ Cert.Reference45Ideal.sig) → Buf (Elt Ideal) ℓ) (ρ : Dev Cert.Reference45Ideal.nD → PrngReg) :
    θ_run Cert.Reference45Ideal.defs (onTc (τ := Cert.Reference45Ideal.τ) (Cert.Reference45Ideal.main (F := Ideal))) ⟨m, fun _ => 0, ρ⟩ fun r => ∀ c : Dev Cert.Reference45Ideal.nD,
      r.2.mem (c.tc.loc Cert.Reference45Ideal.main_v0) = SPEC (m (c.tc.loc Cert.Reference45Ideal.main_arg0))
      ∧ r.2.mem (c.tc.loc Cert.Reference45Ideal.main_arg0) = m (c.tc.loc Cert.Reference45Ideal.main_arg0) :=
  (θ_run _ _ _).mono (fun _ h c => ⟨(h c).1.trans (by
    clear h
    funext j; pointwise [SPEC]), (h c).2⟩) (Cert.Reference45Ideal.Value.run (F := Ideal) m ρ)

end Cert.Kernel45Ideal.Value

end
-- ==== Proof.CctxGrad.lean ====
/- The gradient of the context's conditioning vector: the four parts' sum times the slope of the gated linear unit. -/
module

public import proofs.«01_k».proof.Proof.Gen.Kernel46Ideal.Value
public import proofs.«01_k».proof.Proof.Gen.Reference46Ideal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel46Ideal.Value

open Cert.Kernel46Ideal Cert.Kernel46Ideal.Gen

variable (m : (ℓ : Loc nD τ sig) → Buf (Elt Ideal) ℓ) (c : Dev nD)

/-- The logistic function. -/
def gate (z : EReal) : EReal := Ideal.div 1 (1 + Ideal.exp (-z))

/-- The slope of `z · gate z` by the product rule. -/
def slope (z : EReal) : EReal := gate z + z * (gate z * (1 - gate z))

/-- The logistic function of a real number is a real number. -/
theorem gate_coe (r : ℝ) : gate r = ((1 / (1 + Real.exp (-r)) : ℝ) : EReal) := by
  have h : (1 + Real.exp (-r)) ≠ 0 := by positivity
  have e : (1 : EReal) + Ideal.exp (-(r : EReal)) = ((1 + Real.exp (-r) : ℝ) : EReal) := by
    rw [← EReal.coe_neg, Ideal.exp_coe, EReal.coe_add, EReal.coe_one]
  rw [gate, e, Ideal.div_coe h, one_mul]

/-- The slope with the logistic factor taken out, at the infinities too. -/
theorem slope_eq (z : EReal) : gate z * (1 + z * (1 - gate z)) = slope z := by
  rw [slope]
  induction z with
  | bot =>
    have x : Ideal.exp ⊤ = ⊤ := rfl
    have y : (1 : EReal) + ⊤ = ⊤ := EReal.coe_add_top 1
    have e : gate ⊥ = 0 := by simp [gate, x, y, Ideal.div]
    simp [e]
  | top =>
    have x : Ideal.exp ⊥ = 0 := rfl
    have e : gate ⊤ = 1 := by simp [gate, x, Ideal.div]
    have d : (1 : EReal) - 1 = 0 := by rw [← EReal.coe_one, ← EReal.coe_sub, sub_self, EReal.coe_zero]
    simp [e, d]
  | coe r =>
    rw [gate_coe]
    generalize (1 / (1 + Real.exp (-r)) : ℝ) = s
    rw [← EReal.coe_one]
    simp only [← EReal.coe_sub, ← EReal.coe_mul, ← EReal.coe_add]
    exact congrArg _ (by ring)

theorem idx : ∀ t : Fin cfg0.N, win0_0.index t = ![0, 0, 0] ∧ win0_1.index t = ![0, 0] ∧ win0_2.index t = ![0, 0] :=
  (by decide +kernel : ∀ t : Fin grid0.N, _)

/-- The sum of the parts times the slope. -/
def SPEC (X0 : FVec Ideal S4x1x2048 .f32) (X1 : FVec Ideal S1x2048 .f32) : FVec Ideal S1x2048 .f32 := fun j =>
  (∑ k : Fin 4, X0 (ix3 k 0 (j 1))) * slope (X1 j)

/-- The whole result. -/
theorem final : (dats m 0 c).arrAt 2 cfg0.N = SPEC (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1]
  rw [SPEC, ← slope_eq, Fin.sum_univ_four]
  simp only [gate, zero_sub]
  blk_point [iblk, V, idx t]

/-- The reference ends at the same function of its arguments, which it leaves unchanged. -/
theorem ref_run (m : (ℓ : Loc Cert.Reference46Ideal.nD Cert.Reference46Ideal.τ Cert.Reference46Ideal.sig) → Buf (Elt Ideal) ℓ) (ρ : Dev Cert.Reference46Ideal.nD → PrngReg) :
    θ_run Cert.Reference46Ideal.defs (onTc (τ := Cert.Reference46Ideal.τ) (Cert.Reference46Ideal.main (F := Ideal))) ⟨m, fun _ => 0, ρ⟩ fun r => ∀ c : Dev Cert.Reference46Ideal.nD,
      r.2.mem (c.tc.loc Cert.Reference46Ideal.main_v4) = SPEC (m (c.tc.loc Cert.Reference46Ideal.main_arg0)) (m (c.tc.loc Cert.Reference46Ideal.main_arg1))
      ∧ r.2.mem (c.tc.loc Cert.Reference46Ideal.main_arg0) = m (c.tc.loc Cert.Reference46Ideal.main_arg0)
      ∧ r.2.mem (c.tc.loc Cert.Reference46Ideal.main_arg1) = m (c.tc.loc Cert.Reference46Ideal.main_arg1) :=
  (θ_run _ _ _).mono (fun _ h c => ⟨(h c).1.trans (by
    clear h
    funext j
    pointwise [SPEC, slope, gate]), (h c).2⟩) (Cert.Reference46Ideal.Value.run (F := Ideal) m ρ)

end Cert.Kernel46Ideal.Value

end
-- ==== Proof.NormFwd.lean ====
/- The modulated root-mean-square norm of the forward pass. -/
module

public import proofs.«01_k».proof.Proof.Gen.Kernel47Ideal.Value
public import proofs.«01_k».proof.Proof.Gen.Reference47Ideal.Run
public import Idealize.ShloMosaic.Lib.Pipeline.ValueKit
public import proofs.«01_k».proof.Proof.Rows

@[expose] public section

set_option maxRecDepth 16384

noncomputable section

open Idealize.ShloMosaic Idealize.ShloMosaic.TcCoe Idealize.SL.Sem
open Idealize.ShloMosaic.Pipeline (Dat)

namespace Cert.Kernel47Ideal.Value

open Cert.Kernel47Ideal Cert.Kernel47Ideal.Gen

variable (m : (ℓ : Loc nD τ sig) → Buf (Elt Ideal) ℓ) (c : Dev nD)

/-- Each row normalised with the weight of the norm, then scaled and shifted by its region's rows. -/
def SPEC (X0 : FVec Ideal S4352x2048 .f32) (X1 : FVec Ideal S1x2048 .f32) (X2 X3 : FVec Ideal S2x1x2048 .f32) : FVec Ideal S4352x2048 .bf16 := fun j =>
  Rows.modulated 0x45000000#32 (fun x => X0 (ix2 (j 0) x)) (fun x => X1 (ix2 0 x)) (fun x => X2 (ix3 (Rows.reg (j 0)) 0 x)) (fun x => X3 (ix3 (Rows.reg (j 0)) 0 x)) (j 1)

theorem idx : ∀ t : Fin cfg0.N, win0_0.index t = ![t.val, 0] ∧ win0_1.index t = ![0, 0] ∧ win0_2.index t = ![t.val / 16, 0, 0] ∧ win0_3.index t = ![t.val / 16, 0, 0] ∧ win0_4.index t = ![t.val, 0] :=
  (by decide +kernel : ∀ t : Fin grid0.N, _)

/-- An entry of a block from the row it is in. -/
theorem entry (a : Vec Ideal S256x2048 .f32) (g : Vec Ideal S1x2048 .f32) (sc sh : Vec Ideal S1x1x2048 .f32) (y : S256x2048.Idx) :
    k0_pay1 a g sc sh y = Rows.modulated 0x45000000#32 (fun x => a (ix2 (y 0) x)) (fun x => g (ix2 0 x)) (fun x => sc (ix3 0 0 x)) (fun x => sh (ix3 0 0 x)) (y 1) := by
  pointwise [k0_pay1]
  simp only [Rows.modulated, Rows.silu, Rows.layer, Rows.centred, Rows.rstd, Rows.mean]
  blk_point []

/-- The whole result. -/
theorem final : (dats m 0 c).arrAt 4 cfg0.N = SPEC (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  have ht : t.val < 17 := t.isLt
  blk_simp
  rw [after0_4]; frame_out
  rw [entry, SPEC]
  congr 1 <;> (try funext x) <;> first | refine Fin.ext ?_; blk_point [iblk, V, idx t, Rows.reg]; done | blk_point [iblk, V, idx t, Rows.reg]

/-- The reference ends at the same function of its arguments, which it leaves unchanged. -/
theorem ref_run (m : (ℓ : Loc Cert.Reference47Ideal.nD Cert.Reference47Ideal.τ Cert.Reference47Ideal.sig) → Buf (Elt Ideal) ℓ) (ρ : Dev Cert.Reference47Ideal.nD → PrngReg) :
    θ_run Cert.Reference47Ideal.defs (onTc (τ := Cert.Reference47Ideal.τ) (Cert.Reference47Ideal.main (F := Ideal))) ⟨m, fun _ => 0, ρ⟩ fun r => ∀ c : Dev Cert.Reference47Ideal.nD,
      r.2.mem (c.tc.loc Cert.Reference47Ideal.main_v47) = SPEC (m (c.tc.loc Cert.Reference47Ideal.main_arg0)) (m (c.tc.loc Cert.Reference47Ideal.main_arg1)) (m (c.tc.loc Cert.Reference47Ideal.main_arg2)) (m (c.tc.loc Cert.Reference47Ideal.main_arg3))
      ∧ r.2.mem (c.tc.loc Cert.Reference47Ideal.main_arg0) = m (c.tc.loc Cert.Reference47Ideal.main_arg0)
      ∧ r.2.mem (c.tc.loc Cert.Reference47Ideal.main_arg1) = m (c.tc.loc Cert.Reference47Ideal.main_arg1)
      ∧ r.2.mem (c.tc.loc Cert.Reference47Ideal.main_arg2) = m (c.tc.loc Cert.Reference47Ideal.main_arg2)
      ∧ r.2.mem (c.tc.loc Cert.Reference47Ideal.main_arg3) = m (c.tc.loc Cert.Reference47Ideal.main_arg3) :=
  (θ_run _ _ _).mono (fun _ h c => ⟨(h c).1.trans (by
    clear h
    funext j
    have hj : (j 0).val < 4352 := (j 0).isLt
    pointwise []
    split <;> rename_i hr
    · rw [SPEC, show Rows.reg (j 0) = 0 from Rows.reg_lt hr]; simp only [Rows.modulated, Rows.silu, Rows.layer, Rows.centred, Rows.rstd, Rows.mean]; blk_point []
    · rw [SPEC, show Rows.reg (j 0) = 1 from Rows.reg_ge hr]; simp only [Rows.modulated, Rows.silu, Rows.layer, Rows.centred, Rows.rstd, Rows.mean]; blk_point []), (h c).2⟩) (Cert.Reference47Ideal.Value.run (F := Ideal) m ρ)

end Cert.Kernel47Ideal.Value

end
-- ==== Proof.ResidFwd.lean ====
/- The residual sum and the modulated norm of it in the forward pass. -/
module

public import proofs.«01_k».proof.Proof.Gen.Kernel48Ideal.Value
public import proofs.«01_k».proof.Proof.Gen.Reference48Ideal.Run
public import Idealize.ShloMosaic.Lib.Pipeline.ValueKit
public import proofs.«01_k».proof.Proof.Rows

@[expose] public section

set_option maxRecDepth 16384

noncomputable section

open Idealize.ShloMosaic Idealize.ShloMosaic.TcCoe Idealize.SL.Sem
open Idealize.ShloMosaic.Pipeline (Dat)

namespace Cert.Kernel48Ideal.Value

open Cert.Kernel48Ideal Cert.Kernel48Ideal.Gen

variable (m : (ℓ : Loc nD τ sig) → Buf (Elt Ideal) ℓ) (c : Dev nD)

/-- The stream plus the gated output of the block before. -/
def SUM (X0 X1 : FVec Ideal S4352x2048 .f32) (X2 : FVec Ideal S2x1x2048 .f32) : FVec Ideal S4352x2048 .f32 := fun j =>
  X0 (ix2 (j 0) (j 1)) + X2 (ix3 (Rows.reg (j 0)) 0 (j 1)) * X1 (ix2 (j 0) (j 1))

/-- Each row of the sum normalised with the weight of the norm, then scaled and shifted by its region's rows. -/
def SPEC (X0 X1 : FVec Ideal S4352x2048 .f32) (X2 : FVec Ideal S2x1x2048 .f32) (X3 : FVec Ideal S1x2048 .f32) (X4 X5 : FVec Ideal S2x1x2048 .f32) : FVec Ideal S4352x2048 .bf16 := fun j =>
  Rows.modulated 0x45000000#32 (fun x => SUM X0 X1 X2 (ix2 (j 0) x)) (fun x => X3 (ix2 0 x)) (fun x => X4 (ix3 (Rows.reg (j 0)) 0 x)) (fun x => X5 (ix3 (Rows.reg (j 0)) 0 x)) (j 1)

theorem idx : ∀ t : Fin cfg0.N, win0_0.index t = ![t.val, 0] ∧ win0_1.index t = ![t.val, 0] ∧ win0_2.index t = ![t.val / 16, 0, 0] ∧ win0_3.index t = ![0, 0] ∧ win0_4.index t = ![t.val / 16, 0, 0] ∧ win0_5.index t = ![t.val / 16, 0, 0] ∧ win0_6.index t = ![t.val, 0] ∧ win0_7.index t = ![t.val, 0] :=
  (by decide +kernel : ∀ t : Fin grid0.N, _)

/-- An entry of a block from the row it is in. -/
theorem entry (a : Vec Ideal S256x2048 .f32) (p : Vec Ideal S1x1x2048 .f32) (b : Vec Ideal S256x2048 .f32) (g : Vec Ideal S1x2048 .f32) (sc sh : Vec Ideal S1x1x2048 .f32) (y : S256x2048.Idx) :
    k0_pay2 a p b g sc sh y = Rows.modulated 0x45000000#32 (fun x => a (ix2 (y 0) x) + p (ix3 0 0 x) * b (ix2 (y 0) x)) (fun x => g (ix2 0 x)) (fun x => sc (ix3 0 0 x)) (fun x => sh (ix3 0 0 x)) (y 1) := by
  pointwise [k0_pay2, k0_pay1]
  simp only [Rows.modulated, Rows.silu, Rows.layer, Rows.centred, Rows.rstd, Rows.mean]
  blk_point []

/-- The sum. -/
theorem final6 : (dats m 0 c).arrAt 6 cfg0.N = SUM (m ((c : Thread nD τ).loc main_arg0)) (m ((c : Thread nD τ).loc main_arg1)) (m ((c : Thread nD τ).loc main_arg2)) := by
  refine (dats m 0 c).arrAt_eq_of_covers 6 _ (by decide +kernel) fun t _ y => ?_
  have ht : t.val < 17 := t.isLt
  blk_simp
  rw [after0_6]; frame_out
  pointwise [k0_pay1, SUM]
  blk_point [iblk, V, idx t, Rows.reg]

/-- The norm of it. -/
theorem final7 : (dats m 0 c).arrAt 7 cfg0.N = SPEC (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t _ y => ?_
  have ht : t.val < 17 := t.isLt
  blk_simp
  rw [after0_7]; frame_out
  rw [entry, SPEC]
  congr 1 <;> (try funext x) <;> first | refine Fin.ext ?_; blk_point [iblk, V, idx t, Rows.reg]; done | blk_point [iblk, V, idx t, Rows.reg, SUM]

/-- The reference ends at the same function of its arguments, which it leaves unchanged. -/
theorem ref_run (m : (ℓ : Loc Cert.Reference48Ideal.nD Cert.Reference48Ideal.τ Cert.Reference48Ideal.sig) → Buf (Elt Ideal) ℓ) (ρ : Dev Cert.Reference48Ideal.nD → PrngReg) :
    θ_run Cert.Reference48Ideal.defs (onTc (τ := Cert.Reference48Ideal.τ) (Cert.Reference48Ideal.main (F := Ideal))) ⟨m, fun _ => 0, ρ⟩ fun r => ∀ c : Dev Cert.Reference48Ideal.nD,
      r.2.mem (c.tc.loc Cert.Reference48Ideal.main_v14) = SUM (m (c.tc.loc Cert.Reference48Ideal.main_arg0)) (m (c.tc.loc Cert.Reference48Ideal.main_arg1)) (m (c.tc.loc Cert.Reference48Ideal.main_arg2))
      ∧ r.2.mem (c.tc.loc Cert.Reference48Ideal.main_v62) = SPEC (m (c.tc.loc Cert.Reference48Ideal.main_arg0)) (m (c.tc.loc Cert.Reference48Ideal.main_arg1)) (m (c.tc.loc Cert.Reference48Ideal.main_arg2)) (m (c.tc.loc Cert.Reference48Ideal.main_arg3)) (m (c.tc.loc Cert.Reference48Ideal.main_arg4)) (m (c.tc.loc Cert.Reference48Ideal.main_arg5))
      ∧ r.2.mem (c.tc.loc Cert.Reference48Ideal.main_arg0) = m (c.tc.loc Cert.Reference48Ideal.main_arg0)
      ∧ r.2.mem (c.tc.loc Cert.Reference48Ideal.main_arg1) = m (c.tc.loc Cert.Reference48Ideal.main_arg1)
      ∧ r.2.mem (c.tc.loc Cert.Reference48Ideal.main_arg2) = m (c.tc.loc Cert.Reference48Ideal.main_arg2)
      ∧ r.2.mem (c.tc.loc Cert.Reference48Ideal.main_arg3) = m (c.tc.loc Cert.Reference48Ideal.main_arg3)
      ∧ r.2.mem (c.tc.loc Cert.Reference48Ideal.main_arg4) = m (c.tc.loc Cert.Reference48Ideal.main_arg4)
      ∧ r.2.mem (c.tc.loc Cert.Reference48Ideal.main_arg5) = m (c.tc.loc Cert.Reference48Ideal.main_arg5) :=
  (θ_run _ _ _).mono (fun _ h c => have e : _ = SUM (m (c.tc.loc Cert.Reference48Ideal.main_arg0)) (m (c.tc.loc Cert.Reference48Ideal.main_arg1)) (m (c.tc.loc Cert.Reference48Ideal.main_arg2)) := (h c).1.trans (by
    funext j
    have hj : (j 0).val < 4352 := (j 0).isLt
    pointwise []
    split <;> rename_i hr
    · rw [SUM, show Rows.reg (j 0) = 0 from Rows.reg_lt hr]; blk_point []
    · rw [SUM, show Rows.reg (j 0) = 1 from Rows.reg_ge hr]; blk_point [])
    ⟨e, (h c).2.1.trans (by
    unfold Cert.Reference48Ideal.Value.res_main_v62
    rw [← (h c).1, e]
    clear h e
    funext j
    have hj : (j 0).val < 4352 := (j 0).isLt
    unfold SPEC Rows.modulated Rows.rstd Rows.mean
    beta_reduce
    generalize SUM _ _ _ = Z
    pointwise []
    split <;> rename_i hr
    · rw [show Rows.reg (j 0) = 0 from Rows.reg_lt hr]
    · rw [show Rows.reg (j 0) = 1 from Rows.reg_ge hr]; blk_point []), (h c).2.2⟩) (Cert.Reference48Ideal.Value.run (F := Ideal) m ρ)

end Cert.Kernel48Ideal.Value

end
-- ==== Proof.AdaFwd.lean ====
/- The adaptive rows of the forward pass: `silu(cond) · w + b` in each layer. -/
module

public import proofs.«01_k».proof.Proof.Gen.Kernel49Ideal.Value
public import proofs.«01_k».proof.Proof.Gen.Reference49Ideal.Run
public import Idealize.ShloMosaic.Lib.Pipeline.ValueKit
public import proofs.«01_k».proof.Proof.Rows

@[expose] public section

set_option maxRecDepth 16384

noncomputable section

open Idealize.ShloMosaic Idealize.ShloMosaic.TcCoe Idealize.SL.Sem
open Idealize.ShloMosaic.Pipeline (Dat)

namespace Cert.Kernel49Ideal.Value

open Cert.Kernel49Ideal Cert.Kernel49Ideal.Gen

variable (m : (ℓ : Loc nD τ sig) → Buf (Elt Ideal) ℓ) (c : Dev nD)

/-- The gated condition against each layer's weight, plus its bias. -/
def SPEC (X0 : FVec Ideal S16x2048 .f32) (X1 : FVec Ideal S2x2048x3072 .f32) (X2 : FVec Ideal S2x1x3072 .f32) : FVec Ideal S2x16x3072 .f32 := fun j =>
  (∑ x : Fin 2048, Rows.silu (X0 (ix2 (j 1) x)) * X1 (ix3 (j 0) x (j 2))) + X2 (ix3 (j 0) 0 (j 2))

theorem idx : ∀ t : Fin cfg0.N, win0_0.index t = ![0, 0] ∧ win0_1.index t = ![t.val / 6, 0, t.val % 6] ∧ win0_2.index t = ![t.val / 6, 0, t.val % 6] ∧ win0_3.index t = ![t.val / 6, 0, t.val % 6] :=
  (by decide +kernel : ∀ t : Fin grid0.N, _)

/-- An entry of a block. -/
theorem entry (a : Vec Ideal S16x2048 .f32) (w : Vec Ideal S1x2048x512 .f32) (b : Vec Ideal S1x1x512 .f32) (y : S1x16x512.Idx) :
    k0_pay1 a w b y = (∑ x : Fin 2048, Rows.silu (a (ix2 (y 1) x)) * w (ix3 0 x (y 2))) + b (ix3 0 0 (y 2)) := by
  pointwise [k0_pay1]
  simp only [Rows.silu, zero_sub]

/-- The whole result. -/
theorem final : (dats m 0 c).arrAt 3 cfg0.N = SPEC (m ((c : Thread nD τ).loc main_arg0)) (m ((c : Thread nD τ).loc main_arg1)) (m ((c : Thread nD τ).loc main_arg2)) := by
  refine (dats m 0 c).arrAt_eq_of_covers 3 _ (by decide +kernel) fun t _ y => ?_
  have ht : t.val < 12 := t.isLt
  blk_simp
  rw [after0_3]; frame_out
  rw [entry, SPEC]
  refine congrArg₂ (fun a b : EReal => a + b) (Finset.sum_congr rfl fun x _ => congrArg₂ (fun a b : EReal => a * b) (congrArg Rows.silu ?_) ?_) ?_ <;>
    blk_point [iblk, V, idx t]

/-- The reference ends at the same function of its arguments, which it leaves unchanged. -/
theorem ref_run (m : (ℓ : Loc Cert.Reference49Ideal.nD Cert.Reference49Ideal.τ Cert.Reference49Ideal.sig) → Buf (Elt Ideal) ℓ) (ρ : Dev Cert.Reference49Ideal.nD → PrngReg) :
    θ_run Cert.Reference49Ideal.defs (onTc (τ := Cert.Reference49Ideal.τ) (Cert.Reference49Ideal.main (F := Ideal))) ⟨m, fun _ => 0, ρ⟩ fun r => ∀ c : Dev Cert.Reference49Ideal.nD,
      r.2.mem (c.tc.loc Cert.Reference49Ideal.main_v18) = SPEC (m (c.tc.loc Cert.Reference49Ideal.main_arg0)) (m (c.tc.loc Cert.Reference49Ideal.main_arg1)) (m (c.tc.loc Cert.Reference49Ideal.main_arg2))
      ∧ r.2.mem (c.tc.loc Cert.Reference49Ideal.main_arg0) = m (c.tc.loc Cert.Reference49Ideal.main_arg0)
      ∧ r.2.mem (c.tc.loc Cert.Reference49Ideal.main_arg1) = m (c.tc.loc Cert.Reference49Ideal.main_arg1)
      ∧ r.2.mem (c.tc.loc Cert.Reference49Ideal.main_arg2) = m (c.tc.loc Cert.Reference49Ideal.main_arg2) :=
  (θ_run _ _ _).mono (fun _ h c => ⟨(h c).1.trans (by
    clear h
    funext j
    have hj : (j 0).val < 2 := (j 0).isLt
    have v0 : ((0 : Fin 2)).val = 0 := rfl
    have v1 : ((1 : Fin 2)).val = 1 := rfl
    pointwise []
    split <;> rename_i hr
    · have h0 : (j 0) = (0 : Fin 2) := Fin.ext (by rw [v0]; omega)
      simp only [SPEC, Rows.silu, h0]
    · have h1 : (j 0) = (1 : Fin 2) := Fin.ext (by rw [v1]; omega)
      simp only [SPEC, Rows.silu, h1]), (h c).2⟩) (Cert.Reference49Ideal.Value.run (F := Ideal) m ρ)

end Cert.Kernel49Ideal.Value

end
-- ==== Proof.LnFwd.lean ====
/- The layer norm and gate of the forward pass. -/
module

public import proofs.«01_k».proof.Proof.Gen.Kernel50Ideal.Value
public import proofs.«01_k».proof.Proof.Gen.Reference50Ideal.Run
public import Idealize.ShloMosaic.Lib.Pipeline.ValueKit
public import proofs.«01_k».proof.Proof.Rows

@[expose] public section

set_option maxRecDepth 16384

noncomputable section

open Idealize.ShloMosaic Idealize.ShloMosaic.TcCoe Idealize.SL.Sem
open Idealize.ShloMosaic.Pipeline (Dat)

namespace Cert.Kernel50Ideal.Value

open Cert.Kernel50Ideal Cert.Kernel50Ideal.Gen

variable (m : (ℓ : Loc nD τ sig) → Buf (Elt Ideal) ℓ) (c : Dev nD)

/-- Each row normalised by its mean and variance, scaled, shifted and gated. -/
def SPEC (X0 : FVec Ideal S4352x512 .f32) (X1 X2 : FVec Ideal S1x512 .f32) : FVec Ideal S4352x512 .bf16 := fun j =>
  Rows.silu (Rows.layer 0x44000000#32 (fun x => X0 (ix2 (j 0) x)) (j 1) * X1 (ix2 0 (j 1)) + X2 (ix2 0 (j 1)))

theorem idx : ∀ t : Fin cfg0.N, win0_0.index t = ![t.val, 0] ∧ win0_1.index t = ![0, 0] ∧ win0_2.index t = ![0, 0] ∧ win0_3.index t = ![t.val, 0] :=
  (by decide +kernel : ∀ t : Fin grid0.N, _)

/-- An entry of a block from the row it is in. -/
theorem entry (a : Vec Ideal S256x512 .f32) (g b : Vec Ideal S1x512 .f32) (y : S256x512.Idx) :
    k0_pay1 a g b y = Rows.silu (Rows.layer 0x44000000#32 (fun x => a (ix2 (y 0) x)) (y 1) * g (ix2 0 (y 1)) + b (ix2 0 (y 1))) := by
  pointwise [k0_pay1]
  simp only [Rows.modulated, Rows.silu, Rows.layer, Rows.centred, Rows.rstd, Rows.mean, zero_sub]
  blk_point []

/-- The whole result. -/
theorem final : (dats m 0 c).arrAt 3 cfg0.N = SPEC (m ((c : Thread nD τ).loc main_arg0)) (m ((c : Thread nD τ).loc main_arg1)) (m ((c : Thread nD τ).loc main_arg2)) := by
  refine (dats m 0 c).arrAt_eq_of_covers 3 _ (by decide +kernel) fun t _ y => ?_
  have ht : t.val < 17 := t.isLt
  blk_simp
  rw [after0_3]; frame_out
  rw [entry, SPEC]
  refine congrArg Rows.silu (congrArg₂ (fun a b : EReal => a + b) (congrArg₂ (fun a b : EReal => a * b) ?_ ?_) ?_)
  · congr 1 <;> (try funext x) <;> first | refine Fin.ext ?_; blk_point [iblk, V, idx t, Rows.reg]; done | blk_point [iblk, V, idx t]
  all_goals blk_point [iblk, V, idx t]

/-- The reference ends at the same function of its arguments, which it leaves unchanged. -/
theorem ref_run (m : (ℓ : Loc Cert.Reference50Ideal.nD Cert.Reference50Ideal.τ Cert.Reference50Ideal.sig) → Buf (Elt Ideal) ℓ) (ρ : Dev Cert.Reference50Ideal.nD → PrngReg) :
    θ_run Cert.Reference50Ideal.defs (onTc (τ := Cert.Reference50Ideal.τ) (Cert.Reference50Ideal.main (F := Ideal))) ⟨m, fun _ => 0, ρ⟩ fun r => ∀ c : Dev Cert.Reference50Ideal.nD,
      r.2.mem (c.tc.loc Cert.Reference50Ideal.main_v23) = SPEC (m (c.tc.loc Cert.Reference50Ideal.main_arg0)) (m (c.tc.loc Cert.Reference50Ideal.main_arg1)) (m (c.tc.loc Cert.Reference50Ideal.main_arg2))
      ∧ r.2.mem (c.tc.loc Cert.Reference50Ideal.main_arg0) = m (c.tc.loc Cert.Reference50Ideal.main_arg0)
      ∧ r.2.mem (c.tc.loc Cert.Reference50Ideal.main_arg1) = m (c.tc.loc Cert.Reference50Ideal.main_arg1)
      ∧ r.2.mem (c.tc.loc Cert.Reference50Ideal.main_arg2) = m (c.tc.loc Cert.Reference50Ideal.main_arg2) :=
  (θ_run _ _ _).mono (fun _ h c => ⟨(h c).1.trans (by
    clear h
    funext j
    pointwise []
    simp only [SPEC, Rows.modulated, Rows.silu, Rows.layer, Rows.centred, Rows.rstd, Rows.mean]
    blk_point []), (h c).2⟩) (Cert.Reference50Ideal.Value.run (F := Ideal) m ρ)

end Cert.Kernel50Ideal.Value

end
-- ==== Proof.GgnFwd.lean ====
/- The grouped norm of the retention and its gate in the forward pass. -/
module

public import proofs.«01_k».proof.Proof.Gen.Kernel51Ideal.Value
public import proofs.«01_k».proof.Proof.Gen.Reference51Ideal.Run
public import Idealize.ShloMosaic.Lib.Pipeline.ValueKit
public import proofs.«01_k».proof.Proof.Rows

@[expose] public section

set_option maxRecDepth 16384

noncomputable section

open Idealize.ShloMosaic Idealize.ShloMosaic.TcCoe Idealize.SL.Sem
open Idealize.ShloMosaic.Pipeline (Dat)

namespace Cert.Kernel51Ideal.Value

open Cert.Kernel51Ideal Cert.Kernel51Ideal.Gen

variable (m : (ℓ : Loc nD τ sig) → Buf (Elt Ideal) ℓ) (c : Dev nD)

/-- Each head's part of a row normalised by its mean and variance, scaled, and multiplied by the gate. -/
def SPEC (X0 X1 : FVec Ideal S4352x1024 .f32) (X2 : FVec Ideal S4352x5632 .f32) (X3 : FVec Ideal S1x1024 .f32) : FVec Ideal S4352x1024 .bf16 := fun j =>
  Rows.layer 0x43800000#32 (fun x : Fin 256 => X0 (ix2 (j 0) ⟨(j 1).val / 256 * 256 + x.val, by have := (j 1).isLt; have := x.isLt; dsimp [S4352x1024] at *; omega⟩) + X1 (ix2 (j 0) ⟨(j 1).val / 256 * 256 + x.val, by have := (j 1).isLt; have := x.isLt; dsimp [S4352x1024] at *; omega⟩))
      ⟨(j 1).val % 256, Nat.mod_lt _ (by decide)⟩ * X3 (ix2 0 (j 1))
    * Rows.silu (X2 (ix2 (j 0) ⟨2048 + (j 1).val, by have := (j 1).isLt; dsimp [S4352x1024] at *; omega⟩))

theorem idx : ∀ t : Fin cfg0.N, win0_0.index t = ![t.val / 4, t.val % 4] ∧ win0_1.index t = ![t.val / 4, t.val % 4] ∧ win0_2.index t = ![t.val / 4, 8 + t.val % 4] ∧ win0_3.index t = ![0, t.val % 4] ∧ win0_4.index t = ![t.val / 4, t.val % 4] :=
  (by decide +kernel : ∀ t : Fin grid0.N, _)

/-- An entry of a block from the part of the row it is in. -/
theorem entry (a b p : Vec Ideal S1088x256 .f32) (g : Vec Ideal S1x256 .f32) (y : S1088x256.Idx) :
    k0_pay1 a b g p y = Rows.layer 0x43800000#32 (fun x => a (ix2 (y 0) x) + b (ix2 (y 0) x)) (y 1) * g (ix2 0 (y 1)) * Rows.silu (p (ix2 (y 0) (y 1))) := by
  pointwise [k0_pay1]
  simp only [Rows.modulated, Rows.silu, Rows.layer, Rows.centred, Rows.rstd, Rows.mean, zero_sub]
  blk_point []

/-- The whole result. -/
theorem final : (dats m 0 c).arrAt 4 cfg0.N = SPEC (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  have ht : t.val < 16 := t.isLt
  blk_simp
  rw [after0_4]; frame_out
  rw [entry, SPEC]
  refine congrArg₂ (fun a b : EReal => a * b) (congrArg₂ (fun a b : EReal => a * b) ?_ ?_) (congrArg Rows.silu ?_)
  · have e : (((View.whole main_v0).slice (win0_4.rect t)).emb y 1).val = t.val % 4 * 256 + (y 1).val := by blk_point [iblk, V, idx t]
    congr 1 <;> (try funext x) <;> first | refine Fin.ext ?_; dsimp only; have := (y 1).isLt; dsimp [S1088x256] at this; omega; done | refine Fin.ext ?_; blk_point [iblk, V, idx t, Rows.reg]; done | blk_point [iblk, V, idx t]
  all_goals blk_point [iblk, V, idx t]

/-- The reference ends at the same function of its arguments, which it leaves unchanged. -/
theorem ref_run (m : (ℓ : Loc Cert.Reference51Ideal.nD Cert.Reference51Ideal.τ Cert.Reference51Ideal.sig) → Buf (Elt Ideal) ℓ) (ρ : Dev Cert.Reference51Ideal.nD → PrngReg) :
    θ_run Cert.Reference51Ideal.defs (onTc (τ := Cert.Reference51Ideal.τ) (Cert.Reference51Ideal.main (F := Ideal))) ⟨m, fun _ => 0, ρ⟩ fun r => ∀ c : Dev Cert.Reference51Ideal.nD,
      r.2.mem (c.tc.loc Cert.Reference51Ideal.main_v26) = SPEC (m (c.tc.loc Cert.Reference51Ideal.main_arg0)) (m (c.tc.loc Cert.Reference51Ideal.main_arg1)) (m (c.tc.loc Cert.Reference51Ideal.main_arg2)) (m (c.tc.loc Cert.Reference51Ideal.main_arg3))
      ∧ r.2.mem (c.tc.loc Cert.Reference51Ideal.main_arg0) = m (c.tc.loc Cert.Reference51Ideal.main_arg0)
      ∧ r.2.mem (c.tc.loc Cert.Reference51Ideal.main_arg1) = m (c.tc.loc Cert.Reference51Ideal.main_arg1)
      ∧ r.2.mem (c.tc.loc Cert.Reference51Ideal.main_arg2) = m (c.tc.loc Cert.Reference51Ideal.main_arg2)
      ∧ r.2.mem (c.tc.loc Cert.Reference51Ideal.main_arg3) = m (c.tc.loc Cert.Reference51Ideal.main_arg3) :=
  (θ_run _ _ _).mono (fun _ h c => ⟨(h c).1.trans (by
    clear h
    funext j
    pointwise []
    simp only [SPEC, Rows.modulated, Rows.silu, Rows.layer, Rows.centred, Rows.rstd, Rows.mean]
    blk_point []), (h c).2⟩) (Cert.Reference51Ideal.Value.run (F := Ideal) m ρ)

end Cert.Kernel51Ideal.Value

end
-- ==== Proof.BwdRuns.lean ====
/- What the retention backward kernel's body is run from: the branch conditions at a grid point, the staging memrefs and
   the input blocks the body reads there, and the cells its stores cover. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5 is of the clipped KIND (its block does not tile its array `S4352x5632`), but no block the grid
    reaches is cut, so no part of its staging buffer is left unfilled by a fetch. A default for such a part, which
    nothing reads. -/
def dflt0_5 : (cfg0.win 5).block.Idx → Elt F (cfg0.win 5).elt := fun _ => Classical.choice inferInstance
/-- What input window 5's current staging buffer holds when the body runs at `t`: its block read off the array,
    filled over `dflt0_5` (block-typed, where `iblk` is typed at the cut). -/
def X0_5 (c : Dev nD) (t : Fin cfg0.N) : (cfg0.win 5).block.Idx → Elt F (cfg0.win 5).elt :=
  (cfg0.win 5).fill (cfg0.grid.coords t) dflt0_5 (iblk m c 5 t)
/-- At every point the cut's extent is the block's, decided over the grid: no transfer of input window 5 is cut. -/
theorem xsize0_5 : ∀ t : Fin cfg0.N, ∀ a, (cfg0.win 5).xsize (cfg0.grid.coords t) a = (cfg0.win 5).size a := by decide +kernel
/-- Every index of input window 5's block is moved at every point. -/
theorem moved0_5 (t : Fin cfg0.N) (j : (cfg0.win 5).block.Idx) : (cfg0.win 5).moved (cfg0.grid.coords t) j = true :=
  ((cfg0.win 5).moved_iff _ j).mpr fun a => by rw [xsize0_5 t a]; exact (j a).isLt
/-- A fill of input window 5's block covers the whole buffer, whatever it held. -/
theorem fill0_5 (t : Fin cfg0.N) (d d' : (cfg0.win 5).block.Idx → Elt F (cfg0.win 5).elt) (g) :
    (cfg0.win 5).fill (cfg0.grid.coords t) d g = (cfg0.win 5).fill (cfg0.grid.coords t) d' g := by
  funext j; unfold Pipeline.Window.fill; rw [dif_pos (moved0_5 t j), dif_pos (moved0_5 t j)]
/-- Input window 5's current staging buffer holds `X0_5` at every point, fetched there or not, for ANY proof data whose
    array is `V`'s (`hA`) and whose body leaves it in place (`hafter`): Lib/Pipeline/FrameBody.lean
    `Dat.before_in_eq_fetched`, its cut a function of its block index (`hclip` by rewriting the index), the fetch
    filling the whole block (`fill0_5`). -/
theorem before0_5_of {c : Dev nD} (dat : Dat τ (Elt F) Unit ℕ (UR sig nD τ) ℕ cfg0 c) (hA : dat.A 5 = V m c (Pipeline.arrRef spec0 5))
    (hafter : ∀ t, dat.after 5 t = X0_5 m c t) (t : Fin cfg0.N) (d) : dat.before 5 t d = X0_5 m c t :=
  (dat.before_in_eq_fetched 5 rfl (fun _ => rfl)
      (fun t t' h => funext fun a => congrArg (fun n => Pipeline.Clip.of n ((cfg0.win 5).size a) (S4352x5632.size a)) (congrFun h a))
      (fun t => by rw [hafter]; unfold X0_5; rw [Pipeline.Window.cut_fill]; unfold Dat.blockOf iblk; rw [hA]; try rfl) t d).trans
    (by unfold Dat.fetched X0_5; rw [fill0_5 t d dflt0_5]; unfold Dat.blockOf iblk; rw [hA]; try rfl)
/-- Input window 6 is of the clipped KIND (its block does not tile its array `S4352x5632`), but no block the grid
    reaches is cut, so no part of its staging buffer is left unfilled by a fetch. A default for such a part, which
    nothing reads. -/
def dflt0_6 : (cfg0.win 6).block.Idx → Elt F (cfg0.win 6).elt := fun _ => Classical.choice inferInstance
/-- What input window 6's current staging buffer holds when the body runs at `t`: its block read off the array,
    filled over `dflt0_6` (block-typed, where `iblk` is typed at the cut). -/
def X0_6 (c : Dev nD) (t : Fin cfg0.N) : (cfg0.win 6).block.Idx → Elt F (cfg0.win 6).elt :=
  (cfg0.win 6).fill (cfg0.grid.coords t) dflt0_6 (iblk m c 6 t)
/-- At every point the cut's extent is the block's, decided over the grid: no transfer of input window 6 is cut. -/
theorem xsize0_6 : ∀ t : Fin cfg0.N, ∀ a, (cfg0.win 6).xsize (cfg0.grid.coords t) a = (cfg0.win 6).size a := by decide +kernel
/-- Every index of input window 6's block is moved at every point. -/
theorem moved0_6 (t : Fin cfg0.N) (j : (cfg0.win 6).block.Idx) : (cfg0.win 6).moved (cfg0.grid.coords t) j = true :=
  ((cfg0.win 6).moved_iff _ j).mpr fun a => by rw [xsize0_6 t a]; exact (j a).isLt
/-- A fill of input window 6's block covers the whole buffer, whatever it held. -/
theorem fill0_6 (t : Fin cfg0.N) (d d' : (cfg0.win 6).block.Idx → Elt F (cfg0.win 6).elt) (g) :
    (cfg0.win 6).fill (cfg0.grid.coords t) d g = (cfg0.win 6).fill (cfg0.grid.coords t) d' g := by
  funext j; unfold Pipeline.Window.fill; rw [dif_pos (moved0_6 t j), dif_pos (moved0_6 t j)]
/-- Input window 6's current staging buffer holds `X0_6` at every point, fetched there or not, for ANY proof data whose
    array is `V`'s (`hA`) and whose body leaves it in place (`hafter`): Lib/Pipeline/FrameBody.lean
    `Dat.before_in_eq_fetched`, its cut a function of its block index (`hclip` by rewriting the index), the fetch
    filling the whole block (`fill0_6`). -/
theorem before0_6_of {c : Dev nD} (dat : Dat τ (Elt F) Unit ℕ (UR sig nD τ) ℕ cfg0 c) (hA : dat.A 6 = V m c (Pipeline.arrRef spec0 6))
    (hafter : ∀ t, dat.after 6 t = X0_6 m c t) (t : Fin cfg0.N) (d) : dat.before 6 t d = X0_6 m c t :=
  (dat.before_in_eq_fetched 6 rfl (fun _ => rfl)
      (fun t t' h => funext fun a => congrArg (fun n => Pipeline.Clip.of n ((cfg0.win 6).size a) (S4352x5632.size a)) (congrFun h a))
      (fun t => by rw [hafter]; unfold X0_6; rw [Pipeline.Window.cut_fill]; unfold Dat.blockOf iblk; rw [hA]; try rfl) t d).trans
    (by unfold Dat.fetched X0_6; rw [fill0_6 t d dflt0_6]; unfold Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1020000 in
/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_KernelIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 2).trans (((dats 0 c).arrAt_in 2 rfl _).trans ((hA c 2).trans (V_main_arg0 m c))),
      ((h c).1 4).trans (((dats 0 c).arrAt_in 4 rfl _).trans ((hA c 4).trans (V_main_arg1 m c))),
      ((h c).1 6).trans (((dats 0 c).arrAt_in 6 rfl _).trans ((hA c 6).trans (V_main_arg2 m c))),
      ((h c).2 main_arg3 (Pipeline.mem_restRefs_of main_arg3 (by decide) (by decide))).trans (V_main_arg3 m c),
      ((h c).1 7).trans (((dats 0 c).arrAt_in 7 rfl _).trans ((hA c 7).trans (V_main_arg4 m c))),
      ((h c).1 9).trans (((dats 0 c).arrAt_in 9 rfl _).trans ((hA c 9).trans (V_main_arg5 m c)))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 34 = 0 :=
  (fun t => by
    have ht : t.val < 34 := Nat.lt_of_lt_of_eq t.isLt N_0
    have e0 : (grid0.coords t 0).val = t.val / 1 % 34 := Pipeline.Grid.coords_val t 0 (by decide) rfl
    simp only [cond0_0, e0]
    word_cmp
   : ∀ t : Fin grid0.N, cond0_0 (grid0.coords t) ↔ t.val % 34 = 0)

/-! ## The kernel body on any staging memrefs: a subtype the run finds -/

/-- One staging buffer of output window 10, through which its contents are stated (`View.read_writes_of_cover`: the
    choice does not matter). -/
abbrev VO0_10 : View sig .tc .vmem S128x512 .f32 := (Memref.whole cc0_stg10_0 : Memref sig .tc .vmem S128x512 .f32).view
/-- One staging buffer of output window 11, through which its contents are stated (`View.read_writes_of_cover`: the
    choice does not matter). -/
abbrev VO0_11 : View sig .tc .vmem S128x512 .f32 := (Memref.whole cc0_stg11_0 : Memref sig .tc .vmem S128x512 .f32).view
/-- One staging buffer of output window 12, through which its contents are stated (`View.read_writes_of_cover`: the
    choice does not matter). -/
abbrev VO0_12 : View sig .tc .vmem S128x512 .f32 := (Memref.whole cc0_stg12_0 : Memref sig .tc .vmem S128x512 .f32).view
/-- One staging buffer of output window 13, through which its contents are stated (`View.read_writes_of_cover`: the
    choice does not matter). -/
abbrev VO0_13 : View sig .tc .vmem S128x512 .f32 := (Memref.whole cc0_stg13_0 : Memref sig .tc .vmem S128x512 .f32).view
/-- One staging buffer of output window 14, through which its contents are stated (`View.read_writes_of_cover`: the
    choice does not matter). -/
abbrev VO0_14 : View sig .tc .vmem S128x1024 .f32 := (Memref.whole cc0_stg14_0 : Memref sig .tc .vmem S128x1024 .f32).view
/-- One staging buffer of output window 15, through which its contents are stated (`View.read_writes_of_cover`: the
    choice does not matter). -/
abbrev VO0_15 : View sig .tc .vmem S128x1024 .f32 := (Memref.whole cc0_stg15_0 : Memref sig .tc .vmem S128x1024 .f32).view
/-- One staging buffer of output window 16, through which its contents are stated (`View.read_writes_of_cover`: the
    choice does not matter). -/
abbrev VO0_16 : View sig .tc .vmem S2x4x8x128 .f32 := (Memref.whole cc0_stg16_0 : Memref sig .tc .vmem S2x4x8x128 .f32).view
/-- Each window's current staging memref at point `t`, spelled as the pipeline passes it (`bodyAt0`), and its wholeness. -/
abbrev ms0_0 (t : Fin cfg0.N) : Memref sig .tc .smem S2x4 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2x4x1x128x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S128x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S128x1024 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S128x512 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S128x512 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S128x512 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S128x512 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S128x1024 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S128x1024 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S2x4x8x128 .f32 := win0_16.stage (cfg0.slots t 16)
abbrev hs0_16 (t : Fin cfg0.N) : (ms0_16 t).IsWhole := hstage0_16 ((cfg0.slots t 16).cast nbuf0_16)
/-- The scratch operands: whole scoped buffers of the kernel's own, passed beside the windows. -/
abbrev scM0_0 : Memref sig .tc .vmem S2x4x128x256 .f32 := Memref.whole cc0_scratch0
/-- The scratch `arg18` the kernel carries between points, as a view: what it holds is stated through it. -/
abbrev VS0_0 : View sig .tc .vmem S2x4x128x256 .f32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Gen

end
-- ==== Proof.BwdRunA.lean ====
/- The body of the retention backward kernel run at the first grid point, where it resets the carried gradient of the state. -/
module

public import proofs.«01_k».proof.Proof.BwdRuns

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1048000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .smem S2x4 .f32) (harg1 : arg1.IsWhole) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S128x1024 .f32) (harg6 : arg6.IsWhole) (arg7 : Memref sig .tc .vmem S128x1024 .f32) (harg7 : arg7.IsWhole) (arg8 : Memref sig .tc .vmem S2x4x1x128x256 .f32) (harg8 : arg8.IsWhole) (arg9 : Memref sig .tc .vmem S128x1024 .f32) (harg9 : arg9.IsWhole) (arg10 : Memref sig .tc .vmem S128x1024 .f32) (harg10 : arg10.IsWhole) (arg11 : Memref sig .tc .vmem S128x512 .f32) (harg11 : arg11.IsWhole) (arg12 : Memref sig .tc .vmem S128x512 .f32) (harg12 : arg12.IsWhole) (arg13 : Memref sig .tc .vmem S128x512 .f32) (harg13 : arg13.IsWhole) (arg14 : Memref sig .tc .vmem S128x512 .f32) (harg14 : arg14.IsWhole) (arg15 : Memref sig .tc .vmem S128x1024 .f32) (harg15 : arg15.IsWhole) (arg16 : Memref sig .tc .vmem S128x1024 .f32) (harg16 : arg16.IsWhole) (arg17 : Memref sig .tc .vmem S2x4x8x128 .f32) (harg17 : arg17.IsWhole) (arg18 : Memref sig .tc .vmem S2x4x128x256 .f32) (harg18 : arg18.IsWhole) (hc0 : cond0_0 i)
    (x0 : Vec F S2x4 .f32) (x1 : Vec F S128x512 .f32) (x2 : Vec F S128x512 .f32) (x3 : Vec F S128x512 .f32) (x4 : Vec F S128x512 .f32) (x5 : Vec F S128x1024 .f32) (x6 : Vec F S128x1024 .f32) (x7 : Vec F S2x4x1x128x256 .f32) (x8 : Vec F S128x1024 .f32) (x9 : Vec F S128x1024 .f32) :
    Σ' (L10 : List (View.Piece (Elt F) S128x512 .f32)), Σ' (L11 : List (View.Piece (Elt F) S128x512 .f32)), Σ' (L12 : List (View.Piece (Elt F) S128x512 .f32)), Σ' (L13 : List (View.Piece (Elt F) S128x512 .f32)), Σ' (L14 : List (View.Piece (Elt F) S128x1024 .f32)), Σ' (L15 : List (View.Piece (Elt F) S128x1024 .f32)), Σ' (L16 : List (View.Piece (Elt F) S2x4x8x128 .f32)), { LS0 : List (View.Piece (Elt F) S2x4x128x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f LS0)) -∗ K ⟨⟩))
          ⊢ wp frame (wpE (defs₀ (F := F)) Variants.none c none) E (cc0_ret_bwd_0 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, ?_, ?_, ?_, ?_, fun E K => ?run⟩
  case run =>
    simp only [cc0_ret_bwd_0_eq_skeleton]; unfold cc0_ret_bwd_0_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    iexists _; iexact HS0

end Cert.KernelIdeal.Gen

end
-- ==== Proof.BwdRunB.lean ====
/- The body of the retention backward kernel run at every later grid point. -/
module

public import proofs.«01_k».proof.Proof.BwdRunA

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1028000 in
/-- What the body's stores leave in each output's staging memref, as pieces (last first) IN CASE B (`scf.if` 0 not taken: points 1, 2, … 33: 33 of 34), WITH the
    proof that on whole staging memrefs — the inputs' at their contents, the outputs it reads before covering (16) at their running contents `xo·`, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .smem S2x4 .f32) (harg1 : arg1.IsWhole) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S128x1024 .f32) (harg6 : arg6.IsWhole) (arg7 : Memref sig .tc .vmem S128x1024 .f32) (harg7 : arg7.IsWhole) (arg8 : Memref sig .tc .vmem S2x4x1x128x256 .f32) (harg8 : arg8.IsWhole) (arg9 : Memref sig .tc .vmem S128x1024 .f32) (harg9 : arg9.IsWhole) (arg10 : Memref sig .tc .vmem S128x1024 .f32) (harg10 : arg10.IsWhole) (arg11 : Memref sig .tc .vmem S128x512 .f32) (harg11 : arg11.IsWhole) (arg12 : Memref sig .tc .vmem S128x512 .f32) (harg12 : arg12.IsWhole) (arg13 : Memref sig .tc .vmem S128x512 .f32) (harg13 : arg13.IsWhole) (arg14 : Memref sig .tc .vmem S128x512 .f32) (harg14 : arg14.IsWhole) (arg15 : Memref sig .tc .vmem S128x1024 .f32) (harg15 : arg15.IsWhole) (arg16 : Memref sig .tc .vmem S128x1024 .f32) (harg16 : arg16.IsWhole) (arg17 : Memref sig .tc .vmem S2x4x8x128 .f32) (harg17 : arg17.IsWhole) (arg18 : Memref sig .tc .vmem S2x4x128x256 .f32) (harg18 : arg18.IsWhole) (hc0 : ¬cond0_0 i)
    (x0 : Vec F S2x4 .f32) (x1 : Vec F S128x512 .f32) (x2 : Vec F S128x512 .f32) (x3 : Vec F S128x512 .f32) (x4 : Vec F S128x512 .f32) (x5 : Vec F S128x1024 .f32) (x6 : Vec F S128x1024 .f32) (x7 : Vec F S2x4x1x128x256 .f32) (x8 : Vec F S128x1024 .f32) (x9 : Vec F S128x1024 .f32) (xo16 : Vec F S2x4x8x128 .f32) (xs0 : Vec F S2x4x128x256 .f32) :
    Σ' (L10 : List (View.Piece (Elt F) S128x512 .f32)), Σ' (L11 : List (View.Piece (Elt F) S128x512 .f32)), Σ' (L12 : List (View.Piece (Elt F) S128x512 .f32)), Σ' (L13 : List (View.Piece (Elt F) S128x512 .f32)), Σ' (L14 : List (View.Piece (Elt F) S128x1024 .f32)), Σ' (L15 : List (View.Piece (Elt F) S128x1024 .f32)), Σ' (L16 : List (View.Piece (Elt F) S2x4x8x128 .f32)), { LS0 : List (View.Piece (Elt F) S2x4x128x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ owns (c : Thread nD τ) arg17 fullShare xo16 ∗ owns (c : Thread nD τ) arg18 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f LS0)) -∗ K ⟨⟩))
          ⊢ wp frame (wpE (defs₀ (F := F)) Variants.none c none) E (cc0_ret_bwd_0 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, ?_, ?_, ?_, ?_, fun E K => ?run⟩
  case run =>
    simp only [cc0_ret_bwd_0_eq_skeleton]; unfold cc0_ret_bwd_0_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%f16, %hf16, H16⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg17.eq_unread hf16; obtain rfl := harg18.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    iexists _; iexact HS0

end Cert.KernelIdeal.Gen

end
-- ==== Proof.RunBwd.lean ====
/- The run of the retention's backward call and its frame: what the seven results and the scratch that carries the
   state's gradient from point to point hold after each grid point (`outsAt0`), the pipeline's proof data (`dats`), the body
   obligation, the run (`run_main`) and the frame, for any float values. -/
module

public import proofs.«01_k».proof.Proof.BwdRunB
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section
variable (c : Dev nD) (i : grid0.Coords) (arg1 : Memref sig .tc .smem S2x4 .f32) (harg1 : arg1.IsWhole) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S128x1024 .f32) (harg6 : arg6.IsWhole) (arg7 : Memref sig .tc .vmem S128x1024 .f32) (harg7 : arg7.IsWhole) (arg8 : Memref sig .tc .vmem S2x4x1x128x256 .f32) (harg8 : arg8.IsWhole) (arg9 : Memref sig .tc .vmem S128x1024 .f32) (harg9 : arg9.IsWhole) (arg10 : Memref sig .tc .vmem S128x1024 .f32) (harg10 : arg10.IsWhole) (arg11 : Memref sig .tc .vmem S128x512 .f32) (harg11 : arg11.IsWhole) (arg12 : Memref sig .tc .vmem S128x512 .f32) (harg12 : arg12.IsWhole) (arg13 : Memref sig .tc .vmem S128x512 .f32) (harg13 : arg13.IsWhole) (arg14 : Memref sig .tc .vmem S128x512 .f32) (harg14 : arg14.IsWhole) (arg15 : Memref sig .tc .vmem S128x1024 .f32) (harg15 : arg15.IsWhole) (arg16 : Memref sig .tc .vmem S128x1024 .f32) (harg16 : arg16.IsWhole) (arg17 : Memref sig .tc .vmem S2x4x8x128 .f32) (harg17 : arg17.IsWhole) (arg18 : Memref sig .tc .vmem S2x4x128x256 .f32) (harg18 : arg18.IsWhole) (hc0 : cond0_0 i)
    (x0 : Vec F S2x4 .f32) (x1 : Vec F S128x512 .f32) (x2 : Vec F S128x512 .f32) (x3 : Vec F S128x512 .f32) (x4 : Vec F S128x512 .f32) (x5 : Vec F S128x1024 .f32) (x6 : Vec F S128x1024 .f32) (x7 : Vec F S2x4x1x128x256 .f32) (x8 : Vec F S128x1024 .f32) (x9 : Vec F S128x1024 .f32)

/-- Case A's pieces for output 10 tile its block (4 stores of `S128x128`, checked by the kernel's evaluation: Lib/Ring.lean `Piece.tiledL`, linear in the pieces, through a loop's `@[irreducible]` trip theorem too), so they cover it. -/
theorem cover0_A_10 (y : S128x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9).1 S128x128.size (by sl_kernel_rfl) y

/-- What case A leaves in output 10's staging buffer: its pieces read back over junk. -/
def out0_A_10 : Vec F S128x512 .f32 :=
  VO0_10.read (Elt F) (VO0_10.writes (Elt F) VO0_10.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9).1)

/-- Case A's pieces for output 11 tile its block (4 stores of `S128x128`, checked by the kernel's evaluation: Lib/Ring.lean `Piece.tiledL`, linear in the pieces, through a loop's `@[irreducible]` trip theorem too), so they cover it. -/
theorem cover0_A_11 (y : S128x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9).2.1 S128x128.size (by sl_kernel_rfl) y

/-- What case A leaves in output 11's staging buffer: its pieces read back over junk. -/
def out0_A_11 : Vec F S128x512 .f32 :=
  VO0_11.read (Elt F) (VO0_11.writes (Elt F) VO0_11.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9).2.1)

/-- Case A's pieces for output 12 tile its block (4 stores of `S128x128`, checked by the kernel's evaluation: Lib/Ring.lean `Piece.tiledL`, linear in the pieces, through a loop's `@[irreducible]` trip theorem too), so they cover it. -/
theorem cover0_A_12 (y : S128x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9).2.2.1 S128x128.size (by sl_kernel_rfl) y

/-- What case A leaves in output 12's staging buffer: its pieces read back over junk. -/
def out0_A_12 : Vec F S128x512 .f32 :=
  VO0_12.read (Elt F) (VO0_12.writes (Elt F) VO0_12.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9).2.2.1)

/-- Case A's pieces for output 13 tile its block (4 stores of `S128x128`, checked by the kernel's evaluation: Lib/Ring.lean `Piece.tiledL`, linear in the pieces, through a loop's `@[irreducible]` trip theorem too), so they cover it. -/
theorem cover0_A_13 (y : S128x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9).2.2.2.1 S128x128.size (by sl_kernel_rfl) y

/-- What case A leaves in output 13's staging buffer: its pieces read back over junk. -/
def out0_A_13 : Vec F S128x512 .f32 :=
  VO0_13.read (Elt F) (VO0_13.writes (Elt F) VO0_13.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9).2.2.2.1)

/-- Case A's pieces for output 14 tile its block (4 stores of `S128x256`, checked by the kernel's evaluation: Lib/Ring.lean `Piece.tiledL`, linear in the pieces, through a loop's `@[irreducible]` trip theorem too), so they cover it. -/
theorem cover0_A_14 (y : S128x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9).2.2.2.2.1 S128x256.size (by sl_kernel_rfl) y

/-- What case A leaves in output 14's staging buffer: its pieces read back over junk. -/
def out0_A_14 : Vec F S128x1024 .f32 :=
  VO0_14.read (Elt F) (VO0_14.writes (Elt F) VO0_14.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9).2.2.2.2.1)

/-- Case A's pieces for output 15 tile its block (4 stores of `S128x256`, checked by the kernel's evaluation: Lib/Ring.lean `Piece.tiledL`, linear in the pieces, through a loop's `@[irreducible]` trip theorem too), so they cover it. -/
theorem cover0_A_15 (y : S128x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9).2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9).2.2.2.2.2.1 S128x256.size (by sl_kernel_rfl) y

/-- What case A leaves in output 15's staging buffer: its pieces read back over junk. -/
def out0_A_15 : Vec F S128x1024 .f32 :=
  VO0_15.read (Elt F) (VO0_15.writes (Elt F) VO0_15.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9).2.2.2.2.2.1)

/-- Case A's pieces for output 16 are of SEVERAL sizes (9 stores of `S1x1x8x128`, `S2x4x8x128`): cut into blocks of `![1, 1, 8, 128]` they tile its block (checked by the kernel's evaluation: Lib/Ring.lean `Piece.tiledBy`), so they cover it. -/
theorem cover0_A_16 (y : S2x4x8x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9).2.2.2.2.2.2.1, y ∈ pc.1.set :=
  View.cover_of_tiledBy (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9).2.2.2.2.2.2.1 ![1, 1, 8, 128] (by sl_kernel_rfl) y

/-- What case A leaves in output 16's staging buffer: its pieces read back over junk. -/
def out0_A_16 : Vec F S2x4x8x128 .f32 :=
  VO0_16.read (Elt F) (VO0_16.writes (Elt F) VO0_16.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9).2.2.2.2.2.2.1)

/-- Case A's pieces for scratch `arg18`, which the kernel carries between points, cover it: one of them a store of the WHOLE buffer (Lib/Ring.lean `sl_whole_mem`). -/
theorem scover0_A_0 (y : S2x4x128x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9).2.2.2.2.2.2.2.1, y ∈ pc.1.set :=
  View.cover_of_wholeMem (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9).2.2.2.2.2.2.2.1 (by sl_whole_mem) y

/-- What case A leaves in scratch `arg18`: its pieces read back over junk. -/
def sout0_A_0 : Vec F S2x4x128x256 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9).2.2.2.2.2.2.2.1)

end

section
variable (c : Dev nD) (i : grid0.Coords) (arg1 : Memref sig .tc .smem S2x4 .f32) (harg1 : arg1.IsWhole) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S128x1024 .f32) (harg6 : arg6.IsWhole) (arg7 : Memref sig .tc .vmem S128x1024 .f32) (harg7 : arg7.IsWhole) (arg8 : Memref sig .tc .vmem S2x4x1x128x256 .f32) (harg8 : arg8.IsWhole) (arg9 : Memref sig .tc .vmem S128x1024 .f32) (harg9 : arg9.IsWhole) (arg10 : Memref sig .tc .vmem S128x1024 .f32) (harg10 : arg10.IsWhole) (arg11 : Memref sig .tc .vmem S128x512 .f32) (harg11 : arg11.IsWhole) (arg12 : Memref sig .tc .vmem S128x512 .f32) (harg12 : arg12.IsWhole) (arg13 : Memref sig .tc .vmem S128x512 .f32) (harg13 : arg13.IsWhole) (arg14 : Memref sig .tc .vmem S128x512 .f32) (harg14 : arg14.IsWhole) (arg15 : Memref sig .tc .vmem S128x1024 .f32) (harg15 : arg15.IsWhole) (arg16 : Memref sig .tc .vmem S128x1024 .f32) (harg16 : arg16.IsWhole) (arg17 : Memref sig .tc .vmem S2x4x8x128 .f32) (harg17 : arg17.IsWhole) (arg18 : Memref sig .tc .vmem S2x4x128x256 .f32) (harg18 : arg18.IsWhole) (hc0 : ¬cond0_0 i)
    (x0 : Vec F S2x4 .f32) (x1 : Vec F S128x512 .f32) (x2 : Vec F S128x512 .f32) (x3 : Vec F S128x512 .f32) (x4 : Vec F S128x512 .f32) (x5 : Vec F S128x1024 .f32) (x6 : Vec F S128x1024 .f32) (x7 : Vec F S2x4x1x128x256 .f32) (x8 : Vec F S128x1024 .f32) (x9 : Vec F S128x1024 .f32) (xo16 : Vec F S2x4x8x128 .f32) (xs0 : Vec F S2x4x128x256 .f32)

/-- Case B's pieces for output 10 tile its block (4 stores of `S128x128`, checked by the kernel's evaluation: Lib/Ring.lean `Piece.tiledL`, linear in the pieces, through a loop's `@[irreducible]` trip theorem too), so they cover it. -/
theorem cover0_B_10 (y : S128x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xo16 xs0).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xo16 xs0).1 S128x128.size (by sl_kernel_rfl) y

/-- What case B leaves in output 10's staging buffer: its pieces read back over junk. -/
def out0_B_10 : Vec F S128x512 .f32 :=
  VO0_10.read (Elt F) (VO0_10.writes (Elt F) VO0_10.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xo16 xs0).1)

/-- Case B's pieces for output 11 tile its block (4 stores of `S128x128`, checked by the kernel's evaluation: Lib/Ring.lean `Piece.tiledL`, linear in the pieces, through a loop's `@[irreducible]` trip theorem too), so they cover it. -/
theorem cover0_B_11 (y : S128x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xo16 xs0).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xo16 xs0).2.1 S128x128.size (by sl_kernel_rfl) y

/-- What case B leaves in output 11's staging buffer: its pieces read back over junk. -/
def out0_B_11 : Vec F S128x512 .f32 :=
  VO0_11.read (Elt F) (VO0_11.writes (Elt F) VO0_11.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xo16 xs0).2.1)

/-- Case B's pieces for output 12 tile its block (4 stores of `S128x128`, checked by the kernel's evaluation: Lib/Ring.lean `Piece.tiledL`, linear in the pieces, through a loop's `@[irreducible]` trip theorem too), so they cover it. -/
theorem cover0_B_12 (y : S128x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xo16 xs0).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xo16 xs0).2.2.1 S128x128.size (by sl_kernel_rfl) y

/-- What case B leaves in output 12's staging buffer: its pieces read back over junk. -/
def out0_B_12 : Vec F S128x512 .f32 :=
  VO0_12.read (Elt F) (VO0_12.writes (Elt F) VO0_12.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xo16 xs0).2.2.1)

/-- Case B's pieces for output 13 tile its block (4 stores of `S128x128`, checked by the kernel's evaluation: Lib/Ring.lean `Piece.tiledL`, linear in the pieces, through a loop's `@[irreducible]` trip theorem too), so they cover it. -/
theorem cover0_B_13 (y : S128x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xo16 xs0).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xo16 xs0).2.2.2.1 S128x128.size (by sl_kernel_rfl) y

/-- What case B leaves in output 13's staging buffer: its pieces read back over junk. -/
def out0_B_13 : Vec F S128x512 .f32 :=
  VO0_13.read (Elt F) (VO0_13.writes (Elt F) VO0_13.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xo16 xs0).2.2.2.1)

/-- Case B's pieces for output 14 tile its block (4 stores of `S128x256`, checked by the kernel's evaluation: Lib/Ring.lean `Piece.tiledL`, linear in the pieces, through a loop's `@[irreducible]` trip theorem too), so they cover it. -/
theorem cover0_B_14 (y : S128x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xo16 xs0).2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xo16 xs0).2.2.2.2.1 S128x256.size (by sl_kernel_rfl) y

/-- What case B leaves in output 14's staging buffer: its pieces read back over junk. -/
def out0_B_14 : Vec F S128x1024 .f32 :=
  VO0_14.read (Elt F) (VO0_14.writes (Elt F) VO0_14.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xo16 xs0).2.2.2.2.1)

/-- Case B's pieces for output 15 tile its block (4 stores of `S128x256`, checked by the kernel's evaluation: Lib/Ring.lean `Piece.tiledL`, linear in the pieces, through a loop's `@[irreducible]` trip theorem too), so they cover it. -/
theorem cover0_B_15 (y : S128x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xo16 xs0).2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xo16 xs0).2.2.2.2.2.1 S128x256.size (by sl_kernel_rfl) y

/-- What case B leaves in output 15's staging buffer: its pieces read back over junk. -/
def out0_B_15 : Vec F S128x1024 .f32 :=
  VO0_15.read (Elt F) (VO0_15.writes (Elt F) VO0_15.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xo16 xs0).2.2.2.2.2.1)

/-- Case B's pieces for output 16 tile its block (8 stores of `S1x1x8x128`, checked by the kernel's evaluation: Lib/Ring.lean `Piece.tiledL`, linear in the pieces, through a loop's `@[irreducible]` trip theorem too), so they cover it. -/
theorem cover0_B_16 (y : S2x4x8x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xo16 xs0).2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xo16 xs0).2.2.2.2.2.2.1 S1x1x8x128.size (by sl_kernel_rfl) y

/-- What case B leaves in output 16's staging buffer: its pieces read back over junk. -/
def out0_B_16 : Vec F S2x4x8x128 .f32 :=
  VO0_16.read (Elt F) (VO0_16.writes (Elt F) VO0_16.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xo16 xs0).2.2.2.2.2.2.1)

/-- Case B's pieces for scratch `arg18`, which the kernel carries between points, cover it: 8 pieces of `S1x1x128x256` tiling it (Lib/Ring.lean `Piece.tiledL`). -/
theorem scover0_B_0 (y : S2x4x128x256.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xo16 xs0).2.2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xo16 xs0).2.2.2.2.2.2.2.1 S1x1x128x256.size (by sl_kernel_rfl) y

/-- What case B leaves in scratch `arg18`: its pieces read back over junk. -/
def sout0_B_0 : Vec F S2x4x128x256 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xo16 xs0).2.2.2.2.2.2.2.1)

end

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S128x512 .f32 × Vec F S128x512 .f32 × Vec F S128x512 .f32 × Vec F S128x512 .f32 × Vec F S128x1024 .f32 × Vec F S128x1024 .f32 × Vec F S2x4x8x128 .f32 × Vec F S2x4x128x256 .f32
  | 0, hn => (out0_A_10 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (X0_5 m c ⟨0, hn⟩) (X0_6 m c ⟨0, hn⟩) (iblk m c 7 ⟨0, hn⟩) (iblk m c 8 ⟨0, hn⟩) (iblk m c 9 ⟨0, hn⟩), out0_A_11 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (X0_5 m c ⟨0, hn⟩) (X0_6 m c ⟨0, hn⟩) (iblk m c 7 ⟨0, hn⟩) (iblk m c 8 ⟨0, hn⟩) (iblk m c 9 ⟨0, hn⟩), out0_A_12 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (X0_5 m c ⟨0, hn⟩) (X0_6 m c ⟨0, hn⟩) (iblk m c 7 ⟨0, hn⟩) (iblk m c 8 ⟨0, hn⟩) (iblk m c 9 ⟨0, hn⟩), out0_A_13 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (X0_5 m c ⟨0, hn⟩) (X0_6 m c ⟨0, hn⟩) (iblk m c 7 ⟨0, hn⟩) (iblk m c 8 ⟨0, hn⟩) (iblk m c 9 ⟨0, hn⟩), out0_A_14 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (X0_5 m c ⟨0, hn⟩) (X0_6 m c ⟨0, hn⟩) (iblk m c 7 ⟨0, hn⟩) (iblk m c 8 ⟨0, hn⟩) (iblk m c 9 ⟨0, hn⟩), out0_A_15 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (X0_5 m c ⟨0, hn⟩) (X0_6 m c ⟨0, hn⟩) (iblk m c 7 ⟨0, hn⟩) (iblk m c 8 ⟨0, hn⟩) (iblk m c 9 ⟨0, hn⟩), out0_A_16 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (X0_5 m c ⟨0, hn⟩) (X0_6 m c ⟨0, hn⟩) (iblk m c 7 ⟨0, hn⟩) (iblk m c 8 ⟨0, hn⟩) (iblk m c 9 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (X0_5 m c ⟨0, hn⟩) (X0_6 m c ⟨0, hn⟩) (iblk m c 7 ⟨0, hn⟩) (iblk m c 8 ⟨0, hn⟩) (iblk m c 9 ⟨0, hn⟩))
  | n + 1, hn =>
    if h0 : (n + 1) % 34 = 0 then
      (out0_A_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (X0_5 m c ⟨n + 1, hn⟩) (X0_6 m c ⟨n + 1, hn⟩) (iblk m c 7 ⟨n + 1, hn⟩) (iblk m c 8 ⟨n + 1, hn⟩) (iblk m c 9 ⟨n + 1, hn⟩), out0_A_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (X0_5 m c ⟨n + 1, hn⟩) (X0_6 m c ⟨n + 1, hn⟩) (iblk m c 7 ⟨n + 1, hn⟩) (iblk m c 8 ⟨n + 1, hn⟩) (iblk m c 9 ⟨n + 1, hn⟩), out0_A_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (X0_5 m c ⟨n + 1, hn⟩) (X0_6 m c ⟨n + 1, hn⟩) (iblk m c 7 ⟨n + 1, hn⟩) (iblk m c 8 ⟨n + 1, hn⟩) (iblk m c 9 ⟨n + 1, hn⟩), out0_A_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (X0_5 m c ⟨n + 1, hn⟩) (X0_6 m c ⟨n + 1, hn⟩) (iblk m c 7 ⟨n + 1, hn⟩) (iblk m c 8 ⟨n + 1, hn⟩) (iblk m c 9 ⟨n + 1, hn⟩), out0_A_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (X0_5 m c ⟨n + 1, hn⟩) (X0_6 m c ⟨n + 1, hn⟩) (iblk m c 7 ⟨n + 1, hn⟩) (iblk m c 8 ⟨n + 1, hn⟩) (iblk m c 9 ⟨n + 1, hn⟩), out0_A_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (X0_5 m c ⟨n + 1, hn⟩) (X0_6 m c ⟨n + 1, hn⟩) (iblk m c 7 ⟨n + 1, hn⟩) (iblk m c 8 ⟨n + 1, hn⟩) (iblk m c 9 ⟨n + 1, hn⟩), out0_A_16 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (X0_5 m c ⟨n + 1, hn⟩) (X0_6 m c ⟨n + 1, hn⟩) (iblk m c 7 ⟨n + 1, hn⟩) (iblk m c 8 ⟨n + 1, hn⟩) (iblk m c 9 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (X0_5 m c ⟨n + 1, hn⟩) (X0_6 m c ⟨n + 1, hn⟩) (iblk m c 7 ⟨n + 1, hn⟩) (iblk m c 8 ⟨n + 1, hn⟩) (iblk m c 9 ⟨n + 1, hn⟩))
    else
      (out0_B_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (X0_5 m c ⟨n + 1, hn⟩) (X0_6 m c ⟨n + 1, hn⟩) (iblk m c 7 ⟨n + 1, hn⟩) (iblk m c 8 ⟨n + 1, hn⟩) (iblk m c 9 ⟨n + 1, hn⟩) (outsAt0 c n (Nat.lt_of_succ_lt hn)).2.2.2.2.2.2.1 (outsAt0 c n (Nat.lt_of_succ_lt hn)).2.2.2.2.2.2.2, out0_B_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (X0_5 m c ⟨n + 1, hn⟩) (X0_6 m c ⟨n + 1, hn⟩) (iblk m c 7 ⟨n + 1, hn⟩) (iblk m c 8 ⟨n + 1, hn⟩) (iblk m c 9 ⟨n + 1, hn⟩) (outsAt0 c n (Nat.lt_of_succ_lt hn)).2.2.2.2.2.2.1 (outsAt0 c n (Nat.lt_of_succ_lt hn)).2.2.2.2.2.2.2, out0_B_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (X0_5 m c ⟨n + 1, hn⟩) (X0_6 m c ⟨n + 1, hn⟩) (iblk m c 7 ⟨n + 1, hn⟩) (iblk m c 8 ⟨n + 1, hn⟩) (iblk m c 9 ⟨n + 1, hn⟩) (outsAt0 c n (Nat.lt_of_succ_lt hn)).2.2.2.2.2.2.1 (outsAt0 c n (Nat.lt_of_succ_lt hn)).2.2.2.2.2.2.2, out0_B_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (X0_5 m c ⟨n + 1, hn⟩) (X0_6 m c ⟨n + 1, hn⟩) (iblk m c 7 ⟨n + 1, hn⟩) (iblk m c 8 ⟨n + 1, hn⟩) (iblk m c 9 ⟨n + 1, hn⟩) (outsAt0 c n (Nat.lt_of_succ_lt hn)).2.2.2.2.2.2.1 (outsAt0 c n (Nat.lt_of_succ_lt hn)).2.2.2.2.2.2.2, out0_B_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (X0_5 m c ⟨n + 1, hn⟩) (X0_6 m c ⟨n + 1, hn⟩) (iblk m c 7 ⟨n + 1, hn⟩) (iblk m c 8 ⟨n + 1, hn⟩) (iblk m c 9 ⟨n + 1, hn⟩) (outsAt0 c n (Nat.lt_of_succ_lt hn)).2.2.2.2.2.2.1 (outsAt0 c n (Nat.lt_of_succ_lt hn)).2.2.2.2.2.2.2, out0_B_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (X0_5 m c ⟨n + 1, hn⟩) (X0_6 m c ⟨n + 1, hn⟩) (iblk m c 7 ⟨n + 1, hn⟩) (iblk m c 8 ⟨n + 1, hn⟩) (iblk m c 9 ⟨n + 1, hn⟩) (outsAt0 c n (Nat.lt_of_succ_lt hn)).2.2.2.2.2.2.1 (outsAt0 c n (Nat.lt_of_succ_lt hn)).2.2.2.2.2.2.2, out0_B_16 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (X0_5 m c ⟨n + 1, hn⟩) (X0_6 m c ⟨n + 1, hn⟩) (iblk m c 7 ⟨n + 1, hn⟩) (iblk m c 8 ⟨n + 1, hn⟩) (iblk m c 9 ⟨n + 1, hn⟩) (outsAt0 c n (Nat.lt_of_succ_lt hn)).2.2.2.2.2.2.1 (outsAt0 c n (Nat.lt_of_succ_lt hn)).2.2.2.2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (X0_5 m c ⟨n + 1, hn⟩) (X0_6 m c ⟨n + 1, hn⟩) (iblk m c 7 ⟨n + 1, hn⟩) (iblk m c 8 ⟨n + 1, hn⟩) (iblk m c 9 ⟨n + 1, hn⟩) (outsAt0 c n (Nat.lt_of_succ_lt hn)).2.2.2.2.2.2.1 (outsAt0 c n (Nat.lt_of_succ_lt hn)).2.2.2.2.2.2.2)

/-- `outsAt0` at a point of case A: that case's contents. -/
theorem outsAt0_A (c : Dev nD) (t : Fin cfg0.N) (h0 : t.val % 34 = 0) :
    outsAt0 m c t.val t.isLt = (out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) ((hcond0_0 t).mpr h0) (iblk m c 0 t) (iblk m c 1 t) (iblk m c 2 t) (iblk m c 3 t) (iblk m c 4 t) (X0_5 m c t) (X0_6 m c t) (iblk m c 7 t) (iblk m c 8 t) (iblk m c 9 t), out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) ((hcond0_0 t).mpr h0) (iblk m c 0 t) (iblk m c 1 t) (iblk m c 2 t) (iblk m c 3 t) (iblk m c 4 t) (X0_5 m c t) (X0_6 m c t) (iblk m c 7 t) (iblk m c 8 t) (iblk m c 9 t), out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) ((hcond0_0 t).mpr h0) (iblk m c 0 t) (iblk m c 1 t) (iblk m c 2 t) (iblk m c 3 t) (iblk m c 4 t) (X0_5 m c t) (X0_6 m c t) (iblk m c 7 t) (iblk m c 8 t) (iblk m c 9 t), out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) ((hcond0_0 t).mpr h0) (iblk m c 0 t) (iblk m c 1 t) (iblk m c 2 t) (iblk m c 3 t) (iblk m c 4 t) (X0_5 m c t) (X0_6 m c t) (iblk m c 7 t) (iblk m c 8 t) (iblk m c 9 t), out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) ((hcond0_0 t).mpr h0) (iblk m c 0 t) (iblk m c 1 t) (iblk m c 2 t) (iblk m c 3 t) (iblk m c 4 t) (X0_5 m c t) (X0_6 m c t) (iblk m c 7 t) (iblk m c 8 t) (iblk m c 9 t), out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) ((hcond0_0 t).mpr h0) (iblk m c 0 t) (iblk m c 1 t) (iblk m c 2 t) (iblk m c 3 t) (iblk m c 4 t) (X0_5 m c t) (X0_6 m c t) (iblk m c 7 t) (iblk m c 8 t) (iblk m c 9 t), out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) ((hcond0_0 t).mpr h0) (iblk m c 0 t) (iblk m c 1 t) (iblk m c 2 t) (iblk m c 3 t) (iblk m c 4 t) (X0_5 m c t) (X0_6 m c t) (iblk m c 7 t) (iblk m c 8 t) (iblk m c 9 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) ((hcond0_0 t).mpr h0) (iblk m c 0 t) (iblk m c 1 t) (iblk m c 2 t) (iblk m c 3 t) (iblk m c 4 t) (X0_5 m c t) (X0_6 m c t) (iblk m c 7 t) (iblk m c 8 t) (iblk m c 9 t)) := by
  obtain ⟨n, hn⟩ := t
  cases n with
  | zero => exact rfl
  | succ n => dsimp only at h0 ⊢; rw [outsAt0, dif_pos h0]

/-- `outsAt0` at a point of case B: that case's contents, over what the point before left. -/
theorem outsAt0_B (c : Dev nD) (t : Fin cfg0.N) (h0 : ¬t.val % 34 = 0) :
    outsAt0 m c t.val t.isLt = (out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (fun h => h0 ((hcond0_0 t).mp h)) (iblk m c 0 t) (iblk m c 1 t) (iblk m c 2 t) (iblk m c 3 t) (iblk m c 4 t) (X0_5 m c t) (X0_6 m c t) (iblk m c 7 t) (iblk m c 8 t) (iblk m c 9 t) (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2, out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (fun h => h0 ((hcond0_0 t).mp h)) (iblk m c 0 t) (iblk m c 1 t) (iblk m c 2 t) (iblk m c 3 t) (iblk m c 4 t) (X0_5 m c t) (X0_6 m c t) (iblk m c 7 t) (iblk m c 8 t) (iblk m c 9 t) (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2, out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (fun h => h0 ((hcond0_0 t).mp h)) (iblk m c 0 t) (iblk m c 1 t) (iblk m c 2 t) (iblk m c 3 t) (iblk m c 4 t) (X0_5 m c t) (X0_6 m c t) (iblk m c 7 t) (iblk m c 8 t) (iblk m c 9 t) (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2, out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (fun h => h0 ((hcond0_0 t).mp h)) (iblk m c 0 t) (iblk m c 1 t) (iblk m c 2 t) (iblk m c 3 t) (iblk m c 4 t) (X0_5 m c t) (X0_6 m c t) (iblk m c 7 t) (iblk m c 8 t) (iblk m c 9 t) (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2, out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (fun h => h0 ((hcond0_0 t).mp h)) (iblk m c 0 t) (iblk m c 1 t) (iblk m c 2 t) (iblk m c 3 t) (iblk m c 4 t) (X0_5 m c t) (X0_6 m c t) (iblk m c 7 t) (iblk m c 8 t) (iblk m c 9 t) (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2, out0_B_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (fun h => h0 ((hcond0_0 t).mp h)) (iblk m c 0 t) (iblk m c 1 t) (iblk m c 2 t) (iblk m c 3 t) (iblk m c 4 t) (X0_5 m c t) (X0_6 m c t) (iblk m c 7 t) (iblk m c 8 t) (iblk m c 9 t) (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2, out0_B_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (fun h => h0 ((hcond0_0 t).mp h)) (iblk m c 0 t) (iblk m c 1 t) (iblk m c 2 t) (iblk m c 3 t) (iblk m c 4 t) (X0_5 m c t) (X0_6 m c t) (iblk m c 7 t) (iblk m c 8 t) (iblk m c 9 t) (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (fun h => h0 ((hcond0_0 t).mp h)) (iblk m c 0 t) (iblk m c 1 t) (iblk m c 2 t) (iblk m c 3 t) (iblk m c 4 t) (X0_5 m c t) (X0_6 m c t) (iblk m c 7 t) (iblk m c 8 t) (iblk m c 9 t) (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2) := by
  obtain ⟨n, hn⟩ := t
  cases n with
  | zero => exact (by exfalso; (try dsimp only at h0); exact absurd (Nat.zero_mod _) h0)
  | succ n => dsimp only at h0 ⊢; rw [outsAt0, dif_neg h0]; simp only [Nat.add_sub_cancel]

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => X0_5 m c t
    | ⟨6, _⟩ => X0_6 m c t
    | ⟨7, _⟩ => iblk m c 7 t
    | ⟨8, _⟩ => iblk m c 8 t
    | ⟨9, _⟩ => iblk m c 9 t
    | ⟨10, _⟩ => (outsAt0 m c t.val t.isLt).1
    | ⟨11, _⟩ => (outsAt0 m c t.val t.isLt).2.1
    | ⟨12, _⟩ => (outsAt0 m c t.val t.isLt).2.2.1
    | ⟨13, _⟩ => (outsAt0 m c t.val t.isLt).2.2.2.1
    | ⟨14, _⟩ => (outsAt0 m c t.val t.isLt).2.2.2.2.1
    | ⟨15, _⟩ => (outsAt0 m c t.val t.isLt).2.2.2.2.2.1
    | ⟨16, _⟩ => (outsAt0 m c t.val t.isLt).2.2.2.2.2.2.1
    | ⟨_ + 17, h⟩ => absurd h (Nat.not_lt.2 (Nat.le_add_left _ _))
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = X0_5 m c t := by dsimp only [dats]
theorem after0_6 (c : Dev nD) (t : Fin cfg0.N) : (dats m 0 c).after 6 t = X0_6 m c t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = (outsAt0 m c t.val t.isLt).1 := by dsimp only [dats]
theorem after0_11 (c : Dev nD) (t : Fin cfg0.N) : (dats m 0 c).after 11 t = (outsAt0 m c t.val t.isLt).2.1 := by dsimp only [dats]
theorem after0_12 (c : Dev nD) (t : Fin cfg0.N) : (dats m 0 c).after 12 t = (outsAt0 m c t.val t.isLt).2.2.1 := by dsimp only [dats]
theorem after0_13 (c : Dev nD) (t : Fin cfg0.N) : (dats m 0 c).after 13 t = (outsAt0 m c t.val t.isLt).2.2.2.1 := by dsimp only [dats]
theorem after0_14 (c : Dev nD) (t : Fin cfg0.N) : (dats m 0 c).after 14 t = (outsAt0 m c t.val t.isLt).2.2.2.2.1 := by dsimp only [dats]
theorem after0_15 (c : Dev nD) (t : Fin cfg0.N) : (dats m 0 c).after 15 t = (outsAt0 m c t.val t.isLt).2.2.2.2.2.1 := by dsimp only [dats]
theorem after0_16 (c : Dev nD) (t : Fin cfg0.N) : (dats m 0 c).after 16 t = (outsAt0 m c t.val t.isLt).2.2.2.2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = X0_5 m c t :=
  before0_5_of m (dats m 0 c) (A_eq m c 5) (after0_5 m c) t d
theorem before0_6 (c : Dev nD) (t : Fin cfg0.N) (d) : (dats m 0 c).before 6 t d = X0_6 m c t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
/-- At a point of case B output 16's current staging buffer holds what the body left at the point before: the point is
    not the first, the buffer was not written back between (`flush0_16`), the window is live and uncut (Lib/Pipeline/Frame.lean
    `Dat.before_out_kept`). -/
theorem before0_16_B (c : Dev nD) (t : Fin cfg0.N) (h0 : ¬t.val % 34 = 0) (d) :
    (dats m 0 c).before 16 t d = (outsAt0 m c (t.val - 1) (Nat.lt_of_le_of_lt (Nat.sub_le _ _) t.isLt)).2.2.2.2.2.2.1 := by
  have hN : t.val < 34 := lt_of_lt_of_eq t.isLt (show cfg0.N = 34 from N_0)
  rw [Dat.before_out_kept _ 16 rfl t (by omega) (Bool.eq_false_iff.mpr fun h => by have := (flush0_16 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t))

set_option maxHeartbeats 12800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16]
  rw [show (dats m 0 c).Φ t.succ = PhiS m c (t.val + 1) t.isLt from rfl, PhiS_succ]
  have hN : t.val < 34 := lt_of_lt_of_eq t.isLt (show cfg0.N = 34 from N_0)
  by_cases h0 : t.val % 34 = 0
  · by_cases hz : t.val = 0
    · rw [PhiS_castSucc m c t, PhiS_zero m c _ _ hz, PhiA0_eq]
      rw [outsAt0_A m c t h0]
      unfold out0_A_10 out0_A_11 out0_A_12 out0_A_13 out0_A_14 out0_A_15 out0_A_16 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
      iapply ((kernelRun0_A c (grid0.coords t) _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (X0_5 m c t) (X0_6 m c t) (iblk m c 7 t) (iblk m c 8 t) (iblk m c 9 t)).2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexists _; iexact H11
      isplitl [H12]; · iexists _; iexact H12
      isplitl [H13]; · iexists _; iexact H13
      isplitl [H14]; · iexists _; iexact H14
      isplitl [H15]; · iexists _; iexact H15
      isplitl [H16]; · iexists _; iexact H16
      isplitl [HS0]; · iexact HS0
      iintro ⟨H0, H1, H2, H3, H4, H5, H6, H7, H8, H9, ⟨%e10, H10⟩, ⟨%e11, H11⟩, ⟨%e12, H12⟩, ⟨%e13, H13⟩, ⟨%e14, H14⟩, ⟨%e15, H15⟩, ⟨%e16, H16⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]
      · unfold owns; iexists _; isplitr
        swap; · iexact H10
        ipureintro; exact View.read_writes_of_cover _ _ _ _ _ (cover0_A_10 c _ _ _ _ _ _ _ _ _ _ _ _ _ _ _ _ _ _ _ _ _ _ _ _ _ _ _ _ _ _ _ _ _ _ _ _ _ _ _ _ _ _ _ _ _ _ _ _)
      isplitl [H11]
      · unfold owns; iexists _; isplitr
        swap; · iexact H11
        ipureintro; exact View.read_writes_of_cover _ _ _ _ _ (cover0_A_11 c _ _ _ _ _ _ _ _ _ _ _ _ _ _ _ _ _ _ _ _ _ _ _ _ _ _ _ _ _ _ _ _ _ _ _ _ _ _ _ _ _ _ _ _ _ _ _ _)
      isplitl [H12]
      · unfold owns; iexists _; isplitr
        swap; · iexact H12
        ipureintro; exact View.read_writes_of_cover _ _ _ _ _ (cover0_A_12 c _ _ _ _ _ _ _ _ _ _ _ _ _ _ _ _ _ _ _ _ _ _ _ _ _ _ _ _ _ _ _ _ _ _ _ _ _ _ _ _ _ _ _ _ _ _ _ _)
      isplitl [H13]
      · unfold owns; iexists _; isplitr
        swap; · iexact H13
        ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _ _ _ _)
      isplitl [H14]
      · unfold owns; iexists _; isplitr
        swap; · iexact H14
        ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _ _)
      isplitl [H15]
      · unfold owns; iexists _; isplitr
        swap; · iexact H15
        ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _ _)
      unfold owns; iexists _; isplitr
      swap; · iexact H16
      ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _)
    · exfalso; have hN : t.val < 34 := lt_of_lt_of_eq t.isLt (show cfg0.N = 34 from N_0); omega
  · by_cases hz : t.val = 0
    · exfalso; have hN : t.val < 34 := lt_of_lt_of_eq t.isLt (show cfg0.N = 34 from N_0); omega
    · rw [PhiS_castSucc m c t, PhiS_pos m c _ _ hz]
      rw [outsAt0_B m c t h0]
      simp only [before0_16_B m c t h0]
      unfold out0_B_10 out0_B_11 out0_B_12 out0_B_13 out0_B_14 out0_B_15 out0_B_16 sout0_B_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
      iapply ((kernelRun0_B c (grid0.coords t) _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (X0_5 m c t) (X0_6 m c t) (iblk m c 7 t) (iblk m c 8 t) (iblk m c 9 t) _ _).2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexists _; iexact H11
      isplitl [H12]; · iexists _; iexact H12
      isplitl [H13]; · iexists _; iexact H13
      isplitl [H14]; · iexists _; iexact H14
      isplitl [H15]; · iexists _; iexact H15
      isplitl [H16]; · iexact H16
      isplitl [HS0]; · iexact HS0
      iintro ⟨H0, H1, H2, H3, H4, H5, H6, H7, H8, H9, ⟨%e10, H10⟩, ⟨%e11, H11⟩, ⟨%e12, H12⟩, ⟨%e13, H13⟩, ⟨%e14, H14⟩, ⟨%e15, H15⟩, ⟨%e16, H16⟩, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]
      · unfold owns; iexists _; isplitr
        swap; · iexact H10
        ipureintro; exact View.read_writes_of_cover _ _ _ _ _ (cover0_B_10 c _ _ _ _ _ _ _ _ _ _ _ _ _ _ _ _ _ _ _ _ _ _ _ _ _ _ _ _ _ _ _ _ _ _ _ _ _ _ _ _ _ _ _ _ _ _ _ _ _ _)
      isplitl [H11]
      · unfold owns; iexists _; isplitr
        swap; · iexact H11
        ipureintro; exact View.read_writes_of_cover _ _ _ _ _ (cover0_B_11 c _ _ _ _ _ _ _ _ _ _ _ _ _ _ _ _ _ _ _ _ _ _ _ _ _ _ _ _ _ _ _ _ _ _ _ _ _ _ _ _ _ _ _ _ _ _ _ _ _ _)
      isplitl [H12]
      · unfold owns; iexists _; isplitr
        swap; · iexact H12
        ipureintro; exact View.read_writes_of_cover _ _ _ _ _ (cover0_B_12 c _ _ _ _ _ _ _ _ _ _ _ _ _ _ _ _ _ _ _ _ _ _ _ _ _ _ _ _ _ _ _ _ _ _ _ _ _ _ _ _ _ _ _ _ _ _ _ _ _ _)
      isplitl [H13]
      · unfold owns; iexists _; isplitr
        swap; · iexact H13
        ipureintro; exact View.read_writes_of_cover _ _ _ _ _ (cover0_B_13 c _ _ _ _ _ _ _ _ _ _ _ _ _ _ _ _ _ _ _ _ _ _ _ _ _ _ _ _ _ _ _ _ _ _ _ _ _ _ _ _ _ _ _ _ _ _ _ _ _ _)
      isplitl [H14]
      · unfold owns; iexists _; isplitr
        swap; · iexact H14
        ipureintro; exact View.read_writes_of_cover _ _ _ _ _ (cover0_B_14 c _ _ _ _ _ _ _ _ _ _ _ _ _ _ _ _ _ _ _ _ _ _ _ _ _ _ _ _ _ _ _ _ _ _ _ _ _ _ _ _ _ _ _ _ _ _ _ _ _ _)
      isplitl [H15]
      · unfold owns; iexists _; isplitr
        swap; · iexact H15
        ipureintro; exact View.read_writes_of_cover _ _ _ _ _ (cover0_B_15 c _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H16
      ipureintro; exact View.read_writes_of_cover _ _ _ _ _ (cover0_B_16 c _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 34 := N_0; omega)

/-! ## The run and the frame -/

-- `θ_run_frame_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The frame, with every semaphore counter at zero at the end. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.KernelIdeal.Gen

end
-- ==== Proof.Spec.lean ====
/- The gradient of the chunked retention in plain sums over the extended reals: what one chunk of one head contributes,
   the gradient of the state carried from the last chunk to the first, and the arrays of the two directions laid out in
   scan order. Both programs' results are compared with these functions. -/
module

public import Idealize.ShloMosaic.Lib.Pointwise

@[expose] public section

set_option maxRecDepth 16384

noncomputable section

namespace Cert.Ret

open Idealize.ShloMosaic

/-- A natural number as an extended real. -/
abbrev nat (n : ℕ) : EReal := ((n : ℝ) : EReal)

/-- The decay `exp ((i - j) l)` between two positions of a chunk, zero above the diagonal. -/
def dec (l : EReal) (i j : Fin 128) : EReal := if j.val ≤ i.val then Ideal.exp (nat (i.val - j.val) * l) else 0
/-- The distance `i - j`, zero above the diagonal. -/
def dist (i j : Fin 128) : EReal := nat (i.val - j.val)
/-- The number of positions up to and including `i`. -/
def cxi (i : Fin 128) : EReal := nat (i.val + 1)
/-- The number of positions after `j`. -/
def cze (j : Fin 128) : EReal := nat (127 - j.val)
/-- The decay from the chunk's start to position `i`. -/
def xi (l : EReal) (i : Fin 128) : EReal := Ideal.exp (cxi i * l)
/-- The decay from position `j` to the chunk's end. -/
def ze (l : EReal) (j : Fin 128) : EReal := Ideal.exp (cze j * l)
/-- The decay over a whole chunk. -/
def gam (l : EReal) : EReal := Ideal.exp (nat 128 * l)

/-- The logarithm of the logistic function, as both programs compute it. -/
def logSig (x : EReal) : EReal := -(max (-x) 0 + Ideal.log1p (Ideal.exp (-(FloatOps.absf (F := Ideal) (φ := .f32) (-x)))))

section chunk

variable (D dp : Fin 128 → Fin 128 → EReal) (x z cx cz : Fin 128 → EReal) (g cg : EReal)
variable (q k : Fin 128 → Fin 128 → EReal) (v o : Fin 128 → Fin 256 → EReal) (S T : Fin 128 → Fin 256 → EReal)

/-- The gradient of a chunk's queries: `o` is the gradient of its output, `S` the state before it. -/
def dqG (i a : Fin 128) : EReal :=
  (∑ j, ((∑ y, o i y * v j y) * D i j) * k j a) + ∑ y, (o i y * x i) * S a y

/-- The gradient of a chunk's keys: `T` is the gradient of the state after it. -/
def dkG (j a : Fin 128) : EReal :=
  (∑ i, ((∑ y, o i y * v j y) * D i j) * q i a) + (∑ y, v j y * T a y) * z j

/-- The gradient of a chunk's values. -/
def dvG (j : Fin 128) (y : Fin 256) : EReal :=
  (∑ i, ((∑ a, q i a * k j a) * D i j) * o i y) + ∑ a, (k j a * z j) * T a y

/-- The gradient of the state before a chunk from the gradient `T` of the state after it. -/
def dsG (a : Fin 128) (y : Fin 256) : EReal :=
  g * T a y + ∑ i, q i a * (o i y * x i)

/-- A chunk's share of the gradient of the log decay. -/
def dlG : EReal :=
  ((∑ i, ∑ j, ((∑ y, o i y * v j y) * ((∑ a, q i a * k j a) * D i j)) * dp i j)
    + (∑ i, ∑ y, (o i y * ∑ a, q i a * S a y) * (cx i * x i))
    + (∑ j, ∑ a, (k j a * ∑ y, v j y * T a y) * (cz j * z j)))
  + ∑ y, (∑ a, T a y * S a y) * (g * cg)

/-- The sum over the positions of a chunk may run from the last to the first. -/
theorem sum_rev {M : Type} [AddCommMonoid M] (f : Fin 128 → M) : ∑ i, f (Fin.rev i) = ∑ i, f i :=
  Equiv.sum_comp Fin.revPerm f

theorem dqG_rev (i a : Fin 128) :
    dqG (fun a b => D a.rev b.rev) (fun a => x a.rev) k v o S i a
      = dqG D x (fun j => k j.rev) (fun j => v j.rev) (fun j => o j.rev) S i.rev a := by
  unfold dqG
  rw [← sum_rev (fun j => (∑ y, o i y * v j y) * D i.rev j.rev * k j a)]
  simp only [Fin.rev_rev]

theorem dkG_rev (j a : Fin 128) :
    dkG (fun a b => D a.rev b.rev) (fun a => z a.rev) q v o T j a
      = dkG D z (fun j => q j.rev) (fun j => v j.rev) (fun j => o j.rev) T j.rev a := by
  unfold dkG
  rw [← sum_rev (fun i => (∑ y, o i y * v j y) * D i.rev j.rev * q i a)]
  simp only [Fin.rev_rev]

theorem dvG_rev (j : Fin 128) (y : Fin 256) :
    dvG (fun a b => D a.rev b.rev) (fun a => z a.rev) q k o T j y
      = dvG D z (fun j => q j.rev) (fun j => k j.rev) (fun j => o j.rev) T j.rev y := by
  unfold dvG
  rw [← sum_rev (fun i => (∑ a, q i a * k j a) * D i.rev j.rev * o i y)]
  simp only [Fin.rev_rev]

theorem dsG_rev (a : Fin 128) (y : Fin 256) :
    dsG (fun a => x a.rev) g q o T a y = dsG x g (fun j => q j.rev) (fun j => o j.rev) T a y := by
  unfold dsG
  rw [← sum_rev (fun i => q i a * (o i y * x i.rev))]
  simp only [Fin.rev_rev]

theorem dlG_rev :
    dlG (fun a b => D a.rev b.rev) (fun a b => dp a.rev b.rev) (fun a => x a.rev) (fun a => z a.rev) (fun a => cx a.rev)
        (fun a => cz a.rev) g cg q k v o S T
      = dlG D dp x z cx cz g cg (fun j => q j.rev) (fun j => k j.rev) (fun j => v j.rev) (fun j => o j.rev) S T := by
  unfold dlG
  rw [← sum_rev (fun i => ∑ j, ((∑ y, o i y * v j y) * ((∑ a, q i a * k j a) * D i.rev j.rev)) * dp i.rev j.rev),
    ← sum_rev (fun i => ∑ y, (o i y * ∑ a, q i a * S a y) * (cx i.rev * x i.rev)),
    ← sum_rev (fun j => ∑ a, (k j a * ∑ y, v j y * T a y) * (cz j.rev * z j.rev))]
  simp only [Fin.rev_rev]
  simp only [← sum_rev (fun j => ((∑ y, o _ y * v j y) * ((∑ a, q _ a * k j a) * D _ j.rev)) * dp _ j.rev), Fin.rev_rev]

end chunk

/-- The step's arrays at (direction, head, chunk in scan order, position in scan order, lane). -/
structure Arrays where
  /-- the log decay -/
  l : Fin 2 → Fin 4 → EReal
  /-- queries, rotated -/
  q : Fin 2 → Fin 4 → ℕ → Fin 128 → Fin 128 → EReal
  /-- keys, rotated -/
  k : Fin 2 → Fin 4 → ℕ → Fin 128 → Fin 128 → EReal
  /-- values -/
  v : Fin 2 → Fin 4 → ℕ → Fin 128 → Fin 256 → EReal
  /-- gradient of the output -/
  o : Fin 2 → Fin 4 → ℕ → Fin 128 → Fin 256 → EReal
  /-- states before the chunks -/
  S : Fin 2 → Fin 4 → ℕ → Fin 128 → Fin 256 → EReal

namespace Arrays

variable (X : Arrays) (d : Fin 2) (h : Fin 4)

/-- The gradient of the state after `n` chunks, counted from the last. -/
def T : ℕ → Fin 128 → Fin 256 → EReal
  | 0 => fun _ _ => 0
  | n + 1 => dsG (xi (X.l d h)) (gam (X.l d h)) (X.q d h (33 - n)) (X.o d h (33 - n)) (T n)

/-- The gradients at the chunk treated after `n` others. -/
def dq (n : ℕ) : Fin 128 → Fin 128 → EReal :=
  dqG (dec (X.l d h)) (xi (X.l d h)) (X.k d h (33 - n)) (X.v d h (33 - n)) (X.o d h (33 - n)) (X.S d h (33 - n))
@[inherit_doc dq] def dk (n : ℕ) : Fin 128 → Fin 128 → EReal :=
  dkG (dec (X.l d h)) (ze (X.l d h)) (X.q d h (33 - n)) (X.v d h (33 - n)) (X.o d h (33 - n)) (X.T d h n)
@[inherit_doc dq] def dv (n : ℕ) : Fin 128 → Fin 256 → EReal :=
  dvG (dec (X.l d h)) (ze (X.l d h)) (X.q d h (33 - n)) (X.k d h (33 - n)) (X.o d h (33 - n)) (X.T d h n)
@[inherit_doc dq] def dl (n : ℕ) : EReal :=
  dlG (dec (X.l d h)) dist (xi (X.l d h)) (ze (X.l d h)) cxi cze (gam (X.l d h)) (nat 128) (X.q d h (33 - n)) (X.k d h (33 - n))
    (X.v d h (33 - n)) (X.o d h (33 - n)) (X.S d h (33 - n)) (X.T d h n)

end Arrays

/-- The row of position `i` of chunk `s`, in scan order: forward over the context's rows and then the latent's, or backward
    from the last row. -/
def row (d : Fin 2) (s : ℕ) (i : Fin 128) : Fin 4352 :=
  if d = 0 then ⟨(4096 + 128 * s + i.val) % 4352, Nat.mod_lt _ (by decide)⟩ else ⟨4351 - (128 * s + i.val), by omega⟩

/-- Lane `x` of head `h` among lanes of 128, and among lanes of 256. -/
def col (h : Fin 4) (x : Fin 128) : Fin 512 := ⟨h.val * 128 + x.val, by omega⟩
@[inherit_doc col] def colv (h : Fin 4) (y : Fin 256) : Fin 1024 := ⟨h.val * 256 + y.val, by omega⟩
/-- Lane `y` of head `h` of the values within the projected array. -/
def colP (h : Fin 4) (y : Fin 256) : Fin 5632 := ⟨1024 + (h.val * 256 + y.val), by omega⟩

/-- The arrays in scan order, of the step's arrays. -/
def arrays (l : Fin 2 → Fin 4 → EReal) (q k : Fin 4352 → Fin 512 → EReal) (P : Fin 4352 → Fin 5632 → EReal)
    (S : Fin 2 → Fin 4 → Fin 34 → Fin 128 → Fin 256 → EReal) (o : Fin 4352 → Fin 1024 → EReal) : Arrays where
  l := l
  q d h s i x := q (row d s i) (col h x)
  k d h s i x := k (row d s i) (col h x)
  v d h s i y := P (row d s i) (colP h y)
  o d h s i y := o (row d s i) (colv h y)
  S d h s x y := S d h ⟨s % 34, Nat.mod_lt _ (by decide)⟩ x y

end Cert.Ret

end
-- ==== Proof.BwdPoint.lean ====
/- What the kernel's body leaves at one position of the grid: each window's block and the carried state at an index, as
   the sums of one chunk's gradient over the blocks the position reads. -/
module

public import proofs.«01_k».proof.Proof.RunBwd
public import proofs.«01_k».proof.Proof.Spec
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelIdeal.Point

open Cert.Ret Cert.KernelIdeal Cert.KernelIdeal.Gen

/-- Where the last `n` stores cover an index, what was stored before does not matter. -/
theorem canon_take {S : Shape} {e : EltTy} (n : ℕ) (L : List (View.Piece (Elt Ideal) S e)) (y : S.Idx)
    (h : ∃ p ∈ L.take n, y ∈ p.1.set) : View.canon L y = View.canon (L.take n) y := by
  induction L generalizing n with
  | nil => simp
  | cons p L ih =>
    cases n with
    | zero => obtain ⟨q, hq, _⟩ := h; simp at hq
    | succ n =>
      rw [List.take_succ_cons]
      by_cases hm : y ∈ p.1.set
      · obtain ⟨x, rfl⟩ := p.1.exists_idx_of_mem hm
        rw [show p.1.idx x = p.1.emb x from rfl, View.canon_cons_emb, View.canon_cons_emb]
      · rw [View.canon_cons_of_not_mem _ _ hm, View.canon_cons_of_not_mem _ _ hm]
        refine ih n ?_
        obtain ⟨q, hq, hy⟩ := h
        rw [List.take_succ_cons, List.mem_cons] at hq
        rcases hq with rfl | hq
        · exact absurd hy hm
        · exact ⟨q, hq, hy⟩

variable (m : (ℓ : Loc nD τ sig) → Buf (Elt Ideal) ℓ)

/-- A row number as the body computes it. -/
def fl (i : Fin 128) : EReal := FloatOps.sitofp (F := Ideal) FTy.f32 (BitVec.ofNat 32 ↑i)
/-- A difference of row numbers as the body computes it. -/
def fd (i j : Fin 128) : EReal :=
  FloatOps.sitofp (F := Ideal) FTy.f32 (IntOp.subi (BitVec.ofNat 32 ↑i) (BitVec.ofNat 32 ↑j))
/-- The chunk's length as the body holds it. -/
def kc : EReal := Ideal.ofBits FTy.f32 1124073472#32
/-- The decay between two rows, forward. -/
def kdec0 (l : EReal) (i j : Fin 128) : EReal := if 0 ≤ fd i j then Ideal.exp (max (fd i j) 0 * l) else 0
/-- The decay between two rows, backward. -/
def kdec1 (l : EReal) (i j : Fin 128) : EReal := if 0 ≤ fd j i then Ideal.exp (max (fd j i) 0 * l) else 0
/-- The distance of two rows, forward. -/
def kdp0 (i j : Fin 128) : EReal := max (fd i j) 0
/-- The distance of two rows, backward. -/
def kdp1 (i j : Fin 128) : EReal := max (fd j i) 0
/-- The rows up to and including a row, forward. -/
def kcx0 (i : Fin 128) : EReal := fl i + 1
/-- The rows up to and including a row, backward. -/
def kcx1 (i : Fin 128) : EReal := kc - fl i
/-- The rows after a row, forward. -/
def kcz0 (i : Fin 128) : EReal := Ideal.ofBits FTy.f32 1123942400#32 - fl i
/-- The rows after a row, backward. -/
def kcz1 (i : Fin 128) : EReal := fl i

variable (c : Dev nD) (t : Fin cfg0.N)

/-- The log decay of a head. -/
def lB (d : Fin 2) (h : Fin 4) : EReal := iblk m c 0 t (ix2 d h)
/-- The blocks read at a position, by head: queries, keys, values, gradient of the output, states. -/
def q0 (h : Fin 4) (i a : Fin 128) : EReal := iblk m c 1 t (ix2 i (col h a))
@[inherit_doc q0] def q1 (h : Fin 4) (i a : Fin 128) : EReal := iblk m c 2 t (ix2 i (col h a))
@[inherit_doc q0] def k0 (h : Fin 4) (i a : Fin 128) : EReal := iblk m c 3 t (ix2 i (col h a))
@[inherit_doc q0] def k1 (h : Fin 4) (i a : Fin 128) : EReal := iblk m c 4 t (ix2 i (col h a))
@[inherit_doc q0] def v0 (h : Fin 4) (i : Fin 128) (y : Fin 256) : EReal := X0_5 m c t (ix2 i (colv h y))
@[inherit_doc q0] def v1 (h : Fin 4) (i : Fin 128) (y : Fin 256) : EReal := X0_6 m c t (ix2 i (colv h y))
@[inherit_doc q0] def o0 (h : Fin 4) (i : Fin 128) (y : Fin 256) : EReal := iblk m c 8 t (ix2 i (colv h y))
@[inherit_doc q0] def o1 (h : Fin 4) (i : Fin 128) (y : Fin 256) : EReal := iblk m c 9 t (ix2 i (colv h y))
@[inherit_doc q0] def sB (d : Fin 2) (h : Fin 4) (a : Fin 128) (y : Fin 256) : EReal := iblk m c 7 t (ix5 d h 0 a y)
/-- What the position before left. -/
abbrev prev := outsAt0 m c (t.val - 1) (Nat.lt_of_le_of_lt (Nat.sub_le _ _) t.isLt)
/-- The carried gradient of the state a position finds: zero at the first position of a pass. -/
def pre (d : Fin 2) (h : Fin 4) (a : Fin 128) (y : Fin 256) : EReal :=
  if t.val % 34 = 0 then 0 else (prev m c t).2.2.2.2.2.2.2 (ix4 d h a y)

/-- The block of the queries' gradient, forward. -/
theorem dq0_at (h : Fin 4) (r a : Fin 128) :
    (outsAt0 m c t.val t.isLt).1 (ix2 r (col h a) : S128x512.Idx)
      = dqG (kdec0 (lB m c t 0 h)) (fun i => Ideal.exp (kcx0 i * (lB m c t 0 h))) (k0 m c t h) (v0 m c t h) (o0 m c t h) (sB m c t 0 h) r a := by
  obtain ⟨h, hh⟩ := h
  by_cases h0 : t.val % 34 = 0
  · rw [outsAt0_A m c t h0]; dsimp only; frame_open
    try (simp (disch := decide) only [↓ View.readCov_skip, ↓ View.readCov_cons_toLoadRect, ↓ View.readCov_fill])
    frame_out
    canon_tiles x e
    all_goals
      idx_vars x
      try simp only [ix2_0, ix2_1, col, colv, Fin.val_zero, Fin.val_one, Nat.add_zero] at e0 e1
      try (rcases Fin.ext e0 with rfl)
      try rcases (show h = 0 ∨ h = 1 ∨ h = 2 ∨ h = 3 by omega) with rfl | rfl | rfl | rfl
    all_goals try (exfalso; omega)
    all_goals
      open_payloads
      pointwise [View.ld, read_unread_whole, dqG, dkG, dvG, dsG, dlG, kdec0, kdec1, kdp0, kdp1, kcx0, kcx1, kcz0, kcz1, kc, fd, fl, lB, q0, q1, k0, k1, v0, v1, o0, o1, sB]
      blk_point [col, colv]
  · rw [outsAt0_B m c t h0]; dsimp only; frame_open
    try (simp (disch := decide) only [↓ View.readCov_skip, ↓ View.readCov_cons_toLoadRect, ↓ View.readCov_fill])
    frame_out
    canon_tiles x e
    all_goals
      idx_vars x
      try simp only [ix2_0, ix2_1, col, colv, Fin.val_zero, Fin.val_one, Nat.add_zero] at e0 e1
      try (rcases Fin.ext e0 with rfl)
      try rcases (show h = 0 ∨ h = 1 ∨ h = 2 ∨ h = 3 by omega) with rfl | rfl | rfl | rfl
    all_goals try (exfalso; omega)
    all_goals
      open_payloads
      pointwise [View.ld, read_unread_whole, dqG, dkG, dvG, dsG, dlG, kdec0, kdec1, kdp0, kdp1, kcx0, kcx1, kcz0, kcz1, kc, fd, fl, lB, q0, q1, k0, k1, v0, v1, o0, o1, sB]
      blk_point [col, colv]

/-- The block of the keys' gradient, forward. -/
theorem dk0_at (h : Fin 4) (r a : Fin 128) :
    (outsAt0 m c t.val t.isLt).2.2.1 (ix2 r (col h a) : S128x512.Idx)
      = dkG (kdec0 (lB m c t 0 h)) (fun i => Ideal.exp (kcz0 i * (lB m c t 0 h))) (q0 m c t h) (v0 m c t h) (o0 m c t h) (pre m c t 0 h) r a := by
  obtain ⟨h, hh⟩ := h
  by_cases h0 : t.val % 34 = 0
  · have hp : ∀ d h, pre m c t d h = fun _ _ => 0 := fun d h => by funext a y; exact if_pos h0
    simp only [hp]
    rw [outsAt0_A m c t h0]; dsimp only; frame_open
    try (simp (disch := decide) only [↓ View.readCov_skip, ↓ View.readCov_cons_toLoadRect, ↓ View.readCov_fill])
    frame_out
    canon_tiles x e
    all_goals
      idx_vars x
      try simp only [ix2_0, ix2_1, col, colv, Fin.val_zero, Fin.val_one, Nat.add_zero] at e0 e1
      try (rcases Fin.ext e0 with rfl)
      try rcases (show h = 0 ∨ h = 1 ∨ h = 2 ∨ h = 3 by omega) with rfl | rfl | rfl | rfl
    all_goals try (exfalso; omega)
    all_goals
      open_payloads
      pointwise [View.ld, read_unread_whole, dqG, dkG, dvG, dsG, dlG, kdec0, kdec1, kdp0, kdp1, kcx0, kcx1, kcz0, kcz1, kc, fd, fl, lB, q0, q1, k0, k1, v0, v1, o0, o1, sB]
      blk_point [col, colv]
  · have hp : ∀ d h, pre m c t d h = fun a y => (prev m c t).2.2.2.2.2.2.2 (ix4 d h a y) := fun d h => by funext a y; exact if_neg h0
    simp only [hp, prev]
    rw [outsAt0_B m c t h0]; dsimp only; frame_open
    try (simp (disch := decide) only [↓ View.readCov_skip, ↓ View.readCov_cons_toLoadRect, ↓ View.readCov_fill])
    frame_out
    canon_tiles x e
    all_goals
      idx_vars x
      try simp only [ix2_0, ix2_1, col, colv, Fin.val_zero, Fin.val_one, Nat.add_zero] at e0 e1
      try (rcases Fin.ext e0 with rfl)
      try rcases (show h = 0 ∨ h = 1 ∨ h = 2 ∨ h = 3 by omega) with rfl | rfl | rfl | rfl
    all_goals try (exfalso; omega)
    all_goals
      open_payloads
      pointwise [View.ld, read_unread_whole, dqG, dkG, dvG, dsG, dlG, kdec0, kdec1, kdp0, kdp1, kcx0, kcx1, kcz0, kcz1, kc, fd, fl, lB, q0, q1, k0, k1, v0, v1, o0, o1, sB]
      blk_point [col, colv]

/-- The block of the values' gradient, forward. -/
theorem dv0_at (h : Fin 4) (r : Fin 128) (y : Fin 256) :
    (outsAt0 m c t.val t.isLt).2.2.2.2.1 (ix2 r (colv h y) : S128x1024.Idx)
      = dvG (kdec0 (lB m c t 0 h)) (fun i => Ideal.exp (kcz0 i * (lB m c t 0 h))) (q0 m c t h) (k0 m c t h) (o0 m c t h) (pre m c t 0 h) r y := by
  obtain ⟨h, hh⟩ := h
  by_cases h0 : t.val % 34 = 0
  · have hp : ∀ d h, pre m c t d h = fun _ _ => 0 := fun d h => by funext a y; exact if_pos h0
    simp only [hp]
    rw [outsAt0_A m c t h0]; dsimp only; frame_open
    try (simp (disch := decide) only [↓ View.readCov_skip, ↓ View.readCov_cons_toLoadRect, ↓ View.readCov_fill])
    frame_out
    canon_tiles x e
    all_goals
      idx_vars x
      try simp only [ix2_0, ix2_1, col, colv, Fin.val_zero, Fin.val_one, Nat.add_zero] at e0 e1
      try (rcases Fin.ext e0 with rfl)
      try rcases (show h = 0 ∨ h = 1 ∨ h = 2 ∨ h = 3 by omega) with rfl | rfl | rfl | rfl
    all_goals try (exfalso; omega)
    all_goals
      open_payloads
      pointwise [View.ld, read_unread_whole, dqG, dkG, dvG, dsG, dlG, kdec0, kdec1, kdp0, kdp1, kcx0, kcx1, kcz0, kcz1, kc, fd, fl, lB, q0, q1, k0, k1, v0, v1, o0, o1, sB]
      blk_point [col, colv]
  · have hp : ∀ d h, pre m c t d h = fun a y => (prev m c t).2.2.2.2.2.2.2 (ix4 d h a y) := fun d h => by funext a y; exact if_neg h0
    simp only [hp, prev]
    rw [outsAt0_B m c t h0]; dsimp only; frame_open
    try (simp (disch := decide) only [↓ View.readCov_skip, ↓ View.readCov_cons_toLoadRect, ↓ View.readCov_fill])
    frame_out
    canon_tiles x e
    all_goals
      idx_vars x
      try simp only [ix2_0, ix2_1, col, colv, Fin.val_zero, Fin.val_one, Nat.add_zero] at e0 e1
      try (rcases Fin.ext e0 with rfl)
      try rcases (show h = 0 ∨ h = 1 ∨ h = 2 ∨ h = 3 by omega) with rfl | rfl | rfl | rfl
    all_goals try (exfalso; omega)
    all_goals
      open_payloads
      pointwise [View.ld, read_unread_whole, dqG, dkG, dvG, dsG, dlG, kdec0, kdec1, kdp0, kdp1, kcx0, kcx1, kcz0, kcz1, kc, fd, fl, lB, q0, q1, k0, k1, v0, v1, o0, o1, sB]
      blk_point [col, colv]

/-- The carried gradient of the state, forward. -/
theorem ds0_at (h : Fin 4) (r : Fin 128) (y : Fin 256) :
    (outsAt0 m c t.val t.isLt).2.2.2.2.2.2.2 (ix4 0 h r y : S2x4x128x256.Idx)
      = dsG (fun i => Ideal.exp (kcx0 i * (lB m c t 0 h))) (Ideal.exp (kc * (lB m c t 0 h))) (q0 m c t h) (o0 m c t h) (pre m c t 0 h) r y := by
  obtain ⟨h, hh⟩ := h
  by_cases h0 : t.val % 34 = 0
  · have hp : ∀ d h, pre m c t d h = fun _ _ => 0 := fun d h => by funext a y; exact if_pos h0
    simp only [hp]
    rw [outsAt0_A m c t h0]; dsimp only; frame_open
    try (simp (disch := decide) only [↓ View.readCov_skip, ↓ View.readCov_cons_toLoadRect, ↓ View.readCov_fill])
    frame_out
    rw [canon_take 8 _ _ (View.cover_of_tiled_head _ _ _ (by rfl) _)]; simp only [List.take_succ_cons, List.take_zero]
    canon_tiles x e
    all_goals
      idx_vars x
      try (rcases Subsingleton.elim x0 0 with rfl)
      try (rcases Subsingleton.elim x1 0 with rfl)
      try simp only [ix4_0, ix4_1, ix4_2, ix4_3, Fin.val_zero, Fin.val_one, Nat.add_zero] at e0 e1 e2 e3
      try (rcases Fin.ext e2 with rfl)
      try (rcases Fin.ext e3 with rfl)
      try rcases (show h = 0 ∨ h = 1 ∨ h = 2 ∨ h = 3 by omega) with rfl | rfl | rfl | rfl
    all_goals try (exfalso; omega)
    all_goals
      open_payloads
      pointwise [View.ld, read_unread_whole, dqG, dkG, dvG, dsG, dlG, kdec0, kdec1, kdp0, kdp1, kcx0, kcx1, kcz0, kcz1, kc, fd, fl, lB, q0, q1, k0, k1, v0, v1, o0, o1, sB]
      blk_point [col, colv]
  · have hp : ∀ d h, pre m c t d h = fun a y => (prev m c t).2.2.2.2.2.2.2 (ix4 d h a y) := fun d h => by funext a y; exact if_neg h0
    simp only [hp, prev]
    rw [outsAt0_B m c t h0]; dsimp only; frame_open
    try (simp (disch := decide) only [↓ View.readCov_skip, ↓ View.readCov_cons_toLoadRect, ↓ View.readCov_fill])
    frame_out
    canon_tiles x e
    all_goals
      idx_vars x
      try (rcases Subsingleton.elim x0 0 with rfl)
      try (rcases Subsingleton.elim x1 0 with rfl)
      try simp only [ix4_0, ix4_1, ix4_2, ix4_3, Fin.val_zero, Fin.val_one, Nat.add_zero] at e0 e1 e2 e3
      try (rcases Fin.ext e2 with rfl)
      try (rcases Fin.ext e3 with rfl)
      try rcases (show h = 0 ∨ h = 1 ∨ h = 2 ∨ h = 3 by omega) with rfl | rfl | rfl | rfl
    all_goals try (exfalso; omega)
    all_goals
      open_payloads
      pointwise [View.ld, read_unread_whole, dqG, dkG, dvG, dsG, dlG, kdec0, kdec1, kdp0, kdp1, kcx0, kcx1, kcz0, kcz1, kc, fd, fl, lB, q0, q1, k0, k1, v0, v1, o0, o1, sB]
      blk_point [col, colv]

/-- The log decay's gradient, forward, at the first position. -/
theorem dl0_atA (h : Fin 4) (r : Fin 8) (y : Fin 128) (h0 : t.val % 34 = 0) :
    (outsAt0 m c t.val t.isLt).2.2.2.2.2.2.1 (ix4 0 h r y : S2x4x8x128.Idx)
      = dlG (kdec0 (lB m c t 0 h)) kdp0 (fun i => Ideal.exp (kcx0 i * (lB m c t 0 h))) (fun i => Ideal.exp (kcz0 i * (lB m c t 0 h))) kcx0 kcz0 (Ideal.exp (kc * (lB m c t 0 h))) kc (q0 m c t h) (k0 m c t h) (v0 m c t h) (o0 m c t h) (sB m c t 0 h) (pre m c t 0 h) := by
  obtain ⟨h, hh⟩ := h
  · have hp : ∀ d h, pre m c t d h = fun _ _ => 0 := fun d h => by funext a y; exact if_pos h0
    simp only [hp]
    rw [outsAt0_A m c t h0]; dsimp only; frame_open
    try (simp (disch := decide) only [↓ View.readCov_skip, ↓ View.readCov_cons_toLoadRect, ↓ View.readCov_fill])
    frame_out
    rw [canon_take 8 _ _ (View.cover_of_tiled_head _ _ _ (by rfl) _)]; simp only [List.take_succ_cons, List.take_zero]
    canon_tiles x e
    all_goals
      idx_vars x
      try (rcases Subsingleton.elim x0 0 with rfl)
      try (rcases Subsingleton.elim x1 0 with rfl)
      try simp only [ix4_0, ix4_1, ix4_2, ix4_3, Fin.val_zero, Fin.val_one, Nat.add_zero] at e0 e1 e2 e3
      try (rcases Fin.ext e2 with rfl)
      try (rcases Fin.ext e3 with rfl)
      try rcases (show h = 0 ∨ h = 1 ∨ h = 2 ∨ h = 3 by omega) with rfl | rfl | rfl | rfl
    all_goals try (exfalso; omega)
    all_goals
      open_payloads
      pointwise [View.ld, read_unread_whole, dqG, dkG, dvG, dsG, dlG, kdec0, kdec1, kdp0, kdp1, kcx0, kcx1, kcz0, kcz1, kc, fd, fl, lB, q0, q1, k0, k1, v0, v1, o0, o1, sB]
      blk_point [col, colv]

/-- The log decay's gradient, forward, after the first position, added to what the position before left. -/
theorem dl0_atB (h : Fin 4) (r : Fin 8) (y : Fin 128) (h0 : ¬t.val % 34 = 0) :
    (outsAt0 m c t.val t.isLt).2.2.2.2.2.2.1 (ix4 0 h r y : S2x4x8x128.Idx)
      = (prev m c t).2.2.2.2.2.2.1 (ix4 0 h r y : S2x4x8x128.Idx) + dlG (kdec0 (lB m c t 0 h)) kdp0 (fun i => Ideal.exp (kcx0 i * (lB m c t 0 h))) (fun i => Ideal.exp (kcz0 i * (lB m c t 0 h))) kcx0 kcz0 (Ideal.exp (kc * (lB m c t 0 h))) kc (q0 m c t h) (k0 m c t h) (v0 m c t h) (o0 m c t h) (sB m c t 0 h) (pre m c t 0 h) := by
  obtain ⟨h, hh⟩ := h
  · have hp : ∀ d h, pre m c t d h = fun a y => (prev m c t).2.2.2.2.2.2.2 (ix4 d h a y) := fun d h => by funext a y; exact if_neg h0
    simp only [hp, prev]
    rw [outsAt0_B m c t h0]; dsimp only; frame_open
    try (simp (disch := decide) only [↓ View.readCov_skip, ↓ View.readCov_cons_toLoadRect, ↓ View.readCov_fill])
    frame_out
    canon_tiles x e
    all_goals
      idx_vars x
      try (rcases Subsingleton.elim x0 0 with rfl)
      try (rcases Subsingleton.elim x1 0 with rfl)
      try simp only [ix4_0, ix4_1, ix4_2, ix4_3, Fin.val_zero, Fin.val_one, Nat.add_zero] at e0 e1 e2 e3
      try (rcases Fin.ext e2 with rfl)
      try (rcases Fin.ext e3 with rfl)
      try rcases (show h = 0 ∨ h = 1 ∨ h = 2 ∨ h = 3 by omega) with rfl | rfl | rfl | rfl
    all_goals try (exfalso; omega)
    all_goals
      open_payloads
      pointwise [View.ld, read_unread_whole, dqG, dkG, dvG, dsG, dlG, kdec0, kdec1, kdp0, kdp1, kcx0, kcx1, kcz0, kcz1, kc, fd, fl, lB, q0, q1, k0, k1, v0, v1, o0, o1, sB]
      blk_point [col, colv]

/-- The block of the queries' gradient, backward. -/
theorem dq1_at (h : Fin 4) (r a : Fin 128) :
    (outsAt0 m c t.val t.isLt).2.1 (ix2 r (col h a) : S128x512.Idx)
      = dqG (kdec1 (lB m c t 1 h)) (fun i => Ideal.exp (kcx1 i * (lB m c t 1 h))) (k1 m c t h) (v1 m c t h) (o1 m c t h) (sB m c t 1 h) r a := by
  obtain ⟨h, hh⟩ := h
  by_cases h0 : t.val % 34 = 0
  · rw [outsAt0_A m c t h0]; dsimp only; frame_open
    try (simp (disch := decide) only [↓ View.readCov_skip, ↓ View.readCov_cons_toLoadRect, ↓ View.readCov_fill])
    frame_out
    canon_tiles x e
    all_goals
      idx_vars x
      try simp only [ix2_0, ix2_1, col, colv, Fin.val_zero, Fin.val_one, Nat.add_zero] at e0 e1
      try (rcases Fin.ext e0 with rfl)
      try rcases (show h = 0 ∨ h = 1 ∨ h = 2 ∨ h = 3 by omega) with rfl | rfl | rfl | rfl
    all_goals try (exfalso; omega)
    all_goals
      open_payloads
      pointwise [View.ld, read_unread_whole, dqG, dkG, dvG, dsG, dlG, kdec0, kdec1, kdp0, kdp1, kcx0, kcx1, kcz0, kcz1, kc, fd, fl, lB, q0, q1, k0, k1, v0, v1, o0, o1, sB]
      blk_point [col, colv]
  · rw [outsAt0_B m c t h0]; dsimp only; frame_open
    try (simp (disch := decide) only [↓ View.readCov_skip, ↓ View.readCov_cons_toLoadRect, ↓ View.readCov_fill])
    frame_out
    canon_tiles x e
    all_goals
      idx_vars x
      try simp only [ix2_0, ix2_1, col, colv, Fin.val_zero, Fin.val_one, Nat.add_zero] at e0 e1
      try (rcases Fin.ext e0 with rfl)
      try rcases (show h = 0 ∨ h = 1 ∨ h = 2 ∨ h = 3 by omega) with rfl | rfl | rfl | rfl
    all_goals try (exfalso; omega)
    all_goals
      open_payloads
      pointwise [View.ld, read_unread_whole, dqG, dkG, dvG, dsG, dlG, kdec0, kdec1, kdp0, kdp1, kcx0, kcx1, kcz0, kcz1, kc, fd, fl, lB, q0, q1, k0, k1, v0, v1, o0, o1, sB]
      blk_point [col, colv]

/-- The block of the keys' gradient, backward. -/
theorem dk1_at (h : Fin 4) (r a : Fin 128) :
    (outsAt0 m c t.val t.isLt).2.2.2.1 (ix2 r (col h a) : S128x512.Idx)
      = dkG (kdec1 (lB m c t 1 h)) (fun i => Ideal.exp (kcz1 i * (lB m c t 1 h))) (q1 m c t h) (v1 m c t h) (o1 m c t h) (pre m c t 1 h) r a := by
  obtain ⟨h, hh⟩ := h
  by_cases h0 : t.val % 34 = 0
  · have hp : ∀ d h, pre m c t d h = fun _ _ => 0 := fun d h => by funext a y; exact if_pos h0
    simp only [hp]
    rw [outsAt0_A m c t h0]; dsimp only; frame_open
    try (simp (disch := decide) only [↓ View.readCov_skip, ↓ View.readCov_cons_toLoadRect, ↓ View.readCov_fill])
    frame_out
    canon_tiles x e
    all_goals
      idx_vars x
      try simp only [ix2_0, ix2_1, col, colv, Fin.val_zero, Fin.val_one, Nat.add_zero] at e0 e1
      try (rcases Fin.ext e0 with rfl)
      try rcases (show h = 0 ∨ h = 1 ∨ h = 2 ∨ h = 3 by omega) with rfl | rfl | rfl | rfl
    all_goals try (exfalso; omega)
    all_goals
      open_payloads
      pointwise [View.ld, read_unread_whole, dqG, dkG, dvG, dsG, dlG, kdec0, kdec1, kdp0, kdp1, kcx0, kcx1, kcz0, kcz1, kc, fd, fl, lB, q0, q1, k0, k1, v0, v1, o0, o1, sB]
      blk_point [col, colv]
  · have hp : ∀ d h, pre m c t d h = fun a y => (prev m c t).2.2.2.2.2.2.2 (ix4 d h a y) := fun d h => by funext a y; exact if_neg h0
    simp only [hp, prev]
    rw [outsAt0_B m c t h0]; dsimp only; frame_open
    try (simp (disch := decide) only [↓ View.readCov_skip, ↓ View.readCov_cons_toLoadRect, ↓ View.readCov_fill])
    frame_out
    canon_tiles x e
    all_goals
      idx_vars x
      try simp only [ix2_0, ix2_1, col, colv, Fin.val_zero, Fin.val_one, Nat.add_zero] at e0 e1
      try (rcases Fin.ext e0 with rfl)
      try rcases (show h = 0 ∨ h = 1 ∨ h = 2 ∨ h = 3 by omega) with rfl | rfl | rfl | rfl
    all_goals try (exfalso; omega)
    all_goals
      open_payloads
      pointwise [View.ld, read_unread_whole, dqG, dkG, dvG, dsG, dlG, kdec0, kdec1, kdp0, kdp1, kcx0, kcx1, kcz0, kcz1, kc, fd, fl, lB, q0, q1, k0, k1, v0, v1, o0, o1, sB]
      blk_point [col, colv]

/-- The block of the values' gradient, backward. -/
theorem dv1_at (h : Fin 4) (r : Fin 128) (y : Fin 256) :
    (outsAt0 m c t.val t.isLt).2.2.2.2.2.1 (ix2 r (colv h y) : S128x1024.Idx)
      = dvG (kdec1 (lB m c t 1 h)) (fun i => Ideal.exp (kcz1 i * (lB m c t 1 h))) (q1 m c t h) (k1 m c t h) (o1 m c t h) (pre m c t 1 h) r y := by
  obtain ⟨h, hh⟩ := h
  by_cases h0 : t.val % 34 = 0
  · have hp : ∀ d h, pre m c t d h = fun _ _ => 0 := fun d h => by funext a y; exact if_pos h0
    simp only [hp]
    rw [outsAt0_A m c t h0]; dsimp only; frame_open
    try (simp (disch := decide) only [↓ View.readCov_skip, ↓ View.readCov_cons_toLoadRect, ↓ View.readCov_fill])
    frame_out
    canon_tiles x e
    all_goals
      idx_vars x
      try simp only [ix2_0, ix2_1, col, colv, Fin.val_zero, Fin.val_one, Nat.add_zero] at e0 e1
      try (rcases Fin.ext e0 with rfl)
      try rcases (show h = 0 ∨ h = 1 ∨ h = 2 ∨ h = 3 by omega) with rfl | rfl | rfl | rfl
    all_goals try (exfalso; omega)
    all_goals
      open_payloads
      pointwise [View.ld, read_unread_whole, dqG, dkG, dvG, dsG, dlG, kdec0, kdec1, kdp0, kdp1, kcx0, kcx1, kcz0, kcz1, kc, fd, fl, lB, q0, q1, k0, k1, v0, v1, o0, o1, sB]
      blk_point [col, colv]
  · have hp : ∀ d h, pre m c t d h = fun a y => (prev m c t).2.2.2.2.2.2.2 (ix4 d h a y) := fun d h => by funext a y; exact if_neg h0
    simp only [hp, prev]
    rw [outsAt0_B m c t h0]; dsimp only; frame_open
    try (simp (disch := decide) only [↓ View.readCov_skip, ↓ View.readCov_cons_toLoadRect, ↓ View.readCov_fill])
    frame_out
    canon_tiles x e
    all_goals
      idx_vars x
      try simp only [ix2_0, ix2_1, col, colv, Fin.val_zero, Fin.val_one, Nat.add_zero] at e0 e1
      try (rcases Fin.ext e0 with rfl)
      try rcases (show h = 0 ∨ h = 1 ∨ h = 2 ∨ h = 3 by omega) with rfl | rfl | rfl | rfl
    all_goals try (exfalso; omega)
    all_goals
      open_payloads
      pointwise [View.ld, read_unread_whole, dqG, dkG, dvG, dsG, dlG, kdec0, kdec1, kdp0, kdp1, kcx0, kcx1, kcz0, kcz1, kc, fd, fl, lB, q0, q1, k0, k1, v0, v1, o0, o1, sB]
      blk_point [col, colv]

/-- The carried gradient of the state, backward. -/
theorem ds1_at (h : Fin 4) (r : Fin 128) (y : Fin 256) :
    (outsAt0 m c t.val t.isLt).2.2.2.2.2.2.2 (ix4 1 h r y : S2x4x128x256.Idx)
      = dsG (fun i => Ideal.exp (kcx1 i * (lB m c t 1 h))) (Ideal.exp (kc * (lB m c t 1 h))) (q1 m c t h) (o1 m c t h) (pre m c t 1 h) r y := by
  obtain ⟨h, hh⟩ := h
  by_cases h0 : t.val % 34 = 0
  · have hp : ∀ d h, pre m c t d h = fun _ _ => 0 := fun d h => by funext a y; exact if_pos h0
    simp only [hp]
    rw [outsAt0_A m c t h0]; dsimp only; frame_open
    try (simp (disch := decide) only [↓ View.readCov_skip, ↓ View.readCov_cons_toLoadRect, ↓ View.readCov_fill])
    frame_out
    rw [canon_take 8 _ _ (View.cover_of_tiled_head _ _ _ (by rfl) _)]; simp only [List.take_succ_cons, List.take_zero]
    canon_tiles x e
    all_goals
      idx_vars x
      try (rcases Subsingleton.elim x0 0 with rfl)
      try (rcases Subsingleton.elim x1 0 with rfl)
      try simp only [ix4_0, ix4_1, ix4_2, ix4_3, Fin.val_zero, Fin.val_one, Nat.add_zero] at e0 e1 e2 e3
      try (rcases Fin.ext e2 with rfl)
      try (rcases Fin.ext e3 with rfl)
      try rcases (show h = 0 ∨ h = 1 ∨ h = 2 ∨ h = 3 by omega) with rfl | rfl | rfl | rfl
    all_goals try (exfalso; omega)
    all_goals
      open_payloads
      pointwise [View.ld, read_unread_whole, dqG, dkG, dvG, dsG, dlG, kdec0, kdec1, kdp0, kdp1, kcx0, kcx1, kcz0, kcz1, kc, fd, fl, lB, q0, q1, k0, k1, v0, v1, o0, o1, sB]
      blk_point [col, colv]
  · have hp : ∀ d h, pre m c t d h = fun a y => (prev m c t).2.2.2.2.2.2.2 (ix4 d h a y) := fun d h => by funext a y; exact if_neg h0
    simp only [hp, prev]
    rw [outsAt0_B m c t h0]; dsimp only; frame_open
    try (simp (disch := decide) only [↓ View.readCov_skip, ↓ View.readCov_cons_toLoadRect, ↓ View.readCov_fill])
    frame_out
    canon_tiles x e
    all_goals
      idx_vars x
      try (rcases Subsingleton.elim x0 0 with rfl)
      try (rcases Subsingleton.elim x1 0 with rfl)
      try simp only [ix4_0, ix4_1, ix4_2, ix4_3, Fin.val_zero, Fin.val_one, Nat.add_zero] at e0 e1 e2 e3
      try (rcases Fin.ext e2 with rfl)
      try (rcases Fin.ext e3 with rfl)
      try rcases (show h = 0 ∨ h = 1 ∨ h = 2 ∨ h = 3 by omega) with rfl | rfl | rfl | rfl
    all_goals try (exfalso; omega)
    all_goals
      open_payloads
      pointwise [View.ld, read_unread_whole, dqG, dkG, dvG, dsG, dlG, kdec0, kdec1, kdp0, kdp1, kcx0, kcx1, kcz0, kcz1, kc, fd, fl, lB, q0, q1, k0, k1, v0, v1, o0, o1, sB]
      blk_point [col, colv]

/-- The log decay's gradient, backward, at the first position. -/
theorem dl1_atA (h : Fin 4) (r : Fin 8) (y : Fin 128) (h0 : t.val % 34 = 0) :
    (outsAt0 m c t.val t.isLt).2.2.2.2.2.2.1 (ix4 1 h r y : S2x4x8x128.Idx)
      = dlG (kdec1 (lB m c t 1 h)) kdp1 (fun i => Ideal.exp (kcx1 i * (lB m c t 1 h))) (fun i => Ideal.exp (kcz1 i * (lB m c t 1 h))) kcx1 kcz1 (Ideal.exp (kc * (lB m c t 1 h))) kc (q1 m c t h) (k1 m c t h) (v1 m c t h) (o1 m c t h) (sB m c t 1 h) (pre m c t 1 h) := by
  obtain ⟨h, hh⟩ := h
  · have hp : ∀ d h, pre m c t d h = fun _ _ => 0 := fun d h => by funext a y; exact if_pos h0
    simp only [hp]
    rw [outsAt0_A m c t h0]; dsimp only; frame_open
    try (simp (disch := decide) only [↓ View.readCov_skip, ↓ View.readCov_cons_toLoadRect, ↓ View.readCov_fill])
    frame_out
    rw [canon_take 8 _ _ (View.cover_of_tiled_head _ _ _ (by rfl) _)]; simp only [List.take_succ_cons, List.take_zero]
    canon_tiles x e
    all_goals
      idx_vars x
      try (rcases Subsingleton.elim x0 0 with rfl)
      try (rcases Subsingleton.elim x1 0 with rfl)
      try simp only [ix4_0, ix4_1, ix4_2, ix4_3, Fin.val_zero, Fin.val_one, Nat.add_zero] at e0 e1 e2 e3
      try (rcases Fin.ext e2 with rfl)
      try (rcases Fin.ext e3 with rfl)
      try rcases (show h = 0 ∨ h = 1 ∨ h = 2 ∨ h = 3 by omega) with rfl | rfl | rfl | rfl
    all_goals try (exfalso; omega)
    all_goals
      open_payloads
      pointwise [View.ld, read_unread_whole, dqG, dkG, dvG, dsG, dlG, kdec0, kdec1, kdp0, kdp1, kcx0, kcx1, kcz0, kcz1, kc, fd, fl, lB, q0, q1, k0, k1, v0, v1, o0, o1, sB]
      blk_point [col, colv]

/-- The log decay's gradient, backward, after the first position, added to what the position before left. -/
theorem dl1_atB (h : Fin 4) (r : Fin 8) (y : Fin 128) (h0 : ¬t.val % 34 = 0) :
    (outsAt0 m c t.val t.isLt).2.2.2.2.2.2.1 (ix4 1 h r y : S2x4x8x128.Idx)
      = (prev m c t).2.2.2.2.2.2.1 (ix4 1 h r y : S2x4x8x128.Idx) + dlG (kdec1 (lB m c t 1 h)) kdp1 (fun i => Ideal.exp (kcx1 i * (lB m c t 1 h))) (fun i => Ideal.exp (kcz1 i * (lB m c t 1 h))) kcx1 kcz1 (Ideal.exp (kc * (lB m c t 1 h))) kc (q1 m c t h) (k1 m c t h) (v1 m c t h) (o1 m c t h) (sB m c t 1 h) (pre m c t 1 h) := by
  obtain ⟨h, hh⟩ := h
  · have hp : ∀ d h, pre m c t d h = fun a y => (prev m c t).2.2.2.2.2.2.2 (ix4 d h a y) := fun d h => by funext a y; exact if_neg h0
    simp only [hp, prev]
    rw [outsAt0_B m c t h0]; dsimp only; frame_open
    try (simp (disch := decide) only [↓ View.readCov_skip, ↓ View.readCov_cons_toLoadRect, ↓ View.readCov_fill])
    frame_out
    canon_tiles x e
    all_goals
      idx_vars x
      try (rcases Subsingleton.elim x0 0 with rfl)
      try (rcases Subsingleton.elim x1 0 with rfl)
      try simp only [ix4_0, ix4_1, ix4_2, ix4_3, Fin.val_zero, Fin.val_one, Nat.add_zero] at e0 e1 e2 e3
      try (rcases Fin.ext e2 with rfl)
      try (rcases Fin.ext e3 with rfl)
      try rcases (show h = 0 ∨ h = 1 ∨ h = 2 ∨ h = 3 by omega) with rfl | rfl | rfl | rfl
    all_goals try (exfalso; omega)
    all_goals
      open_payloads
      pointwise [View.ld, read_unread_whole, dqG, dkG, dvG, dsG, dlG, kdec0, kdec1, kdp0, kdp1, kcx0, kcx1, kcz0, kcz1, kc, fd, fl, lB, q0, q1, k0, k1, v0, v1, o0, o1, sB]
      blk_point [col, colv]

end Cert.KernelIdeal.Point

end
-- ==== Proof.BwdBlocks.lean ====
/- The blocks one position of the grid reads, as the step's arrays in scan order, and the body's coefficients as the
   decays of a chunk: at position `t` the body treats chunk `33 - t` of both directions, the backward one's rows reversed. -/
module

public import proofs.«01_k».proof.Proof.BwdPoint
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Point

open Cert.Ret Cert.KernelIdeal Cert.KernelIdeal.Gen

/-! ## The coefficients -/

theorem word_toInt (n : ℕ) (h : n < 128) : (BitVec.ofNat 32 n).toInt = (n : ℤ) := by
  rw [BitVec.toInt_eq_toNat_cond, BitVec.toNat_ofNat, Nat.mod_eq_of_lt (by omega), if_pos (by omega)]

theorem fl_eq (i : Fin 128) : fl i = nat i.val := by
  show (((BitVec.ofNat 32 i.val).toInt : ℝ) : EReal) = _
  rw [word_toInt _ i.isLt]
  simp

theorem fd_eq (i j : Fin 128) : fd i j = (((i.val : ℝ) - (j.val : ℝ) : ℝ) : EReal) := by
  show ((((BitVec.ofNat 32 i.val) - (BitVec.ofNat 32 j.val)).toInt : ℝ) : EReal) = _
  have h : ((BitVec.ofNat 32 i.val) - (BitVec.ofNat 32 j.val)).toInt = (i.val : ℤ) - (j.val : ℤ) := by
    have := i.isLt
    have := j.isLt
    rw [BitVec.toInt_sub, word_toInt _ i.isLt, word_toInt _ j.isLt, Int.bmod_eq_of_le (by omega) (by omega)]
  rw [h]
  push_cast
  rfl

theorem kc_eq : kc = nat 128 := by
  simp [kc, nat, Ideal.ofBits, Ideal.ieee, -EReal.coe_mul]; norm_num
theorem kz_eq : Ideal.ofBits FTy.f32 1123942400#32 = nat 127 := by
  simp [nat, Ideal.ofBits, Ideal.ieee, -EReal.coe_mul]; norm_num

theorem nat_sub {a b : ℕ} (h : b ≤ a) : nat a - nat b = nat (a - b) := by
  rw [nat, nat, nat, Nat.cast_sub h, EReal.coe_sub]

theorem max_fd (i j : Fin 128) : max (fd i j) 0 = nat (i.val - j.val) := by
  rw [fd_eq]
  rcases le_total j.val i.val with h | h
  · rw [max_eq_left]
    · rw [nat, Nat.cast_sub h]
    · have : (0 : ℝ) ≤ (i.val : ℝ) - (j.val : ℝ) := by simpa using h
      exact_mod_cast this
  · rw [max_eq_right, Nat.sub_eq_zero_of_le h]
    · simp [nat]
    · have : (i.val : ℝ) - (j.val : ℝ) ≤ (0 : ℝ) := by simpa using h
      exact_mod_cast this

theorem fd_nonneg (i j : Fin 128) : 0 ≤ fd i j ↔ j.val ≤ i.val := by
  rw [fd_eq, show (0 : EReal) = ((0 : ℝ) : EReal) from rfl, EReal.coe_le_coe_iff, sub_nonneg, Nat.cast_le]

theorem kdec0_eq (l : EReal) : kdec0 l = dec l := by
  funext i j
  simp only [kdec0, dec, max_fd, fd_nonneg]
theorem kdec1_eq (l : EReal) : kdec1 l = fun i j => dec l i.rev j.rev := by
  funext i j
  have hi := i.isLt
  have hj := j.isLt
  simp only [kdec1, dec, max_fd, fd_nonneg, Fin.val_rev]
  rw [show 128 - (i.val + 1) - (128 - (j.val + 1)) = j.val - i.val by omega]
  exact if_congr (by omega) rfl rfl
theorem kdp0_eq : kdp0 = Ret.dist := by
  funext i j
  exact max_fd i j
theorem kdp1_eq : kdp1 = fun i j => Ret.dist i.rev j.rev := by
  funext i j
  have hi := i.isLt
  have hj := j.isLt
  simp only [kdp1, max_fd, Ret.dist, Fin.val_rev]
  rw [show 128 - (i.val + 1) - (128 - (j.val + 1)) = j.val - i.val by omega]
theorem kcx0_eq : kcx0 = cxi := by
  funext i
  rw [kcx0, fl_eq, cxi, nat, nat, Nat.cast_add, EReal.coe_add]
  simp
theorem kcx1_eq : kcx1 = fun i => cxi i.rev := by
  funext i
  have hi := i.isLt
  rw [kcx1, fl_eq, kc_eq, nat_sub (by omega), cxi, Fin.val_rev]
  congr 2
  omega
theorem kcz0_eq : kcz0 = cze := by
  funext i
  have hi := i.isLt
  rw [kcz0, fl_eq, kz_eq, nat_sub (by omega), cze]
theorem kcz1_eq : kcz1 = fun i => cze i.rev := by
  funext i
  have hi := i.isLt
  rw [kcz1, fl_eq, cze, Fin.val_rev]
  congr 2
  omega

/-! ## The blocks -/

variable (m : (ℓ : Loc nD τ sig) → Buf (Elt Ideal) ℓ) (c : Dev nD) (t : Fin cfg0.N)

/-- The step's arrays in scan order, of the kernel's arguments. -/
def X : Arrays := arrays (fun d h => logSig (m ((c : Thread nD τ).loc main_arg3) (ix2 d h : S2x4.Idx)))
  (fun r x => m ((c : Thread nD τ).loc main_arg0) (ix2 r x : S4352x512.Idx))
  (fun r x => m ((c : Thread nD τ).loc main_arg1) (ix2 r x : S4352x512.Idx))
  (fun r x => m ((c : Thread nD τ).loc main_arg2) (ix2 r x : S4352x5632.Idx))
  (fun d h s a y => m ((c : Thread nD τ).loc main_arg4) (ix5 d h s a y : S2x4x34x128x256.Idx))
  (fun r x => m ((c : Thread nD τ).loc main_arg5) (ix2 r x : S4352x1024.Idx))

theorem idx : ∀ t : Fin grid0.N,
    ((cfg0.win 0).index t (0 : Fin 2) = 0 ∧ (cfg0.win 0).index t (1 : Fin 2) = 0)
    ∧ ((cfg0.win 1).index t (0 : Fin 2) = (if t.val < 32 then 31 - t.val else 65 - t.val) ∧ (cfg0.win 1).index t (1 : Fin 2) = 0)
    ∧ ((cfg0.win 2).index t (0 : Fin 2) = t.val ∧ (cfg0.win 2).index t (1 : Fin 2) = 0)
    ∧ ((cfg0.win 3).index t (0 : Fin 2) = (if t.val < 32 then 31 - t.val else 65 - t.val) ∧ (cfg0.win 3).index t (1 : Fin 2) = 0)
    ∧ ((cfg0.win 4).index t (0 : Fin 2) = t.val ∧ (cfg0.win 4).index t (1 : Fin 2) = 0)
    ∧ ((cfg0.win 5).index t (0 : Fin 2) = (if t.val < 32 then 31 - t.val else 65 - t.val) ∧ (cfg0.win 5).index t (1 : Fin 2) = 1)
    ∧ ((cfg0.win 6).index t (0 : Fin 2) = t.val ∧ (cfg0.win 6).index t (1 : Fin 2) = 1)
    ∧ ((cfg0.win 7).index t (0 : Fin 5) = 0 ∧ (cfg0.win 7).index t (1 : Fin 5) = 0 ∧ (cfg0.win 7).index t (2 : Fin 5) = 33 - t.val
        ∧ (cfg0.win 7).index t (3 : Fin 5) = 0 ∧ (cfg0.win 7).index t (4 : Fin 5) = 0)
    ∧ ((cfg0.win 8).index t (0 : Fin 2) = (if t.val < 32 then 31 - t.val else 65 - t.val) ∧ (cfg0.win 8).index t (1 : Fin 2) = 0)
    ∧ ((cfg0.win 9).index t (0 : Fin 2) = t.val ∧ (cfg0.win 9).index t (1 : Fin 2) = 0) := by decide +kernel

/-- The rows of the chunk treated at position `t`, forward and backward. -/
theorem row0_val (i : Fin 128) : (row 0 (33 - t.val) i).val = (if t.val < 32 then 31 - t.val else 65 - t.val) * 128 + i.val := by
  have ht : t.val < 34 := t.isLt
  have := i.isLt
  simp only [row, if_true]
  split <;> omega
theorem row1_val (i : Fin 128) : (row 1 (33 - t.val) i.rev).val = t.val * 128 + i.val := by
  have ht : t.val < 34 := t.isLt
  have := i.isLt
  simp only [row, if_neg (show ¬(1 : Fin 2) = 0 by decide), Fin.val_rev]
  omega

theorem V_v0 (d : Fin 2) (h : Fin 4) :
    (V m c main_v0 : S2x4.Idx → EReal) (ix2 d h) = logSig (m ((c : Thread nD τ).loc main_arg3) (ix2 d h : S2x4.Idx)) := by
  entry_read
  simp only [StableHlo.TRef.ofBuf_toBuf, StableHlo.TRef.ofBuf, StableHlo.TRef.toBuf, cast_eq]
  pointwise []
  rw [if_neg (by simp)]
  rfl

theorem lB_eq (d : Fin 2) (h : Fin 4) : lB m c t d h = (X m c).l d h := by
  refine Eq.trans ?_ (V_v0 m c d h)
  unfold lB
  blk_ext [iblk, idx t]

theorem q0_eq (h : Fin 4) : q0 m c t h = fun i => (X m c).q 0 h (33 - t.val) i := by
  funext i a
  show iblk m c 1 t (ix2 i (col h a)) = m ((c : Thread nD τ).loc main_arg0) (ix2 (row 0 (33 - t.val) i) (col h a) : S4352x512.Idx)
  have e := row0_val t i
  blk_ext [iblk, V, idx t]
theorem q1_eq (h : Fin 4) : q1 m c t h = fun i => (X m c).q 1 h (33 - t.val) i.rev := by
  funext i a
  show iblk m c 2 t (ix2 i (col h a)) = m ((c : Thread nD τ).loc main_arg0) (ix2 (row 1 (33 - t.val) i.rev) (col h a) : S4352x512.Idx)
  have e := row1_val t i
  blk_ext [iblk, V, idx t]
theorem k0_eq (h : Fin 4) : k0 m c t h = fun i => (X m c).k 0 h (33 - t.val) i := by
  funext i a
  show iblk m c 3 t (ix2 i (col h a)) = m ((c : Thread nD τ).loc main_arg1) (ix2 (row 0 (33 - t.val) i) (col h a) : S4352x512.Idx)
  have e := row0_val t i
  blk_ext [iblk, V, idx t]
theorem k1_eq (h : Fin 4) : k1 m c t h = fun i => (X m c).k 1 h (33 - t.val) i.rev := by
  funext i a
  show iblk m c 4 t (ix2 i (col h a)) = m ((c : Thread nD τ).loc main_arg1) (ix2 (row 1 (33 - t.val) i.rev) (col h a) : S4352x512.Idx)
  have e := row1_val t i
  blk_ext [iblk, V, idx t]
theorem o0_eq (h : Fin 4) : o0 m c t h = fun i => (X m c).o 0 h (33 - t.val) i := by
  funext i y
  show iblk m c 8 t (ix2 i (colv h y)) = m ((c : Thread nD τ).loc main_arg5) (ix2 (row 0 (33 - t.val) i) (colv h y) : S4352x1024.Idx)
  have e := row0_val t i
  blk_ext [iblk, V, idx t]
theorem o1_eq (h : Fin 4) : o1 m c t h = fun i => (X m c).o 1 h (33 - t.val) i.rev := by
  funext i y
  show iblk m c 9 t (ix2 i (colv h y)) = m ((c : Thread nD τ).loc main_arg5) (ix2 (row 1 (33 - t.val) i.rev) (colv h y) : S4352x1024.Idx)
  have e := row1_val t i
  blk_ext [iblk, V, idx t]
theorem v0_eq (h : Fin 4) : v0 m c t h = fun i => (X m c).v 0 h (33 - t.val) i := by
  funext i y
  show X0_5 m c t (ix2 i (colv h y)) = m ((c : Thread nD τ).loc main_arg2) (ix2 (row 0 (33 - t.val) i) (colP h y) : S4352x5632.Idx)
  have e := row0_val t i
  have e' : (colP h y).val = 1024 + (colv h y).val := rfl
  unfold X0_5 Pipeline.Window.fill
  rw [dif_pos (((cfg0.win 5).moved_iff _ _).mpr fun a => by rw [xsize0_5 t a]; exact (ix2 i (colv h y) a).isLt)]
  blk_ext [iblk, V, idx t]
theorem v1_eq (h : Fin 4) : v1 m c t h = fun i => (X m c).v 1 h (33 - t.val) i.rev := by
  funext i y
  show X0_6 m c t (ix2 i (colv h y)) = m ((c : Thread nD τ).loc main_arg2) (ix2 (row 1 (33 - t.val) i.rev) (colP h y) : S4352x5632.Idx)
  have e := row1_val t i
  have e' : (colP h y).val = 1024 + (colv h y).val := rfl
  unfold X0_6 Pipeline.Window.fill
  rw [dif_pos (((cfg0.win 6).moved_iff _ _).mpr fun a => by rw [xsize0_6 t a]; exact (ix2 i (colv h y) a).isLt)]
  blk_ext [iblk, V, idx t]
theorem sB_eq (d : Fin 2) (h : Fin 4) : sB m c t d h = (X m c).S d h (33 - t.val) := by
  funext a y
  have ht : t.val < 34 := t.isLt
  show iblk m c 7 t (ix5 d h 0 a y) = m ((c : Thread nD τ).loc main_arg4) (ix5 d h ⟨(33 - t.val) % 34, _⟩ a y : S2x4x34x128x256.Idx)
  have e : (33 - t.val) % 34 = 33 - t.val := by omega
  blk_ext [iblk, V, idx t]

end Cert.KernelIdeal.Point

end
-- ==== Proof.BwdValue.lean ====
/- What the kernel leaves in its result arrays: the gradients of the step's arrays, chunk by chunk. By induction on the
   grid's positions the carried state after position `t` is the gradient of the state before chunk `33 - t`. -/
module

public import proofs.«01_k».proof.Proof.BwdBlocks

@[expose] public section

set_option maxRecDepth 16384

noncomputable section

open Idealize.ShloMosaic Idealize.ShloMosaic.TcCoe Idealize.SL.Sem
open Idealize.ShloMosaic.Pipeline (Dat)

namespace Cert.KernelIdeal.Point

open Cert.Ret Cert.KernelIdeal Cert.KernelIdeal.Gen

variable (m : (ℓ : Loc nD τ sig) → Buf (Elt Ideal) ℓ) (c : Dev nD) (t : Fin cfg0.N)

theorem two (d : Fin 2) : d = 0 ∨ d = 1 := by omega

/-! ## The carried state -/

theorem scr_step (hp : ∀ d h, pre m c t d h = (X m c).T d h t.val) (d : Fin 2) (h : Fin 4) :
    (fun a y => (outsAt0 m c t.val t.isLt).2.2.2.2.2.2.2 (ix4 d h a y : S2x4x128x256.Idx)) = (X m c).T d h (t.val + 1) := by
  funext a y
  rcases two d with rfl | rfl
  · refine (ds0_at m c t h a y).trans ?_
    rw [hp, lB_eq, kcx0_eq, kc_eq, q0_eq, o0_eq]
    rfl
  · refine (ds1_at m c t h a y).trans ?_
    rw [hp, lB_eq, kcx1_eq, kc_eq, q1_eq, o1_eq]
    refine (dsG_rev (xi ((X m c).l 1 h)) (gam ((X m c).l 1 h)) _ _ _ a y).trans ?_
    simp only [Fin.rev_rev]
    rfl

theorem scr_eq : ∀ (n : ℕ) (hn : n < cfg0.N) (d : Fin 2) (h : Fin 4),
    (fun a y => (outsAt0 m c n hn).2.2.2.2.2.2.2 (ix4 d h a y : S2x4x128x256.Idx)) = (X m c).T d h (n + 1)
  | 0, hn => scr_step m c ⟨0, hn⟩ fun d h => by
      funext a y
      exact if_pos rfl
  | n + 1, hn => scr_step m c ⟨n + 1, hn⟩ fun d h => by
      have ht : n + 1 < 34 := hn
      funext a y
      exact (if_neg (by show ¬(n + 1) % 34 = 0; omega)).trans (congrFun (congrFun (scr_eq n (by omega) d h) a) y)

/-- The carried gradient a position finds. -/
theorem pre_eq (d : Fin 2) (h : Fin 4) : pre m c t d h = (X m c).T d h t.val := by
  obtain ⟨n, hn⟩ := t
  cases n with
  | zero => funext a y; exact if_pos rfl
  | succ n =>
    have ht : n + 1 < 34 := hn
    funext a y
    exact (if_neg (by show ¬(n + 1) % 34 = 0; omega)).trans (congrFun (congrFun (scr_eq m c n (by omega) d h) a) y)

/-! ## The blocks written -/

theorem dq0_eq (h : Fin 4) (r a : Fin 128) :
    (outsAt0 m c t.val t.isLt).1 (ix2 r (col h a) : S128x512.Idx) = (X m c).dq 0 h t.val r a := by
  rw [dq0_at, lB_eq, kdec0_eq, kcx0_eq, k0_eq, v0_eq, o0_eq, sB_eq]
  rfl
theorem dq1_eq (h : Fin 4) (r a : Fin 128) :
    (outsAt0 m c t.val t.isLt).2.1 (ix2 r (col h a) : S128x512.Idx) = (X m c).dq 1 h t.val r.rev a := by
  rw [dq1_at, lB_eq, kdec1_eq, kcx1_eq, k1_eq, v1_eq, o1_eq, sB_eq]
  refine (dqG_rev (dec ((X m c).l 1 h)) (xi ((X m c).l 1 h)) _ _ _ _ r a).trans ?_
  simp only [Fin.rev_rev]
  rfl
theorem dk0_eq (h : Fin 4) (r a : Fin 128) :
    (outsAt0 m c t.val t.isLt).2.2.1 (ix2 r (col h a) : S128x512.Idx) = (X m c).dk 0 h t.val r a := by
  rw [dk0_at, lB_eq, kdec0_eq, kcz0_eq, q0_eq, v0_eq, o0_eq, pre_eq]
  rfl
theorem dk1_eq (h : Fin 4) (r a : Fin 128) :
    (outsAt0 m c t.val t.isLt).2.2.2.1 (ix2 r (col h a) : S128x512.Idx) = (X m c).dk 1 h t.val r.rev a := by
  rw [dk1_at, lB_eq, kdec1_eq, kcz1_eq, q1_eq, v1_eq, o1_eq, pre_eq]
  refine (dkG_rev (dec ((X m c).l 1 h)) (ze ((X m c).l 1 h)) _ _ _ _ r a).trans ?_
  simp only [Fin.rev_rev]
  rfl
theorem dv0_eq (h : Fin 4) (r : Fin 128) (y : Fin 256) :
    (outsAt0 m c t.val t.isLt).2.2.2.2.1 (ix2 r (colv h y) : S128x1024.Idx) = (X m c).dv 0 h t.val r y := by
  rw [dv0_at, lB_eq, kdec0_eq, kcz0_eq, q0_eq, k0_eq, o0_eq, pre_eq]
  rfl
theorem dv1_eq (h : Fin 4) (r : Fin 128) (y : Fin 256) :
    (outsAt0 m c t.val t.isLt).2.2.2.2.2.1 (ix2 r (colv h y) : S128x1024.Idx) = (X m c).dv 1 h t.val r.rev y := by
  rw [dv1_at, lB_eq, kdec1_eq, kcz1_eq, q1_eq, k1_eq, o1_eq, pre_eq]
  refine (dvG_rev (dec ((X m c).l 1 h)) (ze ((X m c).l 1 h)) _ _ _ _ r y).trans ?_
  simp only [Fin.rev_rev]
  rfl

theorem dl_term0 (h : Fin 4) :
    dlG (kdec0 (lB m c t 0 h)) kdp0 (fun i => Ideal.exp (kcx0 i * lB m c t 0 h)) (fun i => Ideal.exp (kcz0 i * lB m c t 0 h)) kcx0 kcz0
      (Ideal.exp (kc * lB m c t 0 h)) kc (q0 m c t h) (k0 m c t h) (v0 m c t h) (o0 m c t h) (sB m c t 0 h) (pre m c t 0 h)
      = (X m c).dl 0 h t.val := by
  rw [lB_eq, kdec0_eq, kdp0_eq, kcx0_eq, kcz0_eq, kc_eq, q0_eq, k0_eq, v0_eq, o0_eq, sB_eq, pre_eq]
  rfl
theorem dl_term1 (h : Fin 4) :
    dlG (kdec1 (lB m c t 1 h)) kdp1 (fun i => Ideal.exp (kcx1 i * lB m c t 1 h)) (fun i => Ideal.exp (kcz1 i * lB m c t 1 h)) kcx1 kcz1
      (Ideal.exp (kc * lB m c t 1 h)) kc (q1 m c t h) (k1 m c t h) (v1 m c t h) (o1 m c t h) (sB m c t 1 h) (pre m c t 1 h)
      = (X m c).dl 1 h t.val := by
  rw [lB_eq, kdec1_eq, kdp1_eq, kcx1_eq, kcz1_eq, kc_eq, q1_eq, k1_eq, v1_eq, o1_eq, sB_eq, pre_eq]
  refine (dlG_rev (dec ((X m c).l 1 h)) Ret.dist (xi ((X m c).l 1 h)) (ze ((X m c).l 1 h)) cxi cze _ _ _ _ _ _ _ _).trans ?_
  simp only [Fin.rev_rev]
  rfl

theorem dl_first (h0 : t.val % 34 = 0) (d : Fin 2) (h : Fin 4) (r : Fin 8) (y : Fin 128) :
    (outsAt0 m c t.val t.isLt).2.2.2.2.2.2.1 (ix4 d h r y : S2x4x8x128.Idx) = (X m c).dl d h t.val := by
  rcases two d with rfl | rfl
  · exact (dl0_atA m c t h r y h0).trans (dl_term0 m c t h)
  · exact (dl1_atA m c t h r y h0).trans (dl_term1 m c t h)
theorem dl_next (h0 : ¬t.val % 34 = 0) (d : Fin 2) (h : Fin 4) (r : Fin 8) (y : Fin 128) :
    (outsAt0 m c t.val t.isLt).2.2.2.2.2.2.1 (ix4 d h r y : S2x4x8x128.Idx)
      = (prev m c t).2.2.2.2.2.2.1 (ix4 d h r y : S2x4x8x128.Idx) + (X m c).dl d h t.val := by
  rcases two d with rfl | rfl
  · exact (dl0_atB m c t h r y h0).trans (congrArg _ (dl_term0 m c t h))
  · exact (dl1_atB m c t h r y h0).trans (congrArg _ (dl_term1 m c t h))

/-- The log decay's gradient after position `n`: the chunks treated so far. -/
theorem dl_eq (d : Fin 2) (h : Fin 4) (r : Fin 8) (y : Fin 128) : ∀ (n : ℕ) (hn : n < cfg0.N),
    (outsAt0 m c n hn).2.2.2.2.2.2.1 (ix4 d h r y : S2x4x8x128.Idx) = ∑ i ∈ Finset.range (n + 1), (X m c).dl d h i
  | 0, hn => by
      rw [Finset.sum_range_one]
      exact dl_first m c ⟨0, hn⟩ rfl d h r y
  | n + 1, hn => by
      have ht : n + 1 < 34 := hn
      rw [Finset.sum_range_succ, ← dl_eq d h r y n (by omega)]
      exact dl_next m c ⟨n + 1, hn⟩ (by show ¬(n + 1) % 34 = 0; omega) d h r y

end Cert.KernelIdeal.Point

end
-- ==== Proof.Layout.lean ====
/- The gradients laid out as the step's arrays: the row of an array is a position of a chunk in each direction's scan order,
   its lane a lane of a head. -/
module

public import proofs.«01_k».proof.Proof.Spec

@[expose] public section

noncomputable section

namespace Cert.Ret

open Idealize.ShloMosaic

/-- Where a row stands in a direction's scan order. -/
def place (d : Fin 2) (r : Fin 4352) : ℕ := if d = 0 then (r.val + 256) % 4352 else 4351 - r.val
/-- How many chunks are treated before the one holding a row: the last is treated first. -/
def turn (d : Fin 2) (r : Fin 4352) : ℕ := 33 - place d r / 128
/-- The position of a row in its chunk. -/
def posn (d : Fin 2) (r : Fin 4352) : Fin 128 := ⟨place d r % 128, Nat.mod_lt _ (by decide)⟩
/-- The head of a lane, and the lane in its head, among lanes of 128 and among lanes of 256. -/
def hd (x : Fin 512) : Fin 4 := ⟨x.val / 128, by omega⟩
@[inherit_doc hd] def ln (x : Fin 512) : Fin 128 := ⟨x.val % 128, by omega⟩
@[inherit_doc hd] def hdv (x : Fin 1024) : Fin 4 := ⟨x.val / 256, by omega⟩
@[inherit_doc hd] def lnv (x : Fin 1024) : Fin 256 := ⟨x.val % 256, by omega⟩

namespace Arrays

variable (X : Arrays) (d : Fin 2)

/-- The gradient of the queries, of the keys and of the values as arrays. -/
def dqA (r : Fin 4352) (x : Fin 512) : EReal := X.dq d (hd x) (turn d r) (posn d r) (ln x)
@[inherit_doc dqA] def dkA (r : Fin 4352) (x : Fin 512) : EReal := X.dk d (hd x) (turn d r) (posn d r) (ln x)
@[inherit_doc dqA] def dvA (r : Fin 4352) (x : Fin 1024) : EReal := X.dv d (hdv x) (turn d r) (posn d r) (lnv x)
/-- The gradient of the log decays. -/
def dlA (h : Fin 4) : EReal := ∑ n ∈ Finset.range 34, X.dl d h n

end Arrays

theorem col_hd (x : Fin 512) : col (hd x) (ln x) = x := by
  apply Fin.ext
  show x.val / 128 * 128 + x.val % 128 = x.val
  omega
theorem colv_hdv (x : Fin 1024) : colv (hdv x) (lnv x) = x := by
  apply Fin.ext
  show x.val / 256 * 256 + x.val % 256 = x.val
  omega

end Cert.Ret

end
-- ==== Proof.BwdFinal.lean ====
/- The kernel's result arrays after the run: each block a position writes is the part of the gradients' arrays it covers. -/
module

public import proofs.«01_k».proof.Proof.BwdValue
public import proofs.«01_k».proof.Proof.Layout

@[expose] public section

set_option maxRecDepth 16384

noncomputable section

open Idealize.ShloMosaic Idealize.ShloMosaic.TcCoe Idealize.SL.Sem
open Idealize.ShloMosaic.Pipeline (Dat)

namespace Cert.KernelIdeal.Point

open Cert.Ret Cert.KernelIdeal Cert.KernelIdeal.Gen

variable (m : (ℓ : Loc nD τ sig) → Buf (Elt Ideal) ℓ) (c : Dev nD)

theorem idxO : ∀ t : Fin grid0.N,
    ((cfg0.win 10).index t (0 : Fin 2) = (if t.val < 32 then 31 - t.val else 65 - t.val) ∧ (cfg0.win 10).index t (1 : Fin 2) = 0)
    ∧ ((cfg0.win 11).index t (0 : Fin 2) = t.val ∧ (cfg0.win 11).index t (1 : Fin 2) = 0)
    ∧ ((cfg0.win 12).index t (0 : Fin 2) = (if t.val < 32 then 31 - t.val else 65 - t.val) ∧ (cfg0.win 12).index t (1 : Fin 2) = 0)
    ∧ ((cfg0.win 13).index t (0 : Fin 2) = t.val ∧ (cfg0.win 13).index t (1 : Fin 2) = 0)
    ∧ ((cfg0.win 14).index t (0 : Fin 2) = (if t.val < 32 then 31 - t.val else 65 - t.val) ∧ (cfg0.win 14).index t (1 : Fin 2) = 0)
    ∧ ((cfg0.win 15).index t (0 : Fin 2) = t.val ∧ (cfg0.win 15).index t (1 : Fin 2) = 0) := by decide +kernel

theorem turn0 (t : Fin cfg0.N) (i : Fin 128) (r : Fin 4352)
    (h : r.val = (if t.val < 32 then 31 - t.val else 65 - t.val) * 128 + i.val) : turn 0 r = t.val ∧ posn 0 r = i := by
  have ht : t.val < 34 := t.isLt
  have hi := i.isLt
  constructor
  · simp only [turn, place, if_true]; split at h <;> omega
  · apply Fin.ext; simp only [posn, place, if_true]; split at h <;> omega
theorem turn1 (t : Fin cfg0.N) (i : Fin 128) (r : Fin 4352) (h : r.val = t.val * 128 + i.val) :
    turn 1 r = t.val ∧ posn 1 r = i.rev := by
  have ht : t.val < 34 := t.isLt
  have hi := i.isLt
  constructor
  · simp only [turn, place, if_neg (show ¬(1 : Fin 2) = 0 by decide)]; omega
  · apply Fin.ext; simp only [posn, place, if_neg (show ¬(1 : Fin 2) = 0 by decide), Fin.val_rev]; omega

theorem blk_10 (t : Fin cfg0.N) (z : S128x512.Idx) :
    (outsAt0 m c t.val t.isLt).1 z = (X m c).dq 0 (hd (z 1)) t.val (z 0) (ln (z 1)) := by
  obtain ⟨r, x, rfl⟩ : ∃ (r : Fin 128) (x : Fin 512), z = ix2 r x := ⟨z 0, z 1, by funext a; fin_cases a <;> rfl⟩
  show _ = (X m c).dq 0 (hd x) t.val r (ln x)
  refine Eq.trans ?_ (dq0_eq m c t (hd x) r (ln x))
  rw [col_hd]

/-- Result 0. -/
theorem final_10 : (dats m 0 c).arrAt 10 cfg0.N = fun i : S4352x512.Idx => (X m c).dqA 0 (i 0) (i 1) := by
  refine (dats m 0 c).arrAt_eq_of_covers 10 _ (by decide +kernel) fun t hf y => ?_
  blk_simp
  rw [after0_10]
  refine (blk_10 m c t y).trans ?_
  have e0 : (((win0_10.blk t).view.emb y 0 : Fin 4352) : ℕ) = (if t.val < 32 then 31 - t.val else 65 - t.val) * 128 + (y 0).val := by
    blk_simp [idxO t]
  have e1 : ((win0_10.blk t).view.emb y 1 : Fin 512) = y 1 := Fin.ext (by blk_simp [idxO t])
  have e2 := turn0 t (y 0) _ e0
  unfold Arrays.dqA
  rw [e2.1, e2.2, e1]

theorem blk_11 (t : Fin cfg0.N) (z : S128x512.Idx) :
    (outsAt0 m c t.val t.isLt).2.1 z = (X m c).dq 1 (hd (z 1)) t.val (Fin.rev (n := 128) (z 0)) (ln (z 1)) := by
  obtain ⟨r, x, rfl⟩ : ∃ (r : Fin 128) (x : Fin 512), z = ix2 r x := ⟨z 0, z 1, by funext a; fin_cases a <;> rfl⟩
  show _ = (X m c).dq 1 (hd x) t.val r.rev (ln x)
  refine Eq.trans ?_ (dq1_eq m c t (hd x) r (ln x))
  rw [col_hd]

/-- Result 1. -/
theorem final_11 : (dats m 0 c).arrAt 11 cfg0.N = fun i : S4352x512.Idx => (X m c).dqA 1 (i 0) (i 1) := by
  refine (dats m 0 c).arrAt_eq_of_covers 11 _ (by decide +kernel) fun t hf y => ?_
  blk_simp
  rw [after0_11]
  refine (blk_11 m c t y).trans ?_
  have e0 : (((win0_11.blk t).view.emb y 0 : Fin 4352) : ℕ) = t.val * 128 + (y 0).val := by
    blk_simp [idxO t]
  have e1 : ((win0_11.blk t).view.emb y 1 : Fin 512) = y 1 := Fin.ext (by blk_simp [idxO t])
  have e2 := turn1 t (y 0) _ e0
  unfold Arrays.dqA
  rw [e2.1, e2.2, e1]

theorem blk_12 (t : Fin cfg0.N) (z : S128x512.Idx) :
    (outsAt0 m c t.val t.isLt).2.2.1 z = (X m c).dk 0 (hd (z 1)) t.val (z 0) (ln (z 1)) := by
  obtain ⟨r, x, rfl⟩ : ∃ (r : Fin 128) (x : Fin 512), z = ix2 r x := ⟨z 0, z 1, by funext a; fin_cases a <;> rfl⟩
  show _ = (X m c).dk 0 (hd x) t.val r (ln x)
  refine Eq.trans ?_ (dk0_eq m c t (hd x) r (ln x))
  rw [col_hd]

/-- Result 2. -/
theorem final_12 : (dats m 0 c).arrAt 12 cfg0.N = fun i : S4352x512.Idx => (X m c).dkA 0 (i 0) (i 1) := by
  refine (dats m 0 c).arrAt_eq_of_covers 12 _ (by decide +kernel) fun t hf y => ?_
  blk_simp
  rw [after0_12]
  refine (blk_12 m c t y).trans ?_
  have e0 : (((win0_12.blk t).view.emb y 0 : Fin 4352) : ℕ) = (if t.val < 32 then 31 - t.val else 65 - t.val) * 128 + (y 0).val := by
    blk_simp [idxO t]
  have e1 : ((win0_12.blk t).view.emb y 1 : Fin 512) = y 1 := Fin.ext (by blk_simp [idxO t])
  have e2 := turn0 t (y 0) _ e0
  unfold Arrays.dkA
  rw [e2.1, e2.2, e1]

theorem blk_13 (t : Fin cfg0.N) (z : S128x512.Idx) :
    (outsAt0 m c t.val t.isLt).2.2.2.1 z = (X m c).dk 1 (hd (z 1)) t.val (Fin.rev (n := 128) (z 0)) (ln (z 1)) := by
  obtain ⟨r, x, rfl⟩ : ∃ (r : Fin 128) (x : Fin 512), z = ix2 r x := ⟨z 0, z 1, by funext a; fin_cases a <;> rfl⟩
  show _ = (X m c).dk 1 (hd x) t.val r.rev (ln x)
  refine Eq.trans ?_ (dk1_eq m c t (hd x) r (ln x))
  rw [col_hd]

/-- Result 3. -/
theorem final_13 : (dats m 0 c).arrAt 13 cfg0.N = fun i : S4352x512.Idx => (X m c).dkA 1 (i 0) (i 1) := by
  refine (dats m 0 c).arrAt_eq_of_covers 13 _ (by decide +kernel) fun t hf y => ?_
  blk_simp
  rw [after0_13]
  refine (blk_13 m c t y).trans ?_
  have e0 : (((win0_13.blk t).view.emb y 0 : Fin 4352) : ℕ) = t.val * 128 + (y 0).val := by
    blk_simp [idxO t]
  have e1 : ((win0_13.blk t).view.emb y 1 : Fin 512) = y 1 := Fin.ext (by blk_simp [idxO t])
  have e2 := turn1 t (y 0) _ e0
  unfold Arrays.dkA
  rw [e2.1, e2.2, e1]

theorem blk_14 (t : Fin cfg0.N) (z : S128x1024.Idx) :
    (outsAt0 m c t.val t.isLt).2.2.2.2.1 z = (X m c).dv 0 (hdv (z 1)) t.val (z 0) (lnv (z 1)) := by
  obtain ⟨r, x, rfl⟩ : ∃ (r : Fin 128) (x : Fin 1024), z = ix2 r x := ⟨z 0, z 1, by funext a; fin_cases a <;> rfl⟩
  show _ = (X m c).dv 0 (hdv x) t.val r (lnv x)
  refine Eq.trans ?_ (dv0_eq m c t (hdv x) r (lnv x))
  rw [colv_hdv]

/-- Result 4. -/
theorem final_14 : (dats m 0 c).arrAt 14 cfg0.N = fun i : S4352x1024.Idx => (X m c).dvA 0 (i 0) (i 1) := by
  refine (dats m 0 c).arrAt_eq_of_covers 14 _ (by decide +kernel) fun t hf y => ?_
  blk_simp
  rw [after0_14]
  refine (blk_14 m c t y).trans ?_
  have e0 : (((win0_14.blk t).view.emb y 0 : Fin 4352) : ℕ) = (if t.val < 32 then 31 - t.val else 65 - t.val) * 128 + (y 0).val := by
    blk_simp [idxO t]
  have e1 : ((win0_14.blk t).view.emb y 1 : Fin 1024) = y 1 := Fin.ext (by blk_simp [idxO t])
  have e2 := turn0 t (y 0) _ e0
  unfold Arrays.dvA
  rw [e2.1, e2.2, e1]

theorem blk_15 (t : Fin cfg0.N) (z : S128x1024.Idx) :
    (outsAt0 m c t.val t.isLt).2.2.2.2.2.1 z = (X m c).dv 1 (hdv (z 1)) t.val (Fin.rev (n := 128) (z 0)) (lnv (z 1)) := by
  obtain ⟨r, x, rfl⟩ : ∃ (r : Fin 128) (x : Fin 1024), z = ix2 r x := ⟨z 0, z 1, by funext a; fin_cases a <;> rfl⟩
  show _ = (X m c).dv 1 (hdv x) t.val r.rev (lnv x)
  refine Eq.trans ?_ (dv1_eq m c t (hdv x) r (lnv x))
  rw [colv_hdv]

/-- Result 5. -/
theorem final_15 : (dats m 0 c).arrAt 15 cfg0.N = fun i : S4352x1024.Idx => (X m c).dvA 1 (i 0) (i 1) := by
  refine (dats m 0 c).arrAt_eq_of_covers 15 _ (by decide +kernel) fun t hf y => ?_
  blk_simp
  rw [after0_15]
  refine (blk_15 m c t y).trans ?_
  have e0 : (((win0_15.blk t).view.emb y 0 : Fin 4352) : ℕ) = t.val * 128 + (y 0).val := by
    blk_simp [idxO t]
  have e1 : ((win0_15.blk t).view.emb y 1 : Fin 1024) = y 1 := Fin.ext (by blk_simp [idxO t])
  have e2 := turn1 t (y 0) _ e0
  unfold Arrays.dvA
  rw [e2.1, e2.2, e1]

theorem blk_16 (hn : 33 < cfg0.N) (z : S2x4x8x128.Idx) :
    (outsAt0 m c 33 hn).2.2.2.2.2.2.1 z = (X m c).dlA (z 0) (z 1) := by
  obtain ⟨d, h, r, y, rfl⟩ : ∃ (d : Fin 2) (h : Fin 4) (r : Fin 8) (y : Fin 128), z = ix4 d h r y :=
    ⟨z 0, z 1, z 2, z 3, by funext a; fin_cases a <;> rfl⟩
  exact dl_eq m c d h r y 33 hn

/-- Result 6. -/
theorem final_16 : (dats m 0 c).arrAt 16 cfg0.N = fun i : S2x4x8x128.Idx => (X m c).dlA (i 0) (i 1) := by
  refine (dats m 0 c).arrAt_eq_of_after_last 16 ⟨33, by decide⟩ (by decide +kernel) _ fun j => ?_
  rw [after0_16]
  exact blk_16 m c _ _

end Cert.KernelIdeal.Point

end
-- ==== Proof.RefEntry.lean ====
/- What the reference's loop starts from: the step's arrays in scan order. -/
module

public import proofs.«01_k».proof.Proof.Gen.ReferenceIdeal.Run
public import proofs.«01_k».proof.Proof.Layout
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem Idealize.ShloMosaic.StableHlo

namespace Cert.ReferenceIdeal.Scan

open Cert.Ret Cert.ReferenceIdeal Cert.ReferenceIdeal.Gen Cert.ReferenceIdeal.Value

variable (m : (ℓ : Loc nD τ sig) → Buf (Elt Ideal) ℓ) (c : Dev nD)

/-- The step's arrays in scan order, of the reference's arguments. -/
def X : Arrays := arrays (fun d h => logSig (m ((c.tc : Thread nD τ).loc main_arg3) (ix2 d h)))
  (fun r x => m ((c.tc : Thread nD τ).loc main_arg0) (ix2 r x)) (fun r x => m ((c.tc : Thread nD τ).loc main_arg1) (ix2 r x))
  (fun r x => m ((c.tc : Thread nD τ).loc main_arg2) (ix2 r x)) (fun d h s a y => m ((c.tc : Thread nD τ).loc main_arg4) (ix5 d h s a y))
  (fun r x => m ((c.tc : Thread nD τ).loc main_arg5) (ix2 r x))

/-- The row of a position in scan order, forward and backward. -/
theorem row_fwd {d : Fin 2} (h : d.val < 1) (s : ℕ) (i : Fin 128) : (row d s i).val = (4096 + 128 * s + i.val) % 4352 := by
  rw [row, if_pos (Fin.ext (by show d.val = 0; omega))]
@[inherit_doc row_fwd] theorem row_bwd {d : Fin 2} (h : ¬ d.val < 1) (s : ℕ) (i : Fin 128) : (row d s i).val = 4351 - (128 * s + i.val) := by
  rw [row, if_neg (fun e => h (by rw [e]; decide))]

/-- The log decays. -/
theorem entry_l (d : Fin 2) (h : Fin 4) :
    entryContents preI m c (Proc.devRef .tc main_v44_5) (ix2 d h) = (X m c).l d h := by
  simp only [entryContents, afterL_cons, afterL_nil]
  after_reads_at
  dsimp only [id]
  pointwise []
  rw [if_neg (by simp)]
  rfl
/-- The states before the chunks. -/
theorem entry_S (d : Fin 2) (h : Fin 4) (s : Fin 34) (a : Fin 128) (y : Fin 256) :
    entryContents preI m c (Proc.devRef .tc main_v44_0) (ix5 s d h a y) = (X m c).S d h s a y := by
  simp only [entryContents, afterL_cons, afterL_nil]
  after_reads_at
  dsimp only [id]
  pointwise []
  show _ = m ((c.tc : Thread nD τ).loc main_arg4) (ix5 d h ⟨s.val % 34, _⟩ a y)
  rw [show (⟨s.val % 34, Nat.mod_lt _ (by decide)⟩ : Fin 34) = s from Fin.ext (Nat.mod_eq_of_lt s.isLt)]
/-- The gradient of the state after the last chunk. -/
theorem entry_T (d : Fin 2) (h : Fin 4) (a : Fin 128) (y : Fin 256) :
    entryContents preI m c (Proc.devRef .tc main_v44_7) (ix4 d h a y) = (0 : EReal) := by
  simp only [entryContents, afterL_cons, afterL_nil]
  after_reads_at
  dsimp only [id]
  pointwise []
theorem at_q {d : Fin 2} {h : Fin 4} {s : Fin 34} {i : Fin 128} {x : Fin 128} {r : Fin 4352} {z : Fin 512} (er : r = row d s i) (ez : z = col h x) :
    launchContents m c (Proc.devRef .tc main_arg0) (ix2 r z) = (X m c).q d h s i x := by
  subst er ez
  rfl
set_option maxHeartbeats 4000000 in
/-- The queries. -/
theorem entry_q (d : Fin 2) (h : Fin 4) (s : Fin 34) (i : Fin 128) (x : Fin 128) :
    entryContents preI m c (Proc.devRef .tc main_v44_1) (ix5 s d h i x) = (X m c).q d h s i x := by
  simp only [entryContents, afterL_cons, afterL_nil]
  after_reads_at
  dsimp only [id]
  pointwise []
  split
  · rename_i hd
    after_reads_at
    split
    · after_reads_at
      refine at_q m c (Fin.ext (Eq.trans ?_ (row_fwd hd s.val i).symm)) (Fin.ext ?_)
      · dsimp only
        omega
      · dsimp only [col]
        try omega
    · after_reads_at
      refine at_q m c (Fin.ext (Eq.trans ?_ (row_fwd hd s.val i).symm)) (Fin.ext ?_)
      · dsimp only
        omega
      · dsimp only [col]
        try omega
  · rename_i hd
    after_reads_at
    refine at_q m c (Fin.ext (Eq.trans ?_ (row_bwd hd s.val i).symm)) (Fin.ext ?_)
    · show (4352 - (s.val * 128 + i.val + 1) : ℕ) = _
      omega
    · show h.val * 128 + x.val = (col h x).val
      dsimp only [col]
      try omega
theorem at_k {d : Fin 2} {h : Fin 4} {s : Fin 34} {i : Fin 128} {x : Fin 128} {r : Fin 4352} {z : Fin 512} (er : r = row d s i) (ez : z = col h x) :
    launchContents m c (Proc.devRef .tc main_arg1) (ix2 r z) = (X m c).k d h s i x := by
  subst er ez
  rfl
set_option maxHeartbeats 4000000 in
/-- The keys. -/
theorem entry_k (d : Fin 2) (h : Fin 4) (s : Fin 34) (i : Fin 128) (x : Fin 128) :
    entryContents preI m c (Proc.devRef .tc main_v44_2) (ix5 s d h i x) = (X m c).k d h s i x := by
  simp only [entryContents, afterL_cons, afterL_nil]
  after_reads_at
  dsimp only [id]
  pointwise []
  split
  · rename_i hd
    after_reads_at
    split
    · after_reads_at
      refine at_k m c (Fin.ext (Eq.trans ?_ (row_fwd hd s.val i).symm)) (Fin.ext ?_)
      · dsimp only
        omega
      · dsimp only [col]
        try omega
    · after_reads_at
      refine at_k m c (Fin.ext (Eq.trans ?_ (row_fwd hd s.val i).symm)) (Fin.ext ?_)
      · dsimp only
        omega
      · dsimp only [col]
        try omega
  · rename_i hd
    after_reads_at
    refine at_k m c (Fin.ext (Eq.trans ?_ (row_bwd hd s.val i).symm)) (Fin.ext ?_)
    · show (4352 - (s.val * 128 + i.val + 1) : ℕ) = _
      omega
    · show h.val * 128 + x.val = (col h x).val
      dsimp only [col]
      try omega
theorem at_v {d : Fin 2} {h : Fin 4} {s : Fin 34} {i : Fin 128} {x : Fin 256} {r : Fin 4352} {z : Fin 5632} (er : r = row d s i) (ez : z = colP h x) :
    launchContents m c (Proc.devRef .tc main_arg2) (ix2 r z) = (X m c).v d h s i x := by
  subst er ez
  rfl
set_option maxHeartbeats 4000000 in
/-- The values. -/
theorem entry_v (d : Fin 2) (h : Fin 4) (s : Fin 34) (i : Fin 128) (x : Fin 256) :
    entryContents preI m c (Proc.devRef .tc main_v44_3) (ix5 s d h i x) = (X m c).v d h s i x := by
  simp only [entryContents, afterL_cons, afterL_nil]
  after_reads_at
  dsimp only [id]
  pointwise []
  split
  · rename_i hd
    after_reads_at
    split
    · after_reads_at
      refine at_v m c (Fin.ext (Eq.trans ?_ (row_fwd hd s.val i).symm)) (Fin.ext ?_)
      · dsimp only
        omega
      · dsimp only [colP]
        try omega
    · after_reads_at
      refine at_v m c (Fin.ext (Eq.trans ?_ (row_fwd hd s.val i).symm)) (Fin.ext ?_)
      · dsimp only
        omega
      · dsimp only [colP]
        try omega
  · rename_i hd
    after_reads_at
    refine at_v m c (Fin.ext (Eq.trans ?_ (row_bwd hd s.val i).symm)) (Fin.ext ?_)
    · show (4352 - (s.val * 128 + i.val + 1) : ℕ) = _
      omega
    · show 1024 + (h.val * 256 + x.val) = (colP h x).val
      dsimp only [colP]
      try omega
theorem at_o {d : Fin 2} {h : Fin 4} {s : Fin 34} {i : Fin 128} {x : Fin 256} {r : Fin 4352} {z : Fin 1024} (er : r = row d s i) (ez : z = colv h x) :
    launchContents m c (Proc.devRef .tc main_arg5) (ix2 r z) = (X m c).o d h s i x := by
  subst er ez
  rfl
set_option maxHeartbeats 4000000 in
/-- The gradient of the output. -/
theorem entry_o (d : Fin 2) (h : Fin 4) (s : Fin 34) (i : Fin 128) (x : Fin 256) :
    entryContents preI m c (Proc.devRef .tc main_v44_4) (ix5 s d h i x) = (X m c).o d h s i x := by
  simp only [entryContents, afterL_cons, afterL_nil]
  after_reads_at
  dsimp only [id]
  pointwise []
  split
  · rename_i hd
    after_reads_at
    split
    · after_reads_at
      refine at_o m c (Fin.ext (Eq.trans ?_ (row_fwd hd s.val i).symm)) (Fin.ext ?_)
      · dsimp only
        omega
      · dsimp only [colv]
        try omega
    · after_reads_at
      refine at_o m c (Fin.ext (Eq.trans ?_ (row_fwd hd s.val i).symm)) (Fin.ext ?_)
      · dsimp only
        omega
      · dsimp only [colv]
        try omega
  · rename_i hd
    after_reads_at
    refine at_o m c (Fin.ext (Eq.trans ?_ (row_bwd hd s.val i).symm)) (Fin.ext ?_)
    · show (4352 - (s.val * 128 + i.val + 1) : ℕ) = _
      omega
    · show h.val * 256 + x.val = (colv h x).val
      dsimp only [colv]
      try omega

end Cert.ReferenceIdeal.Scan

end
-- ==== Proof.RefStep.lean ====
/- One trip of the reference's loop: from the contents before it, the chunk it reads, the coefficients, and the products. -/
module

public import proofs.«01_k».proof.Proof.Gen.ReferenceIdeal.Run
public import proofs.«01_k».proof.Proof.Layout
public import Idealize.ShloMosaic.Lib.Claim
public import Idealize.ShloMosaic.Lib.DynamicIndex
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.SL.Sem Idealize.ShloMosaic.StableHlo

namespace Cert.ReferenceIdeal.Scan

open Cert.Ret Cert.ReferenceIdeal Cert.ReferenceIdeal.Gen Cert.ReferenceIdeal.Value

/-! ## Numbers -/

theorem word_toInt (n : ℕ) (h : n < 128) : (BitVec.ofNat 32 n).toInt = (n : ℤ) := by
  rw [BitVec.toInt_eq_toNat_cond, BitVec.toNat_ofNat, Nat.mod_eq_of_lt (by omega), if_pos (by omega)]

theorem float_nat (i : Fin 128) : FloatOps.sitofp (F := Ideal) FTy.f32 (BitVec.ofNat 32 i.val) = nat i.val := by
  show (((BitVec.ofNat 32 i.val).toInt : ℝ) : EReal) = _
  rw [word_toInt _ i.isLt]
  simp

theorem c128 : Ideal.ofBits FTy.f32 1124073472#32 = nat 128 := by
  simp [nat, Ideal.ofBits, Ideal.ieee, -EReal.coe_mul]; norm_num
theorem c127 : Ideal.ofBits FTy.f32 1123942400#32 = nat 127 := by
  simp [nat, Ideal.ofBits, Ideal.ieee, -EReal.coe_mul]; norm_num

theorem nat_sub {a b : ℕ} (h : b ≤ a) : nat a - nat b = nat (a - b) := by
  rw [nat, nat, nat, Nat.cast_sub h, EReal.coe_sub]
theorem nat_succ (a : ℕ) : nat a + 1 = nat (a + 1) := by
  rw [nat, nat, Nat.cast_add, EReal.coe_add]
  norm_num
theorem sub_nonneg_iff (a b : ℕ) : 0 ≤ nat a - nat b ↔ b ≤ a := by
  rw [nat, nat, ← EReal.coe_sub]
  rw [EReal.coe_nonneg, _root_.sub_nonneg, Nat.cast_le]
theorem nat_ne_top (a : ℕ) : nat a ≠ ⊤ := EReal.coe_ne_top _
theorem nat_nonneg (a : ℕ) : 0 ≤ nat a := by
  rw [nat, EReal.coe_nonneg]
  exact Nat.cast_nonneg a

/-- A finite coefficient that is not negative distributes over a sum. -/
theorem sum_mul {ι : Type} (s : Finset ι) (f : ι → EReal) {c : EReal} (h0 : 0 ≤ c) (ht : c ≠ ⊤) :
    (∑ i ∈ s, f i) * c = ∑ i ∈ s, f i * c := by
  classical
  induction s using Finset.induction_on with
  | empty => simp
  | insert a s ha ih => rw [Finset.sum_insert ha, Finset.sum_insert ha, EReal.right_distrib_of_nonneg_of_ne_top h0 ht, ih]

/-- The exponential of a nonnegative multiple of a number that is not positive is between zero and one. -/
theorem exp_ne_top {c l : EReal} (h : c * l ≤ 0) : Ideal.exp (c * l) ≠ ⊤ := by
  generalize c * l = x at h ⊢
  induction x with
  | bot => rw [Ideal.exp_bot]; exact EReal.zero_ne_top
  | coe r => rw [Ideal.exp_coe]; exact EReal.coe_ne_top _
  | top => simp at h
theorem exp_nonneg (x : EReal) : 0 ≤ Ideal.exp x := by
  induction x with
  | bot => rw [Ideal.exp_bot]
  | coe r => rw [Ideal.exp_coe, EReal.coe_nonneg]; exact Real.exp_nonneg r
  | top => exact le_top

/-- The log of a sigmoid is not positive. -/
theorem logSig_nonpos (x : EReal) : logSig x ≤ 0 := by
  unfold logSig
  rw [EReal.neg_le_zero]
  refine add_nonneg (le_max_right _ _) ?_
  have h := exp_nonneg (-FloatOps.absf (F := Ideal) (φ := .f32) (-x))
  generalize Ideal.exp (-FloatOps.absf (F := Ideal) (φ := .f32) (-x)) = e at h ⊢
  unfold Ideal.log1p
  induction e with
  | bot => simp at h
  | coe r =>
    have h' : (0 : ℝ) ≤ r := by exact_mod_cast h
    rw [show (1 : EReal) + (r : EReal) = ((1 + r : ℝ) : EReal) from by push_cast; rfl]
    show 0 ≤ (if 1 + r ≤ 0 then (⊥ : EReal) else ((Real.log (1 + r) : ℝ) : EReal))
    rw [if_neg (by linarith), EReal.coe_nonneg]
    exact Real.log_nonneg (by linarith)
  | top => exact le_top

/-- A multiple of a coefficient and of its decay is finite and not negative. -/
theorem coef_nonneg (c : ℕ) (e : EReal) : 0 ≤ nat c * Ideal.exp e := mul_nonneg (nat_nonneg c) (exp_nonneg e)
theorem coef_ne_top (c : ℕ) {l : EReal} (h : l ≤ 0) : nat c * Ideal.exp (nat c * l) ≠ ⊤ := by
  have h1 : Ideal.exp (nat c * l) ≠ ⊤ := exp_ne_top (mul_nonpos_of_nonneg_of_nonpos (nat_nonneg c) h)
  have h2 : Ideal.exp (nat c * l) ≠ ⊥ := fun e => by have := exp_nonneg (nat c * l); rw [e] at this; simp at this
  rw [← EReal.coe_toReal h1 h2, nat, ← EReal.coe_mul]
  exact EReal.coe_ne_top _

/-- A chunk's share of the log decay's gradient, each coefficient multiplied after the sum it stands before. -/
theorem dlG_of {l : EReal} (hl : l ≤ 0) (q k : Fin 128 → Fin 128 → EReal) (v o S T : Fin 128 → Fin 256 → EReal) :
    (nat 128 * ((∑ a, ∑ y, S a y * T a y) * gam l) + ∑ j, cze j * ((∑ a, k j a * ∑ y, v j y * T a y) * ze l j)
        + ∑ i, cxi i * ((∑ y, (∑ a, q i a * S a y) * o i y) * xi l i))
      + ∑ i : Fin 128, ∑ j : Fin 128, (if j.val ≤ i.val then
          Ret.dist i j * (((∑ a, q i a * k j a) * ∑ y, o i y * v j y) * Ideal.exp (Ret.dist i j * l)) else 0)
    = dlG (dec l) Ret.dist (xi l) (ze l) cxi cze (gam l) (nat 128) q k v o S T := by
  have e1 : nat 128 * ((∑ a, ∑ y, S a y * T a y) * gam l) = ∑ y, (∑ a, T a y * S a y) * (gam l * nat 128) := by
    rw [← sum_mul _ _ (by rw [mul_comm]; exact coef_nonneg 128 _) (by rw [mul_comm]; exact coef_ne_top 128 hl), Finset.sum_comm,
      mul_comm, mul_assoc]
    simp only [mul_comm (S _ _)]
  have e2 (j : Fin 128) : cze j * ((∑ a, k j a * ∑ y, v j y * T a y) * ze l j) = ∑ a, (k j a * ∑ y, v j y * T a y) * (cze j * ze l j) := by
    exact (mul_left_comm _ _ _).trans (sum_mul Finset.univ _ (coef_nonneg (127 - j.val) (cze j * l)) (coef_ne_top (127 - j.val) hl))
  have e3 (i : Fin 128) : cxi i * ((∑ y, (∑ a, q i a * S a y) * o i y) * xi l i) = ∑ y, (o i y * ∑ a, q i a * S a y) * (cxi i * xi l i) := by
    simp only [mul_comm (o i _)]
    exact (mul_left_comm _ _ _).trans (sum_mul Finset.univ _ (coef_nonneg (i.val + 1) (cxi i * l)) (coef_ne_top (i.val + 1) hl))
  have e4 (i j : Fin 128) : (if j.val ≤ i.val then
        Ret.dist i j * (((∑ a, q i a * k j a) * ∑ y, o i y * v j y) * Ideal.exp (Ret.dist i j * l)) else 0)
      = ((∑ y, o i y * v j y) * ((∑ a, q i a * k j a) * dec l i j)) * Ret.dist i j := by
    unfold dec
    split
    · rw [mul_comm (Ret.dist i j), mul_comm (∑ a, q i a * k j a), mul_assoc (∑ y, o i y * v j y)]
      rfl
    · rw [mul_zero, mul_zero, zero_mul]
  have e5 (a b c d : EReal) : a + b + c + d = d + c + b + a := by abel
  simp only [e1, e2, e3, e4]
  exact e5 _ _ _ _

/-! ## One chunk of a stack -/

theorem cutAt128 (p : ℕ) (hp : p < 34) (t : S34x2x4x128x128.Idx → EReal) (b : Fin 5 → ℤ) (hb : ∀ a, b a = ((![p, 0, 0, 0, 0] : Fin 5 → ℕ) a : ℤ)) (d : Fin 2) (h : Fin 4) (a : Fin 128) (y : Fin 128) :
    shapeCast S2x4x128x128 (Host.dynamicSlice S1x2x4x128x128 t b sliceFits_S34x2x4x128x128_S1x2x4x128x128) shapeCasts_S1x2x4x128x128_S2x4x128x128 (ix4 d h a y)
      = t (ix5 ⟨p, hp⟩ d h a y) := by
  rw [Host.dynamicSlice_eq_extractStridedSlice (s := S34x2x4x128x128) S1x2x4x128x128 t b ![p, 0, 0, 0, 0] _ ⟨rfl, by intro a; fin_cases a <;> simp <;> omega⟩ hb]
  pointwise []
  try blk_ext []
theorem putAt128 (p : ℕ) (hp : p < 34) (t : S34x2x4x128x128.Idx → EReal) (u : S2x4x128x128.Idx → EReal) (b : Fin 5 → ℤ) (hb : ∀ a, b a = ((![p, 0, 0, 0, 0] : Fin 5 → ℕ) a : ℤ)) (s : Fin 34) (d : Fin 2) (h : Fin 4) (a : Fin 128) (y : Fin 128) :
    Host.dynamicUpdateSlice t (broadcastInDim S1x2x4x128x128 ![1, 2, 3, 4] bcast_S2x4x128x128_S1x2x4x128x128_1_2_3_4 u) b updateFits_S34x2x4x128x128_S1x2x4x128x128 (ix5 s d h a y)
      = if s.val = p then u (ix4 d h a y) else t (ix5 s d h a y) := by
  rw [Host.dynamicUpdateSlice_eq_updateSlice (s := S34x2x4x128x128) (u := S1x2x4x128x128) t _ b _ ![p, 0, 0, 0, 0] (fun a => by rw [hb]; fin_cases a <;> simp <;> omega) ⟨rfl, by intro a; fin_cases a <;> simp <;> omega⟩]
  pointwise []
  have := s.isLt; have := d.isLt; have := h.isLt; have := a.isLt; have := y.isLt
  by_cases hs : s.val = p
  · rw [dif_pos (by omega), if_pos hs]
  · rw [dif_neg (by omega), if_neg hs]

theorem cutAt256 (p : ℕ) (hp : p < 34) (t : S34x2x4x128x256.Idx → EReal) (b : Fin 5 → ℤ) (hb : ∀ a, b a = ((![p, 0, 0, 0, 0] : Fin 5 → ℕ) a : ℤ)) (d : Fin 2) (h : Fin 4) (a : Fin 128) (y : Fin 256) :
    shapeCast S2x4x128x256 (Host.dynamicSlice S1x2x4x128x256 t b sliceFits_S34x2x4x128x256_S1x2x4x128x256) shapeCasts_S1x2x4x128x256_S2x4x128x256 (ix4 d h a y)
      = t (ix5 ⟨p, hp⟩ d h a y) := by
  rw [Host.dynamicSlice_eq_extractStridedSlice (s := S34x2x4x128x256) S1x2x4x128x256 t b ![p, 0, 0, 0, 0] _ ⟨rfl, by intro a; fin_cases a <;> simp <;> omega⟩ hb]
  pointwise []
  try blk_ext []
theorem putAt256 (p : ℕ) (hp : p < 34) (t : S34x2x4x128x256.Idx → EReal) (u : S2x4x128x256.Idx → EReal) (b : Fin 5 → ℤ) (hb : ∀ a, b a = ((![p, 0, 0, 0, 0] : Fin 5 → ℕ) a : ℤ)) (s : Fin 34) (d : Fin 2) (h : Fin 4) (a : Fin 128) (y : Fin 256) :
    Host.dynamicUpdateSlice t (broadcastInDim S1x2x4x128x256 ![1, 2, 3, 4] bcast_S2x4x128x256_S1x2x4x128x256_1_2_3_4 u) b updateFits_S34x2x4x128x256_S1x2x4x128x256 (ix5 s d h a y)
      = if s.val = p then u (ix4 d h a y) else t (ix5 s d h a y) := by
  rw [Host.dynamicUpdateSlice_eq_updateSlice (s := S34x2x4x128x256) (u := S1x2x4x128x256) t _ b _ ![p, 0, 0, 0, 0] (fun a => by rw [hb]; fin_cases a <;> simp <;> omega) ⟨rfl, by intro a; fin_cases a <;> simp <;> omega⟩]
  pointwise []
  have := s.isLt; have := d.isLt; have := h.isLt; have := a.isLt; have := y.isLt
  by_cases hs : s.val = p
  · rw [dif_pos (by omega), if_pos hs]
  · rw [dif_neg (by omega), if_neg hs]

theorem putAt0 (p : ℕ) (hp : p < 34) (t : S34x2x4.Idx → EReal) (u : S2x4.Idx → EReal) (b : Fin 3 → ℤ) (hb : ∀ a, b a = ((![p, 0, 0] : Fin 3 → ℕ) a : ℤ)) (s : Fin 34) (d : Fin 2) (h : Fin 4) :
    Host.dynamicUpdateSlice t (broadcastInDim S1x2x4 ![1, 2] bcast_S2x4_S1x2x4_1_2 u) b updateFits_S34x2x4_S1x2x4 (ix3 s d h)
      = if s.val = p then u (ix2 d h) else t (ix3 s d h) := by
  rw [Host.dynamicUpdateSlice_eq_updateSlice (s := S34x2x4) (u := S1x2x4) t _ b _ ![p, 0, 0] (fun a => by rw [hb]; fin_cases a <;> simp <;> omega) ⟨rfl, by intro a; fin_cases a <;> simp <;> omega⟩]
  pointwise []
  have := s.isLt; have := d.isLt; have := h.isLt
  by_cases hs : s.val = p
  · rw [dif_pos (by omega), if_pos hs]
  · rw [dif_neg (by omega), if_neg hs]

/-- What the loop holds before the trip that `n` others precede: the arrays it reads, and the counter. -/
structure Reads (V : Valuation τ sig (Elt Ideal)) (A : Arrays) (n : ℕ) : Prop where
  lt : n < 34
  ctr : V (Proc.devRef .tc main_v44_6) = fun _ => BitVec.ofNat 32 n
  S (d : Fin 2) (h : Fin 4) (s : Fin 34) (a : Fin 128) (y : Fin 256) : V (Proc.devRef .tc main_v44_0) (ix5 s d h a y) = A.S d h s a y
  q (d : Fin 2) (h : Fin 4) (s : Fin 34) (i : Fin 128) (x : Fin 128) : V (Proc.devRef .tc main_v44_1) (ix5 s d h i x) = A.q d h s i x
  k (d : Fin 2) (h : Fin 4) (s : Fin 34) (i : Fin 128) (x : Fin 128) : V (Proc.devRef .tc main_v44_2) (ix5 s d h i x) = A.k d h s i x
  v (d : Fin 2) (h : Fin 4) (s : Fin 34) (i : Fin 128) (y : Fin 256) : V (Proc.devRef .tc main_v44_3) (ix5 s d h i y) = A.v d h s i y
  o (d : Fin 2) (h : Fin 4) (s : Fin 34) (i : Fin 128) (y : Fin 256) : V (Proc.devRef .tc main_v44_4) (ix5 s d h i y) = A.o d h s i y
  l (d : Fin 2) (h : Fin 4) : V (Proc.devRef .tc main_v44_5) (ix2 d h) = A.l d h

variable {V : Valuation τ sig (Elt Ideal)} {A : Arrays} {n : ℕ} (R : Reads V A n)
include R

/-- The chunk the trip treats, as a word. -/
theorem idx (j : S_.Idx) : (res_main_while0b_v79 V j).toInt = ((33 - n : ℕ) : ℤ) := by
  have hn := R.lt
  have e : res_main_while0b_v79 V j = BitVec.ofNat 32 (33 - n) := by
    show (34#32 - V (Proc.devRef .tc main_v44_6) j) - 1#32 = _
    rw [R.ctr]
    clear R
    show 34#32 - BitVec.ofNat 32 n - 1#32 = _
    interval_cases n <;> decide
  rw [e, BitVec.toInt_eq_toNat_cond, BitVec.toNat_ofNat, Nat.mod_eq_of_lt (by omega), if_pos (by omega)]

theorem starts (a : Fin 5) : (((![res_main_while0b_v79 V, constantI S_ 32 0#32, constantI S_ 32 0#32, constantI S_ 32 0#32, constantI S_ 32 0#32] : Fin 5 → (⟨S_, .i32⟩ : BufTy).Contents (Elt Ideal))) a (Shape.Idx.first h_S_)).toInt = ((![33 - n, 0, 0, 0, 0] : Fin 5 → ℕ) a : ℤ) := by
  fin_cases a
  · exact idx R _
  all_goals rfl
theorem starts3 (a : Fin 3) : (((![res_main_while0b_v79 V, constantI S_ 32 0#32, constantI S_ 32 0#32] : Fin 3 → (⟨S_, .i32⟩ : BufTy).Contents (Elt Ideal))) a (Shape.Idx.first h_S_)).toInt = ((![33 - n, 0, 0] : Fin 3 → ℕ) a : ℤ) := by
  fin_cases a
  · exact idx R _
  all_goals rfl

/-! ## What the trip reads -/

theorem r_S (d : Fin 2) (h : Fin 4) (i : Fin 128) (y : Fin 256) : res_main_while0b_v80 V (ix4 d h i y) = A.S d h (33 - n) i y :=
  (cutAt256 (33 - n) (by omega) _ _ (starts R) d h i y).trans (R.S d h _ i y)
theorem r_q (d : Fin 2) (h : Fin 4) (i : Fin 128) (y : Fin 128) : res_main_while0b_v81 V (ix4 d h i y) = A.q d h (33 - n) i y :=
  (cutAt128 (33 - n) (by omega) _ _ (starts R) d h i y).trans (R.q d h _ i y)
theorem r_k (d : Fin 2) (h : Fin 4) (i : Fin 128) (y : Fin 128) : res_main_while0b_v82 V (ix4 d h i y) = A.k d h (33 - n) i y :=
  (cutAt128 (33 - n) (by omega) _ _ (starts R) d h i y).trans (R.k d h _ i y)
theorem r_v (d : Fin 2) (h : Fin 4) (i : Fin 128) (y : Fin 256) : res_main_while0b_v83 V (ix4 d h i y) = A.v d h (33 - n) i y :=
  (cutAt256 (33 - n) (by omega) _ _ (starts R) d h i y).trans (R.v d h _ i y)
theorem r_o (d : Fin 2) (h : Fin 4) (i : Fin 128) (y : Fin 256) : res_main_while0b_v84 V (ix4 d h i y) = A.o d h (33 - n) i y :=
  (cutAt256 (33 - n) (by omega) _ _ (starts R) d h i y).trans (R.o d h _ i y)

/-! ## The coefficients -/

omit R in
theorem r_dist (i j : Fin 128) : res_main_while0b_v95 V (ix4 0 0 i j) = Ret.dist i j := by
  simp only [res_main_while0b_v93, res_main_while0b_v95, res_main_while0b_v91, res_main_while0b_v86, id]
  pointwise []
  rw [float_nat, float_nat]
  rcases Nat.lt_or_ge i.val j.val with hij | hij
  · rw [if_neg (fun e => by have := (sub_nonneg_iff _ _).mp e; omega), Ret.dist, Nat.sub_eq_zero_of_le hij.le]
    simp [nat]
  · rw [if_pos ((sub_nonneg_iff _ _).mpr hij), nat_sub hij, Ret.dist]
omit R in
theorem r_mask (i j : Fin 128) (a b : EReal) (d : Fin 2) (h : Fin 4) :
    Scalar.select (res_main_while0b_v100_1 V (ix4 d h i j)) a b = if j.val ≤ i.val then a else b := by
  simp only [res_main_while0b_v100_1, res_main_while0b_v93, res_main_while0b_v91, res_main_while0b_v86]
  pointwise []
  rw [float_nat, float_nat]
  exact if_congr (sub_nonneg_iff _ _) rfl rfl
theorem r_E (d : Fin 2) (h : Fin 4) (i j : Fin 128) : res_main_while0b_v99 V (ix4 d h i j) = Ideal.exp (Ret.dist i j * A.l d h) := by
  rw [← R.l, ← r_dist (V := V)]
  simp only [res_main_while0b_v99, res_main_while0b_v85]
  pointwise []
theorem r_D (d : Fin 2) (h : Fin 4) (i j : Fin 128) : res_main_while0b_v100_0 V (ix4 d h i j) = dec (A.l d h) i j := by
  simp only [res_main_while0b_v100_0, res_main_while0b_v100_1, res_main_while0b_v99, res_main_while0b_v93, res_main_while0b_v95, res_main_while0b_v91, res_main_while0b_v86, res_main_while0b_v85, id]
  pointwise []
  rw [float_nat, float_nat, R.l, dec]
  rcases Nat.lt_or_ge i.val j.val with hij | hij
  · rw [if_neg (fun e => by have := (sub_nonneg_iff _ _).mp e; omega), if_neg (by omega)]
  · rw [if_pos ((sub_nonneg_iff _ _).mpr hij), if_pos hij, if_pos ((sub_nonneg_iff _ _).mpr hij), nat_sub hij]
omit R in
theorem r_cxi (i : Fin 128) : res_main_while0b_v104 V (ix4 0 0 i 0) = cxi i := by
  simp only [res_main_while0b_v104, res_main_while0b_v86]
  pointwise []
  rw [float_nat, nat_succ, cxi]
omit R in
theorem r_cze (i : Fin 128) : res_main_while0b_v112 V (ix4 0 0 i 0) = cze i := by
  simp only [res_main_while0b_v112, res_main_while0b_v86]
  pointwise []
  rw [float_nat, c127, nat_sub (by omega), cze]
theorem r_xi (d : Fin 2) (h : Fin 4) (i : Fin 128) : res_main_while0b_v108 V (ix4 d h i 0) = xi (A.l d h) i := by
  rw [xi, ← R.l, ← r_cxi (V := V)]
  simp only [res_main_while0b_v108, res_main_while0b_v85]
  pointwise []
theorem r_ze (d : Fin 2) (h : Fin 4) (i : Fin 128) : res_main_while0b_v116 V (ix4 d h i 0) = ze (A.l d h) i := by
  rw [ze, ← R.l, ← r_cze (V := V)]
  simp only [res_main_while0b_v116, res_main_while0b_v85]
  pointwise []
theorem r_gam (d : Fin 2) (h : Fin 4) : res_main_while0b_v119 V (ix4 d h 0 0) = gam (A.l d h) := by
  simp only [res_main_while0b_v119, res_main_while0b_v85]
  pointwise []
  rw [c128, R.l, gam]

/-! ## The products -/

theorem r_qk (d : Fin 2) (h : Fin 4) (i j : Fin 128) : res_main_while0b_v120 V (ix4 d h i j) = ∑ a, A.q d h (33 - n) i a * A.k d h (33 - n) j a := by
  simp only [res_main_while0b_v120]
  pointwise []
  simp only [r_q R, r_k R]
theorem r_A (d : Fin 2) (h : Fin 4) (i j : Fin 128) : res_main_while0b_v121 V (ix4 d h i j) = (∑ a, A.q d h (33 - n) i a * A.k d h (33 - n) j a) * dec (A.l d h) i j := by
  simp only [res_main_while0b_v121]
  pointwise []
  rw [r_qk R, r_D R]
theorem r_qS (d : Fin 2) (h : Fin 4) (i : Fin 128) (y : Fin 256) : res_main_while0b_v123 V (ix4 d h i y) = ∑ a, A.q d h (33 - n) i a * A.S d h (33 - n) a y := by
  simp only [res_main_while0b_v123]
  pointwise []
  simp only [r_q R, r_S R]
theorem r_kz (d : Fin 2) (h : Fin 4) (j a : Fin 128) : res_main_while0b_v130 V (ix4 d h j a) = A.k d h (33 - n) j a * ze (A.l d h) j := by
  simp only [res_main_while0b_v130]
  pointwise []
  rw [r_k R, r_ze R]
/-- The state's gradient before the trip. -/
abbrev st (V : Valuation τ sig (Elt Ideal)) (d : Fin 2) (h : Fin 4) (a : Fin 128) (y : Fin 256) : EReal :=
  (V (Proc.devRef .tc main_v44_7) : S2x4x128x256.Idx → EReal) (ix4 d h a y)

theorem r_vT (d : Fin 2) (h : Fin 4) (j a : Fin 128) : res_main_while0b_v136 V (ix4 d h j a) = ∑ y, A.v d h (33 - n) j y * st V d h a y := by
  simp only [res_main_while0b_v136]
  pointwise []
  simp only [r_v R]
  exact Finset.sum_congr (M := EReal) rfl fun y _ => EReal.mul_comm _ _
theorem r_ox (d : Fin 2) (h : Fin 4) (i : Fin 128) (y : Fin 256) : res_main_while0b_v151 V (ix4 d h i y) = A.o d h (33 - n) i y * xi (A.l d h) i := by
  simp only [res_main_while0b_v151]
  pointwise []
  rw [r_o R, r_xi R]
theorem r_ov (d : Fin 2) (h : Fin 4) (i j : Fin 128) : res_main_while0b_v159 V (ix4 d h i j) = ∑ y, A.o d h (33 - n) i y * A.v d h (33 - n) j y := by
  simp only [res_main_while0b_v159]
  pointwise []
  simp only [r_o R, r_v R]
theorem r_ovD (d : Fin 2) (h : Fin 4) (i j : Fin 128) : res_main_while0b_v161 V (ix4 d h i j) = (∑ y, A.o d h (33 - n) i y * A.v d h (33 - n) j y) * dec (A.l d h) i j := by
  simp only [res_main_while0b_v161]
  pointwise []
  rw [r_ov R, r_D R]

/-! ## What the trip leaves -/

theorem s_T (d : Fin 2) (h : Fin 4) (a : Fin 128) (y : Fin 256) : step_main_v44_7 V (ix4 d h a y)
    = dsG (xi (A.l d h)) (gam (A.l d h)) (A.q d h (33 - n)) (A.o d h (33 - n)) (st V d h) a y := by
  simp only [step_main_v44_7, id]
  pointwise []
  simp only [r_ox R, r_q R, r_gam R]
  unfold dsG
  rw [mul_comm]
  refine congrArg _ (Finset.sum_congr rfl fun y _ => ?_)
  rw [mul_comm]
theorem s_dq (d : Fin 2) (h : Fin 4) (s : Fin 34) (i a : Fin 128) : step_main_v44_8 V (ix5 s d h i a)
    = if s.val = 33 - n then dqG (dec (A.l d h)) (xi (A.l d h)) (A.k d h (33 - n)) (A.v d h (33 - n)) (A.o d h (33 - n)) (A.S d h (33 - n)) i a
      else V (Proc.devRef .tc main_v44_8) (ix5 s d h i a) := by
  refine (putAt128 (33 - n) (by omega) _ _ _ (starts R) s d h i a).trans (if_congr Iff.rfl ?_ rfl)
  pointwise []
  simp only [r_ox R, r_S R, r_ovD R, r_k R]
  unfold dqG
  rw [add_comm]
theorem s_dk (d : Fin 2) (h : Fin 4) (s : Fin 34) (j a : Fin 128) : step_main_v44_9 V (ix5 s d h j a)
    = if s.val = 33 - n then dkG (dec (A.l d h)) (ze (A.l d h)) (A.q d h (33 - n)) (A.v d h (33 - n)) (A.o d h (33 - n)) (st V d h) j a
      else V (Proc.devRef .tc main_v44_9) (ix5 s d h j a) := by
  refine (putAt128 (33 - n) (by omega) _ _ _ (starts R) s d h j a).trans (if_congr Iff.rfl ?_ rfl)
  pointwise []
  simp only [r_vT R, r_ze R, r_ovD R, r_q R]
  unfold dkG
  rw [add_comm]
theorem s_dv (d : Fin 2) (h : Fin 4) (s : Fin 34) (j : Fin 128) (y : Fin 256) : step_main_v44_10 V (ix5 s d h j y)
    = if s.val = 33 - n then dvG (dec (A.l d h)) (ze (A.l d h)) (A.q d h (33 - n)) (A.k d h (33 - n)) (A.o d h (33 - n)) (st V d h) j y
      else V (Proc.devRef .tc main_v44_10) (ix5 s d h j y) := by
  refine (putAt256 (33 - n) (by omega) _ _ _ (starts R) s d h j y).trans (if_congr Iff.rfl ?_ rfl)
  pointwise []
  simp only [r_kz R, r_o R, r_A R]
  unfold dvG
  rw [add_comm]
  refine congrArg₂ (· + ·) (Finset.sum_congr rfl fun y _ => ?_) (Finset.sum_congr rfl fun y _ => ?_) <;> rw [mul_comm]
theorem s_dl (hl : ∀ d h, A.l d h ≤ 0) (d : Fin 2) (h : Fin 4) (s : Fin 34) : step_main_v44_11 V (ix3 s d h)
    = if s.val = 33 - n then dlG (dec (A.l d h)) Ret.dist (xi (A.l d h)) (ze (A.l d h)) cxi cze (gam (A.l d h)) (nat 128) (A.q d h (33 - n))
        (A.k d h (33 - n)) (A.v d h (33 - n)) (A.o d h (33 - n)) (A.S d h (33 - n)) (st V d h)
      else V (Proc.devRef .tc main_v44_11) (ix3 s d h) := by
  refine (putAt0 (33 - n) (by omega) _ _ _ (starts3 R) s d h).trans (if_congr Iff.rfl ?_ rfl)
  pointwise []
  simp only [Fin.sum_univ_one, r_mask, r_S R, r_k R, r_vT R, r_qS R, r_o R, r_ze R, r_xi R, r_cxi, r_cze, r_dist, r_qk R, r_ov R, r_E R]
  rw [c128, r_gam R]
  exact dlG_of (hl d h) _ _ _ _ _ _
end Cert.ReferenceIdeal.Scan

end
-- ==== Proof.RefValue.lean ====
/- What the reference computes: its loop treats the chunks from the last to the first, and its results are the gradients laid
   out as the step's arrays. -/
module

public import proofs.«01_k».proof.Proof.RefEntry
public import proofs.«01_k».proof.Proof.RefStep

@[expose] public section

set_option maxRecDepth 16384

noncomputable section

open Idealize.ShloMosaic Idealize.ShloMosaic.TcCoe Idealize.SL.Sem Idealize.ShloMosaic.StableHlo

namespace Cert.ReferenceIdeal.Scan

open Cert.Ret Cert.ReferenceIdeal Cert.ReferenceIdeal.Gen Cert.ReferenceIdeal.Value

/-- What the loop holds after `n` trips: the arrays it reads, the counter, the gradient of the state, and the gradients at the
    chunks treated so far. -/
structure Inv (V : Valuation τ sig (Elt Ideal)) (A : Arrays) (n : ℕ) : Prop where
  reads : n < 34 → Reads V A n
  T (d : Fin 2) (h : Fin 4) : st V d h = A.T d h n
  dq (d : Fin 2) (h : Fin 4) (s : Fin 34) (i a : Fin 128) : 33 - s.val < n → V (Proc.devRef .tc main_v44_8) (ix5 s d h i a) = A.dq d h (33 - s) i a
  dk (d : Fin 2) (h : Fin 4) (s : Fin 34) (i a : Fin 128) : 33 - s.val < n → V (Proc.devRef .tc main_v44_9) (ix5 s d h i a) = A.dk d h (33 - s) i a
  dv (d : Fin 2) (h : Fin 4) (s : Fin 34) (i : Fin 128) (y : Fin 256) : 33 - s.val < n → V (Proc.devRef .tc main_v44_10) (ix5 s d h i y) = A.dv d h (33 - s) i y
  dl (d : Fin 2) (h : Fin 4) (s : Fin 34) : 33 - s.val < n → V (Proc.devRef .tc main_v44_11) (ix3 s d h) = A.dl d h (33 - s)

/-- One trip. -/
theorem Inv.step {V : Valuation τ sig (Elt Ideal)} {A : Arrays} {n : ℕ} (I : Inv V A n) (hn : n < 34) (hl : ∀ d h, A.l d h ≤ 0) :
    Inv (STEP V) A (n + 1) := by
  have R := I.reads hn
  have hT (d : Fin 2) (h : Fin 4) : st V d h = A.T d h n := I.T d h
  constructor
  · intro hn'
    refine ⟨hn', ?_, ?_, ?_, ?_, ?_, ?_, ?_⟩
    · rw [STEP_main_v44_6]
      funext j
      have e : step_main_v44_6 V j = BitVec.add (V (Proc.devRef .tc main_v44_6) j) 1#32 := rfl
      rw [e, R.ctr]
      apply BitVec.eq_of_toNat_eq
      show ((BitVec.ofNat 32 n) + 1#32).toNat = _
      simp [BitVec.toNat_add, BitVec.toNat_ofNat]
    · rw [STEP_main_v44_0]; exact R.S
    · rw [STEP_main_v44_1]; exact R.q
    · rw [STEP_main_v44_2]; exact R.k
    · rw [STEP_main_v44_3]; exact R.v
    · rw [STEP_main_v44_4]; exact R.o
    · rw [STEP_main_v44_5]; exact R.l
  · intro d h
    funext a y
    show STEP V (Proc.devRef .tc main_v44_7) (ix4 d h a y) = _
    rw [STEP_main_v44_7, s_T R, hT]
    rfl
  · intro d h s i a hs
    rw [STEP_main_v44_8, s_dq R]
    split
    · rw [show 33 - s.val = n by omega]; rfl
    · exact I.dq d h s i a (by omega)
  · intro d h s i a hs
    rw [STEP_main_v44_9, s_dk R]
    split
    · rw [show 33 - s.val = n by omega, hT]; rfl
    · exact I.dk d h s i a (by omega)
  · intro d h s i a hs
    rw [STEP_main_v44_10, s_dv R]
    split
    · rw [show 33 - s.val = n by omega, hT]; rfl
    · exact I.dv d h s i a (by omega)
  · intro d h s hs
    rw [STEP_main_v44_11, s_dl R hl]
    split
    · rw [show 33 - s.val = n by omega, hT]; rfl
    · exact I.dl d h s (by omega)

variable (m : (ℓ : Loc nD τ sig) → Buf (Elt Ideal) ℓ) (c : Dev nD)

/-- After any number of trips. -/
theorem inv (n : ℕ) (hn : n ≤ 34) : Inv (STEP^[n] (entryContents preI m c)) (X m c) n := by
  induction n with
  | zero =>
    refine ⟨fun _ => ⟨by decide, ctr_entry m c, ?_, ?_, ?_, ?_, ?_, ?_⟩, ?_, ?_, ?_, ?_, ?_⟩
    · exact entry_S m c
    · exact entry_q m c
    · exact entry_k m c
    · exact entry_v m c
    · exact entry_o m c
    · exact entry_l m c
    · intro d h
      funext a y
      exact entry_T m c d h a y
    all_goals intros; omega
  | succ n ih =>
    rw [Function.iterate_succ_apply']
    exact (ih (by omega)).step (by omega) fun d h => logSig_nonpos _

/-- The contents after the loop. -/
abbrev E : Valuation τ sig (Elt Ideal) := STEP^[34] (entryContents preI m c)

theorem at_dq (s : Fin 34) (d : Fin 2) (h : Fin 4) (i a : Fin 128) : E m c (Proc.devRef .tc main_v44_8) (ix5 s d h i a) = (X m c).dq d h (33 - s) i a :=
  (inv m c 34 le_rfl).dq d h s i a (by omega)
theorem at_dk (s : Fin 34) (d : Fin 2) (h : Fin 4) (i a : Fin 128) : E m c (Proc.devRef .tc main_v44_9) (ix5 s d h i a) = (X m c).dk d h (33 - s) i a :=
  (inv m c 34 le_rfl).dk d h s i a (by omega)
theorem at_dv (s : Fin 34) (d : Fin 2) (h : Fin 4) (i : Fin 128) (y : Fin 256) : E m c (Proc.devRef .tc main_v44_10) (ix5 s d h i y) = (X m c).dv d h (33 - s) i y :=
  (inv m c 34 le_rfl).dv d h s i y (by omega)
theorem at_dl (s : Fin 34) (d : Fin 2) (h : Fin 4) : E m c (Proc.devRef .tc main_v44_11) (ix3 s d h) = (X m c).dl d h (33 - s) :=
  (inv m c 34 le_rfl).dl d h s (by omega)

/-- The rows of a stack of chunks, of one direction. -/
theorem rows512 (t : S34x2x4x128x128.Idx → EReal) (r : Fin 4352) (x : Fin 512) :
    shapeCast S4352x512 (extractStridedSlice S1x4352x512 ![0, 0, 0] (shapeCast S2x4352x512 (transpose S2x34x128x4x128 [1, 0, 3, 2, 4] t transposes_S34x2x4x128x128_S2x34x128x4x128_1_0_3_2_4) shapeCasts_S2x34x128x4x128_S2x4352x512) slices_S2x4352x512_S1x4352x512_0_0_0) shapeCasts_S1x4352x512_S4352x512 (ix2 r x)
      = t (ix5 ⟨r.val / 128, by omega⟩ 0 (hd x) ⟨r.val % 128, by omega⟩ (ln x)) := by
  pointwise []
  rfl
/-- The rows of the forward direction, put back in the arrays' order. -/
theorem turned512 (t : S4352x512.Idx → EReal) (r : Fin 4352) (x : Fin 512) :
    concatenate S4352x512 0 [⟨S4096x512, extractStridedSlice S4096x512 ![256, 0] t slices_S4352x512_S4096x512_256_0⟩, ⟨S256x512, extractStridedSlice S256x512 ![0, 0] t slices_S4352x512_S256x512_0_0⟩] concatenates_S4096x512_S256x512_S4352x512_d0 (ix2 r x)
      = t (ix2 ⟨(r.val + 256) % 4352, Nat.mod_lt _ (by decide)⟩ x) := by
  rcases Nat.lt_or_ge r.val 4096 with hr | hr
  · refine (concatenate_pair_apply_left (t := S4352x512) (s₁ := S4096x512) (s₂ := S256x512) 0 _ _ _ (ix2 r x) rfl (ix2 (⟨r.val, hr⟩ : Fin 4096) x : S4096x512.Idx) (by intro b; fin_cases b <;> rfl)).trans ?_
    pointwise []
    refine congrArg t (congrArg₂ ix2 (Fin.ext ?_) rfl)
    show 256 + r.val = (r.val + 256) % 4352
    omega
  · obtain ⟨z, hz⟩ : ∃ z : Fin 256, z.val + 4096 = r.val := ⟨⟨r.val - 4096, by omega⟩, Nat.sub_add_cancel hr⟩
    refine (concatenate_pair_apply_right (t := S4352x512) (s₁ := S4096x512) (s₂ := S256x512) 0 _ _ _ (ix2 r x) rfl rfl (ix2 z x : S256x512.Idx)
      (by intro b hb; fin_cases b; exact absurd rfl hb; rfl) hz).trans ?_
    pointwise []
    refine congrArg t (congrArg₂ ix2 (Fin.ext ?_) rfl)
    show z.val = (r.val + 256) % 4352
    omega

/-- The rows of a stack of chunks, of one direction. -/
theorem rows1024 (t : S34x2x4x128x256.Idx → EReal) (r : Fin 4352) (x : Fin 1024) :
    shapeCast S4352x1024 (extractStridedSlice S1x4352x1024 ![0, 0, 0] (shapeCast S2x4352x1024 (transpose S2x34x128x4x256 [1, 0, 3, 2, 4] t transposes_S34x2x4x128x256_S2x34x128x4x256_1_0_3_2_4) shapeCasts_S2x34x128x4x256_S2x4352x1024) slices_S2x4352x1024_S1x4352x1024_0_0_0) shapeCasts_S1x4352x1024_S4352x1024 (ix2 r x)
      = t (ix5 ⟨r.val / 128, by omega⟩ 0 (hdv x) ⟨r.val % 128, by omega⟩ (lnv x)) := by
  pointwise []
  rfl
/-- The rows of the forward direction, put back in the arrays' order. -/
theorem turned1024 (t : S4352x1024.Idx → EReal) (r : Fin 4352) (x : Fin 1024) :
    concatenate S4352x1024 0 [⟨S4096x1024, extractStridedSlice S4096x1024 ![256, 0] t slices_S4352x1024_S4096x1024_256_0⟩, ⟨S256x1024, extractStridedSlice S256x1024 ![0, 0] t slices_S4352x1024_S256x1024_0_0⟩] concatenates_S4096x1024_S256x1024_S4352x1024_d0 (ix2 r x)
      = t (ix2 ⟨(r.val + 256) % 4352, Nat.mod_lt _ (by decide)⟩ x) := by
  rcases Nat.lt_or_ge r.val 4096 with hr | hr
  · refine (concatenate_pair_apply_left (t := S4352x1024) (s₁ := S4096x1024) (s₂ := S256x1024) 0 _ _ _ (ix2 r x) rfl (ix2 (⟨r.val, hr⟩ : Fin 4096) x : S4096x1024.Idx) (by intro b; fin_cases b <;> rfl)).trans ?_
    pointwise []
    refine congrArg t (congrArg₂ ix2 (Fin.ext ?_) rfl)
    show 256 + r.val = (r.val + 256) % 4352
    omega
  · obtain ⟨z, hz⟩ : ∃ z : Fin 256, z.val + 4096 = r.val := ⟨⟨r.val - 4096, by omega⟩, Nat.sub_add_cancel hr⟩
    refine (concatenate_pair_apply_right (t := S4352x1024) (s₁ := S4096x1024) (s₂ := S256x1024) 0 _ _ _ (ix2 r x) rfl rfl (ix2 z x : S256x1024.Idx)
      (by intro b hb; fin_cases b; exact absurd rfl hb; rfl) hz).trans ?_
    pointwise []
    refine congrArg t (congrArg₂ ix2 (Fin.ext ?_) rfl)
    show z.val = (r.val + 256) % 4352
    omega

/-- The gradient of the queries, of the forward scan. -/
theorem out_dq_f : out_main_v53 (E m c) = fun i : S4352x512.Idx => (X m c).dqA 0 (i 0) (i 1) := by
  funext i
  obtain ⟨r, x, rfl⟩ : ∃ (r : Fin 4352) (x : Fin 512), i = ix2 r x := ⟨i 0, i 1, by funext a; fin_cases a <;> rfl⟩
  show out_main_v53 (E m c) (ix2 r x) = (X m c).dq 0 (hd x) (turn 0 r) (posn 0 r) (ln x)
  unfold out_main_v53
  exact (turned512 _ r x).trans ((rows512 _ _ x).trans (at_dq m c _ 0 _ _ _))
/-- The gradient of the queries, of the backward scan. -/
theorem out_dq_b : out_main_v54 (E m c) = fun i : S4352x512.Idx => (X m c).dqA 1 (i 0) (i 1) := by
  funext i
  obtain ⟨r, x, rfl⟩ : ∃ (r : Fin 4352) (x : Fin 512), i = ix2 r x := ⟨i 0, i 1, by funext a; fin_cases a <;> rfl⟩
  show out_main_v54 (E m c) (ix2 r x) = (X m c).dq 1 (hd x) (turn 1 r) (posn 1 r) (ln x)
  have e := at_dq m c ⟨(4351 - r.val) / 128, by omega⟩ 1 (hd x) ⟨(4351 - r.val) % 128, by omega⟩ (ln x)
  refine Eq.trans ?_ e
  generalize E m c = V
  unfold out_main_v54
  pointwise []
  have e0 : (if (0 : Fin 2) ∈ [0] then r.rev else r).val = 4351 - r.val := by
    show 4352 - (r.val + 1) = _
    omega
  refine congrArg (V (Proc.devRef .tc main_v44_8)) ?_
  funext a
  fin_cases a
  · exact Fin.ext (congrArg (· / 128) e0)
  · rfl
  · rfl
  · exact Fin.ext (congrArg (· % 128) e0)
  · rfl

/-- The gradient of the keys, of the forward scan. -/
theorem out_dk_f : out_main_v63 (E m c) = fun i : S4352x512.Idx => (X m c).dkA 0 (i 0) (i 1) := by
  funext i
  obtain ⟨r, x, rfl⟩ : ∃ (r : Fin 4352) (x : Fin 512), i = ix2 r x := ⟨i 0, i 1, by funext a; fin_cases a <;> rfl⟩
  show out_main_v63 (E m c) (ix2 r x) = (X m c).dk 0 (hd x) (turn 0 r) (posn 0 r) (ln x)
  unfold out_main_v63
  exact (turned512 _ r x).trans ((rows512 _ _ x).trans (at_dk m c _ 0 _ _ _))
/-- The gradient of the keys, of the backward scan. -/
theorem out_dk_b : out_main_v64 (E m c) = fun i : S4352x512.Idx => (X m c).dkA 1 (i 0) (i 1) := by
  funext i
  obtain ⟨r, x, rfl⟩ : ∃ (r : Fin 4352) (x : Fin 512), i = ix2 r x := ⟨i 0, i 1, by funext a; fin_cases a <;> rfl⟩
  show out_main_v64 (E m c) (ix2 r x) = (X m c).dk 1 (hd x) (turn 1 r) (posn 1 r) (ln x)
  have e := at_dk m c ⟨(4351 - r.val) / 128, by omega⟩ 1 (hd x) ⟨(4351 - r.val) % 128, by omega⟩ (ln x)
  refine Eq.trans ?_ e
  generalize E m c = V
  unfold out_main_v64
  pointwise []
  have e0 : (if (0 : Fin 2) ∈ [0] then r.rev else r).val = 4351 - r.val := by
    show 4352 - (r.val + 1) = _
    omega
  refine congrArg (V (Proc.devRef .tc main_v44_9)) ?_
  funext a
  fin_cases a
  · exact Fin.ext (congrArg (· / 128) e0)
  · rfl
  · rfl
  · exact Fin.ext (congrArg (· % 128) e0)
  · rfl

/-- The gradient of the values, of the forward scan. -/
theorem out_dv_f : out_main_v73 (E m c) = fun i : S4352x1024.Idx => (X m c).dvA 0 (i 0) (i 1) := by
  funext i
  obtain ⟨r, x, rfl⟩ : ∃ (r : Fin 4352) (x : Fin 1024), i = ix2 r x := ⟨i 0, i 1, by funext a; fin_cases a <;> rfl⟩
  show out_main_v73 (E m c) (ix2 r x) = (X m c).dv 0 (hdv x) (turn 0 r) (posn 0 r) (lnv x)
  unfold out_main_v73
  exact (turned1024 _ r x).trans ((rows1024 _ _ x).trans (at_dv m c _ 0 _ _ _))
/-- The gradient of the values, of the backward scan. -/
theorem out_dv_b : out_main_v74 (E m c) = fun i : S4352x1024.Idx => (X m c).dvA 1 (i 0) (i 1) := by
  funext i
  obtain ⟨r, x, rfl⟩ : ∃ (r : Fin 4352) (x : Fin 1024), i = ix2 r x := ⟨i 0, i 1, by funext a; fin_cases a <;> rfl⟩
  show out_main_v74 (E m c) (ix2 r x) = (X m c).dv 1 (hdv x) (turn 1 r) (posn 1 r) (lnv x)
  have e := at_dv m c ⟨(4351 - r.val) / 128, by omega⟩ 1 (hdv x) ⟨(4351 - r.val) % 128, by omega⟩ (lnv x)
  refine Eq.trans ?_ e
  generalize E m c = V
  unfold out_main_v74
  pointwise []
  have e0 : (if (0 : Fin 2) ∈ [0] then r.rev else r).val = 4351 - r.val := by
    show 4352 - (r.val + 1) = _
    omega
  refine congrArg (V (Proc.devRef .tc main_v44_10)) ?_
  funext a
  fin_cases a
  · exact Fin.ext (congrArg (· / 128) e0)
  · rfl
  · rfl
  · exact Fin.ext (congrArg (· % 128) e0)
  · rfl

/-- The gradient of the log decays. -/
theorem out_dl : out_main_v77 (E m c) = fun i : S2x4x8x128.Idx => (X m c).dlA (i 0) (i 1) := by
  funext i
  obtain ⟨d, h, a, b, rfl⟩ : ∃ (d : Fin 2) (h : Fin 4) (a : Fin 8) (b : Fin 128), i = ix4 d h a b := ⟨i 0, i 1, i 2, i 3, by funext a; fin_cases a <;> rfl⟩
  show out_main_v77 (E m c) (ix4 d h a b) = (X m c).dlA d h
  have e (s : Fin 34) := at_dl m c s d h
  generalize E m c = V at *
  unfold out_main_v77
  pointwise []
  simp only [e]
  rw [Arrays.dlA, Finset.sum_range, ← Equiv.sum_comp Fin.revPerm]
  refine Finset.sum_congr (M := EReal) rfl fun s _ => ?_
  rw [Fin.revPerm_apply, Fin.val_rev]
  exact congrArg _ (by omega)

end Cert.ReferenceIdeal.Scan

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Kernel2.Frame
public import proofs.«01_k».proof.Proof.Gen.Reference2Ideal.Run
public import proofs.«01_k».proof.Proof.UpDh
public import proofs.«01_k».proof.Proof.Gen.Kernel3.Frame
public import proofs.«01_k».proof.Proof.Gen.Reference3Ideal.Run
public import proofs.«01_k».proof.Proof.UpDw
public import proofs.«01_k».proof.Proof.Gen.Kernel4.Frame
public import proofs.«01_k».proof.Proof.Gen.Reference4Ideal.Run
public import proofs.«01_k».proof.Proof.DownDa
public import proofs.«01_k».proof.Proof.Gen.Kernel5.Frame
public import proofs.«01_k».proof.Proof.Gen.Reference5Ideal.Run
public import proofs.«01_k».proof.Proof.DownDw
public import proofs.«01_k».proof.Proof.Gen.Kernel6.Frame
public import proofs.«01_k».proof.Proof.Gen.Reference6Ideal.Run
public import proofs.«01_k».proof.Proof.InDh
public import proofs.«01_k».proof.Proof.Gen.Kernel7.Frame
public import proofs.«01_k».proof.Proof.Gen.Reference7Ideal.Run
public import proofs.«01_k».proof.Proof.InDw
public import proofs.«01_k».proof.Proof.Gen.Kernel8.Frame
public import proofs.«01_k».proof.Proof.Gen.Reference8Ideal.Run
public import proofs.«01_k».proof.Proof.OutDmix
public import proofs.«01_k».proof.Proof.Gen.Kernel9.Frame
public import proofs.«01_k».proof.Proof.Gen.Reference9Ideal.Run
public import proofs.«01_k».proof.Proof.Up
public import proofs.«01_k».proof.Proof.Gen.Kernel10.Frame
public import proofs.«01_k».proof.Proof.Gen.Reference10Ideal.Run
public import proofs.«01_k».proof.Proof.In
public import proofs.«01_k».proof.Proof.Gen.Kernel11.Frame
public import proofs.«01_k».proof.Proof.Gen.Reference11Ideal.Run
public import proofs.«01_k».proof.Proof.Down
public import proofs.«01_k».proof.Proof.Gen.Kernel12.Frame
public import proofs.«01_k».proof.Proof.Gen.Reference12Ideal.Run
public import proofs.«01_k».proof.Proof.OutDwA
public import proofs.«01_k».proof.Proof.Gen.Kernel13.Frame
public import proofs.«01_k».proof.Proof.Gen.Reference13Ideal.Run
public import proofs.«01_k».proof.Proof.OutDwB
public import proofs.«01_k».proof.Proof.Gen.Kernel14.Frame
public import proofs.«01_k».proof.Proof.Gen.Reference14Ideal.Run
public import proofs.«01_k».proof.Proof.OutDwC
public import proofs.«01_k».proof.Proof.Gen.Kernel15.Frame
public import proofs.«01_k».proof.Proof.Gen.Reference15Ideal.Run
public import proofs.«01_k».proof.Proof.PwDact
public import proofs.«01_k».proof.Proof.Gen.Kernel16.Frame
public import proofs.«01_k».proof.Proof.Gen.Reference16Ideal.Run
public import proofs.«01_k».proof.Proof.PwDw
public import proofs.«01_k».proof.Proof.Gen.Kernel17.Frame
public import proofs.«01_k».proof.Proof.Gen.Reference17Ideal.Run
public import proofs.«01_k».proof.Proof.Out
public import proofs.«01_k».proof.Proof.Gen.Kernel18.Frame
public import proofs.«01_k».proof.Proof.Gen.Reference18Ideal.Run
public import proofs.«01_k».proof.Proof.Pw
public import proofs.«01_k».proof.Proof.Gen.Kernel19.Frame
public import proofs.«01_k».proof.Proof.Gen.Reference19Ideal.Run
public import proofs.«01_k».proof.Proof.UpDhLater
public import proofs.«01_k».proof.Proof.Gen.Kernel20.Frame
public import proofs.«01_k».proof.Proof.Gen.Reference20Ideal.Run
public import proofs.«01_k».proof.Proof.UpDwLater
public import proofs.«01_k».proof.Proof.Gen.Kernel21.Frame
public import proofs.«01_k».proof.Proof.Gen.Reference21Ideal.Run
public import proofs.«01_k».proof.Proof.DownDaLater
public import proofs.«01_k».proof.Proof.Gen.Kernel22.Frame
public import proofs.«01_k».proof.Proof.Gen.Reference22Ideal.Run
public import proofs.«01_k».proof.Proof.DownDwLater
public import proofs.«01_k».proof.Proof.Gen.Kernel23.Frame
public import proofs.«01_k».proof.Proof.Gen.Reference23Ideal.Run
public import proofs.«01_k».proof.Proof.InDhLater
public import proofs.«01_k».proof.Proof.Gen.Kernel24.Frame
public import proofs.«01_k».proof.Proof.Gen.Reference24Ideal.Run
public import proofs.«01_k».proof.Proof.InDwLater
public import proofs.«01_k».proof.Proof.Gen.Kernel25.Frame
public import proofs.«01_k».proof.Proof.Gen.Reference25Ideal.Run
public import proofs.«01_k».proof.Proof.OutDmixLater
public import proofs.«01_k».proof.Proof.Gen.Kernel26.Frame
public import proofs.«01_k».proof.Proof.Gen.Reference26Ideal.Run
public import proofs.«01_k».proof.Proof.UpLater
public import proofs.«01_k».proof.Proof.Gen.Kernel27.Frame
public import proofs.«01_k».proof.Proof.Gen.Reference27Ideal.Run
public import proofs.«01_k».proof.Proof.InLater
public import proofs.«01_k».proof.Proof.Gen.Kernel28.Frame
public import proofs.«01_k».proof.Proof.Gen.Reference28Ideal.Run
public import proofs.«01_k».proof.Proof.DownLater
public import proofs.«01_k».proof.Proof.Gen.Kernel29.Frame
public import proofs.«01_k».proof.Proof.Gen.Reference29Ideal.Run
public import proofs.«01_k».proof.Proof.OutDwALater
public import proofs.«01_k».proof.Proof.Gen.Kernel30.Frame
public import proofs.«01_k».proof.Proof.Gen.Reference30Ideal.Run
public import proofs.«01_k».proof.Proof.OutDwBLater
public import proofs.«01_k».proof.Proof.Gen.Kernel31.Frame
public import proofs.«01_k».proof.Proof.Gen.Reference31Ideal.Run
public import proofs.«01_k».proof.Proof.OutDwCLater
public import proofs.«01_k».proof.Proof.Gen.Kernel32.Frame
public import proofs.«01_k».proof.Proof.Gen.Reference32Ideal.Run
public import proofs.«01_k».proof.Proof.PwDactLater
public import proofs.«01_k».proof.Proof.Gen.Kernel33.Frame
public import proofs.«01_k».proof.Proof.Gen.Reference33Ideal.Run
public import proofs.«01_k».proof.Proof.PwDwLater
public import proofs.«01_k».proof.Proof.Gen.Kernel34.Frame
public import proofs.«01_k».proof.Proof.Gen.Reference34Ideal.Run
public import proofs.«01_k».proof.Proof.OutLater
public import proofs.«01_k».proof.Proof.Gen.Kernel35.Frame
public import proofs.«01_k».proof.Proof.Gen.Reference35Ideal.Run
public import proofs.«01_k».proof.Proof.PwLater
public import proofs.«01_k».proof.Proof.Gen.Kernel36.Frame
public import proofs.«01_k».proof.Proof.Gen.Kernel36Ideal.Value
public import proofs.«01_k».proof.Proof.Gen.Reference36Ideal.Run
public import proofs.«01_k».proof.Proof.Adam
public import proofs.«01_k».proof.Proof.Gen.Kernel37.Frame
public import proofs.«01_k».proof.Proof.Gen.Kernel37Ideal.Value
public import proofs.«01_k».proof.Proof.Gen.Reference37Ideal.Run
public import proofs.«01_k».proof.Proof.AdamIn
public import proofs.«01_k».proof.Proof.Gen.Kernel38.Frame
public import proofs.«01_k».proof.Proof.Gen.Kernel38Ideal.Value
public import proofs.«01_k».proof.Proof.Gen.Reference38Ideal.Run
public import proofs.«01_k».proof.Proof.Gen.Kernel39.Frame
public import proofs.«01_k».proof.Proof.Gen.Kernel39Ideal.Value
public import proofs.«01_k».proof.Proof.Gen.Reference39Ideal.Run
public import proofs.«01_k».proof.Proof.AdamOut
public import proofs.«01_k».proof.Proof.Gen.Kernel40.Frame
public import proofs.«01_k».proof.Proof.Gen.Kernel40Ideal.Value
public import proofs.«01_k».proof.Proof.Gen.Reference40Ideal.Run
public import proofs.«01_k».proof.Proof.AdamUp
public import proofs.«01_k».proof.Proof.Gen.Kernel41.Frame
public import proofs.«01_k».proof.Proof.Gen.Kernel41Ideal.Value
public import proofs.«01_k».proof.Proof.Gen.Reference41Ideal.Run
public import proofs.«01_k».proof.Proof.AdamDown
public import proofs.«01_k».proof.Proof.Gen.Kernel42.Frame
public import proofs.«01_k».proof.Proof.Gen.Kernel42Ideal.Value
public import proofs.«01_k».proof.Proof.Gen.Reference42Ideal.Run
public import proofs.«01_k».proof.Proof.Gen.Kernel43.Frame
public import proofs.«01_k».proof.Proof.Gen.Reference43Ideal.Run
public import proofs.«01_k».proof.Proof.AdaBwd
public import proofs.«01_k».proof.Proof.Gen.Kernel44.Frame
public import proofs.«01_k».proof.Proof.Gen.Reference44Ideal.Run
public import proofs.«01_k».proof.Proof.SumSmall
public import proofs.«01_k».proof.Proof.Gen.Kernel45.Frame
public import proofs.«01_k».proof.Proof.Gen.Reference45Ideal.Run
public import proofs.«01_k».proof.Proof.SumBias
public import proofs.«01_k».proof.Proof.Gen.Kernel46.Frame
public import proofs.«01_k».proof.Proof.Gen.Reference46Ideal.Run
public import proofs.«01_k».proof.Proof.CctxGrad
public import proofs.«01_k».proof.Proof.Gen.Kernel47.Frame
public import proofs.«01_k».proof.Proof.Gen.Reference47Ideal.Run
public import proofs.«01_k».proof.Proof.NormFwd
public import proofs.«01_k».proof.Proof.Gen.Kernel48.Frame
public import proofs.«01_k».proof.Proof.Gen.Reference48Ideal.Run
public import proofs.«01_k».proof.Proof.ResidFwd
public import proofs.«01_k».proof.Proof.Gen.Kernel49.Frame
public import proofs.«01_k».proof.Proof.Gen.Reference49Ideal.Run
public import proofs.«01_k».proof.Proof.AdaFwd
public import proofs.«01_k».proof.Proof.Gen.Kernel50.Frame
public import proofs.«01_k».proof.Proof.Gen.Reference50Ideal.Run
public import proofs.«01_k».proof.Proof.LnFwd
public import proofs.«01_k».proof.Proof.Gen.Kernel51.Frame
public import proofs.«01_k».proof.Proof.Gen.Reference51Ideal.Run
public import proofs.«01_k».proof.Proof.GgnFwd
public import proofs.«01_k».proof.Proof.Gen.Kernel52.Frame
public import proofs.«01_k».proof.Proof.Gen.Kernel52Ideal.Value
public import proofs.«01_k».proof.Proof.Gen.Reference52Ideal.Run
public import proofs.«01_k».proof.Proof.RunBwd
public import proofs.«01_k».proof.Proof.BwdFinal
public import proofs.«01_k».proof.Proof.RefValue
public import Idealize.ShloMosaic.Adequacy
public import Idealize.ShloMosaic.Init
public import Idealize.ShloMosaic.Lib.Tactic

@[expose] public section

noncomputable section

namespace Cert.Proof

open Idealize.ShloMosaic Idealize.SL.Sem

/-- The run over bit-exact floats that the module `RunBwd` proves, of the text printed for the extended reals. -/
def FrameOwn : Prop := ∀ (m : (ℓ : Loc Cert.KernelIdeal.nD Cert.KernelIdeal.τ Cert.KernelIdeal.sig) → Buf (Elt Bits) ℓ) (g : Dev Cert.KernelIdeal.nD → PrngReg),
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem (c.tc.loc Cert.KernelIdeal.main_arg0) = m (c.tc.loc Cert.KernelIdeal.main_arg0)
      ∧ r.2.mem (c.tc.loc Cert.KernelIdeal.main_arg1) = m (c.tc.loc Cert.KernelIdeal.main_arg1)
      ∧ r.2.mem (c.tc.loc Cert.KernelIdeal.main_arg2) = m (c.tc.loc Cert.KernelIdeal.main_arg2)
      ∧ r.2.mem (c.tc.loc Cert.KernelIdeal.main_arg3) = m (c.tc.loc Cert.KernelIdeal.main_arg3)
      ∧ r.2.mem (c.tc.loc Cert.KernelIdeal.main_arg4) = m (c.tc.loc Cert.KernelIdeal.main_arg4)
      ∧ r.2.mem (c.tc.loc Cert.KernelIdeal.main_arg5) = m (c.tc.loc Cert.KernelIdeal.main_arg5))
      ∧ r.2.sem = fun _ => 0)
/-- The same statement of the text printed for bit-exact floats. -/
def FrameCopy : Prop := ∀ (m : (ℓ : Loc Cert.Kernel.nD Cert.Kernel.τ Cert.Kernel.sig) → Buf (Elt Bits) ℓ) (g : Dev Cert.Kernel.nD → PrngReg),
    θ_run (Cert.Kernel.defs (F := Bits)) (onTc (τ := Cert.Kernel.τ) (Cert.Kernel.main (F := Bits))) ⟨m, fun _ => 0, g⟩ (fun r => (∀ c : Dev Cert.Kernel.nD,
      r.2.mem (c.tc.loc Cert.Kernel.main_arg0) = m (c.tc.loc Cert.Kernel.main_arg0)
      ∧ r.2.mem (c.tc.loc Cert.Kernel.main_arg1) = m (c.tc.loc Cert.Kernel.main_arg1)
      ∧ r.2.mem (c.tc.loc Cert.Kernel.main_arg2) = m (c.tc.loc Cert.Kernel.main_arg2)
      ∧ r.2.mem (c.tc.loc Cert.Kernel.main_arg3) = m (c.tc.loc Cert.Kernel.main_arg3)
      ∧ r.2.mem (c.tc.loc Cert.Kernel.main_arg4) = m (c.tc.loc Cert.Kernel.main_arg4)
      ∧ r.2.mem (c.tc.loc Cert.Kernel.main_arg5) = m (c.tc.loc Cert.Kernel.main_arg5))
      ∧ r.2.sem = fun _ => 0)
/-- The two printed texts are equal, definition by definition. -/
theorem frameBits_eq : FrameOwn = FrameCopy := by sl_kernel_rfl
/-- The version's backward call as printed runs, leaves its arguments unchanged and every counter at zero. -/
theorem frame_p : Cert.quiescent_Kernel := fun m ρ _ =>
  (frameBits_eq ▸ (fun m ρ => Cert.KernelIdeal.Gen.frame (F := Bits) m ρ : FrameOwn) : FrameCopy) m ρ

/-- The same of its reading at the extended reals. -/
theorem frame_pi : Cert.quiescent_KernelIdeal := fun m ρ _ => Cert.KernelIdeal.Gen.frame (F := Ideal) m ρ

/-- The reference runs and leaves its arguments unchanged; it declares no counter. -/
theorem frame_ri : Cert.quiescent_ReferenceIdeal := fun m ρ _ =>
  (θ_run _ _ _).mono (fun _ h => ⟨fun c => (h c).2.2.2.2.2.2.2, funext fun s => nomatch s⟩) (Cert.ReferenceIdeal.Value.run (F := Ideal) m ρ)

/-- The gradients of the bidirectional retention: from arguments that agree, the version's backward call and the scan of
    `jax.vjp`s of the reference's chunk end at the same seven arrays (the gradients of the queries, of the keys, of the
    values, each in both directions, and the gradients of the log decays). -/
theorem algebraic : Cert.algebraic_KernelIdeal_ReferenceIdeal := fun m ρ m' ρ' _ hag => by
  have hX : ∀ c, Cert.ReferenceIdeal.Scan.X m' c = Cert.KernelIdeal.Point.X m c := fun c => by
    obtain ⟨h0, h1, h2, h3, h4, h5⟩ := hag c
    unfold Cert.ReferenceIdeal.Scan.X Cert.KernelIdeal.Point.X
    rw [h0, h1, h2, h3, h4, h5]
  let A := Cert.KernelIdeal.Point.X m
  refine ⟨fun c => (fun i : Cert.KernelIdeal.S4352x512.Idx => (A c).dqA 0 (i 0) (i 1)), fun c => (fun i : Cert.KernelIdeal.S4352x512.Idx => (A c).dqA 1 (i 0) (i 1)),
    fun c => (fun i : Cert.KernelIdeal.S4352x512.Idx => (A c).dkA 0 (i 0) (i 1)), fun c => (fun i : Cert.KernelIdeal.S4352x512.Idx => (A c).dkA 1 (i 0) (i 1)),
    fun c => (fun i : Cert.KernelIdeal.S4352x1024.Idx => (A c).dvA 0 (i 0) (i 1)), fun c => (fun i : Cert.KernelIdeal.S4352x1024.Idx => (A c).dvA 1 (i 0) (i 1)),
    fun c => (fun i : Cert.KernelIdeal.S2x4x8x128.Idx => (A c).dlA (i 0) (i 1)), ?_, ?_⟩
  · refine (θ_run _ _ _).mono (fun r h c => ?_) (θ_run_and (Cert.KernelIdeal.Gen.run_main (F := Ideal) m ρ) (Cert.KernelIdeal.Gen.unchanged (F := Ideal) m ρ))
    have w := (h.1 c).1
    exact ⟨(w 10).trans (Cert.KernelIdeal.Point.final_10 m c), (w 11).trans (Cert.KernelIdeal.Point.final_11 m c),
      (w 12).trans (Cert.KernelIdeal.Point.final_12 m c), (w 13).trans (Cert.KernelIdeal.Point.final_13 m c),
      (w 14).trans (Cert.KernelIdeal.Point.final_14 m c), (w 15).trans (Cert.KernelIdeal.Point.final_15 m c),
      (w 16).trans (Cert.KernelIdeal.Point.final_16 m c), h.2 c⟩
  · refine (θ_run _ _ _).mono (fun r h c => ?_) (Cert.ReferenceIdeal.Value.run (F := Ideal) m' ρ')
    obtain ⟨g0, g1, g2, g3, g4, g5, g6, kept⟩ := h c
    have e := hX c
    refine ⟨g0.trans ((Cert.ReferenceIdeal.Scan.out_dq_f m' c).trans ?_), g1.trans ((Cert.ReferenceIdeal.Scan.out_dq_b m' c).trans ?_),
      g2.trans ((Cert.ReferenceIdeal.Scan.out_dk_f m' c).trans ?_), g3.trans ((Cert.ReferenceIdeal.Scan.out_dk_b m' c).trans ?_),
      g4.trans ((Cert.ReferenceIdeal.Scan.out_dv_f m' c).trans ?_), g5.trans ((Cert.ReferenceIdeal.Scan.out_dv_b m' c).trans ?_),
      g6.trans ((Cert.ReferenceIdeal.Scan.out_dl m' c).trans ?_), kept⟩ <;> rw [e]

/-- The reference of call 2 runs and leaves its arguments unchanged; it declares no counter. -/
theorem frame_ri2 : Cert.quiescent_Reference2Ideal := fun m ρ _ =>
  (θ_run _ _ _).mono (fun _ h => ⟨fun c => (h c).2, funext fun s => nomatch s⟩) (Cert.Reference2Ideal.Value.run (F := Ideal) m ρ)
/-- The cotangent of the up projection's input: from arguments that agree, the version's call and the reference end at the same array. -/
theorem algebraic2 : Cert.algebraic_Kernel2Ideal_Reference2Ideal := fun m ρ m' ρ' _ hag =>
  ⟨fun c => Cert.Kernel2Ideal.Value.REF (m (c.tc.loc Cert.Kernel2Ideal.main_arg0)) (m (c.tc.loc Cert.Kernel2Ideal.main_arg1)),
    (θ_run _ _ _).mono (fun _ h c => ⟨(h c).1.trans (Cert.Kernel2Ideal.Value.final m c), (h c).2⟩) (Cert.Kernel2Ideal.Value.run_blocks m ρ),
    (θ_run _ _ _).mono (fun _ h c => ⟨(h c).1.trans (by obtain ⟨h0, h1⟩ := hag c; rw [h0, h1]), (h c).2⟩) (Cert.Reference2Ideal.Value.run (F := Ideal) m' ρ')⟩

/-- The reference of call 3 runs and leaves its arguments unchanged; it declares no counter. -/
theorem frame_ri3 : Cert.quiescent_Reference3Ideal := fun m ρ _ =>
  (θ_run _ _ _).mono (fun _ h => ⟨fun c => (h c).2, funext fun s => nomatch s⟩) (Cert.Reference3Ideal.Value.run (F := Ideal) m ρ)
/-- The up projection's weight gradient: from arguments that agree, the version's call and the reference end at the same array. -/
theorem algebraic3 : Cert.algebraic_Kernel3Ideal_Reference3Ideal := fun m ρ m' ρ' _ hag =>
  ⟨fun c => Cert.Kernel3Ideal.Value.REF (m (c.tc.loc Cert.Kernel3Ideal.main_arg0)) (m (c.tc.loc Cert.Kernel3Ideal.main_arg1)) (m (c.tc.loc Cert.Kernel3Ideal.main_arg2)),
    (θ_run _ _ _).mono (fun _ h c => ⟨(h c).1.trans (Cert.Kernel3Ideal.Value.final m c), (h c).2⟩) (Cert.Kernel3Ideal.Value.run_blocks m ρ),
    (θ_run _ _ _).mono (fun _ h c => ⟨(h c).1.trans (by obtain ⟨h0, h1, h2⟩ := hag c; rw [h0, h1, h2]), (h c).2⟩) (Cert.Reference3Ideal.Value.run (F := Ideal) m' ρ')⟩

/-- The reference of call 4 runs and leaves its arguments unchanged; it declares no counter. -/
theorem frame_ri4 : Cert.quiescent_Reference4Ideal := fun m ρ _ =>
  (θ_run _ _ _).mono (fun _ h => ⟨fun c => (h c).2, funext fun s => nomatch s⟩) (Cert.Reference4Ideal.Value.run (F := Ideal) m ρ)
/-- The cotangent of the down projection's input: from arguments that agree, the version's call and the reference end at the same array. -/
theorem algebraic4 : Cert.algebraic_Kernel4Ideal_Reference4Ideal := fun m ρ m' ρ' _ hag =>
  ⟨fun c => Cert.Kernel4Ideal.Value.REF (m (c.tc.loc Cert.Kernel4Ideal.main_arg0)) (m (c.tc.loc Cert.Kernel4Ideal.main_arg1)),
    (θ_run _ _ _).mono (fun _ h c => ⟨(h c).1.trans (Cert.Kernel4Ideal.Value.final m c), (h c).2⟩) (Cert.Kernel4Ideal.Value.run_blocks m ρ),
    (θ_run _ _ _).mono (fun _ h c => ⟨(h c).1.trans (by obtain ⟨h0, h1⟩ := hag c; rw [h0, h1]), (h c).2⟩) (Cert.Reference4Ideal.Value.run (F := Ideal) m' ρ')⟩

/-- The reference of call 5 runs and leaves its arguments unchanged; it declares no counter. -/
theorem frame_ri5 : Cert.quiescent_Reference5Ideal := fun m ρ _ =>
  (θ_run _ _ _).mono (fun _ h => ⟨fun c => (h c).2, funext fun s => nomatch s⟩) (Cert.Reference5Ideal.Value.run (F := Ideal) m ρ)
/-- The down projection's weight gradient: from arguments that agree, the version's call and the reference end at the same array. -/
theorem algebraic5 : Cert.algebraic_Kernel5Ideal_Reference5Ideal := fun m ρ m' ρ' _ hag =>
  ⟨fun c => Cert.Kernel5Ideal.Value.REF (m (c.tc.loc Cert.Kernel5Ideal.main_arg0)) (m (c.tc.loc Cert.Kernel5Ideal.main_arg1)) (m (c.tc.loc Cert.Kernel5Ideal.main_arg2)),
    (θ_run _ _ _).mono (fun _ h c => ⟨(h c).1.trans (Cert.Kernel5Ideal.Value.final m c), (h c).2⟩) (Cert.Kernel5Ideal.Value.run_blocks m ρ),
    (θ_run _ _ _).mono (fun _ h c => ⟨(h c).1.trans (by obtain ⟨h0, h1, h2⟩ := hag c; rw [h0, h1, h2]), (h c).2⟩) (Cert.Reference5Ideal.Value.run (F := Ideal) m' ρ')⟩

/-- The reference of call 6 runs and leaves its arguments unchanged; it declares no counter. -/
theorem frame_ri6 : Cert.quiescent_Reference6Ideal := fun m ρ _ =>
  (θ_run _ _ _).mono (fun _ h => ⟨fun c => (h c).2, funext fun s => nomatch s⟩) (Cert.Reference6Ideal.Value.run (F := Ideal) m ρ)
/-- The cotangent of the input projection's input: from arguments that agree, the version's call and the reference end at the same array. -/
theorem algebraic6 : Cert.algebraic_Kernel6Ideal_Reference6Ideal := fun m ρ m' ρ' _ hag =>
  ⟨fun c => Cert.Kernel6Ideal.Value.REF (m (c.tc.loc Cert.Kernel6Ideal.main_arg0)) (m (c.tc.loc Cert.Kernel6Ideal.main_arg1)),
    (θ_run _ _ _).mono (fun _ h c => ⟨(h c).1.trans (Cert.Kernel6Ideal.Value.final m c), (h c).2⟩) (Cert.Kernel6Ideal.Value.run_blocks m ρ),
    (θ_run _ _ _).mono (fun _ h c => ⟨(h c).1.trans (by obtain ⟨h0, h1⟩ := hag c; rw [h0, h1]), (h c).2⟩) (Cert.Reference6Ideal.Value.run (F := Ideal) m' ρ')⟩

/-- The reference of call 7 runs and leaves its arguments unchanged; it declares no counter. -/
theorem frame_ri7 : Cert.quiescent_Reference7Ideal := fun m ρ _ =>
  (θ_run _ _ _).mono (fun _ h => ⟨fun c => (h c).2, funext fun s => nomatch s⟩) (Cert.Reference7Ideal.Value.run (F := Ideal) m ρ)
/-- The input projection's weight gradient: from arguments that agree, the version's call and the reference end at the same array. -/
theorem algebraic7 : Cert.algebraic_Kernel7Ideal_Reference7Ideal := fun m ρ m' ρ' _ hag =>
  ⟨fun c => Cert.Kernel7Ideal.Value.REF (m (c.tc.loc Cert.Kernel7Ideal.main_arg0)) (m (c.tc.loc Cert.Kernel7Ideal.main_arg1)) (m (c.tc.loc Cert.Kernel7Ideal.main_arg2)),
    (θ_run _ _ _).mono (fun _ h c => ⟨(h c).1.trans (Cert.Kernel7Ideal.Value.final m c), (h c).2⟩) (Cert.Kernel7Ideal.Value.run_blocks m ρ),
    (θ_run _ _ _).mono (fun _ h c => ⟨(h c).1.trans (by obtain ⟨h0, h1, h2⟩ := hag c; rw [h0, h1, h2]), (h c).2⟩) (Cert.Reference7Ideal.Value.run (F := Ideal) m' ρ')⟩

/-- The reference of call 8 runs and leaves its arguments unchanged; it declares no counter. -/
theorem frame_ri8 : Cert.quiescent_Reference8Ideal := fun m ρ _ =>
  (θ_run _ _ _).mono (fun _ h => ⟨fun c => (h c).2, funext fun s => nomatch s⟩) (Cert.Reference8Ideal.Value.run (F := Ideal) m ρ)
/-- The cotangent of the output projection's input: from arguments that agree, the version's call and the reference end at the same array. -/
theorem algebraic8 : Cert.algebraic_Kernel8Ideal_Reference8Ideal := fun m ρ m' ρ' _ hag =>
  ⟨fun c => Cert.Kernel8Ideal.Value.REF (m (c.tc.loc Cert.Kernel8Ideal.main_arg0)) (m (c.tc.loc Cert.Kernel8Ideal.main_arg1)),
    (θ_run _ _ _).mono (fun _ h c => ⟨(h c).1.trans (Cert.Kernel8Ideal.Value.final m c), (h c).2⟩) (Cert.Kernel8Ideal.Value.run_blocks m ρ),
    (θ_run _ _ _).mono (fun _ h c => ⟨(h c).1.trans (by obtain ⟨h0, h1⟩ := hag c; rw [h0, h1]), (h c).2⟩) (Cert.Reference8Ideal.Value.run (F := Ideal) m' ρ')⟩

/-- The reference of call 9 runs and leaves its arguments unchanged; it declares no counter. -/
theorem frame_ri9 : Cert.quiescent_Reference9Ideal := fun m ρ _ =>
  (θ_run _ _ _).mono (fun _ h => ⟨fun c => (h c).2, funext fun s => nomatch s⟩) (Cert.Reference9Ideal.Value.run (F := Ideal) m ρ)
/-- The up projection: from arguments that agree, the version's call and the reference end at the same array. -/
theorem algebraic9 : Cert.algebraic_Kernel9Ideal_Reference9Ideal := fun m ρ m' ρ' _ hag =>
  ⟨fun c => Cert.Kernel9Ideal.Value.REF (m (c.tc.loc Cert.Kernel9Ideal.main_arg0)) (m (c.tc.loc Cert.Kernel9Ideal.main_arg1)),
    (θ_run _ _ _).mono (fun _ h c => ⟨(h c).1.trans (Cert.Kernel9Ideal.Value.final m c), (h c).2⟩) (Cert.Kernel9Ideal.Value.run_blocks m ρ),
    (θ_run _ _ _).mono (fun _ h c => ⟨(h c).1.trans (by obtain ⟨h0, h1⟩ := hag c; rw [h0, h1]), (h c).2⟩) (Cert.Reference9Ideal.Value.run (F := Ideal) m' ρ')⟩

/-- The reference of call 10 runs and leaves its arguments unchanged; it declares no counter. -/
theorem frame_ri10 : Cert.quiescent_Reference10Ideal := fun m ρ _ =>
  (θ_run _ _ _).mono (fun _ h => ⟨fun c => (h c).2, funext fun s => nomatch s⟩) (Cert.Reference10Ideal.Value.run (F := Ideal) m ρ)
/-- The input projection: from arguments that agree, the version's call and the reference end at the same array. -/
theorem algebraic10 : Cert.algebraic_Kernel10Ideal_Reference10Ideal := fun m ρ m' ρ' _ hag =>
  ⟨fun c => Cert.Kernel10Ideal.Value.REF (m (c.tc.loc Cert.Kernel10Ideal.main_arg0)) (m (c.tc.loc Cert.Kernel10Ideal.main_arg1)),
    (θ_run _ _ _).mono (fun _ h c => ⟨(h c).1.trans (Cert.Kernel10Ideal.Value.final m c), (h c).2⟩) (Cert.Kernel10Ideal.Value.run_blocks m ρ),
    (θ_run _ _ _).mono (fun _ h c => ⟨(h c).1.trans (by obtain ⟨h0, h1⟩ := hag c; rw [h0, h1]), (h c).2⟩) (Cert.Reference10Ideal.Value.run (F := Ideal) m' ρ')⟩

/-- The reference of call 11 runs and leaves its arguments unchanged; it declares no counter. -/
theorem frame_ri11 : Cert.quiescent_Reference11Ideal := fun m ρ _ =>
  (θ_run _ _ _).mono (fun _ h => ⟨fun c => (h c).2, funext fun s => nomatch s⟩) (Cert.Reference11Ideal.Value.run (F := Ideal) m ρ)
/-- The down projection: from arguments that agree, the version's call and the reference end at the same array. -/
theorem algebraic11 : Cert.algebraic_Kernel11Ideal_Reference11Ideal := fun m ρ m' ρ' _ hag =>
  ⟨fun c => Cert.Kernel11Ideal.Value.REF (m (c.tc.loc Cert.Kernel11Ideal.main_arg0)) (m (c.tc.loc Cert.Kernel11Ideal.main_arg1)),
    (θ_run _ _ _).mono (fun _ h c => ⟨(h c).1.trans (Cert.Kernel11Ideal.Value.final m c), (h c).2⟩) (Cert.Kernel11Ideal.Value.run_blocks m ρ),
    (θ_run _ _ _).mono (fun _ h c => ⟨(h c).1.trans (by obtain ⟨h0, h1⟩ := hag c; rw [h0, h1]), (h c).2⟩) (Cert.Reference11Ideal.Value.run (F := Ideal) m' ρ')⟩

/-- The reference of call 12 runs and leaves its arguments unchanged; it declares no counter. -/
theorem frame_ri12 : Cert.quiescent_Reference12Ideal := fun m ρ _ =>
  (θ_run _ _ _).mono (fun _ h => ⟨fun c => (h c).2, funext fun s => nomatch s⟩) (Cert.Reference12Ideal.Value.run (F := Ideal) m ρ)
/-- The output projection's weight gradient, the retention's part: from arguments that agree, the version's call and the reference end at the same array. -/
theorem algebraic12 : Cert.algebraic_Kernel12Ideal_Reference12Ideal := fun m ρ m' ρ' _ hag =>
  ⟨fun c => Cert.Kernel12Ideal.Value.REF (m (c.tc.loc Cert.Kernel12Ideal.main_arg0)) (m (c.tc.loc Cert.Kernel12Ideal.main_arg1)) (m (c.tc.loc Cert.Kernel12Ideal.main_arg2)),
    (θ_run _ _ _).mono (fun _ h c => ⟨(h c).1.trans (Cert.Kernel12Ideal.Value.final m c), (h c).2⟩) (Cert.Kernel12Ideal.Value.run_blocks m ρ),
    (θ_run _ _ _).mono (fun _ h c => ⟨(h c).1.trans (by obtain ⟨h0, h1, h2⟩ := hag c; rw [h0, h1, h2]), (h c).2⟩) (Cert.Reference12Ideal.Value.run (F := Ideal) m' ρ')⟩

/-- The reference of call 13 runs and leaves its arguments unchanged; it declares no counter. -/
theorem frame_ri13 : Cert.quiescent_Reference13Ideal := fun m ρ _ =>
  (θ_run _ _ _).mono (fun _ h => ⟨fun c => (h c).2, funext fun s => nomatch s⟩) (Cert.Reference13Ideal.Value.run (F := Ideal) m ρ)
/-- The output projection's weight gradient, the convolution's part: from arguments that agree, the version's call and the reference end at the same array. -/
theorem algebraic13 : Cert.algebraic_Kernel13Ideal_Reference13Ideal := fun m ρ m' ρ' _ hag =>
  ⟨fun c => Cert.Kernel13Ideal.Value.REF (m (c.tc.loc Cert.Kernel13Ideal.main_arg0)) (m (c.tc.loc Cert.Kernel13Ideal.main_arg1)) (m (c.tc.loc Cert.Kernel13Ideal.main_arg2)),
    (θ_run _ _ _).mono (fun _ h c => ⟨(h c).1.trans (Cert.Kernel13Ideal.Value.final m c), (h c).2⟩) (Cert.Kernel13Ideal.Value.run_blocks m ρ),
    (θ_run _ _ _).mono (fun _ h c => ⟨(h c).1.trans (by obtain ⟨h0, h1, h2⟩ := hag c; rw [h0, h1, h2]), (h c).2⟩) (Cert.Reference13Ideal.Value.run (F := Ideal) m' ρ')⟩

/-- The reference of call 14 runs and leaves its arguments unchanged; it declares no counter. -/
theorem frame_ri14 : Cert.quiescent_Reference14Ideal := fun m ρ _ =>
  (θ_run _ _ _).mono (fun _ h => ⟨fun c => (h c).2, funext fun s => nomatch s⟩) (Cert.Reference14Ideal.Value.run (F := Ideal) m ρ)
/-- The output projection's weight gradient, the attention's part: from arguments that agree, the version's call and the reference end at the same array. -/
theorem algebraic14 : Cert.algebraic_Kernel14Ideal_Reference14Ideal := fun m ρ m' ρ' _ hag =>
  ⟨fun c => Cert.Kernel14Ideal.Value.REF (m (c.tc.loc Cert.Kernel14Ideal.main_arg0)) (m (c.tc.loc Cert.Kernel14Ideal.main_arg1)) (m (c.tc.loc Cert.Kernel14Ideal.main_arg2)),
    (θ_run _ _ _).mono (fun _ h c => ⟨(h c).1.trans (Cert.Kernel14Ideal.Value.final m c), (h c).2⟩) (Cert.Kernel14Ideal.Value.run_blocks m ρ),
    (θ_run _ _ _).mono (fun _ h c => ⟨(h c).1.trans (by obtain ⟨h0, h1, h2⟩ := hag c; rw [h0, h1, h2]), (h c).2⟩) (Cert.Reference14Ideal.Value.run (F := Ideal) m' ρ')⟩

/-- The reference of call 15 runs and leaves its arguments unchanged; it declares no counter. -/
theorem frame_ri15 : Cert.quiescent_Reference15Ideal := fun m ρ _ =>
  (θ_run _ _ _).mono (fun _ h => ⟨fun c => (h c).2, funext fun s => nomatch s⟩) (Cert.Reference15Ideal.Value.run (F := Ideal) m ρ)
/-- The cotangent of the pointwise convolution's input: from arguments that agree, the version's call and the reference end at the same array. -/
theorem algebraic15 : Cert.algebraic_Kernel15Ideal_Reference15Ideal := fun m ρ m' ρ' _ hag =>
  ⟨fun c => Cert.Kernel15Ideal.Value.REF (m (c.tc.loc Cert.Kernel15Ideal.main_arg0)) (m (c.tc.loc Cert.Kernel15Ideal.main_arg1)),
    (θ_run _ _ _).mono (fun _ h c => ⟨(h c).1.trans (Cert.Kernel15Ideal.Value.final m c), (h c).2⟩) (Cert.Kernel15Ideal.Value.run_blocks m ρ),
    (θ_run _ _ _).mono (fun _ h c => ⟨(h c).1.trans (by obtain ⟨h0, h1⟩ := hag c; rw [h0, h1]), (h c).2⟩) (Cert.Reference15Ideal.Value.run (F := Ideal) m' ρ')⟩

/-- The reference of call 16 runs and leaves its arguments unchanged; it declares no counter. -/
theorem frame_ri16 : Cert.quiescent_Reference16Ideal := fun m ρ _ =>
  (θ_run _ _ _).mono (fun _ h => ⟨fun c => (h c).2, funext fun s => nomatch s⟩) (Cert.Reference16Ideal.Value.run (F := Ideal) m ρ)
/-- The pointwise convolution's weight gradient: from arguments that agree, the version's call and the reference end at the same array. -/
theorem algebraic16 : Cert.algebraic_Kernel16Ideal_Reference16Ideal := fun m ρ m' ρ' _ hag =>
  ⟨fun c => Cert.Kernel16Ideal.Value.REF (m (c.tc.loc Cert.Kernel16Ideal.main_arg0)) (m (c.tc.loc Cert.Kernel16Ideal.main_arg1)) (m (c.tc.loc Cert.Kernel16Ideal.main_arg2)),
    (θ_run _ _ _).mono (fun _ h c => ⟨(h c).1.trans (Cert.Kernel16Ideal.Value.final m c), (h c).2⟩) (Cert.Kernel16Ideal.Value.run_blocks m ρ),
    (θ_run _ _ _).mono (fun _ h c => ⟨(h c).1.trans (by obtain ⟨h0, h1, h2⟩ := hag c; rw [h0, h1, h2]), (h c).2⟩) (Cert.Reference16Ideal.Value.run (F := Ideal) m' ρ')⟩

/-- The reference of call 17 runs and leaves its arguments unchanged; it declares no counter. -/
theorem frame_ri17 : Cert.quiescent_Reference17Ideal := fun m ρ _ =>
  (θ_run _ _ _).mono (fun _ h => ⟨fun c => (h c).2, funext fun s => nomatch s⟩) (Cert.Reference17Ideal.Value.run (F := Ideal) m ρ)
/-- The output projection: from arguments that agree, the version's call and the reference end at the same array. -/
theorem algebraic17 : Cert.algebraic_Kernel17Ideal_Reference17Ideal := fun m ρ m' ρ' _ hag =>
  ⟨fun c => Cert.Kernel17Ideal.Value.REF (m (c.tc.loc Cert.Kernel17Ideal.main_arg0)) (m (c.tc.loc Cert.Kernel17Ideal.main_arg1)) (m (c.tc.loc Cert.Kernel17Ideal.main_arg2)) (m (c.tc.loc Cert.Kernel17Ideal.main_arg3)),
    (θ_run _ _ _).mono (fun _ h c => ⟨(h c).1.trans (Cert.Kernel17Ideal.Value.final m c), (h c).2⟩) (Cert.Kernel17Ideal.Value.run_blocks m ρ),
    (θ_run _ _ _).mono (fun _ h c => ⟨(h c).1.trans (by obtain ⟨h0, h1, h2, h3⟩ := hag c; rw [h0, h1, h2, h3]), (h c).2⟩) (Cert.Reference17Ideal.Value.run (F := Ideal) m' ρ')⟩

/-- The reference of call 18 runs and leaves its arguments unchanged; it declares no counter. -/
theorem frame_ri18 : Cert.quiescent_Reference18Ideal := fun m ρ _ =>
  (θ_run _ _ _).mono (fun _ h => ⟨fun c => (h c).2, funext fun s => nomatch s⟩) (Cert.Reference18Ideal.Value.run (F := Ideal) m ρ)
/-- The pointwise convolution: from arguments that agree, the version's call and the reference end at the same array. -/
theorem algebraic18 : Cert.algebraic_Kernel18Ideal_Reference18Ideal := fun m ρ m' ρ' _ hag =>
  ⟨fun c => Cert.Kernel18Ideal.Value.REF (m (c.tc.loc Cert.Kernel18Ideal.main_arg0)) (m (c.tc.loc Cert.Kernel18Ideal.main_arg1)),
    (θ_run _ _ _).mono (fun _ h c => ⟨(h c).1.trans (Cert.Kernel18Ideal.Value.final m c), (h c).2⟩) (Cert.Kernel18Ideal.Value.run_blocks m ρ),
    (θ_run _ _ _).mono (fun _ h c => ⟨(h c).1.trans (by obtain ⟨h0, h1⟩ := hag c; rw [h0, h1]), (h c).2⟩) (Cert.Reference18Ideal.Value.run (F := Ideal) m' ρ')⟩

/-- The reference of call 19 runs and leaves its arguments unchanged; it declares no counter. -/
theorem frame_ri19 : Cert.quiescent_Reference19Ideal := fun m ρ _ =>
  (θ_run _ _ _).mono (fun _ h => ⟨fun c => (h c).2, funext fun s => nomatch s⟩) (Cert.Reference19Ideal.Value.run (F := Ideal) m ρ)
/-- The cotangent of the up projection's input, layer 1: from arguments that agree, the version's call and the reference end at the same array. -/
theorem algebraic19 : Cert.algebraic_Kernel19Ideal_Reference19Ideal := fun m ρ m' ρ' _ hag =>
  ⟨fun c => Cert.Kernel19Ideal.Value.REF (m (c.tc.loc Cert.Kernel19Ideal.main_arg0)) (m (c.tc.loc Cert.Kernel19Ideal.main_arg1)),
    (θ_run _ _ _).mono (fun _ h c => ⟨(h c).1.trans (Cert.Kernel19Ideal.Value.final m c), (h c).2⟩) (Cert.Kernel19Ideal.Value.run_blocks m ρ),
    (θ_run _ _ _).mono (fun _ h c => ⟨(h c).1.trans (by obtain ⟨h0, h1⟩ := hag c; rw [h0, h1]), (h c).2⟩) (Cert.Reference19Ideal.Value.run (F := Ideal) m' ρ')⟩

/-- The reference of call 20 runs and leaves its arguments unchanged; it declares no counter. -/
theorem frame_ri20 : Cert.quiescent_Reference20Ideal := fun m ρ _ =>
  (θ_run _ _ _).mono (fun _ h => ⟨fun c => (h c).2, funext fun s => nomatch s⟩) (Cert.Reference20Ideal.Value.run (F := Ideal) m ρ)
/-- The up projection's weight gradient, layer 1: from arguments that agree, the version's call and the reference end at the same array. -/
theorem algebraic20 : Cert.algebraic_Kernel20Ideal_Reference20Ideal := fun m ρ m' ρ' _ hag =>
  ⟨fun c => Cert.Kernel20Ideal.Value.REF (m (c.tc.loc Cert.Kernel20Ideal.main_arg0)) (m (c.tc.loc Cert.Kernel20Ideal.main_arg1)) (m (c.tc.loc Cert.Kernel20Ideal.main_arg2)),
    (θ_run _ _ _).mono (fun _ h c => ⟨(h c).1.trans (Cert.Kernel20Ideal.Value.final m c), (h c).2⟩) (Cert.Kernel20Ideal.Value.run_blocks m ρ),
    (θ_run _ _ _).mono (fun _ h c => ⟨(h c).1.trans (by obtain ⟨h0, h1, h2⟩ := hag c; rw [h0, h1, h2]), (h c).2⟩) (Cert.Reference20Ideal.Value.run (F := Ideal) m' ρ')⟩

/-- The reference of call 21 runs and leaves its arguments unchanged; it declares no counter. -/
theorem frame_ri21 : Cert.quiescent_Reference21Ideal := fun m ρ _ =>
  (θ_run _ _ _).mono (fun _ h => ⟨fun c => (h c).2, funext fun s => nomatch s⟩) (Cert.Reference21Ideal.Value.run (F := Ideal) m ρ)
/-- The cotangent of the down projection's input, layer 1: from arguments that agree, the version's call and the reference end at the same array. -/
theorem algebraic21 : Cert.algebraic_Kernel21Ideal_Reference21Ideal := fun m ρ m' ρ' _ hag =>
  ⟨fun c => Cert.Kernel21Ideal.Value.REF (m (c.tc.loc Cert.Kernel21Ideal.main_arg0)) (m (c.tc.loc Cert.Kernel21Ideal.main_arg1)),
    (θ_run _ _ _).mono (fun _ h c => ⟨(h c).1.trans (Cert.Kernel21Ideal.Value.final m c), (h c).2⟩) (Cert.Kernel21Ideal.Value.run_blocks m ρ),
    (θ_run _ _ _).mono (fun _ h c => ⟨(h c).1.trans (by obtain ⟨h0, h1⟩ := hag c; rw [h0, h1]), (h c).2⟩) (Cert.Reference21Ideal.Value.run (F := Ideal) m' ρ')⟩

/-- The reference of call 22 runs and leaves its arguments unchanged; it declares no counter. -/
theorem frame_ri22 : Cert.quiescent_Reference22Ideal := fun m ρ _ =>
  (θ_run _ _ _).mono (fun _ h => ⟨fun c => (h c).2, funext fun s => nomatch s⟩) (Cert.Reference22Ideal.Value.run (F := Ideal) m ρ)
/-- The down projection's weight gradient, layer 1: from arguments that agree, the version's call and the reference end at the same array. -/
theorem algebraic22 : Cert.algebraic_Kernel22Ideal_Reference22Ideal := fun m ρ m' ρ' _ hag =>
  ⟨fun c => Cert.Kernel22Ideal.Value.REF (m (c.tc.loc Cert.Kernel22Ideal.main_arg0)) (m (c.tc.loc Cert.Kernel22Ideal.main_arg1)) (m (c.tc.loc Cert.Kernel22Ideal.main_arg2)),
    (θ_run _ _ _).mono (fun _ h c => ⟨(h c).1.trans (Cert.Kernel22Ideal.Value.final m c), (h c).2⟩) (Cert.Kernel22Ideal.Value.run_blocks m ρ),
    (θ_run _ _ _).mono (fun _ h c => ⟨(h c).1.trans (by obtain ⟨h0, h1, h2⟩ := hag c; rw [h0, h1, h2]), (h c).2⟩) (Cert.Reference22Ideal.Value.run (F := Ideal) m' ρ')⟩

/-- The reference of call 23 runs and leaves its arguments unchanged; it declares no counter. -/
theorem frame_ri23 : Cert.quiescent_Reference23Ideal := fun m ρ _ =>
  (θ_run _ _ _).mono (fun _ h => ⟨fun c => (h c).2, funext fun s => nomatch s⟩) (Cert.Reference23Ideal.Value.run (F := Ideal) m ρ)
/-- The cotangent of the input projection's input, layer 1: from arguments that agree, the version's call and the reference end at the same array. -/
theorem algebraic23 : Cert.algebraic_Kernel23Ideal_Reference23Ideal := fun m ρ m' ρ' _ hag =>
  ⟨fun c => Cert.Kernel23Ideal.Value.REF (m (c.tc.loc Cert.Kernel23Ideal.main_arg0)) (m (c.tc.loc Cert.Kernel23Ideal.main_arg1)),
    (θ_run _ _ _).mono (fun _ h c => ⟨(h c).1.trans (Cert.Kernel23Ideal.Value.final m c), (h c).2⟩) (Cert.Kernel23Ideal.Value.run_blocks m ρ),
    (θ_run _ _ _).mono (fun _ h c => ⟨(h c).1.trans (by obtain ⟨h0, h1⟩ := hag c; rw [h0, h1]), (h c).2⟩) (Cert.Reference23Ideal.Value.run (F := Ideal) m' ρ')⟩

/-- The reference of call 24 runs and leaves its arguments unchanged; it declares no counter. -/
theorem frame_ri24 : Cert.quiescent_Reference24Ideal := fun m ρ _ =>
  (θ_run _ _ _).mono (fun _ h => ⟨fun c => (h c).2, funext fun s => nomatch s⟩) (Cert.Reference24Ideal.Value.run (F := Ideal) m ρ)
/-- The input projection's weight gradient, layer 1: from arguments that agree, the version's call and the reference end at the same array. -/
theorem algebraic24 : Cert.algebraic_Kernel24Ideal_Reference24Ideal := fun m ρ m' ρ' _ hag =>
  ⟨fun c => Cert.Kernel24Ideal.Value.REF (m (c.tc.loc Cert.Kernel24Ideal.main_arg0)) (m (c.tc.loc Cert.Kernel24Ideal.main_arg1)) (m (c.tc.loc Cert.Kernel24Ideal.main_arg2)),
    (θ_run _ _ _).mono (fun _ h c => ⟨(h c).1.trans (Cert.Kernel24Ideal.Value.final m c), (h c).2⟩) (Cert.Kernel24Ideal.Value.run_blocks m ρ),
    (θ_run _ _ _).mono (fun _ h c => ⟨(h c).1.trans (by obtain ⟨h0, h1, h2⟩ := hag c; rw [h0, h1, h2]), (h c).2⟩) (Cert.Reference24Ideal.Value.run (F := Ideal) m' ρ')⟩

/-- The reference of call 25 runs and leaves its arguments unchanged; it declares no counter. -/
theorem frame_ri25 : Cert.quiescent_Reference25Ideal := fun m ρ _ =>
  (θ_run _ _ _).mono (fun _ h => ⟨fun c => (h c).2, funext fun s => nomatch s⟩) (Cert.Reference25Ideal.Value.run (F := Ideal) m ρ)
/-- The cotangent of the output projection's input, layer 1: from arguments that agree, the version's call and the reference end at the same array. -/
theorem algebraic25 : Cert.algebraic_Kernel25Ideal_Reference25Ideal := fun m ρ m' ρ' _ hag =>
  ⟨fun c => Cert.Kernel25Ideal.Value.REF (m (c.tc.loc Cert.Kernel25Ideal.main_arg0)) (m (c.tc.loc Cert.Kernel25Ideal.main_arg1)),
    (θ_run _ _ _).mono (fun _ h c => ⟨(h c).1.trans (Cert.Kernel25Ideal.Value.final m c), (h c).2⟩) (Cert.Kernel25Ideal.Value.run_blocks m ρ),
    (θ_run _ _ _).mono (fun _ h c => ⟨(h c).1.trans (by obtain ⟨h0, h1⟩ := hag c; rw [h0, h1]), (h c).2⟩) (Cert.Reference25Ideal.Value.run (F := Ideal) m' ρ')⟩

/-- The reference of call 26 runs and leaves its arguments unchanged; it declares no counter. -/
theorem frame_ri26 : Cert.quiescent_Reference26Ideal := fun m ρ _ =>
  (θ_run _ _ _).mono (fun _ h => ⟨fun c => (h c).2, funext fun s => nomatch s⟩) (Cert.Reference26Ideal.Value.run (F := Ideal) m ρ)
/-- The up projection, layer 1: from arguments that agree, the version's call and the reference end at the same array. -/
theorem algebraic26 : Cert.algebraic_Kernel26Ideal_Reference26Ideal := fun m ρ m' ρ' _ hag =>
  ⟨fun c => Cert.Kernel26Ideal.Value.REF (m (c.tc.loc Cert.Kernel26Ideal.main_arg0)) (m (c.tc.loc Cert.Kernel26Ideal.main_arg1)),
    (θ_run _ _ _).mono (fun _ h c => ⟨(h c).1.trans (Cert.Kernel26Ideal.Value.final m c), (h c).2⟩) (Cert.Kernel26Ideal.Value.run_blocks m ρ),
    (θ_run _ _ _).mono (fun _ h c => ⟨(h c).1.trans (by obtain ⟨h0, h1⟩ := hag c; rw [h0, h1]), (h c).2⟩) (Cert.Reference26Ideal.Value.run (F := Ideal) m' ρ')⟩

/-- The reference of call 27 runs and leaves its arguments unchanged; it declares no counter. -/
theorem frame_ri27 : Cert.quiescent_Reference27Ideal := fun m ρ _ =>
  (θ_run _ _ _).mono (fun _ h => ⟨fun c => (h c).2, funext fun s => nomatch s⟩) (Cert.Reference27Ideal.Value.run (F := Ideal) m ρ)
/-- The input projection, layer 1: from arguments that agree, the version's call and the reference end at the same array. -/
theorem algebraic27 : Cert.algebraic_Kernel27Ideal_Reference27Ideal := fun m ρ m' ρ' _ hag =>
  ⟨fun c => Cert.Kernel27Ideal.Value.REF (m (c.tc.loc Cert.Kernel27Ideal.main_arg0)) (m (c.tc.loc Cert.Kernel27Ideal.main_arg1)),
    (θ_run _ _ _).mono (fun _ h c => ⟨(h c).1.trans (Cert.Kernel27Ideal.Value.final m c), (h c).2⟩) (Cert.Kernel27Ideal.Value.run_blocks m ρ),
    (θ_run _ _ _).mono (fun _ h c => ⟨(h c).1.trans (by obtain ⟨h0, h1⟩ := hag c; rw [h0, h1]), (h c).2⟩) (Cert.Reference27Ideal.Value.run (F := Ideal) m' ρ')⟩

/-- The reference of call 28 runs and leaves its arguments unchanged; it declares no counter. -/
theorem frame_ri28 : Cert.quiescent_Reference28Ideal := fun m ρ _ =>
  (θ_run _ _ _).mono (fun _ h => ⟨fun c => (h c).2, funext fun s => nomatch s⟩) (Cert.Reference28Ideal.Value.run (F := Ideal) m ρ)
/-- The down projection, layer 1: from arguments that agree, the version's call and the reference end at the same array. -/
theorem algebraic28 : Cert.algebraic_Kernel28Ideal_Reference28Ideal := fun m ρ m' ρ' _ hag =>
  ⟨fun c => Cert.Kernel28Ideal.Value.REF (m (c.tc.loc Cert.Kernel28Ideal.main_arg0)) (m (c.tc.loc Cert.Kernel28Ideal.main_arg1)),
    (θ_run _ _ _).mono (fun _ h c => ⟨(h c).1.trans (Cert.Kernel28Ideal.Value.final m c), (h c).2⟩) (Cert.Kernel28Ideal.Value.run_blocks m ρ),
    (θ_run _ _ _).mono (fun _ h c => ⟨(h c).1.trans (by obtain ⟨h0, h1⟩ := hag c; rw [h0, h1]), (h c).2⟩) (Cert.Reference28Ideal.Value.run (F := Ideal) m' ρ')⟩

/-- The reference of call 29 runs and leaves its arguments unchanged; it declares no counter. -/
theorem frame_ri29 : Cert.quiescent_Reference29Ideal := fun m ρ _ =>
  (θ_run _ _ _).mono (fun _ h => ⟨fun c => (h c).2, funext fun s => nomatch s⟩) (Cert.Reference29Ideal.Value.run (F := Ideal) m ρ)
/-- The output projection's weight gradient, the retention's part, layer 1: from arguments that agree, the version's call and the reference end at the same array. -/
theorem algebraic29 : Cert.algebraic_Kernel29Ideal_Reference29Ideal := fun m ρ m' ρ' _ hag =>
  ⟨fun c => Cert.Kernel29Ideal.Value.REF (m (c.tc.loc Cert.Kernel29Ideal.main_arg0)) (m (c.tc.loc Cert.Kernel29Ideal.main_arg1)) (m (c.tc.loc Cert.Kernel29Ideal.main_arg2)),
    (θ_run _ _ _).mono (fun _ h c => ⟨(h c).1.trans (Cert.Kernel29Ideal.Value.final m c), (h c).2⟩) (Cert.Kernel29Ideal.Value.run_blocks m ρ),
    (θ_run _ _ _).mono (fun _ h c => ⟨(h c).1.trans (by obtain ⟨h0, h1, h2⟩ := hag c; rw [h0, h1, h2]), (h c).2⟩) (Cert.Reference29Ideal.Value.run (F := Ideal) m' ρ')⟩

/-- The reference of call 30 runs and leaves its arguments unchanged; it declares no counter. -/
theorem frame_ri30 : Cert.quiescent_Reference30Ideal := fun m ρ _ =>
  (θ_run _ _ _).mono (fun _ h => ⟨fun c => (h c).2, funext fun s => nomatch s⟩) (Cert.Reference30Ideal.Value.run (F := Ideal) m ρ)
/-- The output projection's weight gradient, the convolution's part, layer 1: from arguments that agree, the version's call and the reference end at the same array. -/
theorem algebraic30 : Cert.algebraic_Kernel30Ideal_Reference30Ideal := fun m ρ m' ρ' _ hag =>
  ⟨fun c => Cert.Kernel30Ideal.Value.REF (m (c.tc.loc Cert.Kernel30Ideal.main_arg0)) (m (c.tc.loc Cert.Kernel30Ideal.main_arg1)) (m (c.tc.loc Cert.Kernel30Ideal.main_arg2)),
    (θ_run _ _ _).mono (fun _ h c => ⟨(h c).1.trans (Cert.Kernel30Ideal.Value.final m c), (h c).2⟩) (Cert.Kernel30Ideal.Value.run_blocks m ρ),
    (θ_run _ _ _).mono (fun _ h c => ⟨(h c).1.trans (by obtain ⟨h0, h1, h2⟩ := hag c; rw [h0, h1, h2]), (h c).2⟩) (Cert.Reference30Ideal.Value.run (F := Ideal) m' ρ')⟩

/-- The reference of call 31 runs and leaves its arguments unchanged; it declares no counter. -/
theorem frame_ri31 : Cert.quiescent_Reference31Ideal := fun m ρ _ =>
  (θ_run _ _ _).mono (fun _ h => ⟨fun c => (h c).2, funext fun s => nomatch s⟩) (Cert.Reference31Ideal.Value.run (F := Ideal) m ρ)
/-- The output projection's weight gradient, the attention's part, layer 1: from arguments that agree, the version's call and the reference end at the same array. -/
theorem algebraic31 : Cert.algebraic_Kernel31Ideal_Reference31Ideal := fun m ρ m' ρ' _ hag =>
  ⟨fun c => Cert.Kernel31Ideal.Value.REF (m (c.tc.loc Cert.Kernel31Ideal.main_arg0)) (m (c.tc.loc Cert.Kernel31Ideal.main_arg1)) (m (c.tc.loc Cert.Kernel31Ideal.main_arg2)),
    (θ_run _ _ _).mono (fun _ h c => ⟨(h c).1.trans (Cert.Kernel31Ideal.Value.final m c), (h c).2⟩) (Cert.Kernel31Ideal.Value.run_blocks m ρ),
    (θ_run _ _ _).mono (fun _ h c => ⟨(h c).1.trans (by obtain ⟨h0, h1, h2⟩ := hag c; rw [h0, h1, h2]), (h c).2⟩) (Cert.Reference31Ideal.Value.run (F := Ideal) m' ρ')⟩

/-- The reference of call 32 runs and leaves its arguments unchanged; it declares no counter. -/
theorem frame_ri32 : Cert.quiescent_Reference32Ideal := fun m ρ _ =>
  (θ_run _ _ _).mono (fun _ h => ⟨fun c => (h c).2, funext fun s => nomatch s⟩) (Cert.Reference32Ideal.Value.run (F := Ideal) m ρ)
/-- The cotangent of the pointwise convolution's input, layer 1: from arguments that agree, the version's call and the reference end at the same array. -/
theorem algebraic32 : Cert.algebraic_Kernel32Ideal_Reference32Ideal := fun m ρ m' ρ' _ hag =>
  ⟨fun c => Cert.Kernel32Ideal.Value.REF (m (c.tc.loc Cert.Kernel32Ideal.main_arg0)) (m (c.tc.loc Cert.Kernel32Ideal.main_arg1)),
    (θ_run _ _ _).mono (fun _ h c => ⟨(h c).1.trans (Cert.Kernel32Ideal.Value.final m c), (h c).2⟩) (Cert.Kernel32Ideal.Value.run_blocks m ρ),
    (θ_run _ _ _).mono (fun _ h c => ⟨(h c).1.trans (by obtain ⟨h0, h1⟩ := hag c; rw [h0, h1]), (h c).2⟩) (Cert.Reference32Ideal.Value.run (F := Ideal) m' ρ')⟩

/-- The reference of call 33 runs and leaves its arguments unchanged; it declares no counter. -/
theorem frame_ri33 : Cert.quiescent_Reference33Ideal := fun m ρ _ =>
  (θ_run _ _ _).mono (fun _ h => ⟨fun c => (h c).2, funext fun s => nomatch s⟩) (Cert.Reference33Ideal.Value.run (F := Ideal) m ρ)
/-- The pointwise convolution's weight gradient, layer 1: from arguments that agree, the version's call and the reference end at the same array. -/
theorem algebraic33 : Cert.algebraic_Kernel33Ideal_Reference33Ideal := fun m ρ m' ρ' _ hag =>
  ⟨fun c => Cert.Kernel33Ideal.Value.REF (m (c.tc.loc Cert.Kernel33Ideal.main_arg0)) (m (c.tc.loc Cert.Kernel33Ideal.main_arg1)) (m (c.tc.loc Cert.Kernel33Ideal.main_arg2)),
    (θ_run _ _ _).mono (fun _ h c => ⟨(h c).1.trans (Cert.Kernel33Ideal.Value.final m c), (h c).2⟩) (Cert.Kernel33Ideal.Value.run_blocks m ρ),
    (θ_run _ _ _).mono (fun _ h c => ⟨(h c).1.trans (by obtain ⟨h0, h1, h2⟩ := hag c; rw [h0, h1, h2]), (h c).2⟩) (Cert.Reference33Ideal.Value.run (F := Ideal) m' ρ')⟩

/-- The reference of call 34 runs and leaves its arguments unchanged; it declares no counter. -/
theorem frame_ri34 : Cert.quiescent_Reference34Ideal := fun m ρ _ =>
  (θ_run _ _ _).mono (fun _ h => ⟨fun c => (h c).2, funext fun s => nomatch s⟩) (Cert.Reference34Ideal.Value.run (F := Ideal) m ρ)
/-- The output projection, layer 1: from arguments that agree, the version's call and the reference end at the same array. -/
theorem algebraic34 : Cert.algebraic_Kernel34Ideal_Reference34Ideal := fun m ρ m' ρ' _ hag =>
  ⟨fun c => Cert.Kernel34Ideal.Value.REF (m (c.tc.loc Cert.Kernel34Ideal.main_arg0)) (m (c.tc.loc Cert.Kernel34Ideal.main_arg1)) (m (c.tc.loc Cert.Kernel34Ideal.main_arg2)) (m (c.tc.loc Cert.Kernel34Ideal.main_arg3)),
    (θ_run _ _ _).mono (fun _ h c => ⟨(h c).1.trans (Cert.Kernel34Ideal.Value.final m c), (h c).2⟩) (Cert.Kernel34Ideal.Value.run_blocks m ρ),
    (θ_run _ _ _).mono (fun _ h c => ⟨(h c).1.trans (by obtain ⟨h0, h1, h2, h3⟩ := hag c; rw [h0, h1, h2, h3]), (h c).2⟩) (Cert.Reference34Ideal.Value.run (F := Ideal) m' ρ')⟩

/-- The reference of call 35 runs and leaves its arguments unchanged; it declares no counter. -/
theorem frame_ri35 : Cert.quiescent_Reference35Ideal := fun m ρ _ =>
  (θ_run _ _ _).mono (fun _ h => ⟨fun c => (h c).2, funext fun s => nomatch s⟩) (Cert.Reference35Ideal.Value.run (F := Ideal) m ρ)
/-- The pointwise convolution, layer 1: from arguments that agree, the version's call and the reference end at the same array. -/
theorem algebraic35 : Cert.algebraic_Kernel35Ideal_Reference35Ideal := fun m ρ m' ρ' _ hag =>
  ⟨fun c => Cert.Kernel35Ideal.Value.REF (m (c.tc.loc Cert.Kernel35Ideal.main_arg0)) (m (c.tc.loc Cert.Kernel35Ideal.main_arg1)),
    (θ_run _ _ _).mono (fun _ h c => ⟨(h c).1.trans (Cert.Kernel35Ideal.Value.final m c), (h c).2⟩) (Cert.Kernel35Ideal.Value.run_blocks m ρ),
    (θ_run _ _ _).mono (fun _ h c => ⟨(h c).1.trans (by obtain ⟨h0, h1⟩ := hag c; rw [h0, h1]), (h c).2⟩) (Cert.Reference35Ideal.Value.run (F := Ideal) m' ρ')⟩

/-- The reference of call 36 runs and leaves its arguments unchanged; it declares no counter. -/
theorem frame_ri36 : Cert.quiescent_Reference36Ideal := fun m ρ _ =>
  (θ_run _ _ _).mono (fun _ h => ⟨fun c => (h c).2.2.2, funext fun s => nomatch s⟩) (Cert.Reference36Ideal.Value.run (F := Ideal) m ρ)
/-- The optimiser's call on the adaptive weight: from arguments that agree, the version's call and the reference end at the same
    change of the weight and moments. -/
theorem algebraic36 : Cert.algebraic_Kernel36Ideal_Reference36Ideal := fun m ρ m' ρ' _ hag =>
  ⟨fun c => Adam.delta (m (c.tc.loc Cert.Kernel36Ideal.main_arg0)) (m (c.tc.loc Cert.Kernel36Ideal.main_arg1)) (m (c.tc.loc Cert.Kernel36Ideal.main_arg2)) (m (c.tc.loc Cert.Kernel36Ideal.main_arg3)), fun c => Adam.newM (m (c.tc.loc Cert.Kernel36Ideal.main_arg1)) (m (c.tc.loc Cert.Kernel36Ideal.main_arg2)), fun c => Adam.newV (m (c.tc.loc Cert.Kernel36Ideal.main_arg1)) (m (c.tc.loc Cert.Kernel36Ideal.main_arg3)),
    Cert.Kernel36Ideal.Value.run m ρ,
    (θ_run _ _ _).mono (fun _ h c => ⟨(h c).1.trans (by obtain ⟨h0, h1, h2, h3⟩ := hag c; rw [h0, h1, h2, h3]; exact Adam.delta_eq _ _ _ _ _), (h c).2.1.trans (by obtain ⟨-, h1, h2, -⟩ := hag c; rw [h1, h2]; exact Adam.newM_eq _ _ _), (h c).2.2.1.trans (by obtain ⟨-, h1, -, h3⟩ := hag c; rw [h1, h3]; exact Adam.newV_eq _ _ _), (h c).2.2.2⟩) (Cert.Reference36Ideal.Value.run (F := Ideal) m' ρ')⟩

/-- The reference of call 37 runs and leaves its arguments unchanged; it declares no counter. -/
theorem frame_ri37 : Cert.quiescent_Reference37Ideal := fun m ρ _ =>
  (θ_run _ _ _).mono (fun _ h => ⟨fun c => (h c).2.2.2.2, funext fun s => nomatch s⟩) (Cert.Reference37Ideal.Value.run (F := Ideal) m ρ)
/-- The optimiser's call on the input projection's weight: from arguments that agree, the version's call and the reference end at the same
    change of the weight, moments and gradient. -/
theorem algebraic37 : Cert.algebraic_Kernel37Ideal_Reference37Ideal := fun m ρ m' ρ' _ hag =>
  ⟨fun c => Adam.delta (m (c.tc.loc Cert.Kernel37Ideal.main_arg0)) (m (c.tc.loc Cert.Kernel37Ideal.main_arg1)) (m (c.tc.loc Cert.Kernel37Ideal.main_arg2)) (m (c.tc.loc Cert.Kernel37Ideal.main_arg3)), fun c => Adam.newM (m (c.tc.loc Cert.Kernel37Ideal.main_arg1)) (m (c.tc.loc Cert.Kernel37Ideal.main_arg2)), fun c => Adam.newV (m (c.tc.loc Cert.Kernel37Ideal.main_arg1)) (m (c.tc.loc Cert.Kernel37Ideal.main_arg3)), fun c => (m (c.tc.loc Cert.Kernel37Ideal.main_arg1)),
    (θ_run _ _ _).mono (fun _ h c => ⟨(h c).1.trans (Cert.Kernel37Ideal.Value.final4 m c), (h c).2.1.trans (Cert.Kernel37Ideal.Value.final5 m c), (h c).2.2.1.trans (Cert.Kernel37Ideal.Value.final6 m c), (h c).2.2.2.1.trans (Cert.Kernel37Ideal.Value.final7 m c), (h c).2.2.2.2⟩) (Cert.Kernel37Ideal.Value.run_blocks m ρ),
    (θ_run _ _ _).mono (fun _ h c => ⟨(h c).1.trans (by obtain ⟨h0, h1, h2, h3⟩ := hag c; rw [h0, h1, h2, h3]; exact Adam.delta_eq _ _ _ _ _), (h c).2.1.trans (by obtain ⟨-, h1, h2, -⟩ := hag c; rw [h1, h2]; exact Adam.newM_eq _ _ _), (h c).2.2.1.trans (by obtain ⟨-, h1, -, h3⟩ := hag c; rw [h1, h3]; exact Adam.newV_eq _ _ _), (h c).2.2.2.1.trans (hag c).2.1, (h c).2.2.2.2⟩) (Cert.Reference37Ideal.Value.run (F := Ideal) m' ρ')⟩

/-- The reference of call 38 runs and leaves its arguments unchanged; it declares no counter. -/
theorem frame_ri38 : Cert.quiescent_Reference38Ideal := fun m ρ _ =>
  (θ_run _ _ _).mono (fun _ h => ⟨fun c => (h c).2.2.2.2, funext fun s => nomatch s⟩) (Cert.Reference38Ideal.Value.run (F := Ideal) m ρ)
/-- The optimiser's call on the pointwise convolution's weight: from arguments that agree, the version's call and the reference end at the same
    change of the weight, moments and gradient. -/
theorem algebraic38 : Cert.algebraic_Kernel38Ideal_Reference38Ideal := fun m ρ m' ρ' _ hag =>
  ⟨fun c => Adam.delta (m (c.tc.loc Cert.Kernel38Ideal.main_arg0)) (m (c.tc.loc Cert.Kernel38Ideal.main_arg1)) (m (c.tc.loc Cert.Kernel38Ideal.main_arg2)) (m (c.tc.loc Cert.Kernel38Ideal.main_arg3)), fun c => Adam.newM (m (c.tc.loc Cert.Kernel38Ideal.main_arg1)) (m (c.tc.loc Cert.Kernel38Ideal.main_arg2)), fun c => Adam.newV (m (c.tc.loc Cert.Kernel38Ideal.main_arg1)) (m (c.tc.loc Cert.Kernel38Ideal.main_arg3)), fun c => (m (c.tc.loc Cert.Kernel38Ideal.main_arg1)),
    Cert.Kernel38Ideal.Value.run m ρ,
    (θ_run _ _ _).mono (fun _ h c => ⟨(h c).1.trans (by obtain ⟨h0, h1, h2, h3⟩ := hag c; rw [h0, h1, h2, h3]; exact Adam.delta_eq _ _ _ _ _), (h c).2.1.trans (by obtain ⟨-, h1, h2, -⟩ := hag c; rw [h1, h2]; exact Adam.newM_eq _ _ _), (h c).2.2.1.trans (by obtain ⟨-, h1, -, h3⟩ := hag c; rw [h1, h3]; exact Adam.newV_eq _ _ _), (h c).2.2.2.1.trans (hag c).2.1, (h c).2.2.2.2⟩) (Cert.Reference38Ideal.Value.run (F := Ideal) m' ρ')⟩

/-- The reference of call 39 runs and leaves its arguments unchanged; it declares no counter. -/
theorem frame_ri39 : Cert.quiescent_Reference39Ideal := fun m ρ _ =>
  (θ_run _ _ _).mono (fun _ h => ⟨fun c => (h c).2.2.2.2, funext fun s => nomatch s⟩) (Cert.Reference39Ideal.Value.run (F := Ideal) m ρ)
/-- The optimiser's call on the output projection's weight: from arguments that agree, the version's call and the reference end at the same
    change of the weight, moments and gradient. -/
theorem algebraic39 : Cert.algebraic_Kernel39Ideal_Reference39Ideal := fun m ρ m' ρ' _ hag =>
  ⟨fun c => Adam.delta (m (c.tc.loc Cert.Kernel39Ideal.main_arg0)) (m (c.tc.loc Cert.Kernel39Ideal.main_arg1)) (m (c.tc.loc Cert.Kernel39Ideal.main_arg2)) (m (c.tc.loc Cert.Kernel39Ideal.main_arg3)), fun c => Adam.newM (m (c.tc.loc Cert.Kernel39Ideal.main_arg1)) (m (c.tc.loc Cert.Kernel39Ideal.main_arg2)), fun c => Adam.newV (m (c.tc.loc Cert.Kernel39Ideal.main_arg1)) (m (c.tc.loc Cert.Kernel39Ideal.main_arg3)), fun c => (m (c.tc.loc Cert.Kernel39Ideal.main_arg1)),
    (θ_run _ _ _).mono (fun _ h c => ⟨(h c).1.trans (Cert.Kernel39Ideal.Value.final4 m c), (h c).2.1.trans (Cert.Kernel39Ideal.Value.final5 m c), (h c).2.2.1.trans (Cert.Kernel39Ideal.Value.final6 m c), (h c).2.2.2.1.trans (Cert.Kernel39Ideal.Value.final7 m c), (h c).2.2.2.2⟩) (Cert.Kernel39Ideal.Value.run_blocks m ρ),
    (θ_run _ _ _).mono (fun _ h c => ⟨(h c).1.trans (by obtain ⟨h0, h1, h2, h3⟩ := hag c; rw [h0, h1, h2, h3]; exact Adam.delta_eq _ _ _ _ _), (h c).2.1.trans (by obtain ⟨-, h1, h2, -⟩ := hag c; rw [h1, h2]; exact Adam.newM_eq _ _ _), (h c).2.2.1.trans (by obtain ⟨-, h1, -, h3⟩ := hag c; rw [h1, h3]; exact Adam.newV_eq _ _ _), (h c).2.2.2.1.trans (hag c).2.1, (h c).2.2.2.2⟩) (Cert.Reference39Ideal.Value.run (F := Ideal) m' ρ')⟩

/-- The reference of call 40 runs and leaves its arguments unchanged; it declares no counter. -/
theorem frame_ri40 : Cert.quiescent_Reference40Ideal := fun m ρ _ =>
  (θ_run _ _ _).mono (fun _ h => ⟨fun c => (h c).2.2.2.2, funext fun s => nomatch s⟩) (Cert.Reference40Ideal.Value.run (F := Ideal) m ρ)
/-- The optimiser's call on the up projection's weight: from arguments that agree, the version's call and the reference end at the same
    change of the weight, moments and gradient. -/
theorem algebraic40 : Cert.algebraic_Kernel40Ideal_Reference40Ideal := fun m ρ m' ρ' _ hag =>
  ⟨fun c => Adam.delta (m (c.tc.loc Cert.Kernel40Ideal.main_arg0)) (m (c.tc.loc Cert.Kernel40Ideal.main_arg1)) (m (c.tc.loc Cert.Kernel40Ideal.main_arg2)) (m (c.tc.loc Cert.Kernel40Ideal.main_arg3)), fun c => Adam.newM (m (c.tc.loc Cert.Kernel40Ideal.main_arg1)) (m (c.tc.loc Cert.Kernel40Ideal.main_arg2)), fun c => Adam.newV (m (c.tc.loc Cert.Kernel40Ideal.main_arg1)) (m (c.tc.loc Cert.Kernel40Ideal.main_arg3)), fun c => (m (c.tc.loc Cert.Kernel40Ideal.main_arg1)),
    (θ_run _ _ _).mono (fun _ h c => ⟨(h c).1.trans (Cert.Kernel40Ideal.Value.final4 m c), (h c).2.1.trans (Cert.Kernel40Ideal.Value.final5 m c), (h c).2.2.1.trans (Cert.Kernel40Ideal.Value.final6 m c), (h c).2.2.2.1.trans (Cert.Kernel40Ideal.Value.final7 m c), (h c).2.2.2.2⟩) (Cert.Kernel40Ideal.Value.run_blocks m ρ),
    (θ_run _ _ _).mono (fun _ h c => ⟨(h c).1.trans (by obtain ⟨h0, h1, h2, h3⟩ := hag c; rw [h0, h1, h2, h3]; exact Adam.delta_eq _ _ _ _ _), (h c).2.1.trans (by obtain ⟨-, h1, h2, -⟩ := hag c; rw [h1, h2]; exact Adam.newM_eq _ _ _), (h c).2.2.1.trans (by obtain ⟨-, h1, -, h3⟩ := hag c; rw [h1, h3]; exact Adam.newV_eq _ _ _), (h c).2.2.2.1.trans (hag c).2.1, (h c).2.2.2.2⟩) (Cert.Reference40Ideal.Value.run (F := Ideal) m' ρ')⟩

/-- The reference of call 41 runs and leaves its arguments unchanged; it declares no counter. -/
theorem frame_ri41 : Cert.quiescent_Reference41Ideal := fun m ρ _ =>
  (θ_run _ _ _).mono (fun _ h => ⟨fun c => (h c).2.2.2.2, funext fun s => nomatch s⟩) (Cert.Reference41Ideal.Value.run (F := Ideal) m ρ)
/-- The optimiser's call on the down projection's weight: from arguments that agree, the version's call and the reference end at the same
    change of the weight, moments and gradient. -/
theorem algebraic41 : Cert.algebraic_Kernel41Ideal_Reference41Ideal := fun m ρ m' ρ' _ hag =>
  ⟨fun c => Adam.delta (m (c.tc.loc Cert.Kernel41Ideal.main_arg0)) (m (c.tc.loc Cert.Kernel41Ideal.main_arg1)) (m (c.tc.loc Cert.Kernel41Ideal.main_arg2)) (m (c.tc.loc Cert.Kernel41Ideal.main_arg3)), fun c => Adam.newM (m (c.tc.loc Cert.Kernel41Ideal.main_arg1)) (m (c.tc.loc Cert.Kernel41Ideal.main_arg2)), fun c => Adam.newV (m (c.tc.loc Cert.Kernel41Ideal.main_arg1)) (m (c.tc.loc Cert.Kernel41Ideal.main_arg3)), fun c => (m (c.tc.loc Cert.Kernel41Ideal.main_arg1)),
    (θ_run _ _ _).mono (fun _ h c => ⟨(h c).1.trans (Cert.Kernel41Ideal.Value.final4 m c), (h c).2.1.trans (Cert.Kernel41Ideal.Value.final5 m c), (h c).2.2.1.trans (Cert.Kernel41Ideal.Value.final6 m c), (h c).2.2.2.1.trans (Cert.Kernel41Ideal.Value.final7 m c), (h c).2.2.2.2⟩) (Cert.Kernel41Ideal.Value.run_blocks m ρ),
    (θ_run _ _ _).mono (fun _ h c => ⟨(h c).1.trans (by obtain ⟨h0, h1, h2, h3⟩ := hag c; rw [h0, h1, h2, h3]; exact Adam.delta_eq _ _ _ _ _), (h c).2.1.trans (by obtain ⟨-, h1, h2, -⟩ := hag c; rw [h1, h2]; exact Adam.newM_eq _ _ _), (h c).2.2.1.trans (by obtain ⟨-, h1, -, h3⟩ := hag c; rw [h1, h3]; exact Adam.newV_eq _ _ _), (h c).2.2.2.1.trans (hag c).2.1, (h c).2.2.2.2⟩) (Cert.Reference41Ideal.Value.run (F := Ideal) m' ρ')⟩

/-- The reference of call 42 runs and leaves its arguments unchanged; it declares no counter. -/
theorem frame_ri42 : Cert.quiescent_Reference42Ideal := fun m ρ _ =>
  (θ_run _ _ _).mono (fun _ h => ⟨fun c => (h c).2.2.2, funext fun s => nomatch s⟩) (Cert.Reference42Ideal.Value.run (F := Ideal) m ρ)
/-- The optimiser's call on the small weights: from arguments that agree, the version's call and the reference end at the same
    change of the weight and moments. -/
theorem algebraic42 : Cert.algebraic_Kernel42Ideal_Reference42Ideal := fun m ρ m' ρ' _ hag =>
  ⟨fun c => Adam.delta (m (c.tc.loc Cert.Kernel42Ideal.main_arg0)) (m (c.tc.loc Cert.Kernel42Ideal.main_arg1)) (m (c.tc.loc Cert.Kernel42Ideal.main_arg2)) (m (c.tc.loc Cert.Kernel42Ideal.main_arg3)), fun c => Adam.newM (m (c.tc.loc Cert.Kernel42Ideal.main_arg1)) (m (c.tc.loc Cert.Kernel42Ideal.main_arg2)), fun c => Adam.newV (m (c.tc.loc Cert.Kernel42Ideal.main_arg1)) (m (c.tc.loc Cert.Kernel42Ideal.main_arg3)),
    Cert.Kernel42Ideal.Value.run m ρ,
    (θ_run _ _ _).mono (fun _ h c => ⟨(h c).1.trans (by obtain ⟨h0, h1, h2, h3⟩ := hag c; rw [h0, h1, h2, h3]; exact Adam.delta_eq _ _ _ _ _), (h c).2.1.trans (by obtain ⟨-, h1, h2, -⟩ := hag c; rw [h1, h2]; exact Adam.newM_eq _ _ _), (h c).2.2.1.trans (by obtain ⟨-, h1, -, h3⟩ := hag c; rw [h1, h3]; exact Adam.newV_eq _ _ _), (h c).2.2.2⟩) (Cert.Reference42Ideal.Value.run (F := Ideal) m' ρ')⟩

/-- The reference of call 43 runs and leaves its arguments unchanged; it declares no counter. -/
theorem frame_ri43 : Cert.quiescent_Reference43Ideal := fun m ρ _ =>
  (θ_run _ _ _).mono (fun _ h => ⟨fun c => (h c).2.2, funext fun s => nomatch s⟩) (Cert.Reference43Ideal.Value.run (F := Ideal) m ρ)
/-- The gradients of the adaptive layer: from arguments that agree, the version's call and the reference end at the same arrays. -/
theorem algebraic43 : Cert.algebraic_Kernel43Ideal_Reference43Ideal := fun m ρ m' ρ' _ hag =>
  ⟨fun c => Cert.Kernel43Ideal.Value.DW (m (c.tc.loc Cert.Kernel43Ideal.main_arg0)) (m (c.tc.loc Cert.Kernel43Ideal.main_arg2)), fun c => Cert.Kernel43Ideal.Value.DS (m (c.tc.loc Cert.Kernel43Ideal.main_arg1)) (m (c.tc.loc Cert.Kernel43Ideal.main_arg2)),
    (θ_run _ _ _).mono (fun _ h c => ⟨(h c).1.trans (Cert.Kernel43Ideal.Value.final3 m c), (h c).2.1.trans (Cert.Kernel43Ideal.Value.final4 m c), (h c).2.2⟩) (Cert.Kernel43Ideal.Value.run_blocks m ρ),
    (θ_run _ _ _).mono (fun _ h c => ⟨(h c).1.trans (by obtain ⟨h0, h1, h2⟩ := hag c; rw [h0, h2]), (h c).2.1.trans (by obtain ⟨h0, h1, h2⟩ := hag c; rw [h1, h2]), (h c).2.2⟩) (Cert.Kernel43Ideal.Value.ref_run m' ρ')⟩

/-- The reference of call 44 runs and leaves its arguments unchanged; it declares no counter. -/
theorem frame_ri44 : Cert.quiescent_Reference44Ideal := fun m ρ _ =>
  (θ_run _ _ _).mono (fun _ h => ⟨fun c => (h c).2, funext fun s => nomatch s⟩) (Cert.Reference44Ideal.Value.run (F := Ideal) m ρ)
/-- The small gradients' sum over the devices: from arguments that agree, the version's call and the reference end at the same array. -/
theorem algebraic44 : Cert.algebraic_Kernel44Ideal_Reference44Ideal := fun m ρ m' ρ' _ hag =>
  ⟨fun c => Cert.Kernel44Ideal.Value.SPEC (m (c.tc.loc Cert.Kernel44Ideal.main_arg0)),
    (θ_run _ _ _).mono (fun _ h c => ⟨(h c).1.trans (Cert.Kernel44Ideal.Value.final m c), (h c).2⟩) (Cert.Kernel44Ideal.Value.run_blocks m ρ),
    (θ_run _ _ _).mono (fun _ h c => ⟨(h c).1.trans (by have h0 := hag c; rw [h0]), (h c).2⟩) (Cert.Kernel44Ideal.Value.ref_run m' ρ')⟩

/-- The reference of call 45 runs and leaves its arguments unchanged; it declares no counter. -/
theorem frame_ri45 : Cert.quiescent_Reference45Ideal := fun m ρ _ =>
  (θ_run _ _ _).mono (fun _ h => ⟨fun c => (h c).2, funext fun s => nomatch s⟩) (Cert.Reference45Ideal.Value.run (F := Ideal) m ρ)
/-- The adaptive bias's gradient: from arguments that agree, the version's call and the reference end at the same array. -/
theorem algebraic45 : Cert.algebraic_Kernel45Ideal_Reference45Ideal := fun m ρ m' ρ' _ hag =>
  ⟨fun c => Cert.Kernel45Ideal.Value.SPEC (m (c.tc.loc Cert.Kernel45Ideal.main_arg0)),
    (θ_run _ _ _).mono (fun _ h c => ⟨(h c).1.trans (Cert.Kernel45Ideal.Value.final m c), (h c).2⟩) (Cert.Kernel45Ideal.Value.run_blocks m ρ),
    (θ_run _ _ _).mono (fun _ h c => ⟨(h c).1.trans (by have h0 := hag c; rw [h0]), (h c).2⟩) (Cert.Kernel45Ideal.Value.ref_run m' ρ')⟩

/-- The reference of call 46 runs and leaves its arguments unchanged; it declares no counter. -/
theorem frame_ri46 : Cert.quiescent_Reference46Ideal := fun m ρ _ =>
  (θ_run _ _ _).mono (fun _ h => ⟨fun c => (h c).2, funext fun s => nomatch s⟩) (Cert.Reference46Ideal.Value.run (F := Ideal) m ρ)
/-- The gradient of the context's conditioning vector: from arguments that agree, the version's call and the reference end at the same array. -/
theorem algebraic46 : Cert.algebraic_Kernel46Ideal_Reference46Ideal := fun m ρ m' ρ' _ hag =>
  ⟨fun c => Cert.Kernel46Ideal.Value.SPEC (m (c.tc.loc Cert.Kernel46Ideal.main_arg0)) (m (c.tc.loc Cert.Kernel46Ideal.main_arg1)),
    (θ_run _ _ _).mono (fun _ h c => ⟨(h c).1.trans (Cert.Kernel46Ideal.Value.final m c), (h c).2⟩) (Cert.Kernel46Ideal.Value.run_blocks m ρ),
    (θ_run _ _ _).mono (fun _ h c => ⟨(h c).1.trans (by obtain ⟨h0, h1⟩ := hag c; rw [h0, h1]), (h c).2⟩) (Cert.Kernel46Ideal.Value.ref_run m' ρ')⟩

/-- The reference of call 47 runs and leaves its arguments unchanged; it declares no counter. -/
theorem frame_ri47 : Cert.quiescent_Reference47Ideal := fun m ρ _ =>
  (θ_run _ _ _).mono (fun _ h => ⟨fun c => (h c).2, funext fun s => nomatch s⟩) (Cert.Reference47Ideal.Value.run (F := Ideal) m ρ)
/-- The modulated norm of the forward pass: from arguments that agree, the version's call and the reference end at the same array. -/
theorem algebraic47 : Cert.algebraic_Kernel47Ideal_Reference47Ideal := fun m ρ m' ρ' _ hag =>
  ⟨fun c => Cert.Kernel47Ideal.Value.SPEC (m (c.tc.loc Cert.Kernel47Ideal.main_arg0)) (m (c.tc.loc Cert.Kernel47Ideal.main_arg1)) (m (c.tc.loc Cert.Kernel47Ideal.main_arg2)) (m (c.tc.loc Cert.Kernel47Ideal.main_arg3)),
    (θ_run _ _ _).mono (fun _ h c => ⟨(h c).1.trans (Cert.Kernel47Ideal.Value.final m c), (h c).2⟩) (Cert.Kernel47Ideal.Value.run_blocks m ρ),
    (θ_run _ _ _).mono (fun _ h c => ⟨(h c).1.trans (by obtain ⟨h0, h1, h2, h3⟩ := hag c; rw [h0, h1, h2, h3]), (h c).2⟩) (Cert.Kernel47Ideal.Value.ref_run m' ρ')⟩

/-- The reference of call 48 runs and leaves its arguments unchanged; it declares no counter. -/
theorem frame_ri48 : Cert.quiescent_Reference48Ideal := fun m ρ _ =>
  (θ_run _ _ _).mono (fun _ h => ⟨fun c => (h c).2.2, funext fun s => nomatch s⟩) (Cert.Reference48Ideal.Value.run (F := Ideal) m ρ)
/-- The residual sum and the norm of it: from arguments that agree, the version's call and the reference end at the same arrays. -/
theorem algebraic48 : Cert.algebraic_Kernel48Ideal_Reference48Ideal := fun m ρ m' ρ' _ hag =>
  ⟨fun c => Cert.Kernel48Ideal.Value.SUM (m (c.tc.loc Cert.Kernel48Ideal.main_arg0)) (m (c.tc.loc Cert.Kernel48Ideal.main_arg1)) (m (c.tc.loc Cert.Kernel48Ideal.main_arg2)), fun c => Cert.Kernel48Ideal.Value.SPEC (m (c.tc.loc Cert.Kernel48Ideal.main_arg0)) (m (c.tc.loc Cert.Kernel48Ideal.main_arg1)) (m (c.tc.loc Cert.Kernel48Ideal.main_arg2)) (m (c.tc.loc Cert.Kernel48Ideal.main_arg3)) (m (c.tc.loc Cert.Kernel48Ideal.main_arg4)) (m (c.tc.loc Cert.Kernel48Ideal.main_arg5)),
    (θ_run _ _ _).mono (fun _ h c => ⟨(h c).1.trans (Cert.Kernel48Ideal.Value.final6 m c), (h c).2.1.trans (Cert.Kernel48Ideal.Value.final7 m c), (h c).2.2⟩) (Cert.Kernel48Ideal.Value.run_blocks m ρ),
    (θ_run _ _ _).mono (fun _ h c => ⟨(h c).1.trans (by obtain ⟨h0, h1, h2, h3, h4, h5⟩ := hag c; rw [h0, h1, h2]), (h c).2.1.trans (by obtain ⟨h0, h1, h2, h3, h4, h5⟩ := hag c; rw [h0, h1, h2, h3, h4, h5]), (h c).2.2⟩) (Cert.Kernel48Ideal.Value.ref_run m' ρ')⟩

/-- The reference of call 49 runs and leaves its arguments unchanged; it declares no counter. -/
theorem frame_ri49 : Cert.quiescent_Reference49Ideal := fun m ρ _ =>
  (θ_run _ _ _).mono (fun _ h => ⟨fun c => (h c).2, funext fun s => nomatch s⟩) (Cert.Reference49Ideal.Value.run (F := Ideal) m ρ)
/-- The adaptive rows of the forward pass: from arguments that agree, the version's call and the reference end at the same array. -/
theorem algebraic49 : Cert.algebraic_Kernel49Ideal_Reference49Ideal := fun m ρ m' ρ' _ hag =>
  ⟨fun c => Cert.Kernel49Ideal.Value.SPEC (m (c.tc.loc Cert.Kernel49Ideal.main_arg0)) (m (c.tc.loc Cert.Kernel49Ideal.main_arg1)) (m (c.tc.loc Cert.Kernel49Ideal.main_arg2)),
    (θ_run _ _ _).mono (fun _ h c => ⟨(h c).1.trans (Cert.Kernel49Ideal.Value.final m c), (h c).2⟩) (Cert.Kernel49Ideal.Value.run_blocks m ρ),
    (θ_run _ _ _).mono (fun _ h c => ⟨(h c).1.trans (by obtain ⟨h0, h1, h2⟩ := hag c; rw [h0, h1, h2]), (h c).2⟩) (Cert.Kernel49Ideal.Value.ref_run m' ρ')⟩

/-- The reference of call 50 runs and leaves its arguments unchanged; it declares no counter. -/
theorem frame_ri50 : Cert.quiescent_Reference50Ideal := fun m ρ _ =>
  (θ_run _ _ _).mono (fun _ h => ⟨fun c => (h c).2, funext fun s => nomatch s⟩) (Cert.Reference50Ideal.Value.run (F := Ideal) m ρ)
/-- The layer norm and gate of the forward pass: from arguments that agree, the version's call and the reference end at the same array. -/
theorem algebraic50 : Cert.algebraic_Kernel50Ideal_Reference50Ideal := fun m ρ m' ρ' _ hag =>
  ⟨fun c => Cert.Kernel50Ideal.Value.SPEC (m (c.tc.loc Cert.Kernel50Ideal.main_arg0)) (m (c.tc.loc Cert.Kernel50Ideal.main_arg1)) (m (c.tc.loc Cert.Kernel50Ideal.main_arg2)),
    (θ_run _ _ _).mono (fun _ h c => ⟨(h c).1.trans (Cert.Kernel50Ideal.Value.final m c), (h c).2⟩) (Cert.Kernel50Ideal.Value.run_blocks m ρ),
    (θ_run _ _ _).mono (fun _ h c => ⟨(h c).1.trans (by obtain ⟨h0, h1, h2⟩ := hag c; rw [h0, h1, h2]), (h c).2⟩) (Cert.Kernel50Ideal.Value.ref_run m' ρ')⟩

/-- The reference of call 51 runs and leaves its arguments unchanged; it declares no counter. -/
theorem frame_ri51 : Cert.quiescent_Reference51Ideal := fun m ρ _ =>
  (θ_run _ _ _).mono (fun _ h => ⟨fun c => (h c).2, funext fun s => nomatch s⟩) (Cert.Reference51Ideal.Value.run (F := Ideal) m ρ)
/-- The grouped norm and gate of the forward pass: from arguments that agree, the version's call and the reference end at the same array. -/
theorem algebraic51 : Cert.algebraic_Kernel51Ideal_Reference51Ideal := fun m ρ m' ρ' _ hag =>
  ⟨fun c => Cert.Kernel51Ideal.Value.SPEC (m (c.tc.loc Cert.Kernel51Ideal.main_arg0)) (m (c.tc.loc Cert.Kernel51Ideal.main_arg1)) (m (c.tc.loc Cert.Kernel51Ideal.main_arg2)) (m (c.tc.loc Cert.Kernel51Ideal.main_arg3)),
    (θ_run _ _ _).mono (fun _ h c => ⟨(h c).1.trans (Cert.Kernel51Ideal.Value.final m c), (h c).2⟩) (Cert.Kernel51Ideal.Value.run_blocks m ρ),
    (θ_run _ _ _).mono (fun _ h c => ⟨(h c).1.trans (by obtain ⟨h0, h1, h2, h3⟩ := hag c; rw [h0, h1, h2, h3]), (h c).2⟩) (Cert.Kernel51Ideal.Value.ref_run m' ρ')⟩

/-- The reference of call 52 runs and leaves its arguments unchanged; it declares no counter. -/
theorem frame_ri52 : Cert.quiescent_Reference52Ideal := fun m ρ _ =>
  (θ_run _ _ _).mono (fun _ h => ⟨fun c => (h c).2, funext fun s => nomatch s⟩) (Cert.Reference52Ideal.Value.run (F := Ideal) m ρ)
/-- The two directions' gradients added: from arguments that agree, the version's call and the reference end at the same array. -/
theorem algebraic52 : Cert.algebraic_Kernel52Ideal_Reference52Ideal := fun m ρ m' ρ' _ hag =>
  ⟨fun c => Cert.Kernel52Ideal.Value.G2 (m (c.tc.loc Cert.Kernel52Ideal.main_arg0)) (m (c.tc.loc Cert.Kernel52Ideal.main_arg1)),
    Cert.Kernel52Ideal.Value.run m ρ,
    (θ_run _ _ _).mono (fun _ h c => ⟨(h c).1.trans (by obtain ⟨h0, h1⟩ := hag c; rw [h0, h1]; rfl), (h c).2⟩) (Cert.Reference52Ideal.Value.run (F := Ideal) m' ρ')⟩

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel22.Gen.facts, Cert.Kernel22Ideal.Gen.facts, Cert.Reference22Ideal.Gen.facts, Cert.Kernel23.Gen.facts, Cert.Kernel23Ideal.Gen.facts, Cert.Reference23Ideal.Gen.facts, Cert.Kernel24.Gen.facts, Cert.Kernel24Ideal.Gen.facts, Cert.Reference24Ideal.Gen.facts, Cert.Kernel25.Gen.facts, Cert.Kernel25Ideal.Gen.facts, Cert.Reference25Ideal.Gen.facts, Cert.Kernel26.Gen.facts, Cert.Kernel26Ideal.Gen.facts, Cert.Reference26Ideal.Gen.facts, Cert.Kernel27.Gen.facts, Cert.Kernel27Ideal.Gen.facts, Cert.Reference27Ideal.Gen.facts, Cert.Kernel28.Gen.facts, Cert.Kernel28Ideal.Gen.facts, Cert.Reference28Ideal.Gen.facts, Cert.Kernel29.Gen.facts, Cert.Kernel29Ideal.Gen.facts, Cert.Reference29Ideal.Gen.facts, Cert.Kernel30.Gen.facts, Cert.Kernel30Ideal.Gen.facts, Cert.Reference30Ideal.Gen.facts, Cert.Kernel31.Gen.facts, Cert.Kernel31Ideal.Gen.facts, Cert.Reference31Ideal.Gen.facts, Cert.Kernel32.Gen.facts, Cert.Kernel32Ideal.Gen.facts, Cert.Reference32Ideal.Gen.facts, Cert.Kernel33.Gen.facts, Cert.Kernel33Ideal.Gen.facts, Cert.Reference33Ideal.Gen.facts, Cert.Kernel34.Gen.facts, Cert.Kernel34Ideal.Gen.facts, Cert.Reference34Ideal.Gen.facts, Cert.Kernel35.Gen.facts, Cert.Kernel35Ideal.Gen.facts, Cert.Reference35Ideal.Gen.facts, Cert.Kernel36.Gen.facts, Cert.Kernel36Ideal.Gen.facts, Cert.Reference36Ideal.Gen.facts, Cert.Kernel37.Gen.facts, Cert.Kernel37Ideal.Gen.facts, Cert.Reference37Ideal.Gen.facts, Cert.Kernel38.Gen.facts, Cert.Kernel38Ideal.Gen.facts, Cert.Reference38Ideal.Gen.facts, Cert.Kernel39.Gen.facts, Cert.Kernel39Ideal.Gen.facts, Cert.Reference39Ideal.Gen.facts, Cert.Kernel40.Gen.facts, Cert.Kernel40Ideal.Gen.facts, Cert.Reference40Ideal.Gen.facts, Cert.Kernel41.Gen.facts, Cert.Kernel41Ideal.Gen.facts, Cert.Reference41Ideal.Gen.facts, Cert.Kernel42.Gen.facts, Cert.Kernel42Ideal.Gen.facts, Cert.Reference42Ideal.Gen.facts, Cert.Kernel43.Gen.facts, Cert.Kernel43Ideal.Gen.facts, Cert.Reference43Ideal.Gen.facts, Cert.Kernel44.Gen.facts, Cert.Kernel44Ideal.Gen.facts, Cert.Reference44Ideal.Gen.facts, Cert.Kernel45.Gen.facts, Cert.Kernel45Ideal.Gen.facts, Cert.Reference45Ideal.Gen.facts, Cert.Kernel46.Gen.facts, Cert.Kernel46Ideal.Gen.facts, Cert.Reference46Ideal.Gen.facts, Cert.Kernel47.Gen.facts, Cert.Kernel47Ideal.Gen.facts, Cert.Reference47Ideal.Gen.facts, Cert.Kernel48.Gen.facts, Cert.Kernel48Ideal.Gen.facts, Cert.Reference48Ideal.Gen.facts, Cert.Kernel49.Gen.facts, Cert.Kernel49Ideal.Gen.facts, Cert.Reference49Ideal.Gen.facts, Cert.Kernel50.Gen.facts, Cert.Kernel50Ideal.Gen.facts, Cert.Reference50Ideal.Gen.facts, Cert.Kernel51.Gen.facts, Cert.Kernel51Ideal.Gen.facts, Cert.Reference51Ideal.Gen.facts, Cert.Kernel52.Gen.facts, Cert.Kernel52Ideal.Gen.facts, Cert.Reference52Ideal.Gen.facts,
  frame_p, frame_pi, frame_ri,
  fun m ρ _ => Cert.Kernel2.Gen.frame m ρ, fun m ρ _ => Cert.Kernel2Ideal.Gen.frame m ρ, frame_ri2,
  fun m ρ _ => Cert.Kernel3.Gen.frame m ρ, fun m ρ _ => Cert.Kernel3Ideal.Gen.frame m ρ, frame_ri3,
  fun m ρ _ => Cert.Kernel4.Gen.frame m ρ, fun m ρ _ => Cert.Kernel4Ideal.Gen.frame m ρ, frame_ri4,
  fun m ρ _ => Cert.Kernel5.Gen.frame m ρ, fun m ρ _ => Cert.Kernel5Ideal.Gen.frame m ρ, frame_ri5,
  fun m ρ _ => Cert.Kernel6.Gen.frame m ρ, fun m ρ _ => Cert.Kernel6Ideal.Gen.frame m ρ, frame_ri6,
  fun m ρ _ => Cert.Kernel7.Gen.frame m ρ, fun m ρ _ => Cert.Kernel7Ideal.Gen.frame m ρ, frame_ri7,
  fun m ρ _ => Cert.Kernel8.Gen.frame m ρ, fun m ρ _ => Cert.Kernel8Ideal.Gen.frame m ρ, frame_ri8,
  fun m ρ _ => Cert.Kernel9.Gen.frame m ρ, fun m ρ _ => Cert.Kernel9Ideal.Gen.frame m ρ, frame_ri9,
  fun m ρ _ => Cert.Kernel10.Gen.frame m ρ, fun m ρ _ => Cert.Kernel10Ideal.Gen.frame m ρ, frame_ri10,
  fun m ρ _ => Cert.Kernel11.Gen.frame m ρ, fun m ρ _ => Cert.Kernel11Ideal.Gen.frame m ρ, frame_ri11,
  fun m ρ _ => Cert.Kernel12.Gen.frame m ρ, fun m ρ _ => Cert.Kernel12Ideal.Gen.frame m ρ, frame_ri12,
  fun m ρ _ => Cert.Kernel13.Gen.frame m ρ, fun m ρ _ => Cert.Kernel13Ideal.Gen.frame m ρ, frame_ri13,
  fun m ρ _ => Cert.Kernel14.Gen.frame m ρ, fun m ρ _ => Cert.Kernel14Ideal.Gen.frame m ρ, frame_ri14,
  fun m ρ _ => Cert.Kernel15.Gen.frame m ρ, fun m ρ _ => Cert.Kernel15Ideal.Gen.frame m ρ, frame_ri15,
  fun m ρ _ => Cert.Kernel16.Gen.frame m ρ, fun m ρ _ => Cert.Kernel16Ideal.Gen.frame m ρ, frame_ri16,
  fun m ρ _ => Cert.Kernel17.Gen.frame m ρ, fun m ρ _ => Cert.Kernel17Ideal.Gen.frame m ρ, frame_ri17,
  fun m ρ _ => Cert.Kernel18.Gen.frame m ρ, fun m ρ _ => Cert.Kernel18Ideal.Gen.frame m ρ, frame_ri18,
  fun m ρ _ => Cert.Kernel19.Gen.frame m ρ, fun m ρ _ => Cert.Kernel19Ideal.Gen.frame m ρ, frame_ri19,
  fun m ρ _ => Cert.Kernel20.Gen.frame m ρ, fun m ρ _ => Cert.Kernel20Ideal.Gen.frame m ρ, frame_ri20,
  fun m ρ _ => Cert.Kernel21.Gen.frame m ρ, fun m ρ _ => Cert.Kernel21Ideal.Gen.frame m ρ, frame_ri21,
  fun m ρ _ => Cert.Kernel22.Gen.frame m ρ, fun m ρ _ => Cert.Kernel22Ideal.Gen.frame m ρ, frame_ri22,
  fun m ρ _ => Cert.Kernel23.Gen.frame m ρ, fun m ρ _ => Cert.Kernel23Ideal.Gen.frame m ρ, frame_ri23,
  fun m ρ _ => Cert.Kernel24.Gen.frame m ρ, fun m ρ _ => Cert.Kernel24Ideal.Gen.frame m ρ, frame_ri24,
  fun m ρ _ => Cert.Kernel25.Gen.frame m ρ, fun m ρ _ => Cert.Kernel25Ideal.Gen.frame m ρ, frame_ri25,
  fun m ρ _ => Cert.Kernel26.Gen.frame m ρ, fun m ρ _ => Cert.Kernel26Ideal.Gen.frame m ρ, frame_ri26,
  fun m ρ _ => Cert.Kernel27.Gen.frame m ρ, fun m ρ _ => Cert.Kernel27Ideal.Gen.frame m ρ, frame_ri27,
  fun m ρ _ => Cert.Kernel28.Gen.frame m ρ, fun m ρ _ => Cert.Kernel28Ideal.Gen.frame m ρ, frame_ri28,
  fun m ρ _ => Cert.Kernel29.Gen.frame m ρ, fun m ρ _ => Cert.Kernel29Ideal.Gen.frame m ρ, frame_ri29,
  fun m ρ _ => Cert.Kernel30.Gen.frame m ρ, fun m ρ _ => Cert.Kernel30Ideal.Gen.frame m ρ, frame_ri30,
  fun m ρ _ => Cert.Kernel31.Gen.frame m ρ, fun m ρ _ => Cert.Kernel31Ideal.Gen.frame m ρ, frame_ri31,
  fun m ρ _ => Cert.Kernel32.Gen.frame m ρ, fun m ρ _ => Cert.Kernel32Ideal.Gen.frame m ρ, frame_ri32,
  fun m ρ _ => Cert.Kernel33.Gen.frame m ρ, fun m ρ _ => Cert.Kernel33Ideal.Gen.frame m ρ, frame_ri33,
  fun m ρ _ => Cert.Kernel34.Gen.frame m ρ, fun m ρ _ => Cert.Kernel34Ideal.Gen.frame m ρ, frame_ri34,
  fun m ρ _ => Cert.Kernel35.Gen.frame m ρ, fun m ρ _ => Cert.Kernel35Ideal.Gen.frame m ρ, frame_ri35,
  fun m ρ _ => Cert.Kernel36.Gen.frame m ρ, fun m ρ _ => Cert.Kernel36Ideal.Gen.frame m ρ, frame_ri36,
  fun m ρ _ => Cert.Kernel37.Gen.frame m ρ, fun m ρ _ => Cert.Kernel37Ideal.Gen.frame m ρ, frame_ri37,
  fun m ρ _ => Cert.Kernel38.Gen.frame m ρ, fun m ρ _ => Cert.Kernel38Ideal.Gen.frame m ρ, frame_ri38,
  fun m ρ _ => Cert.Kernel39.Gen.frame m ρ, fun m ρ _ => Cert.Kernel39Ideal.Gen.frame m ρ, frame_ri39,
  fun m ρ _ => Cert.Kernel40.Gen.frame m ρ, fun m ρ _ => Cert.Kernel40Ideal.Gen.frame m ρ, frame_ri40,
  fun m ρ _ => Cert.Kernel41.Gen.frame m ρ, fun m ρ _ => Cert.Kernel41Ideal.Gen.frame m ρ, frame_ri41,
  fun m ρ _ => Cert.Kernel42.Gen.frame m ρ, fun m ρ _ => Cert.Kernel42Ideal.Gen.frame m ρ, frame_ri42,
  fun m ρ _ => Cert.Kernel43.Gen.frame m ρ, fun m ρ _ => Cert.Kernel43Ideal.Gen.frame m ρ, frame_ri43,
  fun m ρ _ => Cert.Kernel44.Gen.frame m ρ, fun m ρ _ => Cert.Kernel44Ideal.Gen.frame m ρ, frame_ri44,
  fun m ρ _ => Cert.Kernel45.Gen.frame m ρ, fun m ρ _ => Cert.Kernel45Ideal.Gen.frame m ρ, frame_ri45,
  fun m ρ _ => Cert.Kernel46.Gen.frame m ρ, fun m ρ _ => Cert.Kernel46Ideal.Gen.frame m ρ, frame_ri46,
  fun m ρ _ => Cert.Kernel47.Gen.frame m ρ, fun m ρ _ => Cert.Kernel47Ideal.Gen.frame m ρ, frame_ri47,
  fun m ρ _ => Cert.Kernel48.Gen.frame m ρ, fun m ρ _ => Cert.Kernel48Ideal.Gen.frame m ρ, frame_ri48,
  fun m ρ _ => Cert.Kernel49.Gen.frame m ρ, fun m ρ _ => Cert.Kernel49Ideal.Gen.frame m ρ, frame_ri49,
  fun m ρ _ => Cert.Kernel50.Gen.frame m ρ, fun m ρ _ => Cert.Kernel50Ideal.Gen.frame m ρ, frame_ri50,
  fun m ρ _ => Cert.Kernel51.Gen.frame m ρ, fun m ρ _ => Cert.Kernel51Ideal.Gen.frame m ρ, frame_ri51,
  fun m ρ _ => Cert.Kernel52.Gen.frame m ρ, fun m ρ _ => Cert.Kernel52Ideal.Gen.frame m ρ, frame_ri52,
  trivial, algebraic, trivial, algebraic2, trivial, algebraic3, trivial, algebraic4, trivial, algebraic5, trivial, algebraic6, trivial, algebraic7, trivial, algebraic8, trivial, algebraic9, trivial, algebraic10, trivial, algebraic11, trivial, algebraic12, trivial, algebraic13, trivial, algebraic14, trivial, algebraic15, trivial, algebraic16, trivial, algebraic17, trivial, algebraic18, trivial, algebraic19, trivial, algebraic20, trivial, algebraic21, trivial, algebraic22, trivial, algebraic23, trivial, algebraic24, trivial, algebraic25, trivial, algebraic26, trivial, algebraic27, trivial, algebraic28, trivial, algebraic29, trivial, algebraic30, trivial, algebraic31, trivial, algebraic32, trivial, algebraic33, trivial, algebraic34, trivial, algebraic35, trivial, algebraic36, trivial, algebraic37, trivial, algebraic38, trivial, algebraic39, trivial, algebraic40, trivial, algebraic41, trivial, algebraic42, trivial, algebraic43, trivial, algebraic44, trivial, algebraic45, trivial, algebraic46, trivial, algebraic47, trivial, algebraic48, trivial, algebraic49, trivial, algebraic50, trivial, algebraic51, trivial, algebraic52⟩

end Cert.Proof

end
